-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10)
      ∧ r.2.mem ((c.tc : Thread Cert.Kernel9.nD Cert.Kernel9.τ).loc Cert.Kernel9.main_arg11) = m ((c.tc : Thread Cert.Kernel9.nD Cert.Kernel9.τ).loc Cert.Kernel9.main_arg11)
      ∧ r.2.mem ((c.tc : Thread Cert.Kernel9.nD Cert.Kernel9.τ).loc Cert.Kernel9.main_arg12) = m ((c.tc : Thread Cert.Kernel9.nD Cert.Kernel9.τ).loc Cert.Kernel9.main_arg12)
      ∧ r.2.mem ((c.tc : Thread Cert.Kernel9.nD Cert.Kernel9.τ).loc Cert.Kernel9.main_arg13) = m ((c.tc : Thread Cert.Kernel9.nD Cert.Kernel9.τ).loc Cert.Kernel9.main_arg13)
      ∧ r.2.mem ((c.tc : Thread Cert.Kernel9.nD Cert.Kernel9.τ).loc Cert.Kernel9.main_arg14) = m ((c.tc : Thread Cert.Kernel9.nD Cert.Kernel9.τ).loc Cert.Kernel9.main_arg14)
      ∧ r.2.mem ((c.tc : Thread Cert.Kernel9.nD Cert.Kernel9.τ).loc Cert.Kernel9.main_arg15) = m ((c.tc : Thread Cert.Kernel9.nD Cert.Kernel9.τ).loc Cert.Kernel9.main_arg15))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
      ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12)
      ∧ r.2.mem ((c.tc : Thread Cert.Kernel9Ideal.nD Cert.Kernel9Ideal.τ).loc Cert.Kernel9Ideal.main_arg13) = m ((c.tc : Thread Cert.Kernel9Ideal.nD Cert.Kernel9Ideal.τ).loc Cert.Kernel9Ideal.main_arg13)
      ∧ r.2.mem ((c.tc : Thread Cert.Kernel9Ideal.nD Cert.Kernel9Ideal.τ).loc Cert.Kernel9Ideal.main_arg14) = m ((c.tc : Thread Cert.Kernel9Ideal.nD Cert.Kernel9Ideal.τ).loc Cert.Kernel9Ideal.main_arg14)
      ∧ r.2.mem ((c.tc : Thread Cert.Kernel9Ideal.nD Cert.Kernel9Ideal.τ).loc Cert.Kernel9Ideal.main_arg15) = m ((c.tc : Thread Cert.Kernel9Ideal.nD Cert.Kernel9Ideal.τ).loc Cert.Kernel9Ideal.main_arg15))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11)
      ∧ r.2.mem ((c.tc : Thread Cert.Reference9Ideal.nD Cert.Reference9Ideal.τ).loc Cert.Reference9Ideal.main_arg12) = m ((c.tc : Thread Cert.Reference9Ideal.nD Cert.Reference9Ideal.τ).loc Cert.Reference9Ideal.main_arg12)
      ∧ r.2.mem ((c.tc : Thread Cert.Reference9Ideal.nD Cert.Reference9Ideal.τ).loc Cert.Reference9Ideal.main_arg13) = m ((c.tc : Thread Cert.Reference9Ideal.nD Cert.Reference9Ideal.τ).loc Cert.Reference9Ideal.main_arg13)
      ∧ r.2.mem ((c.tc : Thread Cert.Reference9Ideal.nD Cert.Reference9Ideal.τ).loc Cert.Reference9Ideal.main_arg14) = m ((c.tc : Thread Cert.Reference9Ideal.nD Cert.Reference9Ideal.τ).loc Cert.Reference9Ideal.main_arg14)
      ∧ r.2.mem ((c.tc : Thread Cert.Reference9Ideal.nD Cert.Reference9Ideal.τ).loc Cert.Reference9Ideal.main_arg15) = m ((c.tc : Thread Cert.Reference9Ideal.nD Cert.Reference9Ideal.τ).loc Cert.Reference9Ideal.main_arg15))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9)
      ∧ r.2.mem ((c.tc : Thread Cert.Kernel11.nD Cert.Kernel11.τ).loc Cert.Kernel11.main_arg10) = m ((c.tc : Thread Cert.Kernel11.nD Cert.Kernel11.τ).loc Cert.Kernel11.main_arg10)
      ∧ r.2.mem ((c.tc : Thread Cert.Kernel11.nD Cert.Kernel11.τ).loc Cert.Kernel11.main_arg11) = m ((c.tc : Thread Cert.Kernel11.nD Cert.Kernel11.τ).loc Cert.Kernel11.main_arg11)
      ∧ r.2.mem ((c.tc : Thread Cert.Kernel11.nD Cert.Kernel11.τ).loc Cert.Kernel11.main_arg12) = m ((c.tc : Thread Cert.Kernel11.nD Cert.Kernel11.τ).loc Cert.Kernel11.main_arg12)
      ∧ r.2.mem ((c.tc : Thread Cert.Kernel11.nD Cert.Kernel11.τ).loc Cert.Kernel11.main_arg13) = m ((c.tc : Thread Cert.Kernel11.nD Cert.Kernel11.τ).loc Cert.Kernel11.main_arg13)
      ∧ r.2.mem ((c.tc : Thread Cert.Kernel11.nD Cert.Kernel11.τ).loc Cert.Kernel11.main_arg14) = m ((c.tc : Thread Cert.Kernel11.nD Cert.Kernel11.τ).loc Cert.Kernel11.main_arg14)
      ∧ r.2.mem ((c.tc : Thread Cert.Kernel11.nD Cert.Kernel11.τ).loc Cert.Kernel11.main_arg15) = m ((c.tc : Thread Cert.Kernel11.nD Cert.Kernel11.τ).loc Cert.Kernel11.main_arg15)
      ∧ r.2.mem ((c.tc : Thread Cert.Kernel11.nD Cert.Kernel11.τ).loc Cert.Kernel11.main_arg16) = m ((c.tc : Thread Cert.Kernel11.nD Cert.Kernel11.τ).loc Cert.Kernel11.main_arg16)
      ∧ r.2.mem ((c.tc : Thread Cert.Kernel11.nD Cert.Kernel11.τ).loc Cert.Kernel11.main_arg17) = m ((c.tc : Thread Cert.Kernel11.nD Cert.Kernel11.τ).loc Cert.Kernel11.main_arg17)
      ∧ r.2.mem ((c.tc : Thread Cert.Kernel11.nD Cert.Kernel11.τ).loc Cert.Kernel11.main_arg18) = m ((c.tc : Thread Cert.Kernel11.nD Cert.Kernel11.τ).loc Cert.Kernel11.main_arg18)
      ∧ r.2.mem ((c.tc : Thread Cert.Kernel11.nD Cert.Kernel11.τ).loc Cert.Kernel11.main_arg19) = m ((c.tc : Thread Cert.Kernel11.nD Cert.Kernel11.τ).loc Cert.Kernel11.main_arg19)
      ∧ r.2.mem ((c.tc : Thread Cert.Kernel11.nD Cert.Kernel11.τ).loc Cert.Kernel11.main_arg20) = m ((c.tc : Thread Cert.Kernel11.nD Cert.Kernel11.τ).loc Cert.Kernel11.main_arg20)
      ∧ r.2.mem ((c.tc : Thread Cert.Kernel11.nD Cert.Kernel11.τ).loc Cert.Kernel11.main_arg21) = m ((c.tc : Thread Cert.Kernel11.nD Cert.Kernel11.τ).loc Cert.Kernel11.main_arg21)
      ∧ r.2.mem ((c.tc : Thread Cert.Kernel11.nD Cert.Kernel11.τ).loc Cert.Kernel11.main_arg22) = m ((c.tc : Thread Cert.Kernel11.nD Cert.Kernel11.τ).loc Cert.Kernel11.main_arg22)
      ∧ r.2.mem ((c.tc : Thread Cert.Kernel11.nD Cert.Kernel11.τ).loc Cert.Kernel11.main_arg23) = m ((c.tc : Thread Cert.Kernel11.nD Cert.Kernel11.τ).loc Cert.Kernel11.main_arg23)
      ∧ r.2.mem ((c.tc : Thread Cert.Kernel11.nD Cert.Kernel11.τ).loc Cert.Kernel11.main_arg24) = m ((c.tc : Thread Cert.Kernel11.nD Cert.Kernel11.τ).loc Cert.Kernel11.main_arg24)
      ∧ r.2.mem ((c.tc : Thread Cert.Kernel11.nD Cert.Kernel11.τ).loc Cert.Kernel11.main_arg25) = m ((c.tc : Thread Cert.Kernel11.nD Cert.Kernel11.τ).loc Cert.Kernel11.main_arg25)
      ∧ r.2.mem ((c.tc : Thread Cert.Kernel11.nD Cert.Kernel11.τ).loc Cert.Kernel11.main_arg26) = m ((c.tc : Thread Cert.Kernel11.nD Cert.Kernel11.τ).loc Cert.Kernel11.main_arg26)
      ∧ r.2.mem ((c.tc : Thread Cert.Kernel11.nD Cert.Kernel11.τ).loc Cert.Kernel11.main_arg27) = m ((c.tc : Thread Cert.Kernel11.nD Cert.Kernel11.τ).loc Cert.Kernel11.main_arg27)
      ∧ r.2.mem ((c.tc : Thread Cert.Kernel11.nD Cert.Kernel11.τ).loc Cert.Kernel11.main_arg28) = m ((c.tc : Thread Cert.Kernel11.nD Cert.Kernel11.τ).loc Cert.Kernel11.main_arg28)
      ∧ r.2.mem ((c.tc : Thread Cert.Kernel11.nD Cert.Kernel11.τ).loc Cert.Kernel11.main_arg29) = m ((c.tc : Thread Cert.Kernel11.nD Cert.Kernel11.τ).loc Cert.Kernel11.main_arg29)
      ∧ r.2.mem ((c.tc : Thread Cert.Kernel11.nD Cert.Kernel11.τ).loc Cert.Kernel11.main_arg30) = m ((c.tc : Thread Cert.Kernel11.nD Cert.Kernel11.τ).loc Cert.Kernel11.main_arg30)
      ∧ r.2.mem ((c.tc : Thread Cert.Kernel11.nD Cert.Kernel11.τ).loc Cert.Kernel11.main_arg31) = m ((c.tc : Thread Cert.Kernel11.nD Cert.Kernel11.τ).loc Cert.Kernel11.main_arg31)
      ∧ r.2.mem ((c.tc : Thread Cert.Kernel11.nD Cert.Kernel11.τ).loc Cert.Kernel11.main_arg32) = m ((c.tc : Thread Cert.Kernel11.nD Cert.Kernel11.τ).loc Cert.Kernel11.main_arg32)
      ∧ r.2.mem ((c.tc : Thread Cert.Kernel11.nD Cert.Kernel11.τ).loc Cert.Kernel11.main_arg33) = m ((c.tc : Thread Cert.Kernel11.nD Cert.Kernel11.τ).loc Cert.Kernel11.main_arg33)
      ∧ r.2.mem ((c.tc : Thread Cert.Kernel11.nD Cert.Kernel11.τ).loc Cert.Kernel11.main_arg34) = m ((c.tc : Thread Cert.Kernel11.nD Cert.Kernel11.τ).loc Cert.Kernel11.main_arg34)
      ∧ r.2.mem ((c.tc : Thread Cert.Kernel11.nD Cert.Kernel11.τ).loc Cert.Kernel11.main_arg35) = m ((c.tc : Thread Cert.Kernel11.nD Cert.Kernel11.τ).loc Cert.Kernel11.main_arg35)
      ∧ r.2.mem ((c.tc : Thread Cert.Kernel11.nD Cert.Kernel11.τ).loc Cert.Kernel11.main_arg36) = m ((c.tc : Thread Cert.Kernel11.nD Cert.Kernel11.τ).loc Cert.Kernel11.main_arg36)
      ∧ r.2.mem ((c.tc : Thread Cert.Kernel11.nD Cert.Kernel11.τ).loc Cert.Kernel11.main_arg37) = m ((c.tc : Thread Cert.Kernel11.nD Cert.Kernel11.τ).loc Cert.Kernel11.main_arg37)
      ∧ r.2.mem ((c.tc : Thread Cert.Kernel11.nD Cert.Kernel11.τ).loc Cert.Kernel11.main_arg38) = m ((c.tc : Thread Cert.Kernel11.nD Cert.Kernel11.τ).loc Cert.Kernel11.main_arg38)
      ∧ r.2.mem ((c.tc : Thread Cert.Kernel11.nD Cert.Kernel11.τ).loc Cert.Kernel11.main_arg39) = m ((c.tc : Thread Cert.Kernel11.nD Cert.Kernel11.τ).loc Cert.Kernel11.main_arg39)
      ∧ r.2.mem ((c.tc : Thread Cert.Kernel11.nD Cert.Kernel11.τ).loc Cert.Kernel11.main_arg40) = m ((c.tc : Thread Cert.Kernel11.nD Cert.Kernel11.τ).loc Cert.Kernel11.main_arg40)
      ∧ r.2.mem ((c.tc : Thread Cert.Kernel11.nD Cert.Kernel11.τ).loc Cert.Kernel11.main_arg41) = m ((c.tc : Thread Cert.Kernel11.nD Cert.Kernel11.τ).loc Cert.Kernel11.main_arg41)
      ∧ r.2.mem ((c.tc : Thread Cert.Kernel11.nD Cert.Kernel11.τ).loc Cert.Kernel11.main_arg42) = m ((c.tc : Thread Cert.Kernel11.nD Cert.Kernel11.τ).loc Cert.Kernel11.main_arg42)
      ∧ r.2.mem ((c.tc : Thread Cert.Kernel11.nD Cert.Kernel11.τ).loc Cert.Kernel11.main_arg43) = m ((c.tc : Thread Cert.Kernel11.nD Cert.Kernel11.τ).loc Cert.Kernel11.main_arg43))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
      ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
      ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11)
      ∧ r.2.mem ((c.tc : Thread Cert.Kernel11Ideal.nD Cert.Kernel11Ideal.τ).loc Cert.Kernel11Ideal.main_arg12) = m ((c.tc : Thread Cert.Kernel11Ideal.nD Cert.Kernel11Ideal.τ).loc Cert.Kernel11Ideal.main_arg12)
      ∧ r.2.mem ((c.tc : Thread Cert.Kernel11Ideal.nD Cert.Kernel11Ideal.τ).loc Cert.Kernel11Ideal.main_arg13) = m ((c.tc : Thread Cert.Kernel11Ideal.nD Cert.Kernel11Ideal.τ).loc Cert.Kernel11Ideal.main_arg13)
      ∧ r.2.mem ((c.tc : Thread Cert.Kernel11Ideal.nD Cert.Kernel11Ideal.τ).loc Cert.Kernel11Ideal.main_arg14) = m ((c.tc : Thread Cert.Kernel11Ideal.nD Cert.Kernel11Ideal.τ).loc Cert.Kernel11Ideal.main_arg14)
      ∧ r.2.mem ((c.tc : Thread Cert.Kernel11Ideal.nD Cert.Kernel11Ideal.τ).loc Cert.Kernel11Ideal.main_arg15) = m ((c.tc : Thread Cert.Kernel11Ideal.nD Cert.Kernel11Ideal.τ).loc Cert.Kernel11Ideal.main_arg15)
      ∧ r.2.mem ((c.tc : Thread Cert.Kernel11Ideal.nD Cert.Kernel11Ideal.τ).loc Cert.Kernel11Ideal.main_arg16) = m ((c.tc : Thread Cert.Kernel11Ideal.nD Cert.Kernel11Ideal.τ).loc Cert.Kernel11Ideal.main_arg16)
      ∧ r.2.mem ((c.tc : Thread Cert.Kernel11Ideal.nD Cert.Kernel11Ideal.τ).loc Cert.Kernel11Ideal.main_arg17) = m ((c.tc : Thread Cert.Kernel11Ideal.nD Cert.Kernel11Ideal.τ).loc Cert.Kernel11Ideal.main_arg17)
      ∧ r.2.mem ((c.tc : Thread Cert.Kernel11Ideal.nD Cert.Kernel11Ideal.τ).loc Cert.Kernel11Ideal.main_arg18) = m ((c.tc : Thread Cert.Kernel11Ideal.nD Cert.Kernel11Ideal.τ).loc Cert.Kernel11Ideal.main_arg18)
      ∧ r.2.mem ((c.tc : Thread Cert.Kernel11Ideal.nD Cert.Kernel11Ideal.τ).loc Cert.Kernel11Ideal.main_arg19) = m ((c.tc : Thread Cert.Kernel11Ideal.nD Cert.Kernel11Ideal.τ).loc Cert.Kernel11Ideal.main_arg19)
      ∧ r.2.mem ((c.tc : Thread Cert.Kernel11Ideal.nD Cert.Kernel11Ideal.τ).loc Cert.Kernel11Ideal.main_arg20) = m ((c.tc : Thread Cert.Kernel11Ideal.nD Cert.Kernel11Ideal.τ).loc Cert.Kernel11Ideal.main_arg20)
      ∧ r.2.mem ((c.tc : Thread Cert.Kernel11Ideal.nD Cert.Kernel11Ideal.τ).loc Cert.Kernel11Ideal.main_arg21) = m ((c.tc : Thread Cert.Kernel11Ideal.nD Cert.Kernel11Ideal.τ).loc Cert.Kernel11Ideal.main_arg21)
      ∧ r.2.mem ((c.tc : Thread Cert.Kernel11Ideal.nD Cert.Kernel11Ideal.τ).loc Cert.Kernel11Ideal.main_arg22) = m ((c.tc : Thread Cert.Kernel11Ideal.nD Cert.Kernel11Ideal.τ).loc Cert.Kernel11Ideal.main_arg22)
      ∧ r.2.mem ((c.tc : Thread Cert.Kernel11Ideal.nD Cert.Kernel11Ideal.τ).loc Cert.Kernel11Ideal.main_arg23) = m ((c.tc : Thread Cert.Kernel11Ideal.nD Cert.Kernel11Ideal.τ).loc Cert.Kernel11Ideal.main_arg23)
      ∧ r.2.mem ((c.tc : Thread Cert.Kernel11Ideal.nD Cert.Kernel11Ideal.τ).loc Cert.Kernel11Ideal.main_arg24) = m ((c.tc : Thread Cert.Kernel11Ideal.nD Cert.Kernel11Ideal.τ).loc Cert.Kernel11Ideal.main_arg24)
      ∧ r.2.mem ((c.tc : Thread Cert.Kernel11Ideal.nD Cert.Kernel11Ideal.τ).loc Cert.Kernel11Ideal.main_arg25) = m ((c.tc : Thread Cert.Kernel11Ideal.nD Cert.Kernel11Ideal.τ).loc Cert.Kernel11Ideal.main_arg25)
      ∧ r.2.mem ((c.tc : Thread Cert.Kernel11Ideal.nD Cert.Kernel11Ideal.τ).loc Cert.Kernel11Ideal.main_arg26) = m ((c.tc : Thread Cert.Kernel11Ideal.nD Cert.Kernel11Ideal.τ).loc Cert.Kernel11Ideal.main_arg26)
      ∧ r.2.mem ((c.tc : Thread Cert.Kernel11Ideal.nD Cert.Kernel11Ideal.τ).loc Cert.Kernel11Ideal.main_arg27) = m ((c.tc : Thread Cert.Kernel11Ideal.nD Cert.Kernel11Ideal.τ).loc Cert.Kernel11Ideal.main_arg27)
      ∧ r.2.mem ((c.tc : Thread Cert.Kernel11Ideal.nD Cert.Kernel11Ideal.τ).loc Cert.Kernel11Ideal.main_arg28) = m ((c.tc : Thread Cert.Kernel11Ideal.nD Cert.Kernel11Ideal.τ).loc Cert.Kernel11Ideal.main_arg28)
      ∧ r.2.mem ((c.tc : Thread Cert.Kernel11Ideal.nD Cert.Kernel11Ideal.τ).loc Cert.Kernel11Ideal.main_arg29) = m ((c.tc : Thread Cert.Kernel11Ideal.nD Cert.Kernel11Ideal.τ).loc Cert.Kernel11Ideal.main_arg29)
      ∧ r.2.mem ((c.tc : Thread Cert.Kernel11Ideal.nD Cert.Kernel11Ideal.τ).loc Cert.Kernel11Ideal.main_arg30) = m ((c.tc : Thread Cert.Kernel11Ideal.nD Cert.Kernel11Ideal.τ).loc Cert.Kernel11Ideal.main_arg30)
      ∧ r.2.mem ((c.tc : Thread Cert.Kernel11Ideal.nD Cert.Kernel11Ideal.τ).loc Cert.Kernel11Ideal.main_arg31) = m ((c.tc : Thread Cert.Kernel11Ideal.nD Cert.Kernel11Ideal.τ).loc Cert.Kernel11Ideal.main_arg31)
      ∧ r.2.mem ((c.tc : Thread Cert.Kernel11Ideal.nD Cert.Kernel11Ideal.τ).loc Cert.Kernel11Ideal.main_arg32) = m ((c.tc : Thread Cert.Kernel11Ideal.nD Cert.Kernel11Ideal.τ).loc Cert.Kernel11Ideal.main_arg32)
      ∧ r.2.mem ((c.tc : Thread Cert.Kernel11Ideal.nD Cert.Kernel11Ideal.τ).loc Cert.Kernel11Ideal.main_arg33) = m ((c.tc : Thread Cert.Kernel11Ideal.nD Cert.Kernel11Ideal.τ).loc Cert.Kernel11Ideal.main_arg33)
      ∧ r.2.mem ((c.tc : Thread Cert.Kernel11Ideal.nD Cert.Kernel11Ideal.τ).loc Cert.Kernel11Ideal.main_arg34) = m ((c.tc : Thread Cert.Kernel11Ideal.nD Cert.Kernel11Ideal.τ).loc Cert.Kernel11Ideal.main_arg34)
      ∧ r.2.mem ((c.tc : Thread Cert.Kernel11Ideal.nD Cert.Kernel11Ideal.τ).loc Cert.Kernel11Ideal.main_arg35) = m ((c.tc : Thread Cert.Kernel11Ideal.nD Cert.Kernel11Ideal.τ).loc Cert.Kernel11Ideal.main_arg35)
      ∧ r.2.mem ((c.tc : Thread Cert.Kernel11Ideal.nD Cert.Kernel11Ideal.τ).loc Cert.Kernel11Ideal.main_arg36) = m ((c.tc : Thread Cert.Kernel11Ideal.nD Cert.Kernel11Ideal.τ).loc Cert.Kernel11Ideal.main_arg36)
      ∧ r.2.mem ((c.tc : Thread Cert.Kernel11Ideal.nD Cert.Kernel11Ideal.τ).loc Cert.Kernel11Ideal.main_arg37) = m ((c.tc : Thread Cert.Kernel11Ideal.nD Cert.Kernel11Ideal.τ).loc Cert.Kernel11Ideal.main_arg37)
      ∧ r.2.mem ((c.tc : Thread Cert.Kernel11Ideal.nD Cert.Kernel11Ideal.τ).loc Cert.Kernel11Ideal.main_arg38) = m ((c.tc : Thread Cert.Kernel11Ideal.nD Cert.Kernel11Ideal.τ).loc Cert.Kernel11Ideal.main_arg38)
      ∧ r.2.mem ((c.tc : Thread Cert.Kernel11Ideal.nD Cert.Kernel11Ideal.τ).loc Cert.Kernel11Ideal.main_arg39) = m ((c.tc : Thread Cert.Kernel11Ideal.nD Cert.Kernel11Ideal.τ).loc Cert.Kernel11Ideal.main_arg39)
      ∧ r.2.mem ((c.tc : Thread Cert.Kernel11Ideal.nD Cert.Kernel11Ideal.τ).loc Cert.Kernel11Ideal.main_arg40) = m ((c.tc : Thread Cert.Kernel11Ideal.nD Cert.Kernel11Ideal.τ).loc Cert.Kernel11Ideal.main_arg40)
      ∧ r.2.mem ((c.tc : Thread Cert.Kernel11Ideal.nD Cert.Kernel11Ideal.τ).loc Cert.Kernel11Ideal.main_arg41) = m ((c.tc : Thread Cert.Kernel11Ideal.nD Cert.Kernel11Ideal.τ).loc Cert.Kernel11Ideal.main_arg41)
      ∧ r.2.mem ((c.tc : Thread Cert.Kernel11Ideal.nD Cert.Kernel11Ideal.τ).loc Cert.Kernel11Ideal.main_arg42) = m ((c.tc : Thread Cert.Kernel11Ideal.nD Cert.Kernel11Ideal.τ).loc Cert.Kernel11Ideal.main_arg42)
      ∧ r.2.mem ((c.tc : Thread Cert.Kernel11Ideal.nD Cert.Kernel11Ideal.τ).loc Cert.Kernel11Ideal.main_arg43) = m ((c.tc : Thread Cert.Kernel11Ideal.nD Cert.Kernel11Ideal.τ).loc Cert.Kernel11Ideal.main_arg43))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9)
      ∧ r.2.mem ((c.tc : Thread Cert.Reference11Ideal.nD Cert.Reference11Ideal.τ).loc Cert.Reference11Ideal.main_arg10) = m ((c.tc : Thread Cert.Reference11Ideal.nD Cert.Reference11Ideal.τ).loc Cert.Reference11Ideal.main_arg10)
      ∧ r.2.mem ((c.tc : Thread Cert.Reference11Ideal.nD Cert.Reference11Ideal.τ).loc Cert.Reference11Ideal.main_arg11) = m ((c.tc : Thread Cert.Reference11Ideal.nD Cert.Reference11Ideal.τ).loc Cert.Reference11Ideal.main_arg11)
      ∧ r.2.mem ((c.tc : Thread Cert.Reference11Ideal.nD Cert.Reference11Ideal.τ).loc Cert.Reference11Ideal.main_arg12) = m ((c.tc : Thread Cert.Reference11Ideal.nD Cert.Reference11Ideal.τ).loc Cert.Reference11Ideal.main_arg12)
      ∧ r.2.mem ((c.tc : Thread Cert.Reference11Ideal.nD Cert.Reference11Ideal.τ).loc Cert.Reference11Ideal.main_arg13) = m ((c.tc : Thread Cert.Reference11Ideal.nD Cert.Reference11Ideal.τ).loc Cert.Reference11Ideal.main_arg13)
      ∧ r.2.mem ((c.tc : Thread Cert.Reference11Ideal.nD Cert.Reference11Ideal.τ).loc Cert.Reference11Ideal.main_arg14) = m ((c.tc : Thread Cert.Reference11Ideal.nD Cert.Reference11Ideal.τ).loc Cert.Reference11Ideal.main_arg14)
      ∧ r.2.mem ((c.tc : Thread Cert.Reference11Ideal.nD Cert.Reference11Ideal.τ).loc Cert.Reference11Ideal.main_arg15) = m ((c.tc : Thread Cert.Reference11Ideal.nD Cert.Reference11Ideal.τ).loc Cert.Reference11Ideal.main_arg15)
      ∧ r.2.mem ((c.tc : Thread Cert.Reference11Ideal.nD Cert.Reference11Ideal.τ).loc Cert.Reference11Ideal.main_arg16) = m ((c.tc : Thread Cert.Reference11Ideal.nD Cert.Reference11Ideal.τ).loc Cert.Reference11Ideal.main_arg16)
      ∧ r.2.mem ((c.tc : Thread Cert.Reference11Ideal.nD Cert.Reference11Ideal.τ).loc Cert.Reference11Ideal.main_arg17) = m ((c.tc : Thread Cert.Reference11Ideal.nD Cert.Reference11Ideal.τ).loc Cert.Reference11Ideal.main_arg17)
      ∧ r.2.mem ((c.tc : Thread Cert.Reference11Ideal.nD Cert.Reference11Ideal.τ).loc Cert.Reference11Ideal.main_arg18) = m ((c.tc : Thread Cert.Reference11Ideal.nD Cert.Reference11Ideal.τ).loc Cert.Reference11Ideal.main_arg18)
      ∧ r.2.mem ((c.tc : Thread Cert.Reference11Ideal.nD Cert.Reference11Ideal.τ).loc Cert.Reference11Ideal.main_arg19) = m ((c.tc : Thread Cert.Reference11Ideal.nD Cert.Reference11Ideal.τ).loc Cert.Reference11Ideal.main_arg19)
      ∧ r.2.mem ((c.tc : Thread Cert.Reference11Ideal.nD Cert.Reference11Ideal.τ).loc Cert.Reference11Ideal.main_arg20) = m ((c.tc : Thread Cert.Reference11Ideal.nD Cert.Reference11Ideal.τ).loc Cert.Reference11Ideal.main_arg20)
      ∧ r.2.mem ((c.tc : Thread Cert.Reference11Ideal.nD Cert.Reference11Ideal.τ).loc Cert.Reference11Ideal.main_arg21) = m ((c.tc : Thread Cert.Reference11Ideal.nD Cert.Reference11Ideal.τ).loc Cert.Reference11Ideal.main_arg21)
      ∧ r.2.mem ((c.tc : Thread Cert.Reference11Ideal.nD Cert.Reference11Ideal.τ).loc Cert.Reference11Ideal.main_arg22) = m ((c.tc : Thread Cert.Reference11Ideal.nD Cert.Reference11Ideal.τ).loc Cert.Reference11Ideal.main_arg22)
      ∧ r.2.mem ((c.tc : Thread Cert.Reference11Ideal.nD Cert.Reference11Ideal.τ).loc Cert.Reference11Ideal.main_arg23) = m ((c.tc : Thread Cert.Reference11Ideal.nD Cert.Reference11Ideal.τ).loc Cert.Reference11Ideal.main_arg23)
      ∧ r.2.mem ((c.tc : Thread Cert.Reference11Ideal.nD Cert.Reference11Ideal.τ).loc Cert.Reference11Ideal.main_arg24) = m ((c.tc : Thread Cert.Reference11Ideal.nD Cert.Reference11Ideal.τ).loc Cert.Reference11Ideal.main_arg24)
      ∧ r.2.mem ((c.tc : Thread Cert.Reference11Ideal.nD Cert.Reference11Ideal.τ).loc Cert.Reference11Ideal.main_arg25) = m ((c.tc : Thread Cert.Reference11Ideal.nD Cert.Reference11Ideal.τ).loc Cert.Reference11Ideal.main_arg25)
      ∧ r.2.mem ((c.tc : Thread Cert.Reference11Ideal.nD Cert.Reference11Ideal.τ).loc Cert.Reference11Ideal.main_arg26) = m ((c.tc : Thread Cert.Reference11Ideal.nD Cert.Reference11Ideal.τ).loc Cert.Reference11Ideal.main_arg26)
      ∧ r.2.mem ((c.tc : Thread Cert.Reference11Ideal.nD Cert.Reference11Ideal.τ).loc Cert.Reference11Ideal.main_arg27) = m ((c.tc : Thread Cert.Reference11Ideal.nD Cert.Reference11Ideal.τ).loc Cert.Reference11Ideal.main_arg27)
      ∧ r.2.mem ((c.tc : Thread Cert.Reference11Ideal.nD Cert.Reference11Ideal.τ).loc Cert.Reference11Ideal.main_arg28) = m ((c.tc : Thread Cert.Reference11Ideal.nD Cert.Reference11Ideal.τ).loc Cert.Reference11Ideal.main_arg28)
      ∧ r.2.mem ((c.tc : Thread Cert.Reference11Ideal.nD Cert.Reference11Ideal.τ).loc Cert.Reference11Ideal.main_arg29) = m ((c.tc : Thread Cert.Reference11Ideal.nD Cert.Reference11Ideal.τ).loc Cert.Reference11Ideal.main_arg29)
      ∧ r.2.mem ((c.tc : Thread Cert.Reference11Ideal.nD Cert.Reference11Ideal.τ).loc Cert.Reference11Ideal.main_arg30) = m ((c.tc : Thread Cert.Reference11Ideal.nD Cert.Reference11Ideal.τ).loc Cert.Reference11Ideal.main_arg30)
      ∧ r.2.mem ((c.tc : Thread Cert.Reference11Ideal.nD Cert.Reference11Ideal.τ).loc Cert.Reference11Ideal.main_arg31) = m ((c.tc : Thread Cert.Reference11Ideal.nD Cert.Reference11Ideal.τ).loc Cert.Reference11Ideal.main_arg31)
      ∧ r.2.mem ((c.tc : Thread Cert.Reference11Ideal.nD Cert.Reference11Ideal.τ).loc Cert.Reference11Ideal.main_arg32) = m ((c.tc : Thread Cert.Reference11Ideal.nD Cert.Reference11Ideal.τ).loc Cert.Reference11Ideal.main_arg32)
      ∧ r.2.mem ((c.tc : Thread Cert.Reference11Ideal.nD Cert.Reference11Ideal.τ).loc Cert.Reference11Ideal.main_arg33) = m ((c.tc : Thread Cert.Reference11Ideal.nD Cert.Reference11Ideal.τ).loc Cert.Reference11Ideal.main_arg33)
      ∧ r.2.mem ((c.tc : Thread Cert.Reference11Ideal.nD Cert.Reference11Ideal.τ).loc Cert.Reference11Ideal.main_arg34) = m ((c.tc : Thread Cert.Reference11Ideal.nD Cert.Reference11Ideal.τ).loc Cert.Reference11Ideal.main_arg34)
      ∧ r.2.mem ((c.tc : Thread Cert.Reference11Ideal.nD Cert.Reference11Ideal.τ).loc Cert.Reference11Ideal.main_arg35) = m ((c.tc : Thread Cert.Reference11Ideal.nD Cert.Reference11Ideal.τ).loc Cert.Reference11Ideal.main_arg35)
      ∧ r.2.mem ((c.tc : Thread Cert.Reference11Ideal.nD Cert.Reference11Ideal.τ).loc Cert.Reference11Ideal.main_arg36) = m ((c.tc : Thread Cert.Reference11Ideal.nD Cert.Reference11Ideal.τ).loc Cert.Reference11Ideal.main_arg36)
      ∧ r.2.mem ((c.tc : Thread Cert.Reference11Ideal.nD Cert.Reference11Ideal.τ).loc Cert.Reference11Ideal.main_arg37) = m ((c.tc : Thread Cert.Reference11Ideal.nD Cert.Reference11Ideal.τ).loc Cert.Reference11Ideal.main_arg37)
      ∧ r.2.mem ((c.tc : Thread Cert.Reference11Ideal.nD Cert.Reference11Ideal.τ).loc Cert.Reference11Ideal.main_arg38) = m ((c.tc : Thread Cert.Reference11Ideal.nD Cert.Reference11Ideal.τ).loc Cert.Reference11Ideal.main_arg38)
      ∧ r.2.mem ((c.tc : Thread Cert.Reference11Ideal.nD Cert.Reference11Ideal.τ).loc Cert.Reference11Ideal.main_arg39) = m ((c.tc : Thread Cert.Reference11Ideal.nD Cert.Reference11Ideal.τ).loc Cert.Reference11Ideal.main_arg39)
      ∧ r.2.mem ((c.tc : Thread Cert.Reference11Ideal.nD Cert.Reference11Ideal.τ).loc Cert.Reference11Ideal.main_arg40) = m ((c.tc : Thread Cert.Reference11Ideal.nD Cert.Reference11Ideal.τ).loc Cert.Reference11Ideal.main_arg40)
      ∧ r.2.mem ((c.tc : Thread Cert.Reference11Ideal.nD Cert.Reference11Ideal.τ).loc Cert.Reference11Ideal.main_arg41) = m ((c.tc : Thread Cert.Reference11Ideal.nD Cert.Reference11Ideal.τ).loc Cert.Reference11Ideal.main_arg41)
      ∧ r.2.mem ((c.tc : Thread Cert.Reference11Ideal.nD Cert.Reference11Ideal.τ).loc Cert.Reference11Ideal.main_arg42) = m ((c.tc : Thread Cert.Reference11Ideal.nD Cert.Reference11Ideal.τ).loc Cert.Reference11Ideal.main_arg42)
      ∧ r.2.mem ((c.tc : Thread Cert.Reference11Ideal.nD Cert.Reference11Ideal.τ).loc Cert.Reference11Ideal.main_arg43) = m ((c.tc : Thread Cert.Reference11Ideal.nD Cert.Reference11Ideal.τ).loc Cert.Reference11Ideal.main_arg43))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3_0)) (v2 : (c : Dev Cert.KernelIdeal.nD) → Buf (Elt Ideal) ((c.tc : Thread Cert.KernelIdeal.nD Cert.KernelIdeal.τ).loc Cert.KernelIdeal.main_v3_1)) (v3 : (c : Dev Cert.KernelIdeal.nD) → Buf (Elt Ideal) ((c.tc : Thread Cert.KernelIdeal.nD Cert.KernelIdeal.τ).loc Cert.KernelIdeal.main_v3_2)) (v4 : (c : Dev Cert.KernelIdeal.nD) → Buf (Elt Ideal) ((c.tc : Thread Cert.KernelIdeal.nD Cert.KernelIdeal.τ).loc Cert.KernelIdeal.main_v3_3)) (v5 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_v3_1) = v2 c
          ∧ r.2.mem ((c.tc : Thread Cert.KernelIdeal.nD Cert.KernelIdeal.τ).loc Cert.KernelIdeal.main_v3_2) = v3 c
          ∧ r.2.mem ((c.tc : Thread Cert.KernelIdeal.nD Cert.KernelIdeal.τ).loc Cert.KernelIdeal.main_v3_3) = v4 c
          ∧ r.2.mem ((c.tc : Thread Cert.KernelIdeal.nD Cert.KernelIdeal.τ).loc Cert.KernelIdeal.main_v3_4) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v85) = v2 c
          ∧ r.2.mem ((c.tc : Thread Cert.ReferenceIdeal.nD Cert.ReferenceIdeal.τ).loc Cert.ReferenceIdeal.main_v83) = v3 c
          ∧ r.2.mem ((c.tc : Thread Cert.ReferenceIdeal.nD Cert.ReferenceIdeal.τ).loc Cert.ReferenceIdeal.main_v88) = v4 c
          ∧ r.2.mem ((c.tc : Thread Cert.ReferenceIdeal.nD Cert.ReferenceIdeal.τ).loc Cert.ReferenceIdeal.main_v89) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v12)) (v1 : (c : Dev Cert.Kernel2Ideal.nD) → Buf (Elt Ideal) ((c.tc : Thread Cert.Kernel2Ideal.nD Cert.Kernel2Ideal.τ).loc Cert.Kernel2Ideal.main_v13)) (v2 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_v13) = v1 c
          ∧ r.2.mem ((c.tc : Thread Cert.Kernel2Ideal.nD Cert.Kernel2Ideal.τ).loc Cert.Kernel2Ideal.main_v10) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_v24) = v1 c
          ∧ r.2.mem ((c.tc : Thread Cert.Reference2Ideal.nD Cert.Reference2Ideal.τ).loc Cert.Reference2Ideal.main_v25) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v23)) (v1 : (c : Dev Cert.Kernel3Ideal.nD) → Buf (Elt Ideal) ((c.tc : Thread Cert.Kernel3Ideal.nD Cert.Kernel3Ideal.τ).loc Cert.Kernel3Ideal.main_v11)) (v2 : (c : Dev Cert.Kernel3Ideal.nD) → Buf (Elt Ideal) ((c.tc : Thread Cert.Kernel3Ideal.nD Cert.Kernel3Ideal.τ).loc Cert.Kernel3Ideal.main_v12)) (v3 : (c : Dev Cert.Kernel3Ideal.nD) → Buf (Elt Ideal) ((c.tc : Thread Cert.Kernel3Ideal.nD Cert.Kernel3Ideal.τ).loc Cert.Kernel3Ideal.main_v13)) (v4 : (c : Dev Cert.Kernel3Ideal.nD) → Buf (Elt Ideal) ((c.tc : Thread Cert.Kernel3Ideal.nD Cert.Kernel3Ideal.τ).loc Cert.Kernel3Ideal.main_v26)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v23) = v0 c
          ∧ r.2.mem ((c.tc : Thread Cert.Kernel3Ideal.nD Cert.Kernel3Ideal.τ).loc Cert.Kernel3Ideal.main_v11) = v1 c
          ∧ r.2.mem ((c.tc : Thread Cert.Kernel3Ideal.nD Cert.Kernel3Ideal.τ).loc Cert.Kernel3Ideal.main_v12) = v2 c
          ∧ r.2.mem ((c.tc : Thread Cert.Kernel3Ideal.nD Cert.Kernel3Ideal.τ).loc Cert.Kernel3Ideal.main_v13) = v3 c
          ∧ r.2.mem ((c.tc : Thread Cert.Kernel3Ideal.nD Cert.Kernel3Ideal.τ).loc Cert.Kernel3Ideal.main_v26) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v0) = v0 c
          ∧ r.2.mem ((c.tc : Thread Cert.Reference3Ideal.nD Cert.Reference3Ideal.τ).loc Cert.Reference3Ideal.main_v2) = v1 c
          ∧ r.2.mem ((c.tc : Thread Cert.Reference3Ideal.nD Cert.Reference3Ideal.τ).loc Cert.Reference3Ideal.main_v5) = v2 c
          ∧ r.2.mem ((c.tc : Thread Cert.Reference3Ideal.nD Cert.Reference3Ideal.τ).loc Cert.Reference3Ideal.main_v6) = v3 c
          ∧ r.2.mem ((c.tc : Thread Cert.Reference3Ideal.nD Cert.Reference3Ideal.τ).loc Cert.Reference3Ideal.main_v9) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v12)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v12) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v3_0)) (v2 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v3_0) = v1 c
          ∧ r.2.mem ((c.tc : Thread Cert.Kernel8Ideal.nD Cert.Kernel8Ideal.τ).loc Cert.Kernel8Ideal.main_v4) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v36) = v0 c
          ∧ r.2.mem ((c.tc : Thread Cert.Reference8Ideal.nD Cert.Reference8Ideal.τ).loc Cert.Reference8Ideal.main_v37) = v1 c
          ∧ r.2.mem ((c.tc : Thread Cert.Reference8Ideal.nD Cert.Reference8Ideal.τ).loc Cert.Reference8Ideal.main_v21) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  IdealRules.named_const.Statement Cert.Kernel9Ideal.κ "bias1" .f32 0x3FC48605#32 ((8388608 / 5463681 : ℝ) : EReal)
  ∧ IdealRules.named_const.Statement Cert.Kernel9Ideal.κ "bias2" .f32 0x42C8E6D3#32 ((268435456 / 2672307 : ℝ) : EReal)

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)
      ∧ m' ((c.tc : Thread Cert.Reference9Ideal.nD Cert.Reference9Ideal.τ).loc Cert.Reference9Ideal.main_arg11) = m ((c.tc : Thread Cert.Kernel9Ideal.nD Cert.Kernel9Ideal.τ).loc Cert.Kernel9Ideal.main_arg11)
      ∧ m' ((c.tc : Thread Cert.Reference9Ideal.nD Cert.Reference9Ideal.τ).loc Cert.Reference9Ideal.main_arg12) = m ((c.tc : Thread Cert.Kernel9Ideal.nD Cert.Kernel9Ideal.τ).loc Cert.Kernel9Ideal.main_arg12)
      ∧ m' ((c.tc : Thread Cert.Reference9Ideal.nD Cert.Reference9Ideal.τ).loc Cert.Reference9Ideal.main_arg13) = m ((c.tc : Thread Cert.Kernel9Ideal.nD Cert.Kernel9Ideal.τ).loc Cert.Kernel9Ideal.main_arg13)
      ∧ m' ((c.tc : Thread Cert.Reference9Ideal.nD Cert.Reference9Ideal.τ).loc Cert.Reference9Ideal.main_arg14) = m ((c.tc : Thread Cert.Kernel9Ideal.nD Cert.Kernel9Ideal.τ).loc Cert.Kernel9Ideal.main_arg14)
      ∧ m' ((c.tc : Thread Cert.Reference9Ideal.nD Cert.Reference9Ideal.τ).loc Cert.Reference9Ideal.main_arg15) = m ((c.tc : Thread Cert.Kernel9Ideal.nD Cert.Kernel9Ideal.τ).loc Cert.Kernel9Ideal.main_arg15)) →
    ∃ (v0 : (c : Dev Cert.Kernel9Ideal.nD) → Buf (Elt Ideal) ((c.tc : Thread Cert.Kernel9Ideal.nD Cert.Kernel9Ideal.τ).loc Cert.Kernel9Ideal.main_v0_1)) (v1 : (c : Dev Cert.Kernel9Ideal.nD) → Buf (Elt Ideal) ((c.tc : Thread Cert.Kernel9Ideal.nD Cert.Kernel9Ideal.τ).loc Cert.Kernel9Ideal.main_v0_2)) (v2 : (c : Dev Cert.Kernel9Ideal.nD) → Buf (Elt Ideal) ((c.tc : Thread Cert.Kernel9Ideal.nD Cert.Kernel9Ideal.τ).loc Cert.Kernel9Ideal.main_v0_3)) (v3 : (c : Dev Cert.Kernel9Ideal.nD) → Buf (Elt Ideal) ((c.tc : Thread Cert.Kernel9Ideal.nD Cert.Kernel9Ideal.τ).loc Cert.Kernel9Ideal.main_v1_1)) (v4 : (c : Dev Cert.Kernel9Ideal.nD) → Buf (Elt Ideal) ((c.tc : Thread Cert.Kernel9Ideal.nD Cert.Kernel9Ideal.τ).loc Cert.Kernel9Ideal.main_v1_2)) (v5 : (c : Dev Cert.Kernel9Ideal.nD) → Buf (Elt Ideal) ((c.tc : Thread Cert.Kernel9Ideal.nD Cert.Kernel9Ideal.τ).loc Cert.Kernel9Ideal.main_v1_3)) (v6 : (c : Dev Cert.Kernel9Ideal.nD) → Buf (Elt Ideal) ((c.tc : Thread Cert.Kernel9Ideal.nD Cert.Kernel9Ideal.τ).loc Cert.Kernel9Ideal.main_v2_1)) (v7 : (c : Dev Cert.Kernel9Ideal.nD) → Buf (Elt Ideal) ((c.tc : Thread Cert.Kernel9Ideal.nD Cert.Kernel9Ideal.τ).loc Cert.Kernel9Ideal.main_v2_2)) (v8 : (c : Dev Cert.Kernel9Ideal.nD) → Buf (Elt Ideal) ((c.tc : Thread Cert.Kernel9Ideal.nD Cert.Kernel9Ideal.τ).loc Cert.Kernel9Ideal.main_v2_3)) (v9 : (c : Dev Cert.Kernel9Ideal.nD) → Buf (Elt Ideal) ((c.tc : Thread Cert.Kernel9Ideal.nD Cert.Kernel9Ideal.τ).loc Cert.Kernel9Ideal.main_v3_1)) (v10 : (c : Dev Cert.Kernel9Ideal.nD) → Buf (Elt Ideal) ((c.tc : Thread Cert.Kernel9Ideal.nD Cert.Kernel9Ideal.τ).loc Cert.Kernel9Ideal.main_v3_2)) (v11 : (c : Dev Cert.Kernel9Ideal.nD) → Buf (Elt Ideal) ((c.tc : Thread Cert.Kernel9Ideal.nD Cert.Kernel9Ideal.τ).loc Cert.Kernel9Ideal.main_v3_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_1) = v0 c
          ∧ r.2.mem ((c.tc : Thread Cert.Kernel9Ideal.nD Cert.Kernel9Ideal.τ).loc Cert.Kernel9Ideal.main_v0_2) = v1 c
          ∧ r.2.mem ((c.tc : Thread Cert.Kernel9Ideal.nD Cert.Kernel9Ideal.τ).loc Cert.Kernel9Ideal.main_v0_3) = v2 c
          ∧ r.2.mem ((c.tc : Thread Cert.Kernel9Ideal.nD Cert.Kernel9Ideal.τ).loc Cert.Kernel9Ideal.main_v1_1) = v3 c
          ∧ r.2.mem ((c.tc : Thread Cert.Kernel9Ideal.nD Cert.Kernel9Ideal.τ).loc Cert.Kernel9Ideal.main_v1_2) = v4 c
          ∧ r.2.mem ((c.tc : Thread Cert.Kernel9Ideal.nD Cert.Kernel9Ideal.τ).loc Cert.Kernel9Ideal.main_v1_3) = v5 c
          ∧ r.2.mem ((c.tc : Thread Cert.Kernel9Ideal.nD Cert.Kernel9Ideal.τ).loc Cert.Kernel9Ideal.main_v2_1) = v6 c
          ∧ r.2.mem ((c.tc : Thread Cert.Kernel9Ideal.nD Cert.Kernel9Ideal.τ).loc Cert.Kernel9Ideal.main_v2_2) = v7 c
          ∧ r.2.mem ((c.tc : Thread Cert.Kernel9Ideal.nD Cert.Kernel9Ideal.τ).loc Cert.Kernel9Ideal.main_v2_3) = v8 c
          ∧ r.2.mem ((c.tc : Thread Cert.Kernel9Ideal.nD Cert.Kernel9Ideal.τ).loc Cert.Kernel9Ideal.main_v3_1) = v9 c
          ∧ r.2.mem ((c.tc : Thread Cert.Kernel9Ideal.nD Cert.Kernel9Ideal.τ).loc Cert.Kernel9Ideal.main_v3_2) = v10 c
          ∧ r.2.mem ((c.tc : Thread Cert.Kernel9Ideal.nD Cert.Kernel9Ideal.τ).loc Cert.Kernel9Ideal.main_v3_3) = v11 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
          ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
          ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12)
          ∧ r.2.mem ((c.tc : Thread Cert.Kernel9Ideal.nD Cert.Kernel9Ideal.τ).loc Cert.Kernel9Ideal.main_arg13) = m ((c.tc : Thread Cert.Kernel9Ideal.nD Cert.Kernel9Ideal.τ).loc Cert.Kernel9Ideal.main_arg13)
          ∧ r.2.mem ((c.tc : Thread Cert.Kernel9Ideal.nD Cert.Kernel9Ideal.τ).loc Cert.Kernel9Ideal.main_arg14) = m ((c.tc : Thread Cert.Kernel9Ideal.nD Cert.Kernel9Ideal.τ).loc Cert.Kernel9Ideal.main_arg14)
          ∧ r.2.mem ((c.tc : Thread Cert.Kernel9Ideal.nD Cert.Kernel9Ideal.τ).loc Cert.Kernel9Ideal.main_arg15) = m ((c.tc : Thread Cert.Kernel9Ideal.nD Cert.Kernel9Ideal.τ).loc Cert.Kernel9Ideal.main_arg15))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_v4) = v1 c
          ∧ r.2.mem ((c.tc : Thread Cert.Reference9Ideal.nD Cert.Reference9Ideal.τ).loc Cert.Reference9Ideal.main_v10) = v2 c
          ∧ r.2.mem ((c.tc : Thread Cert.Reference9Ideal.nD Cert.Reference9Ideal.τ).loc Cert.Reference9Ideal.main_v47) = v3 c
          ∧ r.2.mem ((c.tc : Thread Cert.Reference9Ideal.nD Cert.Reference9Ideal.τ).loc Cert.Reference9Ideal.main_v28) = v4 c
          ∧ r.2.mem ((c.tc : Thread Cert.Reference9Ideal.nD Cert.Reference9Ideal.τ).loc Cert.Reference9Ideal.main_v34) = v5 c
          ∧ r.2.mem ((c.tc : Thread Cert.Reference9Ideal.nD Cert.Reference9Ideal.τ).loc Cert.Reference9Ideal.main_v71) = v6 c
          ∧ r.2.mem ((c.tc : Thread Cert.Reference9Ideal.nD Cert.Reference9Ideal.τ).loc Cert.Reference9Ideal.main_v52) = v7 c
          ∧ r.2.mem ((c.tc : Thread Cert.Reference9Ideal.nD Cert.Reference9Ideal.τ).loc Cert.Reference9Ideal.main_v58) = v8 c
          ∧ r.2.mem ((c.tc : Thread Cert.Reference9Ideal.nD Cert.Reference9Ideal.τ).loc Cert.Reference9Ideal.main_v95) = v9 c
          ∧ r.2.mem ((c.tc : Thread Cert.Reference9Ideal.nD Cert.Reference9Ideal.τ).loc Cert.Reference9Ideal.main_v76) = v10 c
          ∧ r.2.mem ((c.tc : Thread Cert.Reference9Ideal.nD Cert.Reference9Ideal.τ).loc Cert.Reference9Ideal.main_v82) = v11 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10)
          ∧ r.2.mem ((c.tc : Thread Cert.Reference9Ideal.nD Cert.Reference9Ideal.τ).loc Cert.Reference9Ideal.main_arg11) = m' ((c.tc : Thread Cert.Reference9Ideal.nD Cert.Reference9Ideal.τ).loc Cert.Reference9Ideal.main_arg11)
          ∧ r.2.mem ((c.tc : Thread Cert.Reference9Ideal.nD Cert.Reference9Ideal.τ).loc Cert.Reference9Ideal.main_arg12) = m' ((c.tc : Thread Cert.Reference9Ideal.nD Cert.Reference9Ideal.τ).loc Cert.Reference9Ideal.main_arg12)
          ∧ r.2.mem ((c.tc : Thread Cert.Reference9Ideal.nD Cert.Reference9Ideal.τ).loc Cert.Reference9Ideal.main_arg13) = m' ((c.tc : Thread Cert.Reference9Ideal.nD Cert.Reference9Ideal.τ).loc Cert.Reference9Ideal.main_arg13)
          ∧ r.2.mem ((c.tc : Thread Cert.Reference9Ideal.nD Cert.Reference9Ideal.τ).loc Cert.Reference9Ideal.main_arg14) = m' ((c.tc : Thread Cert.Reference9Ideal.nD Cert.Reference9Ideal.τ).loc Cert.Reference9Ideal.main_arg14)
          ∧ r.2.mem ((c.tc : Thread Cert.Reference9Ideal.nD Cert.Reference9Ideal.τ).loc Cert.Reference9Ideal.main_arg15) = m' ((c.tc : Thread Cert.Reference9Ideal.nD Cert.Reference9Ideal.τ).loc Cert.Reference9Ideal.main_arg15))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_v14) = v1 c
          ∧ r.2.mem ((c.tc : Thread Cert.Reference10Ideal.nD Cert.Reference10Ideal.τ).loc Cert.Reference10Ideal.main_v15) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  IdealRules.named_const.Statement Cert.Kernel11Ideal.κ "bias1" .f32 0x3FC48605#32 ((8388608 / 5463681 : ℝ) : EReal)
  ∧ IdealRules.named_const.Statement Cert.Kernel11Ideal.κ "bias2" .f32 0x42C8E6D3#32 ((268435456 / 2672307 : ℝ) : EReal)

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)
      ∧ m' ((c.tc : Thread Cert.Reference11Ideal.nD Cert.Reference11Ideal.τ).loc Cert.Reference11Ideal.main_arg10) = m ((c.tc : Thread Cert.Kernel11Ideal.nD Cert.Kernel11Ideal.τ).loc Cert.Kernel11Ideal.main_arg10)
      ∧ m' ((c.tc : Thread Cert.Reference11Ideal.nD Cert.Reference11Ideal.τ).loc Cert.Reference11Ideal.main_arg11) = m ((c.tc : Thread Cert.Kernel11Ideal.nD Cert.Kernel11Ideal.τ).loc Cert.Kernel11Ideal.main_arg11)
      ∧ m' ((c.tc : Thread Cert.Reference11Ideal.nD Cert.Reference11Ideal.τ).loc Cert.Reference11Ideal.main_arg12) = m ((c.tc : Thread Cert.Kernel11Ideal.nD Cert.Kernel11Ideal.τ).loc Cert.Kernel11Ideal.main_arg12)
      ∧ m' ((c.tc : Thread Cert.Reference11Ideal.nD Cert.Reference11Ideal.τ).loc Cert.Reference11Ideal.main_arg13) = m ((c.tc : Thread Cert.Kernel11Ideal.nD Cert.Kernel11Ideal.τ).loc Cert.Kernel11Ideal.main_arg13)
      ∧ m' ((c.tc : Thread Cert.Reference11Ideal.nD Cert.Reference11Ideal.τ).loc Cert.Reference11Ideal.main_arg14) = m ((c.tc : Thread Cert.Kernel11Ideal.nD Cert.Kernel11Ideal.τ).loc Cert.Kernel11Ideal.main_arg14)
      ∧ m' ((c.tc : Thread Cert.Reference11Ideal.nD Cert.Reference11Ideal.τ).loc Cert.Reference11Ideal.main_arg15) = m ((c.tc : Thread Cert.Kernel11Ideal.nD Cert.Kernel11Ideal.τ).loc Cert.Kernel11Ideal.main_arg15)
      ∧ m' ((c.tc : Thread Cert.Reference11Ideal.nD Cert.Reference11Ideal.τ).loc Cert.Reference11Ideal.main_arg16) = m ((c.tc : Thread Cert.Kernel11Ideal.nD Cert.Kernel11Ideal.τ).loc Cert.Kernel11Ideal.main_arg16)
      ∧ m' ((c.tc : Thread Cert.Reference11Ideal.nD Cert.Reference11Ideal.τ).loc Cert.Reference11Ideal.main_arg17) = m ((c.tc : Thread Cert.Kernel11Ideal.nD Cert.Kernel11Ideal.τ).loc Cert.Kernel11Ideal.main_arg17)
      ∧ m' ((c.tc : Thread Cert.Reference11Ideal.nD Cert.Reference11Ideal.τ).loc Cert.Reference11Ideal.main_arg18) = m ((c.tc : Thread Cert.Kernel11Ideal.nD Cert.Kernel11Ideal.τ).loc Cert.Kernel11Ideal.main_arg18)
      ∧ m' ((c.tc : Thread Cert.Reference11Ideal.nD Cert.Reference11Ideal.τ).loc Cert.Reference11Ideal.main_arg19) = m ((c.tc : Thread Cert.Kernel11Ideal.nD Cert.Kernel11Ideal.τ).loc Cert.Kernel11Ideal.main_arg19)
      ∧ m' ((c.tc : Thread Cert.Reference11Ideal.nD Cert.Reference11Ideal.τ).loc Cert.Reference11Ideal.main_arg20) = m ((c.tc : Thread Cert.Kernel11Ideal.nD Cert.Kernel11Ideal.τ).loc Cert.Kernel11Ideal.main_arg20)
      ∧ m' ((c.tc : Thread Cert.Reference11Ideal.nD Cert.Reference11Ideal.τ).loc Cert.Reference11Ideal.main_arg21) = m ((c.tc : Thread Cert.Kernel11Ideal.nD Cert.Kernel11Ideal.τ).loc Cert.Kernel11Ideal.main_arg21)
      ∧ m' ((c.tc : Thread Cert.Reference11Ideal.nD Cert.Reference11Ideal.τ).loc Cert.Reference11Ideal.main_arg22) = m ((c.tc : Thread Cert.Kernel11Ideal.nD Cert.Kernel11Ideal.τ).loc Cert.Kernel11Ideal.main_arg22)
      ∧ m' ((c.tc : Thread Cert.Reference11Ideal.nD Cert.Reference11Ideal.τ).loc Cert.Reference11Ideal.main_arg23) = m ((c.tc : Thread Cert.Kernel11Ideal.nD Cert.Kernel11Ideal.τ).loc Cert.Kernel11Ideal.main_arg23)
      ∧ m' ((c.tc : Thread Cert.Reference11Ideal.nD Cert.Reference11Ideal.τ).loc Cert.Reference11Ideal.main_arg24) = m ((c.tc : Thread Cert.Kernel11Ideal.nD Cert.Kernel11Ideal.τ).loc Cert.Kernel11Ideal.main_arg24)
      ∧ m' ((c.tc : Thread Cert.Reference11Ideal.nD Cert.Reference11Ideal.τ).loc Cert.Reference11Ideal.main_arg25) = m ((c.tc : Thread Cert.Kernel11Ideal.nD Cert.Kernel11Ideal.τ).loc Cert.Kernel11Ideal.main_arg25)
      ∧ m' ((c.tc : Thread Cert.Reference11Ideal.nD Cert.Reference11Ideal.τ).loc Cert.Reference11Ideal.main_arg26) = m ((c.tc : Thread Cert.Kernel11Ideal.nD Cert.Kernel11Ideal.τ).loc Cert.Kernel11Ideal.main_arg26)
      ∧ m' ((c.tc : Thread Cert.Reference11Ideal.nD Cert.Reference11Ideal.τ).loc Cert.Reference11Ideal.main_arg27) = m ((c.tc : Thread Cert.Kernel11Ideal.nD Cert.Kernel11Ideal.τ).loc Cert.Kernel11Ideal.main_arg27)
      ∧ m' ((c.tc : Thread Cert.Reference11Ideal.nD Cert.Reference11Ideal.τ).loc Cert.Reference11Ideal.main_arg28) = m ((c.tc : Thread Cert.Kernel11Ideal.nD Cert.Kernel11Ideal.τ).loc Cert.Kernel11Ideal.main_arg28)
      ∧ m' ((c.tc : Thread Cert.Reference11Ideal.nD Cert.Reference11Ideal.τ).loc Cert.Reference11Ideal.main_arg29) = m ((c.tc : Thread Cert.Kernel11Ideal.nD Cert.Kernel11Ideal.τ).loc Cert.Kernel11Ideal.main_arg29)
      ∧ m' ((c.tc : Thread Cert.Reference11Ideal.nD Cert.Reference11Ideal.τ).loc Cert.Reference11Ideal.main_arg30) = m ((c.tc : Thread Cert.Kernel11Ideal.nD Cert.Kernel11Ideal.τ).loc Cert.Kernel11Ideal.main_arg30)
      ∧ m' ((c.tc : Thread Cert.Reference11Ideal.nD Cert.Reference11Ideal.τ).loc Cert.Reference11Ideal.main_arg31) = m ((c.tc : Thread Cert.Kernel11Ideal.nD Cert.Kernel11Ideal.τ).loc Cert.Kernel11Ideal.main_arg31)
      ∧ m' ((c.tc : Thread Cert.Reference11Ideal.nD Cert.Reference11Ideal.τ).loc Cert.Reference11Ideal.main_arg32) = m ((c.tc : Thread Cert.Kernel11Ideal.nD Cert.Kernel11Ideal.τ).loc Cert.Kernel11Ideal.main_arg32)
      ∧ m' ((c.tc : Thread Cert.Reference11Ideal.nD Cert.Reference11Ideal.τ).loc Cert.Reference11Ideal.main_arg33) = m ((c.tc : Thread Cert.Kernel11Ideal.nD Cert.Kernel11Ideal.τ).loc Cert.Kernel11Ideal.main_arg33)
      ∧ m' ((c.tc : Thread Cert.Reference11Ideal.nD Cert.Reference11Ideal.τ).loc Cert.Reference11Ideal.main_arg34) = m ((c.tc : Thread Cert.Kernel11Ideal.nD Cert.Kernel11Ideal.τ).loc Cert.Kernel11Ideal.main_arg34)
      ∧ m' ((c.tc : Thread Cert.Reference11Ideal.nD Cert.Reference11Ideal.τ).loc Cert.Reference11Ideal.main_arg35) = m ((c.tc : Thread Cert.Kernel11Ideal.nD Cert.Kernel11Ideal.τ).loc Cert.Kernel11Ideal.main_arg35)
      ∧ m' ((c.tc : Thread Cert.Reference11Ideal.nD Cert.Reference11Ideal.τ).loc Cert.Reference11Ideal.main_arg36) = m ((c.tc : Thread Cert.Kernel11Ideal.nD Cert.Kernel11Ideal.τ).loc Cert.Kernel11Ideal.main_arg36)
      ∧ m' ((c.tc : Thread Cert.Reference11Ideal.nD Cert.Reference11Ideal.τ).loc Cert.Reference11Ideal.main_arg37) = m ((c.tc : Thread Cert.Kernel11Ideal.nD Cert.Kernel11Ideal.τ).loc Cert.Kernel11Ideal.main_arg37)
      ∧ m' ((c.tc : Thread Cert.Reference11Ideal.nD Cert.Reference11Ideal.τ).loc Cert.Reference11Ideal.main_arg38) = m ((c.tc : Thread Cert.Kernel11Ideal.nD Cert.Kernel11Ideal.τ).loc Cert.Kernel11Ideal.main_arg38)
      ∧ m' ((c.tc : Thread Cert.Reference11Ideal.nD Cert.Reference11Ideal.τ).loc Cert.Reference11Ideal.main_arg39) = m ((c.tc : Thread Cert.Kernel11Ideal.nD Cert.Kernel11Ideal.τ).loc Cert.Kernel11Ideal.main_arg39)
      ∧ m' ((c.tc : Thread Cert.Reference11Ideal.nD Cert.Reference11Ideal.τ).loc Cert.Reference11Ideal.main_arg40) = m ((c.tc : Thread Cert.Kernel11Ideal.nD Cert.Kernel11Ideal.τ).loc Cert.Kernel11Ideal.main_arg40)
      ∧ m' ((c.tc : Thread Cert.Reference11Ideal.nD Cert.Reference11Ideal.τ).loc Cert.Reference11Ideal.main_arg41) = m ((c.tc : Thread Cert.Kernel11Ideal.nD Cert.Kernel11Ideal.τ).loc Cert.Kernel11Ideal.main_arg41)
      ∧ m' ((c.tc : Thread Cert.Reference11Ideal.nD Cert.Reference11Ideal.τ).loc Cert.Reference11Ideal.main_arg42) = m ((c.tc : Thread Cert.Kernel11Ideal.nD Cert.Kernel11Ideal.τ).loc Cert.Kernel11Ideal.main_arg42)
      ∧ m' ((c.tc : Thread Cert.Reference11Ideal.nD Cert.Reference11Ideal.τ).loc Cert.Reference11Ideal.main_arg43) = m ((c.tc : Thread Cert.Kernel11Ideal.nD Cert.Kernel11Ideal.τ).loc Cert.Kernel11Ideal.main_arg43)) →
    ∃ (v0 : (c : Dev Cert.Kernel11Ideal.nD) → Buf (Elt Ideal) ((c.tc : Thread Cert.Kernel11Ideal.nD Cert.Kernel11Ideal.τ).loc Cert.Kernel11Ideal.main_v143)) (v1 : (c : Dev Cert.Kernel11Ideal.nD) → Buf (Elt Ideal) ((c.tc : Thread Cert.Kernel11Ideal.nD Cert.Kernel11Ideal.τ).loc Cert.Kernel11Ideal.main_v146)) (v2 : (c : Dev Cert.Kernel11Ideal.nD) → Buf (Elt Ideal) ((c.tc : Thread Cert.Kernel11Ideal.nD Cert.Kernel11Ideal.τ).loc Cert.Kernel11Ideal.main_v150)) (v3 : (c : Dev Cert.Kernel11Ideal.nD) → Buf (Elt Ideal) ((c.tc : Thread Cert.Kernel11Ideal.nD Cert.Kernel11Ideal.τ).loc Cert.Kernel11Ideal.main_v154)) (v4 : (c : Dev Cert.Kernel11Ideal.nD) → Buf (Elt Ideal) ((c.tc : Thread Cert.Kernel11Ideal.nD Cert.Kernel11Ideal.τ).loc Cert.Kernel11Ideal.main_v158)) (v5 : (c : Dev Cert.Kernel11Ideal.nD) → Buf (Elt Ideal) ((c.tc : Thread Cert.Kernel11Ideal.nD Cert.Kernel11Ideal.τ).loc Cert.Kernel11Ideal.main_v162)) (v6 : (c : Dev Cert.Kernel11Ideal.nD) → Buf (Elt Ideal) ((c.tc : Thread Cert.Kernel11Ideal.nD Cert.Kernel11Ideal.τ).loc Cert.Kernel11Ideal.main_v166)) (v7 : (c : Dev Cert.Kernel11Ideal.nD) → Buf (Elt Ideal) ((c.tc : Thread Cert.Kernel11Ideal.nD Cert.Kernel11Ideal.τ).loc Cert.Kernel11Ideal.main_v170)) (v8 : (c : Dev Cert.Kernel11Ideal.nD) → Buf (Elt Ideal) ((c.tc : Thread Cert.Kernel11Ideal.nD Cert.Kernel11Ideal.τ).loc Cert.Kernel11Ideal.main_v173)) (v9 : (c : Dev Cert.Kernel11Ideal.nD) → Buf (Elt Ideal) ((c.tc : Thread Cert.Kernel11Ideal.nD Cert.Kernel11Ideal.τ).loc Cert.Kernel11Ideal.main_v176)) (v10 : (c : Dev Cert.Kernel11Ideal.nD) → Buf (Elt Ideal) ((c.tc : Thread Cert.Kernel11Ideal.nD Cert.Kernel11Ideal.τ).loc Cert.Kernel11Ideal.main_v179)) (v11 : (c : Dev Cert.Kernel11Ideal.nD) → Buf (Elt Ideal) ((c.tc : Thread Cert.Kernel11Ideal.nD Cert.Kernel11Ideal.τ).loc Cert.Kernel11Ideal.main_v182)) (v12 : (c : Dev Cert.Kernel11Ideal.nD) → Buf (Elt Ideal) ((c.tc : Thread Cert.Kernel11Ideal.nD Cert.Kernel11Ideal.τ).loc Cert.Kernel11Ideal.main_v185)) (v13 : (c : Dev Cert.Kernel11Ideal.nD) → Buf (Elt Ideal) ((c.tc : Thread Cert.Kernel11Ideal.nD Cert.Kernel11Ideal.τ).loc Cert.Kernel11Ideal.main_v189)) (v14 : (c : Dev Cert.Kernel11Ideal.nD) → Buf (Elt Ideal) ((c.tc : Thread Cert.Kernel11Ideal.nD Cert.Kernel11Ideal.τ).loc Cert.Kernel11Ideal.main_v193)) (v15 : (c : Dev Cert.Kernel11Ideal.nD) → Buf (Elt Ideal) ((c.tc : Thread Cert.Kernel11Ideal.nD Cert.Kernel11Ideal.τ).loc Cert.Kernel11Ideal.main_v197)) (v16 : (c : Dev Cert.Kernel11Ideal.nD) → Buf (Elt Ideal) ((c.tc : Thread Cert.Kernel11Ideal.nD Cert.Kernel11Ideal.τ).loc Cert.Kernel11Ideal.main_v201)) (v17 : (c : Dev Cert.Kernel11Ideal.nD) → Buf (Elt Ideal) ((c.tc : Thread Cert.Kernel11Ideal.nD Cert.Kernel11Ideal.τ).loc Cert.Kernel11Ideal.main_v205)) (v18 : (c : Dev Cert.Kernel11Ideal.nD) → Buf (Elt Ideal) ((c.tc : Thread Cert.Kernel11Ideal.nD Cert.Kernel11Ideal.τ).loc Cert.Kernel11Ideal.main_v209)) (v19 : (c : Dev Cert.Kernel11Ideal.nD) → Buf (Elt Ideal) ((c.tc : Thread Cert.Kernel11Ideal.nD Cert.Kernel11Ideal.τ).loc Cert.Kernel11Ideal.main_v212)) (v20 : (c : Dev Cert.Kernel11Ideal.nD) → Buf (Elt Ideal) ((c.tc : Thread Cert.Kernel11Ideal.nD Cert.Kernel11Ideal.τ).loc Cert.Kernel11Ideal.main_v215)) (v21 : (c : Dev Cert.Kernel11Ideal.nD) → Buf (Elt Ideal) ((c.tc : Thread Cert.Kernel11Ideal.nD Cert.Kernel11Ideal.τ).loc Cert.Kernel11Ideal.main_v218)) (v22 : (c : Dev Cert.Kernel11Ideal.nD) → Buf (Elt Ideal) ((c.tc : Thread Cert.Kernel11Ideal.nD Cert.Kernel11Ideal.τ).loc Cert.Kernel11Ideal.main_v221)) (v23 : (c : Dev Cert.Kernel11Ideal.nD) → Buf (Elt Ideal) ((c.tc : Thread Cert.Kernel11Ideal.nD Cert.Kernel11Ideal.τ).loc Cert.Kernel11Ideal.main_v224)) (v24 : (c : Dev Cert.Kernel11Ideal.nD) → Buf (Elt Ideal) ((c.tc : Thread Cert.Kernel11Ideal.nD Cert.Kernel11Ideal.τ).loc Cert.Kernel11Ideal.main_v228)) (v25 : (c : Dev Cert.Kernel11Ideal.nD) → Buf (Elt Ideal) ((c.tc : Thread Cert.Kernel11Ideal.nD Cert.Kernel11Ideal.τ).loc Cert.Kernel11Ideal.main_v232)) (v26 : (c : Dev Cert.Kernel11Ideal.nD) → Buf (Elt Ideal) ((c.tc : Thread Cert.Kernel11Ideal.nD Cert.Kernel11Ideal.τ).loc Cert.Kernel11Ideal.main_v236)) (v27 : (c : Dev Cert.Kernel11Ideal.nD) → Buf (Elt Ideal) ((c.tc : Thread Cert.Kernel11Ideal.nD Cert.Kernel11Ideal.τ).loc Cert.Kernel11Ideal.main_v240)) (v28 : (c : Dev Cert.Kernel11Ideal.nD) → Buf (Elt Ideal) ((c.tc : Thread Cert.Kernel11Ideal.nD Cert.Kernel11Ideal.τ).loc Cert.Kernel11Ideal.main_v244)) (v29 : (c : Dev Cert.Kernel11Ideal.nD) → Buf (Elt Ideal) ((c.tc : Thread Cert.Kernel11Ideal.nD Cert.Kernel11Ideal.τ).loc Cert.Kernel11Ideal.main_v248)) (v30 : (c : Dev Cert.Kernel11Ideal.nD) → Buf (Elt Ideal) ((c.tc : Thread Cert.Kernel11Ideal.nD Cert.Kernel11Ideal.τ).loc Cert.Kernel11Ideal.main_v251)) (v31 : (c : Dev Cert.Kernel11Ideal.nD) → Buf (Elt Ideal) ((c.tc : Thread Cert.Kernel11Ideal.nD Cert.Kernel11Ideal.τ).loc Cert.Kernel11Ideal.main_v254)) (v32 : (c : Dev Cert.Kernel11Ideal.nD) → Buf (Elt Ideal) ((c.tc : Thread Cert.Kernel11Ideal.nD Cert.Kernel11Ideal.τ).loc Cert.Kernel11Ideal.main_v257)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v143) = v0 c
          ∧ r.2.mem ((c.tc : Thread Cert.Kernel11Ideal.nD Cert.Kernel11Ideal.τ).loc Cert.Kernel11Ideal.main_v146) = v1 c
          ∧ r.2.mem ((c.tc : Thread Cert.Kernel11Ideal.nD Cert.Kernel11Ideal.τ).loc Cert.Kernel11Ideal.main_v150) = v2 c
          ∧ r.2.mem ((c.tc : Thread Cert.Kernel11Ideal.nD Cert.Kernel11Ideal.τ).loc Cert.Kernel11Ideal.main_v154) = v3 c
          ∧ r.2.mem ((c.tc : Thread Cert.Kernel11Ideal.nD Cert.Kernel11Ideal.τ).loc Cert.Kernel11Ideal.main_v158) = v4 c
          ∧ r.2.mem ((c.tc : Thread Cert.Kernel11Ideal.nD Cert.Kernel11Ideal.τ).loc Cert.Kernel11Ideal.main_v162) = v5 c
          ∧ r.2.mem ((c.tc : Thread Cert.Kernel11Ideal.nD Cert.Kernel11Ideal.τ).loc Cert.Kernel11Ideal.main_v166) = v6 c
          ∧ r.2.mem ((c.tc : Thread Cert.Kernel11Ideal.nD Cert.Kernel11Ideal.τ).loc Cert.Kernel11Ideal.main_v170) = v7 c
          ∧ r.2.mem ((c.tc : Thread Cert.Kernel11Ideal.nD Cert.Kernel11Ideal.τ).loc Cert.Kernel11Ideal.main_v173) = v8 c
          ∧ r.2.mem ((c.tc : Thread Cert.Kernel11Ideal.nD Cert.Kernel11Ideal.τ).loc Cert.Kernel11Ideal.main_v176) = v9 c
          ∧ r.2.mem ((c.tc : Thread Cert.Kernel11Ideal.nD Cert.Kernel11Ideal.τ).loc Cert.Kernel11Ideal.main_v179) = v10 c
          ∧ r.2.mem ((c.tc : Thread Cert.Kernel11Ideal.nD Cert.Kernel11Ideal.τ).loc Cert.Kernel11Ideal.main_v182) = v11 c
          ∧ r.2.mem ((c.tc : Thread Cert.Kernel11Ideal.nD Cert.Kernel11Ideal.τ).loc Cert.Kernel11Ideal.main_v185) = v12 c
          ∧ r.2.mem ((c.tc : Thread Cert.Kernel11Ideal.nD Cert.Kernel11Ideal.τ).loc Cert.Kernel11Ideal.main_v189) = v13 c
          ∧ r.2.mem ((c.tc : Thread Cert.Kernel11Ideal.nD Cert.Kernel11Ideal.τ).loc Cert.Kernel11Ideal.main_v193) = v14 c
          ∧ r.2.mem ((c.tc : Thread Cert.Kernel11Ideal.nD Cert.Kernel11Ideal.τ).loc Cert.Kernel11Ideal.main_v197) = v15 c
          ∧ r.2.mem ((c.tc : Thread Cert.Kernel11Ideal.nD Cert.Kernel11Ideal.τ).loc Cert.Kernel11Ideal.main_v201) = v16 c
          ∧ r.2.mem ((c.tc : Thread Cert.Kernel11Ideal.nD Cert.Kernel11Ideal.τ).loc Cert.Kernel11Ideal.main_v205) = v17 c
          ∧ r.2.mem ((c.tc : Thread Cert.Kernel11Ideal.nD Cert.Kernel11Ideal.τ).loc Cert.Kernel11Ideal.main_v209) = v18 c
          ∧ r.2.mem ((c.tc : Thread Cert.Kernel11Ideal.nD Cert.Kernel11Ideal.τ).loc Cert.Kernel11Ideal.main_v212) = v19 c
          ∧ r.2.mem ((c.tc : Thread Cert.Kernel11Ideal.nD Cert.Kernel11Ideal.τ).loc Cert.Kernel11Ideal.main_v215) = v20 c
          ∧ r.2.mem ((c.tc : Thread Cert.Kernel11Ideal.nD Cert.Kernel11Ideal.τ).loc Cert.Kernel11Ideal.main_v218) = v21 c
          ∧ r.2.mem ((c.tc : Thread Cert.Kernel11Ideal.nD Cert.Kernel11Ideal.τ).loc Cert.Kernel11Ideal.main_v221) = v22 c
          ∧ r.2.mem ((c.tc : Thread Cert.Kernel11Ideal.nD Cert.Kernel11Ideal.τ).loc Cert.Kernel11Ideal.main_v224) = v23 c
          ∧ r.2.mem ((c.tc : Thread Cert.Kernel11Ideal.nD Cert.Kernel11Ideal.τ).loc Cert.Kernel11Ideal.main_v228) = v24 c
          ∧ r.2.mem ((c.tc : Thread Cert.Kernel11Ideal.nD Cert.Kernel11Ideal.τ).loc Cert.Kernel11Ideal.main_v232) = v25 c
          ∧ r.2.mem ((c.tc : Thread Cert.Kernel11Ideal.nD Cert.Kernel11Ideal.τ).loc Cert.Kernel11Ideal.main_v236) = v26 c
          ∧ r.2.mem ((c.tc : Thread Cert.Kernel11Ideal.nD Cert.Kernel11Ideal.τ).loc Cert.Kernel11Ideal.main_v240) = v27 c
          ∧ r.2.mem ((c.tc : Thread Cert.Kernel11Ideal.nD Cert.Kernel11Ideal.τ).loc Cert.Kernel11Ideal.main_v244) = v28 c
          ∧ r.2.mem ((c.tc : Thread Cert.Kernel11Ideal.nD Cert.Kernel11Ideal.τ).loc Cert.Kernel11Ideal.main_v248) = v29 c
          ∧ r.2.mem ((c.tc : Thread Cert.Kernel11Ideal.nD Cert.Kernel11Ideal.τ).loc Cert.Kernel11Ideal.main_v251) = v30 c
          ∧ r.2.mem ((c.tc : Thread Cert.Kernel11Ideal.nD Cert.Kernel11Ideal.τ).loc Cert.Kernel11Ideal.main_v254) = v31 c
          ∧ r.2.mem ((c.tc : Thread Cert.Kernel11Ideal.nD Cert.Kernel11Ideal.τ).loc Cert.Kernel11Ideal.main_v257) = v32 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
          ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
          ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11)
          ∧ r.2.mem ((c.tc : Thread Cert.Kernel11Ideal.nD Cert.Kernel11Ideal.τ).loc Cert.Kernel11Ideal.main_arg12) = m ((c.tc : Thread Cert.Kernel11Ideal.nD Cert.Kernel11Ideal.τ).loc Cert.Kernel11Ideal.main_arg12)
          ∧ r.2.mem ((c.tc : Thread Cert.Kernel11Ideal.nD Cert.Kernel11Ideal.τ).loc Cert.Kernel11Ideal.main_arg13) = m ((c.tc : Thread Cert.Kernel11Ideal.nD Cert.Kernel11Ideal.τ).loc Cert.Kernel11Ideal.main_arg13)
          ∧ r.2.mem ((c.tc : Thread Cert.Kernel11Ideal.nD Cert.Kernel11Ideal.τ).loc Cert.Kernel11Ideal.main_arg14) = m ((c.tc : Thread Cert.Kernel11Ideal.nD Cert.Kernel11Ideal.τ).loc Cert.Kernel11Ideal.main_arg14)
          ∧ r.2.mem ((c.tc : Thread Cert.Kernel11Ideal.nD Cert.Kernel11Ideal.τ).loc Cert.Kernel11Ideal.main_arg15) = m ((c.tc : Thread Cert.Kernel11Ideal.nD Cert.Kernel11Ideal.τ).loc Cert.Kernel11Ideal.main_arg15)
          ∧ r.2.mem ((c.tc : Thread Cert.Kernel11Ideal.nD Cert.Kernel11Ideal.τ).loc Cert.Kernel11Ideal.main_arg16) = m ((c.tc : Thread Cert.Kernel11Ideal.nD Cert.Kernel11Ideal.τ).loc Cert.Kernel11Ideal.main_arg16)
          ∧ r.2.mem ((c.tc : Thread Cert.Kernel11Ideal.nD Cert.Kernel11Ideal.τ).loc Cert.Kernel11Ideal.main_arg17) = m ((c.tc : Thread Cert.Kernel11Ideal.nD Cert.Kernel11Ideal.τ).loc Cert.Kernel11Ideal.main_arg17)
          ∧ r.2.mem ((c.tc : Thread Cert.Kernel11Ideal.nD Cert.Kernel11Ideal.τ).loc Cert.Kernel11Ideal.main_arg18) = m ((c.tc : Thread Cert.Kernel11Ideal.nD Cert.Kernel11Ideal.τ).loc Cert.Kernel11Ideal.main_arg18)
          ∧ r.2.mem ((c.tc : Thread Cert.Kernel11Ideal.nD Cert.Kernel11Ideal.τ).loc Cert.Kernel11Ideal.main_arg19) = m ((c.tc : Thread Cert.Kernel11Ideal.nD Cert.Kernel11Ideal.τ).loc Cert.Kernel11Ideal.main_arg19)
          ∧ r.2.mem ((c.tc : Thread Cert.Kernel11Ideal.nD Cert.Kernel11Ideal.τ).loc Cert.Kernel11Ideal.main_arg20) = m ((c.tc : Thread Cert.Kernel11Ideal.nD Cert.Kernel11Ideal.τ).loc Cert.Kernel11Ideal.main_arg20)
          ∧ r.2.mem ((c.tc : Thread Cert.Kernel11Ideal.nD Cert.Kernel11Ideal.τ).loc Cert.Kernel11Ideal.main_arg21) = m ((c.tc : Thread Cert.Kernel11Ideal.nD Cert.Kernel11Ideal.τ).loc Cert.Kernel11Ideal.main_arg21)
          ∧ r.2.mem ((c.tc : Thread Cert.Kernel11Ideal.nD Cert.Kernel11Ideal.τ).loc Cert.Kernel11Ideal.main_arg22) = m ((c.tc : Thread Cert.Kernel11Ideal.nD Cert.Kernel11Ideal.τ).loc Cert.Kernel11Ideal.main_arg22)
          ∧ r.2.mem ((c.tc : Thread Cert.Kernel11Ideal.nD Cert.Kernel11Ideal.τ).loc Cert.Kernel11Ideal.main_arg23) = m ((c.tc : Thread Cert.Kernel11Ideal.nD Cert.Kernel11Ideal.τ).loc Cert.Kernel11Ideal.main_arg23)
          ∧ r.2.mem ((c.tc : Thread Cert.Kernel11Ideal.nD Cert.Kernel11Ideal.τ).loc Cert.Kernel11Ideal.main_arg24) = m ((c.tc : Thread Cert.Kernel11Ideal.nD Cert.Kernel11Ideal.τ).loc Cert.Kernel11Ideal.main_arg24)
          ∧ r.2.mem ((c.tc : Thread Cert.Kernel11Ideal.nD Cert.Kernel11Ideal.τ).loc Cert.Kernel11Ideal.main_arg25) = m ((c.tc : Thread Cert.Kernel11Ideal.nD Cert.Kernel11Ideal.τ).loc Cert.Kernel11Ideal.main_arg25)
          ∧ r.2.mem ((c.tc : Thread Cert.Kernel11Ideal.nD Cert.Kernel11Ideal.τ).loc Cert.Kernel11Ideal.main_arg26) = m ((c.tc : Thread Cert.Kernel11Ideal.nD Cert.Kernel11Ideal.τ).loc Cert.Kernel11Ideal.main_arg26)
          ∧ r.2.mem ((c.tc : Thread Cert.Kernel11Ideal.nD Cert.Kernel11Ideal.τ).loc Cert.Kernel11Ideal.main_arg27) = m ((c.tc : Thread Cert.Kernel11Ideal.nD Cert.Kernel11Ideal.τ).loc Cert.Kernel11Ideal.main_arg27)
          ∧ r.2.mem ((c.tc : Thread Cert.Kernel11Ideal.nD Cert.Kernel11Ideal.τ).loc Cert.Kernel11Ideal.main_arg28) = m ((c.tc : Thread Cert.Kernel11Ideal.nD Cert.Kernel11Ideal.τ).loc Cert.Kernel11Ideal.main_arg28)
          ∧ r.2.mem ((c.tc : Thread Cert.Kernel11Ideal.nD Cert.Kernel11Ideal.τ).loc Cert.Kernel11Ideal.main_arg29) = m ((c.tc : Thread Cert.Kernel11Ideal.nD Cert.Kernel11Ideal.τ).loc Cert.Kernel11Ideal.main_arg29)
          ∧ r.2.mem ((c.tc : Thread Cert.Kernel11Ideal.nD Cert.Kernel11Ideal.τ).loc Cert.Kernel11Ideal.main_arg30) = m ((c.tc : Thread Cert.Kernel11Ideal.nD Cert.Kernel11Ideal.τ).loc Cert.Kernel11Ideal.main_arg30)
          ∧ r.2.mem ((c.tc : Thread Cert.Kernel11Ideal.nD Cert.Kernel11Ideal.τ).loc Cert.Kernel11Ideal.main_arg31) = m ((c.tc : Thread Cert.Kernel11Ideal.nD Cert.Kernel11Ideal.τ).loc Cert.Kernel11Ideal.main_arg31)
          ∧ r.2.mem ((c.tc : Thread Cert.Kernel11Ideal.nD Cert.Kernel11Ideal.τ).loc Cert.Kernel11Ideal.main_arg32) = m ((c.tc : Thread Cert.Kernel11Ideal.nD Cert.Kernel11Ideal.τ).loc Cert.Kernel11Ideal.main_arg32)
          ∧ r.2.mem ((c.tc : Thread Cert.Kernel11Ideal.nD Cert.Kernel11Ideal.τ).loc Cert.Kernel11Ideal.main_arg33) = m ((c.tc : Thread Cert.Kernel11Ideal.nD Cert.Kernel11Ideal.τ).loc Cert.Kernel11Ideal.main_arg33)
          ∧ r.2.mem ((c.tc : Thread Cert.Kernel11Ideal.nD Cert.Kernel11Ideal.τ).loc Cert.Kernel11Ideal.main_arg34) = m ((c.tc : Thread Cert.Kernel11Ideal.nD Cert.Kernel11Ideal.τ).loc Cert.Kernel11Ideal.main_arg34)
          ∧ r.2.mem ((c.tc : Thread Cert.Kernel11Ideal.nD Cert.Kernel11Ideal.τ).loc Cert.Kernel11Ideal.main_arg35) = m ((c.tc : Thread Cert.Kernel11Ideal.nD Cert.Kernel11Ideal.τ).loc Cert.Kernel11Ideal.main_arg35)
          ∧ r.2.mem ((c.tc : Thread Cert.Kernel11Ideal.nD Cert.Kernel11Ideal.τ).loc Cert.Kernel11Ideal.main_arg36) = m ((c.tc : Thread Cert.Kernel11Ideal.nD Cert.Kernel11Ideal.τ).loc Cert.Kernel11Ideal.main_arg36)
          ∧ r.2.mem ((c.tc : Thread Cert.Kernel11Ideal.nD Cert.Kernel11Ideal.τ).loc Cert.Kernel11Ideal.main_arg37) = m ((c.tc : Thread Cert.Kernel11Ideal.nD Cert.Kernel11Ideal.τ).loc Cert.Kernel11Ideal.main_arg37)
          ∧ r.2.mem ((c.tc : Thread Cert.Kernel11Ideal.nD Cert.Kernel11Ideal.τ).loc Cert.Kernel11Ideal.main_arg38) = m ((c.tc : Thread Cert.Kernel11Ideal.nD Cert.Kernel11Ideal.τ).loc Cert.Kernel11Ideal.main_arg38)
          ∧ r.2.mem ((c.tc : Thread Cert.Kernel11Ideal.nD Cert.Kernel11Ideal.τ).loc Cert.Kernel11Ideal.main_arg39) = m ((c.tc : Thread Cert.Kernel11Ideal.nD Cert.Kernel11Ideal.τ).loc Cert.Kernel11Ideal.main_arg39)
          ∧ r.2.mem ((c.tc : Thread Cert.Kernel11Ideal.nD Cert.Kernel11Ideal.τ).loc Cert.Kernel11Ideal.main_arg40) = m ((c.tc : Thread Cert.Kernel11Ideal.nD Cert.Kernel11Ideal.τ).loc Cert.Kernel11Ideal.main_arg40)
          ∧ r.2.mem ((c.tc : Thread Cert.Kernel11Ideal.nD Cert.Kernel11Ideal.τ).loc Cert.Kernel11Ideal.main_arg41) = m ((c.tc : Thread Cert.Kernel11Ideal.nD Cert.Kernel11Ideal.τ).loc Cert.Kernel11Ideal.main_arg41)
          ∧ r.2.mem ((c.tc : Thread Cert.Kernel11Ideal.nD Cert.Kernel11Ideal.τ).loc Cert.Kernel11Ideal.main_arg42) = m ((c.tc : Thread Cert.Kernel11Ideal.nD Cert.Kernel11Ideal.τ).loc Cert.Kernel11Ideal.main_arg42)
          ∧ r.2.mem ((c.tc : Thread Cert.Kernel11Ideal.nD Cert.Kernel11Ideal.τ).loc Cert.Kernel11Ideal.main_arg43) = m ((c.tc : Thread Cert.Kernel11Ideal.nD Cert.Kernel11Ideal.τ).loc Cert.Kernel11Ideal.main_arg43))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v47) = v1 c
          ∧ r.2.mem ((c.tc : Thread Cert.Reference11Ideal.nD Cert.Reference11Ideal.τ).loc Cert.Reference11Ideal.main_v71) = v2 c
          ∧ r.2.mem ((c.tc : Thread Cert.Reference11Ideal.nD Cert.Reference11Ideal.τ).loc Cert.Reference11Ideal.main_v95) = v3 c
          ∧ r.2.mem ((c.tc : Thread Cert.Reference11Ideal.nD Cert.Reference11Ideal.τ).loc Cert.Reference11Ideal.main_v119) = v4 c
          ∧ r.2.mem ((c.tc : Thread Cert.Reference11Ideal.nD Cert.Reference11Ideal.τ).loc Cert.Reference11Ideal.main_v143) = v5 c
          ∧ r.2.mem ((c.tc : Thread Cert.Reference11Ideal.nD Cert.Reference11Ideal.τ).loc Cert.Reference11Ideal.main_v167) = v6 c
          ∧ r.2.mem ((c.tc : Thread Cert.Reference11Ideal.nD Cert.Reference11Ideal.τ).loc Cert.Reference11Ideal.main_v191) = v7 c
          ∧ r.2.mem ((c.tc : Thread Cert.Reference11Ideal.nD Cert.Reference11Ideal.τ).loc Cert.Reference11Ideal.main_v215) = v8 c
          ∧ r.2.mem ((c.tc : Thread Cert.Reference11Ideal.nD Cert.Reference11Ideal.τ).loc Cert.Reference11Ideal.main_v239) = v9 c
          ∧ r.2.mem ((c.tc : Thread Cert.Reference11Ideal.nD Cert.Reference11Ideal.τ).loc Cert.Reference11Ideal.main_v263) = v10 c
          ∧ r.2.mem ((c.tc : Thread Cert.Reference11Ideal.nD Cert.Reference11Ideal.τ).loc Cert.Reference11Ideal.main_v4) = v11 c
          ∧ r.2.mem ((c.tc : Thread Cert.Reference11Ideal.nD Cert.Reference11Ideal.τ).loc Cert.Reference11Ideal.main_v28) = v12 c
          ∧ r.2.mem ((c.tc : Thread Cert.Reference11Ideal.nD Cert.Reference11Ideal.τ).loc Cert.Reference11Ideal.main_v52) = v13 c
          ∧ r.2.mem ((c.tc : Thread Cert.Reference11Ideal.nD Cert.Reference11Ideal.τ).loc Cert.Reference11Ideal.main_v76) = v14 c
          ∧ r.2.mem ((c.tc : Thread Cert.Reference11Ideal.nD Cert.Reference11Ideal.τ).loc Cert.Reference11Ideal.main_v100) = v15 c
          ∧ r.2.mem ((c.tc : Thread Cert.Reference11Ideal.nD Cert.Reference11Ideal.τ).loc Cert.Reference11Ideal.main_v124) = v16 c
          ∧ r.2.mem ((c.tc : Thread Cert.Reference11Ideal.nD Cert.Reference11Ideal.τ).loc Cert.Reference11Ideal.main_v148) = v17 c
          ∧ r.2.mem ((c.tc : Thread Cert.Reference11Ideal.nD Cert.Reference11Ideal.τ).loc Cert.Reference11Ideal.main_v172) = v18 c
          ∧ r.2.mem ((c.tc : Thread Cert.Reference11Ideal.nD Cert.Reference11Ideal.τ).loc Cert.Reference11Ideal.main_v196) = v19 c
          ∧ r.2.mem ((c.tc : Thread Cert.Reference11Ideal.nD Cert.Reference11Ideal.τ).loc Cert.Reference11Ideal.main_v220) = v20 c
          ∧ r.2.mem ((c.tc : Thread Cert.Reference11Ideal.nD Cert.Reference11Ideal.τ).loc Cert.Reference11Ideal.main_v244) = v21 c
          ∧ r.2.mem ((c.tc : Thread Cert.Reference11Ideal.nD Cert.Reference11Ideal.τ).loc Cert.Reference11Ideal.main_v10) = v22 c
          ∧ r.2.mem ((c.tc : Thread Cert.Reference11Ideal.nD Cert.Reference11Ideal.τ).loc Cert.Reference11Ideal.main_v34) = v23 c
          ∧ r.2.mem ((c.tc : Thread Cert.Reference11Ideal.nD Cert.Reference11Ideal.τ).loc Cert.Reference11Ideal.main_v58) = v24 c
          ∧ r.2.mem ((c.tc : Thread Cert.Reference11Ideal.nD Cert.Reference11Ideal.τ).loc Cert.Reference11Ideal.main_v82) = v25 c
          ∧ r.2.mem ((c.tc : Thread Cert.Reference11Ideal.nD Cert.Reference11Ideal.τ).loc Cert.Reference11Ideal.main_v106) = v26 c
          ∧ r.2.mem ((c.tc : Thread Cert.Reference11Ideal.nD Cert.Reference11Ideal.τ).loc Cert.Reference11Ideal.main_v130) = v27 c
          ∧ r.2.mem ((c.tc : Thread Cert.Reference11Ideal.nD Cert.Reference11Ideal.τ).loc Cert.Reference11Ideal.main_v154) = v28 c
          ∧ r.2.mem ((c.tc : Thread Cert.Reference11Ideal.nD Cert.Reference11Ideal.τ).loc Cert.Reference11Ideal.main_v178) = v29 c
          ∧ r.2.mem ((c.tc : Thread Cert.Reference11Ideal.nD Cert.Reference11Ideal.τ).loc Cert.Reference11Ideal.main_v202) = v30 c
          ∧ r.2.mem ((c.tc : Thread Cert.Reference11Ideal.nD Cert.Reference11Ideal.τ).loc Cert.Reference11Ideal.main_v226) = v31 c
          ∧ r.2.mem ((c.tc : Thread Cert.Reference11Ideal.nD Cert.Reference11Ideal.τ).loc Cert.Reference11Ideal.main_v250) = v32 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9)
          ∧ r.2.mem ((c.tc : Thread Cert.Reference11Ideal.nD Cert.Reference11Ideal.τ).loc Cert.Reference11Ideal.main_arg10) = m' ((c.tc : Thread Cert.Reference11Ideal.nD Cert.Reference11Ideal.τ).loc Cert.Reference11Ideal.main_arg10)
          ∧ r.2.mem ((c.tc : Thread Cert.Reference11Ideal.nD Cert.Reference11Ideal.τ).loc Cert.Reference11Ideal.main_arg11) = m' ((c.tc : Thread Cert.Reference11Ideal.nD Cert.Reference11Ideal.τ).loc Cert.Reference11Ideal.main_arg11)
          ∧ r.2.mem ((c.tc : Thread Cert.Reference11Ideal.nD Cert.Reference11Ideal.τ).loc Cert.Reference11Ideal.main_arg12) = m' ((c.tc : Thread Cert.Reference11Ideal.nD Cert.Reference11Ideal.τ).loc Cert.Reference11Ideal.main_arg12)
          ∧ r.2.mem ((c.tc : Thread Cert.Reference11Ideal.nD Cert.Reference11Ideal.τ).loc Cert.Reference11Ideal.main_arg13) = m' ((c.tc : Thread Cert.Reference11Ideal.nD Cert.Reference11Ideal.τ).loc Cert.Reference11Ideal.main_arg13)
          ∧ r.2.mem ((c.tc : Thread Cert.Reference11Ideal.nD Cert.Reference11Ideal.τ).loc Cert.Reference11Ideal.main_arg14) = m' ((c.tc : Thread Cert.Reference11Ideal.nD Cert.Reference11Ideal.τ).loc Cert.Reference11Ideal.main_arg14)
          ∧ r.2.mem ((c.tc : Thread Cert.Reference11Ideal.nD Cert.Reference11Ideal.τ).loc Cert.Reference11Ideal.main_arg15) = m' ((c.tc : Thread Cert.Reference11Ideal.nD Cert.Reference11Ideal.τ).loc Cert.Reference11Ideal.main_arg15)
          ∧ r.2.mem ((c.tc : Thread Cert.Reference11Ideal.nD Cert.Reference11Ideal.τ).loc Cert.Reference11Ideal.main_arg16) = m' ((c.tc : Thread Cert.Reference11Ideal.nD Cert.Reference11Ideal.τ).loc Cert.Reference11Ideal.main_arg16)
          ∧ r.2.mem ((c.tc : Thread Cert.Reference11Ideal.nD Cert.Reference11Ideal.τ).loc Cert.Reference11Ideal.main_arg17) = m' ((c.tc : Thread Cert.Reference11Ideal.nD Cert.Reference11Ideal.τ).loc Cert.Reference11Ideal.main_arg17)
          ∧ r.2.mem ((c.tc : Thread Cert.Reference11Ideal.nD Cert.Reference11Ideal.τ).loc Cert.Reference11Ideal.main_arg18) = m' ((c.tc : Thread Cert.Reference11Ideal.nD Cert.Reference11Ideal.τ).loc Cert.Reference11Ideal.main_arg18)
          ∧ r.2.mem ((c.tc : Thread Cert.Reference11Ideal.nD Cert.Reference11Ideal.τ).loc Cert.Reference11Ideal.main_arg19) = m' ((c.tc : Thread Cert.Reference11Ideal.nD Cert.Reference11Ideal.τ).loc Cert.Reference11Ideal.main_arg19)
          ∧ r.2.mem ((c.tc : Thread Cert.Reference11Ideal.nD Cert.Reference11Ideal.τ).loc Cert.Reference11Ideal.main_arg20) = m' ((c.tc : Thread Cert.Reference11Ideal.nD Cert.Reference11Ideal.τ).loc Cert.Reference11Ideal.main_arg20)
          ∧ r.2.mem ((c.tc : Thread Cert.Reference11Ideal.nD Cert.Reference11Ideal.τ).loc Cert.Reference11Ideal.main_arg21) = m' ((c.tc : Thread Cert.Reference11Ideal.nD Cert.Reference11Ideal.τ).loc Cert.Reference11Ideal.main_arg21)
          ∧ r.2.mem ((c.tc : Thread Cert.Reference11Ideal.nD Cert.Reference11Ideal.τ).loc Cert.Reference11Ideal.main_arg22) = m' ((c.tc : Thread Cert.Reference11Ideal.nD Cert.Reference11Ideal.τ).loc Cert.Reference11Ideal.main_arg22)
          ∧ r.2.mem ((c.tc : Thread Cert.Reference11Ideal.nD Cert.Reference11Ideal.τ).loc Cert.Reference11Ideal.main_arg23) = m' ((c.tc : Thread Cert.Reference11Ideal.nD Cert.Reference11Ideal.τ).loc Cert.Reference11Ideal.main_arg23)
          ∧ r.2.mem ((c.tc : Thread Cert.Reference11Ideal.nD Cert.Reference11Ideal.τ).loc Cert.Reference11Ideal.main_arg24) = m' ((c.tc : Thread Cert.Reference11Ideal.nD Cert.Reference11Ideal.τ).loc Cert.Reference11Ideal.main_arg24)
          ∧ r.2.mem ((c.tc : Thread Cert.Reference11Ideal.nD Cert.Reference11Ideal.τ).loc Cert.Reference11Ideal.main_arg25) = m' ((c.tc : Thread Cert.Reference11Ideal.nD Cert.Reference11Ideal.τ).loc Cert.Reference11Ideal.main_arg25)
          ∧ r.2.mem ((c.tc : Thread Cert.Reference11Ideal.nD Cert.Reference11Ideal.τ).loc Cert.Reference11Ideal.main_arg26) = m' ((c.tc : Thread Cert.Reference11Ideal.nD Cert.Reference11Ideal.τ).loc Cert.Reference11Ideal.main_arg26)
          ∧ r.2.mem ((c.tc : Thread Cert.Reference11Ideal.nD Cert.Reference11Ideal.τ).loc Cert.Reference11Ideal.main_arg27) = m' ((c.tc : Thread Cert.Reference11Ideal.nD Cert.Reference11Ideal.τ).loc Cert.Reference11Ideal.main_arg27)
          ∧ r.2.mem ((c.tc : Thread Cert.Reference11Ideal.nD Cert.Reference11Ideal.τ).loc Cert.Reference11Ideal.main_arg28) = m' ((c.tc : Thread Cert.Reference11Ideal.nD Cert.Reference11Ideal.τ).loc Cert.Reference11Ideal.main_arg28)
          ∧ r.2.mem ((c.tc : Thread Cert.Reference11Ideal.nD Cert.Reference11Ideal.τ).loc Cert.Reference11Ideal.main_arg29) = m' ((c.tc : Thread Cert.Reference11Ideal.nD Cert.Reference11Ideal.τ).loc Cert.Reference11Ideal.main_arg29)
          ∧ r.2.mem ((c.tc : Thread Cert.Reference11Ideal.nD Cert.Reference11Ideal.τ).loc Cert.Reference11Ideal.main_arg30) = m' ((c.tc : Thread Cert.Reference11Ideal.nD Cert.Reference11Ideal.τ).loc Cert.Reference11Ideal.main_arg30)
          ∧ r.2.mem ((c.tc : Thread Cert.Reference11Ideal.nD Cert.Reference11Ideal.τ).loc Cert.Reference11Ideal.main_arg31) = m' ((c.tc : Thread Cert.Reference11Ideal.nD Cert.Reference11Ideal.τ).loc Cert.Reference11Ideal.main_arg31)
          ∧ r.2.mem ((c.tc : Thread Cert.Reference11Ideal.nD Cert.Reference11Ideal.τ).loc Cert.Reference11Ideal.main_arg32) = m' ((c.tc : Thread Cert.Reference11Ideal.nD Cert.Reference11Ideal.τ).loc Cert.Reference11Ideal.main_arg32)
          ∧ r.2.mem ((c.tc : Thread Cert.Reference11Ideal.nD Cert.Reference11Ideal.τ).loc Cert.Reference11Ideal.main_arg33) = m' ((c.tc : Thread Cert.Reference11Ideal.nD Cert.Reference11Ideal.τ).loc Cert.Reference11Ideal.main_arg33)
          ∧ r.2.mem ((c.tc : Thread Cert.Reference11Ideal.nD Cert.Reference11Ideal.τ).loc Cert.Reference11Ideal.main_arg34) = m' ((c.tc : Thread Cert.Reference11Ideal.nD Cert.Reference11Ideal.τ).loc Cert.Reference11Ideal.main_arg34)
          ∧ r.2.mem ((c.tc : Thread Cert.Reference11Ideal.nD Cert.Reference11Ideal.τ).loc Cert.Reference11Ideal.main_arg35) = m' ((c.tc : Thread Cert.Reference11Ideal.nD Cert.Reference11Ideal.τ).loc Cert.Reference11Ideal.main_arg35)
          ∧ r.2.mem ((c.tc : Thread Cert.Reference11Ideal.nD Cert.Reference11Ideal.τ).loc Cert.Reference11Ideal.main_arg36) = m' ((c.tc : Thread Cert.Reference11Ideal.nD Cert.Reference11Ideal.τ).loc Cert.Reference11Ideal.main_arg36)
          ∧ r.2.mem ((c.tc : Thread Cert.Reference11Ideal.nD Cert.Reference11Ideal.τ).loc Cert.Reference11Ideal.main_arg37) = m' ((c.tc : Thread Cert.Reference11Ideal.nD Cert.Reference11Ideal.τ).loc Cert.Reference11Ideal.main_arg37)
          ∧ r.2.mem ((c.tc : Thread Cert.Reference11Ideal.nD Cert.Reference11Ideal.τ).loc Cert.Reference11Ideal.main_arg38) = m' ((c.tc : Thread Cert.Reference11Ideal.nD Cert.Reference11Ideal.τ).loc Cert.Reference11Ideal.main_arg38)
          ∧ r.2.mem ((c.tc : Thread Cert.Reference11Ideal.nD Cert.Reference11Ideal.τ).loc Cert.Reference11Ideal.main_arg39) = m' ((c.tc : Thread Cert.Reference11Ideal.nD Cert.Reference11Ideal.τ).loc Cert.Reference11Ideal.main_arg39)
          ∧ r.2.mem ((c.tc : Thread Cert.Reference11Ideal.nD Cert.Reference11Ideal.τ).loc Cert.Reference11Ideal.main_arg40) = m' ((c.tc : Thread Cert.Reference11Ideal.nD Cert.Reference11Ideal.τ).loc Cert.Reference11Ideal.main_arg40)
          ∧ r.2.mem ((c.tc : Thread Cert.Reference11Ideal.nD Cert.Reference11Ideal.τ).loc Cert.Reference11Ideal.main_arg41) = m' ((c.tc : Thread Cert.Reference11Ideal.nD Cert.Reference11Ideal.τ).loc Cert.Reference11Ideal.main_arg41)
          ∧ r.2.mem ((c.tc : Thread Cert.Reference11Ideal.nD Cert.Reference11Ideal.τ).loc Cert.Reference11Ideal.main_arg42) = m' ((c.tc : Thread Cert.Reference11Ideal.nD Cert.Reference11Ideal.τ).loc Cert.Reference11Ideal.main_arg42)
          ∧ r.2.mem ((c.tc : Thread Cert.Reference11Ideal.nD Cert.Reference11Ideal.τ).loc Cert.Reference11Ideal.main_arg43) = m' ((c.tc : Thread Cert.Reference11Ideal.nD Cert.Reference11Ideal.τ).loc Cert.Reference11Ideal.main_arg43))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S2048x1024 : Shape := ⟨2, ![2048, 1024]⟩
abbrev S16x2048 : Shape := ⟨2, ![16, 2048]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S16x2048 : S_.BroadcastsInDim S16x2048 (![] : Fin 0 → Fin S16x2048.rank)
  reducesTo_S16x2048_S_d0_1 : S16x2048.ReducesTo [0, 1] S_

variable [Facts]

def fn_part1 {F : FTy → Type} [FloatOps F] (main_arg4 : FVec F S2048x1024 .f32) (main_v3 : IVec S_ 1) (main_v7 : IVec S_ 1) (main_v11 : IVec S_ 1) (main_v15 : IVec S_ 1) : IVec S_ 1 :=
  let main_v16 : FVec F S2048x1024 .f32 := Host.absf main_arg4
  let main_cst_6 : FVec F S_ .f32 := constant S_ .f32 0x7F800000#32
  let main_v17 : FVec F S2048x1024 .f32 := broadcastInDim S2048x1024 ![] bcast_S_S2048x1024 main_cst_6
  let main_v18 : IVec S2048x1024 1 := cmpf .olt main_v16 main_v17
  let main_c_7 : IVec S_ 1 := constantI S_ 1 1#1
  let main_v19 : IVec S_ 1 := (fun x v => Host.reduce IntOp.andi x v reducesTo_S2048x1024_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S2048x1024 .f32) (main_arg1 : FVec F S2048x1024 .f32) (main_arg2 : FVec F S2048x1024 .f32) (main_arg3 : FVec F S16x2048 .f32) (main_arg4 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : FVec F S2048x1024 .f32 := Host.absf main_arg2
  let main_cst_2 : FVec F S_ .f32 := constant S_ .f32 0x7F800000#32
  let main_v9 : FVec F S2048x1024 .f32 := broadcastInDim S2048x1024 ![] bcast_S_S2048x1024 main_cst_2
  let main_v10 : IVec S2048x1024 1 := cmpf .olt main_v8 main_v9
  let main_c_3 : IVec S_ 1 := constantI S_ 1 1#1
  let main_v11 : IVec S_ 1 := (fun x v => Host.reduce IntOp.andi x v reducesTo_S2048x1024_S_d0_1 h_S_) main_v10 main_c_3
  let main_v12 : FVec F S16x2048 .f32 := Host.absf main_arg3
  let main_cst_4 : FVec F S_ .f32 := constant S_ .f32 0x7F800000#32
  let main_v13 : FVec F S16x2048 .f32 := broadcastInDim S16x2048 ![] bcast_S_S16x2048 main_cst_4
  let main_v14 : IVec S16x2048 1 := cmpf .olt main_v12 main_v13
  let main_c_5 : IVec S_ 1 := constantI S_ 1 1#1
  let main_v15 : IVec S_ 1 := (fun x v => Host.reduce IntOp.andi x v reducesTo_S16x2048_S_d0_1 h_S_) main_v14 main_c_5
  fn_part1 (F := F) main_arg4 main_v3 main_v7 main_v11 main_v15
-- ==== Pre_finite2.lean ====
abbrev S2048x2048 : Shape := ⟨2, ![2048, 2048]⟩
abbrev S2048x5632 : Shape := ⟨2, ![2048, 5632]⟩
abbrev S5632x2048 : Shape := ⟨2, ![5632, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048x5632 : S_.BroadcastsInDim S2048x5632 (![] : Fin 0 → Fin S2048x5632.rank)
  reducesTo_S2048x5632_S_d0_1 : S2048x5632.ReducesTo [0, 1] S_
  bcast_S_S5632x2048 : S_.BroadcastsInDim S5632x2048 (![] : Fin 0 → Fin S5632x2048.rank)
  reducesTo_S5632x2048_S_d0_1 : S5632x2048.ReducesTo [0, 1] S_

variable [Facts]

def fn_part1 {F : FTy → Type} [FloatOps F] (main_arg4 : FVec F S2048x2048 .f32) (main_v3 : IVec S_ 1) (main_v7 : IVec S_ 1) (main_v11 : IVec S_ 1) (main_v15 : IVec S_ 1) : IVec S_ 1 :=
  let main_v16 : FVec F S2048x2048 .f32 := Host.absf main_arg4
  let main_cst_6 : FVec F S_ .f32 := constant S_ .f32 0x7F800000#32
  let main_v17 : FVec F S2048x2048 .f32 := broadcastInDim S2048x2048 ![] bcast_S_S2048x2048 main_cst_6
  let main_v18 : IVec S2048x2048 1 := cmpf .olt main_v16 main_v17
  let main_c_7 : IVec S_ 1 := constantI S_ 1 1#1
  let main_v19 : IVec S_ 1 := (fun x v => Host.reduce IntOp.andi x v reducesTo_S2048x2048_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S2048x2048 .f32) (main_arg1 : FVec F S2048x5632 .f32) (main_arg2 : FVec F S2048x5632 .f32) (main_arg3 : FVec F S5632x2048 .f32) (main_arg4 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x5632 .f32 := Host.absf main_arg1
  let main_cst_0 : FVec F S_ .f32 := constant S_ .f32 0x7F800000#32
  let main_v5 : FVec F S2048x5632 .f32 := broadcastInDim S2048x5632 ![] bcast_S_S2048x5632 main_cst_0
  let main_v6 : IVec S2048x5632 1 := cmpf .olt main_v4 main_v5
  let main_c_1 : IVec S_ 1 := constantI S_ 1 1#1
  let main_v7 : IVec S_ 1 := (fun x v => Host.reduce IntOp.andi x v reducesTo_S2048x5632_S_d0_1 h_S_) main_v6 main_c_1
  let main_v8 : FVec F S2048x5632 .f32 := Host.absf main_arg2
  let main_cst_2 : FVec F S_ .f32 := constant S_ .f32 0x7F800000#32
  let main_v9 : FVec F S2048x5632 .f32 := broadcastInDim S2048x5632 ![] bcast_S_S2048x5632 main_cst_2
  let main_v10 : IVec S2048x5632 1 := cmpf .olt main_v8 main_v9
  let main_c_3 : IVec S_ 1 := constantI S_ 1 1#1
  let main_v11 : IVec S_ 1 := (fun x v => Host.reduce IntOp.andi x v reducesTo_S2048x5632_S_d0_1 h_S_) main_v10 main_c_3
  let main_v12 : FVec F S5632x2048 .f32 := Host.absf main_arg3
  let main_cst_4 : FVec F S_ .f32 := constant S_ .f32 0x7F800000#32
  let main_v13 : FVec F S5632x2048 .f32 := broadcastInDim S5632x2048 ![] bcast_S_S5632x2048 main_cst_4
  let main_v14 : IVec S5632x2048 1 := cmpf .olt main_v12 main_v13
  let main_c_5 : IVec S_ 1 := constantI S_ 1 1#1
  let main_v15 : IVec S_ 1 := (fun x v => Host.reduce IntOp.andi x v reducesTo_S5632x2048_S_d0_1 h_S_) main_v14 main_c_5
  fn_part1 (F := F) main_arg4 main_v3 main_v7 main_v11 main_v15
-- ==== Kernel.lean ====
abbrev S2048x1024 : Shape := ⟨2, ![2048, 1024]⟩
abbrev S16x2048 : Shape := ⟨2, ![16, 2048]⟩
abbrev S16x2048x1 : Shape := ⟨3, ![16, 2048, 1]⟩
abbrev S16x2x1x1024 : Shape := ⟨4, ![16, 2, 1, 1024]⟩
abbrev S1024x128 : Shape := ⟨2, ![1024, 128]⟩
abbrev S2048x128 : Shape := ⟨2, ![2048, 128]⟩
abbrev S2x1024x1 : Shape := ⟨3, ![2, 1024, 1]⟩
abbrev S2x2x1x1024 : Shape := ⟨4, ![2, 2, 1, 1024]⟩
abbrev S1024x64 : Shape := ⟨2, ![1024, 64]⟩
abbrev S1x1024x1 : Shape := ⟨3, ![1, 1024, 1]⟩
abbrev S1024x1 : Shape := ⟨2, ![1024, 1]⟩
abbrev S1x1x1x1024 : Shape := ⟨4, ![1, 1, 1, 1024]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 14
  | .vmem => 40
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S16x2048, .f32⟩
  | .hbm, ⟨4, _⟩ => ⟨S2048x1024, .f32⟩
  | .hbm, ⟨5, _⟩ => ⟨S16x2048x1, .f32⟩
  | .hbm, ⟨6, _⟩ => ⟨S16x2x1x1024, .f32⟩
  | .hbm, ⟨7, _⟩ => ⟨S2048x1024, .f32⟩
  | .hbm, ⟨8, _⟩ => ⟨S16x2048x1, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S16x2048x1, .f32⟩
  | .hbm, ⟨13, _⟩ => ⟨S16x2x1x1024, .f32⟩
  | .local _ .vmem, ⟨0, _⟩ => ⟨S1024x128, .f32⟩
  | .local _ .vmem, ⟨1, _⟩ => ⟨S1024x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2x1024x1, .f32⟩
  | .local _ .vmem, ⟨7, _⟩ => ⟨S2x1024x1, .f32⟩
  | .local _ .vmem, ⟨8, _⟩ => ⟨S2x2x1x1024, .f32⟩
  | .local _ .vmem, ⟨9, _⟩ => ⟨S2x2x1x1024, .f32⟩
  | .local _ .vmem, ⟨10, _⟩ => ⟨S1024x128, .f32⟩
  | .local _ .vmem, ⟨11, _⟩ => ⟨S1024x128, .f32⟩
  | .local _ .vmem, ⟨12, _⟩ => ⟨S2x1024x1, .f32⟩
  | .local _ .vmem, ⟨13, _⟩ => ⟨S2x1024x1, .f32⟩
  | .local _ .vmem, ⟨14, _⟩ => ⟨S1024x128, .f32⟩
  | .local _ .vmem, ⟨15, _⟩ => ⟨S1024x128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2x1024x1, .f32⟩
  | .local _ .vmem, ⟨21, _⟩ => ⟨S2x1024x1, .f32⟩
  | .local _ .vmem, ⟨22, _⟩ => ⟨S2x2x1x1024, .f32⟩
  | .local _ .vmem, ⟨23, _⟩ => ⟨S2x2x1x1024, .f32⟩
  | .local _ .vmem, ⟨24, _⟩ => ⟨S1024x128, .f32⟩
  | .local _ .vmem, ⟨25, _⟩ => ⟨S1024x128, .f32⟩
  | .local _ .vmem, ⟨26, _⟩ => ⟨S2x1024x1, .f32⟩
  | .local _ .vmem, ⟨27, _⟩ => ⟨S2x1024x1, .f32⟩
  | .local _ .vmem, ⟨28, _⟩ => ⟨S1024x128, .f32⟩
  | .local _ .vmem, ⟨29, _⟩ => ⟨S1024x128, .f32⟩
  | .local _ .vmem, ⟨30, _⟩ => ⟨S1024x128, .f32⟩
  | .local _ .vmem, ⟨31, _⟩ => ⟨S1024x128, .f32⟩
  | .local _ .vmem, ⟨32, _⟩ => ⟨S2048x128, .f32⟩
  | .local _ .vmem, ⟨33, _⟩ => ⟨S2048x128, .f32⟩
  | .local _ .vmem, ⟨34, _⟩ => ⟨S2048x128, .f32⟩
  | .local _ .vmem, ⟨35, _⟩ => ⟨S2048x128, .f32⟩
  | .local _ .vmem, ⟨36, _⟩ => ⟨S2x1024x1, .f32⟩
  | .local _ .vmem, ⟨37, _⟩ => ⟨S2x1024x1, .f32⟩
  | .local _ .vmem, ⟨38, _⟩ => ⟨S2x2x1x1024, .f32⟩
  | .local _ .vmem, ⟨39, _⟩ => ⟨S2x2x1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc1_stg9_0 : Ref sig .tc := ⟨.vmem, 32, rfl⟩
abbrev cc1_stg9_1 : Ref sig .tc := ⟨.vmem, 33, rfl⟩
abbrev cc1_stg10_0 : Ref sig .tc := ⟨.vmem, 34, rfl⟩
abbrev cc1_stg10_1 : Ref sig .tc := ⟨.vmem, 35, rfl⟩
abbrev cc1_stg11_0 : Ref sig .tc := ⟨.vmem, 36, rfl⟩
abbrev cc1_stg11_1 : Ref sig .tc := ⟨.vmem, 37, rfl⟩
abbrev cc1_stg12_0 : Ref sig .tc := ⟨.vmem, 38, rfl⟩
abbrev cc1_stg12_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31
abbrev cc1_sem9_0 : DmaSem sig := 32
abbrev cc1_sem9_1 : DmaSem sig := 33
abbrev cc1_sem10_0 : DmaSem sig := 34
abbrev cc1_sem10_1 : DmaSem sig := 35
abbrev cc1_sem11_0 : DmaSem sig := 36
abbrev cc1_sem11_1 : DmaSem sig := 37
abbrev cc1_sem12_0 : DmaSem sig := 38
abbrev cc1_sem12_1 : DmaSem sig := 39

abbrev nD : Nat := 1
abbrev τ : Topo := Topo.v7x

variable {F : FTy → Type} [FloatOps F]

abbrev grid0 : Pipeline.Grid := ⟨2, ![8, 2], ![false, false]⟩

@[reducible] def k0_t1_loop (i : grid0.Coords) : Scf.Loop 32 :=
  let c0_i32 : BitVec 32 := 0#32
  let arg1 : BitVec 32 := BitVec.ofNat 32 (i 1).val
  let v9 : BitVec 32 := Scalar.subi arg1 c0_i32
  let c1_i32 : BitVec 32 := 1#32
  let v11 : BitVec 32 := Scalar.divsi v9 c1_i32
  let v12 : BitVec 32 := Scalar.muli v11 c1_i32
  let v13 : BitVec 32 := Scalar.addi c0_i32 v12
  let c1_i32_7 : BitVec 32 := 1#32
  ⟨c0_i32, v13, c1_i32_7⟩
def k0_mult1 (i : grid0.Coords) (k0_t1 : Fin (k0_t1_loop i).trips) : BitVec 32 :=
  let c0_i32 : BitVec 32 := 0#32
  let c1_i32_7 : BitVec 32 := 1#32
  let arg9 : BitVec 32 := Scf.iv c0_i32 c1_i32_7 k0_t1
  let c1024_i32_51 : BitVec 32 := 1024#32
  let v124 : BitVec 32 := Scalar.muli arg9 c1024_i32_51
  v124
def k0_off1 (i : grid0.Coords) (k0_t1 : Fin (k0_t1_loop i).trips) : Fin 2 → Nat :=
  let c0_i32 : BitVec 32 := 0#32
  let c1_i32_7 : BitVec 32 := 1#32
  let arg9 : BitVec 32 := Scf.iv c0_i32 c1_i32_7 k0_t1
  let c1024_i32_51 : BitVec 32 := 1024#32
  let v124 : BitVec 32 := Scalar.muli arg9 c1024_i32_51
  let v125 : BitVec 32 := v124
  let v126 : Index := Scalar.indexCast v125
  let c0_52 : Index := 0#32
  ![v126.toNat, 0]
def k0_off2 (i : grid0.Coords) (k0_t1 : Fin (k0_t1_loop i).trips) : Fin 4 → Nat :=
  let c0_53 : Index := 0#32
  let c0_i32 : BitVec 32 := 0#32
  let c1_i32_7 : BitVec 32 := 1#32
  let arg9 : BitVec 32 := Scf.iv c0_i32 c1_i32_7 k0_t1
  let v128 : Index := Scalar.indexCast arg9
  let c0_54 : Index := 0#32
  let c0_55 : Index := 0#32
  ![0, v128.toNat, 0, 0]
@[reducible] def k0_t2_loop (i : grid0.Coords) : Scf.Loop 32 :=
  let c0_i32 : BitVec 32 := 0#32
  let arg1 : BitVec 32 := BitVec.ofNat 32 (i 1).val
  let v9 : BitVec 32 := Scalar.subi arg1 c0_i32
  let c1_i32 : BitVec 32 := 1#32
  let v11 : BitVec 32 := Scalar.divsi v9 c1_i32
  let v12 : BitVec 32 := Scalar.muli v11 c1_i32
  let v13 : BitVec 32 := Scalar.addi c0_i32 v12
  let v10 : BitVec 32 := Scalar.addi c0_i32 v9
  let c1_i32_8 : BitVec 32 := 1#32
  ⟨v13, v10, c1_i32_8⟩
def k0_mult2 (i : grid0.Coords) (k0_t2 : Fin (k0_t2_loop i).trips) : BitVec 32 :=
  let c0_i32 : BitVec 32 := 0#32
  let arg1 : BitVec 32 := BitVec.ofNat 32 (i 1).val
  let v9 : BitVec 32 := Scalar.subi arg1 c0_i32
  let c1_i32 : BitVec 32 := 1#32
  let v11 : BitVec 32 := Scalar.divsi v9 c1_i32
  let v12 : BitVec 32 := Scalar.muli v11 c1_i32
  let v13 : BitVec 32 := Scalar.addi c0_i32 v12
  let c1_i32_8 : BitVec 32 := 1#32
  let arg9 : BitVec 32 := Scf.iv v13 c1_i32_8 k0_t2
  let c1024_i32_51 : BitVec 32 := 1024#32
  let v124 : BitVec 32 := Scalar.muli arg9 c1024_i32_51
  v124
def k0_off3 (i : grid0.Coords) (k0_t2 : Fin (k0_t2_loop i).trips) : Fin 2 → Nat :=
  let c0_i32 : BitVec 32 := 0#32
  let arg1 : BitVec 32 := BitVec.ofNat 32 (i 1).val
  let v9 : BitVec 32 := Scalar.subi arg1 c0_i32
  let c1_i32 : BitVec 32 := 1#32
  let v11 : BitVec 32 := Scalar.divsi v9 c1_i32
  let v12 : BitVec 32 := Scalar.muli v11 c1_i32
  let v13 : BitVec 32 := Scalar.addi c0_i32 v12
  let c1_i32_8 : BitVec 32 := 1#32
  let arg9 : BitVec 32 := Scf.iv v13 c1_i32_8 k0_t2
  let c1024_i32_51 : BitVec 32 := 1024#32
  let v124 : BitVec 32 := Scalar.muli arg9 c1024_i32_51
  let v125 : BitVec 32 := v124
  let v126 : Index := Scalar.indexCast v125
  let c0_52 : Index := 0#32
  ![v126.toNat, 0]
def k0_off4 (i : grid0.Coords) (k0_t2 : Fin (k0_t2_loop i).trips) : Fin 4 → Nat :=
  let c0_53 : Index := 0#32
  let c0_i32 : BitVec 32 := 0#32
  let arg1 : BitVec 32 := BitVec.ofNat 32 (i 1).val
  let v9 : BitVec 32 := Scalar.subi arg1 c0_i32
  let c1_i32 : BitVec 32 := 1#32
  let v11 : BitVec 32 := Scalar.divsi v9 c1_i32
  let v12 : BitVec 32 := Scalar.muli v11 c1_i32
  let v13 : BitVec 32 := Scalar.addi c0_i32 v12
  let c1_i32_8 : BitVec 32 := 1#32
  let arg9 : BitVec 32 := Scf.iv v13 c1_i32_8 k0_t2
  let v128 : Index := Scalar.indexCast arg9
  let c0_54 : Index := 0#32
  let c0_55 : Index := 0#32
  ![0, v128.toNat, 0, 0]
def k0_mult3 (i : grid0.Coords) : BitVec 32 :=
  let arg1 : BitVec 32 := BitVec.ofNat 32 (i 1).val
  let c1024_i32 : BitVec 32 := 1024#32
  let v16 : BitVec 32 := Scalar.muli arg1 c1024_i32
  v16
def k0_off5 (i : grid0.Coords) : Fin 2 → Nat :=
  let arg1 : BitVec 32 := BitVec.ofNat 32 (i 1).val
  let c1024_i32 : BitVec 32 := 1024#32
  let v16 : BitVec 32 := Scalar.muli arg1 c1024_i32
  let v17 : BitVec 32 := v16
  let v18 : Index := Scalar.indexCast v17
  let c0_9 : Index := 0#32
  ![v18.toNat, 0]
def k0_off6 (i : grid0.Coords) : Fin 4 → Nat :=
  let c0_10 : Index := 0#32
  let arg1 : BitVec 32 := BitVec.ofNat 32 (i 1).val
  let v20 : Index := Scalar.indexCast arg1
  let c0_11 : Index := 0#32
  let c0_12 : Index := 0#32
  ![0, v20.toNat, 0, 0]
@[reducible] def k0_t3_loop (i : grid0.Coords) : Scf.Loop 32 :=
  let c0_i32_31 : BitVec 32 := 0#32
  let arg1 : BitVec 32 := BitVec.ofNat 32 (i 1).val
  let v71 : BitVec 32 := Scalar.subi arg1 c0_i32_31
  let c1_i32_32 : BitVec 32 := 1#32
  let v73 : BitVec 32 := Scalar.divsi v71 c1_i32_32
  let v74 : BitVec 32 := Scalar.muli v73 c1_i32_32
  let v75 : BitVec 32 := Scalar.addi c0_i32_31 v74
  let c1_i32_33 : BitVec 32 := 1#32
  ⟨c0_i32_31, v75, c1_i32_33⟩
def k0_mult4 (i : grid0.Coords) (k0_t3 : Fin (k0_t3_loop i).trips) : BitVec 32 :=
  let c0_i32_31 : BitVec 32 := 0#32
  let c1_i32_33 : BitVec 32 := 1#32
  let arg9 : BitVec 32 := Scf.iv c0_i32_31 c1_i32_33 k0_t3
  let c1024_i32_51 : BitVec 32 := 1024#32
  let v124 : BitVec 32 := Scalar.muli arg9 c1024_i32_51
  v124
def k0_off7 (i : grid0.Coords) (k0_t3 : Fin (k0_t3_loop i).trips) : Fin 2 → Nat :=
  let c0_i32_31 : BitVec 32 := 0#32
  let c1_i32_33 : BitVec 32 := 1#32
  let arg9 : BitVec 32 := Scf.iv c0_i32_31 c1_i32_33 k0_t3
  let c1024_i32_51 : BitVec 32 := 1024#32
  let v124 : BitVec 32 := Scalar.muli arg9 c1024_i32_51
  let v125 : BitVec 32 := v124
  let v126 : Index := Scalar.indexCast v125
  let c64_52 : Index := 64#32
  ![v126.toNat, 64]
def k0_off8 (i : grid0.Coords) (k0_t3 : Fin (k0_t3_loop i).trips) : Fin 4 → Nat :=
  let c1_53 : Index := 1#32
  let c0_i32_31 : BitVec 32 := 0#32
  let c1_i32_33 : BitVec 32 := 1#32
  let arg9 : BitVec 32 := Scf.iv c0_i32_31 c1_i32_33 k0_t3
  let v128 : Index := Scalar.indexCast arg9
  let c0_54 : Index := 0#32
  let c0_55 : Index := 0#32
  ![1, v128.toNat, 0, 0]
@[reducible] def k0_t4_loop (i : grid0.Coords) : Scf.Loop 32 :=
  let c0_i32_31 : BitVec 32 := 0#32
  let arg1 : BitVec 32 := BitVec.ofNat 32 (i 1).val
  let v71 : BitVec 32 := Scalar.subi arg1 c0_i32_31
  let c1_i32_32 : BitVec 32 := 1#32
  let v73 : BitVec 32 := Scalar.divsi v71 c1_i32_32
  let v74 : BitVec 32 := Scalar.muli v73 c1_i32_32
  let v75 : BitVec 32 := Scalar.addi c0_i32_31 v74
  let v72 : BitVec 32 := Scalar.addi c0_i32_31 v71
  let c1_i32_34 : BitVec 32 := 1#32
  ⟨v75, v72, c1_i32_34⟩
def k0_mult5 (i : grid0.Coords) (k0_t4 : Fin (k0_t4_loop i).trips) : BitVec 32 :=
  let c0_i32_31 : BitVec 32 := 0#32
  let arg1 : BitVec 32 := BitVec.ofNat 32 (i 1).val
  let v71 : BitVec 32 := Scalar.subi arg1 c0_i32_31
  let c1_i32_32 : BitVec 32 := 1#32
  let v73 : BitVec 32 := Scalar.divsi v71 c1_i32_32
  let v74 : BitVec 32 := Scalar.muli v73 c1_i32_32
  let v75 : BitVec 32 := Scalar.addi c0_i32_31 v74
  let c1_i32_34 : BitVec 32 := 1#32
  let arg9 : BitVec 32 := Scf.iv v75 c1_i32_34 k0_t4
  let c1024_i32_51 : BitVec 32 := 1024#32
  let v124 : BitVec 32 := Scalar.muli arg9 c1024_i32_51
  v124
def k0_off9 (i : grid0.Coords) (k0_t4 : Fin (k0_t4_loop i).trips) : Fin 2 → Nat :=
  let c0_i32_31 : BitVec 32 := 0#32
  let arg1 : BitVec 32 := BitVec.ofNat 32 (i 1).val
  let v71 : BitVec 32 := Scalar.subi arg1 c0_i32_31
  let c1_i32_32 : BitVec 32 := 1#32
  let v73 : BitVec 32 := Scalar.divsi v71 c1_i32_32
  let v74 : BitVec 32 := Scalar.muli v73 c1_i32_32
  let v75 : BitVec 32 := Scalar.addi c0_i32_31 v74
  let c1_i32_34 : BitVec 32 := 1#32
  let arg9 : BitVec 32 := Scf.iv v75 c1_i32_34 k0_t4
  let c1024_i32_51 : BitVec 32 := 1024#32
  let v124 : BitVec 32 := Scalar.muli arg9 c1024_i32_51
  let v125 : BitVec 32 := v124
  let v126 : Index := Scalar.indexCast v125
  let c64_52 : Index := 64#32
  ![v126.toNat, 64]
def k0_off10 (i : grid0.Coords) (k0_t4 : Fin (k0_t4_loop i).trips) : Fin 4 → Nat :=
  let c1_53 : Index := 1#32
  let c0_i32_31 : BitVec 32 := 0#32
  let arg1 : BitVec 32 := BitVec.ofNat 32 (i 1).val
  let v71 : BitVec 32 := Scalar.subi arg1 c0_i32_31
  let c1_i32_32 : BitVec 32 := 1#32
  let v73 : BitVec 32 := Scalar.divsi v71 c1_i32_32
  let v74 : BitVec 32 := Scalar.muli v73 c1_i32_32
  let v75 : BitVec 32 := Scalar.addi c0_i32_31 v74
  let c1_i32_34 : BitVec 32 := 1#32
  let arg9 : BitVec 32 := Scf.iv v75 c1_i32_34 k0_t4
  let v128 : Index := Scalar.indexCast arg9
  let c0_54 : Index := 0#32
  let c0_55 : Index := 0#32
  ![1, v128.toNat, 0, 0]
def k0_mult6 (i : grid0.Coords) : BitVec 32 :=
  let arg1 : BitVec 32 := BitVec.ofNat 32 (i 1).val
  let c1024_i32_35 : BitVec 32 := 1024#32
  let v78 : BitVec 32 := Scalar.muli arg1 c1024_i32_35
  v78
def k0_off11 (i : grid0.Coords) : Fin 2 → Nat :=
  let arg1 : BitVec 32 := BitVec.ofNat 32 (i 1).val
  let c1024_i32_35 : BitVec 32 := 1024#32
  let v78 : BitVec 32 := Scalar.muli arg1 c1024_i32_35
  let v79 : BitVec 32 := v78
  let v80 : Index := Scalar.indexCast v79
  let c64_36 : Index := 64#32
  ![v80.toNat, 64]
def k0_off12 (i : grid0.Coords) : Fin 4 → Nat :=
  let c1_37 : Index := 1#32
  let arg1 : BitVec 32 := BitVec.ofNat 32 (i 1).val
  let v82 : Index := Scalar.indexCast arg1
  let c0_38 : Index := 0#32
  let c0_39 : Index := 0#32
  ![1, v82.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x2x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![8, 2], ![false, false]⟩

@[reducible] def k1_t1_loop (i : grid1.Coords) : Scf.Loop 32 :=
  let c0_i32_29 : BitVec 32 := 0#32
  let arg1 : BitVec 32 := BitVec.ofNat 32 (i 1).val
  let v37 : BitVec 32 := Scalar.subi arg1 c0_i32_29
  let c1_i32 : BitVec 32 := 1#32
  let v39 : BitVec 32 := Scalar.divsi v37 c1_i32
  let v40 : BitVec 32 := Scalar.muli v39 c1_i32
  let v41 : BitVec 32 := Scalar.addi c0_i32_29 v40
  let c1_i32_30 : BitVec 32 := 1#32
  ⟨c0_i32_29, v41, c1_i32_30⟩
def k1_mult1 (i : grid1.Coords) (k1_t1 : Fin (k1_t1_loop i).trips) : BitVec 32 :=
  let c0_i32_29 : BitVec 32 := 0#32
  let c1_i32_30 : BitVec 32 := 1#32
  let arg15 : BitVec 32 := Scf.iv c0_i32_29 c1_i32_30 k1_t1
  let c1024_i32_83 : BitVec 32 := 1024#32
  let v162 : BitVec 32 := Scalar.muli arg15 c1024_i32_83
  v162
def k1_off1 (i : grid1.Coords) (k1_t1 : Fin (k1_t1_loop i).trips) : Fin 2 → Nat :=
  let c0_i32_29 : BitVec 32 := 0#32
  let c1_i32_30 : BitVec 32 := 1#32
  let arg15 : BitVec 32 := Scf.iv c0_i32_29 c1_i32_30 k1_t1
  let c1024_i32_83 : BitVec 32 := 1024#32
  let v162 : BitVec 32 := Scalar.muli arg15 c1024_i32_83
  let v163 : BitVec 32 := v162
  let v164 : Index := Scalar.indexCast v163
  let c0_84 : Index := 0#32
  ![v164.toNat, 0]
def k1_off2 (i : grid1.Coords) (k1_t1 : Fin (k1_t1_loop i).trips) : Fin 4 → Nat :=
  let c0_85 : Index := 0#32
  let c0_i32_29 : BitVec 32 := 0#32
  let c1_i32_30 : BitVec 32 := 1#32
  let arg15 : BitVec 32 := Scf.iv c0_i32_29 c1_i32_30 k1_t1
  let v166 : Index := Scalar.indexCast arg15
  let c0_86 : Index := 0#32
  let c0_87 : Index := 0#32
  ![0, v166.toNat, 0, 0]
def k1_off3 (i : grid1.Coords) (k1_t1 : Fin (k1_t1_loop i).trips) : Fin 2 → Nat :=
  let c0_i32_29 : BitVec 32 := 0#32
  let c1_i32_30 : BitVec 32 := 1#32
  let arg15 : BitVec 32 := Scf.iv c0_i32_29 c1_i32_30 k1_t1
  let c1024_i32_83 : BitVec 32 := 1024#32
  let v162 : BitVec 32 := Scalar.muli arg15 c1024_i32_83
  let v163 : BitVec 32 := v162
  let v205 : Index := Scalar.indexCast v163
  let c64_102 : Index := 64#32
  ![v205.toNat, 64]
def k1_off4 (i : grid1.Coords) (k1_t1 : Fin (k1_t1_loop i).trips) : Fin 4 → Nat :=
  let c1_103 : Index := 1#32
  let c0_i32_29 : BitVec 32 := 0#32
  let c1_i32_30 : BitVec 32 := 1#32
  let arg15 : BitVec 32 := Scf.iv c0_i32_29 c1_i32_30 k1_t1
  let v207 : Index := Scalar.indexCast arg15
  let c0_104 : Index := 0#32
  let c0_105 : Index := 0#32
  ![1, v207.toNat, 0, 0]
def k1_off5 (i : grid1.Coords) (k1_t1 : Fin (k1_t1_loop i).trips) : Fin 2 → Nat :=
  let c0_i32_29 : BitVec 32 := 0#32
  let c1_i32_30 : BitVec 32 := 1#32
  let arg15 : BitVec 32 := Scf.iv c0_i32_29 c1_i32_30 k1_t1
  let c1024_i32_83 : BitVec 32 := 1024#32
  let v162 : BitVec 32 := Scalar.muli arg15 c1024_i32_83
  let v163 : BitVec 32 := v162
  let v246 : Index := Scalar.indexCast v163
  let c0_120 : Index := 0#32
  ![v246.toNat, 0]
@[reducible] def k1_t2_loop (i : grid1.Coords) : Scf.Loop 32 :=
  let c0_i32_29 : BitVec 32 := 0#32
  let arg1 : BitVec 32 := BitVec.ofNat 32 (i 1).val
  let v37 : BitVec 32 := Scalar.subi arg1 c0_i32_29
  let c1_i32 : BitVec 32 := 1#32
  let v39 : BitVec 32 := Scalar.divsi v37 c1_i32
  let v40 : BitVec 32 := Scalar.muli v39 c1_i32
  let v41 : BitVec 32 := Scalar.addi c0_i32_29 v40
  let v38 : BitVec 32 := Scalar.addi c0_i32_29 v37
  let c1_i32_31 : BitVec 32 := 1#32
  ⟨v41, v38, c1_i32_31⟩
def k1_mult2 (i : grid1.Coords) (k1_t2 : Fin (k1_t2_loop i).trips) : BitVec 32 :=
  let c0_i32_29 : BitVec 32 := 0#32
  let arg1 : BitVec 32 := BitVec.ofNat 32 (i 1).val
  let v37 : BitVec 32 := Scalar.subi arg1 c0_i32_29
  let c1_i32 : BitVec 32 := 1#32
  let v39 : BitVec 32 := Scalar.divsi v37 c1_i32
  let v40 : BitVec 32 := Scalar.muli v39 c1_i32
  let v41 : BitVec 32 := Scalar.addi c0_i32_29 v40
  let c1_i32_31 : BitVec 32 := 1#32
  let arg15 : BitVec 32 := Scf.iv v41 c1_i32_31 k1_t2
  let c1024_i32_83 : BitVec 32 := 1024#32
  let v162 : BitVec 32 := Scalar.muli arg15 c1024_i32_83
  v162
def k1_off6 (i : grid1.Coords) (k1_t2 : Fin (k1_t2_loop i).trips) : Fin 2 → Nat :=
  let c0_i32_29 : BitVec 32 := 0#32
  let arg1 : BitVec 32 := BitVec.ofNat 32 (i 1).val
  let v37 : BitVec 32 := Scalar.subi arg1 c0_i32_29
  let c1_i32 : BitVec 32 := 1#32
  let v39 : BitVec 32 := Scalar.divsi v37 c1_i32
  let v40 : BitVec 32 := Scalar.muli v39 c1_i32
  let v41 : BitVec 32 := Scalar.addi c0_i32_29 v40
  let c1_i32_31 : BitVec 32 := 1#32
  let arg15 : BitVec 32 := Scf.iv v41 c1_i32_31 k1_t2
  let c1024_i32_83 : BitVec 32 := 1024#32
  let v162 : BitVec 32 := Scalar.muli arg15 c1024_i32_83
  let v163 : BitVec 32 := v162
  let v164 : Index := Scalar.indexCast v163
  let c0_84 : Index := 0#32
  ![v164.toNat, 0]
def k1_off7 (i : grid1.Coords) (k1_t2 : Fin (k1_t2_loop i).trips) : Fin 4 → Nat :=
  let c0_85 : Index := 0#32
  let c0_i32_29 : BitVec 32 := 0#32
  let arg1 : BitVec 32 := BitVec.ofNat 32 (i 1).val
  let v37 : BitVec 32 := Scalar.subi arg1 c0_i32_29
  let c1_i32 : BitVec 32 := 1#32
  let v39 : BitVec 32 := Scalar.divsi v37 c1_i32
  let v40 : BitVec 32 := Scalar.muli v39 c1_i32
  let v41 : BitVec 32 := Scalar.addi c0_i32_29 v40
  let c1_i32_31 : BitVec 32 := 1#32
  let arg15 : BitVec 32 := Scf.iv v41 c1_i32_31 k1_t2
  let v166 : Index := Scalar.indexCast arg15
  let c0_86 : Index := 0#32
  let c0_87 : Index := 0#32
  ![0, v166.toNat, 0, 0]
def k1_off8 (i : grid1.Coords) (k1_t2 : Fin (k1_t2_loop i).trips) : Fin 2 → Nat :=
  let c0_i32_29 : BitVec 32 := 0#32
  let arg1 : BitVec 32 := BitVec.ofNat 32 (i 1).val
  let v37 : BitVec 32 := Scalar.subi arg1 c0_i32_29
  let c1_i32 : BitVec 32 := 1#32
  let v39 : BitVec 32 := Scalar.divsi v37 c1_i32
  let v40 : BitVec 32 := Scalar.muli v39 c1_i32
  let v41 : BitVec 32 := Scalar.addi c0_i32_29 v40
  let c1_i32_31 : BitVec 32 := 1#32
  let arg15 : BitVec 32 := Scf.iv v41 c1_i32_31 k1_t2
  let c1024_i32_83 : BitVec 32 := 1024#32
  let v162 : BitVec 32 := Scalar.muli arg15 c1024_i32_83
  let v163 : BitVec 32 := v162
  let v205 : Index := Scalar.indexCast v163
  let c64_102 : Index := 64#32
  ![v205.toNat, 64]
def k1_off9 (i : grid1.Coords) (k1_t2 : Fin (k1_t2_loop i).trips) : Fin 4 → Nat :=
  let c1_103 : Index := 1#32
  let c0_i32_29 : BitVec 32 := 0#32
  let arg1 : BitVec 32 := BitVec.ofNat 32 (i 1).val
  let v37 : BitVec 32 := Scalar.subi arg1 c0_i32_29
  let c1_i32 : BitVec 32 := 1#32
  let v39 : BitVec 32 := Scalar.divsi v37 c1_i32
  let v40 : BitVec 32 := Scalar.muli v39 c1_i32
  let v41 : BitVec 32 := Scalar.addi c0_i32_29 v40
  let c1_i32_31 : BitVec 32 := 1#32
  let arg15 : BitVec 32 := Scf.iv v41 c1_i32_31 k1_t2
  let v207 : Index := Scalar.indexCast arg15
  let c0_104 : Index := 0#32
  let c0_105 : Index := 0#32
  ![1, v207.toNat, 0, 0]
def k1_off10 (i : grid1.Coords) (k1_t2 : Fin (k1_t2_loop i).trips) : Fin 2 → Nat :=
  let c0_i32_29 : BitVec 32 := 0#32
  let arg1 : BitVec 32 := BitVec.ofNat 32 (i 1).val
  let v37 : BitVec 32 := Scalar.subi arg1 c0_i32_29
  let c1_i32 : BitVec 32 := 1#32
  let v39 : BitVec 32 := Scalar.divsi v37 c1_i32
  let v40 : BitVec 32 := Scalar.muli v39 c1_i32
  let v41 : BitVec 32 := Scalar.addi c0_i32_29 v40
  let c1_i32_31 : BitVec 32 := 1#32
  let arg15 : BitVec 32 := Scf.iv v41 c1_i32_31 k1_t2
  let c1024_i32_83 : BitVec 32 := 1024#32
  let v162 : BitVec 32 := Scalar.muli arg15 c1024_i32_83
  let v163 : BitVec 32 := v162
  let v246 : Index := Scalar.indexCast v163
  let c0_120 : Index := 0#32
  ![v246.toNat, 0]
def k1_mult3 (i : grid1.Coords) : BitVec 32 :=
  let arg1 : BitVec 32 := BitVec.ofNat 32 (i 1).val
  let c1024_i32 : BitVec 32 := 1024#32
  let v44 : BitVec 32 := Scalar.muli arg1 c1024_i32
  v44
def k1_off11 (i : grid1.Coords) : Fin 2 → Nat :=
  let arg1 : BitVec 32 := BitVec.ofNat 32 (i 1).val
  let c1024_i32 : BitVec 32 := 1024#32
  let v44 : BitVec 32 := Scalar.muli arg1 c1024_i32
  let v45 : BitVec 32 := v44
  let v46 : Index := Scalar.indexCast v45
  let c0_32 : Index := 0#32
  ![v46.toNat, 0]
def k1_off12 (i : grid1.Coords) : Fin 4 → Nat :=
  let c0_33 : Index := 0#32
  let arg1 : BitVec 32 := BitVec.ofNat 32 (i 1).val
  let v48 : Index := Scalar.indexCast arg1
  let c0_34 : Index := 0#32
  let c0_35 : Index := 0#32
  ![0, v48.toNat, 0, 0]
def k1_off13 (i : grid1.Coords) : Fin 2 → Nat :=
  let arg1 : BitVec 32 := BitVec.ofNat 32 (i 1).val
  let c1024_i32 : BitVec 32 := 1024#32
  let v44 : BitVec 32 := Scalar.muli arg1 c1024_i32
  let v45 : BitVec 32 := v44
  let v92 : Index := Scalar.indexCast v45
  let c64_51 : Index := 64#32
  ![v92.toNat, 64]
def k1_off14 (i : grid1.Coords) : Fin 4 → Nat :=
  let c1_52 : Index := 1#32
  let arg1 : BitVec 32 := BitVec.ofNat 32 (i 1).val
  let v94 : Index := Scalar.indexCast arg1
  let c0_53 : Index := 0#32
  let c0_54 : Index := 0#32
  ![1, v94.toNat, 0, 0]
def k1_off15 (i : grid1.Coords) : Fin 2 → Nat :=
  let arg1 : BitVec 32 := BitVec.ofNat 32 (i 1).val
  let c1024_i32 : BitVec 32 := 1024#32
  let v44 : BitVec 32 := Scalar.muli arg1 c1024_i32
  let v45 : BitVec 32 := v44
  let v138 : Index := Scalar.indexCast v45
  let c0_70 : Index := 0#32
  ![v138.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_12 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2x1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S2x2x1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S2x1024x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1024x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1024x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S2048x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S2048x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev stage1_11 : Fin 2 → Memref sig .tc .vmem S2x1024x1 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S2x2x1x1024 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, false]
-- ==== KernelIdeal.lean ====
variable {F : FTy → Type} [FloatOps F] [Named F]
def κ : String → Option EReal := fun
  | "mask" => some ⊥
  | _ => none
-- ==== ReferenceIdeal.lean ====
abbrev S2048x1024 : Shape := ⟨2, ![2048, 1024]⟩
abbrev S16x2048 : Shape := ⟨2, ![16, 2048]⟩
abbrev S2048x16x64 : Shape := ⟨3, ![2048, 16, 64]⟩
abbrev S16x2048x64 : Shape := ⟨3, ![16, 2048, 64]⟩
abbrev S16x2048x2048 : Shape := ⟨3, ![16, 2048, 2048]⟩
abbrev S_ : Shape := ⟨0, ![]⟩
abbrev S16x2048x1 : Shape := ⟨3, ![16, 2048, 1]⟩
abbrev S16x1x2048 : Shape := ⟨3, ![16, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S16x64x2048 : Shape := ⟨3, ![16, 64, 2048]⟩
abbrev S16x2x1x1024 : Shape := ⟨4, ![16, 2, 1, 1024]⟩

abbrev nBuf : Space → Nat
  | .hbm => 121
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S16x2048, .f32⟩
  | .hbm, ⟨4, _⟩ => ⟨S2048x1024, .f32⟩
  | .hbm, ⟨5, _⟩ => ⟨S2048x16x64, .f32⟩
  | .hbm, ⟨6, _⟩ => ⟨S16x2048x64, .f32⟩
  | .hbm, ⟨7, _⟩ => ⟨S2048x16x64, .f32⟩
  | .hbm, ⟨8, _⟩ => ⟨S16x2048x64, .f32⟩
  | .hbm, ⟨9, _⟩ => ⟨S2048x16x64, .f32⟩
  | .hbm, ⟨10, _⟩ => ⟨S16x2048x64, .f32⟩
  | .hbm, ⟨11, _⟩ => ⟨S16x2048x2048, .f32⟩
  | .hbm, ⟨12, _⟩ => ⟨S_, .f32⟩
  | .hbm, ⟨13, _⟩ => ⟨S16x2048x2048, .f32⟩
  | .hbm, ⟨14, _⟩ => ⟨S16x2048x2048, .f32⟩
  | .hbm, ⟨15, _⟩ => ⟨S16x2048x1, .f32⟩
  | .hbm, ⟨16, _⟩ => ⟨S16x2048x2048, .f32⟩
  | .hbm, ⟨17, _⟩ => ⟨S16x2048x2048, .f32⟩
  | .hbm, ⟨18, _⟩ => ⟨S16x1x2048, .f32⟩
  | .hbm, ⟨19, _⟩ => ⟨S16x2048x2048, .f32⟩
  | .hbm, ⟨20, _⟩ => ⟨S16x2048x2048, .f32⟩
  | .hbm, ⟨21, _⟩ => ⟨S2048, .i32⟩
  | .hbm, ⟨22, _⟩ => ⟨S2048x1, .i32⟩
  | .hbm, ⟨23, _⟩ => ⟨S1x2048, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S_, .f32⟩
  | .hbm, ⟨28, _⟩ => ⟨S_, .f32⟩
  | .hbm, ⟨29, _⟩ => ⟨S16x2048x2048, .i1⟩
  | .hbm, ⟨30, _⟩ => ⟨S16x2048x2048, .f32⟩
  | .hbm, ⟨31, _⟩ => ⟨S16x2048x2048, .f32⟩
  | .hbm, ⟨32, _⟩ => ⟨S_, .f32⟩
  | .hbm, ⟨33, _⟩ => ⟨S16x2048x2048, .f32⟩
  | .hbm, ⟨34, _⟩ => ⟨S_, .f32⟩
  | .hbm, ⟨35, _⟩ => ⟨S16x2048, .f32⟩
  | .hbm, ⟨36, _⟩ => ⟨S16x2048x1, .f32⟩
  | .hbm, ⟨37, _⟩ => ⟨S16x2048x2048, .f32⟩
  | .hbm, ⟨38, _⟩ => ⟨S16x2048x2048, .i1⟩
  | .hbm, ⟨39, _⟩ => ⟨S16x2048x2048, .f32⟩
  | .hbm, ⟨40, _⟩ => ⟨S_, .f32⟩
  | .hbm, ⟨41, _⟩ => ⟨S16x2048, .f32⟩
  | .hbm, ⟨42, _⟩ => ⟨S_, .f32⟩
  | .hbm, ⟨43, _⟩ => ⟨S16x2048, .f32⟩
  | .hbm, ⟨44, _⟩ => ⟨S16x2048, .f32⟩
  | .hbm, ⟨45, _⟩ => ⟨S_, .f32⟩
  | .hbm, ⟨46, _⟩ => ⟨S16x2048, .f32⟩
  | .hbm, ⟨47, _⟩ => ⟨S16x2048, .i1⟩
  | .hbm, ⟨48, _⟩ => ⟨S_, .f32⟩
  | .hbm, ⟨49, _⟩ => ⟨S16x2048, .f32⟩
  | .hbm, ⟨50, _⟩ => ⟨S16x2048, .i1⟩
  | .hbm, ⟨51, _⟩ => ⟨S_, .f32⟩
  | .hbm, ⟨52, _⟩ => ⟨S16x2048, .f32⟩
  | .hbm, ⟨53, _⟩ => ⟨S_, .f32⟩
  | .hbm, ⟨54, _⟩ => ⟨S16x2048, .f32⟩
  | .hbm, ⟨55, _⟩ => ⟨S_, .f32⟩
  | .hbm, ⟨56, _⟩ => ⟨S16x2048, .f32⟩
  | .hbm, ⟨57, _⟩ => ⟨S16x2048, .f32⟩
  | .hbm, ⟨58, _⟩ => ⟨S16x2048, .f32⟩
  | .hbm, ⟨59, _⟩ => ⟨S16x2048x1, .f32⟩
  | .hbm, ⟨60, _⟩ => ⟨S16x2048x2048, .f32⟩
  | .hbm, ⟨61, _⟩ => ⟨S16x2048x2048, .f32⟩
  | .hbm, ⟨62, _⟩ => ⟨S16x2048x2048, .f32⟩
  | .hbm, ⟨63, _⟩ => ⟨S_, .f32⟩
  | .hbm, ⟨64, _⟩ => ⟨S16x2048, .f32⟩
  | .hbm, ⟨65, _⟩ => ⟨S16x2048x1, .f32⟩
  | .hbm, ⟨66, _⟩ => ⟨S16x2048x2048, .f32⟩
  | .hbm, ⟨67, _⟩ => ⟨S16x2048x2048, .f32⟩
  | .hbm, ⟨68, _⟩ => ⟨S16x2048x1, .f32⟩
  | .hbm, ⟨69, _⟩ => ⟨S_, .f32⟩
  | .hbm, ⟨70, _⟩ => ⟨S16x2048x1, .f32⟩
  | .hbm, ⟨71, _⟩ => ⟨S16x2048x1, .f32⟩
  | .hbm, ⟨72, _⟩ => ⟨S16x2048x64, .f32⟩
  | .hbm, ⟨73, _⟩ => ⟨S2048x16x64, .f32⟩
  | .hbm, ⟨74, _⟩ => ⟨S2048x1024, .f32⟩
  | .hbm, ⟨75, _⟩ => ⟨S2048x16x64, .f32⟩
  | .hbm, ⟨76, _⟩ => ⟨S16x2048x64, .f32⟩
  | .hbm, ⟨77, _⟩ => ⟨S16x64x2048, .f32⟩
  | .hbm, ⟨78, _⟩ => ⟨S16x2048x64, .f32⟩
  | .hbm, ⟨79, _⟩ => ⟨S16x2048x2048, .f32⟩
  | .hbm, ⟨80, _⟩ => ⟨S16x2048x2048, .f32⟩
  | .hbm, ⟨81, _⟩ => ⟨S16x2048x2048, .f32⟩
  | .hbm, ⟨82, _⟩ => ⟨S16x2048x2048, .f32⟩
  | .hbm, ⟨83, _⟩ => ⟨S_, .f32⟩
  | .hbm, ⟨84, _⟩ => ⟨S16x2048, .f32⟩
  | .hbm, ⟨85, _⟩ => ⟨S16x2048x1, .f32⟩
  | .hbm, ⟨86, _⟩ => ⟨S16x2048x1, .f32⟩
  | .hbm, ⟨87, _⟩ => ⟨S16x2048x2048, .f32⟩
  | .hbm, ⟨88, _⟩ => ⟨S16x2048x2048, .f32⟩
  | .hbm, ⟨89, _⟩ => ⟨S_, .f32⟩
  | .hbm, ⟨90, _⟩ => ⟨S16x2048, .f32⟩
  | .hbm, ⟨91, _⟩ => ⟨S16x2048x2048, .f32⟩
  | .hbm, ⟨92, _⟩ => ⟨S16x2048x2048, .f32⟩
  | .hbm, ⟨93, _⟩ => ⟨S16x2048x2048, .f32⟩
  | .hbm, ⟨94, _⟩ => ⟨S_, .f32⟩
  | .hbm, ⟨95, _⟩ => ⟨S16x2048x2048, .f32⟩
  | .hbm, ⟨96, _⟩ => ⟨S16x2048x2048, .f32⟩
  | .hbm, ⟨97, _⟩ => ⟨S16x2048x2048, .f32⟩
  | .hbm, ⟨98, _⟩ => ⟨S_, .f32⟩
  | .hbm, ⟨99, _⟩ => ⟨S16x2048, .f32⟩
  | .hbm, ⟨100, _⟩ => ⟨S16x1x2048, .f32⟩
  | .hbm, ⟨101, _⟩ => ⟨S_, .f32⟩
  | .hbm, ⟨102, _⟩ => ⟨S16x2048, .f32⟩
  | .hbm, ⟨103, _⟩ => ⟨S_, .f32⟩
  | .hbm, ⟨104, _⟩ => ⟨S16x2048, .f32⟩
  | .hbm, ⟨105, _⟩ => ⟨S16x2048x1, .f32⟩
  | .hbm, ⟨106, _⟩ => ⟨S_, .f32⟩
  | .hbm, ⟨107, _⟩ => ⟨S16x2048, .f32⟩
  | .hbm, ⟨108, _⟩ => ⟨S_, .f32⟩
  | .hbm, ⟨109, _⟩ => ⟨S16x2048x2048, .f32⟩
  | .hbm, ⟨110, _⟩ => ⟨S16x2048x2048, .f32⟩
  | .hbm, ⟨111, _⟩ => ⟨S16x2048x64, .f32⟩
  | .hbm, ⟨112, _⟩ => ⟨S16x2048x64, .f32⟩
  | .hbm, ⟨113, _⟩ => ⟨S2048x16x64, .f32⟩
  | .hbm, ⟨114, _⟩ => ⟨S2048x1024, .f32⟩
  | .hbm, ⟨115, _⟩ => ⟨S2048x16x64, .f32⟩
  | .hbm, ⟨116, _⟩ => ⟨S2048x1024, .f32⟩
  | .hbm, ⟨117, _⟩ => ⟨S2048x16x64, .f32⟩
  | .hbm, ⟨118, _⟩ => ⟨S2048x1024, .f32⟩
  | .hbm, ⟨119, _⟩ => ⟨S16x2048x1, .f32⟩
  | .hbm, ⟨120, _⟩ => ⟨S16x2x1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_call0_v0 : Ref sig .tc := ⟨.hbm, 28, rfl⟩
abbrev main_v21_1 : Ref sig .tc := ⟨.hbm, 29, rfl⟩
abbrev main_call0_v2 : Ref sig .tc := ⟨.hbm, 30, rfl⟩
abbrev main_v21_0 : Ref sig .tc := ⟨.hbm, 31, rfl⟩
abbrev main_call0_cst : Ref sig .tc := ⟨.hbm, 32, rfl⟩
abbrev main_v21_2 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_12 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_call1_cst : Ref sig .tc := ⟨.hbm, 94, rfl⟩
abbrev main_call1_v0 : Ref sig .tc := ⟨.hbm, 95, rfl⟩
abbrev main_v70 : Ref sig .tc := ⟨.hbm, 96, rfl⟩
abbrev main_v71 : Ref sig .tc := ⟨.hbm, 97, rfl⟩
abbrev main_cst_13 : Ref sig .tc := ⟨.hbm, 98, rfl⟩
abbrev main_v72 : Ref sig .tc := ⟨.hbm, 99, rfl⟩
abbrev main_v73 : Ref sig .tc := ⟨.hbm, 100, rfl⟩
abbrev main_cst_14 : Ref sig .tc := ⟨.hbm, 101, rfl⟩
abbrev main_v74 : Ref sig .tc := ⟨.hbm, 102, rfl⟩
abbrev main_cst_15 : Ref sig .tc := ⟨.hbm, 103, rfl⟩
abbrev main_v75 : Ref sig .tc := ⟨.hbm, 104, rfl⟩
abbrev main_v76 : Ref sig .tc := ⟨.hbm, 105, rfl⟩
abbrev main_cst_16 : Ref sig .tc := ⟨.hbm, 106, rfl⟩
abbrev main_v77 : Ref sig .tc := ⟨.hbm, 107, rfl⟩
abbrev main_cst_17 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩

abbrev nD : Nat := 1
abbrev τ : Topo := Topo.v7x

variable {F : FTy → Type} [FloatOps F]
-- ==== Kernel2.lean ====
abbrev S2048x2048 : Shape := ⟨2, ![2048, 2048]⟩
abbrev S2048x5632 : Shape := ⟨2, ![2048, 5632]⟩
abbrev S5632x2048 : Shape := ⟨2, ![5632, 2048]⟩
abbrev S2048x4x1408 : Shape := ⟨3, ![2048, 4, 1408]⟩
abbrev S4x2048x1408 : Shape := ⟨3, ![4, 2048, 1408]⟩
abbrev S512x2048 : Shape := ⟨2, ![512, 2048]⟩
abbrev S1x2048x1408 : Shape := ⟨3, ![1, 2048, 1408]⟩
abbrev S512x1408 : Shape := ⟨2, ![512, 1408]⟩
abbrev S2048x1408 : Shape := ⟨2, ![2048, 1408]⟩
abbrev S2048x1024 : Shape := ⟨2, ![2048, 1024]⟩
abbrev S1408x1024 : Shape := ⟨2, ![1408, 1024]⟩
abbrev S1408x2048 : Shape := ⟨2, ![1408, 2048]⟩
abbrev S1x1024x1408 : Shape := ⟨3, ![1, 1024, 1408]⟩
abbrev S1024x1408 : Shape := ⟨2, ![1024, 1408]⟩

abbrev nBuf : Space → Nat
  | .hbm => 22
  | .vmem => 42
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048x2048, .f32⟩
  | .hbm, ⟨5, _⟩ => ⟨S2048x2048, .bf16⟩
  | .hbm, ⟨6, _⟩ => ⟨S2048x2048, .bf16⟩
  | .hbm, ⟨7, _⟩ => ⟨S2048x4x1408, .f32⟩
  | .hbm, ⟨8, _⟩ => ⟨S4x2048x1408, .f32⟩
  | .hbm, ⟨9, _⟩ => ⟨S4x2048x1408, .bf16⟩
  | .hbm, ⟨10, _⟩ => ⟨S2048x4x1408, .f32⟩
  | .hbm, ⟨11, _⟩ => ⟨S4x2048x1408, .f32⟩
  | .hbm, ⟨12, _⟩ => ⟨S4x2048x1408, .bf16⟩
  | .hbm, ⟨13, _⟩ => ⟨S5632x2048, .bf16⟩
  | .hbm, ⟨14, _⟩ => ⟨S2048x5632, .bf16⟩
  | .hbm, ⟨15, _⟩ => ⟨S2048x5632, .bf16⟩
  | .hbm, ⟨16, _⟩ => ⟨S2048x5632, .bf16⟩
  | .hbm, ⟨17, _⟩ => ⟨S5632x2048, .bf16⟩
  | .hbm, ⟨18, _⟩ => ⟨S2048x5632, .bf16⟩
  | .hbm, ⟨19, _⟩ => ⟨S2048x5632, .bf16⟩
  | .hbm, ⟨20, _⟩ => ⟨S4x2048x1408, .bf16⟩
  | .hbm, ⟨21, _⟩ => ⟨S4x2048x1408, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S2048x1408, .bf16⟩
  | .local _ .vmem, ⟨13, _⟩ => ⟨S2048x1408, .bf16⟩
  | .local _ .vmem, ⟨14, _⟩ => ⟨S2048x1024, .bf16⟩
  | .local _ .vmem, ⟨15, _⟩ => ⟨S2048x1024, .bf16⟩
  | .local _ .vmem, ⟨16, _⟩ => ⟨S1408x1024, .bf16⟩
  | .local _ .vmem, ⟨17, _⟩ => ⟨S1408x1024, .bf16⟩
  | .local _ .vmem, ⟨18, _⟩ => ⟨S512x2048, .bf16⟩
  | .local _ .vmem, ⟨19, _⟩ => ⟨S512x2048, .bf16⟩
  | .local _ .vmem, ⟨20, _⟩ => ⟨S1408x2048, .bf16⟩
  | .local _ .vmem, ⟨21, _⟩ => ⟨S1408x2048, .bf16⟩
  | .local _ .vmem, ⟨22, _⟩ => ⟨S512x1408, .bf16⟩
  | .local _ .vmem, ⟨23, _⟩ => ⟨S512x1408, .bf16⟩
  | .local _ .vmem, ⟨24, _⟩ => ⟨S512x1408, .bf16⟩
  | .local _ .vmem, ⟨25, _⟩ => ⟨S512x1408, .bf16⟩
  | .local _ .vmem, ⟨26, _⟩ => ⟨S512x1408, .bf16⟩
  | .local _ .vmem, ⟨27, _⟩ => ⟨S512x1408, .bf16⟩
  | .local _ .vmem, ⟨28, _⟩ => ⟨S512x1408, .bf16⟩
  | .local _ .vmem, ⟨29, _⟩ => ⟨S512x1408, .bf16⟩
  | .local _ .vmem, ⟨30, _⟩ => ⟨S2048x1024, .bf16⟩
  | .local _ .vmem, ⟨31, _⟩ => ⟨S2048x1024, .bf16⟩
  | .local _ .vmem, ⟨32, _⟩ => ⟨S2048x1408, .bf16⟩
  | .local _ .vmem, ⟨33, _⟩ => ⟨S2048x1408, .bf16⟩
  | .local _ .vmem, ⟨34, _⟩ => ⟨S1x1024x1408, .bf16⟩
  | .local _ .vmem, ⟨35, _⟩ => ⟨S1x1024x1408, .bf16⟩
  | .local _ .vmem, ⟨36, _⟩ => ⟨S2048x1024, .bf16⟩
  | .local _ .vmem, ⟨37, _⟩ => ⟨S2048x1024, .bf16⟩
  | .local _ .vmem, ⟨38, _⟩ => ⟨S2048x1408, .bf16⟩
  | .local _ .vmem, ⟨39, _⟩ => ⟨S2048x1408, .bf16⟩
  | .local _ .vmem, ⟨40, _⟩ => ⟨S1x1024x1408, .bf16⟩
  | .local _ .vmem, ⟨41, _⟩ => ⟨S1x1024x1408, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![4, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1408 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1408x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1408x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S512x1408 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S512x1408 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S512x1408 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S512x1408 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨3, ![2, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2048x1408 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1x1024x1408 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 4, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage4_0 : Fin 2 → Memref sig .tc .vmem S2048x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S2048x1408 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1x1024x1408 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== Reference2Ideal.lean ====
abbrev S2048x2048 : Shape := ⟨2, ![2048, 2048]⟩
abbrev S2048x5632 : Shape := ⟨2, ![2048, 5632]⟩
abbrev S5632x2048 : Shape := ⟨2, ![5632, 2048]⟩
abbrev S_ : Shape := ⟨0, ![]⟩
abbrev S2048x4x1408 : Shape := ⟨3, ![2048, 4, 1408]⟩
abbrev S4x2048x1408 : Shape := ⟨3, ![4, 2048, 1408]⟩

abbrev nBuf : Space → Nat
  | .hbm => 48
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048x2048, .f32⟩
  | .hbm, ⟨5, _⟩ => ⟨S2048x5632, .f32⟩
  | .hbm, ⟨6, _⟩ => ⟨S2048x5632, .f32⟩
  | .hbm, ⟨7, _⟩ => ⟨S2048x5632, .f32⟩
  | .hbm, ⟨8, _⟩ => ⟨S_, .f32⟩
  | .hbm, ⟨9, _⟩ => ⟨S2048x5632, .f32⟩
  | .hbm, ⟨10, _⟩ => ⟨S2048x5632, .f32⟩
  | .hbm, ⟨11, _⟩ => ⟨S_, .f32⟩
  | .hbm, ⟨12, _⟩ => ⟨S2048x5632, .f32⟩
  | .hbm, ⟨13, _⟩ => ⟨S2048x5632, .f32⟩
  | .hbm, ⟨14, _⟩ => ⟨S_, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S2048x5632, .f32⟩
  | .hbm, ⟨29, _⟩ => ⟨S5632x2048, .f32⟩
  | .hbm, ⟨30, _⟩ => ⟨S2048x5632, .f32⟩
  | .hbm, ⟨31, _⟩ => ⟨S2048x5632, .f32⟩
  | .hbm, ⟨32, _⟩ => ⟨S2048x5632, .f32⟩
  | .hbm, ⟨33, _⟩ => ⟨S5632x2048, .f32⟩
  | .hbm, ⟨34, _⟩ => ⟨S2048x5632, .f32⟩
  | .hbm, ⟨35, _⟩ => ⟨S2048x5632, .f32⟩
  | .hbm, ⟨36, _⟩ => ⟨S2048x5632, .f32⟩
  | .hbm, ⟨37, _⟩ => ⟨S2048x5632, .f32⟩
  | .hbm, ⟨38, _⟩ => ⟨S2048x5632, .f32⟩
  | .hbm, ⟨39, _⟩ => ⟨S5632x2048, .f32⟩
  | .hbm, ⟨40, _⟩ => ⟨S2048x5632, .f32⟩
  | .hbm, ⟨41, _⟩ => ⟨S2048x4x1408, .f32⟩
  | .hbm, ⟨42, _⟩ => ⟨S4x2048x1408, .f32⟩
  | .hbm, ⟨43, _⟩ => ⟨S4x2048x1408, .bf16⟩
  | .hbm, ⟨44, _⟩ => ⟨S2048x4x1408, .f32⟩
  | .hbm, ⟨45, _⟩ => ⟨S4x2048x1408, .f32⟩
  | .hbm, ⟨46, _⟩ => ⟨S4x2048x1408, .bf16⟩
  | .hbm, ⟨47, _⟩ => ⟨S5632x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩

abbrev nD : Nat := 1
abbrev τ : Topo := Topo.v7x

variable {F : FTy → Type} [FloatOps F]
-- ==== Kernel3.lean ====
abbrev S2048x2048 : Shape := ⟨2, ![2048, 2048]⟩
abbrev S2048x4624 : Shape := ⟨2, ![2048, 4624]⟩
abbrev S2048x3088 : Shape := ⟨2, ![2048, 3088]⟩
abbrev S_ : Shape := ⟨0, ![]⟩
abbrev S2048x112 : Shape := ⟨2, ![2048, 112]⟩
abbrev S2048x1536 : Shape := ⟨2, ![2048, 1536]⟩
abbrev S2048x384 : Shape := ⟨2, ![2048, 384]⟩
abbrev S2048x5120 : Shape := ⟨2, ![2048, 5120]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 38
  | .vmem => 32
  | .smem => 0
  | _ => 0

abbrev bufTy : (tb : Table) → Fin (tcTables nBuf tb) → BufTy
  | .hbm, ⟨0, _⟩ => ⟨S2048x2048, .f32⟩
  | .hbm, ⟨1, _⟩ => ⟨S2048x4624, .f32⟩
  | .hbm, ⟨2, _⟩ => ⟨S2048x4624, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | .hbm, ⟨8, _⟩ => ⟨S2048x2048, .bf16⟩
  | .hbm, ⟨9, _⟩ => ⟨S2048x2048, .bf16⟩
  | .hbm, ⟨10, _⟩ => ⟨S2048x2048, .bf16⟩
  | .hbm, ⟨11, _⟩ => ⟨S2048x3088, .f32⟩
  | .hbm, ⟨12, _⟩ => ⟨S_, .f32⟩
  | .hbm, ⟨13, _⟩ => ⟨S2048x112, .f32⟩
  | .hbm, ⟨14, _⟩ => ⟨S2048x1536, .f32⟩
  | .hbm, ⟨15, _⟩ => ⟨S_, .f32⟩
  | .hbm, ⟨16, _⟩ => ⟨S2048x384, .f32⟩
  | .hbm, ⟨17, _⟩ => ⟨S2048x5120, .f32⟩
  | .hbm, ⟨18, _⟩ => ⟨S2048x5120, .bf16⟩
  | .hbm, ⟨19, _⟩ => ⟨S2048x5120, .f32⟩
  | .hbm, ⟨20, _⟩ => ⟨S2048x2048, .f32⟩
  | .hbm, ⟨21, _⟩ => ⟨S2048x2048, .f32⟩
  | .hbm, ⟨22, _⟩ => ⟨S2048x2048, .bf16⟩
  | .hbm, ⟨23, _⟩ => ⟨S2048x3088, .f32⟩
  | .hbm, ⟨24, _⟩ => ⟨S_, .f32⟩
  | .hbm, ⟨25, _⟩ => ⟨S2048x112, .f32⟩
  | .hbm, ⟨26, _⟩ => ⟨S2048x1536, .f32⟩
  | .hbm, ⟨27, _⟩ => ⟨S_, .f32⟩
  | .hbm, ⟨28, _⟩ => ⟨S2048x384, .f32⟩
  | .hbm, ⟨29, _⟩ => ⟨S2048x5120, .f32⟩
  | .hbm, ⟨30, _⟩ => ⟨S2048x5120, .bf16⟩
  | .hbm, ⟨31, _⟩ => ⟨S2048x5120, .bf16⟩
  | .hbm, ⟨32, _⟩ => ⟨S2048x3088, .f32⟩
  | .hbm, ⟨33, _⟩ => ⟨S2048x1536, .f32⟩
  | .hbm, ⟨34, _⟩ => ⟨S2048x4624, .f32⟩
  | .hbm, ⟨35, _⟩ => ⟨S2048x3088, .bf16⟩
  | .hbm, ⟨36, _⟩ => ⟨S2048x1536, .bf16⟩
  | .hbm, ⟨37, _⟩ => ⟨S2048x4624, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | .local _ .vmem, ⟨7, _⟩ => ⟨S1024x2048, .bf16⟩
  | .local _ .vmem, ⟨8, _⟩ => ⟨S2048x1024, .bf16⟩
  | .local _ .vmem, ⟨9, _⟩ => ⟨S2048x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x2048, .bf16⟩
  | .local _ .vmem, ⟨15, _⟩ => ⟨S1024x2048, .bf16⟩
  | .local _ .vmem, ⟨16, _⟩ => ⟨S1024x2048, .bf16⟩
  | .local _ .vmem, ⟨17, _⟩ => ⟨S1024x2048, .bf16⟩
  | .local _ .vmem, ⟨18, _⟩ => ⟨S1024x1024, .f32⟩
  | .local _ .vmem, ⟨19, _⟩ => ⟨S1024x1024, .f32⟩
  | .local _ .vmem, ⟨20, _⟩ => ⟨S2048x1024, .bf16⟩
  | .local _ .vmem, ⟨21, _⟩ => ⟨S2048x1024, .bf16⟩
  | .local _ .vmem, ⟨22, _⟩ => ⟨S2048x1024, .bf16⟩
  | .local _ .vmem, ⟨23, _⟩ => ⟨S2048x1024, .bf16⟩
  | .local _ .vmem, ⟨24, _⟩ => ⟨S1024x1024, .bf16⟩
  | .local _ .vmem, ⟨25, _⟩ => ⟨S1024x1024, .bf16⟩
  | .local _ .vmem, ⟨26, _⟩ => ⟨S2048x1024, .bf16⟩
  | .local _ .vmem, ⟨27, _⟩ => ⟨S2048x1024, .bf16⟩
  | .local _ .vmem, ⟨28, _⟩ => ⟨S2048x1024, .bf16⟩
  | .local _ .vmem, ⟨29, _⟩ => ⟨S2048x1024, .bf16⟩
  | .local _ .vmem, ⟨30, _⟩ => ⟨S1024x1024, .bf16⟩
  | .local _ .vmem, ⟨31, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31

abbrev nD : Nat := 1
abbrev τ : Topo := Topo.v7x

variable {F : FTy → Type} [FloatOps F]

abbrev grid0 : Pipeline.Grid := ⟨3, ![2, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![2, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 5, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S2048x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S2048x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== Reference3Ideal.lean ====
abbrev S2048x2048 : Shape := ⟨2, ![2048, 2048]⟩
abbrev S2048x4624 : Shape := ⟨2, ![2048, 4624]⟩
abbrev S4624x2048 : Shape := ⟨2, ![4624, 2048]⟩

abbrev nBuf : Space → Nat
  | .hbm => 17
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x4624, .f32⟩
  | .hbm, ⟨2, _⟩ => ⟨S2048x4624, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x4624, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .bf16⟩
  | .hbm, ⟨14, _⟩ => ⟨S4624x2048, .f32⟩
  | .hbm, ⟨15, _⟩ => ⟨S2048x4624, .f32⟩
  | .hbm, ⟨16, _⟩ => ⟨S2048x4624, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Kernel4.lean ====
abbrev S2048x5632 : Shape := ⟨2, ![2048, 5632]⟩
abbrev S2048x4x1408 : Shape := ⟨3, ![2048, 4, 1408]⟩
abbrev S4x2048x1408 : Shape := ⟨3, ![4, 2048, 1408]⟩
abbrev S2048x2048 : Shape := ⟨2, ![2048, 2048]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S2048x5632, .bf16⟩
  | .hbm, ⟨3, _⟩ => ⟨S2048x4x1408, .f32⟩
  | .hbm, ⟨4, _⟩ => ⟨S4x2048x1408, .f32⟩
  | .hbm, ⟨5, _⟩ => ⟨S4x2048x1408, .bf16⟩
  | .hbm, ⟨6, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x5632 : Shape := ⟨2, ![2048, 5632]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S_, .f32⟩
  | .hbm, ⟨3, _⟩ => ⟨S2048x2048, .f32⟩
  | .hbm, ⟨4, _⟩ => ⟨S2048x5632, .f32⟩
  | .hbm, ⟨5, _⟩ => ⟨S2048x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S2048x5632 : Shape := ⟨2, ![2048, 5632]⟩
abbrev S2048x2048 : Shape := ⟨2, ![2048, 2048]⟩
abbrev S2048x4x1408 : Shape := ⟨3, ![2048, 4, 1408]⟩
abbrev S4x2048x1408 : Shape := ⟨3, ![4, 2048, 1408]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 8
  | .vmem => 9
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S2048x2048, .f32⟩
  | .hbm, ⟨3, _⟩ => ⟨S2048x5632, .bf16⟩
  | .hbm, ⟨4, _⟩ => ⟨S2048x4x1408, .f32⟩
  | .hbm, ⟨5, _⟩ => ⟨S4x2048x1408, .f32⟩
  | .hbm, ⟨6, _⟩ => ⟨S4x2048x1408, .bf16⟩
  | .hbm, ⟨7, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S2048x5632 : Shape := ⟨2, ![2048, 5632]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x5632, .f32⟩
  | .hbm, ⟨6, _⟩ => ⟨S2048x2048, .f32⟩
  | .hbm, ⟨7, _⟩ => ⟨S2048x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel6.lean ====
abbrev S2048x5632 : Shape := ⟨2, ![2048, 5632]⟩
abbrev S5632x2048 : Shape := ⟨2, ![5632, 2048]⟩
abbrev S2048x2048 : Shape := ⟨2, ![2048, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | .hbm, ⟨3, _⟩ => ⟨S2048x5632, .bf16⟩
  | .hbm, ⟨4, _⟩ => ⟨S5632x2048, .bf16⟩
  | .hbm, ⟨5, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S2048x5632 : Shape := ⟨2, ![2048, 5632]⟩
abbrev S5632x2048 : Shape := ⟨2, ![5632, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel7.lean ====
abbrev S2048x4624 : Shape := ⟨2, ![2048, 4624]⟩
abbrev S2048x3088 : Shape := ⟨2, ![2048, 3088]⟩
abbrev S_ : Shape := ⟨0, ![]⟩
abbrev S2048x112 : Shape := ⟨2, ![2048, 112]⟩
abbrev S2048x1536 : Shape := ⟨2, ![2048, 1536]⟩
abbrev S2048x384 : Shape := ⟨2, ![2048, 384]⟩
abbrev S2048x5120 : Shape := ⟨2, ![2048, 5120]⟩
abbrev S2048x2048 : Shape := ⟨2, ![2048, 2048]⟩
abbrev S1024x1024 : Shape := ⟨2, ![1024, 1024]⟩

abbrev nBuf : Space → Nat
  | .hbm => 19
  | .vmem => 7
  | .smem => 0
  | _ => 0

abbrev bufTy : (tb : Table) → Fin (tcTables nBuf tb) → BufTy
  | .hbm, ⟨0, _⟩ => ⟨S2048x4624, .f32⟩
  | .hbm, ⟨1, _⟩ => ⟨S2048x4624, .f32⟩
  | .hbm, ⟨2, _⟩ => ⟨S2048x3088, .f32⟩
  | .hbm, ⟨3, _⟩ => ⟨S_, .f32⟩
  | .hbm, ⟨4, _⟩ => ⟨S2048x112, .f32⟩
  | .hbm, ⟨5, _⟩ => ⟨S2048x1536, .f32⟩
  | .hbm, ⟨6, _⟩ => ⟨S_, .f32⟩
  | .hbm, ⟨7, _⟩ => ⟨S2048x384, .f32⟩
  | .hbm, ⟨8, _⟩ => ⟨S2048x5120, .f32⟩
  | .hbm, ⟨9, _⟩ => ⟨S2048x5120, .bf16⟩
  | .hbm, ⟨10, _⟩ => ⟨S2048x3088, .f32⟩
  | .hbm, ⟨11, _⟩ => ⟨S_, .f32⟩
  | .hbm, ⟨12, _⟩ => ⟨S2048x112, .f32⟩
  | .hbm, ⟨13, _⟩ => ⟨S2048x1536, .f32⟩
  | .hbm, ⟨14, _⟩ => ⟨S_, .f32⟩
  | .hbm, ⟨15, _⟩ => ⟨S2048x384, .f32⟩
  | .hbm, ⟨16, _⟩ => ⟨S2048x5120, .f32⟩
  | .hbm, ⟨17, _⟩ => ⟨S2048x5120, .bf16⟩
  | .hbm, ⟨18, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x4624, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 5], ![false, false, false]⟩

def k0_cond3 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x4624 : Shape := ⟨2, ![2048, 4624]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x4624, .f32⟩
  | .hbm, ⟨1, _⟩ => ⟨S2048x4624, .f32⟩
  | .hbm, ⟨2, _⟩ => ⟨S_, .f32⟩
  | .hbm, ⟨3, _⟩ => ⟨S2048x2048, .f32⟩
  | .hbm, ⟨4, _⟩ => ⟨S2048x4624, .f32⟩
  | .hbm, ⟨5, _⟩ => ⟨S2048x2048, .f32⟩
  | _, _ => ⟨S2048x4624, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S2048x2048 : Shape := ⟨2, ![2048, 2048]⟩
abbrev S2048 : Shape := ⟨1, ![2048]⟩
abbrev S1x2048 : Shape := ⟨2, ![1, 2048]⟩
abbrev S2048x1 : Shape := ⟨2, ![2048, 1]⟩
abbrev S512x2048 : Shape := ⟨2, ![512, 2048]⟩
abbrev S512x1 : Shape := ⟨2, ![512, 1]⟩
abbrev S512 : Shape := ⟨1, ![512]⟩

abbrev nBuf : Space → Nat
  | .hbm => 11
  | .vmem => 19
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S2048x2048, .bf16⟩
  | .hbm, ⟨6, _⟩ => ⟨S2048x1, .f32⟩
  | .hbm, ⟨7, _⟩ => ⟨S1x2048, .f32⟩
  | .hbm, ⟨8, _⟩ => ⟨S2048x2048, .f32⟩
  | .hbm, ⟨9, _⟩ => ⟨S1x2048, .f32⟩
  | .hbm, ⟨10, _⟩ => ⟨S2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x1, .f32⟩
  | .local _ .vmem, ⟨6, _⟩ => ⟨S512x1, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | .local _ .vmem, ⟨10, _⟩ => ⟨S512x1, .f32⟩
  | .local _ .vmem, ⟨11, _⟩ => ⟨S512x1, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .f32⟩
  | .local _ .vmem, ⟨18, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]
-- ==== Reference8Ideal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .bf16⟩
  | .hbm, ⟨50, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel9.lean ====
abbrev S2048x1408 : Shape := ⟨2, ![2048, 1408]⟩
abbrev S1408x2048 : Shape := ⟨2, ![1408, 2048]⟩
abbrev S2048x1156 : Shape := ⟨2, ![2048, 1156]⟩
abbrev S512x2048 : Shape := ⟨2, ![512, 2048]⟩
abbrev S512x1408 : Shape := ⟨2, ![512, 1408]⟩
abbrev S352x2048 : Shape := ⟨2, ![352, 2048]⟩
abbrev S512x1156 : Shape := ⟨2, ![512, 1156]⟩
abbrev S256x2048 : Shape := ⟨2, ![256, 2048]⟩

abbrev nBuf : Space → Nat
  | .hbm => 32
  | .vmem => 64
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .hbm, ⟨8, _⟩ => ⟨S2048x1156, .f32⟩
  | .hbm, ⟨9, _⟩ => ⟨S2048x1156, .f32⟩
  | .hbm, ⟨10, _⟩ => ⟨S2048x1156, .f32⟩
  | .hbm, ⟨11, _⟩ => ⟨S2048x1156, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S512x2048, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S2048x1408, .f32⟩
  | .hbm, ⟨20, _⟩ => ⟨S1408x2048, .f32⟩
  | .hbm, ⟨21, _⟩ => ⟨S1408x2048, .f32⟩
  | .hbm, ⟨22, _⟩ => ⟨S1408x2048, .f32⟩
  | .hbm, ⟨23, _⟩ => ⟨S1408x2048, .f32⟩
  | .hbm, ⟨24, _⟩ => ⟨S2048x1156, .f32⟩
  | .hbm, ⟨25, _⟩ => ⟨S2048x1156, .f32⟩
  | .hbm, ⟨26, _⟩ => ⟨S2048x1156, .f32⟩
  | .hbm, ⟨27, _⟩ => ⟨S2048x1156, .f32⟩
  | .hbm, ⟨28, _⟩ => ⟨S512x2048, .f32⟩
  | .hbm, ⟨29, _⟩ => ⟨S512x2048, .f32⟩
  | .hbm, ⟨30, _⟩ => ⟨S512x2048, .f32⟩
  | .hbm, ⟨31, _⟩ => ⟨S512x2048, .f32⟩
  | .local _ .vmem, ⟨0, _⟩ => ⟨S512x1408, .f32⟩
  | .local _ .vmem, ⟨1, _⟩ => ⟨S512x1408, .f32⟩
  | .local _ .vmem, ⟨2, _⟩ => ⟨S512x1408, .f32⟩
  | .local _ .vmem, ⟨3, _⟩ => ⟨S512x1408, .f32⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .f32⟩
  | .local _ .vmem, ⟨11, _⟩ => ⟨S512x1408, .f32⟩
  | .local _ .vmem, ⟨12, _⟩ => ⟨S512x1408, .f32⟩
  | .local _ .vmem, ⟨13, _⟩ => ⟨S512x1408, .f32⟩
  | .local _ .vmem, ⟨14, _⟩ => ⟨S512x1408, .f32⟩
  | .local _ .vmem, ⟨15, _⟩ => ⟨S512x1408, .f32⟩
  | .local _ .vmem, ⟨16, _⟩ => ⟨S352x2048, .f32⟩
  | .local _ .vmem, ⟨17, _⟩ => ⟨S352x2048, .f32⟩
  | .local _ .vmem, ⟨18, _⟩ => ⟨S352x2048, .f32⟩
  | .local _ .vmem, ⟨19, _⟩ => ⟨S352x2048, .f32⟩
  | .local _ .vmem, ⟨20, _⟩ => ⟨S352x2048, .f32⟩
  | .local _ .vmem, ⟨21, _⟩ => ⟨S352x2048, .f32⟩
  | .local _ .vmem, ⟨22, _⟩ => ⟨S352x2048, .f32⟩
  | .local _ .vmem, ⟨23, _⟩ => ⟨S352x2048, .f32⟩
  | .local _ .vmem, ⟨24, _⟩ => ⟨S352x2048, .f32⟩
  | .local _ .vmem, ⟨25, _⟩ => ⟨S352x2048, .f32⟩
  | .local _ .vmem, ⟨26, _⟩ => ⟨S352x2048, .f32⟩
  | .local _ .vmem, ⟨27, _⟩ => ⟨S352x2048, .f32⟩
  | .local _ .vmem, ⟨28, _⟩ => ⟨S352x2048, .f32⟩
  | .local _ .vmem, ⟨29, _⟩ => ⟨S352x2048, .f32⟩
  | .local _ .vmem, ⟨30, _⟩ => ⟨S352x2048, .f32⟩
  | .local _ .vmem, ⟨31, _⟩ => ⟨S352x2048, .f32⟩
  | .local _ .vmem, ⟨32, _⟩ => ⟨S512x1156, .f32⟩
  | .local _ .vmem, ⟨33, _⟩ => ⟨S512x1156, .f32⟩
  | .local _ .vmem, ⟨34, _⟩ => ⟨S512x1156, .f32⟩
  | .local _ .vmem, ⟨35, _⟩ => ⟨S512x1156, .f32⟩
  | .local _ .vmem, ⟨36, _⟩ => ⟨S512x1156, .f32⟩
  | .local _ .vmem, ⟨37, _⟩ => ⟨S512x1156, .f32⟩
  | .local _ .vmem, ⟨38, _⟩ => ⟨S512x1156, .f32⟩
  | .local _ .vmem, ⟨39, _⟩ => ⟨S512x1156, .f32⟩
  | .local _ .vmem, ⟨40, _⟩ => ⟨S512x1156, .f32⟩
  | .local _ .vmem, ⟨41, _⟩ => ⟨S512x1156, .f32⟩
  | .local _ .vmem, ⟨42, _⟩ => ⟨S512x1156, .f32⟩
  | .local _ .vmem, ⟨43, _⟩ => ⟨S512x1156, .f32⟩
  | .local _ .vmem, ⟨44, _⟩ => ⟨S512x1156, .f32⟩
  | .local _ .vmem, ⟨45, _⟩ => ⟨S512x1156, .f32⟩
  | .local _ .vmem, ⟨46, _⟩ => ⟨S512x1156, .f32⟩
  | .local _ .vmem, ⟨47, _⟩ => ⟨S512x1156, .f32⟩
  | .local _ .vmem, ⟨48, _⟩ => ⟨S256x2048, .f32⟩
  | .local _ .vmem, ⟨49, _⟩ => ⟨S256x2048, .f32⟩
  | .local _ .vmem, ⟨50, _⟩ => ⟨S256x2048, .f32⟩
  | .local _ .vmem, ⟨51, _⟩ => ⟨S256x2048, .f32⟩
  | .local _ .vmem, ⟨52, _⟩ => ⟨S256x2048, .f32⟩
  | .local _ .vmem, ⟨53, _⟩ => ⟨S256x2048, .f32⟩
  | .local _ .vmem, ⟨54, _⟩ => ⟨S256x2048, .f32⟩
  | .local _ .vmem, ⟨55, _⟩ => ⟨S256x2048, .f32⟩
  | .local _ .vmem, ⟨56, _⟩ => ⟨S256x2048, .f32⟩
  | .local _ .vmem, ⟨57, _⟩ => ⟨S256x2048, .f32⟩
  | .local _ .vmem, ⟨58, _⟩ => ⟨S256x2048, .f32⟩
  | .local _ .vmem, ⟨59, _⟩ => ⟨S256x2048, .f32⟩
  | .local _ .vmem, ⟨60, _⟩ => ⟨S256x2048, .f32⟩
  | .local _ .vmem, ⟨61, _⟩ => ⟨S256x2048, .f32⟩
  | .local _ .vmem, ⟨62, _⟩ => ⟨S256x2048, .f32⟩
  | .local _ .vmem, ⟨63, _⟩ => ⟨S256x2048, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v1_0 : Ref sig .tc := ⟨.hbm, 20, rfl⟩
abbrev main_v1_1 : Ref sig .tc := ⟨.hbm, 21, rfl⟩
abbrev main_v1_2 : Ref sig .tc := ⟨.hbm, 22, rfl⟩
abbrev main_v1_3 : Ref sig .tc := ⟨.hbm, 23, rfl⟩
abbrev main_v2_0 : Ref sig .tc := ⟨.hbm, 24, rfl⟩
abbrev main_v2_1 : Ref sig .tc := ⟨.hbm, 25, rfl⟩
abbrev main_v2_2 : Ref sig .tc := ⟨.hbm, 26, rfl⟩
abbrev main_v2_3 : Ref sig .tc := ⟨.hbm, 27, rfl⟩
abbrev main_v3_0 : Ref sig .tc := ⟨.hbm, 28, rfl⟩
abbrev main_v3_1 : Ref sig .tc := ⟨.hbm, 29, rfl⟩
abbrev main_v3_2 : Ref sig .tc := ⟨.hbm, 30, rfl⟩
abbrev main_v3_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc3_stg4_0 : Ref sig .tc := ⟨.vmem, 56, rfl⟩
abbrev cc3_stg4_1 : Ref sig .tc := ⟨.vmem, 57, rfl⟩
abbrev cc3_stg5_0 : Ref sig .tc := ⟨.vmem, 58, rfl⟩
abbrev cc3_stg5_1 : Ref sig .tc := ⟨.vmem, 59, rfl⟩
abbrev cc3_stg6_0 : Ref sig .tc := ⟨.vmem, 60, rfl⟩
abbrev cc3_stg6_1 : Ref sig .tc := ⟨.vmem, 61, rfl⟩
abbrev cc3_stg7_0 : Ref sig .tc := ⟨.vmem, 62, rfl⟩
abbrev cc3_stg7_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem3_1 : DmaSem sig := 55
abbrev cc3_sem4_0 : DmaSem sig := 56
abbrev cc3_sem4_1 : DmaSem sig := 57
abbrev cc3_sem5_0 : DmaSem sig := 58
abbrev cc3_sem5_1 : DmaSem sig := 59
abbrev cc3_sem6_0 : DmaSem sig := 60
abbrev cc3_sem6_1 : DmaSem sig := 61
abbrev cc3_sem7_0 : DmaSem sig := 62
abbrev cc3_sem7_1 : DmaSem sig := 63

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S352x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S352x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S352x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S352x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S352x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S352x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S352x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S352x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1156 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1156 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x1156 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x1156 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x1156 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x1156 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x1156 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S512x1156 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![2], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S256x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S256x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S256x2048 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S256x2048 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]
-- ==== Kernel9Ideal.lean ====
variable {F : FTy → Type} [FloatOps F] [Named F]
def κ : String → Option EReal := fun
  | "bias1" => some ((8388608 / 5463681 : ℝ) : EReal)
  | "bias2" => some ((268435456 / 2672307 : ℝ) : EReal)
  | _ => none
-- ==== Reference9Ideal.lean ====
abbrev S2048x1408 : Shape := ⟨2, ![2048, 1408]⟩
abbrev S1408x2048 : Shape := ⟨2, ![1408, 2048]⟩
abbrev S2048x1156 : Shape := ⟨2, ![2048, 1156]⟩
abbrev S512x2048 : Shape := ⟨2, ![512, 2048]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S2048x1408, .f32⟩
  | 1 => ⟨S2048x1408, .f32⟩
  | 2 => ⟨S2048x1408, .f32⟩
  | 3 => ⟨S2048x1408, .f32⟩
  | 4 => ⟨S1408x2048, .f32⟩
  | 5 => ⟨S1408x2048, .f32⟩
  | 6 => ⟨S1408x2048, .f32⟩
  | 7 => ⟨S1408x2048, .f32⟩
  | 8 => ⟨S2048x1156, .f32⟩
  | 9 => ⟨S2048x1156, .f32⟩
  | 10 => ⟨S2048x1156, .f32⟩
  | 11 => ⟨S2048x1156, .f32⟩
  | 12 => ⟨S512x2048, .f32⟩
  | 13 => ⟨S512x2048, .f32⟩
  | 14 => ⟨S512x2048, .f32⟩
  | 15 => ⟨S512x2048, .f32⟩
  | 16 => ⟨S_, .f32⟩
  | 17 => ⟨S2048x1408, .f32⟩
  | 18 => ⟨S2048x1408, .f32⟩
  | 19 => ⟨S_, .f32⟩
  | 20 => ⟨S2048x1408, .f32⟩
  | 21 => ⟨S2048x1408, .f32⟩
  | 22 => ⟨S2048x1408, .f32⟩
  | 23 => ⟨S_, .f32⟩
  | 24 => ⟨S2048x1408, .f32⟩
  | 25 => ⟨S2048x1408, .f32⟩
  | 26 => ⟨S2048x1408, .f32⟩
  | 27 => ⟨S_, .f32⟩
  | 28 => ⟨S2048x1408, .f32⟩
  | 29 => ⟨S2048x1408, .f32⟩
  | 30 => ⟨S2048x1408, .f32⟩
  | 31 => ⟨S_, .f32⟩
  | 32 => ⟨S2048x1408, .f32⟩
  | 33 => ⟨S2048x1408, .f32⟩
  | 34 => ⟨S_, .f32⟩
  | 35 => ⟨S2048x1408, .f32⟩
  | 36 => ⟨S2048x1408, .f32⟩
  | 37 => ⟨S2048x1408, .f32⟩
  | 38 => ⟨S_, .f32⟩
  | 39 => ⟨S2048x1408, .f32⟩
  | 40 => ⟨S2048x1408, .f32⟩
  | 41 => ⟨S2048x1408, .f32⟩
  | 42 => ⟨S_, .f32⟩
  | 43 => ⟨S2048x1408, .f32⟩
  | 44 => ⟨S2048x1408, .f32⟩
  | 45 => ⟨S2048x1408, .f32⟩
  | 46 => ⟨S_, .f32⟩
  | 47 => ⟨S2048x1408, .f32⟩
  | 48 => ⟨S2048x1408, .f32⟩
  | 49 => ⟨S_, .f32⟩
  | 50 => ⟨S1408x2048, .f32⟩
  | 51 => ⟨S1408x2048, .f32⟩
  | 52 => ⟨S_, .f32⟩
  | 53 => ⟨S1408x2048, .f32⟩
  | 54 => ⟨S1408x2048, .f32⟩
  | 55 => ⟨S1408x2048, .f32⟩
  | 56 => ⟨S_, .f32⟩
  | 57 => ⟨S1408x2048, .f32⟩
  | 58 => ⟨S1408x2048, .f32⟩
  | 59 => ⟨S1408x2048, .f32⟩
  | 60 => ⟨S_, .f32⟩
  | 61 => ⟨S1408x2048, .f32⟩
  | 62 => ⟨S1408x2048, .f32⟩
  | 63 => ⟨S1408x2048, .f32⟩
  | 64 => ⟨S_, .f32⟩
  | 65 => ⟨S1408x2048, .f32⟩
  | 66 => ⟨S1408x2048, .f32⟩
  | 67 => ⟨S_, .f32⟩
  | 68 => ⟨S1408x2048, .f32⟩
  | 69 => ⟨S1408x2048, .f32⟩
  | 70 => ⟨S1408x2048, .f32⟩
  | 71 => ⟨S_, .f32⟩
  | 72 => ⟨S1408x2048, .f32⟩
  | 73 => ⟨S1408x2048, .f32⟩
  | 74 => ⟨S1408x2048, .f32⟩
  | 75 => ⟨S_, .f32⟩
  | 76 => ⟨S1408x2048, .f32⟩
  | 77 => ⟨S1408x2048, .f32⟩
  | 78 => ⟨S1408x2048, .f32⟩
  | 79 => ⟨S_, .f32⟩
  | 80 => ⟨S1408x2048, .f32⟩
  | 81 => ⟨S1408x2048, .f32⟩
  | 82 => ⟨S_, .f32⟩
  | 83 => ⟨S2048x1156, .f32⟩
  | 84 => ⟨S2048x1156, .f32⟩
  | 85 => ⟨S_, .f32⟩
  | 86 => ⟨S2048x1156, .f32⟩
  | 87 => ⟨S2048x1156, .f32⟩
  | 88 => ⟨S2048x1156, .f32⟩
  | 89 => ⟨S_, .f32⟩
  | 90 => ⟨S2048x1156, .f32⟩
  | 91 => ⟨S2048x1156, .f32⟩
  | 92 => ⟨S2048x1156, .f32⟩
  | 93 => ⟨S_, .f32⟩
  | 94 => ⟨S2048x1156, .f32⟩
  | 95 => ⟨S2048x1156, .f32⟩
  | 96 => ⟨S2048x1156, .f32⟩
  | 97 => ⟨S_, .f32⟩
  | 98 => ⟨S2048x1156, .f32⟩
  | 99 => ⟨S2048x1156, .f32⟩
  | 100 => ⟨S_, .f32⟩
  | 101 => ⟨S2048x1156, .f32⟩
  | 102 => ⟨S2048x1156, .f32⟩
  | 103 => ⟨S2048x1156, .f32⟩
  | 104 => ⟨S_, .f32⟩
  | 105 => ⟨S2048x1156, .f32⟩
  | 106 => ⟨S2048x1156, .f32⟩
  | 107 => ⟨S2048x1156, .f32⟩
  | 108 => ⟨S_, .f32⟩
  | 109 => ⟨S2048x1156, .f32⟩
  | 110 => ⟨S2048x1156, .f32⟩
  | 111 => ⟨S2048x1156, .f32⟩
  | 112 => ⟨S_, .f32⟩
  | 113 => ⟨S2048x1156, .f32⟩
  | 114 => ⟨S2048x1156, .f32⟩
  | 115 => ⟨S_, .f32⟩
  | 116 => ⟨S512x2048, .f32⟩
  | 117 => ⟨S512x2048, .f32⟩
  | 118 => ⟨S_, .f32⟩
  | 119 => ⟨S512x2048, .f32⟩
  | 120 => ⟨S512x2048, .f32⟩
  | 121 => ⟨S512x2048, .f32⟩
  | 122 => ⟨S_, .f32⟩
  | 123 => ⟨S512x2048, .f32⟩
  | 124 => ⟨S512x2048, .f32⟩
  | 125 => ⟨S512x2048, .f32⟩
  | 126 => ⟨S_, .f32⟩
  | 127 => ⟨S512x2048, .f32⟩
  | _ => ⟨S2048x1408, .f32⟩

abbrev hbmTy0_1 (i : Nat) : BufTy := match i % 128 with
  | 0 => ⟨S512x2048, .f32⟩
  | 1 => ⟨S512x2048, .f32⟩
  | 2 => ⟨S_, .f32⟩
  | 3 => ⟨S512x2048, .f32⟩
  | 4 => ⟨S512x2048, .f32⟩
  | 5 => ⟨S_, .f32⟩
  | 6 => ⟨S512x2048, .f32⟩
  | 7 => ⟨S512x2048, .f32⟩
  | 8 => ⟨S512x2048, .f32⟩
  | 9 => ⟨S_, .f32⟩
  | 10 => ⟨S512x2048, .f32⟩
  | 11 => ⟨S512x2048, .f32⟩
  | 12 => ⟨S512x2048, .f32⟩
  | 13 => ⟨S_, .f32⟩
  | 14 => ⟨S512x2048, .f32⟩
  | 15 => ⟨S512x2048, .f32⟩
  | 16 => ⟨S512x2048, .f32⟩
  | 17 => ⟨S_, .f32⟩
  | 18 => ⟨S512x2048, .f32⟩
  | 19 => ⟨S512x2048, .f32⟩
  | _ => ⟨S2048x1408, .f32⟩

abbrev hbmTy (i : Nat) : BufTy := match i / 128 with
  | 0 => hbmTy0_0 i
  | 1 => hbmTy0_1 i
  | _ => ⟨S2048x1408, .f32⟩

abbrev bufTy : (tb : Table) → Fin (tcTables nBuf tb) → BufTy
  | .hbm, ⟨i, _⟩ => hbmTy i
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== Kernel10.lean ====
abbrev S2048x2048 : Shape := ⟨2, ![2048, 2048]⟩
abbrev S1x1 : Shape := ⟨2, ![1, 1]⟩
abbrev S512x2048 : Shape := ⟨2, ![512, 2048]⟩
abbrev S2048 : Shape := ⟨1, ![2048]⟩
abbrev S1x2048 : Shape := ⟨2, ![1, 2048]⟩
abbrev S1 : Shape := ⟨1, ![1]⟩
abbrev S_ : Shape := ⟨0, ![]⟩

abbrev nBuf : Space → Nat
  | .hbm => 6
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x1, .f32⟩
  | .hbm, ⟨3, _⟩ => ⟨S2048x2048, .f32⟩
  | .hbm, ⟨4, _⟩ => ⟨S2048x2048, .bf16⟩
  | .hbm, ⟨5, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x1, .f32⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S2048x2048 : Shape := ⟨2, ![2048, 2048]⟩
abbrev S_ : Shape := ⟨0, ![]⟩
abbrev S2048 : Shape := ⟨1, ![2048]⟩

abbrev nBuf : Space → Nat
  | .hbm => 26
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x2048, .f32⟩
  | .hbm, ⟨24, _⟩ => ⟨S2048x2048, .f32⟩
  | .hbm, ⟨25, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel11.lean ====
abbrev S1x2048 : Shape := ⟨2, ![1, 2048]⟩
abbrev S1x16 : Shape := ⟨2, ![1, 16]⟩
abbrev S1x64 : Shape := ⟨2, ![1, 64]⟩
abbrev S1x1024 : Shape := ⟨2, ![1, 1024]⟩
abbrev S2048 : Shape := ⟨1, ![2048]⟩
abbrev S_ : Shape := ⟨0, ![]⟩
abbrev S16x128 : Shape := ⟨2, ![16, 128]⟩
abbrev S16 : Shape := ⟨1, ![16]⟩
abbrev S128 : Shape := ⟨1, ![128]⟩
abbrev S1x128 : Shape := ⟨2, ![1, 128]⟩
abbrev S64 : Shape := ⟨1, ![64]⟩
abbrev S1024 : Shape := ⟨1, ![1024]⟩
abbrev S8x128 : Shape := ⟨2, ![8, 128]⟩
abbrev S70x128 : Shape := ⟨2, ![70, 128]⟩
abbrev S72x128 : Shape := ⟨2, ![72, 128]⟩

abbrev nBuf : Space → Nat
  | .hbm => 401
  | .vmem => 8
  | .smem => 0
  | _ => 0

abbrev hbmTy0_0 (i : Nat) : BufTy := match i % 128 with
  | 0 => ⟨S1x2048, .f32⟩
  | 1 => ⟨S1x2048, .f32⟩
  | 2 => ⟨S1x16, .f32⟩
  | 3 => ⟨S1x64, .f32⟩
  | 4 => ⟨S1x64, .f32⟩
  | 5 => ⟨S1x64, .f32⟩
  | 6 => ⟨S1x64, .f32⟩
  | 7 => ⟨S1x16, .f32⟩
  | 8 => ⟨S1x1024, .f32⟩
  | 9 => ⟨S1x1024, .f32⟩
  | 10 => ⟨S1x2048, .f32⟩
  | 11 => ⟨S1x2048, .f32⟩
  | 12 => ⟨S1x2048, .f32⟩
  | 13 => ⟨S1x16, .f32⟩
  | 14 => ⟨S1x64, .f32⟩
  | 15 => ⟨S1x64, .f32⟩
  | 16 => ⟨S1x64, .f32⟩
  | 17 => ⟨S1x64, .f32⟩
  | 18 => ⟨S1x16, .f32⟩
  | 19 => ⟨S1x1024, .f32⟩
  | 20 => ⟨S1x1024, .f32⟩
  | 21 => ⟨S1x2048, .f32⟩
  | 22 => ⟨S1x2048, .f32⟩
  | 23 => ⟨S1x2048, .f32⟩
  | 24 => ⟨S1x16, .f32⟩
  | 25 => ⟨S1x64, .f32⟩
  | 26 => ⟨S1x64, .f32⟩
  | 27 => ⟨S1x64, .f32⟩
  | 28 => ⟨S1x64, .f32⟩
  | 29 => ⟨S1x16, .f32⟩
  | 30 => ⟨S1x1024, .f32⟩
  | 31 => ⟨S1x1024, .f32⟩
  | 32 => ⟨S1x2048, .f32⟩
  | 33 => ⟨S1x2048, .f32⟩
  | 34 => ⟨S1x2048, .f32⟩
  | 35 => ⟨S1x16, .f32⟩
  | 36 => ⟨S1x64, .f32⟩
  | 37 => ⟨S1x64, .f32⟩
  | 38 => ⟨S1x64, .f32⟩
  | 39 => ⟨S1x64, .f32⟩
  | 40 => ⟨S1x16, .f32⟩
  | 41 => ⟨S1x1024, .f32⟩
  | 42 => ⟨S1x1024, .f32⟩
  | 43 => ⟨S1x2048, .f32⟩
  | 44 => ⟨S2048, .f32⟩
  | 45 => ⟨S_, .i32⟩
  | 46 => ⟨S_, .f32⟩
  | 47 => ⟨S2048, .f32⟩
  | 48 => ⟨S16x128, .f32⟩
  | 49 => ⟨S2048, .f32⟩
  | 50 => ⟨S_, .i32⟩
  | 51 => ⟨S_, .f32⟩
  | 52 => ⟨S2048, .f32⟩
  | 53 => ⟨S16x128, .f32⟩
  | 54 => ⟨S16, .f32⟩
  | 55 => ⟨S_, .i32⟩
  | 56 => ⟨S_, .f32⟩
  | 57 => ⟨S128, .f32⟩
  | 58 => ⟨S1x128, .f32⟩
  | 59 => ⟨S64, .f32⟩
  | 60 => ⟨S_, .i32⟩
  | 61 => ⟨S_, .f32⟩
  | 62 => ⟨S128, .f32⟩
  | 63 => ⟨S1x128, .f32⟩
  | 64 => ⟨S64, .f32⟩
  | 65 => ⟨S_, .i32⟩
  | 66 => ⟨S_, .f32⟩
  | 67 => ⟨S128, .f32⟩
  | 68 => ⟨S1x128, .f32⟩
  | 69 => ⟨S64, .f32⟩
  | 70 => ⟨S_, .i32⟩
  | 71 => ⟨S_, .f32⟩
  | 72 => ⟨S128, .f32⟩
  | 73 => ⟨S1x128, .f32⟩
  | 74 => ⟨S64, .f32⟩
  | 75 => ⟨S_, .i32⟩
  | 76 => ⟨S_, .f32⟩
  | 77 => ⟨S128, .f32⟩
  | 78 => ⟨S1x128, .f32⟩
  | 79 => ⟨S16, .f32⟩
  | 80 => ⟨S_, .i32⟩
  | 81 => ⟨S_, .f32⟩
  | 82 => ⟨S128, .f32⟩
  | 83 => ⟨S1x128, .f32⟩
  | 84 => ⟨S1024, .f32⟩
  | 85 => ⟨S_, .i32⟩
  | 86 => ⟨S_, .f32⟩
  | 87 => ⟨S1024, .f32⟩
  | 88 => ⟨S8x128, .f32⟩
  | 89 => ⟨S1024, .f32⟩
  | 90 => ⟨S_, .i32⟩
  | 91 => ⟨S_, .f32⟩
  | 92 => ⟨S1024, .f32⟩
  | 93 => ⟨S8x128, .f32⟩
  | 94 => ⟨S2048, .f32⟩
  | 95 => ⟨S_, .i32⟩
  | 96 => ⟨S_, .f32⟩
  | 97 => ⟨S2048, .f32⟩
  | 98 => ⟨S16x128, .f32⟩
  | 99 => ⟨S70x128, .f32⟩
  | 100 => ⟨S_, .i32⟩
  | 101 => ⟨S_, .f32⟩
  | 102 => ⟨S72x128, .f32⟩
  | 103 => ⟨S2048, .f32⟩
  | 104 => ⟨S_, .i32⟩
  | 105 => ⟨S_, .f32⟩
  | 106 => ⟨S2048, .f32⟩
  | 107 => ⟨S16x128, .f32⟩
  | 108 => ⟨S2048, .f32⟩
  | 109 => ⟨S_, .i32⟩
  | 110 => ⟨S_, .f32⟩
  | 111 => ⟨S2048, .f32⟩
  | 112 => ⟨S16x128, .f32⟩
  | 113 => ⟨S16, .f32⟩
  | 114 => ⟨S_, .i32⟩
  | 115 => ⟨S_, .f32⟩
  | 116 => ⟨S128, .f32⟩
  | 117 => ⟨S1x128, .f32⟩
  | 118 => ⟨S64, .f32⟩
  | 119 => ⟨S_, .i32⟩
  | 120 => ⟨S_, .f32⟩
  | 121 => ⟨S128, .f32⟩
  | 122 => ⟨S1x128, .f32⟩
  | 123 => ⟨S64, .f32⟩
  | 124 => ⟨S_, .i32⟩
  | 125 => ⟨S_, .f32⟩
  | 126 => ⟨S128, .f32⟩
  | 127 => ⟨S1x128, .f32⟩
  | _ => ⟨S1x2048, .f32⟩

abbrev hbmTy0_1 (i : Nat) : BufTy := match i % 128 with
  | 0 => ⟨S64, .f32⟩
  | 1 => ⟨S_, .i32⟩
  | 2 => ⟨S_, .f32⟩
  | 3 => ⟨S128, .f32⟩
  | 4 => ⟨S1x128, .f32⟩
  | 5 => ⟨S64, .f32⟩
  | 6 => ⟨S_, .i32⟩
  | 7 => ⟨S_, .f32⟩
  | 8 => ⟨S128, .f32⟩
  | 9 => ⟨S1x128, .f32⟩
  | 10 => ⟨S16, .f32⟩
  | 11 => ⟨S_, .i32⟩
  | 12 => ⟨S_, .f32⟩
  | 13 => ⟨S128, .f32⟩
  | 14 => ⟨S1x128, .f32⟩
  | 15 => ⟨S1024, .f32⟩
  | 16 => ⟨S_, .i32⟩
  | 17 => ⟨S_, .f32⟩
  | 18 => ⟨S1024, .f32⟩
  | 19 => ⟨S8x128, .f32⟩
  | 20 => ⟨S1024, .f32⟩
  | 21 => ⟨S_, .i32⟩
  | 22 => ⟨S_, .f32⟩
  | 23 => ⟨S1024, .f32⟩
  | 24 => ⟨S8x128, .f32⟩
  | 25 => ⟨S2048, .f32⟩
  | 26 => ⟨S_, .i32⟩
  | 27 => ⟨S_, .f32⟩
  | 28 => ⟨S2048, .f32⟩
  | 29 => ⟨S16x128, .f32⟩
  | 30 => ⟨S70x128, .f32⟩
  | 31 => ⟨S_, .i32⟩
  | 32 => ⟨S_, .f32⟩
  | 33 => ⟨S72x128, .f32⟩
  | 34 => ⟨S2048, .f32⟩
  | 35 => ⟨S_, .i32⟩
  | 36 => ⟨S_, .f32⟩
  | 37 => ⟨S2048, .f32⟩
  | 38 => ⟨S16x128, .f32⟩
  | 39 => ⟨S2048, .f32⟩
  | 40 => ⟨S_, .i32⟩
  | 41 => ⟨S_, .f32⟩
  | 42 => ⟨S2048, .f32⟩
  | 43 => ⟨S16x128, .f32⟩
  | 44 => ⟨S16, .f32⟩
  | 45 => ⟨S_, .i32⟩
  | 46 => ⟨S_, .f32⟩
  | 47 => ⟨S128, .f32⟩
  | 48 => ⟨S1x128, .f32⟩
  | 49 => ⟨S64, .f32⟩
  | 50 => ⟨S_, .i32⟩
  | 51 => ⟨S_, .f32⟩
  | 52 => ⟨S128, .f32⟩
  | 53 => ⟨S1x128, .f32⟩
  | 54 => ⟨S64, .f32⟩
  | 55 => ⟨S_, .i32⟩
  | 56 => ⟨S_, .f32⟩
  | 57 => ⟨S128, .f32⟩
  | 58 => ⟨S1x128, .f32⟩
  | 59 => ⟨S64, .f32⟩
  | 60 => ⟨S_, .i32⟩
  | 61 => ⟨S_, .f32⟩
  | 62 => ⟨S128, .f32⟩
  | 63 => ⟨S1x128, .f32⟩
  | 64 => ⟨S64, .f32⟩
  | 65 => ⟨S_, .i32⟩
  | 66 => ⟨S_, .f32⟩
  | 67 => ⟨S128, .f32⟩
  | 68 => ⟨S1x128, .f32⟩
  | 69 => ⟨S16, .f32⟩
  | 70 => ⟨S_, .i32⟩
  | 71 => ⟨S_, .f32⟩
  | 72 => ⟨S128, .f32⟩
  | 73 => ⟨S1x128, .f32⟩
  | 74 => ⟨S1024, .f32⟩
  | 75 => ⟨S_, .i32⟩
  | 76 => ⟨S_, .f32⟩
  | 77 => ⟨S1024, .f32⟩
  | 78 => ⟨S8x128, .f32⟩
  | 79 => ⟨S1024, .f32⟩
  | 80 => ⟨S_, .i32⟩
  | 81 => ⟨S_, .f32⟩
  | 82 => ⟨S1024, .f32⟩
  | 83 => ⟨S8x128, .f32⟩
  | 84 => ⟨S2048, .f32⟩
  | 85 => ⟨S_, .i32⟩
  | 86 => ⟨S_, .f32⟩
  | 87 => ⟨S2048, .f32⟩
  | 88 => ⟨S16x128, .f32⟩
  | 89 => ⟨S70x128, .f32⟩
  | 90 => ⟨S_, .i32⟩
  | 91 => ⟨S_, .f32⟩
  | 92 => ⟨S72x128, .f32⟩
  | 93 => ⟨S2048, .f32⟩
  | 94 => ⟨S_, .i32⟩
  | 95 => ⟨S_, .f32⟩
  | 96 => ⟨S2048, .f32⟩
  | 97 => ⟨S16x128, .f32⟩
  | 98 => ⟨S2048, .f32⟩
  | 99 => ⟨S_, .i32⟩
  | 100 => ⟨S_, .f32⟩
  | 101 => ⟨S2048, .f32⟩
  | 102 => ⟨S16x128, .f32⟩
  | 103 => ⟨S16, .f32⟩
  | 104 => ⟨S_, .i32⟩
  | 105 => ⟨S_, .f32⟩
  | 106 => ⟨S128, .f32⟩
  | 107 => ⟨S1x128, .f32⟩
  | 108 => ⟨S64, .f32⟩
  | 109 => ⟨S_, .i32⟩
  | 110 => ⟨S_, .f32⟩
  | 111 => ⟨S128, .f32⟩
  | 112 => ⟨S1x128, .f32⟩
  | 113 => ⟨S64, .f32⟩
  | 114 => ⟨S_, .i32⟩
  | 115 => ⟨S_, .f32⟩
  | 116 => ⟨S128, .f32⟩
  | 117 => ⟨S1x128, .f32⟩
  | 118 => ⟨S64, .f32⟩
  | 119 => ⟨S_, .i32⟩
  | 120 => ⟨S_, .f32⟩
  | 121 => ⟨S128, .f32⟩
  | 122 => ⟨S1x128, .f32⟩
  | 123 => ⟨S64, .f32⟩
  | 124 => ⟨S_, .i32⟩
  | 125 => ⟨S_, .f32⟩
  | 126 => ⟨S128, .f32⟩
  | 127 => ⟨S1x128, .f32⟩
  | _ => ⟨S1x2048, .f32⟩

abbrev hbmTy0_2 (i : Nat) : BufTy := match i % 128 with
  | 0 => ⟨S16, .f32⟩
  | 1 => ⟨S_, .i32⟩
  | 2 => ⟨S_, .f32⟩
  | 3 => ⟨S128, .f32⟩
  | 4 => ⟨S1x128, .f32⟩
  | 5 => ⟨S1024, .f32⟩
  | 6 => ⟨S_, .i32⟩
  | 7 => ⟨S_, .f32⟩
  | 8 => ⟨S1024, .f32⟩
  | 9 => ⟨S8x128, .f32⟩
  | 10 => ⟨S1024, .f32⟩
  | 11 => ⟨S_, .i32⟩
  | 12 => ⟨S_, .f32⟩
  | 13 => ⟨S1024, .f32⟩
  | 14 => ⟨S8x128, .f32⟩
  | 15 => ⟨S2048, .f32⟩
  | 16 => ⟨S_, .i32⟩
  | 17 => ⟨S_, .f32⟩
  | 18 => ⟨S2048, .f32⟩
  | 19 => ⟨S16x128, .f32⟩
  | 20 => ⟨S70x128, .f32⟩
  | 21 => ⟨S_, .i32⟩
  | 22 => ⟨S_, .f32⟩
  | 23 => ⟨S72x128, .f32⟩
  | 24 => ⟨S72x128, .f32⟩
  | 25 => ⟨S72x128, .f32⟩
  | 26 => ⟨S72x128, .f32⟩
  | 27 => ⟨S72x128, .f32⟩
  | 28 => ⟨S16x128, .f32⟩
  | 29 => ⟨S2048, .f32⟩
  | 30 => ⟨S1x2048, .f32⟩
  | 31 => ⟨S16x128, .f32⟩
  | 32 => ⟨S2048, .f32⟩
  | 33 => ⟨S1x2048, .f32⟩
  | 34 => ⟨S1x128, .f32⟩
  | 35 => ⟨S128, .f32⟩
  | 36 => ⟨S16, .f32⟩
  | 37 => ⟨S1x16, .f32⟩
  | 38 => ⟨S1x128, .f32⟩
  | 39 => ⟨S128, .f32⟩
  | 40 => ⟨S64, .f32⟩
  | 41 => ⟨S1x64, .f32⟩
  | 42 => ⟨S1x128, .f32⟩
  | 43 => ⟨S128, .f32⟩
  | 44 => ⟨S64, .f32⟩
  | 45 => ⟨S1x64, .f32⟩
  | 46 => ⟨S1x128, .f32⟩
  | 47 => ⟨S128, .f32⟩
  | 48 => ⟨S64, .f32⟩
  | 49 => ⟨S1x64, .f32⟩
  | 50 => ⟨S1x128, .f32⟩
  | 51 => ⟨S128, .f32⟩
  | 52 => ⟨S64, .f32⟩
  | 53 => ⟨S1x64, .f32⟩
  | 54 => ⟨S1x128, .f32⟩
  | 55 => ⟨S128, .f32⟩
  | 56 => ⟨S16, .f32⟩
  | 57 => ⟨S1x16, .f32⟩
  | 58 => ⟨S8x128, .f32⟩
  | 59 => ⟨S1024, .f32⟩
  | 60 => ⟨S1x1024, .f32⟩
  | 61 => ⟨S8x128, .f32⟩
  | 62 => ⟨S1024, .f32⟩
  | 63 => ⟨S1x1024, .f32⟩
  | 64 => ⟨S16x128, .f32⟩
  | 65 => ⟨S2048, .f32⟩
  | 66 => ⟨S1x2048, .f32⟩
  | 67 => ⟨S16x128, .f32⟩
  | 68 => ⟨S2048, .f32⟩
  | 69 => ⟨S1x2048, .f32⟩
  | 70 => ⟨S16x128, .f32⟩
  | 71 => ⟨S2048, .f32⟩
  | 72 => ⟨S1x2048, .f32⟩
  | 73 => ⟨S1x128, .f32⟩
  | 74 => ⟨S128, .f32⟩
  | 75 => ⟨S16, .f32⟩
  | 76 => ⟨S1x16, .f32⟩
  | 77 => ⟨S1x128, .f32⟩
  | 78 => ⟨S128, .f32⟩
  | 79 => ⟨S64, .f32⟩
  | 80 => ⟨S1x64, .f32⟩
  | 81 => ⟨S1x128, .f32⟩
  | 82 => ⟨S128, .f32⟩
  | 83 => ⟨S64, .f32⟩
  | 84 => ⟨S1x64, .f32⟩
  | 85 => ⟨S1x128, .f32⟩
  | 86 => ⟨S128, .f32⟩
  | 87 => ⟨S64, .f32⟩
  | 88 => ⟨S1x64, .f32⟩
  | 89 => ⟨S1x128, .f32⟩
  | 90 => ⟨S128, .f32⟩
  | 91 => ⟨S64, .f32⟩
  | 92 => ⟨S1x64, .f32⟩
  | 93 => ⟨S1x128, .f32⟩
  | 94 => ⟨S128, .f32⟩
  | 95 => ⟨S16, .f32⟩
  | 96 => ⟨S1x16, .f32⟩
  | 97 => ⟨S8x128, .f32⟩
  | 98 => ⟨S1024, .f32⟩
  | 99 => ⟨S1x1024, .f32⟩
  | 100 => ⟨S8x128, .f32⟩
  | 101 => ⟨S1024, .f32⟩
  | 102 => ⟨S1x1024, .f32⟩
  | 103 => ⟨S16x128, .f32⟩
  | 104 => ⟨S2048, .f32⟩
  | 105 => ⟨S1x2048, .f32⟩
  | 106 => ⟨S16x128, .f32⟩
  | 107 => ⟨S2048, .f32⟩
  | 108 => ⟨S1x2048, .f32⟩
  | 109 => ⟨S16x128, .f32⟩
  | 110 => ⟨S2048, .f32⟩
  | 111 => ⟨S1x2048, .f32⟩
  | 112 => ⟨S1x128, .f32⟩
  | 113 => ⟨S128, .f32⟩
  | 114 => ⟨S16, .f32⟩
  | 115 => ⟨S1x16, .f32⟩
  | 116 => ⟨S1x128, .f32⟩
  | 117 => ⟨S128, .f32⟩
  | 118 => ⟨S64, .f32⟩
  | 119 => ⟨S1x64, .f32⟩
  | 120 => ⟨S1x128, .f32⟩
  | 121 => ⟨S128, .f32⟩
  | 122 => ⟨S64, .f32⟩
  | 123 => ⟨S1x64, .f32⟩
  | 124 => ⟨S1x128, .f32⟩
  | 125 => ⟨S128, .f32⟩
  | 126 => ⟨S64, .f32⟩
  | 127 => ⟨S1x64, .f32⟩
  | _ => ⟨S1x2048, .f32⟩

abbrev hbmTy0_3 (i : Nat) : BufTy := match i % 128 with
  | 0 => ⟨S1x128, .f32⟩
  | 1 => ⟨S128, .f32⟩
  | 2 => ⟨S64, .f32⟩
  | 3 => ⟨S1x64, .f32⟩
  | 4 => ⟨S1x128, .f32⟩
  | 5 => ⟨S128, .f32⟩
  | 6 => ⟨S16, .f32⟩
  | 7 => ⟨S1x16, .f32⟩
  | 8 => ⟨S8x128, .f32⟩
  | 9 => ⟨S1024, .f32⟩
  | 10 => ⟨S1x1024, .f32⟩
  | 11 => ⟨S8x128, .f32⟩
  | 12 => ⟨S1024, .f32⟩
  | 13 => ⟨S1x1024, .f32⟩
  | 14 => ⟨S16x128, .f32⟩
  | 15 => ⟨S2048, .f32⟩
  | 16 => ⟨S1x2048, .f32⟩
  | _ => ⟨S1x2048, .f32⟩

abbrev hbmTy (i : Nat) : BufTy := match i / 128 with
  | 0 => hbmTy0_0 i
  | 1 => hbmTy0_1 i
  | 2 => hbmTy0_2 i
  | 3 => hbmTy0_3 i
  | _ => ⟨S1x2048, .f32⟩

abbrev bufTy : (tb : Table) → Fin (tcTables nBuf tb) → BufTy
  | .hbm, ⟨i, _⟩ => hbmTy i
  | .local _ .vmem, ⟨0, _⟩ => ⟨S72x128, .f32⟩
  | .local _ .vmem, ⟨1, _⟩ => ⟨S72x128, .f32⟩
  | .local _ .vmem, ⟨2, _⟩ => ⟨S72x128, .f32⟩
  | .local _ .vmem, ⟨3, _⟩ => ⟨S72x128, .f32⟩
  | .local _ .vmem, ⟨4, _⟩ => ⟨S72x128, .f32⟩
  | .local _ .vmem, ⟨5, _⟩ => ⟨S72x128, .f32⟩
  | .local _ .vmem, ⟨6, _⟩ => ⟨S72x128, .f32⟩
  | .local _ .vmem, ⟨7, _⟩ => ⟨S72x128, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_v0 : Ref sig .tc := ⟨.hbm, 44, rfl⟩
abbrev main_c : Ref sig .tc := ⟨.hbm, 45, rfl⟩
abbrev main_call0_v0 : Ref sig .tc := ⟨.hbm, 46, rfl⟩
abbrev main_v1 : Ref sig .tc := ⟨.hbm, 47, rfl⟩
abbrev main_v2 : Ref sig .tc := ⟨.hbm, 48, rfl⟩
abbrev main_v3 : Ref sig .tc := ⟨.hbm, 49, rfl⟩
abbrev main_c_0 : Ref sig .tc := ⟨.hbm, 50, rfl⟩
abbrev main_call1_v0 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_c_1 : Ref sig .tc := ⟨.hbm, 55, rfl⟩
abbrev main_call2_v0 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_c_2 : Ref sig .tc := ⟨.hbm, 60, rfl⟩
abbrev main_call3_v0 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_c_3 : Ref sig .tc := ⟨.hbm, 65, rfl⟩
abbrev main_call4_v0 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_c_4 : Ref sig .tc := ⟨.hbm, 70, rfl⟩
abbrev main_call5_v0 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_c_5 : Ref sig .tc := ⟨.hbm, 75, rfl⟩
abbrev main_call6_v0 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_c_6 : Ref sig .tc := ⟨.hbm, 80, rfl⟩
abbrev main_call7_v0 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_c_7 : Ref sig .tc := ⟨.hbm, 85, rfl⟩
abbrev main_call8_v0 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_c_8 : Ref sig .tc := ⟨.hbm, 90, rfl⟩
abbrev main_call9_v0 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_c_9 : Ref sig .tc := ⟨.hbm, 95, rfl⟩
abbrev main_call10_v0 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_c_10 : Ref sig .tc := ⟨.hbm, 100, rfl⟩
abbrev main_call11_v0 : Ref sig .tc := ⟨.hbm, 101, rfl⟩
abbrev main_v34 : Ref sig .tc := ⟨.hbm, 102, rfl⟩
abbrev main_v35 : Ref sig .tc := ⟨.hbm, 103, rfl⟩
abbrev main_c_11 : Ref sig .tc := ⟨.hbm, 104, rfl⟩
abbrev main_call12_v0 : Ref sig .tc := ⟨.hbm, 105, rfl⟩
abbrev main_v36 : Ref sig .tc := ⟨.hbm, 106, rfl⟩
abbrev main_v37 : Ref sig .tc := ⟨.hbm, 107, rfl⟩
abbrev main_v38 : Ref sig .tc := ⟨.hbm, 108, rfl⟩
abbrev main_c_12 : Ref sig .tc := ⟨.hbm, 109, rfl⟩
abbrev main_call13_v0 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_c_13 : Ref sig .tc := ⟨.hbm, 114, rfl⟩
abbrev main_call14_v0 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_c_14 : Ref sig .tc := ⟨.hbm, 119, rfl⟩
abbrev main_call15_v0 : Ref sig .tc := ⟨.hbm, 120, rfl⟩
abbrev main_v45 : Ref sig .tc := ⟨.hbm, 121, rfl⟩
abbrev main_v46 : Ref sig .tc := ⟨.hbm, 122, rfl⟩
abbrev main_v47 : Ref sig .tc := ⟨.hbm, 123, rfl⟩
abbrev main_c_15 : Ref sig .tc := ⟨.hbm, 124, rfl⟩
abbrev main_call16_v0 : Ref sig .tc := ⟨.hbm, 125, rfl⟩
abbrev main_v48 : Ref sig .tc := ⟨.hbm, 126, rfl⟩
abbrev main_v49 : Ref sig .tc := ⟨.hbm, 127, rfl⟩
abbrev main_v50 : Ref sig .tc := ⟨.hbm, 128, rfl⟩
abbrev main_c_16 : Ref sig .tc := ⟨.hbm, 129, rfl⟩
abbrev main_call17_v0 : Ref sig .tc := ⟨.hbm, 130, rfl⟩
abbrev main_v51 : Ref sig .tc := ⟨.hbm, 131, rfl⟩
abbrev main_v52 : Ref sig .tc := ⟨.hbm, 132, rfl⟩
abbrev main_v53 : Ref sig .tc := ⟨.hbm, 133, rfl⟩
abbrev main_c_17 : Ref sig .tc := ⟨.hbm, 134, rfl⟩
abbrev main_call18_v0 : Ref sig .tc := ⟨.hbm, 135, rfl⟩
abbrev main_v54 : Ref sig .tc := ⟨.hbm, 136, rfl⟩
abbrev main_v55 : Ref sig .tc := ⟨.hbm, 137, rfl⟩
abbrev main_v56 : Ref sig .tc := ⟨.hbm, 138, rfl⟩
abbrev main_c_18 : Ref sig .tc := ⟨.hbm, 139, rfl⟩
abbrev main_call19_v0 : Ref sig .tc := ⟨.hbm, 140, rfl⟩
abbrev main_v57 : Ref sig .tc := ⟨.hbm, 141, rfl⟩
abbrev main_v58 : Ref sig .tc := ⟨.hbm, 142, rfl⟩
abbrev main_v59 : Ref sig .tc := ⟨.hbm, 143, rfl⟩
abbrev main_c_19 : Ref sig .tc := ⟨.hbm, 144, rfl⟩
abbrev main_call20_v0 : Ref sig .tc := ⟨.hbm, 145, rfl⟩
abbrev main_v60 : Ref sig .tc := ⟨.hbm, 146, rfl⟩
abbrev main_v61 : Ref sig .tc := ⟨.hbm, 147, rfl⟩
abbrev main_v62 : Ref sig .tc := ⟨.hbm, 148, rfl⟩
abbrev main_c_20 : Ref sig .tc := ⟨.hbm, 149, rfl⟩
abbrev main_call21_v0 : Ref sig .tc := ⟨.hbm, 150, rfl⟩
abbrev main_v63 : Ref sig .tc := ⟨.hbm, 151, rfl⟩
abbrev main_v64 : Ref sig .tc := ⟨.hbm, 152, rfl⟩
abbrev main_v65 : Ref sig .tc := ⟨.hbm, 153, rfl⟩
abbrev main_c_21 : Ref sig .tc := ⟨.hbm, 154, rfl⟩
abbrev main_call22_v0 : Ref sig .tc := ⟨.hbm, 155, rfl⟩
abbrev main_v66 : Ref sig .tc := ⟨.hbm, 156, rfl⟩
abbrev main_v67 : Ref sig .tc := ⟨.hbm, 157, rfl⟩
abbrev main_v68 : Ref sig .tc := ⟨.hbm, 158, rfl⟩
abbrev main_c_22 : Ref sig .tc := ⟨.hbm, 159, rfl⟩
abbrev main_call23_v0 : Ref sig .tc := ⟨.hbm, 160, rfl⟩
abbrev main_v69 : Ref sig .tc := ⟨.hbm, 161, rfl⟩
abbrev main_v70 : Ref sig .tc := ⟨.hbm, 162, rfl⟩
abbrev main_c_23 : Ref sig .tc := ⟨.hbm, 163, rfl⟩
abbrev main_call24_v0 : Ref sig .tc := ⟨.hbm, 164, rfl⟩
abbrev main_v71 : Ref sig .tc := ⟨.hbm, 165, rfl⟩
abbrev main_v72 : Ref sig .tc := ⟨.hbm, 166, rfl⟩
abbrev main_v73 : Ref sig .tc := ⟨.hbm, 167, rfl⟩
abbrev main_c_24 : Ref sig .tc := ⟨.hbm, 168, rfl⟩
abbrev main_call25_v0 : Ref sig .tc := ⟨.hbm, 169, rfl⟩
abbrev main_v74 : Ref sig .tc := ⟨.hbm, 170, rfl⟩
abbrev main_v75 : Ref sig .tc := ⟨.hbm, 171, rfl⟩
abbrev main_v76 : Ref sig .tc := ⟨.hbm, 172, rfl⟩
abbrev main_c_25 : Ref sig .tc := ⟨.hbm, 173, rfl⟩
abbrev main_call26_v0 : Ref sig .tc := ⟨.hbm, 174, rfl⟩
abbrev main_v77 : Ref sig .tc := ⟨.hbm, 175, rfl⟩
abbrev main_v78 : Ref sig .tc := ⟨.hbm, 176, rfl⟩
abbrev main_v79 : Ref sig .tc := ⟨.hbm, 177, rfl⟩
abbrev main_c_26 : Ref sig .tc := ⟨.hbm, 178, rfl⟩
abbrev main_call27_v0 : Ref sig .tc := ⟨.hbm, 179, rfl⟩
abbrev main_v80 : Ref sig .tc := ⟨.hbm, 180, rfl⟩
abbrev main_v81 : Ref sig .tc := ⟨.hbm, 181, rfl⟩
abbrev main_v82 : Ref sig .tc := ⟨.hbm, 182, rfl⟩
abbrev main_c_27 : Ref sig .tc := ⟨.hbm, 183, rfl⟩
abbrev main_call28_v0 : Ref sig .tc := ⟨.hbm, 184, rfl⟩
abbrev main_v83 : Ref sig .tc := ⟨.hbm, 185, rfl⟩
abbrev main_v84 : Ref sig .tc := ⟨.hbm, 186, rfl⟩
abbrev main_v85 : Ref sig .tc := ⟨.hbm, 187, rfl⟩
abbrev main_c_28 : Ref sig .tc := ⟨.hbm, 188, rfl⟩
abbrev main_call29_v0 : Ref sig .tc := ⟨.hbm, 189, rfl⟩
abbrev main_v86 : Ref sig .tc := ⟨.hbm, 190, rfl⟩
abbrev main_v87 : Ref sig .tc := ⟨.hbm, 191, rfl⟩
abbrev main_v88 : Ref sig .tc := ⟨.hbm, 192, rfl⟩
abbrev main_c_29 : Ref sig .tc := ⟨.hbm, 193, rfl⟩
abbrev main_call30_v0 : Ref sig .tc := ⟨.hbm, 194, rfl⟩
abbrev main_v89 : Ref sig .tc := ⟨.hbm, 195, rfl⟩
abbrev main_v90 : Ref sig .tc := ⟨.hbm, 196, rfl⟩
abbrev main_v91 : Ref sig .tc := ⟨.hbm, 197, rfl⟩
abbrev main_c_30 : Ref sig .tc := ⟨.hbm, 198, rfl⟩
abbrev main_call31_v0 : Ref sig .tc := ⟨.hbm, 199, rfl⟩
abbrev main_v92 : Ref sig .tc := ⟨.hbm, 200, rfl⟩
abbrev main_v93 : Ref sig .tc := ⟨.hbm, 201, rfl⟩
abbrev main_v94 : Ref sig .tc := ⟨.hbm, 202, rfl⟩
abbrev main_c_31 : Ref sig .tc := ⟨.hbm, 203, rfl⟩
abbrev main_call32_v0 : Ref sig .tc := ⟨.hbm, 204, rfl⟩
abbrev main_v95 : Ref sig .tc := ⟨.hbm, 205, rfl⟩
abbrev main_v96 : Ref sig .tc := ⟨.hbm, 206, rfl⟩
abbrev main_v97 : Ref sig .tc := ⟨.hbm, 207, rfl⟩
abbrev main_c_32 : Ref sig .tc := ⟨.hbm, 208, rfl⟩
abbrev main_call33_v0 : Ref sig .tc := ⟨.hbm, 209, rfl⟩
abbrev main_v98 : Ref sig .tc := ⟨.hbm, 210, rfl⟩
abbrev main_v99 : Ref sig .tc := ⟨.hbm, 211, rfl⟩
abbrev main_v100 : Ref sig .tc := ⟨.hbm, 212, rfl⟩
abbrev main_c_33 : Ref sig .tc := ⟨.hbm, 213, rfl⟩
abbrev main_call34_v0 : Ref sig .tc := ⟨.hbm, 214, rfl⟩
abbrev main_v101 : Ref sig .tc := ⟨.hbm, 215, rfl⟩
abbrev main_v102 : Ref sig .tc := ⟨.hbm, 216, rfl⟩
abbrev main_v103 : Ref sig .tc := ⟨.hbm, 217, rfl⟩
abbrev main_c_34 : Ref sig .tc := ⟨.hbm, 218, rfl⟩
abbrev main_call35_v0 : Ref sig .tc := ⟨.hbm, 219, rfl⟩
abbrev main_v104 : Ref sig .tc := ⟨.hbm, 220, rfl⟩
abbrev main_v105 : Ref sig .tc := ⟨.hbm, 221, rfl⟩
abbrev main_c_35 : Ref sig .tc := ⟨.hbm, 222, rfl⟩
abbrev main_call36_v0 : Ref sig .tc := ⟨.hbm, 223, rfl⟩
abbrev main_v106 : Ref sig .tc := ⟨.hbm, 224, rfl⟩
abbrev main_v107 : Ref sig .tc := ⟨.hbm, 225, rfl⟩
abbrev main_v108 : Ref sig .tc := ⟨.hbm, 226, rfl⟩
abbrev main_c_36 : Ref sig .tc := ⟨.hbm, 227, rfl⟩
abbrev main_call37_v0 : Ref sig .tc := ⟨.hbm, 228, rfl⟩
abbrev main_v109 : Ref sig .tc := ⟨.hbm, 229, rfl⟩
abbrev main_v110 : Ref sig .tc := ⟨.hbm, 230, rfl⟩
abbrev main_v111 : Ref sig .tc := ⟨.hbm, 231, rfl⟩
abbrev main_c_37 : Ref sig .tc := ⟨.hbm, 232, rfl⟩
abbrev main_call38_v0 : Ref sig .tc := ⟨.hbm, 233, rfl⟩
abbrev main_v112 : Ref sig .tc := ⟨.hbm, 234, rfl⟩
abbrev main_v113 : Ref sig .tc := ⟨.hbm, 235, rfl⟩
abbrev main_v114 : Ref sig .tc := ⟨.hbm, 236, rfl⟩
abbrev main_c_38 : Ref sig .tc := ⟨.hbm, 237, rfl⟩
abbrev main_call39_v0 : Ref sig .tc := ⟨.hbm, 238, rfl⟩
abbrev main_v115 : Ref sig .tc := ⟨.hbm, 239, rfl⟩
abbrev main_v116 : Ref sig .tc := ⟨.hbm, 240, rfl⟩
abbrev main_v117 : Ref sig .tc := ⟨.hbm, 241, rfl⟩
abbrev main_c_39 : Ref sig .tc := ⟨.hbm, 242, rfl⟩
abbrev main_call40_v0 : Ref sig .tc := ⟨.hbm, 243, rfl⟩
abbrev main_v118 : Ref sig .tc := ⟨.hbm, 244, rfl⟩
abbrev main_v119 : Ref sig .tc := ⟨.hbm, 245, rfl⟩
abbrev main_v120 : Ref sig .tc := ⟨.hbm, 246, rfl⟩
abbrev main_c_40 : Ref sig .tc := ⟨.hbm, 247, rfl⟩
abbrev main_call41_v0 : Ref sig .tc := ⟨.hbm, 248, rfl⟩
abbrev main_v121 : Ref sig .tc := ⟨.hbm, 249, rfl⟩
abbrev main_v122 : Ref sig .tc := ⟨.hbm, 250, rfl⟩
abbrev main_v123 : Ref sig .tc := ⟨.hbm, 251, rfl⟩
abbrev main_c_41 : Ref sig .tc := ⟨.hbm, 252, rfl⟩
abbrev main_call42_v0 : Ref sig .tc := ⟨.hbm, 253, rfl⟩
abbrev main_v124 : Ref sig .tc := ⟨.hbm, 254, rfl⟩
abbrev main_v125 : Ref sig .tc := ⟨.hbm, 255, rfl⟩
abbrev main_v126 : Ref sig .tc := ⟨.hbm, 256, rfl⟩
abbrev main_c_42 : Ref sig .tc := ⟨.hbm, 257, rfl⟩
abbrev main_call43_v0 : Ref sig .tc := ⟨.hbm, 258, rfl⟩
abbrev main_v127 : Ref sig .tc := ⟨.hbm, 259, rfl⟩
abbrev main_v128 : Ref sig .tc := ⟨.hbm, 260, rfl⟩
abbrev main_v129 : Ref sig .tc := ⟨.hbm, 261, rfl⟩
abbrev main_c_43 : Ref sig .tc := ⟨.hbm, 262, rfl⟩
abbrev main_call44_v0 : Ref sig .tc := ⟨.hbm, 263, rfl⟩
abbrev main_v130 : Ref sig .tc := ⟨.hbm, 264, rfl⟩
abbrev main_v131 : Ref sig .tc := ⟨.hbm, 265, rfl⟩
abbrev main_v132 : Ref sig .tc := ⟨.hbm, 266, rfl⟩
abbrev main_c_44 : Ref sig .tc := ⟨.hbm, 267, rfl⟩
abbrev main_call45_v0 : Ref sig .tc := ⟨.hbm, 268, rfl⟩
abbrev main_v133 : Ref sig .tc := ⟨.hbm, 269, rfl⟩
abbrev main_v134 : Ref sig .tc := ⟨.hbm, 270, rfl⟩
abbrev main_v135 : Ref sig .tc := ⟨.hbm, 271, rfl⟩
abbrev main_c_45 : Ref sig .tc := ⟨.hbm, 272, rfl⟩
abbrev main_call46_v0 : Ref sig .tc := ⟨.hbm, 273, rfl⟩
abbrev main_v136 : Ref sig .tc := ⟨.hbm, 274, rfl⟩
abbrev main_v137 : Ref sig .tc := ⟨.hbm, 275, rfl⟩
abbrev main_v138 : Ref sig .tc := ⟨.hbm, 276, rfl⟩
abbrev main_c_46 : Ref sig .tc := ⟨.hbm, 277, rfl⟩
abbrev main_call47_v0 : Ref sig .tc := ⟨.hbm, 278, rfl⟩
abbrev main_v139 : Ref sig .tc := ⟨.hbm, 279, rfl⟩
abbrev main_v140_0 : Ref sig .tc := ⟨.hbm, 280, rfl⟩
abbrev main_v140_1 : Ref sig .tc := ⟨.hbm, 281, rfl⟩
abbrev main_v140_2 : Ref sig .tc := ⟨.hbm, 282, rfl⟩
abbrev main_v140_3 : Ref sig .tc := ⟨.hbm, 283, rfl⟩
abbrev main_v141 : Ref sig .tc := ⟨.hbm, 284, rfl⟩
abbrev main_v142 : Ref sig .tc := ⟨.hbm, 285, rfl⟩
abbrev main_v143 : Ref sig .tc := ⟨.hbm, 286, rfl⟩
abbrev main_v144 : Ref sig .tc := ⟨.hbm, 287, rfl⟩
abbrev main_v145 : Ref sig .tc := ⟨.hbm, 288, rfl⟩
abbrev main_v146 : Ref sig .tc := ⟨.hbm, 289, rfl⟩
abbrev main_v147 : Ref sig .tc := ⟨.hbm, 290, rfl⟩
abbrev main_v148 : Ref sig .tc := ⟨.hbm, 291, rfl⟩
abbrev main_v149 : Ref sig .tc := ⟨.hbm, 292, rfl⟩
abbrev main_v150 : Ref sig .tc := ⟨.hbm, 293, rfl⟩
abbrev main_v151 : Ref sig .tc := ⟨.hbm, 294, rfl⟩
abbrev main_v152 : Ref sig .tc := ⟨.hbm, 295, rfl⟩
abbrev main_v153 : Ref sig .tc := ⟨.hbm, 296, rfl⟩
abbrev main_v154 : Ref sig .tc := ⟨.hbm, 297, rfl⟩
abbrev main_v155 : Ref sig .tc := ⟨.hbm, 298, rfl⟩
abbrev main_v156 : Ref sig .tc := ⟨.hbm, 299, rfl⟩
abbrev main_v157 : Ref sig .tc := ⟨.hbm, 300, rfl⟩
abbrev main_v158 : Ref sig .tc := ⟨.hbm, 301, rfl⟩
abbrev main_v159 : Ref sig .tc := ⟨.hbm, 302, rfl⟩
abbrev main_v160 : Ref sig .tc := ⟨.hbm, 303, rfl⟩
abbrev main_v161 : Ref sig .tc := ⟨.hbm, 304, rfl⟩
abbrev main_v162 : Ref sig .tc := ⟨.hbm, 305, rfl⟩
abbrev main_v163 : Ref sig .tc := ⟨.hbm, 306, rfl⟩
abbrev main_v164 : Ref sig .tc := ⟨.hbm, 307, rfl⟩
abbrev main_v165 : Ref sig .tc := ⟨.hbm, 308, rfl⟩
abbrev main_v166 : Ref sig .tc := ⟨.hbm, 309, rfl⟩
abbrev main_v167 : Ref sig .tc := ⟨.hbm, 310, rfl⟩
abbrev main_v168 : Ref sig .tc := ⟨.hbm, 311, rfl⟩
abbrev main_v169 : Ref sig .tc := ⟨.hbm, 312, rfl⟩
abbrev main_v170 : Ref sig .tc := ⟨.hbm, 313, rfl⟩
abbrev main_v171 : Ref sig .tc := ⟨.hbm, 314, rfl⟩
abbrev main_v172 : Ref sig .tc := ⟨.hbm, 315, rfl⟩
abbrev main_v173 : Ref sig .tc := ⟨.hbm, 316, rfl⟩
abbrev main_v174 : Ref sig .tc := ⟨.hbm, 317, rfl⟩
abbrev main_v175 : Ref sig .tc := ⟨.hbm, 318, rfl⟩
abbrev main_v176 : Ref sig .tc := ⟨.hbm, 319, rfl⟩
abbrev main_v177 : Ref sig .tc := ⟨.hbm, 320, rfl⟩
abbrev main_v178 : Ref sig .tc := ⟨.hbm, 321, rfl⟩
abbrev main_v179 : Ref sig .tc := ⟨.hbm, 322, rfl⟩
abbrev main_v180 : Ref sig .tc := ⟨.hbm, 323, rfl⟩
abbrev main_v181 : Ref sig .tc := ⟨.hbm, 324, rfl⟩
abbrev main_v182 : Ref sig .tc := ⟨.hbm, 325, rfl⟩
abbrev main_v183 : Ref sig .tc := ⟨.hbm, 326, rfl⟩
abbrev main_v184 : Ref sig .tc := ⟨.hbm, 327, rfl⟩
abbrev main_v185 : Ref sig .tc := ⟨.hbm, 328, rfl⟩
abbrev main_v186 : Ref sig .tc := ⟨.hbm, 329, rfl⟩
abbrev main_v187 : Ref sig .tc := ⟨.hbm, 330, rfl⟩
abbrev main_v188 : Ref sig .tc := ⟨.hbm, 331, rfl⟩
abbrev main_v189 : Ref sig .tc := ⟨.hbm, 332, rfl⟩
abbrev main_v190 : Ref sig .tc := ⟨.hbm, 333, rfl⟩
abbrev main_v191 : Ref sig .tc := ⟨.hbm, 334, rfl⟩
abbrev main_v192 : Ref sig .tc := ⟨.hbm, 335, rfl⟩
abbrev main_v193 : Ref sig .tc := ⟨.hbm, 336, rfl⟩
abbrev main_v194 : Ref sig .tc := ⟨.hbm, 337, rfl⟩
abbrev main_v195 : Ref sig .tc := ⟨.hbm, 338, rfl⟩
abbrev main_v196 : Ref sig .tc := ⟨.hbm, 339, rfl⟩
abbrev main_v197 : Ref sig .tc := ⟨.hbm, 340, rfl⟩
abbrev main_v198 : Ref sig .tc := ⟨.hbm, 341, rfl⟩
abbrev main_v199 : Ref sig .tc := ⟨.hbm, 342, rfl⟩
abbrev main_v200 : Ref sig .tc := ⟨.hbm, 343, rfl⟩
abbrev main_v201 : Ref sig .tc := ⟨.hbm, 344, rfl⟩
abbrev main_v202 : Ref sig .tc := ⟨.hbm, 345, rfl⟩
abbrev main_v203 : Ref sig .tc := ⟨.hbm, 346, rfl⟩
abbrev main_v204 : Ref sig .tc := ⟨.hbm, 347, rfl⟩
abbrev main_v205 : Ref sig .tc := ⟨.hbm, 348, rfl⟩
abbrev main_v206 : Ref sig .tc := ⟨.hbm, 349, rfl⟩
abbrev main_v207 : Ref sig .tc := ⟨.hbm, 350, rfl⟩
abbrev main_v208 : Ref sig .tc := ⟨.hbm, 351, rfl⟩
abbrev main_v209 : Ref sig .tc := ⟨.hbm, 352, rfl⟩
abbrev main_v210 : Ref sig .tc := ⟨.hbm, 353, rfl⟩
abbrev main_v211 : Ref sig .tc := ⟨.hbm, 354, rfl⟩
abbrev main_v212 : Ref sig .tc := ⟨.hbm, 355, rfl⟩
abbrev main_v213 : Ref sig .tc := ⟨.hbm, 356, rfl⟩
abbrev main_v214 : Ref sig .tc := ⟨.hbm, 357, rfl⟩
abbrev main_v215 : Ref sig .tc := ⟨.hbm, 358, rfl⟩
abbrev main_v216 : Ref sig .tc := ⟨.hbm, 359, rfl⟩
abbrev main_v217 : Ref sig .tc := ⟨.hbm, 360, rfl⟩
abbrev main_v218 : Ref sig .tc := ⟨.hbm, 361, rfl⟩
abbrev main_v219 : Ref sig .tc := ⟨.hbm, 362, rfl⟩
abbrev main_v220 : Ref sig .tc := ⟨.hbm, 363, rfl⟩
abbrev main_v221 : Ref sig .tc := ⟨.hbm, 364, rfl⟩
abbrev main_v222 : Ref sig .tc := ⟨.hbm, 365, rfl⟩
abbrev main_v223 : Ref sig .tc := ⟨.hbm, 366, rfl⟩
abbrev main_v224 : Ref sig .tc := ⟨.hbm, 367, rfl⟩
abbrev main_v225 : Ref sig .tc := ⟨.hbm, 368, rfl⟩
abbrev main_v226 : Ref sig .tc := ⟨.hbm, 369, rfl⟩
abbrev main_v227 : Ref sig .tc := ⟨.hbm, 370, rfl⟩
abbrev main_v228 : Ref sig .tc := ⟨.hbm, 371, rfl⟩
abbrev main_v229 : Ref sig .tc := ⟨.hbm, 372, rfl⟩
abbrev main_v230 : Ref sig .tc := ⟨.hbm, 373, rfl⟩
abbrev main_v231 : Ref sig .tc := ⟨.hbm, 374, rfl⟩
abbrev main_v232 : Ref sig .tc := ⟨.hbm, 375, rfl⟩
abbrev main_v233 : Ref sig .tc := ⟨.hbm, 376, rfl⟩
abbrev main_v234 : Ref sig .tc := ⟨.hbm, 377, rfl⟩
abbrev main_v235 : Ref sig .tc := ⟨.hbm, 378, rfl⟩
abbrev main_v236 : Ref sig .tc := ⟨.hbm, 379, rfl⟩
abbrev main_v237 : Ref sig .tc := ⟨.hbm, 380, rfl⟩
abbrev main_v238 : Ref sig .tc := ⟨.hbm, 381, rfl⟩
abbrev main_v239 : Ref sig .tc := ⟨.hbm, 382, rfl⟩
abbrev main_v240 : Ref sig .tc := ⟨.hbm, 383, rfl⟩
abbrev main_v241 : Ref sig .tc := ⟨.hbm, 384, rfl⟩
abbrev main_v242 : Ref sig .tc := ⟨.hbm, 385, rfl⟩
abbrev main_v243 : Ref sig .tc := ⟨.hbm, 386, rfl⟩
abbrev main_v244 : Ref sig .tc := ⟨.hbm, 387, rfl⟩
abbrev main_v245 : Ref sig .tc := ⟨.hbm, 388, rfl⟩
abbrev main_v246 : Ref sig .tc := ⟨.hbm, 389, rfl⟩
abbrev main_v247 : Ref sig .tc := ⟨.hbm, 390, rfl⟩
abbrev main_v248 : Ref sig .tc := ⟨.hbm, 391, rfl⟩
abbrev main_v249 : Ref sig .tc := ⟨.hbm, 392, rfl⟩
abbrev main_v250 : Ref sig .tc := ⟨.hbm, 393, rfl⟩
abbrev main_v251 : Ref sig .tc := ⟨.hbm, 394, rfl⟩
abbrev main_v252 : Ref sig .tc := ⟨.hbm, 395, rfl⟩
abbrev main_v253 : Ref sig .tc := ⟨.hbm, 396, rfl⟩
abbrev main_v254 : Ref sig .tc := ⟨.hbm, 397, rfl⟩
abbrev main_v255 : Ref sig .tc := ⟨.hbm, 398, rfl⟩
abbrev main_v256 : Ref sig .tc := ⟨.hbm, 399, rfl⟩
abbrev main_v257 : Ref sig .tc := ⟨.hbm, 400, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S72x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S72x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S72x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S72x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S72x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S72x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S72x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S72x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel11Ideal.lean ====
variable {F : FTy → Type} [FloatOps F] [Named F]
def κ : String → Option EReal := fun
  | "bias1" => some ((8388608 / 5463681 : ℝ) : EReal)
  | "bias2" => some ((268435456 / 2672307 : ℝ) : EReal)
  | _ => none
-- ==== Reference11Ideal.lean ====
abbrev S1x2048 : Shape := ⟨2, ![1, 2048]⟩
abbrev S1x16 : Shape := ⟨2, ![1, 16]⟩
abbrev S1x64 : Shape := ⟨2, ![1, 64]⟩
abbrev S1x1024 : Shape := ⟨2, ![1, 1024]⟩
abbrev S_ : Shape := ⟨0, ![]⟩

abbrev nBuf : Space → Nat
  | .hbm => 407
  | .vmem => 0
  | .smem => 0
  | _ => 0

abbrev hbmTy0_0 (i : Nat) : BufTy := match i % 128 with
  | 0 => ⟨S1x2048, .f32⟩
  | 1 => ⟨S1x2048, .f32⟩
  | 2 => ⟨S1x16, .f32⟩
  | 3 => ⟨S1x64, .f32⟩
  | 4 => ⟨S1x64, .f32⟩
  | 5 => ⟨S1x64, .f32⟩
  | 6 => ⟨S1x64, .f32⟩
  | 7 => ⟨S1x16, .f32⟩
  | 8 => ⟨S1x1024, .f32⟩
  | 9 => ⟨S1x1024, .f32⟩
  | 10 => ⟨S1x2048, .f32⟩
  | 11 => ⟨S1x2048, .f32⟩
  | 12 => ⟨S1x2048, .f32⟩
  | 13 => ⟨S1x16, .f32⟩
  | 14 => ⟨S1x64, .f32⟩
  | 15 => ⟨S1x64, .f32⟩
  | 16 => ⟨S1x64, .f32⟩
  | 17 => ⟨S1x64, .f32⟩
  | 18 => ⟨S1x16, .f32⟩
  | 19 => ⟨S1x1024, .f32⟩
  | 20 => ⟨S1x1024, .f32⟩
  | 21 => ⟨S1x2048, .f32⟩
  | 22 => ⟨S1x2048, .f32⟩
  | 23 => ⟨S1x2048, .f32⟩
  | 24 => ⟨S1x16, .f32⟩
  | 25 => ⟨S1x64, .f32⟩
  | 26 => ⟨S1x64, .f32⟩
  | 27 => ⟨S1x64, .f32⟩
  | 28 => ⟨S1x64, .f32⟩
  | 29 => ⟨S1x16, .f32⟩
  | 30 => ⟨S1x1024, .f32⟩
  | 31 => ⟨S1x1024, .f32⟩
  | 32 => ⟨S1x2048, .f32⟩
  | 33 => ⟨S1x2048, .f32⟩
  | 34 => ⟨S1x2048, .f32⟩
  | 35 => ⟨S1x16, .f32⟩
  | 36 => ⟨S1x64, .f32⟩
  | 37 => ⟨S1x64, .f32⟩
  | 38 => ⟨S1x64, .f32⟩
  | 39 => ⟨S1x64, .f32⟩
  | 40 => ⟨S1x16, .f32⟩
  | 41 => ⟨S1x1024, .f32⟩
  | 42 => ⟨S1x1024, .f32⟩
  | 43 => ⟨S1x2048, .f32⟩
  | 44 => ⟨S_, .f32⟩
  | 45 => ⟨S1x2048, .f32⟩
  | 46 => ⟨S1x2048, .f32⟩
  | 47 => ⟨S_, .f32⟩
  | 48 => ⟨S1x2048, .f32⟩
  | 49 => ⟨S1x2048, .f32⟩
  | 50 => ⟨S1x2048, .f32⟩
  | 51 => ⟨S_, .f32⟩
  | 52 => ⟨S1x2048, .f32⟩
  | 53 => ⟨S1x2048, .f32⟩
  | 54 => ⟨S1x2048, .f32⟩
  | 55 => ⟨S_, .f32⟩
  | 56 => ⟨S1x2048, .f32⟩
  | 57 => ⟨S1x2048, .f32⟩
  | 58 => ⟨S1x2048, .f32⟩
  | 59 => ⟨S_, .f32⟩
  | 60 => ⟨S1x2048, .f32⟩
  | 61 => ⟨S1x2048, .f32⟩
  | 62 => ⟨S_, .f32⟩
  | 63 => ⟨S1x2048, .f32⟩
  | 64 => ⟨S1x2048, .f32⟩
  | 65 => ⟨S1x2048, .f32⟩
  | 66 => ⟨S_, .f32⟩
  | 67 => ⟨S1x2048, .f32⟩
  | 68 => ⟨S1x2048, .f32⟩
  | 69 => ⟨S1x2048, .f32⟩
  | 70 => ⟨S_, .f32⟩
  | 71 => ⟨S1x2048, .f32⟩
  | 72 => ⟨S1x2048, .f32⟩
  | 73 => ⟨S1x2048, .f32⟩
  | 74 => ⟨S_, .f32⟩
  | 75 => ⟨S1x2048, .f32⟩
  | 76 => ⟨S1x2048, .f32⟩
  | 77 => ⟨S_, .f32⟩
  | 78 => ⟨S1x2048, .f32⟩
  | 79 => ⟨S1x2048, .f32⟩
  | 80 => ⟨S_, .f32⟩
  | 81 => ⟨S1x2048, .f32⟩
  | 82 => ⟨S1x2048, .f32⟩
  | 83 => ⟨S1x2048, .f32⟩
  | 84 => ⟨S_, .f32⟩
  | 85 => ⟨S1x2048, .f32⟩
  | 86 => ⟨S1x2048, .f32⟩
  | 87 => ⟨S1x2048, .f32⟩
  | 88 => ⟨S_, .f32⟩
  | 89 => ⟨S1x2048, .f32⟩
  | 90 => ⟨S1x2048, .f32⟩
  | 91 => ⟨S1x2048, .f32⟩
  | 92 => ⟨S_, .f32⟩
  | 93 => ⟨S1x2048, .f32⟩
  | 94 => ⟨S1x2048, .f32⟩
  | 95 => ⟨S_, .f32⟩
  | 96 => ⟨S1x2048, .f32⟩
  | 97 => ⟨S1x2048, .f32⟩
  | 98 => ⟨S1x2048, .f32⟩
  | 99 => ⟨S_, .f32⟩
  | 100 => ⟨S1x2048, .f32⟩
  | 101 => ⟨S1x2048, .f32⟩
  | 102 => ⟨S1x2048, .f32⟩
  | 103 => ⟨S_, .f32⟩
  | 104 => ⟨S1x2048, .f32⟩
  | 105 => ⟨S1x2048, .f32⟩
  | 106 => ⟨S1x2048, .f32⟩
  | 107 => ⟨S_, .f32⟩
  | 108 => ⟨S1x2048, .f32⟩
  | 109 => ⟨S1x2048, .f32⟩
  | 110 => ⟨S_, .f32⟩
  | 111 => ⟨S1x16, .f32⟩
  | 112 => ⟨S1x16, .f32⟩
  | 113 => ⟨S_, .f32⟩
  | 114 => ⟨S1x16, .f32⟩
  | 115 => ⟨S1x16, .f32⟩
  | 116 => ⟨S1x16, .f32⟩
  | 117 => ⟨S_, .f32⟩
  | 118 => ⟨S1x16, .f32⟩
  | 119 => ⟨S1x16, .f32⟩
  | 120 => ⟨S1x16, .f32⟩
  | 121 => ⟨S_, .f32⟩
  | 122 => ⟨S1x16, .f32⟩
  | 123 => ⟨S1x16, .f32⟩
  | 124 => ⟨S1x16, .f32⟩
  | 125 => ⟨S_, .f32⟩
  | 126 => ⟨S1x16, .f32⟩
  | 127 => ⟨S1x16, .f32⟩
  | _ => ⟨S1x2048, .f32⟩

abbrev hbmTy0_1 (i : Nat) : BufTy := match i % 128 with
  | 0 => ⟨S_, .f32⟩
  | 1 => ⟨S1x16, .f32⟩
  | 2 => ⟨S1x16, .f32⟩
  | 3 => ⟨S1x16, .f32⟩
  | 4 => ⟨S_, .f32⟩
  | 5 => ⟨S1x16, .f32⟩
  | 6 => ⟨S1x16, .f32⟩
  | 7 => ⟨S1x16, .f32⟩
  | 8 => ⟨S_, .f32⟩
  | 9 => ⟨S1x16, .f32⟩
  | 10 => ⟨S1x16, .f32⟩
  | 11 => ⟨S1x16, .f32⟩
  | 12 => ⟨S_, .f32⟩
  | 13 => ⟨S1x16, .f32⟩
  | 14 => ⟨S1x16, .f32⟩
  | 15 => ⟨S_, .f32⟩
  | 16 => ⟨S1x64, .f32⟩
  | 17 => ⟨S1x64, .f32⟩
  | 18 => ⟨S_, .f32⟩
  | 19 => ⟨S1x64, .f32⟩
  | 20 => ⟨S1x64, .f32⟩
  | 21 => ⟨S1x64, .f32⟩
  | 22 => ⟨S_, .f32⟩
  | 23 => ⟨S1x64, .f32⟩
  | 24 => ⟨S1x64, .f32⟩
  | 25 => ⟨S1x64, .f32⟩
  | 26 => ⟨S_, .f32⟩
  | 27 => ⟨S1x64, .f32⟩
  | 28 => ⟨S1x64, .f32⟩
  | 29 => ⟨S1x64, .f32⟩
  | 30 => ⟨S_, .f32⟩
  | 31 => ⟨S1x64, .f32⟩
  | 32 => ⟨S1x64, .f32⟩
  | 33 => ⟨S_, .f32⟩
  | 34 => ⟨S1x64, .f32⟩
  | 35 => ⟨S1x64, .f32⟩
  | 36 => ⟨S1x64, .f32⟩
  | 37 => ⟨S_, .f32⟩
  | 38 => ⟨S1x64, .f32⟩
  | 39 => ⟨S1x64, .f32⟩
  | 40 => ⟨S1x64, .f32⟩
  | 41 => ⟨S_, .f32⟩
  | 42 => ⟨S1x64, .f32⟩
  | 43 => ⟨S1x64, .f32⟩
  | 44 => ⟨S1x64, .f32⟩
  | 45 => ⟨S_, .f32⟩
  | 46 => ⟨S1x64, .f32⟩
  | 47 => ⟨S1x64, .f32⟩
  | 48 => ⟨S_, .f32⟩
  | 49 => ⟨S1x64, .f32⟩
  | 50 => ⟨S1x64, .f32⟩
  | 51 => ⟨S_, .f32⟩
  | 52 => ⟨S1x64, .f32⟩
  | 53 => ⟨S1x64, .f32⟩
  | 54 => ⟨S1x64, .f32⟩
  | 55 => ⟨S_, .f32⟩
  | 56 => ⟨S1x64, .f32⟩
  | 57 => ⟨S1x64, .f32⟩
  | 58 => ⟨S1x64, .f32⟩
  | 59 => ⟨S_, .f32⟩
  | 60 => ⟨S1x64, .f32⟩
  | 61 => ⟨S1x64, .f32⟩
  | 62 => ⟨S1x64, .f32⟩
  | 63 => ⟨S_, .f32⟩
  | 64 => ⟨S1x64, .f32⟩
  | 65 => ⟨S1x64, .f32⟩
  | 66 => ⟨S_, .f32⟩
  | 67 => ⟨S1x64, .f32⟩
  | 68 => ⟨S1x64, .f32⟩
  | 69 => ⟨S1x64, .f32⟩
  | 70 => ⟨S_, .f32⟩
  | 71 => ⟨S1x64, .f32⟩
  | 72 => ⟨S1x64, .f32⟩
  | 73 => ⟨S1x64, .f32⟩
  | 74 => ⟨S_, .f32⟩
  | 75 => ⟨S1x64, .f32⟩
  | 76 => ⟨S1x64, .f32⟩
  | 77 => ⟨S1x64, .f32⟩
  | 78 => ⟨S_, .f32⟩
  | 79 => ⟨S1x64, .f32⟩
  | 80 => ⟨S1x64, .f32⟩
  | 81 => ⟨S_, .f32⟩
  | 82 => ⟨S1x64, .f32⟩
  | 83 => ⟨S1x64, .f32⟩
  | 84 => ⟨S_, .f32⟩
  | 85 => ⟨S1x64, .f32⟩
  | 86 => ⟨S1x64, .f32⟩
  | 87 => ⟨S1x64, .f32⟩
  | 88 => ⟨S_, .f32⟩
  | 89 => ⟨S1x64, .f32⟩
  | 90 => ⟨S1x64, .f32⟩
  | 91 => ⟨S1x64, .f32⟩
  | 92 => ⟨S_, .f32⟩
  | 93 => ⟨S1x64, .f32⟩
  | 94 => ⟨S1x64, .f32⟩
  | 95 => ⟨S1x64, .f32⟩
  | 96 => ⟨S_, .f32⟩
  | 97 => ⟨S1x64, .f32⟩
  | 98 => ⟨S1x64, .f32⟩
  | 99 => ⟨S_, .f32⟩
  | 100 => ⟨S1x64, .f32⟩
  | 101 => ⟨S1x64, .f32⟩
  | 102 => ⟨S1x64, .f32⟩
  | 103 => ⟨S_, .f32⟩
  | 104 => ⟨S1x64, .f32⟩
  | 105 => ⟨S1x64, .f32⟩
  | 106 => ⟨S1x64, .f32⟩
  | 107 => ⟨S_, .f32⟩
  | 108 => ⟨S1x64, .f32⟩
  | 109 => ⟨S1x64, .f32⟩
  | 110 => ⟨S1x64, .f32⟩
  | 111 => ⟨S_, .f32⟩
  | 112 => ⟨S1x64, .f32⟩
  | 113 => ⟨S1x64, .f32⟩
  | 114 => ⟨S_, .f32⟩
  | 115 => ⟨S1x64, .f32⟩
  | 116 => ⟨S1x64, .f32⟩
  | 117 => ⟨S_, .f32⟩
  | 118 => ⟨S1x64, .f32⟩
  | 119 => ⟨S1x64, .f32⟩
  | 120 => ⟨S1x64, .f32⟩
  | 121 => ⟨S_, .f32⟩
  | 122 => ⟨S1x64, .f32⟩
  | 123 => ⟨S1x64, .f32⟩
  | 124 => ⟨S1x64, .f32⟩
  | 125 => ⟨S_, .f32⟩
  | 126 => ⟨S1x64, .f32⟩
  | 127 => ⟨S1x64, .f32⟩
  | _ => ⟨S1x2048, .f32⟩

abbrev hbmTy0_2 (i : Nat) : BufTy := match i % 128 with
  | 0 => ⟨S1x64, .f32⟩
  | 1 => ⟨S_, .f32⟩
  | 2 => ⟨S1x64, .f32⟩
  | 3 => ⟨S1x64, .f32⟩
  | 4 => ⟨S_, .f32⟩
  | 5 => ⟨S1x64, .f32⟩
  | 6 => ⟨S1x64, .f32⟩
  | 7 => ⟨S1x64, .f32⟩
  | 8 => ⟨S_, .f32⟩
  | 9 => ⟨S1x64, .f32⟩
  | 10 => ⟨S1x64, .f32⟩
  | 11 => ⟨S1x64, .f32⟩
  | 12 => ⟨S_, .f32⟩
  | 13 => ⟨S1x64, .f32⟩
  | 14 => ⟨S1x64, .f32⟩
  | 15 => ⟨S1x64, .f32⟩
  | 16 => ⟨S_, .f32⟩
  | 17 => ⟨S1x64, .f32⟩
  | 18 => ⟨S1x64, .f32⟩
  | 19 => ⟨S_, .f32⟩
  | 20 => ⟨S1x16, .f32⟩
  | 21 => ⟨S1x16, .f32⟩
  | 22 => ⟨S_, .f32⟩
  | 23 => ⟨S1x16, .f32⟩
  | 24 => ⟨S1x16, .f32⟩
  | 25 => ⟨S1x16, .f32⟩
  | 26 => ⟨S_, .f32⟩
  | 27 => ⟨S1x16, .f32⟩
  | 28 => ⟨S1x16, .f32⟩
  | 29 => ⟨S1x16, .f32⟩
  | 30 => ⟨S_, .f32⟩
  | 31 => ⟨S1x16, .f32⟩
  | 32 => ⟨S1x16, .f32⟩
  | 33 => ⟨S1x16, .f32⟩
  | 34 => ⟨S_, .f32⟩
  | 35 => ⟨S1x16, .f32⟩
  | 36 => ⟨S1x16, .f32⟩
  | 37 => ⟨S_, .f32⟩
  | 38 => ⟨S1x16, .f32⟩
  | 39 => ⟨S1x16, .f32⟩
  | 40 => ⟨S1x16, .f32⟩
  | 41 => ⟨S_, .f32⟩
  | 42 => ⟨S1x16, .f32⟩
  | 43 => ⟨S1x16, .f32⟩
  | 44 => ⟨S1x16, .f32⟩
  | 45 => ⟨S_, .f32⟩
  | 46 => ⟨S1x16, .f32⟩
  | 47 => ⟨S1x16, .f32⟩
  | 48 => ⟨S1x16, .f32⟩
  | 49 => ⟨S_, .f32⟩
  | 50 => ⟨S1x16, .f32⟩
  | 51 => ⟨S1x16, .f32⟩
  | 52 => ⟨S_, .f32⟩
  | 53 => ⟨S1x1024, .f32⟩
  | 54 => ⟨S1x1024, .f32⟩
  | 55 => ⟨S_, .f32⟩
  | 56 => ⟨S1x1024, .f32⟩
  | 57 => ⟨S1x1024, .f32⟩
  | 58 => ⟨S1x1024, .f32⟩
  | 59 => ⟨S_, .f32⟩
  | 60 => ⟨S1x1024, .f32⟩
  | 61 => ⟨S1x1024, .f32⟩
  | 62 => ⟨S1x1024, .f32⟩
  | 63 => ⟨S_, .f32⟩
  | 64 => ⟨S1x1024, .f32⟩
  | 65 => ⟨S1x1024, .f32⟩
  | 66 => ⟨S1x1024, .f32⟩
  | 67 => ⟨S_, .f32⟩
  | 68 => ⟨S1x1024, .f32⟩
  | 69 => ⟨S1x1024, .f32⟩
  | 70 => ⟨S_, .f32⟩
  | 71 => ⟨S1x1024, .f32⟩
  | 72 => ⟨S1x1024, .f32⟩
  | 73 => ⟨S1x1024, .f32⟩
  | 74 => ⟨S_, .f32⟩
  | 75 => ⟨S1x1024, .f32⟩
  | 76 => ⟨S1x1024, .f32⟩
  | 77 => ⟨S1x1024, .f32⟩
  | 78 => ⟨S_, .f32⟩
  | 79 => ⟨S1x1024, .f32⟩
  | 80 => ⟨S1x1024, .f32⟩
  | 81 => ⟨S1x1024, .f32⟩
  | 82 => ⟨S_, .f32⟩
  | 83 => ⟨S1x1024, .f32⟩
  | 84 => ⟨S1x1024, .f32⟩
  | 85 => ⟨S_, .f32⟩
  | 86 => ⟨S1x1024, .f32⟩
  | 87 => ⟨S1x1024, .f32⟩
  | 88 => ⟨S_, .f32⟩
  | 89 => ⟨S1x1024, .f32⟩
  | 90 => ⟨S1x1024, .f32⟩
  | 91 => ⟨S1x1024, .f32⟩
  | 92 => ⟨S_, .f32⟩
  | 93 => ⟨S1x1024, .f32⟩
  | 94 => ⟨S1x1024, .f32⟩
  | 95 => ⟨S1x1024, .f32⟩
  | 96 => ⟨S_, .f32⟩
  | 97 => ⟨S1x1024, .f32⟩
  | 98 => ⟨S1x1024, .f32⟩
  | 99 => ⟨S1x1024, .f32⟩
  | 100 => ⟨S_, .f32⟩
  | 101 => ⟨S1x1024, .f32⟩
  | 102 => ⟨S1x1024, .f32⟩
  | 103 => ⟨S_, .f32⟩
  | 104 => ⟨S1x1024, .f32⟩
  | 105 => ⟨S1x1024, .f32⟩
  | 106 => ⟨S1x1024, .f32⟩
  | 107 => ⟨S_, .f32⟩
  | 108 => ⟨S1x1024, .f32⟩
  | 109 => ⟨S1x1024, .f32⟩
  | 110 => ⟨S1x1024, .f32⟩
  | 111 => ⟨S_, .f32⟩
  | 112 => ⟨S1x1024, .f32⟩
  | 113 => ⟨S1x1024, .f32⟩
  | 114 => ⟨S1x1024, .f32⟩
  | 115 => ⟨S_, .f32⟩
  | 116 => ⟨S1x1024, .f32⟩
  | 117 => ⟨S1x1024, .f32⟩
  | 118 => ⟨S_, .f32⟩
  | 119 => ⟨S1x2048, .f32⟩
  | 120 => ⟨S1x2048, .f32⟩
  | 121 => ⟨S_, .f32⟩
  | 122 => ⟨S1x2048, .f32⟩
  | 123 => ⟨S1x2048, .f32⟩
  | 124 => ⟨S1x2048, .f32⟩
  | 125 => ⟨S_, .f32⟩
  | 126 => ⟨S1x2048, .f32⟩
  | 127 => ⟨S1x2048, .f32⟩
  | _ => ⟨S1x2048, .f32⟩

abbrev hbmTy0_3 (i : Nat) : BufTy := match i % 128 with
  | 0 => ⟨S1x2048, .f32⟩
  | 1 => ⟨S_, .f32⟩
  | 2 => ⟨S1x2048, .f32⟩
  | 3 => ⟨S1x2048, .f32⟩
  | 4 => ⟨S1x2048, .f32⟩
  | 5 => ⟨S_, .f32⟩
  | 6 => ⟨S1x2048, .f32⟩
  | 7 => ⟨S1x2048, .f32⟩
  | 8 => ⟨S_, .f32⟩
  | 9 => ⟨S1x2048, .f32⟩
  | 10 => ⟨S1x2048, .f32⟩
  | 11 => ⟨S1x2048, .f32⟩
  | 12 => ⟨S_, .f32⟩
  | 13 => ⟨S1x2048, .f32⟩
  | 14 => ⟨S1x2048, .f32⟩
  | 15 => ⟨S1x2048, .f32⟩
  | 16 => ⟨S_, .f32⟩
  | 17 => ⟨S1x2048, .f32⟩
  | 18 => ⟨S1x2048, .f32⟩
  | 19 => ⟨S1x2048, .f32⟩
  | 20 => ⟨S_, .f32⟩
  | 21 => ⟨S1x2048, .f32⟩
  | 22 => ⟨S1x2048, .f32⟩
  | _ => ⟨S1x2048, .f32⟩

abbrev hbmTy (i : Nat) : BufTy := match i / 128 with
  | 0 => hbmTy0_0 i
  | 1 => hbmTy0_1 i
  | 2 => hbmTy0_2 i
  | 3 => hbmTy0_3 i
  | _ => ⟨S1x2048, .f32⟩

abbrev bufTy : (tb : Table) → Fin (tcTables nBuf tb) → BufTy
  | .hbm, ⟨i, _⟩ => hbmTy i
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_cst : Ref sig .tc := ⟨.hbm, 44, rfl⟩
abbrev main_v0 : Ref sig .tc := ⟨.hbm, 45, rfl⟩
abbrev main_v1 : Ref sig .tc := ⟨.hbm, 46, rfl⟩
abbrev main_cst_0 : Ref sig .tc := ⟨.hbm, 47, rfl⟩
abbrev main_v2 : Ref sig .tc := ⟨.hbm, 48, rfl⟩
abbrev main_v3 : Ref sig .tc := ⟨.hbm, 49, rfl⟩
abbrev main_v4 : Ref sig .tc := ⟨.hbm, 50, rfl⟩
abbrev main_cst_1 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_cst_2 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_cst_3 : Ref sig .tc := ⟨.hbm, 59, rfl⟩
abbrev main_v11 : Ref sig .tc := ⟨.hbm, 60, rfl⟩
abbrev main_v12 : Ref sig .tc := ⟨.hbm, 61, rfl⟩
abbrev main_cst_4 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_cst_5 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_cst_6 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_cst_7 : Ref sig .tc := ⟨.hbm, 74, rfl⟩
abbrev main_v22 : Ref sig .tc := ⟨.hbm, 75, rfl⟩
abbrev main_v23 : Ref sig .tc := ⟨.hbm, 76, rfl⟩
abbrev main_cst_8 : Ref sig .tc := ⟨.hbm, 77, rfl⟩
abbrev main_v24 : Ref sig .tc := ⟨.hbm, 78, rfl⟩
abbrev main_v25 : Ref sig .tc := ⟨.hbm, 79, rfl⟩
abbrev main_cst_9 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_cst_10 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_cst_11 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_cst_12 : Ref sig .tc := ⟨.hbm, 92, rfl⟩
abbrev main_v35 : Ref sig .tc := ⟨.hbm, 93, rfl⟩
abbrev main_v36 : Ref sig .tc := ⟨.hbm, 94, rfl⟩
abbrev main_cst_13 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_cst_14 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_cst_15 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_cst_16 : Ref sig .tc := ⟨.hbm, 107, rfl⟩
abbrev main_v46 : Ref sig .tc := ⟨.hbm, 108, rfl⟩
abbrev main_v47 : Ref sig .tc := ⟨.hbm, 109, rfl⟩
abbrev main_cst_17 : Ref sig .tc := ⟨.hbm, 110, rfl⟩
abbrev main_v48 : Ref sig .tc := ⟨.hbm, 111, rfl⟩
abbrev main_v49 : Ref sig .tc := ⟨.hbm, 112, rfl⟩
abbrev main_cst_18 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_cst_19 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_cst_20 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_cst_21 : Ref sig .tc := ⟨.hbm, 125, rfl⟩
abbrev main_v59 : Ref sig .tc := ⟨.hbm, 126, rfl⟩
abbrev main_v60 : Ref sig .tc := ⟨.hbm, 127, rfl⟩
abbrev main_cst_22 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_cst_23 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_cst_24 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_cst_25 : Ref sig .tc := ⟨.hbm, 140, rfl⟩
abbrev main_v70 : Ref sig .tc := ⟨.hbm, 141, rfl⟩
abbrev main_v71 : Ref sig .tc := ⟨.hbm, 142, rfl⟩
abbrev main_cst_26 : Ref sig .tc := ⟨.hbm, 143, rfl⟩
abbrev main_v72 : Ref sig .tc := ⟨.hbm, 144, rfl⟩
abbrev main_v73 : Ref sig .tc := ⟨.hbm, 145, rfl⟩
abbrev main_cst_27 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_cst_28 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_cst_29 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_cst_30 : Ref sig .tc := ⟨.hbm, 158, rfl⟩
abbrev main_v83 : Ref sig .tc := ⟨.hbm, 159, rfl⟩
abbrev main_v84 : Ref sig .tc := ⟨.hbm, 160, rfl⟩
abbrev main_cst_31 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_cst_32 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_cst_33 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_cst_34 : Ref sig .tc := ⟨.hbm, 173, rfl⟩
abbrev main_v94 : Ref sig .tc := ⟨.hbm, 174, rfl⟩
abbrev main_v95 : Ref sig .tc := ⟨.hbm, 175, rfl⟩
abbrev main_cst_35 : Ref sig .tc := ⟨.hbm, 176, rfl⟩
abbrev main_v96 : Ref sig .tc := ⟨.hbm, 177, rfl⟩
abbrev main_v97 : Ref sig .tc := ⟨.hbm, 178, rfl⟩
abbrev main_cst_36 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_cst_37 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_cst_38 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_cst_39 : Ref sig .tc := ⟨.hbm, 191, rfl⟩
abbrev main_v107 : Ref sig .tc := ⟨.hbm, 192, rfl⟩
abbrev main_v108 : Ref sig .tc := ⟨.hbm, 193, rfl⟩
abbrev main_cst_40 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_cst_41 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_cst_42 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_cst_43 : Ref sig .tc := ⟨.hbm, 206, rfl⟩
abbrev main_v118 : Ref sig .tc := ⟨.hbm, 207, rfl⟩
abbrev main_v119 : Ref sig .tc := ⟨.hbm, 208, rfl⟩
abbrev main_cst_44 : Ref sig .tc := ⟨.hbm, 209, rfl⟩
abbrev main_v120 : Ref sig .tc := ⟨.hbm, 210, rfl⟩
abbrev main_v121 : Ref sig .tc := ⟨.hbm, 211, rfl⟩
abbrev main_cst_45 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_cst_46 : Ref sig .tc := ⟨.hbm, 216, rfl⟩
abbrev main_v125 : Ref sig .tc := ⟨.hbm, 217, rfl⟩
abbrev main_v126 : Ref sig .tc := ⟨.hbm, 218, rfl⟩
abbrev main_v127 : Ref sig .tc := ⟨.hbm, 219, rfl⟩
abbrev main_cst_47 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_cst_48 : Ref sig .tc := ⟨.hbm, 224, rfl⟩
abbrev main_v131 : Ref sig .tc := ⟨.hbm, 225, rfl⟩
abbrev main_v132 : Ref sig .tc := ⟨.hbm, 226, rfl⟩
abbrev main_cst_49 : Ref sig .tc := ⟨.hbm, 227, rfl⟩
abbrev main_v133 : Ref sig .tc := ⟨.hbm, 228, rfl⟩
abbrev main_v134 : Ref sig .tc := ⟨.hbm, 229, rfl⟩
abbrev main_v135 : Ref sig .tc := ⟨.hbm, 230, rfl⟩
abbrev main_cst_50 : Ref sig .tc := ⟨.hbm, 231, rfl⟩
abbrev main_v136 : Ref sig .tc := ⟨.hbm, 232, rfl⟩
abbrev main_v137 : Ref sig .tc := ⟨.hbm, 233, rfl⟩
abbrev main_v138 : Ref sig .tc := ⟨.hbm, 234, rfl⟩
abbrev main_cst_51 : Ref sig .tc := ⟨.hbm, 235, rfl⟩
abbrev main_v139 : Ref sig .tc := ⟨.hbm, 236, rfl⟩
abbrev main_v140 : Ref sig .tc := ⟨.hbm, 237, rfl⟩
abbrev main_v141 : Ref sig .tc := ⟨.hbm, 238, rfl⟩
abbrev main_cst_52 : Ref sig .tc := ⟨.hbm, 239, rfl⟩
abbrev main_v142 : Ref sig .tc := ⟨.hbm, 240, rfl⟩
abbrev main_v143 : Ref sig .tc := ⟨.hbm, 241, rfl⟩
abbrev main_cst_53 : Ref sig .tc := ⟨.hbm, 242, rfl⟩
abbrev main_v144 : Ref sig .tc := ⟨.hbm, 243, rfl⟩
abbrev main_v145 : Ref sig .tc := ⟨.hbm, 244, rfl⟩
abbrev main_cst_54 : Ref sig .tc := ⟨.hbm, 245, rfl⟩
abbrev main_v146 : Ref sig .tc := ⟨.hbm, 246, rfl⟩
abbrev main_v147 : Ref sig .tc := ⟨.hbm, 247, rfl⟩
abbrev main_v148 : Ref sig .tc := ⟨.hbm, 248, rfl⟩
abbrev main_cst_55 : Ref sig .tc := ⟨.hbm, 249, rfl⟩
abbrev main_v149 : Ref sig .tc := ⟨.hbm, 250, rfl⟩
abbrev main_v150 : Ref sig .tc := ⟨.hbm, 251, rfl⟩
abbrev main_v151 : Ref sig .tc := ⟨.hbm, 252, rfl⟩
abbrev main_cst_56 : Ref sig .tc := ⟨.hbm, 253, rfl⟩
abbrev main_v152 : Ref sig .tc := ⟨.hbm, 254, rfl⟩
abbrev main_v153 : Ref sig .tc := ⟨.hbm, 255, rfl⟩
abbrev main_v154 : Ref sig .tc := ⟨.hbm, 256, rfl⟩
abbrev main_cst_57 : Ref sig .tc := ⟨.hbm, 257, rfl⟩
abbrev main_v155 : Ref sig .tc := ⟨.hbm, 258, rfl⟩
abbrev main_v156 : Ref sig .tc := ⟨.hbm, 259, rfl⟩
abbrev main_cst_58 : Ref sig .tc := ⟨.hbm, 260, rfl⟩
abbrev main_v157 : Ref sig .tc := ⟨.hbm, 261, rfl⟩
abbrev main_v158 : Ref sig .tc := ⟨.hbm, 262, rfl⟩
abbrev main_v159 : Ref sig .tc := ⟨.hbm, 263, rfl⟩
abbrev main_cst_59 : Ref sig .tc := ⟨.hbm, 264, rfl⟩
abbrev main_v160 : Ref sig .tc := ⟨.hbm, 265, rfl⟩
abbrev main_v161 : Ref sig .tc := ⟨.hbm, 266, rfl⟩
abbrev main_v162 : Ref sig .tc := ⟨.hbm, 267, rfl⟩
abbrev main_cst_60 : Ref sig .tc := ⟨.hbm, 268, rfl⟩
abbrev main_v163 : Ref sig .tc := ⟨.hbm, 269, rfl⟩
abbrev main_v164 : Ref sig .tc := ⟨.hbm, 270, rfl⟩
abbrev main_v165 : Ref sig .tc := ⟨.hbm, 271, rfl⟩
abbrev main_cst_61 : Ref sig .tc := ⟨.hbm, 272, rfl⟩
abbrev main_v166 : Ref sig .tc := ⟨.hbm, 273, rfl⟩
abbrev main_v167 : Ref sig .tc := ⟨.hbm, 274, rfl⟩
abbrev main_cst_62 : Ref sig .tc := ⟨.hbm, 275, rfl⟩
abbrev main_v168 : Ref sig .tc := ⟨.hbm, 276, rfl⟩
abbrev main_v169 : Ref sig .tc := ⟨.hbm, 277, rfl⟩
abbrev main_cst_63 : Ref sig .tc := ⟨.hbm, 278, rfl⟩
abbrev main_v170 : Ref sig .tc := ⟨.hbm, 279, rfl⟩
abbrev main_v171 : Ref sig .tc := ⟨.hbm, 280, rfl⟩
abbrev main_v172 : Ref sig .tc := ⟨.hbm, 281, rfl⟩
abbrev main_cst_64 : Ref sig .tc := ⟨.hbm, 282, rfl⟩
abbrev main_v173 : Ref sig .tc := ⟨.hbm, 283, rfl⟩
abbrev main_v174 : Ref sig .tc := ⟨.hbm, 284, rfl⟩
abbrev main_v175 : Ref sig .tc := ⟨.hbm, 285, rfl⟩
abbrev main_cst_65 : Ref sig .tc := ⟨.hbm, 286, rfl⟩
abbrev main_v176 : Ref sig .tc := ⟨.hbm, 287, rfl⟩
abbrev main_v177 : Ref sig .tc := ⟨.hbm, 288, rfl⟩
abbrev main_v178 : Ref sig .tc := ⟨.hbm, 289, rfl⟩
abbrev main_cst_66 : Ref sig .tc := ⟨.hbm, 290, rfl⟩
abbrev main_v179 : Ref sig .tc := ⟨.hbm, 291, rfl⟩
abbrev main_v180 : Ref sig .tc := ⟨.hbm, 292, rfl⟩
abbrev main_cst_67 : Ref sig .tc := ⟨.hbm, 293, rfl⟩
abbrev main_v181 : Ref sig .tc := ⟨.hbm, 294, rfl⟩
abbrev main_v182 : Ref sig .tc := ⟨.hbm, 295, rfl⟩
abbrev main_v183 : Ref sig .tc := ⟨.hbm, 296, rfl⟩
abbrev main_cst_68 : Ref sig .tc := ⟨.hbm, 297, rfl⟩
abbrev main_v184 : Ref sig .tc := ⟨.hbm, 298, rfl⟩
abbrev main_v185 : Ref sig .tc := ⟨.hbm, 299, rfl⟩
abbrev main_v186 : Ref sig .tc := ⟨.hbm, 300, rfl⟩
abbrev main_cst_69 : Ref sig .tc := ⟨.hbm, 301, rfl⟩
abbrev main_v187 : Ref sig .tc := ⟨.hbm, 302, rfl⟩
abbrev main_v188 : Ref sig .tc := ⟨.hbm, 303, rfl⟩
abbrev main_v189 : Ref sig .tc := ⟨.hbm, 304, rfl⟩
abbrev main_cst_70 : Ref sig .tc := ⟨.hbm, 305, rfl⟩
abbrev main_v190 : Ref sig .tc := ⟨.hbm, 306, rfl⟩
abbrev main_v191 : Ref sig .tc := ⟨.hbm, 307, rfl⟩
abbrev main_cst_71 : Ref sig .tc := ⟨.hbm, 308, rfl⟩
abbrev main_v192 : Ref sig .tc := ⟨.hbm, 309, rfl⟩
abbrev main_v193 : Ref sig .tc := ⟨.hbm, 310, rfl⟩
abbrev main_cst_72 : Ref sig .tc := ⟨.hbm, 311, rfl⟩
abbrev main_v194 : Ref sig .tc := ⟨.hbm, 312, rfl⟩
abbrev main_v195 : Ref sig .tc := ⟨.hbm, 313, rfl⟩
abbrev main_v196 : Ref sig .tc := ⟨.hbm, 314, rfl⟩
abbrev main_cst_73 : Ref sig .tc := ⟨.hbm, 315, rfl⟩
abbrev main_v197 : Ref sig .tc := ⟨.hbm, 316, rfl⟩
abbrev main_v198 : Ref sig .tc := ⟨.hbm, 317, rfl⟩
abbrev main_v199 : Ref sig .tc := ⟨.hbm, 318, rfl⟩
abbrev main_cst_74 : Ref sig .tc := ⟨.hbm, 319, rfl⟩
abbrev main_v200 : Ref sig .tc := ⟨.hbm, 320, rfl⟩
abbrev main_v201 : Ref sig .tc := ⟨.hbm, 321, rfl⟩
abbrev main_v202 : Ref sig .tc := ⟨.hbm, 322, rfl⟩
abbrev main_cst_75 : Ref sig .tc := ⟨.hbm, 323, rfl⟩
abbrev main_v203 : Ref sig .tc := ⟨.hbm, 324, rfl⟩
abbrev main_v204 : Ref sig .tc := ⟨.hbm, 325, rfl⟩
abbrev main_cst_76 : Ref sig .tc := ⟨.hbm, 326, rfl⟩
abbrev main_v205 : Ref sig .tc := ⟨.hbm, 327, rfl⟩
abbrev main_v206 : Ref sig .tc := ⟨.hbm, 328, rfl⟩
abbrev main_v207 : Ref sig .tc := ⟨.hbm, 329, rfl⟩
abbrev main_cst_77 : Ref sig .tc := ⟨.hbm, 330, rfl⟩
abbrev main_v208 : Ref sig .tc := ⟨.hbm, 331, rfl⟩
abbrev main_v209 : Ref sig .tc := ⟨.hbm, 332, rfl⟩
abbrev main_v210 : Ref sig .tc := ⟨.hbm, 333, rfl⟩
abbrev main_cst_78 : Ref sig .tc := ⟨.hbm, 334, rfl⟩
abbrev main_v211 : Ref sig .tc := ⟨.hbm, 335, rfl⟩
abbrev main_v212 : Ref sig .tc := ⟨.hbm, 336, rfl⟩
abbrev main_v213 : Ref sig .tc := ⟨.hbm, 337, rfl⟩
abbrev main_cst_79 : Ref sig .tc := ⟨.hbm, 338, rfl⟩
abbrev main_v214 : Ref sig .tc := ⟨.hbm, 339, rfl⟩
abbrev main_v215 : Ref sig .tc := ⟨.hbm, 340, rfl⟩
abbrev main_cst_80 : Ref sig .tc := ⟨.hbm, 341, rfl⟩
abbrev main_v216 : Ref sig .tc := ⟨.hbm, 342, rfl⟩
abbrev main_v217 : Ref sig .tc := ⟨.hbm, 343, rfl⟩
abbrev main_cst_81 : Ref sig .tc := ⟨.hbm, 344, rfl⟩
abbrev main_v218 : Ref sig .tc := ⟨.hbm, 345, rfl⟩
abbrev main_v219 : Ref sig .tc := ⟨.hbm, 346, rfl⟩
abbrev main_v220 : Ref sig .tc := ⟨.hbm, 347, rfl⟩
abbrev main_cst_82 : Ref sig .tc := ⟨.hbm, 348, rfl⟩
abbrev main_v221 : Ref sig .tc := ⟨.hbm, 349, rfl⟩
abbrev main_v222 : Ref sig .tc := ⟨.hbm, 350, rfl⟩
abbrev main_v223 : Ref sig .tc := ⟨.hbm, 351, rfl⟩
abbrev main_cst_83 : Ref sig .tc := ⟨.hbm, 352, rfl⟩
abbrev main_v224 : Ref sig .tc := ⟨.hbm, 353, rfl⟩
abbrev main_v225 : Ref sig .tc := ⟨.hbm, 354, rfl⟩
abbrev main_v226 : Ref sig .tc := ⟨.hbm, 355, rfl⟩
abbrev main_cst_84 : Ref sig .tc := ⟨.hbm, 356, rfl⟩
abbrev main_v227 : Ref sig .tc := ⟨.hbm, 357, rfl⟩
abbrev main_v228 : Ref sig .tc := ⟨.hbm, 358, rfl⟩
abbrev main_cst_85 : Ref sig .tc := ⟨.hbm, 359, rfl⟩
abbrev main_v229 : Ref sig .tc := ⟨.hbm, 360, rfl⟩
abbrev main_v230 : Ref sig .tc := ⟨.hbm, 361, rfl⟩
abbrev main_v231 : Ref sig .tc := ⟨.hbm, 362, rfl⟩
abbrev main_cst_86 : Ref sig .tc := ⟨.hbm, 363, rfl⟩
abbrev main_v232 : Ref sig .tc := ⟨.hbm, 364, rfl⟩
abbrev main_v233 : Ref sig .tc := ⟨.hbm, 365, rfl⟩
abbrev main_v234 : Ref sig .tc := ⟨.hbm, 366, rfl⟩
abbrev main_cst_87 : Ref sig .tc := ⟨.hbm, 367, rfl⟩
abbrev main_v235 : Ref sig .tc := ⟨.hbm, 368, rfl⟩
abbrev main_v236 : Ref sig .tc := ⟨.hbm, 369, rfl⟩
abbrev main_v237 : Ref sig .tc := ⟨.hbm, 370, rfl⟩
abbrev main_cst_88 : Ref sig .tc := ⟨.hbm, 371, rfl⟩
abbrev main_v238 : Ref sig .tc := ⟨.hbm, 372, rfl⟩
abbrev main_v239 : Ref sig .tc := ⟨.hbm, 373, rfl⟩
abbrev main_cst_89 : Ref sig .tc := ⟨.hbm, 374, rfl⟩
abbrev main_v240 : Ref sig .tc := ⟨.hbm, 375, rfl⟩
abbrev main_v241 : Ref sig .tc := ⟨.hbm, 376, rfl⟩
abbrev main_cst_90 : Ref sig .tc := ⟨.hbm, 377, rfl⟩
abbrev main_v242 : Ref sig .tc := ⟨.hbm, 378, rfl⟩
abbrev main_v243 : Ref sig .tc := ⟨.hbm, 379, rfl⟩
abbrev main_v244 : Ref sig .tc := ⟨.hbm, 380, rfl⟩
abbrev main_cst_91 : Ref sig .tc := ⟨.hbm, 381, rfl⟩
abbrev main_v245 : Ref sig .tc := ⟨.hbm, 382, rfl⟩
abbrev main_v246 : Ref sig .tc := ⟨.hbm, 383, rfl⟩
abbrev main_v247 : Ref sig .tc := ⟨.hbm, 384, rfl⟩
abbrev main_cst_92 : Ref sig .tc := ⟨.hbm, 385, rfl⟩
abbrev main_v248 : Ref sig .tc := ⟨.hbm, 386, rfl⟩
abbrev main_v249 : Ref sig .tc := ⟨.hbm, 387, rfl⟩
abbrev main_v250 : Ref sig .tc := ⟨.hbm, 388, rfl⟩
abbrev main_cst_93 : Ref sig .tc := ⟨.hbm, 389, rfl⟩
abbrev main_v251 : Ref sig .tc := ⟨.hbm, 390, rfl⟩
abbrev main_v252 : Ref sig .tc := ⟨.hbm, 391, rfl⟩
abbrev main_cst_94 : Ref sig .tc := ⟨.hbm, 392, rfl⟩
abbrev main_v253 : Ref sig .tc := ⟨.hbm, 393, rfl⟩
abbrev main_v254 : Ref sig .tc := ⟨.hbm, 394, rfl⟩
abbrev main_v255 : Ref sig .tc := ⟨.hbm, 395, rfl⟩
abbrev main_cst_95 : Ref sig .tc := ⟨.hbm, 396, rfl⟩
abbrev main_v256 : Ref sig .tc := ⟨.hbm, 397, rfl⟩
abbrev main_v257 : Ref sig .tc := ⟨.hbm, 398, rfl⟩
abbrev main_v258 : Ref sig .tc := ⟨.hbm, 399, rfl⟩
abbrev main_cst_96 : Ref sig .tc := ⟨.hbm, 400, rfl⟩
abbrev main_v259 : Ref sig .tc := ⟨.hbm, 401, rfl⟩
abbrev main_v260 : Ref sig .tc := ⟨.hbm, 402, rfl⟩
abbrev main_v261 : Ref sig .tc := ⟨.hbm, 403, rfl⟩
abbrev main_cst_97 : Ref sig .tc := ⟨.hbm, 404, rfl⟩
abbrev main_v262 : Ref sig .tc := ⟨.hbm, 405, rfl⟩
abbrev main_v263 : Ref sig .tc := ⟨.hbm, 406, rfl⟩

abbrev nD : Nat := 1
abbrev τ : Topo := Topo.v7x

variable {F : FTy → Type} [FloatOps F]
-- ==== Proof.Blocks.lean ====
/- The pieces of the attention's blocks that the two bodies load: 1024 rows and 64 lanes of a 128-lane block, one head's
   column of the query gates, one head's row of the key gates. -/
module

public import proofs.«01_k».proof.Proof.Gen.KernelIdeal.Skeleton
public import Idealize.ShloMosaic.Lib.Pointwise
public import Idealize.ShloMosaic.Lib.Pipeline.ValueKit.Tiles

@[expose] public section

noncomputable section

namespace Cert.Fox

open Idealize.ShloMosaic Idealize.SL.Sem Cert.KernelIdeal Cert.KernelIdeal.Gen

/-- Lane `d` of head `h` in a 128-lane block. -/
def lane (h : Fin 2) (d : Fin 64) : Fin 128 := ⟨64 * h.val + d.val, by omega⟩

/-- Lanes `64 h …` of a block of 1024 rows. -/
def lanes (x : Vec Ideal S1024x128 .f32) (h : Fin 2) : Vec Ideal S1024x64 .f32 :=
  fun y => x (ix2 (y 0) (⟨64 * h.val + (y 1).val, by have : (y 1).val < 64 := (y 1).isLt; omega⟩ : Fin 128))

/-- Rows `1024 j …` and lanes `64 h …` of a block of 2048 rows. -/
def rows (x : Vec Ideal S2048x128 .f32) (j h : Fin 2) : Vec Ideal S1024x64 .f32 :=
  fun y => x (ix2 (⟨1024 * j.val + (y 0).val, by have : (y 0).val < 1024 := (y 0).isLt; omega⟩ : Fin 2048)
    (⟨64 * h.val + (y 1).val, by have : (y 1).val < 64 := (y 1).isLt; omega⟩ : Fin 128))

/-- Head `h`'s query gates. -/
def qgate (x : Vec Ideal S2x1024x1 .f32) (h : Fin 2) : Vec Ideal S1x1024x1 .f32 :=
  fun y => x (ix3 h (y 1) (y 2))

/-- Head `h`'s key gates of key tile `j`. -/
def kgate (x : Vec Ideal S2x2x1x1024 .f32) (h j : Fin 2) : Vec Ideal S1x1x1x1024 .f32 :=
  fun y => x (ix4 h j (y 2) (y 3))

theorem ld_lanes (x : Vec Ideal S1024x128 .f32) (h : Fin 2) {off : Fin 2 → Nat} (hoff : off = ![0, 64 * h.val]) (inb) :
    View.ld x (Rect.unit (s := S1024x128) off S1024x64.size inb) = lanes x h := by
  subst hoff
  funext y
  refine View.ld_unit_apply_of _ _ _ _ _ _ fun a => ?_
  fin_cases a <;> simp [ix2]

theorem ld_rows (x : Vec Ideal S2048x128 .f32) (j h : Fin 2) {off : Fin 2 → Nat} (hoff : off = ![1024 * j.val, 64 * h.val]) (inb) :
    View.ld x (Rect.unit (s := S2048x128) off S1024x64.size inb) = rows x j h := by
  subst hoff
  funext y
  refine View.ld_unit_apply_of _ _ _ _ _ _ fun a => ?_
  fin_cases a <;> simp [ix2]

theorem ld_qgate (x : Vec Ideal S2x1024x1 .f32) (h : Fin 2) {off : Fin 3 → Nat} (hoff : off = ![h.val, 0, 0]) (inb) :
    View.ld x (Rect.unit (s := S2x1024x1) off S1x1024x1.size inb) = qgate x h := by
  subst hoff
  funext y
  refine View.ld_unit_apply_of _ _ _ _ _ _ fun a => ?_
  have h0 : (y 0).val = 0 := Nat.lt_one_iff.mp (y 0).isLt
  fin_cases a <;> simp [ix3, h0]

theorem ld_kgate (x : Vec Ideal S2x2x1x1024 .f32) (h j : Fin 2) {off : Fin 4 → Nat} (hoff : off = ![h.val, j.val, 0, 0]) (inb) :
    View.ld x (Rect.unit (s := S2x2x1x1024) off S1x1x1x1024.size inb) = kgate x h j := by
  subst hoff
  funext y
  refine View.ld_unit_apply_of _ _ _ _ _ _ fun a => ?_
  have h0 : (y 0).val = 0 := Nat.lt_one_iff.mp (y 0).isLt
  have h1 : (y 1).val = 0 := Nat.lt_one_iff.mp (y 1).isLt
  fin_cases a <;> simp [ix4, h0, h1]

end Cert.Fox

end
-- ==== Proof.Spec.lean ====
/- Causal softmax attention with a gate `C r - C c` added to the score of row `r` and key `c`, one head, over the real
   numbers: the output, and the gradients of `∑ r d, G r d * out r d` in the queries, keys, values and gates. -/
module

public import Idealize.ShloMosaic.Lib.Pointwise

@[expose] public section

noncomputable section

namespace Cert.Fox

/-- Row `b` of tile `j`. -/
def tile (j : Fin 2) (b : Fin 1024) : Fin 2048 := ⟨1024 * j.val + b.val, by omega⟩

/-- A sum over all rows is the sum over the two tiles. -/
theorem sum_tile {M : Type*} [AddCommMonoid M] (f : Fin 2048 → M) : ∑ c, f c = ∑ b, f (tile 0 b) + ∑ b, f (tile 1 b) := by
  refine (Fin.sum_univ_add (a := 1024) (b := 1024) f).trans ?_
  congr 1 <;> refine Finset.sum_congr rfl fun b _ => congrArg f (Fin.ext ?_) <;> simp [tile]

theorem tile_le_same (j : Fin 2) (a b : Fin 1024) : tile j b ≤ tile j a ↔ b ≤ a := by
  show 1024 * j.val + b.val ≤ 1024 * j.val + a.val ↔ b.val ≤ a.val
  omega

theorem tile_le_01 (a b : Fin 1024) : tile 0 b ≤ tile 1 a := by
  show 1024 * 0 + b.val ≤ 1024 * 1 + a.val
  omega

theorem not_tile_le_10 (a b : Fin 1024) : ¬ tile 1 b ≤ tile 0 a := by
  show ¬ 1024 * 1 + b.val ≤ 1024 * 0 + a.val
  omega

section
variable (Q K V G : Fin 2048 → Fin 64 → ℝ) (C : Fin 2048 → ℝ)

/-- The score of row `r` at key `c`. -/
def score (r c : Fin 2048) : ℝ := (∑ d, Q r d * (1 / 8) * K c d) + C r - C c

/-- Its weight: the exponential, and nothing at keys after the row. -/
def wt (r c : Fin 2048) : ℝ := if c ≤ r then Real.exp (score Q K C r c) else 0

/-- The sum of a row's weights. -/
def tot (r : Fin 2048) : ℝ := ∑ c, wt Q K C r c

/-- The attention probabilities. -/
def prob (r c : Fin 2048) : ℝ := wt Q K C r c / tot Q K C r

/-- The attention's output. -/
def out (r : Fin 2048) (d : Fin 64) : ℝ := (∑ c, wt Q K C r c * V c d) / tot Q K C r

/-- The logarithm of a row's sum of weights. -/
def lse (r : Fin 2048) : ℝ := Real.log (tot Q K C r)

/-- The gradient of the probabilities. -/
def dprob (r c : Fin 2048) : ℝ := ∑ d, G r d * V c d

/-- The row sum the softmax's gradient subtracts. -/
def delta (r : Fin 2048) : ℝ := ∑ d, G r d * out Q K V C r d

/-- The gradient of the scores. -/
def ds (r c : Fin 2048) : ℝ := prob Q K C r c * (dprob V G r c - delta Q K V G C r)

/-- The gradient of the queries. -/
def dq (r : Fin 2048) (d : Fin 64) : ℝ := (∑ c, ds Q K V G C r c * K c d) * (1 / 8)

/-- The gradient of the keys. -/
def dk (c : Fin 2048) (d : Fin 64) : ℝ := ∑ r, ds Q K V G C r c * (Q r d * (1 / 8))

/-- The gradient of the values. -/
def dv (c : Fin 2048) (d : Fin 64) : ℝ := ∑ r, prob Q K C r c * G r d

/-- The gradient of the gates, as they enter with the rows. -/
def dcq (r : Fin 2048) : ℝ := ∑ c, ds Q K V G C r c

/-- The gradient of the gates, as they enter with the keys. -/
def dck (c : Fin 2048) : ℝ := -∑ r, ds Q K V G C r c

theorem wt_of_le {r c : Fin 2048} (h : c ≤ r) : wt Q K C r c = Real.exp (score Q K C r c) := if_pos h

theorem wt_of_not_le {r c : Fin 2048} (h : ¬ c ≤ r) : wt Q K C r c = 0 := if_neg h

theorem wt_nonneg (r c : Fin 2048) : 0 ≤ wt Q K C r c := by
  unfold wt; split
  · exact (Real.exp_pos _).le
  · exact le_rfl

theorem tot_pos (r : Fin 2048) : 0 < tot Q K C r :=
  Finset.sum_pos' (fun c _ => wt_nonneg Q K C r c) ⟨r, Finset.mem_univ _, by rw [wt_of_le Q K C le_rfl]; exact Real.exp_pos _⟩

/-- At a key not after the row the probability is the exponential of the score less the row's log-sum. -/
theorem prob_of_le {r c : Fin 2048} (h : c ≤ r) : prob Q K C r c = Real.exp (score Q K C r c - lse Q K C r) := by
  rw [prob, wt_of_le Q K C h, lse, Real.exp_sub, Real.exp_log (tot_pos Q K C r)]

theorem prob_of_not_le {r c : Fin 2048} (h : ¬ c ≤ r) : prob Q K C r c = 0 := by
  rw [prob, wt_of_not_le Q K C h, zero_div]

theorem ds_of_not_le {r c : Fin 2048} (h : ¬ c ≤ r) : ds Q K V G C r c = 0 := by
  rw [ds, prob_of_not_le Q K C h, zero_mul]

end

end Cert.Fox

end
-- ==== Proof.Arrays.lean ====
/- The arrays and their blocks: where a block's elements lie in the arrays of the two calls, and the array an output ends
   as, from what its blocks hold. -/
module

public import proofs.«01_k».proof.Proof.Gen.KernelIdeal.Frame
public import proofs.«01_k».proof.Proof.Blocks
public import proofs.«01_k».proof.Proof.Spec
public import Idealize.ShloMosaic.Lib.Pipeline.ValueKit.Geometry

@[expose] public section

set_option maxRecDepth 16384

noncomputable section

namespace Cert.Fox

open Idealize.ShloMosaic Idealize.ShloMosaic.TcCoe Idealize.SL.Sem Cert.KernelIdeal Cert.KernelIdeal.Gen

/-- Lane `d` of head `n` among the 1024 lanes of an array. -/
def col (n : Fin 16) (d : Fin 64) : Fin 1024 := ⟨64 * n.val + d.val, by omega⟩

/-- The head a lane of an array belongs to, and its lane in that head. -/
def headOf (l : Fin 1024) : Fin 16 := ⟨l.val / 64, by omega⟩
def laneOf (l : Fin 1024) : Fin 64 := ⟨l.val % 64, by omega⟩

/-- The head that is head `h` of the pair at grid point `t`, and the query tile of that point. -/
def head (t : Fin 16) (h : Fin 2) : Fin 16 := ⟨2 * (t.val / 2) + h.val, by omega⟩
def qt (t : Fin 16) : Fin 2 := ⟨t.val % 2, by omega⟩

theorem exists_lane (l : Fin 128) : ∃ (h : Fin 2) (d : Fin 64), l = lane h d :=
  ⟨⟨l.val / 64, by omega⟩, ⟨l.val % 64, by omega⟩, Fin.ext (by show l.val = 64 * (l.val / 64) + l.val % 64; omega)⟩

theorem exists_T (y : S1024x128.Idx) : ∃ (a : Fin 1024) (h : Fin 2) (d : Fin 64), y = ix2 a (lane h d) := by
  obtain ⟨h, d, e⟩ := exists_lane (y 1)
  exact ⟨y 0, h, d, funext fun x => match x with | ⟨0, _⟩ => rfl | ⟨1, _⟩ => e⟩

theorem exists_W (y : S2048x128.Idx) : ∃ (b : Fin 2048) (h : Fin 2) (d : Fin 64), y = ix2 b (lane h d) := by
  obtain ⟨h, d, e⟩ := exists_lane (y 1)
  exact ⟨y 0, h, d, funext fun x => match x with | ⟨0, _⟩ => rfl | ⟨1, _⟩ => e⟩

theorem exists_C (y : S2x1024x1.Idx) : ∃ (h : Fin 2) (a : Fin 1024), y = ix3 h a 0 :=
  ⟨y 0, y 1, funext fun x => match x with | ⟨0, _⟩ => rfl | ⟨1, _⟩ => rfl | ⟨2, _⟩ => Subsingleton.elim (α := Fin 1) _ _⟩

theorem exists_K (y : S2x2x1x1024.Idx) : ∃ (h j : Fin 2) (b : Fin 1024), y = ix4 h j 0 b :=
  ⟨y 0, y 1, y 3, funext fun x => match x with | ⟨0, _⟩ => rfl | ⟨1, _⟩ => rfl | ⟨2, _⟩ => Subsingleton.elim (α := Fin 1) _ _ | ⟨3, _⟩ => rfl⟩

theorem headOf_col (n : Fin 16) (d : Fin 64) : headOf (col n d) = n := Fin.ext (by show (64 * n.val + d.val) / 64 = n.val; omega)
theorem laneOf_col (n : Fin 16) (d : Fin 64) : laneOf (col n d) = d := Fin.ext (by show (64 * n.val + d.val) % 64 = d.val; omega)

variable (V : (c : Dev nD) → (b : Ref sig .tc) → Buf (Elt Ideal) ((c : Thread nD τ).loc b)) (c : Dev nD)

/-! ## Call 0 -/

theorem idx0_0 : ∀ t : Fin cfg0.N, win0_0.index t (0 : Fin 2) = t.val % 2 ∧ win0_0.index t (1 : Fin 2) = t.val / 2 :=
  (by decide +kernel : ∀ t : Fin grid0.N, _)

theorem emb0_0 (t : Fin cfg0.N) (a : Fin 1024) (h : Fin 2) (d : Fin 64) : ((cfg0.win 0).blk t).view.emb (ix2 a (lane h d) : S1024x128.Idx) = ix2 (tile (qt t) a) (col (head t h) d) := by
  obtain ⟨e0, e1⟩ := idx0_0 t
  funext x; apply Fin.ext
  match x with
  | ⟨0, _⟩ => show win0_0.index t (0 : Fin 2) * 1024 + 1 * a.val = 1024 * (t.val % 2) + a.val; omega
  | ⟨1, _⟩ => show win0_0.index t (1 : Fin 2) * 128 + 1 * (64 * h.val + d.val) = 64 * (2 * (t.val / 2) + h.val) + d.val; omega

theorem in0_0 (t : Fin cfg0.N) (a : Fin 1024) (h : Fin 2) (d : Fin 64) : iblk0 V c 0 t (ix2 a (lane h d)) = V c main_arg0 (ix2 (tile (qt t) a) (col (head t h) d)) := by
  show V c main_arg0 (((cfg0.win 0).blk t).view.emb (ix2 a (lane h d) : S1024x128.Idx)) = _
  rw [emb0_0]

theorem idx0_1 : ∀ t : Fin cfg0.N, win0_1.index t (0 : Fin 2) = 0 ∧ win0_1.index t (1 : Fin 2) = t.val / 2 :=
  (by decide +kernel : ∀ t : Fin grid0.N, _)

theorem emb0_1 (t : Fin cfg0.N) (b : Fin 2048) (h : Fin 2) (d : Fin 64) : ((cfg0.win 1).blk t).view.emb (ix2 b (lane h d) : S2048x128.Idx) = ix2 b (col (head t h) d) := by
  obtain ⟨e0, e1⟩ := idx0_1 t
  funext x; apply Fin.ext
  match x with
  | ⟨0, _⟩ => show win0_1.index t (0 : Fin 2) * 2048 + 1 * b.val = b.val; omega
  | ⟨1, _⟩ => show win0_1.index t (1 : Fin 2) * 128 + 1 * (64 * h.val + d.val) = 64 * (2 * (t.val / 2) + h.val) + d.val; omega

theorem in0_1 (t : Fin cfg0.N) (b : Fin 2048) (h : Fin 2) (d : Fin 64) : iblk0 V c 1 t (ix2 b (lane h d)) = V c main_arg1 (ix2 b (col (head t h) d)) := by
  show V c main_arg1 (((cfg0.win 1).blk t).view.emb (ix2 b (lane h d) : S2048x128.Idx)) = _
  rw [emb0_1]

theorem idx0_2 : ∀ t : Fin cfg0.N, win0_2.index t (0 : Fin 2) = 0 ∧ win0_2.index t (1 : Fin 2) = t.val / 2 :=
  (by decide +kernel : ∀ t : Fin grid0.N, _)

theorem emb0_2 (t : Fin cfg0.N) (b : Fin 2048) (h : Fin 2) (d : Fin 64) : ((cfg0.win 2).blk t).view.emb (ix2 b (lane h d) : S2048x128.Idx) = ix2 b (col (head t h) d) := by
  obtain ⟨e0, e1⟩ := idx0_2 t
  funext x; apply Fin.ext
  match x with
  | ⟨0, _⟩ => show win0_2.index t (0 : Fin 2) * 2048 + 1 * b.val = b.val; omega
  | ⟨1, _⟩ => show win0_2.index t (1 : Fin 2) * 128 + 1 * (64 * h.val + d.val) = 64 * (2 * (t.val / 2) + h.val) + d.val; omega

theorem in0_2 (t : Fin cfg0.N) (b : Fin 2048) (h : Fin 2) (d : Fin 64) : iblk0 V c 2 t (ix2 b (lane h d)) = V c main_arg2 (ix2 b (col (head t h) d)) := by
  show V c main_arg2 (((cfg0.win 2).blk t).view.emb (ix2 b (lane h d) : S2048x128.Idx)) = _
  rw [emb0_2]

theorem idx0_3 : ∀ t : Fin cfg0.N, win0_3.index t (0 : Fin 3) = t.val / 2 ∧ win0_3.index t (1 : Fin 3) = t.val % 2 ∧ win0_3.index t (2 : Fin 3) = 0 :=
  (by decide +kernel : ∀ t : Fin grid0.N, _)

theorem emb0_3 (t : Fin cfg0.N) (h : Fin 2) (a : Fin 1024) : ((cfg0.win 3).blk t).view.emb (ix3 h a 0 : S2x1024x1.Idx) = ix3 (head t h) (tile (qt t) a) 0 := by
  obtain ⟨e0, e1, e2⟩ := idx0_3 t
  funext x; apply Fin.ext
  match x with
  | ⟨0, _⟩ => show win0_3.index t (0 : Fin 3) * 2 + 1 * h.val = 2 * (t.val / 2) + h.val; omega
  | ⟨1, _⟩ => show win0_3.index t (1 : Fin 3) * 1024 + 1 * a.val = 1024 * (t.val % 2) + a.val; omega
  | ⟨2, _⟩ => show win0_3.index t (2 : Fin 3) * 1 + 1 * 0 = 0; omega

theorem in0_3 (t : Fin cfg0.N) (h : Fin 2) (a : Fin 1024) : iblk0 V c 3 t (ix3 h a 0) = V c main_v0 (ix3 (head t h) (tile (qt t) a) 0) := by
  show V c main_v0 (((cfg0.win 3).blk t).view.emb (ix3 h a 0 : S2x1024x1.Idx)) = _
  rw [emb0_3]

theorem idx0_4 : ∀ t : Fin cfg0.N, win0_4.index t (0 : Fin 4) = t.val / 2 ∧ win0_4.index t (1 : Fin 4) = 0 ∧ win0_4.index t (2 : Fin 4) = 0 ∧ win0_4.index t (3 : Fin 4) = 0 :=
  (by decide +kernel : ∀ t : Fin grid0.N, _)

theorem emb0_4 (t : Fin cfg0.N) (h j : Fin 2) (b : Fin 1024) : ((cfg0.win 4).blk t).view.emb (ix4 h j 0 b : S2x2x1x1024.Idx) = ix4 (head t h) j 0 b := by
  obtain ⟨e0, e1, e2, e3⟩ := idx0_4 t
  funext x; apply Fin.ext
  match x with
  | ⟨0, _⟩ => show win0_4.index t (0 : Fin 4) * 2 + 1 * h.val = 2 * (t.val / 2) + h.val; omega
  | ⟨1, _⟩ => show win0_4.index t (1 : Fin 4) * 2 + 1 * j.val = j.val; omega
  | ⟨2, _⟩ => show win0_4.index t (2 : Fin 4) * 1 + 1 * 0 = 0; omega
  | ⟨3, _⟩ => show win0_4.index t (3 : Fin 4) * 1024 + 1 * b.val = b.val; omega

theorem in0_4 (t : Fin cfg0.N) (h j : Fin 2) (b : Fin 1024) : iblk0 V c 4 t (ix4 h j 0 b) = V c main_v1 (ix4 (head t h) j 0 b) := by
  show V c main_v1 (((cfg0.win 4).blk t).view.emb (ix4 h j 0 b : S2x2x1x1024.Idx)) = _
  rw [emb0_4]

theorem idx0_5 : ∀ t : Fin cfg0.N, win0_5.index t (0 : Fin 2) = t.val % 2 ∧ win0_5.index t (1 : Fin 2) = t.val / 2 :=
  (by decide +kernel : ∀ t : Fin grid0.N, _)

theorem emb0_5 (t : Fin cfg0.N) (a : Fin 1024) (h : Fin 2) (d : Fin 64) : ((cfg0.win 5).blk t).view.emb (ix2 a (lane h d) : S1024x128.Idx) = ix2 (tile (qt t) a) (col (head t h) d) := by
  obtain ⟨e0, e1⟩ := idx0_5 t
  funext x; apply Fin.ext
  match x with
  | ⟨0, _⟩ => show win0_5.index t (0 : Fin 2) * 1024 + 1 * a.val = 1024 * (t.val % 2) + a.val; omega
  | ⟨1, _⟩ => show win0_5.index t (1 : Fin 2) * 128 + 1 * (64 * h.val + d.val) = 64 * (2 * (t.val / 2) + h.val) + d.val; omega

/-- The array an output ends as, when the block written back at each point holds `X` there. -/
theorem arr0_5 (X : Fin 16 → Fin 2048 → Fin 64 → EReal)
    (hX : ∀ t : Fin cfg0.N, (cfg0.win 5).flush t = true → ∀ (a : Fin 1024) (h : Fin 2) (d : Fin 64), (dat0 V c).after 5 t (ix2 a (lane h d) : S1024x128.Idx) = X (head t h) (tile (qt t) a) d) :
    (dat0 V c).arrAt 5 cfg0.N = fun i : S2048x1024.Idx => X (headOf (i 1)) (i 0) (laneOf (i 1)) := by
  refine (dat0 V c).arrAt_eq_of_covers 5 _ (by decide +kernel) fun t hf y => ?_
  suffices hs : ∀ y : S1024x128.Idx, (dat0 V c).after 5 t y = (fun i : S2048x1024.Idx => X (headOf (i 1)) (i 0) (laneOf (i 1))) (((cfg0.win 5).blk t).view.emb y) from hs y
  intro y
  obtain ⟨a, h, d, rfl⟩ := exists_T y
  rw [emb0_5]
  refine (hX t hf _ h d).trans ?_
  show _ = X (headOf (col (head t h) d)) _ (laneOf (col (head t h) d))
  rw [headOf_col, laneOf_col]
  rfl

theorem idx0_6 : ∀ t : Fin cfg0.N, win0_6.index t (0 : Fin 3) = t.val / 2 ∧ win0_6.index t (1 : Fin 3) = t.val % 2 ∧ win0_6.index t (2 : Fin 3) = 0 :=
  (by decide +kernel : ∀ t : Fin grid0.N, _)

theorem emb0_6 (t : Fin cfg0.N) (h : Fin 2) (a : Fin 1024) : ((cfg0.win 6).blk t).view.emb (ix3 h a 0 : S2x1024x1.Idx) = ix3 (head t h) (tile (qt t) a) 0 := by
  obtain ⟨e0, e1, e2⟩ := idx0_6 t
  funext x; apply Fin.ext
  match x with
  | ⟨0, _⟩ => show win0_6.index t (0 : Fin 3) * 2 + 1 * h.val = 2 * (t.val / 2) + h.val; omega
  | ⟨1, _⟩ => show win0_6.index t (1 : Fin 3) * 1024 + 1 * a.val = 1024 * (t.val % 2) + a.val; omega
  | ⟨2, _⟩ => show win0_6.index t (2 : Fin 3) * 1 + 1 * 0 = 0; omega

/-- The array an output ends as, when the block written back at each point holds `X` there. -/
theorem arr0_6 (X : Fin 16 → Fin 2048 → EReal)
    (hX : ∀ t : Fin cfg0.N, (cfg0.win 6).flush t = true → ∀ (h : Fin 2) (a : Fin 1024), (dat0 V c).after 6 t (ix3 h a 0 : S2x1024x1.Idx) = X (head t h) (tile (qt t) a)) :
    (dat0 V c).arrAt 6 cfg0.N = fun i : S16x2048x1.Idx => X (i 0) (i 1) := by
  refine (dat0 V c).arrAt_eq_of_covers 6 _ (by decide +kernel) fun t hf y => ?_
  suffices hs : ∀ y : S2x1024x1.Idx, (dat0 V c).after 6 t y = (fun i : S16x2048x1.Idx => X (i 0) (i 1)) (((cfg0.win 6).blk t).view.emb y) from hs y
  intro y
  obtain ⟨h, a, rfl⟩ := exists_C y
  rw [emb0_6]
  exact hX t hf h a

/-! ## Call 1 -/

theorem idx1_0 : ∀ t : Fin cfg1.N, win1_0.index t (0 : Fin 2) = t.val % 2 ∧ win1_0.index t (1 : Fin 2) = t.val / 2 :=
  (by decide +kernel : ∀ t : Fin grid1.N, _)

theorem emb1_0 (t : Fin cfg1.N) (a : Fin 1024) (h : Fin 2) (d : Fin 64) : ((cfg1.win 0).blk t).view.emb (ix2 a (lane h d) : S1024x128.Idx) = ix2 (tile (qt t) a) (col (head t h) d) := by
  obtain ⟨e0, e1⟩ := idx1_0 t
  funext x; apply Fin.ext
  match x with
  | ⟨0, _⟩ => show win1_0.index t (0 : Fin 2) * 1024 + 1 * a.val = 1024 * (t.val % 2) + a.val; omega
  | ⟨1, _⟩ => show win1_0.index t (1 : Fin 2) * 128 + 1 * (64 * h.val + d.val) = 64 * (2 * (t.val / 2) + h.val) + d.val; omega

theorem in1_0 (t : Fin cfg1.N) (a : Fin 1024) (h : Fin 2) (d : Fin 64) : iblk1 V c 0 t (ix2 a (lane h d)) = V c main_arg0 (ix2 (tile (qt t) a) (col (head t h) d)) := by
  show V c main_arg0 (((cfg1.win 0).blk t).view.emb (ix2 a (lane h d) : S1024x128.Idx)) = _
  rw [emb1_0]

theorem idx1_1 : ∀ t : Fin cfg1.N, win1_1.index t (0 : Fin 2) = 0 ∧ win1_1.index t (1 : Fin 2) = t.val / 2 :=
  (by decide +kernel : ∀ t : Fin grid1.N, _)

theorem emb1_1 (t : Fin cfg1.N) (b : Fin 2048) (h : Fin 2) (d : Fin 64) : ((cfg1.win 1).blk t).view.emb (ix2 b (lane h d) : S2048x128.Idx) = ix2 b (col (head t h) d) := by
  obtain ⟨e0, e1⟩ := idx1_1 t
  funext x; apply Fin.ext
  match x with
  | ⟨0, _⟩ => show win1_1.index t (0 : Fin 2) * 2048 + 1 * b.val = b.val; omega
  | ⟨1, _⟩ => show win1_1.index t (1 : Fin 2) * 128 + 1 * (64 * h.val + d.val) = 64 * (2 * (t.val / 2) + h.val) + d.val; omega

theorem in1_1 (t : Fin cfg1.N) (b : Fin 2048) (h : Fin 2) (d : Fin 64) : iblk1 V c 1 t (ix2 b (lane h d)) = V c main_arg1 (ix2 b (col (head t h) d)) := by
  show V c main_arg1 (((cfg1.win 1).blk t).view.emb (ix2 b (lane h d) : S2048x128.Idx)) = _
  rw [emb1_1]

theorem idx1_2 : ∀ t : Fin cfg1.N, win1_2.index t (0 : Fin 2) = 0 ∧ win1_2.index t (1 : Fin 2) = t.val / 2 :=
  (by decide +kernel : ∀ t : Fin grid1.N, _)

theorem emb1_2 (t : Fin cfg1.N) (b : Fin 2048) (h : Fin 2) (d : Fin 64) : ((cfg1.win 2).blk t).view.emb (ix2 b (lane h d) : S2048x128.Idx) = ix2 b (col (head t h) d) := by
  obtain ⟨e0, e1⟩ := idx1_2 t
  funext x; apply Fin.ext
  match x with
  | ⟨0, _⟩ => show win1_2.index t (0 : Fin 2) * 2048 + 1 * b.val = b.val; omega
  | ⟨1, _⟩ => show win1_2.index t (1 : Fin 2) * 128 + 1 * (64 * h.val + d.val) = 64 * (2 * (t.val / 2) + h.val) + d.val; omega

theorem in1_2 (t : Fin cfg1.N) (b : Fin 2048) (h : Fin 2) (d : Fin 64) : iblk1 V c 2 t (ix2 b (lane h d)) = V c main_arg2 (ix2 b (col (head t h) d)) := by
  show V c main_arg2 (((cfg1.win 2).blk t).view.emb (ix2 b (lane h d) : S2048x128.Idx)) = _
  rw [emb1_2]

theorem idx1_3 : ∀ t : Fin cfg1.N, win1_3.index t (0 : Fin 3) = t.val / 2 ∧ win1_3.index t (1 : Fin 3) = t.val % 2 ∧ win1_3.index t (2 : Fin 3) = 0 :=
  (by decide +kernel : ∀ t : Fin grid1.N, _)

theorem emb1_3 (t : Fin cfg1.N) (h : Fin 2) (a : Fin 1024) : ((cfg1.win 3).blk t).view.emb (ix3 h a 0 : S2x1024x1.Idx) = ix3 (head t h) (tile (qt t) a) 0 := by
  obtain ⟨e0, e1, e2⟩ := idx1_3 t
  funext x; apply Fin.ext
  match x with
  | ⟨0, _⟩ => show win1_3.index t (0 : Fin 3) * 2 + 1 * h.val = 2 * (t.val / 2) + h.val; omega
  | ⟨1, _⟩ => show win1_3.index t (1 : Fin 3) * 1024 + 1 * a.val = 1024 * (t.val % 2) + a.val; omega
  | ⟨2, _⟩ => show win1_3.index t (2 : Fin 3) * 1 + 1 * 0 = 0; omega

theorem in1_3 (t : Fin cfg1.N) (h : Fin 2) (a : Fin 1024) : iblk1 V c 3 t (ix3 h a 0) = V c main_v0 (ix3 (head t h) (tile (qt t) a) 0) := by
  show V c main_v0 (((cfg1.win 3).blk t).view.emb (ix3 h a 0 : S2x1024x1.Idx)) = _
  rw [emb1_3]

theorem idx1_4 : ∀ t : Fin cfg1.N, win1_4.index t (0 : Fin 4) = t.val / 2 ∧ win1_4.index t (1 : Fin 4) = 0 ∧ win1_4.index t (2 : Fin 4) = 0 ∧ win1_4.index t (3 : Fin 4) = 0 :=
  (by decide +kernel : ∀ t : Fin grid1.N, _)

theorem emb1_4 (t : Fin cfg1.N) (h j : Fin 2) (b : Fin 1024) : ((cfg1.win 4).blk t).view.emb (ix4 h j 0 b : S2x2x1x1024.Idx) = ix4 (head t h) j 0 b := by
  obtain ⟨e0, e1, e2, e3⟩ := idx1_4 t
  funext x; apply Fin.ext
  match x with
  | ⟨0, _⟩ => show win1_4.index t (0 : Fin 4) * 2 + 1 * h.val = 2 * (t.val / 2) + h.val; omega
  | ⟨1, _⟩ => show win1_4.index t (1 : Fin 4) * 2 + 1 * j.val = j.val; omega
  | ⟨2, _⟩ => show win1_4.index t (2 : Fin 4) * 1 + 1 * 0 = 0; omega
  | ⟨3, _⟩ => show win1_4.index t (3 : Fin 4) * 1024 + 1 * b.val = b.val; omega

theorem in1_4 (t : Fin cfg1.N) (h j : Fin 2) (b : Fin 1024) : iblk1 V c 4 t (ix4 h j 0 b) = V c main_v1 (ix4 (head t h) j 0 b) := by
  show V c main_v1 (((cfg1.win 4).blk t).view.emb (ix4 h j 0 b : S2x2x1x1024.Idx)) = _
  rw [emb1_4]

theorem idx1_5 : ∀ t : Fin cfg1.N, win1_5.index t (0 : Fin 2) = t.val % 2 ∧ win1_5.index t (1 : Fin 2) = t.val / 2 :=
  (by decide +kernel : ∀ t : Fin grid1.N, _)

theorem emb1_5 (t : Fin cfg1.N) (a : Fin 1024) (h : Fin 2) (d : Fin 64) : ((cfg1.win 5).blk t).view.emb (ix2 a (lane h d) : S1024x128.Idx) = ix2 (tile (qt t) a) (col (head t h) d) := by
  obtain ⟨e0, e1⟩ := idx1_5 t
  funext x; apply Fin.ext
  match x with
  | ⟨0, _⟩ => show win1_5.index t (0 : Fin 2) * 1024 + 1 * a.val = 1024 * (t.val % 2) + a.val; omega
  | ⟨1, _⟩ => show win1_5.index t (1 : Fin 2) * 128 + 1 * (64 * h.val + d.val) = 64 * (2 * (t.val / 2) + h.val) + d.val; omega

theorem in1_5 (t : Fin cfg1.N) (a : Fin 1024) (h : Fin 2) (d : Fin 64) : iblk1 V c 5 t (ix2 a (lane h d)) = V c main_v2_0 (ix2 (tile (qt t) a) (col (head t h) d)) := by
  show V c main_v2_0 (((cfg1.win 5).blk t).view.emb (ix2 a (lane h d) : S1024x128.Idx)) = _
  rw [emb1_5]

theorem idx1_6 : ∀ t : Fin cfg1.N, win1_6.index t (0 : Fin 3) = t.val / 2 ∧ win1_6.index t (1 : Fin 3) = t.val % 2 ∧ win1_6.index t (2 : Fin 3) = 0 :=
  (by decide +kernel : ∀ t : Fin grid1.N, _)

theorem emb1_6 (t : Fin cfg1.N) (h : Fin 2) (a : Fin 1024) : ((cfg1.win 6).blk t).view.emb (ix3 h a 0 : S2x1024x1.Idx) = ix3 (head t h) (tile (qt t) a) 0 := by
  obtain ⟨e0, e1, e2⟩ := idx1_6 t
  funext x; apply Fin.ext
  match x with
  | ⟨0, _⟩ => show win1_6.index t (0 : Fin 3) * 2 + 1 * h.val = 2 * (t.val / 2) + h.val; omega
  | ⟨1, _⟩ => show win1_6.index t (1 : Fin 3) * 1024 + 1 * a.val = 1024 * (t.val % 2) + a.val; omega
  | ⟨2, _⟩ => show win1_6.index t (2 : Fin 3) * 1 + 1 * 0 = 0; omega

theorem in1_6 (t : Fin cfg1.N) (h : Fin 2) (a : Fin 1024) : iblk1 V c 6 t (ix3 h a 0) = V c main_v2_1 (ix3 (head t h) (tile (qt t) a) 0) := by
  show V c main_v2_1 (((cfg1.win 6).blk t).view.emb (ix3 h a 0 : S2x1024x1.Idx)) = _
  rw [emb1_6]

theorem idx1_7 : ∀ t : Fin cfg1.N, win1_7.index t (0 : Fin 2) = t.val % 2 ∧ win1_7.index t (1 : Fin 2) = t.val / 2 :=
  (by decide +kernel : ∀ t : Fin grid1.N, _)

theorem emb1_7 (t : Fin cfg1.N) (a : Fin 1024) (h : Fin 2) (d : Fin 64) : ((cfg1.win 7).blk t).view.emb (ix2 a (lane h d) : S1024x128.Idx) = ix2 (tile (qt t) a) (col (head t h) d) := by
  obtain ⟨e0, e1⟩ := idx1_7 t
  funext x; apply Fin.ext
  match x with
  | ⟨0, _⟩ => show win1_7.index t (0 : Fin 2) * 1024 + 1 * a.val = 1024 * (t.val % 2) + a.val; omega
  | ⟨1, _⟩ => show win1_7.index t (1 : Fin 2) * 128 + 1 * (64 * h.val + d.val) = 64 * (2 * (t.val / 2) + h.val) + d.val; omega

theorem in1_7 (t : Fin cfg1.N) (a : Fin 1024) (h : Fin 2) (d : Fin 64) : iblk1 V c 7 t (ix2 a (lane h d)) = V c main_arg4 (ix2 (tile (qt t) a) (col (head t h) d)) := by
  show V c main_arg4 (((cfg1.win 7).blk t).view.emb (ix2 a (lane h d) : S1024x128.Idx)) = _
  rw [emb1_7]

theorem idx1_8 : ∀ t : Fin cfg1.N, win1_8.index t (0 : Fin 2) = t.val % 2 ∧ win1_8.index t (1 : Fin 2) = t.val / 2 :=
  (by decide +kernel : ∀ t : Fin grid1.N, _)

theorem emb1_8 (t : Fin cfg1.N) (a : Fin 1024) (h : Fin 2) (d : Fin 64) : ((cfg1.win 8).blk t).view.emb (ix2 a (lane h d) : S1024x128.Idx) = ix2 (tile (qt t) a) (col (head t h) d) := by
  obtain ⟨e0, e1⟩ := idx1_8 t
  funext x; apply Fin.ext
  match x with
  | ⟨0, _⟩ => show win1_8.index t (0 : Fin 2) * 1024 + 1 * a.val = 1024 * (t.val % 2) + a.val; omega
  | ⟨1, _⟩ => show win1_8.index t (1 : Fin 2) * 128 + 1 * (64 * h.val + d.val) = 64 * (2 * (t.val / 2) + h.val) + d.val; omega

/-- The array an output ends as, when the block written back at each point holds `X` there. -/
theorem arr1_8 (X : Fin 16 → Fin 2048 → Fin 64 → EReal)
    (hX : ∀ t : Fin cfg1.N, (cfg1.win 8).flush t = true → ∀ (a : Fin 1024) (h : Fin 2) (d : Fin 64), (dat1 V c).after 8 t (ix2 a (lane h d) : S1024x128.Idx) = X (head t h) (tile (qt t) a) d) :
    (dat1 V c).arrAt 8 cfg1.N = fun i : S2048x1024.Idx => X (headOf (i 1)) (i 0) (laneOf (i 1)) := by
  refine (dat1 V c).arrAt_eq_of_covers 8 _ (by decide +kernel) fun t hf y => ?_
  suffices hs : ∀ y : S1024x128.Idx, (dat1 V c).after 8 t y = (fun i : S2048x1024.Idx => X (headOf (i 1)) (i 0) (laneOf (i 1))) (((cfg1.win 8).blk t).view.emb y) from hs y
  intro y
  obtain ⟨a, h, d, rfl⟩ := exists_T y
  rw [emb1_8]
  refine (hX t hf _ h d).trans ?_
  show _ = X (headOf (col (head t h) d)) _ (laneOf (col (head t h) d))
  rw [headOf_col, laneOf_col]
  rfl

theorem idx1_9 : ∀ t : Fin cfg1.N, win1_9.index t (0 : Fin 2) = 0 ∧ win1_9.index t (1 : Fin 2) = t.val / 2 :=
  (by decide +kernel : ∀ t : Fin grid1.N, _)

theorem emb1_9 (t : Fin cfg1.N) (b : Fin 2048) (h : Fin 2) (d : Fin 64) : ((cfg1.win 9).blk t).view.emb (ix2 b (lane h d) : S2048x128.Idx) = ix2 b (col (head t h) d) := by
  obtain ⟨e0, e1⟩ := idx1_9 t
  funext x; apply Fin.ext
  match x with
  | ⟨0, _⟩ => show win1_9.index t (0 : Fin 2) * 2048 + 1 * b.val = b.val; omega
  | ⟨1, _⟩ => show win1_9.index t (1 : Fin 2) * 128 + 1 * (64 * h.val + d.val) = 64 * (2 * (t.val / 2) + h.val) + d.val; omega

/-- The array an output ends as, when the block written back at each point holds `X` there. -/
theorem arr1_9 (X : Fin 16 → Fin 2048 → Fin 64 → EReal)
    (hX : ∀ t : Fin cfg1.N, (cfg1.win 9).flush t = true → ∀ (b : Fin 2048) (h : Fin 2) (d : Fin 64), (dat1 V c).after 9 t (ix2 b (lane h d) : S2048x128.Idx) = X (head t h) b d) :
    (dat1 V c).arrAt 9 cfg1.N = fun i : S2048x1024.Idx => X (headOf (i 1)) (i 0) (laneOf (i 1)) := by
  refine (dat1 V c).arrAt_eq_of_covers 9 _ (by decide +kernel) fun t hf y => ?_
  suffices hs : ∀ y : S2048x128.Idx, (dat1 V c).after 9 t y = (fun i : S2048x1024.Idx => X (headOf (i 1)) (i 0) (laneOf (i 1))) (((cfg1.win 9).blk t).view.emb y) from hs y
  intro y
  obtain ⟨a, h, d, rfl⟩ := exists_W y
  rw [emb1_9]
  refine (hX t hf _ h d).trans ?_
  show _ = X (headOf (col (head t h) d)) _ (laneOf (col (head t h) d))
  rw [headOf_col, laneOf_col]
  rfl

theorem idx1_10 : ∀ t : Fin cfg1.N, win1_10.index t (0 : Fin 2) = 0 ∧ win1_10.index t (1 : Fin 2) = t.val / 2 :=
  (by decide +kernel : ∀ t : Fin grid1.N, _)

theorem emb1_10 (t : Fin cfg1.N) (b : Fin 2048) (h : Fin 2) (d : Fin 64) : ((cfg1.win 10).blk t).view.emb (ix2 b (lane h d) : S2048x128.Idx) = ix2 b (col (head t h) d) := by
  obtain ⟨e0, e1⟩ := idx1_10 t
  funext x; apply Fin.ext
  match x with
  | ⟨0, _⟩ => show win1_10.index t (0 : Fin 2) * 2048 + 1 * b.val = b.val; omega
  | ⟨1, _⟩ => show win1_10.index t (1 : Fin 2) * 128 + 1 * (64 * h.val + d.val) = 64 * (2 * (t.val / 2) + h.val) + d.val; omega

/-- The array an output ends as, when the block written back at each point holds `X` there. -/
theorem arr1_10 (X : Fin 16 → Fin 2048 → Fin 64 → EReal)
    (hX : ∀ t : Fin cfg1.N, (cfg1.win 10).flush t = true → ∀ (b : Fin 2048) (h : Fin 2) (d : Fin 64), (dat1 V c).after 10 t (ix2 b (lane h d) : S2048x128.Idx) = X (head t h) b d) :
    (dat1 V c).arrAt 10 cfg1.N = fun i : S2048x1024.Idx => X (headOf (i 1)) (i 0) (laneOf (i 1)) := by
  refine (dat1 V c).arrAt_eq_of_covers 10 _ (by decide +kernel) fun t hf y => ?_
  suffices hs : ∀ y : S2048x128.Idx, (dat1 V c).after 10 t y = (fun i : S2048x1024.Idx => X (headOf (i 1)) (i 0) (laneOf (i 1))) (((cfg1.win 10).blk t).view.emb y) from hs y
  intro y
  obtain ⟨a, h, d, rfl⟩ := exists_W y
  rw [emb1_10]
  refine (hX t hf _ h d).trans ?_
  show _ = X (headOf (col (head t h) d)) _ (laneOf (col (head t h) d))
  rw [headOf_col, laneOf_col]
  rfl

theorem idx1_11 : ∀ t : Fin cfg1.N, win1_11.index t (0 : Fin 3) = t.val / 2 ∧ win1_11.index t (1 : Fin 3) = t.val % 2 ∧ win1_11.index t (2 : Fin 3) = 0 :=
  (by decide +kernel : ∀ t : Fin grid1.N, _)

theorem emb1_11 (t : Fin cfg1.N) (h : Fin 2) (a : Fin 1024) : ((cfg1.win 11).blk t).view.emb (ix3 h a 0 : S2x1024x1.Idx) = ix3 (head t h) (tile (qt t) a) 0 := by
  obtain ⟨e0, e1, e2⟩ := idx1_11 t
  funext x; apply Fin.ext
  match x with
  | ⟨0, _⟩ => show win1_11.index t (0 : Fin 3) * 2 + 1 * h.val = 2 * (t.val / 2) + h.val; omega
  | ⟨1, _⟩ => show win1_11.index t (1 : Fin 3) * 1024 + 1 * a.val = 1024 * (t.val % 2) + a.val; omega
  | ⟨2, _⟩ => show win1_11.index t (2 : Fin 3) * 1 + 1 * 0 = 0; omega

/-- The array an output ends as, when the block written back at each point holds `X` there. -/
theorem arr1_11 (X : Fin 16 → Fin 2048 → EReal)
    (hX : ∀ t : Fin cfg1.N, (cfg1.win 11).flush t = true → ∀ (h : Fin 2) (a : Fin 1024), (dat1 V c).after 11 t (ix3 h a 0 : S2x1024x1.Idx) = X (head t h) (tile (qt t) a)) :
    (dat1 V c).arrAt 11 cfg1.N = fun i : S16x2048x1.Idx => X (i 0) (i 1) := by
  refine (dat1 V c).arrAt_eq_of_covers 11 _ (by decide +kernel) fun t hf y => ?_
  suffices hs : ∀ y : S2x1024x1.Idx, (dat1 V c).after 11 t y = (fun i : S16x2048x1.Idx => X (i 0) (i 1)) (((cfg1.win 11).blk t).view.emb y) from hs y
  intro y
  obtain ⟨h, a, rfl⟩ := exists_C y
  rw [emb1_11]
  exact hX t hf h a

theorem idx1_12 : ∀ t : Fin cfg1.N, win1_12.index t (0 : Fin 4) = t.val / 2 ∧ win1_12.index t (1 : Fin 4) = 0 ∧ win1_12.index t (2 : Fin 4) = 0 ∧ win1_12.index t (3 : Fin 4) = 0 :=
  (by decide +kernel : ∀ t : Fin grid1.N, _)

theorem emb1_12 (t : Fin cfg1.N) (h j : Fin 2) (b : Fin 1024) : ((cfg1.win 12).blk t).view.emb (ix4 h j 0 b : S2x2x1x1024.Idx) = ix4 (head t h) j 0 b := by
  obtain ⟨e0, e1, e2, e3⟩ := idx1_12 t
  funext x; apply Fin.ext
  match x with
  | ⟨0, _⟩ => show win1_12.index t (0 : Fin 4) * 2 + 1 * h.val = 2 * (t.val / 2) + h.val; omega
  | ⟨1, _⟩ => show win1_12.index t (1 : Fin 4) * 2 + 1 * j.val = j.val; omega
  | ⟨2, _⟩ => show win1_12.index t (2 : Fin 4) * 1 + 1 * 0 = 0; omega
  | ⟨3, _⟩ => show win1_12.index t (3 : Fin 4) * 1024 + 1 * b.val = b.val; omega

/-- The array an output ends as, when the block written back at each point holds `X` there. -/
theorem arr1_12 (X : Fin 16 → Fin 2 → Fin 1024 → EReal)
    (hX : ∀ t : Fin cfg1.N, (cfg1.win 12).flush t = true → ∀ (h j : Fin 2) (b : Fin 1024), (dat1 V c).after 12 t (ix4 h j 0 b : S2x2x1x1024.Idx) = X (head t h) j b) :
    (dat1 V c).arrAt 12 cfg1.N = fun i : S16x2x1x1024.Idx => X (i 0) (i 1) (i 3) := by
  refine (dat1 V c).arrAt_eq_of_covers 12 _ (by decide +kernel) fun t hf y => ?_
  suffices hs : ∀ y : S2x2x1x1024.Idx, (dat1 V c).after 12 t y = (fun i : S16x2x1x1024.Idx => X (i 0) (i 1) (i 3)) (((cfg1.win 12).blk t).view.emb y) from hs y
  intro y
  obtain ⟨h, j, b, rfl⟩ := exists_K y
  rw [emb1_12]
  exact hX t hf h j b

end Cert.Fox

end
-- ==== Proof.Consts.lean ====
/- The constants of the two bodies over the extended reals, and the comparison that masks the diagonal chunk. -/
module

public import proofs.«01_k».proof.Proof.Gen.KernelIdeal.Skeleton
public import Idealize.ShloMosaic.Lib.Pointwise
public import Idealize.ShloMosaic.Lib.WordCmp

@[expose] public section

noncomputable section

namespace Cert.Fox

open Idealize.ShloMosaic Cert.KernelIdeal Cert.KernelIdeal.Gen

/-- The scale of the queries is an eighth. -/
theorem eighth : Ideal.ofBits .f32 0x3E000000#32 = ((1 / 8 : ℝ) : EReal) := by
  simp [Ideal.ofBits, Ideal.ieee, -EReal.coe_mul]; norm_num

/-- The maximum starts at minus infinity. -/
theorem neg_inf : Ideal.ofBits .f32 0xFF800000#32 = (⊥ : EReal) := by
  simp [Ideal.ofBits, Ideal.ieee]

/-- The mask constant's value. -/
theorem mask_bot : (Named.named Cert.KernelIdeal.κ "mask" 0xF149F2CA#32 : Ideal .f32) = (⊥ : EReal) :=
  IdealRules.named_const.ideal_named_scalar _ _ _ _ rfl

/-- A choice by `b ≤ a` of two row or column numbers. -/
theorem select_ge {α : Type} (a b : Fin 1024) (x y : α) :
    Scalar.select (IntOp.cmpi .sge (BitVec.ofNat 32 a.val) (BitVec.ofNat 32 b.val)) x y = if b ≤ a then x else y := by
  rw [WordCmp.cmpi_sge_ofNat (by have := a.isLt; omega) (by have := b.isLt; omega)]
  by_cases h : b ≤ a
  · rw [if_pos h, decide_eq_true (show b.val ≤ a.val from h)]; rfl
  · rw [if_neg h, decide_eq_false (show ¬ b.val ≤ a.val from h)]; rfl

end Cert.Fox

end
-- ==== Proof.BwdPay.lean ====
/- The values the backward body computes, read at an index: the probabilities, the gradient of the scores, and each gradient's
   sum over a tile. -/
module

public import proofs.«01_k».proof.Proof.Blocks
public import proofs.«01_k».proof.Proof.Consts

@[expose] public section

set_option maxRecDepth 16384

noncomputable section

namespace Cert.Fox

open Idealize.ShloMosaic Cert.KernelIdeal Cert.KernelIdeal.Gen

section
variable (q k v g o : Vec Ideal S1024x64 .f32) (cq l : Vec Ideal S1x1024x1 .f32) (ck : Vec Ideal S1x1x1x1024 .f32)

/-- A probability of a key tile before the diagonal. -/
theorem read_prob (a b : Fin 1024) :
    k1_pay4 (k1_pay37 q) (k1_pay38 cq) (k1_pay39 l) k ck (ix2 a b)
      = Ideal.exp ((∑ x, q (ix2 a x) * ((1 / 8 : ℝ) : EReal) * k (ix2 b x)) + cq (ix3 0 a 0) - ck (ix4 0 0 0 b) - l (ix3 0 a 0)) := by
  unfold_payloads
  pointwise
  rw [eighth]

/-- A probability of the diagonal tile. -/
theorem read_probD (a b : Fin 1024) :
    k1_pay57 (k1_pay37 q) (k1_pay38 cq) (k1_pay39 l) k ck (ix2 a b)
      = Ideal.exp ((if b ≤ a then (∑ x, q (ix2 a x) * ((1 / 8 : ℝ) : EReal) * k (ix2 b x)) + cq (ix3 0 a 0) - ck (ix4 0 0 0 b) else ⊥)
          - l (ix3 0 a 0)) := by
  unfold_payloads
  pointwise
  rw [eighth, mask_bot, select_ge]

/-- The row sum of the output times its gradient. -/
theorem read_delta (a : Fin 1024) : k1_pay41 g o (ix2 a 0) = ∑ x, g (ix2 a x) * o (ix2 a x) := by
  unfold k1_pay41
  pointwise

/-- The scaled queries. -/
theorem read_q (a : Fin 1024) (d : Fin 64) : k1_pay37 q (ix2 a d) = q (ix2 a d) * ((1 / 8 : ℝ) : EReal) := by
  unfold k1_pay37
  pointwise
  rw [eighth]

/-- The gradient of a probability. -/
theorem read_dprob (a b : Fin 1024) : k1_pay58 (k1_pay40 g) v (ix2 a b) = ∑ x, g (ix2 a x) * v (ix2 b x) := by
  unfold k1_pay58 k1_pay40
  pointwise

/-- The row sum at every key. -/
theorem read_row (r : FVec Ideal S1024x1 .f32) (a b : Fin 1024) : k1_pay59 r (ix2 a b) = r (ix2 a 0) := by
  unfold k1_pay59
  pointwise
end

section
variable (p d e : FVec Ideal S1024x1024 .f32) (s : FVec Ideal S1024x64 .f32) (r : FVec Ideal S1024x1 .f32)
  (q : FVec Ideal S1024x64 .bf16) (k : Vec Ideal S1024x64 .f32)

/-- The gradient of a score. -/
theorem read_ds (a b : Fin 1024) : k1_pay60 p d e (ix2 a b) = p (ix2 a b) * (d (ix2 a b) - e (ix2 a b)) := by
  unfold k1_pay60
  pointwise

/-- The queries' gradient: what was carried, and the diagonal tile's sum over its keys. -/
theorem read_dq (a : Fin 1024) (x : Fin 64) :
    k1_pay65 s k p d e (ix2 a x) = s (ix2 a x) + ∑ b, k1_pay60 p d e (ix2 a b) * k (ix2 b x) := by
  unfold k1_pay65 k1_pay61
  pointwise

/-- The query gates' gradient. -/
theorem read_dcq (a : Fin 1024) : k1_pay66 r p d e (ix2 a 0) = r (ix2 a 0) + ∑ b, k1_pay60 p d e (ix2 a b) := by
  unfold k1_pay66
  pointwise

/-- The keys' gradient: the diagonal tile's sum over its rows. -/
theorem read_dk (b : Fin 1024) (x : Fin 64) : k1_pay63 q p d e (ix2 b x) = ∑ a, k1_pay60 p d e (ix2 a b) * q (ix2 a x) := by
  unfold k1_pay63 k1_pay61
  pointwise

/-- The values' gradient. -/
theorem read_dv (b : Fin 1024) (x : Fin 64) : k1_pay62 q p (ix2 b x) = ∑ a, p (ix2 a b) * q (ix2 a x) := by
  unfold k1_pay62
  pointwise

/-- The key gates' gradient. -/
theorem read_dck (old : Vec Ideal S1x1x1x1024 .f32) (b : Fin 1024) :
    k1_pay64 p d e old (ix4 0 0 0 b) = old (ix4 0 0 0 b) - ∑ a, k1_pay60 p d e (ix2 a b) := by
  unfold k1_pay64
  pointwise
end

section
variable (v7 : FVec Ideal S1024x64 .bf16) (v9 v11 : FVec Ideal S1024x1 .f32) (v12 : FVec Ideal S1024x64 .bf16) (v17 : FVec Ideal S1024x1 .f32)
  (k v : Vec Ideal S1024x64 .f32) (ck : Vec Ideal S1x1x1x1024 .f32)

/-- The gradient of a score before the diagonal. -/
theorem read_ds' (a b : Fin 1024) :
    k1_pay5 v7 v9 v11 v12 v17 k ck v (ix2 a b) = k1_pay4 v7 v9 v11 k ck (ix2 a b) * (k1_pay58 v12 v (ix2 a b) - k1_pay59 v17 (ix2 a b)) := by
  unfold k1_pay5 k1_pay58 k1_pay59
  pointwise

theorem read_dq' (s : FVec Ideal S1024x64 .f32) (a : Fin 1024) (x : Fin 64) :
    k1_pay10 v7 v9 v11 v12 v17 s k ck v (ix2 a x) = s (ix2 a x) + ∑ b, k1_pay5 v7 v9 v11 v12 v17 k ck v (ix2 a b) * k (ix2 b x) := by
  unfold k1_pay10 k1_pay6
  pointwise

theorem read_dcq' (r : FVec Ideal S1024x1 .f32) (p : FVec Ideal S1024x1024 .f32) (a : Fin 1024) :
    k1_pay11 r p (ix2 a 0) = r (ix2 a 0) + ∑ b, p (ix2 a b) := by
  unfold k1_pay11
  pointwise

theorem read_dk' (b : Fin 1024) (x : Fin 64) :
    k1_pay8 v7 v9 v11 v12 v17 k ck v (ix2 b x) = ∑ a, k1_pay5 v7 v9 v11 v12 v17 k ck v (ix2 a b) * v7 (ix2 a x) := by
  unfold k1_pay8 k1_pay6
  pointwise

theorem read_dv' (b : Fin 1024) (x : Fin 64) :
    k1_pay7 v7 v9 v11 v12 k ck (ix2 b x) = ∑ a, k1_pay4 v7 v9 v11 k ck (ix2 a b) * v12 (ix2 a x) := by
  unfold k1_pay7
  pointwise

theorem read_dck' (old : Vec Ideal S1x1x1x1024 .f32) (b : Fin 1024) :
    k1_pay9 v7 v9 v11 v12 v17 k ck v old (ix4 0 0 0 b) = old (ix4 0 0 0 b) - ∑ a, k1_pay5 v7 v9 v11 v12 v17 k ck v (ix2 a b) := by
  unfold k1_pay9
  pointwise
end

section
variable (s0 s1 : FVec Ideal S1024x64 .f32) (old : Vec Ideal S1024x128 .f32)

/-- Rows of both heads, added to what the block held. -/
theorem read_add (h : Fin 2) (b : Fin 1024) (x : Fin 64) :
    k1_pay52 s0 s1 old (ix2 b (lane h x)) = old (ix2 b (lane h x)) + (if h = 0 then s0 else s1) (ix2 b x) := by
  have hh : h = 0 ∨ h = 1 := by omega
  rcases hh with rfl | rfl
  · unfold k1_pay52
    pointwise
    simp [lane]
  · unfold k1_pay52
    pointwise
    simp [lane]

theorem read_add' (h : Fin 2) (b : Fin 1024) (x : Fin 64) :
    k1_pay53 s0 s1 old (ix2 b (lane h x)) = old (ix2 b (lane h x)) + (if h = 0 then s0 else s1) (ix2 b x) := read_add s0 s1 old h b x

/-- Rows of both heads, scaled. -/
theorem read_scale (h : Fin 2) (b : Fin 1024) (x : Fin 64) :
    k1_pay1 s0 s1 (ix2 b (lane h x)) = (if h = 0 then s0 else s1) (ix2 b x) * ((1 / 8 : ℝ) : EReal) := by
  have hh : h = 0 ∨ h = 1 := by omega
  rcases hh with rfl | rfl
  · unfold k1_pay1
    pointwise
    simp [lane, eighth]
  · unfold k1_pay1
    pointwise
    simp [lane, eighth]
end

theorem read_col (r : FVec Ideal S1024x1 .f32) (a : Fin 1024) : k1_pay2 r (ix3 0 a 0) = r (ix2 a 0) := by
  unfold k1_pay2
  pointwise

theorem read_zero_k (y : S2048x128.Idx) : k1_pay34 (F := Ideal) y = 0 := by
  unfold k1_pay34
  pointwise

theorem read_zero_v (y : S2048x128.Idx) : k1_pay35 (F := Ideal) y = 0 := read_zero_k y

theorem read_zero_g (y : S2x2x1x1024.Idx) : k1_pay36 (F := Ideal) y = 0 := by
  unfold k1_pay36
  pointwise

theorem read_zero_q (y : S1024x64.Idx) : k1_pay47 (F := Ideal) y = 0 := by
  unfold k1_pay47
  pointwise

theorem read_zero_c (y : S1024x1.Idx) : k1_pay48 (F := Ideal) y = 0 := by
  unfold k1_pay48
  pointwise

end Cert.Fox

end
-- ==== Proof.BwdOpen.lean ====
/- The backward body's output blocks, opened: the payloads stored, as functions of the eight input blocks and, for the
   blocks that both query tiles add to, of what they held before. -/
module

public import proofs.«01_k».proof.Proof.Blocks
public import proofs.«01_k».proof.Proof.Gen.KernelIdeal.Frame
public import Idealize.ShloMosaic.Lib.WritesUnit
public import Idealize.ShloMosaic.Lib.VecWindow

@[expose] public section

set_option maxRecDepth 16384

noncomputable section

namespace Cert.Fox

open Idealize.ShloMosaic Idealize.ShloMosaic.TcCoe Idealize.SL.Sem Cert.KernelIdeal Cert.KernelIdeal.Gen

/-- Rows `1024 j …`, all lanes, of a block of 2048 rows. -/
def wide (x : Vec Ideal S2048x128 .f32) (j : Fin 2) : Vec Ideal S1024x128 .f32 :=
  fun y => x (ix2 (⟨1024 * j.val + (y 0).val, by have : (y 0).val < 1024 := (y 0).isLt; omega⟩ : Fin 2048) (y 1))

theorem ld_wide (x : Vec Ideal S2048x128 .f32) (j : Fin 2) {off : Fin 2 → Nat} (hoff : off = ![1024 * j.val, 0]) (inb) :
    View.ld x (Rect.unit (s := S2048x128) off S1024x128.size inb) = wide x j := by
  subst hoff
  funext y
  refine View.ld_unit_apply_of _ _ _ _ _ _ fun a => ?_
  fin_cases a <;> simp [ix2]

section
variable {sig : RefSig} {κ : Kind} {sp : Space}

/-- The rows last stored read back. -/
theorem wide_hit (v : View sig κ sp S2048x128 .f32) (f : v.ty.Contents (Elt Ideal)) (j : Fin 2) {off : Fin 2 → Nat}
    (hoff : off = ![1024 * j.val, 0]) (inb) (w : FVec Ideal S1024x128 .f32) (L : List (View.Piece (Elt Ideal) S2048x128 .f32)) :
    wide (v.read (Elt Ideal) (v.writes (Elt Ideal) f (⟨Rect.unit (s := S2048x128) off S1024x128.size inb, w⟩ :: L))) j = w := by
  funext y
  refine View.read_writes_cons_unit_of_mem v f inb w L _ y hoff fun a => ?_
  fin_cases a <;> simp [ix2]

/-- A store to one tile's rows leaves the other's. -/
theorem wide_miss (v : View sig κ sp S2048x128 .f32) (f : v.ty.Contents (Elt Ideal)) {j j' : Fin 2} (hj : j ≠ j') {off : Fin 2 → Nat}
    (hoff : off = ![1024 * j.val, 0]) (inb) (w : FVec Ideal S1024x128 .f32) (L : List (View.Piece (Elt Ideal) S2048x128 .f32)) :
    wide (v.read (Elt Ideal) (v.writes (Elt Ideal) f (⟨Rect.unit (s := S2048x128) off S1024x128.size inb, w⟩ :: L))) j'
      = wide (v.read (Elt Ideal) (v.writes (Elt Ideal) f L)) j' := by
  funext y
  refine View.read_writes_cons_unit_of_not_mem v f inb w L _ hoff (0 : Fin 2) ?_
  have hy : (y 0).val < 1024 := (y 0).isLt
  have hv : j.val ≠ j'.val := fun h => hj (Fin.ext h)
  show 1024 * j'.val + (y 0).val < 1024 * j.val ∨ 1024 * j.val + 1024 ≤ 1024 * j'.val + (y 0).val
  omega

/-- Two stores of one head's column each, read under the earlier one. -/
theorem col_hit0 (v : View sig κ sp S2x1024x1 .f32) (f : v.ty.Contents (Elt Ideal)) (P1 P0 : FVec Ideal S1x1024x1 .f32) (a : Fin 1024) :
    v.read (Elt Ideal) (v.writes (Elt Ideal) f
      [⟨Rect.unit (s := S2x1024x1) ![1, 0, 0] S1x1024x1.size inb_S2x1024x1_S1x1024x1_1_0_0, P1⟩,
        ⟨Rect.unit (s := S2x1024x1) ![0, 0, 0] S1x1024x1.size inb_S2x1024x1_S1x1024x1_0_0_0, P0⟩]) (ix3 0 a 0) = P0 (ix3 0 a 0) := by
  refine (View.read_writes_cons_unit_of_not_mem v f _ _ _ _ rfl (0 : Fin 3) (.inl one_pos)).trans ?_
  refine View.read_writes_cons_unit_of_mem v f _ P0 [] _ (ix3 0 a 0) rfl fun x => ?_
  fin_cases x <;> simp [ix3]

/-- Two stores of one head's column each, read under the later one. -/
theorem col_hit1 (v : View sig κ sp S2x1024x1 .f32) (f : v.ty.Contents (Elt Ideal)) (P1 P0 : FVec Ideal S1x1024x1 .f32) (a : Fin 1024) :
    v.read (Elt Ideal) (v.writes (Elt Ideal) f
      [⟨Rect.unit (s := S2x1024x1) ![1, 0, 0] S1x1024x1.size inb_S2x1024x1_S1x1024x1_1_0_0, P1⟩,
        ⟨Rect.unit (s := S2x1024x1) ![0, 0, 0] S1x1024x1.size inb_S2x1024x1_S1x1024x1_0_0_0, P0⟩]) (ix3 1 a 0) = P1 (ix3 0 a 0) := by
  refine View.read_writes_cons_unit_of_mem v f _ P1 _ _ (ix3 0 a 0) rfl fun x => ?_
  fin_cases x <;> simp [ix3]

/-- The row of key gates last stored reads back. -/
theorem kgate_hit (v : View sig κ sp S2x2x1x1024 .f32) (f : v.ty.Contents (Elt Ideal)) (h j : Fin 2) {off : Fin 4 → Nat}
    (hoff : off = ![h.val, j.val, 0, 0]) (inb) (w : FVec Ideal S1x1x1x1024 .f32) (L : List (View.Piece (Elt Ideal) S2x2x1x1024 .f32)) :
    kgate (v.read (Elt Ideal) (v.writes (Elt Ideal) f (⟨Rect.unit (s := S2x2x1x1024) off S1x1x1x1024.size inb, w⟩ :: L))) h j = w := by
  funext y
  refine View.read_writes_cons_unit_of_mem v f inb w L _ y hoff fun a => ?_
  have h0 : (y 0).val = 0 := Nat.lt_one_iff.mp (y 0).isLt
  have h1 : (y 1).val = 0 := Nat.lt_one_iff.mp (y 1).isLt
  fin_cases a <;> simp [ix4, h0, h1]

/-- A store to one head's row of key gates leaves the other's. -/
theorem kgate_miss (v : View sig κ sp S2x2x1x1024 .f32) (f : v.ty.Contents (Elt Ideal)) {h j h' j' : Fin 2} (hj : h ≠ h' ∨ j ≠ j')
    {off : Fin 4 → Nat} (hoff : off = ![h.val, j.val, 0, 0]) (inb) (w : FVec Ideal S1x1x1x1024 .f32)
    (L : List (View.Piece (Elt Ideal) S2x2x1x1024 .f32)) :
    kgate (v.read (Elt Ideal) (v.writes (Elt Ideal) f (⟨Rect.unit (s := S2x2x1x1024) off S1x1x1x1024.size inb, w⟩ :: L))) h' j'
      = kgate (v.read (Elt Ideal) (v.writes (Elt Ideal) f L)) h' j' := by
  funext y
  rcases hj with hj | hj
  · refine View.read_writes_cons_unit_of_not_mem v f inb w L _ hoff (0 : Fin 4) ?_
    have hv : h.val ≠ h'.val := fun e => hj (Fin.ext e)
    show h'.val < h.val ∨ h.val + 1 ≤ h'.val
    omega
  · refine View.read_writes_cons_unit_of_not_mem v f inb w L _ hoff (1 : Fin 4) ?_
    have hv : j.val ≠ j'.val := fun e => hj (Fin.ext e)
    show j'.val < j.val ∨ j.val + 1 ≤ j'.val
    omega

end

section
variable (q g o k v : Vec Ideal S1024x64 .f32) (cq l : Vec Ideal S1x1024x1 .f32) (ck old : Vec Ideal S1x1x1x1024 .f32)
  (p : FVec Ideal S1024x1024 .f32) (s w : FVec Ideal S1024x64 .f32) (r : FVec Ideal S1024x1 .f32) (x : Vec Ideal S1024x128 .f32)

/-! Head 1's values are head 0's, at head 1's blocks. -/

theorem same67 : k1_pay67 (k1_pay42 q) (k1_pay43 cq) (k1_pay44 l) k ck = k1_pay57 (k1_pay37 q) (k1_pay38 cq) (k1_pay39 l) k ck := rfl

theorem same71 : k1_pay71 (k1_pay45 g) (k1_pay46 g o) s k p v
    = k1_pay65 s k p (k1_pay58 (k1_pay40 g) v) (k1_pay59 (k1_pay41 g o)) := rfl

theorem same72 : k1_pay72 (k1_pay45 g) (k1_pay46 g o) r p v
    = k1_pay66 r p (k1_pay58 (k1_pay40 g) v) (k1_pay59 (k1_pay41 g o)) := rfl

theorem same70 : k1_pay70 (k1_pay45 g) (k1_pay46 g o) p v old
    = k1_pay64 p (k1_pay58 (k1_pay40 g) v) (k1_pay59 (k1_pay41 g o)) old := rfl

theorem same73 : k1_pay73 (k1_pay42 q) (k1_pay45 g) (k1_pay46 g o) s p v x
    = k1_pay52 s (k1_pay63 (k1_pay37 q) p (k1_pay58 (k1_pay40 g) v) (k1_pay59 (k1_pay41 g o))) x := rfl

theorem same74 : k1_pay74 (k1_pay45 g) s p x = k1_pay53 s (k1_pay62 (k1_pay40 g) p) x := rfl

theorem same13 : k1_pay13 (k1_pay42 q) (k1_pay43 cq) (k1_pay44 l) (k1_pay45 g) (k1_pay46 g o) k ck v
    = k1_pay5 (k1_pay37 q) (k1_pay38 cq) (k1_pay39 l) (k1_pay40 g) (k1_pay41 g o) k ck v := rfl

theorem same15 : k1_pay15 (k1_pay42 q) (k1_pay43 cq) (k1_pay44 l) (k1_pay45 g) k ck
    = k1_pay7 (k1_pay37 q) (k1_pay38 cq) (k1_pay39 l) (k1_pay40 g) k ck := rfl

theorem same16 : k1_pay16 (k1_pay42 q) (k1_pay43 cq) (k1_pay44 l) (k1_pay45 g) (k1_pay46 g o) k ck v
    = k1_pay8 (k1_pay37 q) (k1_pay38 cq) (k1_pay39 l) (k1_pay40 g) (k1_pay41 g o) k ck v := rfl

theorem same17 : k1_pay17 (k1_pay42 q) (k1_pay43 cq) (k1_pay44 l) (k1_pay45 g) (k1_pay46 g o) k ck v old
    = k1_pay9 (k1_pay37 q) (k1_pay38 cq) (k1_pay39 l) (k1_pay40 g) (k1_pay41 g o) k ck v old := rfl

theorem same18 : k1_pay18 (k1_pay42 q) (k1_pay43 cq) (k1_pay44 l) (k1_pay45 g) (k1_pay46 g o) s k ck v
    = k1_pay10 (k1_pay37 q) (k1_pay38 cq) (k1_pay39 l) (k1_pay40 g) (k1_pay41 g o) s k ck v := rfl

theorem same51 : k1_pay51 r p = k1_pay11 r p := rfl

theorem same3 : k1_pay3 r = k1_pay2 r := rfl

end

theorem n01 : (0 : Fin 2) ≠ 1 := by decide
theorem n10 : (1 : Fin 2) ≠ 0 := by decide

theorem btrips1 : ∀ i : grid1.Coords, (k1_t1_loop i).trips = (i 1).val := by decide +kernel
theorem btrips2 : ∀ i : grid1.Coords, (k1_t2_loop i).trips = 0 := by decide +kernel

/-- What the loop over the key tiles before the diagonal carries: each head's sums for the queries and for their gates. -/
abbrev BCarry := FVec Ideal S1024x64 .f32 × FVec Ideal S1024x1 .f32 × FVec Ideal S1024x64 .f32 × FVec Ideal S1024x1 .f32

/-- In query tile 0 the loop makes no trip. -/
theorem bloop1_zero (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2x1024x1 .f32) (harg5 : arg5.IsWhole) (arg6 : Memref sig .tc .vmem S2x2x1x1024 .f32) (harg6 : arg6.IsWhole) (arg7 : Memref sig .tc .vmem S1024x128 .f32) (harg7 : arg7.IsWhole) (arg8 : Memref sig .tc .vmem S2x1024x1 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2x1024x1 .f32) (harg13 : arg13.IsWhole) (arg14 : Memref sig .tc .vmem S2x2x1x1024 .f32) (harg14 : arg14.IsWhole) (arg1 : BitVec 32) (v7 : FVec Ideal S1024x64 .bf16) (v9 v11 : FVec Ideal S1024x1 .f32) (v12 : FVec Ideal S1024x64 .bf16) (v17 : FVec Ideal S1024x1 .f32) (v18 : Vec Ideal S1024x64 .f32) (v22 : FVec Ideal S1024x64 .bf16) (v24 v26 : FVec Ideal S1024x1 .f32) (v27 : FVec Ideal S1024x64 .bf16) (v28 : Vec Ideal S1024x64 .f32) (X3 X4 X6 G11 G12 G14) (init : BCarry) (hi : (i 1).val = 0) :
    st_k1_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v7 v9 v11 v12 v17 v18 v22 v24 v26 v27 v28 X3 X4 X6 G11 G12 G14 init (k1_t1_loop i).trips = (init, [], [], []) := by
  rw [btrips1, hi]; rfl

/-- The second loop makes no trip. -/
theorem bloop2 (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2x1024x1 .f32) (harg5 : arg5.IsWhole) (arg6 : Memref sig .tc .vmem S2x2x1x1024 .f32) (harg6 : arg6.IsWhole) (arg7 : Memref sig .tc .vmem S1024x128 .f32) (harg7 : arg7.IsWhole) (arg8 : Memref sig .tc .vmem S2x1024x1 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2x1024x1 .f32) (harg13 : arg13.IsWhole) (arg14 : Memref sig .tc .vmem S2x2x1x1024 .f32) (harg14 : arg14.IsWhole) (arg1 : BitVec 32) (v7 : FVec Ideal S1024x64 .bf16) (v9 v11 : FVec Ideal S1024x1 .f32) (v12 : FVec Ideal S1024x64 .bf16) (v17 : FVec Ideal S1024x1 .f32) (v18 : Vec Ideal S1024x64 .f32) (v22 : FVec Ideal S1024x64 .bf16) (v24 v26 : FVec Ideal S1024x1 .f32) (v27 : FVec Ideal S1024x64 .bf16) (v28 : Vec Ideal S1024x64 .f32) (v41 : BitVec 32) (X3 X4 X6 G11 G12 G14) (init : BCarry) :
    st_k1_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v7 v9 v11 v12 v17 v18 v22 v24 v26 v27 v28 v41 X3 X4 X6 G11 G12 G14 init (k1_t2_loop i).trips = (init, [], [], []) := by
  rw [btrips2]; rfl

/-- In query tile 1 the loop makes one trip, over key tile 0. -/
theorem bloop1_one (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2x1024x1 .f32) (harg5 : arg5.IsWhole) (arg6 : Memref sig .tc .vmem S2x2x1x1024 .f32) (harg6 : arg6.IsWhole) (arg7 : Memref sig .tc .vmem S1024x128 .f32) (harg7 : arg7.IsWhole) (arg8 : Memref sig .tc .vmem S2x1024x1 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2x1024x1 .f32) (harg13 : arg13.IsWhole) (arg14 : Memref sig .tc .vmem S2x2x1x1024 .f32) (harg14 : arg14.IsWhole) (arg1 : BitVec 32) (v7 : FVec Ideal S1024x64 .bf16) (v9 v11 : FVec Ideal S1024x1 .f32) (v12 : FVec Ideal S1024x64 .bf16) (v17 : FVec Ideal S1024x1 .f32) (v18 : Vec Ideal S1024x64 .f32) (v22 : FVec Ideal S1024x64 .bf16) (v24 v26 : FVec Ideal S1024x1 .f32) (v27 : FVec Ideal S1024x64 .bf16) (v28 : Vec Ideal S1024x64 .f32) (x1 x2 : Vec Ideal S2048x128 .f32) (x4 : Vec Ideal S2x2x1x1024 .f32) (y9 y10 : Vec Ideal S2048x128 .f32) (y12 : Vec Ideal S2x2x1x1024 .f32) (init : BCarry) (hi : (i 1).val = 1) (hk : 0 < (k1_t1_loop i).trips) :
    st_k1_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v7 v9 v11 v12 v17 v18 v22 v24 v26 v27 v28 (harg3.unread x1) (harg4.unread x2) (harg6.unread x4) (harg11.unread y9) (harg12.unread y10) (harg14.unread y12) init (k1_t1_loop i).trips
      = ((k1_pay10 v7 v9 v11 v12 v17 init.1 (rows x1 0 0) (kgate x4 0 0) (rows x2 0 0), k1_pay11 init.2.1 (k1_pay5 v7 v9 v11 v12 v17 (rows x1 0 0) (kgate x4 0 0) (rows x2 0 0)),
          k1_pay18 v22 v24 v26 v27 (k1_pay46 v18 v28) init.2.2.1 (rows x1 0 1) (kgate x4 1 0) (rows x2 0 1), k1_pay51 init.2.2.2 (k1_pay13 v22 v24 v26 v27 (k1_pay46 v18 v28) (rows x1 0 1) (kgate x4 1 0) (rows x2 0 1))),
        [⟨Rect.unit (s := S2048x128) (k1_off5 i ⟨0, hk⟩) S1024x128.size (k1_off5_inb i ⟨0, hk⟩),
          k1_pay52 (k1_pay8 v7 v9 v11 v12 v17 (rows x1 0 0) (kgate x4 0 0) (rows x2 0 0)) (k1_pay16 v22 v24 v26 v27 (k1_pay46 v18 v28) (rows x1 0 1) (kgate x4 1 0) (rows x2 0 1)) (wide y9 0)⟩],
        [⟨Rect.unit (s := S2048x128) (k1_off5 i ⟨0, hk⟩) S1024x128.size (k1_off5_inb i ⟨0, hk⟩),
          k1_pay53 (k1_pay7 v7 v9 v11 v12 (rows x1 0 0) (kgate x4 0 0)) (k1_pay15 v22 v24 v26 v27 (rows x1 0 1) (kgate x4 1 0)) (wide y10 0)⟩],
        [⟨Rect.unit (s := S2x2x1x1024) (k1_off4 i ⟨0, hk⟩) S1x1x1x1024.size (k1_off4_inb i ⟨0, hk⟩),
          k1_pay17 v22 v24 v26 v27 (k1_pay46 v18 v28) (rows x1 0 1) (kgate x4 1 0) (rows x2 0 1) (kgate y12 1 0)⟩,
         ⟨Rect.unit (s := S2x2x1x1024) (k1_off2 i ⟨0, hk⟩) S1x1x1x1024.size (k1_off2_inb i ⟨0, hk⟩),
          k1_pay9 v7 v9 v11 v12 v17 (rows x1 0 0) (kgate x4 0 0) (rows x2 0 0) (kgate y12 0 0)⟩]) := by
  have ht : (k1_t1_loop i).trips = 0 + 1 := by rw [btrips1, hi]
  rw [show st_k1_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v7 v9 v11 v12 v17 v18 v22 v24 v26 v27 v28 (harg3.unread x1) (harg4.unread x2) (harg6.unread x4) (harg11.unread y9) (harg12.unread y10) (harg14.unread y12) init (k1_t1_loop i).trips
    = st_k1_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v7 v9 v11 v12 v17 v18 v22 v24 v26 v27 v28 (harg3.unread x1) (harg4.unread x2) (harg6.unread x4) (harg11.unread y9) (harg12.unread y10) (harg14.unread y12) init (0 + 1) from congrArg _ ht]
  refine (st_k1_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v7 v9 v11 v12 v17 v18 v22 v24 v26 v27 v28 (harg3.unread x1) (harg4.unread x2) (harg6.unread x4) (harg11.unread y9) (harg12.unread y10) (harg14.unread y12) init ⟨0, hk⟩).trans ?_
  have e1 : k1_off1 i ⟨0, hk⟩ = ![1024 * (0 : Fin 2).val, 64 * (0 : Fin 2).val] := k1_off1_eq i ⟨0, hk⟩
  have e2 : k1_off2 i ⟨0, hk⟩ = ![(0 : Fin 2).val, (0 : Fin 2).val, 0, 0] := k1_off2_eq i ⟨0, hk⟩
  have e3 : k1_off3 i ⟨0, hk⟩ = ![1024 * (0 : Fin 2).val, 64 * (1 : Fin 2).val] := k1_off3_eq i ⟨0, hk⟩
  have e4 : k1_off4 i ⟨0, hk⟩ = ![(1 : Fin 2).val, (0 : Fin 2).val, 0, 0] := k1_off4_eq i ⟨0, hk⟩
  have e5 : k1_off5 i ⟨0, hk⟩ = ![1024 * (0 : Fin 2).val, 0] := k1_off5_eq i ⟨0, hk⟩
  unfold tripR_k1_t1 tripL_k1_t1 trip_k1_t1
  sl_unfold_run_names
  dsimp only [st_k1_t1, View.writes_nil, List.append_nil]
  simp only [View.readAt_eq_ld, Memref.IsWhole.read_unread]
  rw [ld_rows x1 0 0 e1, ld_rows x1 0 1 e3, ld_rows x2 0 0 e1, ld_rows x2 0 1 e3, ld_kgate x4 0 0 e2, ld_kgate x4 1 0 e4,
    ld_wide y9 0 e5, ld_wide y10 0 e5, ld_kgate y12 0 0 e2, ld_kgate y12 1 0 e4]
  rfl

/-- Head `h`'s probabilities of query tile `i` at its own key tile. -/
def probD (x0 : Vec Ideal S1024x128 .f32) (x1 : Vec Ideal S2048x128 .f32) (x3 : Vec Ideal S2x1024x1 .f32)
    (x4 : Vec Ideal S2x2x1x1024 .f32) (x6 : Vec Ideal S2x1024x1 .f32) (i h : Fin 2) : FVec Ideal S1024x1024 .f32 :=
  k1_pay57 (k1_pay37 (lanes x0 h)) (k1_pay38 (qgate x3 h)) (k1_pay39 (qgate x6 h)) (rows x1 i h) (kgate x4 h i)

/-- Head `h`'s rows of the queries' gradient, before the last scaling. -/
def bwdQ (x0 : Vec Ideal S1024x128 .f32) (x1 x2 : Vec Ideal S2048x128 .f32) (x3 : Vec Ideal S2x1024x1 .f32)
    (x4 : Vec Ideal S2x2x1x1024 .f32) (x5 : Vec Ideal S1024x128 .f32) (x6 : Vec Ideal S2x1024x1 .f32) (x7 : Vec Ideal S1024x128 .f32)
    (i h : Fin 2) : FVec Ideal S1024x64 .f32 :=
  k1_pay65 (if i = 0 then k1_pay47 else k1_pay10 (k1_pay37 (lanes x0 h)) (k1_pay38 (qgate x3 h)) (k1_pay39 (qgate x6 h)) (k1_pay40 (lanes x7 h)) (k1_pay41 (lanes x7 h) (lanes x5 h)) k1_pay47 (rows x1 0 h) (kgate x4 h 0) (rows x2 0 h))
    (rows x1 i h) (probD x0 x1 x3 x4 x6 i h) (k1_pay58 (k1_pay40 (lanes x7 h)) (rows x2 i h)) (k1_pay59 (k1_pay41 (lanes x7 h) (lanes x5 h)))

/-- Head `h`'s rows of the query gates' gradient. -/
def bwdC (x0 : Vec Ideal S1024x128 .f32) (x1 x2 : Vec Ideal S2048x128 .f32) (x3 : Vec Ideal S2x1024x1 .f32)
    (x4 : Vec Ideal S2x2x1x1024 .f32) (x5 : Vec Ideal S1024x128 .f32) (x6 : Vec Ideal S2x1024x1 .f32) (x7 : Vec Ideal S1024x128 .f32)
    (i h : Fin 2) : FVec Ideal S1024x1 .f32 :=
  k1_pay66 (if i = 0 then k1_pay48 else k1_pay11 k1_pay48 (k1_pay5 (k1_pay37 (lanes x0 h)) (k1_pay38 (qgate x3 h)) (k1_pay39 (qgate x6 h)) (k1_pay40 (lanes x7 h)) (k1_pay41 (lanes x7 h) (lanes x5 h)) (rows x1 0 h) (kgate x4 h 0) (rows x2 0 h)))
    (probD x0 x1 x3 x4 x6 i h) (k1_pay58 (k1_pay40 (lanes x7 h)) (rows x2 i h)) (k1_pay59 (k1_pay41 (lanes x7 h) (lanes x5 h)))

/-- Rows of the keys' gradient after query tile `i` has added its own key tile's share. -/
def bwdKD (x0 : Vec Ideal S1024x128 .f32) (x1 x2 : Vec Ideal S2048x128 .f32) (x3 : Vec Ideal S2x1024x1 .f32)
    (x4 : Vec Ideal S2x2x1x1024 .f32) (x5 : Vec Ideal S1024x128 .f32) (x6 : Vec Ideal S2x1024x1 .f32) (x7 : Vec Ideal S1024x128 .f32)
    (i : Fin 2) (old : Vec Ideal S1024x128 .f32) : FVec Ideal S1024x128 .f32 :=
  k1_pay52 (k1_pay63 (k1_pay37 (lanes x0 0)) (probD x0 x1 x3 x4 x6 i 0) (k1_pay58 (k1_pay40 (lanes x7 0)) (rows x2 i 0)) (k1_pay59 (k1_pay41 (lanes x7 0) (lanes x5 0))))
    (k1_pay63 (k1_pay37 (lanes x0 1)) (probD x0 x1 x3 x4 x6 i 1) (k1_pay58 (k1_pay40 (lanes x7 1)) (rows x2 i 1)) (k1_pay59 (k1_pay41 (lanes x7 1) (lanes x5 1)))) old

/-- Rows of the keys' gradient after query tile 1 has added key tile 0's share. -/
def bwdKL (x0 : Vec Ideal S1024x128 .f32) (x1 x2 : Vec Ideal S2048x128 .f32) (x3 : Vec Ideal S2x1024x1 .f32)
    (x4 : Vec Ideal S2x2x1x1024 .f32) (x5 : Vec Ideal S1024x128 .f32) (x6 : Vec Ideal S2x1024x1 .f32) (x7 : Vec Ideal S1024x128 .f32)
    (old : Vec Ideal S1024x128 .f32) : FVec Ideal S1024x128 .f32 :=
  k1_pay52 (k1_pay8 (k1_pay37 (lanes x0 0)) (k1_pay38 (qgate x3 0)) (k1_pay39 (qgate x6 0)) (k1_pay40 (lanes x7 0)) (k1_pay41 (lanes x7 0) (lanes x5 0)) (rows x1 0 0) (kgate x4 0 0) (rows x2 0 0))
    (k1_pay8 (k1_pay37 (lanes x0 1)) (k1_pay38 (qgate x3 1)) (k1_pay39 (qgate x6 1)) (k1_pay40 (lanes x7 1)) (k1_pay41 (lanes x7 1) (lanes x5 1)) (rows x1 0 1) (kgate x4 1 0) (rows x2 0 1)) old

/-- Rows of the values' gradient after query tile `i` has added its own key tile's share. -/
def bwdVD (x0 : Vec Ideal S1024x128 .f32) (x1 : Vec Ideal S2048x128 .f32) (x3 : Vec Ideal S2x1024x1 .f32)
    (x4 : Vec Ideal S2x2x1x1024 .f32) (x6 : Vec Ideal S2x1024x1 .f32) (x7 : Vec Ideal S1024x128 .f32)
    (i : Fin 2) (old : Vec Ideal S1024x128 .f32) : FVec Ideal S1024x128 .f32 :=
  k1_pay53 (k1_pay62 (k1_pay40 (lanes x7 0)) (probD x0 x1 x3 x4 x6 i 0))
    (k1_pay62 (k1_pay40 (lanes x7 1)) (probD x0 x1 x3 x4 x6 i 1)) old

/-- Rows of the values' gradient after query tile 1 has added key tile 0's share. -/
def bwdVL (x0 : Vec Ideal S1024x128 .f32) (x1 : Vec Ideal S2048x128 .f32) (x3 : Vec Ideal S2x1024x1 .f32)
    (x4 : Vec Ideal S2x2x1x1024 .f32) (x6 : Vec Ideal S2x1024x1 .f32) (x7 : Vec Ideal S1024x128 .f32)
    (old : Vec Ideal S1024x128 .f32) : FVec Ideal S1024x128 .f32 :=
  k1_pay53 (k1_pay7 (k1_pay37 (lanes x0 0)) (k1_pay38 (qgate x3 0)) (k1_pay39 (qgate x6 0)) (k1_pay40 (lanes x7 0)) (rows x1 0 0) (kgate x4 0 0))
    (k1_pay7 (k1_pay37 (lanes x0 1)) (k1_pay38 (qgate x3 1)) (k1_pay39 (qgate x6 1)) (k1_pay40 (lanes x7 1)) (rows x1 0 1) (kgate x4 1 0)) old

/-- Head `h`'s row of the key gates' gradient after query tile `i` has subtracted its own key tile's share. -/
def bwdGD (x0 : Vec Ideal S1024x128 .f32) (x1 x2 : Vec Ideal S2048x128 .f32) (x3 : Vec Ideal S2x1024x1 .f32)
    (x4 : Vec Ideal S2x2x1x1024 .f32) (x5 : Vec Ideal S1024x128 .f32) (x6 : Vec Ideal S2x1024x1 .f32) (x7 : Vec Ideal S1024x128 .f32)
    (i h : Fin 2) (old : Vec Ideal S1x1x1x1024 .f32) : FVec Ideal S1x1x1x1024 .f32 :=
  k1_pay64 (probD x0 x1 x3 x4 x6 i h) (k1_pay58 (k1_pay40 (lanes x7 h)) (rows x2 i h)) (k1_pay59 (k1_pay41 (lanes x7 h) (lanes x5 h))) old

/-- Head `h`'s row of the key gates' gradient after query tile 1 has subtracted key tile 0's share. -/
def bwdGL (x0 : Vec Ideal S1024x128 .f32) (x1 x2 : Vec Ideal S2048x128 .f32) (x3 : Vec Ideal S2x1024x1 .f32)
    (x4 : Vec Ideal S2x2x1x1024 .f32) (x5 : Vec Ideal S1024x128 .f32) (x6 : Vec Ideal S2x1024x1 .f32) (x7 : Vec Ideal S1024x128 .f32)
    (h : Fin 2) (old : Vec Ideal S1x1x1x1024 .f32) : FVec Ideal S1x1x1x1024 .f32 :=
  k1_pay9 (k1_pay37 (lanes x0 h)) (k1_pay38 (qgate x3 h)) (k1_pay39 (qgate x6 h)) (k1_pay40 (lanes x7 h)) (k1_pay41 (lanes x7 h) (lanes x5 h)) (rows x1 0 h) (kgate x4 h 0) (rows x2 0 h) old

/-- The queries' gradient block of query tile 0. -/
theorem open8A (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2x1024x1 .f32) (harg5 : arg5.IsWhole) (arg6 : Memref sig .tc .vmem S2x2x1x1024 .f32) (harg6 : arg6.IsWhole) (arg7 : Memref sig .tc .vmem S1024x128 .f32) (harg7 : arg7.IsWhole) (arg8 : Memref sig .tc .vmem S2x1024x1 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2x1024x1 .f32) (harg13 : arg13.IsWhole) (arg14 : Memref sig .tc .vmem S2x2x1x1024 .f32) (harg14 : arg14.IsWhole) (hc :  cond1_0 i) (hz : (i 1).val = 0) (x0 : Vec Ideal S1024x128 .f32) (x1 x2 : Vec Ideal S2048x128 .f32) (x3 : Vec Ideal S2x1024x1 .f32) (x4 : Vec Ideal S2x2x1x1024 .f32) (x5 : Vec Ideal S1024x128 .f32) (x6 : Vec Ideal S2x1024x1 .f32) (x7 : Vec Ideal S1024x128 .f32)  :
    out1_A_8 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7  = k1_pay1 (bwdQ x0 x1 x2 x3 x4 x5 x6 x7 0 0) (bwdQ x0 x1 x2 x3 x4 x5 x6 x7 0 1) := by
  unfold out1_A_8
  unfold kernelRun1_A
  sl_unfold_run_names
  dsimp only
  have hi : (i 1).val = 0 := hz
  have e11 : k1_off11 i = ![1024 * (0 : Fin 2).val, 64 * (0 : Fin 2).val] := by rw [k1_off11_eq, hi]; rfl
  have e12 : k1_off12 i = ![(0 : Fin 2).val, (0 : Fin 2).val, 0, 0] := by rw [k1_off12_eq, hi]; rfl
  have e13 : k1_off13 i = ![1024 * (0 : Fin 2).val, 64 * (1 : Fin 2).val] := by rw [k1_off13_eq, hi]; rfl
  have e14 : k1_off14 i = ![(1 : Fin 2).val, (0 : Fin 2).val, 0, 0] := by rw [k1_off14_eq, hi]; rfl
  have e15 : k1_off15 i = ![1024 * (0 : Fin 2).val, 0] := by rw [k1_off15_eq, hi]; rfl
  simp only [View.readAt_eq_ld, Memref.IsWhole.read_unread]
  have A0 : View.ld x0 (Rect.unit (s := S1024x128) ![0, 0] S1024x64.size inb_S1024x128_S1024x64_0_0) = lanes x0 0 := ld_lanes x0 0 rfl _
  have A1 : View.ld x0 (Rect.unit (s := S1024x128) ![0, 64] S1024x64.size inb_S1024x128_S1024x64_0_64) = lanes x0 1 := ld_lanes x0 1 rfl _
  have O0 : View.ld x5 (Rect.unit (s := S1024x128) ![0, 0] S1024x64.size inb_S1024x128_S1024x64_0_0) = lanes x5 0 := ld_lanes x5 0 rfl _
  have O1 : View.ld x5 (Rect.unit (s := S1024x128) ![0, 64] S1024x64.size inb_S1024x128_S1024x64_0_64) = lanes x5 1 := ld_lanes x5 1 rfl _
  have G0 : View.ld x7 (Rect.unit (s := S1024x128) ![0, 0] S1024x64.size inb_S1024x128_S1024x64_0_0) = lanes x7 0 := ld_lanes x7 0 rfl _
  have G1 : View.ld x7 (Rect.unit (s := S1024x128) ![0, 64] S1024x64.size inb_S1024x128_S1024x64_0_64) = lanes x7 1 := ld_lanes x7 1 rfl _
  have B0 : View.ld x3 (Rect.unit (s := S2x1024x1) ![0, 0, 0] S1x1024x1.size inb_S2x1024x1_S1x1024x1_0_0_0) = qgate x3 0 := ld_qgate x3 0 rfl _
  have B1 : View.ld x3 (Rect.unit (s := S2x1024x1) ![1, 0, 0] S1x1024x1.size inb_S2x1024x1_S1x1024x1_1_0_0) = qgate x3 1 := ld_qgate x3 1 rfl _
  have S0 : View.ld x6 (Rect.unit (s := S2x1024x1) ![0, 0, 0] S1x1024x1.size inb_S2x1024x1_S1x1024x1_0_0_0) = qgate x6 0 := ld_qgate x6 0 rfl _
  have S1 : View.ld x6 (Rect.unit (s := S2x1024x1) ![1, 0, 0] S1x1024x1.size inb_S2x1024x1_S1x1024x1_1_0_0) = qgate x6 1 := ld_qgate x6 1 rfl _
  simp only [A0, A1, O0, O1, G0, G1, B0, B1, S0, S1]
  have L1 := fun G11 G12 G14 init => bloop1_zero c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (k1_pay37 (lanes x0 0)) (k1_pay38 (qgate x3 0)) (k1_pay39 (qgate x6 0)) (k1_pay40 (lanes x7 0)) (k1_pay41 (lanes x7 0) (lanes x5 0)) (lanes x7 1) (k1_pay42 (lanes x0 1)) (k1_pay43 (qgate x3 1)) (k1_pay44 (qgate x6 1)) (k1_pay45 (lanes x7 1)) (lanes x5 1) (harg3.unread x1) (harg4.unread x2) (harg6.unread x4) G11 G12 G14 init hi
  have L2 := fun G11 G12 G14 init => bloop2 c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (k1_pay37 (lanes x0 0)) (k1_pay38 (qgate x3 0)) (k1_pay39 (qgate x6 0)) (k1_pay40 (lanes x7 0)) (k1_pay41 (lanes x7 0) (lanes x5 0)) (lanes x7 1) (k1_pay42 (lanes x0 1)) (k1_pay43 (qgate x3 1)) (k1_pay44 (qgate x6 1)) (k1_pay45 (lanes x7 1)) (lanes x5 1) (Scalar.addi (0#32) (Scalar.muli (Scalar.divsi (Scalar.subi (BitVec.ofNat 32 (i 1).val) (0#32)) (1#32)) (1#32))) (harg3.unread x1) (harg4.unread x2) (harg6.unread x4) G11 G12 G14 init
  dsimp only [Scf.Loop.trips] at L1 L2
  simp only [L1, L2, List.nil_append, List.append_nil, same67, same71, same72, same70, same73, same74, same13, same15, same16, same17, same18, same51, same3]
  refine (View.read_writes_full _ _ _ _ _).trans ?_
  rw [ld_rows x1 0 0 e11, ld_rows x1 0 1 e13, ld_kgate x4 0 0 e12, ld_kgate x4 1 0 e14, ld_rows x2 0 0 e11, ld_rows x2 0 1 e13]
  unfold bwdQ probD
  rw [if_pos rfl, if_pos rfl]
  all_goals rfl

/-- The queries' gradient block of query tile 1. -/
theorem open8B (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2x1024x1 .f32) (harg5 : arg5.IsWhole) (arg6 : Memref sig .tc .vmem S2x2x1x1024 .f32) (harg6 : arg6.IsWhole) (arg7 : Memref sig .tc .vmem S1024x128 .f32) (harg7 : arg7.IsWhole) (arg8 : Memref sig .tc .vmem S2x1024x1 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2x1024x1 .f32) (harg13 : arg13.IsWhole) (arg14 : Memref sig .tc .vmem S2x2x1x1024 .f32) (harg14 : arg14.IsWhole) (hc : ¬ cond1_0 i) (ho : (i 1).val = 1) (x0 : Vec Ideal S1024x128 .f32) (x1 x2 : Vec Ideal S2048x128 .f32) (x3 : Vec Ideal S2x1024x1 .f32) (x4 : Vec Ideal S2x2x1x1024 .f32) (x5 : Vec Ideal S1024x128 .f32) (x6 : Vec Ideal S2x1024x1 .f32) (x7 : Vec Ideal S1024x128 .f32) (y9 y10 : Vec Ideal S2048x128 .f32) (y12 : Vec Ideal S2x2x1x1024 .f32) :
    out1_B_8 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 y9 y10 y12 = k1_pay1 (bwdQ x0 x1 x2 x3 x4 x5 x6 x7 1 0) (bwdQ x0 x1 x2 x3 x4 x5 x6 x7 1 1) := by
  unfold out1_B_8
  unfold kernelRun1_B
  sl_unfold_run_names
  dsimp only
  have hi : (i 1).val = 1 := ho
  have e11 : k1_off11 i = ![1024 * (1 : Fin 2).val, 64 * (0 : Fin 2).val] := by rw [k1_off11_eq, hi]; rfl
  have e12 : k1_off12 i = ![(0 : Fin 2).val, (1 : Fin 2).val, 0, 0] := by rw [k1_off12_eq, hi]; rfl
  have e13 : k1_off13 i = ![1024 * (1 : Fin 2).val, 64 * (1 : Fin 2).val] := by rw [k1_off13_eq, hi]; rfl
  have e14 : k1_off14 i = ![(1 : Fin 2).val, (1 : Fin 2).val, 0, 0] := by rw [k1_off14_eq, hi]; rfl
  have e15 : k1_off15 i = ![1024 * (1 : Fin 2).val, 0] := by rw [k1_off15_eq, hi]; rfl
  simp only [View.readAt_eq_ld, Memref.IsWhole.read_unread]
  have A0 : View.ld x0 (Rect.unit (s := S1024x128) ![0, 0] S1024x64.size inb_S1024x128_S1024x64_0_0) = lanes x0 0 := ld_lanes x0 0 rfl _
  have A1 : View.ld x0 (Rect.unit (s := S1024x128) ![0, 64] S1024x64.size inb_S1024x128_S1024x64_0_64) = lanes x0 1 := ld_lanes x0 1 rfl _
  have O0 : View.ld x5 (Rect.unit (s := S1024x128) ![0, 0] S1024x64.size inb_S1024x128_S1024x64_0_0) = lanes x5 0 := ld_lanes x5 0 rfl _
  have O1 : View.ld x5 (Rect.unit (s := S1024x128) ![0, 64] S1024x64.size inb_S1024x128_S1024x64_0_64) = lanes x5 1 := ld_lanes x5 1 rfl _
  have G0 : View.ld x7 (Rect.unit (s := S1024x128) ![0, 0] S1024x64.size inb_S1024x128_S1024x64_0_0) = lanes x7 0 := ld_lanes x7 0 rfl _
  have G1 : View.ld x7 (Rect.unit (s := S1024x128) ![0, 64] S1024x64.size inb_S1024x128_S1024x64_0_64) = lanes x7 1 := ld_lanes x7 1 rfl _
  have B0 : View.ld x3 (Rect.unit (s := S2x1024x1) ![0, 0, 0] S1x1024x1.size inb_S2x1024x1_S1x1024x1_0_0_0) = qgate x3 0 := ld_qgate x3 0 rfl _
  have B1 : View.ld x3 (Rect.unit (s := S2x1024x1) ![1, 0, 0] S1x1024x1.size inb_S2x1024x1_S1x1024x1_1_0_0) = qgate x3 1 := ld_qgate x3 1 rfl _
  have S0 : View.ld x6 (Rect.unit (s := S2x1024x1) ![0, 0, 0] S1x1024x1.size inb_S2x1024x1_S1x1024x1_0_0_0) = qgate x6 0 := ld_qgate x6 0 rfl _
  have S1 : View.ld x6 (Rect.unit (s := S2x1024x1) ![1, 0, 0] S1x1024x1.size inb_S2x1024x1_S1x1024x1_1_0_0) = qgate x6 1 := ld_qgate x6 1 rfl _
  simp only [A0, A1, O0, O1, G0, G1, B0, B1, S0, S1]
  have hk : 0 < (k1_t1_loop i).trips := by rw [btrips1, hi]; exact one_pos
  have e2 : k1_off2 i ⟨0, hk⟩ = ![(0 : Fin 2).val, (0 : Fin 2).val, 0, 0] := k1_off2_eq i ⟨0, hk⟩
  have e4 : k1_off4 i ⟨0, hk⟩ = ![(1 : Fin 2).val, (0 : Fin 2).val, 0, 0] := k1_off4_eq i ⟨0, hk⟩
  have e5 : k1_off5 i ⟨0, hk⟩ = ![1024 * (0 : Fin 2).val, 0] := k1_off5_eq i ⟨0, hk⟩
  have L1 := fun init => bloop1_one c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (k1_pay37 (lanes x0 0)) (k1_pay38 (qgate x3 0)) (k1_pay39 (qgate x6 0)) (k1_pay40 (lanes x7 0)) (k1_pay41 (lanes x7 0) (lanes x5 0)) (lanes x7 1) (k1_pay42 (lanes x0 1)) (k1_pay43 (qgate x3 1)) (k1_pay44 (qgate x6 1)) (k1_pay45 (lanes x7 1)) (lanes x5 1) x1 x2 x4 y9 y10 y12 init hi hk
  have L2 := fun G11 G12 G14 init => bloop2 c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (k1_pay37 (lanes x0 0)) (k1_pay38 (qgate x3 0)) (k1_pay39 (qgate x6 0)) (k1_pay40 (lanes x7 0)) (k1_pay41 (lanes x7 0) (lanes x5 0)) (lanes x7 1) (k1_pay42 (lanes x0 1)) (k1_pay43 (qgate x3 1)) (k1_pay44 (qgate x6 1)) (k1_pay45 (lanes x7 1)) (lanes x5 1) (Scalar.addi (0#32) (Scalar.muli (Scalar.divsi (Scalar.subi (BitVec.ofNat 32 (i 1).val) (0#32)) (1#32)) (1#32))) (harg3.unread x1) (harg4.unread x2) (harg6.unread x4) G11 G12 G14 init
  dsimp only [Scf.Loop.trips] at L1 L2
  simp only [L1, L2, List.nil_append, List.append_nil, same67, same71, same72, same70, same73, same74, same13, same15, same16, same17, same18, same51, same3]
  refine (View.read_writes_full _ _ _ _ _).trans ?_
  rw [ld_rows x1 1 0 e11, ld_rows x1 1 1 e13, ld_kgate x4 0 1 e12, ld_kgate x4 1 1 e14, ld_rows x2 1 0 e11, ld_rows x2 1 1 e13]
  unfold bwdQ probD
  rw [if_neg n10, if_neg n10]
  all_goals rfl

/-- The keys' gradient block after query tile 0: its own rows, and zeros. -/
theorem open9A (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2x1024x1 .f32) (harg5 : arg5.IsWhole) (arg6 : Memref sig .tc .vmem S2x2x1x1024 .f32) (harg6 : arg6.IsWhole) (arg7 : Memref sig .tc .vmem S1024x128 .f32) (harg7 : arg7.IsWhole) (arg8 : Memref sig .tc .vmem S2x1024x1 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2x1024x1 .f32) (harg13 : arg13.IsWhole) (arg14 : Memref sig .tc .vmem S2x2x1x1024 .f32) (harg14 : arg14.IsWhole) (hc :  cond1_0 i) (hz : (i 1).val = 0) (x0 : Vec Ideal S1024x128 .f32) (x1 x2 : Vec Ideal S2048x128 .f32) (x3 : Vec Ideal S2x1024x1 .f32) (x4 : Vec Ideal S2x2x1x1024 .f32) (x5 : Vec Ideal S1024x128 .f32) (x6 : Vec Ideal S2x1024x1 .f32) (x7 : Vec Ideal S1024x128 .f32)  :
    wide (out1_A_9 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 ) 0 = bwdKD x0 x1 x2 x3 x4 x5 x6 x7 0 (wide (k1_pay34 (F := Ideal)) 0) ∧ wide (out1_A_9 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 ) 1 = wide (k1_pay34 (F := Ideal)) 1 := by
  unfold out1_A_9
  unfold kernelRun1_A
  sl_unfold_run_names
  dsimp only
  have hi : (i 1).val = 0 := hz
  have e11 : k1_off11 i = ![1024 * (0 : Fin 2).val, 64 * (0 : Fin 2).val] := by rw [k1_off11_eq, hi]; rfl
  have e12 : k1_off12 i = ![(0 : Fin 2).val, (0 : Fin 2).val, 0, 0] := by rw [k1_off12_eq, hi]; rfl
  have e13 : k1_off13 i = ![1024 * (0 : Fin 2).val, 64 * (1 : Fin 2).val] := by rw [k1_off13_eq, hi]; rfl
  have e14 : k1_off14 i = ![(1 : Fin 2).val, (0 : Fin 2).val, 0, 0] := by rw [k1_off14_eq, hi]; rfl
  have e15 : k1_off15 i = ![1024 * (0 : Fin 2).val, 0] := by rw [k1_off15_eq, hi]; rfl
  simp only [View.readAt_eq_ld, Memref.IsWhole.read_unread]
  have A0 : View.ld x0 (Rect.unit (s := S1024x128) ![0, 0] S1024x64.size inb_S1024x128_S1024x64_0_0) = lanes x0 0 := ld_lanes x0 0 rfl _
  have A1 : View.ld x0 (Rect.unit (s := S1024x128) ![0, 64] S1024x64.size inb_S1024x128_S1024x64_0_64) = lanes x0 1 := ld_lanes x0 1 rfl _
  have O0 : View.ld x5 (Rect.unit (s := S1024x128) ![0, 0] S1024x64.size inb_S1024x128_S1024x64_0_0) = lanes x5 0 := ld_lanes x5 0 rfl _
  have O1 : View.ld x5 (Rect.unit (s := S1024x128) ![0, 64] S1024x64.size inb_S1024x128_S1024x64_0_64) = lanes x5 1 := ld_lanes x5 1 rfl _
  have G0 : View.ld x7 (Rect.unit (s := S1024x128) ![0, 0] S1024x64.size inb_S1024x128_S1024x64_0_0) = lanes x7 0 := ld_lanes x7 0 rfl _
  have G1 : View.ld x7 (Rect.unit (s := S1024x128) ![0, 64] S1024x64.size inb_S1024x128_S1024x64_0_64) = lanes x7 1 := ld_lanes x7 1 rfl _
  have B0 : View.ld x3 (Rect.unit (s := S2x1024x1) ![0, 0, 0] S1x1024x1.size inb_S2x1024x1_S1x1024x1_0_0_0) = qgate x3 0 := ld_qgate x3 0 rfl _
  have B1 : View.ld x3 (Rect.unit (s := S2x1024x1) ![1, 0, 0] S1x1024x1.size inb_S2x1024x1_S1x1024x1_1_0_0) = qgate x3 1 := ld_qgate x3 1 rfl _
  have S0 : View.ld x6 (Rect.unit (s := S2x1024x1) ![0, 0, 0] S1x1024x1.size inb_S2x1024x1_S1x1024x1_0_0_0) = qgate x6 0 := ld_qgate x6 0 rfl _
  have S1 : View.ld x6 (Rect.unit (s := S2x1024x1) ![1, 0, 0] S1x1024x1.size inb_S2x1024x1_S1x1024x1_1_0_0) = qgate x6 1 := ld_qgate x6 1 rfl _
  simp only [A0, A1, O0, O1, G0, G1, B0, B1, S0, S1]
  have L1 := fun G11 G12 G14 init => bloop1_zero c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (k1_pay37 (lanes x0 0)) (k1_pay38 (qgate x3 0)) (k1_pay39 (qgate x6 0)) (k1_pay40 (lanes x7 0)) (k1_pay41 (lanes x7 0) (lanes x5 0)) (lanes x7 1) (k1_pay42 (lanes x0 1)) (k1_pay43 (qgate x3 1)) (k1_pay44 (qgate x6 1)) (k1_pay45 (lanes x7 1)) (lanes x5 1) (harg3.unread x1) (harg4.unread x2) (harg6.unread x4) G11 G12 G14 init hi
  have L2 := fun G11 G12 G14 init => bloop2 c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (k1_pay37 (lanes x0 0)) (k1_pay38 (qgate x3 0)) (k1_pay39 (qgate x6 0)) (k1_pay40 (lanes x7 0)) (k1_pay41 (lanes x7 0) (lanes x5 0)) (lanes x7 1) (k1_pay42 (lanes x0 1)) (k1_pay43 (qgate x3 1)) (k1_pay44 (qgate x6 1)) (k1_pay45 (lanes x7 1)) (lanes x5 1) (Scalar.addi (0#32) (Scalar.muli (Scalar.divsi (Scalar.subi (BitVec.ofNat 32 (i 1).val) (0#32)) (1#32)) (1#32))) (harg3.unread x1) (harg4.unread x2) (harg6.unread x4) G11 G12 G14 init
  dsimp only [Scf.Loop.trips] at L1 L2
  simp only [L1, L2, List.nil_append, List.append_nil, same67, same71, same72, same70, same73, same74, same13, same15, same16, same17, same18, same51, same3]
  have Z : ∀ {κ : Kind} {sp : Space} (v : View sig κ sp S2048x128 .f32) (f : v.ty.Contents (Elt Ideal)), v.read (Elt Ideal) (v.writes (Elt Ideal) f [⟨Rect.unit (s := S2048x128) ![0, 0] S2048x128.size inb_S2048x128_S2048x128_0_0, k1_pay34 (F := Ideal)⟩]) = k1_pay34 (F := Ideal) := fun v f => View.read_writes_full v f _ _ _
  refine ⟨(wide_hit _ _ 0 e15 _ _ _).trans ?_, (wide_miss _ _ n01 e15 _ _ _).trans (congrArg (wide · 1) (Z _ _))⟩
  rw [Z, ld_wide (k1_pay34 (F := Ideal)) 0 e15, ld_rows x1 0 0 e11, ld_rows x1 0 1 e13, ld_kgate x4 0 0 e12, ld_kgate x4 1 0 e14, ld_rows x2 0 0 e11, ld_rows x2 0 1 e13]
  rfl

/-- The keys' gradient block after query tile 1, added to what tile 0 left. -/
theorem open9B (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2x1024x1 .f32) (harg5 : arg5.IsWhole) (arg6 : Memref sig .tc .vmem S2x2x1x1024 .f32) (harg6 : arg6.IsWhole) (arg7 : Memref sig .tc .vmem S1024x128 .f32) (harg7 : arg7.IsWhole) (arg8 : Memref sig .tc .vmem S2x1024x1 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2x1024x1 .f32) (harg13 : arg13.IsWhole) (arg14 : Memref sig .tc .vmem S2x2x1x1024 .f32) (harg14 : arg14.IsWhole) (hc : ¬ cond1_0 i) (ho : (i 1).val = 1) (x0 : Vec Ideal S1024x128 .f32) (x1 x2 : Vec Ideal S2048x128 .f32) (x3 : Vec Ideal S2x1024x1 .f32) (x4 : Vec Ideal S2x2x1x1024 .f32) (x5 : Vec Ideal S1024x128 .f32) (x6 : Vec Ideal S2x1024x1 .f32) (x7 : Vec Ideal S1024x128 .f32) (y9 y10 : Vec Ideal S2048x128 .f32) (y12 : Vec Ideal S2x2x1x1024 .f32) :
    wide (out1_B_9 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 y9 y10 y12) 0 = bwdKL x0 x1 x2 x3 x4 x5 x6 x7 (wide y9 0) ∧ wide (out1_B_9 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 y9 y10 y12) 1 = bwdKD x0 x1 x2 x3 x4 x5 x6 x7 1 (wide y9 1) := by
  unfold out1_B_9
  unfold kernelRun1_B
  sl_unfold_run_names
  dsimp only
  have hi : (i 1).val = 1 := ho
  have e11 : k1_off11 i = ![1024 * (1 : Fin 2).val, 64 * (0 : Fin 2).val] := by rw [k1_off11_eq, hi]; rfl
  have e12 : k1_off12 i = ![(0 : Fin 2).val, (1 : Fin 2).val, 0, 0] := by rw [k1_off12_eq, hi]; rfl
  have e13 : k1_off13 i = ![1024 * (1 : Fin 2).val, 64 * (1 : Fin 2).val] := by rw [k1_off13_eq, hi]; rfl
  have e14 : k1_off14 i = ![(1 : Fin 2).val, (1 : Fin 2).val, 0, 0] := by rw [k1_off14_eq, hi]; rfl
  have e15 : k1_off15 i = ![1024 * (1 : Fin 2).val, 0] := by rw [k1_off15_eq, hi]; rfl
  simp only [View.readAt_eq_ld, Memref.IsWhole.read_unread]
  have A0 : View.ld x0 (Rect.unit (s := S1024x128) ![0, 0] S1024x64.size inb_S1024x128_S1024x64_0_0) = lanes x0 0 := ld_lanes x0 0 rfl _
  have A1 : View.ld x0 (Rect.unit (s := S1024x128) ![0, 64] S1024x64.size inb_S1024x128_S1024x64_0_64) = lanes x0 1 := ld_lanes x0 1 rfl _
  have O0 : View.ld x5 (Rect.unit (s := S1024x128) ![0, 0] S1024x64.size inb_S1024x128_S1024x64_0_0) = lanes x5 0 := ld_lanes x5 0 rfl _
  have O1 : View.ld x5 (Rect.unit (s := S1024x128) ![0, 64] S1024x64.size inb_S1024x128_S1024x64_0_64) = lanes x5 1 := ld_lanes x5 1 rfl _
  have G0 : View.ld x7 (Rect.unit (s := S1024x128) ![0, 0] S1024x64.size inb_S1024x128_S1024x64_0_0) = lanes x7 0 := ld_lanes x7 0 rfl _
  have G1 : View.ld x7 (Rect.unit (s := S1024x128) ![0, 64] S1024x64.size inb_S1024x128_S1024x64_0_64) = lanes x7 1 := ld_lanes x7 1 rfl _
  have B0 : View.ld x3 (Rect.unit (s := S2x1024x1) ![0, 0, 0] S1x1024x1.size inb_S2x1024x1_S1x1024x1_0_0_0) = qgate x3 0 := ld_qgate x3 0 rfl _
  have B1 : View.ld x3 (Rect.unit (s := S2x1024x1) ![1, 0, 0] S1x1024x1.size inb_S2x1024x1_S1x1024x1_1_0_0) = qgate x3 1 := ld_qgate x3 1 rfl _
  have S0 : View.ld x6 (Rect.unit (s := S2x1024x1) ![0, 0, 0] S1x1024x1.size inb_S2x1024x1_S1x1024x1_0_0_0) = qgate x6 0 := ld_qgate x6 0 rfl _
  have S1 : View.ld x6 (Rect.unit (s := S2x1024x1) ![1, 0, 0] S1x1024x1.size inb_S2x1024x1_S1x1024x1_1_0_0) = qgate x6 1 := ld_qgate x6 1 rfl _
  simp only [A0, A1, O0, O1, G0, G1, B0, B1, S0, S1]
  have hk : 0 < (k1_t1_loop i).trips := by rw [btrips1, hi]; exact one_pos
  have e2 : k1_off2 i ⟨0, hk⟩ = ![(0 : Fin 2).val, (0 : Fin 2).val, 0, 0] := k1_off2_eq i ⟨0, hk⟩
  have e4 : k1_off4 i ⟨0, hk⟩ = ![(1 : Fin 2).val, (0 : Fin 2).val, 0, 0] := k1_off4_eq i ⟨0, hk⟩
  have e5 : k1_off5 i ⟨0, hk⟩ = ![1024 * (0 : Fin 2).val, 0] := k1_off5_eq i ⟨0, hk⟩
  have L1 := fun init => bloop1_one c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (k1_pay37 (lanes x0 0)) (k1_pay38 (qgate x3 0)) (k1_pay39 (qgate x6 0)) (k1_pay40 (lanes x7 0)) (k1_pay41 (lanes x7 0) (lanes x5 0)) (lanes x7 1) (k1_pay42 (lanes x0 1)) (k1_pay43 (qgate x3 1)) (k1_pay44 (qgate x6 1)) (k1_pay45 (lanes x7 1)) (lanes x5 1) x1 x2 x4 y9 y10 y12 init hi hk
  have L2 := fun G11 G12 G14 init => bloop2 c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (k1_pay37 (lanes x0 0)) (k1_pay38 (qgate x3 0)) (k1_pay39 (qgate x6 0)) (k1_pay40 (lanes x7 0)) (k1_pay41 (lanes x7 0) (lanes x5 0)) (lanes x7 1) (k1_pay42 (lanes x0 1)) (k1_pay43 (qgate x3 1)) (k1_pay44 (qgate x6 1)) (k1_pay45 (lanes x7 1)) (lanes x5 1) (Scalar.addi (0#32) (Scalar.muli (Scalar.divsi (Scalar.subi (BitVec.ofNat 32 (i 1).val) (0#32)) (1#32)) (1#32))) (harg3.unread x1) (harg4.unread x2) (harg6.unread x4) G11 G12 G14 init
  dsimp only [Scf.Loop.trips] at L1 L2
  simp only [L1, L2, List.nil_append, List.append_nil, same67, same71, same72, same70, same73, same74, same13, same15, same16, same17, same18, same51, same3]
  constructor
  · refine (wide_miss _ _ n10 e15 _ _ _).trans ((wide_hit _ _ 0 e5 _ _ _).trans ?_)
    rfl
  · refine (wide_hit _ _ 1 e15 _ _ _).trans ?_
    rw [ld_wide _ 1 e15, wide_miss _ _ n01 e5, ld_rows x1 1 0 e11, ld_rows x1 1 1 e13, ld_kgate x4 0 1 e12, ld_kgate x4 1 1 e14, ld_rows x2 1 0 e11, ld_rows x2 1 1 e13]
    simp only [View.writes_nil, Memref.IsWhole.read_unread]
    rfl

/-- The values' gradient block after query tile 0: its own rows, and zeros. -/
theorem open10A (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2x1024x1 .f32) (harg5 : arg5.IsWhole) (arg6 : Memref sig .tc .vmem S2x2x1x1024 .f32) (harg6 : arg6.IsWhole) (arg7 : Memref sig .tc .vmem S1024x128 .f32) (harg7 : arg7.IsWhole) (arg8 : Memref sig .tc .vmem S2x1024x1 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2x1024x1 .f32) (harg13 : arg13.IsWhole) (arg14 : Memref sig .tc .vmem S2x2x1x1024 .f32) (harg14 : arg14.IsWhole) (hc :  cond1_0 i) (hz : (i 1).val = 0) (x0 : Vec Ideal S1024x128 .f32) (x1 x2 : Vec Ideal S2048x128 .f32) (x3 : Vec Ideal S2x1024x1 .f32) (x4 : Vec Ideal S2x2x1x1024 .f32) (x5 : Vec Ideal S1024x128 .f32) (x6 : Vec Ideal S2x1024x1 .f32) (x7 : Vec Ideal S1024x128 .f32)  :
    wide (out1_A_10 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 ) 0 = bwdVD x0 x1 x3 x4 x6 x7 0 (wide (k1_pay35 (F := Ideal)) 0) ∧ wide (out1_A_10 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 ) 1 = wide (k1_pay35 (F := Ideal)) 1 := by
  unfold out1_A_10
  unfold kernelRun1_A
  sl_unfold_run_names
  dsimp only
  have hi : (i 1).val = 0 := hz
  have e11 : k1_off11 i = ![1024 * (0 : Fin 2).val, 64 * (0 : Fin 2).val] := by rw [k1_off11_eq, hi]; rfl
  have e12 : k1_off12 i = ![(0 : Fin 2).val, (0 : Fin 2).val, 0, 0] := by rw [k1_off12_eq, hi]; rfl
  have e13 : k1_off13 i = ![1024 * (0 : Fin 2).val, 64 * (1 : Fin 2).val] := by rw [k1_off13_eq, hi]; rfl
  have e14 : k1_off14 i = ![(1 : Fin 2).val, (0 : Fin 2).val, 0, 0] := by rw [k1_off14_eq, hi]; rfl
  have e15 : k1_off15 i = ![1024 * (0 : Fin 2).val, 0] := by rw [k1_off15_eq, hi]; rfl
  simp only [View.readAt_eq_ld, Memref.IsWhole.read_unread]
  have A0 : View.ld x0 (Rect.unit (s := S1024x128) ![0, 0] S1024x64.size inb_S1024x128_S1024x64_0_0) = lanes x0 0 := ld_lanes x0 0 rfl _
  have A1 : View.ld x0 (Rect.unit (s := S1024x128) ![0, 64] S1024x64.size inb_S1024x128_S1024x64_0_64) = lanes x0 1 := ld_lanes x0 1 rfl _
  have O0 : View.ld x5 (Rect.unit (s := S1024x128) ![0, 0] S1024x64.size inb_S1024x128_S1024x64_0_0) = lanes x5 0 := ld_lanes x5 0 rfl _
  have O1 : View.ld x5 (Rect.unit (s := S1024x128) ![0, 64] S1024x64.size inb_S1024x128_S1024x64_0_64) = lanes x5 1 := ld_lanes x5 1 rfl _
  have G0 : View.ld x7 (Rect.unit (s := S1024x128) ![0, 0] S1024x64.size inb_S1024x128_S1024x64_0_0) = lanes x7 0 := ld_lanes x7 0 rfl _
  have G1 : View.ld x7 (Rect.unit (s := S1024x128) ![0, 64] S1024x64.size inb_S1024x128_S1024x64_0_64) = lanes x7 1 := ld_lanes x7 1 rfl _
  have B0 : View.ld x3 (Rect.unit (s := S2x1024x1) ![0, 0, 0] S1x1024x1.size inb_S2x1024x1_S1x1024x1_0_0_0) = qgate x3 0 := ld_qgate x3 0 rfl _
  have B1 : View.ld x3 (Rect.unit (s := S2x1024x1) ![1, 0, 0] S1x1024x1.size inb_S2x1024x1_S1x1024x1_1_0_0) = qgate x3 1 := ld_qgate x3 1 rfl _
  have S0 : View.ld x6 (Rect.unit (s := S2x1024x1) ![0, 0, 0] S1x1024x1.size inb_S2x1024x1_S1x1024x1_0_0_0) = qgate x6 0 := ld_qgate x6 0 rfl _
  have S1 : View.ld x6 (Rect.unit (s := S2x1024x1) ![1, 0, 0] S1x1024x1.size inb_S2x1024x1_S1x1024x1_1_0_0) = qgate x6 1 := ld_qgate x6 1 rfl _
  simp only [A0, A1, O0, O1, G0, G1, B0, B1, S0, S1]
  have L1 := fun G11 G12 G14 init => bloop1_zero c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (k1_pay37 (lanes x0 0)) (k1_pay38 (qgate x3 0)) (k1_pay39 (qgate x6 0)) (k1_pay40 (lanes x7 0)) (k1_pay41 (lanes x7 0) (lanes x5 0)) (lanes x7 1) (k1_pay42 (lanes x0 1)) (k1_pay43 (qgate x3 1)) (k1_pay44 (qgate x6 1)) (k1_pay45 (lanes x7 1)) (lanes x5 1) (harg3.unread x1) (harg4.unread x2) (harg6.unread x4) G11 G12 G14 init hi
  have L2 := fun G11 G12 G14 init => bloop2 c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (k1_pay37 (lanes x0 0)) (k1_pay38 (qgate x3 0)) (k1_pay39 (qgate x6 0)) (k1_pay40 (lanes x7 0)) (k1_pay41 (lanes x7 0) (lanes x5 0)) (lanes x7 1) (k1_pay42 (lanes x0 1)) (k1_pay43 (qgate x3 1)) (k1_pay44 (qgate x6 1)) (k1_pay45 (lanes x7 1)) (lanes x5 1) (Scalar.addi (0#32) (Scalar.muli (Scalar.divsi (Scalar.subi (BitVec.ofNat 32 (i 1).val) (0#32)) (1#32)) (1#32))) (harg3.unread x1) (harg4.unread x2) (harg6.unread x4) G11 G12 G14 init
  dsimp only [Scf.Loop.trips] at L1 L2
  simp only [L1, L2, List.nil_append, List.append_nil, same67, same71, same72, same70, same73, same74, same13, same15, same16, same17, same18, same51, same3]
  have Z : ∀ {κ : Kind} {sp : Space} (v : View sig κ sp S2048x128 .f32) (f : v.ty.Contents (Elt Ideal)), v.read (Elt Ideal) (v.writes (Elt Ideal) f [⟨Rect.unit (s := S2048x128) ![0, 0] S2048x128.size inb_S2048x128_S2048x128_0_0, k1_pay35 (F := Ideal)⟩]) = k1_pay35 (F := Ideal) := fun v f => View.read_writes_full v f _ _ _
  refine ⟨(wide_hit _ _ 0 e15 _ _ _).trans ?_, (wide_miss _ _ n01 e15 _ _ _).trans (congrArg (wide · 1) (Z _ _))⟩
  rw [Z, ld_wide (k1_pay35 (F := Ideal)) 0 e15, ld_rows x1 0 0 e11, ld_rows x1 0 1 e13, ld_kgate x4 0 0 e12, ld_kgate x4 1 0 e14]
  rfl

/-- The values' gradient block after query tile 1, added to what tile 0 left. -/
theorem open10B (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2x1024x1 .f32) (harg5 : arg5.IsWhole) (arg6 : Memref sig .tc .vmem S2x2x1x1024 .f32) (harg6 : arg6.IsWhole) (arg7 : Memref sig .tc .vmem S1024x128 .f32) (harg7 : arg7.IsWhole) (arg8 : Memref sig .tc .vmem S2x1024x1 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2x1024x1 .f32) (harg13 : arg13.IsWhole) (arg14 : Memref sig .tc .vmem S2x2x1x1024 .f32) (harg14 : arg14.IsWhole) (hc : ¬ cond1_0 i) (ho : (i 1).val = 1) (x0 : Vec Ideal S1024x128 .f32) (x1 x2 : Vec Ideal S2048x128 .f32) (x3 : Vec Ideal S2x1024x1 .f32) (x4 : Vec Ideal S2x2x1x1024 .f32) (x5 : Vec Ideal S1024x128 .f32) (x6 : Vec Ideal S2x1024x1 .f32) (x7 : Vec Ideal S1024x128 .f32) (y9 y10 : Vec Ideal S2048x128 .f32) (y12 : Vec Ideal S2x2x1x1024 .f32) :
    wide (out1_B_10 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 y9 y10 y12) 0 = bwdVL x0 x1 x3 x4 x6 x7 (wide y10 0) ∧ wide (out1_B_10 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 y9 y10 y12) 1 = bwdVD x0 x1 x3 x4 x6 x7 1 (wide y10 1) := by
  unfold out1_B_10
  unfold kernelRun1_B
  sl_unfold_run_names
  dsimp only
  have hi : (i 1).val = 1 := ho
  have e11 : k1_off11 i = ![1024 * (1 : Fin 2).val, 64 * (0 : Fin 2).val] := by rw [k1_off11_eq, hi]; rfl
  have e12 : k1_off12 i = ![(0 : Fin 2).val, (1 : Fin 2).val, 0, 0] := by rw [k1_off12_eq, hi]; rfl
  have e13 : k1_off13 i = ![1024 * (1 : Fin 2).val, 64 * (1 : Fin 2).val] := by rw [k1_off13_eq, hi]; rfl
  have e14 : k1_off14 i = ![(1 : Fin 2).val, (1 : Fin 2).val, 0, 0] := by rw [k1_off14_eq, hi]; rfl
  have e15 : k1_off15 i = ![1024 * (1 : Fin 2).val, 0] := by rw [k1_off15_eq, hi]; rfl
  simp only [View.readAt_eq_ld, Memref.IsWhole.read_unread]
  have A0 : View.ld x0 (Rect.unit (s := S1024x128) ![0, 0] S1024x64.size inb_S1024x128_S1024x64_0_0) = lanes x0 0 := ld_lanes x0 0 rfl _
  have A1 : View.ld x0 (Rect.unit (s := S1024x128) ![0, 64] S1024x64.size inb_S1024x128_S1024x64_0_64) = lanes x0 1 := ld_lanes x0 1 rfl _
  have O0 : View.ld x5 (Rect.unit (s := S1024x128) ![0, 0] S1024x64.size inb_S1024x128_S1024x64_0_0) = lanes x5 0 := ld_lanes x5 0 rfl _
  have O1 : View.ld x5 (Rect.unit (s := S1024x128) ![0, 64] S1024x64.size inb_S1024x128_S1024x64_0_64) = lanes x5 1 := ld_lanes x5 1 rfl _
  have G0 : View.ld x7 (Rect.unit (s := S1024x128) ![0, 0] S1024x64.size inb_S1024x128_S1024x64_0_0) = lanes x7 0 := ld_lanes x7 0 rfl _
  have G1 : View.ld x7 (Rect.unit (s := S1024x128) ![0, 64] S1024x64.size inb_S1024x128_S1024x64_0_64) = lanes x7 1 := ld_lanes x7 1 rfl _
  have B0 : View.ld x3 (Rect.unit (s := S2x1024x1) ![0, 0, 0] S1x1024x1.size inb_S2x1024x1_S1x1024x1_0_0_0) = qgate x3 0 := ld_qgate x3 0 rfl _
  have B1 : View.ld x3 (Rect.unit (s := S2x1024x1) ![1, 0, 0] S1x1024x1.size inb_S2x1024x1_S1x1024x1_1_0_0) = qgate x3 1 := ld_qgate x3 1 rfl _
  have S0 : View.ld x6 (Rect.unit (s := S2x1024x1) ![0, 0, 0] S1x1024x1.size inb_S2x1024x1_S1x1024x1_0_0_0) = qgate x6 0 := ld_qgate x6 0 rfl _
  have S1 : View.ld x6 (Rect.unit (s := S2x1024x1) ![1, 0, 0] S1x1024x1.size inb_S2x1024x1_S1x1024x1_1_0_0) = qgate x6 1 := ld_qgate x6 1 rfl _
  simp only [A0, A1, O0, O1, G0, G1, B0, B1, S0, S1]
  have hk : 0 < (k1_t1_loop i).trips := by rw [btrips1, hi]; exact one_pos
  have e2 : k1_off2 i ⟨0, hk⟩ = ![(0 : Fin 2).val, (0 : Fin 2).val, 0, 0] := k1_off2_eq i ⟨0, hk⟩
  have e4 : k1_off4 i ⟨0, hk⟩ = ![(1 : Fin 2).val, (0 : Fin 2).val, 0, 0] := k1_off4_eq i ⟨0, hk⟩
  have e5 : k1_off5 i ⟨0, hk⟩ = ![1024 * (0 : Fin 2).val, 0] := k1_off5_eq i ⟨0, hk⟩
  have L1 := fun init => bloop1_one c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (k1_pay37 (lanes x0 0)) (k1_pay38 (qgate x3 0)) (k1_pay39 (qgate x6 0)) (k1_pay40 (lanes x7 0)) (k1_pay41 (lanes x7 0) (lanes x5 0)) (lanes x7 1) (k1_pay42 (lanes x0 1)) (k1_pay43 (qgate x3 1)) (k1_pay44 (qgate x6 1)) (k1_pay45 (lanes x7 1)) (lanes x5 1) x1 x2 x4 y9 y10 y12 init hi hk
  have L2 := fun G11 G12 G14 init => bloop2 c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (k1_pay37 (lanes x0 0)) (k1_pay38 (qgate x3 0)) (k1_pay39 (qgate x6 0)) (k1_pay40 (lanes x7 0)) (k1_pay41 (lanes x7 0) (lanes x5 0)) (lanes x7 1) (k1_pay42 (lanes x0 1)) (k1_pay43 (qgate x3 1)) (k1_pay44 (qgate x6 1)) (k1_pay45 (lanes x7 1)) (lanes x5 1) (Scalar.addi (0#32) (Scalar.muli (Scalar.divsi (Scalar.subi (BitVec.ofNat 32 (i 1).val) (0#32)) (1#32)) (1#32))) (harg3.unread x1) (harg4.unread x2) (harg6.unread x4) G11 G12 G14 init
  dsimp only [Scf.Loop.trips] at L1 L2
  simp only [L1, L2, List.nil_append, List.append_nil, same67, same71, same72, same70, same73, same74, same13, same15, same16, same17, same18, same51, same3]
  constructor
  · refine (wide_miss _ _ n10 e15 _ _ _).trans ((wide_hit _ _ 0 e5 _ _ _).trans ?_)
    rfl
  · refine (wide_hit _ _ 1 e15 _ _ _).trans ?_
    rw [ld_wide _ 1 e15, wide_miss _ _ n01 e5, ld_rows x1 1 0 e11, ld_rows x1 1 1 e13, ld_kgate x4 0 1 e12, ld_kgate x4 1 1 e14]
    simp only [View.writes_nil, Memref.IsWhole.read_unread]
    rfl

/-- The query gates' gradient block of query tile 0. -/
theorem open11A (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2x1024x1 .f32) (harg5 : arg5.IsWhole) (arg6 : Memref sig .tc .vmem S2x2x1x1024 .f32) (harg6 : arg6.IsWhole) (arg7 : Memref sig .tc .vmem S1024x128 .f32) (harg7 : arg7.IsWhole) (arg8 : Memref sig .tc .vmem S2x1024x1 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2x1024x1 .f32) (harg13 : arg13.IsWhole) (arg14 : Memref sig .tc .vmem S2x2x1x1024 .f32) (harg14 : arg14.IsWhole) (hc :  cond1_0 i) (hz : (i 1).val = 0) (x0 : Vec Ideal S1024x128 .f32) (x1 x2 : Vec Ideal S2048x128 .f32) (x3 : Vec Ideal S2x1024x1 .f32) (x4 : Vec Ideal S2x2x1x1024 .f32) (x5 : Vec Ideal S1024x128 .f32) (x6 : Vec Ideal S2x1024x1 .f32) (x7 : Vec Ideal S1024x128 .f32)  :
    ∀ h a, (out1_A_11 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 ) (ix3 h a 0) = k1_pay2 (bwdC x0 x1 x2 x3 x4 x5 x6 x7 0 h) (ix3 0 a 0) := by
  intro h a
  unfold out1_A_11
  unfold kernelRun1_A
  sl_unfold_run_names
  dsimp only
  have hi : (i 1).val = 0 := hz
  have e11 : k1_off11 i = ![1024 * (0 : Fin 2).val, 64 * (0 : Fin 2).val] := by rw [k1_off11_eq, hi]; rfl
  have e12 : k1_off12 i = ![(0 : Fin 2).val, (0 : Fin 2).val, 0, 0] := by rw [k1_off12_eq, hi]; rfl
  have e13 : k1_off13 i = ![1024 * (0 : Fin 2).val, 64 * (1 : Fin 2).val] := by rw [k1_off13_eq, hi]; rfl
  have e14 : k1_off14 i = ![(1 : Fin 2).val, (0 : Fin 2).val, 0, 0] := by rw [k1_off14_eq, hi]; rfl
  have e15 : k1_off15 i = ![1024 * (0 : Fin 2).val, 0] := by rw [k1_off15_eq, hi]; rfl
  simp only [View.readAt_eq_ld, Memref.IsWhole.read_unread]
  have A0 : View.ld x0 (Rect.unit (s := S1024x128) ![0, 0] S1024x64.size inb_S1024x128_S1024x64_0_0) = lanes x0 0 := ld_lanes x0 0 rfl _
  have A1 : View.ld x0 (Rect.unit (s := S1024x128) ![0, 64] S1024x64.size inb_S1024x128_S1024x64_0_64) = lanes x0 1 := ld_lanes x0 1 rfl _
  have O0 : View.ld x5 (Rect.unit (s := S1024x128) ![0, 0] S1024x64.size inb_S1024x128_S1024x64_0_0) = lanes x5 0 := ld_lanes x5 0 rfl _
  have O1 : View.ld x5 (Rect.unit (s := S1024x128) ![0, 64] S1024x64.size inb_S1024x128_S1024x64_0_64) = lanes x5 1 := ld_lanes x5 1 rfl _
  have G0 : View.ld x7 (Rect.unit (s := S1024x128) ![0, 0] S1024x64.size inb_S1024x128_S1024x64_0_0) = lanes x7 0 := ld_lanes x7 0 rfl _
  have G1 : View.ld x7 (Rect.unit (s := S1024x128) ![0, 64] S1024x64.size inb_S1024x128_S1024x64_0_64) = lanes x7 1 := ld_lanes x7 1 rfl _
  have B0 : View.ld x3 (Rect.unit (s := S2x1024x1) ![0, 0, 0] S1x1024x1.size inb_S2x1024x1_S1x1024x1_0_0_0) = qgate x3 0 := ld_qgate x3 0 rfl _
  have B1 : View.ld x3 (Rect.unit (s := S2x1024x1) ![1, 0, 0] S1x1024x1.size inb_S2x1024x1_S1x1024x1_1_0_0) = qgate x3 1 := ld_qgate x3 1 rfl _
  have S0 : View.ld x6 (Rect.unit (s := S2x1024x1) ![0, 0, 0] S1x1024x1.size inb_S2x1024x1_S1x1024x1_0_0_0) = qgate x6 0 := ld_qgate x6 0 rfl _
  have S1 : View.ld x6 (Rect.unit (s := S2x1024x1) ![1, 0, 0] S1x1024x1.size inb_S2x1024x1_S1x1024x1_1_0_0) = qgate x6 1 := ld_qgate x6 1 rfl _
  simp only [A0, A1, O0, O1, G0, G1, B0, B1, S0, S1]
  have L1 := fun G11 G12 G14 init => bloop1_zero c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (k1_pay37 (lanes x0 0)) (k1_pay38 (qgate x3 0)) (k1_pay39 (qgate x6 0)) (k1_pay40 (lanes x7 0)) (k1_pay41 (lanes x7 0) (lanes x5 0)) (lanes x7 1) (k1_pay42 (lanes x0 1)) (k1_pay43 (qgate x3 1)) (k1_pay44 (qgate x6 1)) (k1_pay45 (lanes x7 1)) (lanes x5 1) (harg3.unread x1) (harg4.unread x2) (harg6.unread x4) G11 G12 G14 init hi
  have L2 := fun G11 G12 G14 init => bloop2 c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (k1_pay37 (lanes x0 0)) (k1_pay38 (qgate x3 0)) (k1_pay39 (qgate x6 0)) (k1_pay40 (lanes x7 0)) (k1_pay41 (lanes x7 0) (lanes x5 0)) (lanes x7 1) (k1_pay42 (lanes x0 1)) (k1_pay43 (qgate x3 1)) (k1_pay44 (qgate x6 1)) (k1_pay45 (lanes x7 1)) (lanes x5 1) (Scalar.addi (0#32) (Scalar.muli (Scalar.divsi (Scalar.subi (BitVec.ofNat 32 (i 1).val) (0#32)) (1#32)) (1#32))) (harg3.unread x1) (harg4.unread x2) (harg6.unread x4) G11 G12 G14 init
  dsimp only [Scf.Loop.trips] at L1 L2
  simp only [L1, L2, List.nil_append, List.append_nil, same67, same71, same72, same70, same73, same74, same13, same15, same16, same17, same18, same51, same3]
  rw [ld_rows x1 0 0 e11, ld_rows x1 0 1 e13, ld_kgate x4 0 0 e12, ld_kgate x4 1 0 e14, ld_rows x2 0 0 e11, ld_rows x2 0 1 e13]
  unfold bwdC probD
  rw [if_pos rfl]
  have hh : h = 0 ∨ h = 1 := by omega
  rcases hh with rfl | rfl
  · exact (col_hit0 _ _ _ _ a).trans rfl
  · exact (col_hit1 _ _ _ _ a).trans rfl

/-- The query gates' gradient block of query tile 1. -/
theorem open11B (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2x1024x1 .f32) (harg5 : arg5.IsWhole) (arg6 : Memref sig .tc .vmem S2x2x1x1024 .f32) (harg6 : arg6.IsWhole) (arg7 : Memref sig .tc .vmem S1024x128 .f32) (harg7 : arg7.IsWhole) (arg8 : Memref sig .tc .vmem S2x1024x1 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2x1024x1 .f32) (harg13 : arg13.IsWhole) (arg14 : Memref sig .tc .vmem S2x2x1x1024 .f32) (harg14 : arg14.IsWhole) (hc : ¬ cond1_0 i) (ho : (i 1).val = 1) (x0 : Vec Ideal S1024x128 .f32) (x1 x2 : Vec Ideal S2048x128 .f32) (x3 : Vec Ideal S2x1024x1 .f32) (x4 : Vec Ideal S2x2x1x1024 .f32) (x5 : Vec Ideal S1024x128 .f32) (x6 : Vec Ideal S2x1024x1 .f32) (x7 : Vec Ideal S1024x128 .f32) (y9 y10 : Vec Ideal S2048x128 .f32) (y12 : Vec Ideal S2x2x1x1024 .f32) :
    ∀ h a, (out1_B_11 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 y9 y10 y12) (ix3 h a 0) = k1_pay2 (bwdC x0 x1 x2 x3 x4 x5 x6 x7 1 h) (ix3 0 a 0) := by
  intro h a
  unfold out1_B_11
  unfold kernelRun1_B
  sl_unfold_run_names
  dsimp only
  have hi : (i 1).val = 1 := ho
  have e11 : k1_off11 i = ![1024 * (1 : Fin 2).val, 64 * (0 : Fin 2).val] := by rw [k1_off11_eq, hi]; rfl
  have e12 : k1_off12 i = ![(0 : Fin 2).val, (1 : Fin 2).val, 0, 0] := by rw [k1_off12_eq, hi]; rfl
  have e13 : k1_off13 i = ![1024 * (1 : Fin 2).val, 64 * (1 : Fin 2).val] := by rw [k1_off13_eq, hi]; rfl
  have e14 : k1_off14 i = ![(1 : Fin 2).val, (1 : Fin 2).val, 0, 0] := by rw [k1_off14_eq, hi]; rfl
  have e15 : k1_off15 i = ![1024 * (1 : Fin 2).val, 0] := by rw [k1_off15_eq, hi]; rfl
  simp only [View.readAt_eq_ld, Memref.IsWhole.read_unread]
  have A0 : View.ld x0 (Rect.unit (s := S1024x128) ![0, 0] S1024x64.size inb_S1024x128_S1024x64_0_0) = lanes x0 0 := ld_lanes x0 0 rfl _
  have A1 : View.ld x0 (Rect.unit (s := S1024x128) ![0, 64] S1024x64.size inb_S1024x128_S1024x64_0_64) = lanes x0 1 := ld_lanes x0 1 rfl _
  have O0 : View.ld x5 (Rect.unit (s := S1024x128) ![0, 0] S1024x64.size inb_S1024x128_S1024x64_0_0) = lanes x5 0 := ld_lanes x5 0 rfl _
  have O1 : View.ld x5 (Rect.unit (s := S1024x128) ![0, 64] S1024x64.size inb_S1024x128_S1024x64_0_64) = lanes x5 1 := ld_lanes x5 1 rfl _
  have G0 : View.ld x7 (Rect.unit (s := S1024x128) ![0, 0] S1024x64.size inb_S1024x128_S1024x64_0_0) = lanes x7 0 := ld_lanes x7 0 rfl _
  have G1 : View.ld x7 (Rect.unit (s := S1024x128) ![0, 64] S1024x64.size inb_S1024x128_S1024x64_0_64) = lanes x7 1 := ld_lanes x7 1 rfl _
  have B0 : View.ld x3 (Rect.unit (s := S2x1024x1) ![0, 0, 0] S1x1024x1.size inb_S2x1024x1_S1x1024x1_0_0_0) = qgate x3 0 := ld_qgate x3 0 rfl _
  have B1 : View.ld x3 (Rect.unit (s := S2x1024x1) ![1, 0, 0] S1x1024x1.size inb_S2x1024x1_S1x1024x1_1_0_0) = qgate x3 1 := ld_qgate x3 1 rfl _
  have S0 : View.ld x6 (Rect.unit (s := S2x1024x1) ![0, 0, 0] S1x1024x1.size inb_S2x1024x1_S1x1024x1_0_0_0) = qgate x6 0 := ld_qgate x6 0 rfl _
  have S1 : View.ld x6 (Rect.unit (s := S2x1024x1) ![1, 0, 0] S1x1024x1.size inb_S2x1024x1_S1x1024x1_1_0_0) = qgate x6 1 := ld_qgate x6 1 rfl _
  simp only [A0, A1, O0, O1, G0, G1, B0, B1, S0, S1]
  have hk : 0 < (k1_t1_loop i).trips := by rw [btrips1, hi]; exact one_pos
  have e2 : k1_off2 i ⟨0, hk⟩ = ![(0 : Fin 2).val, (0 : Fin 2).val, 0, 0] := k1_off2_eq i ⟨0, hk⟩
  have e4 : k1_off4 i ⟨0, hk⟩ = ![(1 : Fin 2).val, (0 : Fin 2).val, 0, 0] := k1_off4_eq i ⟨0, hk⟩
  have e5 : k1_off5 i ⟨0, hk⟩ = ![1024 * (0 : Fin 2).val, 0] := k1_off5_eq i ⟨0, hk⟩
  have L1 := fun init => bloop1_one c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (k1_pay37 (lanes x0 0)) (k1_pay38 (qgate x3 0)) (k1_pay39 (qgate x6 0)) (k1_pay40 (lanes x7 0)) (k1_pay41 (lanes x7 0) (lanes x5 0)) (lanes x7 1) (k1_pay42 (lanes x0 1)) (k1_pay43 (qgate x3 1)) (k1_pay44 (qgate x6 1)) (k1_pay45 (lanes x7 1)) (lanes x5 1) x1 x2 x4 y9 y10 y12 init hi hk
  have L2 := fun G11 G12 G14 init => bloop2 c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (k1_pay37 (lanes x0 0)) (k1_pay38 (qgate x3 0)) (k1_pay39 (qgate x6 0)) (k1_pay40 (lanes x7 0)) (k1_pay41 (lanes x7 0) (lanes x5 0)) (lanes x7 1) (k1_pay42 (lanes x0 1)) (k1_pay43 (qgate x3 1)) (k1_pay44 (qgate x6 1)) (k1_pay45 (lanes x7 1)) (lanes x5 1) (Scalar.addi (0#32) (Scalar.muli (Scalar.divsi (Scalar.subi (BitVec.ofNat 32 (i 1).val) (0#32)) (1#32)) (1#32))) (harg3.unread x1) (harg4.unread x2) (harg6.unread x4) G11 G12 G14 init
  dsimp only [Scf.Loop.trips] at L1 L2
  simp only [L1, L2, List.nil_append, List.append_nil, same67, same71, same72, same70, same73, same74, same13, same15, same16, same17, same18, same51, same3]
  rw [ld_rows x1 1 0 e11, ld_rows x1 1 1 e13, ld_kgate x4 0 1 e12, ld_kgate x4 1 1 e14, ld_rows x2 1 0 e11, ld_rows x2 1 1 e13]
  unfold bwdC probD
  rw [if_neg n10]
  have hh : h = 0 ∨ h = 1 := by omega
  rcases hh with rfl | rfl
  · exact (col_hit0 _ _ _ _ a).trans rfl
  · exact (col_hit1 _ _ _ _ a).trans rfl

/-- The key gates' gradient block after query tile 0: its own rows, and zeros. -/
theorem open12A (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2x1024x1 .f32) (harg5 : arg5.IsWhole) (arg6 : Memref sig .tc .vmem S2x2x1x1024 .f32) (harg6 : arg6.IsWhole) (arg7 : Memref sig .tc .vmem S1024x128 .f32) (harg7 : arg7.IsWhole) (arg8 : Memref sig .tc .vmem S2x1024x1 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2x1024x1 .f32) (harg13 : arg13.IsWhole) (arg14 : Memref sig .tc .vmem S2x2x1x1024 .f32) (harg14 : arg14.IsWhole) (hc :  cond1_0 i) (hz : (i 1).val = 0) (x0 : Vec Ideal S1024x128 .f32) (x1 x2 : Vec Ideal S2048x128 .f32) (x3 : Vec Ideal S2x1024x1 .f32) (x4 : Vec Ideal S2x2x1x1024 .f32) (x5 : Vec Ideal S1024x128 .f32) (x6 : Vec Ideal S2x1024x1 .f32) (x7 : Vec Ideal S1024x128 .f32)  :
    ∀ h, kgate (out1_A_12 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 ) h 0 = bwdGD x0 x1 x2 x3 x4 x5 x6 x7 0 h (kgate (k1_pay36 (F := Ideal)) h 0) ∧ kgate (out1_A_12 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 ) h 1 = kgate (k1_pay36 (F := Ideal)) h 1 := by
  intro h
  unfold out1_A_12
  unfold kernelRun1_A
  sl_unfold_run_names
  dsimp only
  have hi : (i 1).val = 0 := hz
  have e11 : k1_off11 i = ![1024 * (0 : Fin 2).val, 64 * (0 : Fin 2).val] := by rw [k1_off11_eq, hi]; rfl
  have e12 : k1_off12 i = ![(0 : Fin 2).val, (0 : Fin 2).val, 0, 0] := by rw [k1_off12_eq, hi]; rfl
  have e13 : k1_off13 i = ![1024 * (0 : Fin 2).val, 64 * (1 : Fin 2).val] := by rw [k1_off13_eq, hi]; rfl
  have e14 : k1_off14 i = ![(1 : Fin 2).val, (0 : Fin 2).val, 0, 0] := by rw [k1_off14_eq, hi]; rfl
  have e15 : k1_off15 i = ![1024 * (0 : Fin 2).val, 0] := by rw [k1_off15_eq, hi]; rfl
  simp only [View.readAt_eq_ld, Memref.IsWhole.read_unread]
  have A0 : View.ld x0 (Rect.unit (s := S1024x128) ![0, 0] S1024x64.size inb_S1024x128_S1024x64_0_0) = lanes x0 0 := ld_lanes x0 0 rfl _
  have A1 : View.ld x0 (Rect.unit (s := S1024x128) ![0, 64] S1024x64.size inb_S1024x128_S1024x64_0_64) = lanes x0 1 := ld_lanes x0 1 rfl _
  have O0 : View.ld x5 (Rect.unit (s := S1024x128) ![0, 0] S1024x64.size inb_S1024x128_S1024x64_0_0) = lanes x5 0 := ld_lanes x5 0 rfl _
  have O1 : View.ld x5 (Rect.unit (s := S1024x128) ![0, 64] S1024x64.size inb_S1024x128_S1024x64_0_64) = lanes x5 1 := ld_lanes x5 1 rfl _
  have G0 : View.ld x7 (Rect.unit (s := S1024x128) ![0, 0] S1024x64.size inb_S1024x128_S1024x64_0_0) = lanes x7 0 := ld_lanes x7 0 rfl _
  have G1 : View.ld x7 (Rect.unit (s := S1024x128) ![0, 64] S1024x64.size inb_S1024x128_S1024x64_0_64) = lanes x7 1 := ld_lanes x7 1 rfl _
  have B0 : View.ld x3 (Rect.unit (s := S2x1024x1) ![0, 0, 0] S1x1024x1.size inb_S2x1024x1_S1x1024x1_0_0_0) = qgate x3 0 := ld_qgate x3 0 rfl _
  have B1 : View.ld x3 (Rect.unit (s := S2x1024x1) ![1, 0, 0] S1x1024x1.size inb_S2x1024x1_S1x1024x1_1_0_0) = qgate x3 1 := ld_qgate x3 1 rfl _
  have S0 : View.ld x6 (Rect.unit (s := S2x1024x1) ![0, 0, 0] S1x1024x1.size inb_S2x1024x1_S1x1024x1_0_0_0) = qgate x6 0 := ld_qgate x6 0 rfl _
  have S1 : View.ld x6 (Rect.unit (s := S2x1024x1) ![1, 0, 0] S1x1024x1.size inb_S2x1024x1_S1x1024x1_1_0_0) = qgate x6 1 := ld_qgate x6 1 rfl _
  simp only [A0, A1, O0, O1, G0, G1, B0, B1, S0, S1]
  have L1 := fun G11 G12 G14 init => bloop1_zero c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (k1_pay37 (lanes x0 0)) (k1_pay38 (qgate x3 0)) (k1_pay39 (qgate x6 0)) (k1_pay40 (lanes x7 0)) (k1_pay41 (lanes x7 0) (lanes x5 0)) (lanes x7 1) (k1_pay42 (lanes x0 1)) (k1_pay43 (qgate x3 1)) (k1_pay44 (qgate x6 1)) (k1_pay45 (lanes x7 1)) (lanes x5 1) (harg3.unread x1) (harg4.unread x2) (harg6.unread x4) G11 G12 G14 init hi
  have L2 := fun G11 G12 G14 init => bloop2 c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (k1_pay37 (lanes x0 0)) (k1_pay38 (qgate x3 0)) (k1_pay39 (qgate x6 0)) (k1_pay40 (lanes x7 0)) (k1_pay41 (lanes x7 0) (lanes x5 0)) (lanes x7 1) (k1_pay42 (lanes x0 1)) (k1_pay43 (qgate x3 1)) (k1_pay44 (qgate x6 1)) (k1_pay45 (lanes x7 1)) (lanes x5 1) (Scalar.addi (0#32) (Scalar.muli (Scalar.divsi (Scalar.subi (BitVec.ofNat 32 (i 1).val) (0#32)) (1#32)) (1#32))) (harg3.unread x1) (harg4.unread x2) (harg6.unread x4) G11 G12 G14 init
  dsimp only [Scf.Loop.trips] at L1 L2
  simp only [L1, L2, List.nil_append, List.append_nil, same67, same71, same72, same70, same73, same74, same13, same15, same16, same17, same18, same51, same3]
  have Z : ∀ {κ : Kind} {sp : Space} (v : View sig κ sp S2x2x1x1024 .f32) (f : v.ty.Contents (Elt Ideal)), v.read (Elt Ideal) (v.writes (Elt Ideal) f [⟨Rect.unit (s := S2x2x1x1024) ![0, 0, 0, 0] S2x2x1x1024.size inb_S2x2x1x1024_S2x2x1x1024_0_0_0_0, k1_pay36 (F := Ideal)⟩]) = k1_pay36 (F := Ideal) := fun v f => View.read_writes_full v f _ _ _
  refine ⟨?_, (kgate_miss _ _ (.inr n01) e14 _ _ _).trans ((kgate_miss _ _ (.inr n01) e12 _ _ _).trans (congrArg (kgate · h 1) (Z _ _)))⟩
  rw [ld_rows x1 0 0 e11, ld_rows x1 0 1 e13, ld_kgate x4 0 0 e12, ld_kgate x4 1 0 e14, ld_rows x2 0 0 e11, ld_rows x2 0 1 e13, Z, ld_kgate (k1_pay36 (F := Ideal)) 0 0 e12, ld_kgate _ 1 0 e14, kgate_miss _ _ (.inl n01) e12, Z]
  have hh : h = 0 ∨ h = 1 := by omega
  rcases hh with rfl | rfl
  · exact (kgate_miss _ _ (.inl n10) e14 _ _ _).trans ((kgate_hit _ _ 0 0 e12 _ _ _).trans rfl)
  · exact (kgate_hit _ _ 1 0 e14 _ _ _).trans rfl

/-- The key gates' gradient block after query tile 1, subtracted from what tile 0 left. -/
theorem open12B (c : Dev nD) (i : grid1.Coords) (arg2 : Memref sig .tc .vmem S1024x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2x1024x1 .f32) (harg5 : arg5.IsWhole) (arg6 : Memref sig .tc .vmem S2x2x1x1024 .f32) (harg6 : arg6.IsWhole) (arg7 : Memref sig .tc .vmem S1024x128 .f32) (harg7 : arg7.IsWhole) (arg8 : Memref sig .tc .vmem S2x1024x1 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2x1024x1 .f32) (harg13 : arg13.IsWhole) (arg14 : Memref sig .tc .vmem S2x2x1x1024 .f32) (harg14 : arg14.IsWhole) (hc : ¬ cond1_0 i) (ho : (i 1).val = 1) (x0 : Vec Ideal S1024x128 .f32) (x1 x2 : Vec Ideal S2048x128 .f32) (x3 : Vec Ideal S2x1024x1 .f32) (x4 : Vec Ideal S2x2x1x1024 .f32) (x5 : Vec Ideal S1024x128 .f32) (x6 : Vec Ideal S2x1024x1 .f32) (x7 : Vec Ideal S1024x128 .f32) (y9 y10 : Vec Ideal S2048x128 .f32) (y12 : Vec Ideal S2x2x1x1024 .f32) :
    ∀ h, kgate (out1_B_12 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 y9 y10 y12) h 0 = bwdGL x0 x1 x2 x3 x4 x5 x6 x7 h (kgate y12 h 0) ∧ kgate (out1_B_12 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 y9 y10 y12) h 1 = bwdGD x0 x1 x2 x3 x4 x5 x6 x7 1 h (kgate y12 h 1) := by
  intro h
  unfold out1_B_12
  unfold kernelRun1_B
  sl_unfold_run_names
  dsimp only
  have hi : (i 1).val = 1 := ho
  have e11 : k1_off11 i = ![1024 * (1 : Fin 2).val, 64 * (0 : Fin 2).val] := by rw [k1_off11_eq, hi]; rfl
  have e12 : k1_off12 i = ![(0 : Fin 2).val, (1 : Fin 2).val, 0, 0] := by rw [k1_off12_eq, hi]; rfl
  have e13 : k1_off13 i = ![1024 * (1 : Fin 2).val, 64 * (1 : Fin 2).val] := by rw [k1_off13_eq, hi]; rfl
  have e14 : k1_off14 i = ![(1 : Fin 2).val, (1 : Fin 2).val, 0, 0] := by rw [k1_off14_eq, hi]; rfl
  have e15 : k1_off15 i = ![1024 * (1 : Fin 2).val, 0] := by rw [k1_off15_eq, hi]; rfl
  simp only [View.readAt_eq_ld, Memref.IsWhole.read_unread]
  have A0 : View.ld x0 (Rect.unit (s := S1024x128) ![0, 0] S1024x64.size inb_S1024x128_S1024x64_0_0) = lanes x0 0 := ld_lanes x0 0 rfl _
  have A1 : View.ld x0 (Rect.unit (s := S1024x128) ![0, 64] S1024x64.size inb_S1024x128_S1024x64_0_64) = lanes x0 1 := ld_lanes x0 1 rfl _
  have O0 : View.ld x5 (Rect.unit (s := S1024x128) ![0, 0] S1024x64.size inb_S1024x128_S1024x64_0_0) = lanes x5 0 := ld_lanes x5 0 rfl _
  have O1 : View.ld x5 (Rect.unit (s := S1024x128) ![0, 64] S1024x64.size inb_S1024x128_S1024x64_0_64) = lanes x5 1 := ld_lanes x5 1 rfl _
  have G0 : View.ld x7 (Rect.unit (s := S1024x128) ![0, 0] S1024x64.size inb_S1024x128_S1024x64_0_0) = lanes x7 0 := ld_lanes x7 0 rfl _
  have G1 : View.ld x7 (Rect.unit (s := S1024x128) ![0, 64] S1024x64.size inb_S1024x128_S1024x64_0_64) = lanes x7 1 := ld_lanes x7 1 rfl _
  have B0 : View.ld x3 (Rect.unit (s := S2x1024x1) ![0, 0, 0] S1x1024x1.size inb_S2x1024x1_S1x1024x1_0_0_0) = qgate x3 0 := ld_qgate x3 0 rfl _
  have B1 : View.ld x3 (Rect.unit (s := S2x1024x1) ![1, 0, 0] S1x1024x1.size inb_S2x1024x1_S1x1024x1_1_0_0) = qgate x3 1 := ld_qgate x3 1 rfl _
  have S0 : View.ld x6 (Rect.unit (s := S2x1024x1) ![0, 0, 0] S1x1024x1.size inb_S2x1024x1_S1x1024x1_0_0_0) = qgate x6 0 := ld_qgate x6 0 rfl _
  have S1 : View.ld x6 (Rect.unit (s := S2x1024x1) ![1, 0, 0] S1x1024x1.size inb_S2x1024x1_S1x1024x1_1_0_0) = qgate x6 1 := ld_qgate x6 1 rfl _
  simp only [A0, A1, O0, O1, G0, G1, B0, B1, S0, S1]
  have hk : 0 < (k1_t1_loop i).trips := by rw [btrips1, hi]; exact one_pos
  have e2 : k1_off2 i ⟨0, hk⟩ = ![(0 : Fin 2).val, (0 : Fin 2).val, 0, 0] := k1_off2_eq i ⟨0, hk⟩
  have e4 : k1_off4 i ⟨0, hk⟩ = ![(1 : Fin 2).val, (0 : Fin 2).val, 0, 0] := k1_off4_eq i ⟨0, hk⟩
  have e5 : k1_off5 i ⟨0, hk⟩ = ![1024 * (0 : Fin 2).val, 0] := k1_off5_eq i ⟨0, hk⟩
  have L1 := fun init => bloop1_one c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (k1_pay37 (lanes x0 0)) (k1_pay38 (qgate x3 0)) (k1_pay39 (qgate x6 0)) (k1_pay40 (lanes x7 0)) (k1_pay41 (lanes x7 0) (lanes x5 0)) (lanes x7 1) (k1_pay42 (lanes x0 1)) (k1_pay43 (qgate x3 1)) (k1_pay44 (qgate x6 1)) (k1_pay45 (lanes x7 1)) (lanes x5 1) x1 x2 x4 y9 y10 y12 init hi hk
  have L2 := fun G11 G12 G14 init => bloop2 c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (k1_pay37 (lanes x0 0)) (k1_pay38 (qgate x3 0)) (k1_pay39 (qgate x6 0)) (k1_pay40 (lanes x7 0)) (k1_pay41 (lanes x7 0) (lanes x5 0)) (lanes x7 1) (k1_pay42 (lanes x0 1)) (k1_pay43 (qgate x3 1)) (k1_pay44 (qgate x6 1)) (k1_pay45 (lanes x7 1)) (lanes x5 1) (Scalar.addi (0#32) (Scalar.muli (Scalar.divsi (Scalar.subi (BitVec.ofNat 32 (i 1).val) (0#32)) (1#32)) (1#32))) (harg3.unread x1) (harg4.unread x2) (harg6.unread x4) G11 G12 G14 init
  dsimp only [Scf.Loop.trips] at L1 L2
  simp only [L1, L2, List.nil_append, List.append_nil, same67, same71, same72, same70, same73, same74, same13, same15, same16, same17, same18, same51, same3]
  have hh : h = 0 ∨ h = 1 := by omega
  constructor
  · refine (kgate_miss _ _ (.inr n10) e14 _ _ _).trans ((kgate_miss _ _ (.inr n10) e12 _ _ _).trans ?_)
    rcases hh with rfl | rfl
    · exact (kgate_miss _ _ (.inl n10) e4 _ _ _).trans ((kgate_hit _ _ 0 0 e2 _ _ _).trans rfl)
    · exact (kgate_hit _ _ 1 0 e4 _ _ _).trans rfl
  · rw [ld_rows x1 1 0 e11, ld_rows x1 1 1 e13, ld_kgate x4 0 1 e12, ld_kgate x4 1 1 e14, ld_rows x2 1 0 e11, ld_rows x2 1 1 e13, ld_kgate _ 0 1 e12, kgate_miss _ _ (.inr n01) e4, kgate_miss _ _ (.inr n01) e2,
      ld_kgate _ 1 1 e14, kgate_miss _ _ (.inl n01) e12, kgate_miss _ _ (.inr n01) e4, kgate_miss _ _ (.inr n01) e2]
    simp only [View.writes_nil, Memref.IsWhole.read_unread]
    rcases hh with rfl | rfl
    · exact (kgate_miss _ _ (.inl n10) e14 _ _ _).trans ((kgate_hit _ _ 0 1 e12 _ _ _).trans rfl)
    · exact (kgate_hit _ _ 1 1 e14 _ _ _).trans rfl

end Cert.Fox

end
-- ==== Proof.Softmax.lean ====
/- The running softmax over extended reals whose values are real numbers: what a chunk of scores does to the running
   maximum, the running sum and the running weighted sum, and what the final quotient and the final logarithm are. -/
module

public import Idealize.ShloMosaic.Lib.Pointwise

@[expose] public section

noncomputable section

namespace Cert.Fox

open Idealize.ShloMosaic

/-- A sum of real numbers is the same sum taken over the extended reals. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The extended real `x` is a score of weight `w`: a real number whose exponential is `w`, or the mask, of weight zero. -/
def IsScore (x : EReal) (w : ℝ) : Prop :=
  (x = ⊥ ∧ w = 0) ∨ ∃ r : ℝ, x = (r : EReal) ∧ w = Real.exp r

/-- A real number is a score of weight its exponential. -/
theorem IsScore.real (r : ℝ) : IsScore (r : EReal) (Real.exp r) := .inr ⟨r, rfl, rfl⟩

/-- The exponential of a score less a real number `M` is the score's weight times `exp (-M)`. -/
theorem IsScore.exp_sub {x : EReal} {w : ℝ} (h : IsScore x w) (M : ℝ) :
    Ideal.exp (x - (M : EReal)) = ((Real.exp (-M) * w : ℝ) : EReal) := by
  rcases h with ⟨rfl, rfl⟩ | ⟨r, rfl, rfl⟩
  · rw [EReal.bot_sub, Ideal.exp_bot, mul_zero, EReal.coe_zero]
  · rw [← EReal.coe_sub, Ideal.exp_coe, ← Real.exp_add, show r - M = -M + r by ring]

theorem IsScore.ne_top {x : EReal} {w : ℝ} (h : IsScore x w) : x ≠ ⊤ := by
  rcases h with ⟨rfl, _⟩ | ⟨r, rfl, _⟩
  · exact bot_ne_top
  · exact EReal.coe_ne_top r

/-- The maximum of a real number or `⊥` with finitely many scores, one of them real, is a real number. -/
theorem max_fold_real {ι : Type*} [Fintype ι] {m : EReal} (hm : m ≠ ⊤) {x : ι → EReal} {w : ι → ℝ}
    (hx : ∀ k, IsScore (x k) (w k)) {k₀ : ι} (h₀ : x k₀ ≠ ⊥) :
    ∃ M : ℝ, max m (Finset.univ.fold max ⊥ x) = (M : EReal) := by
  have hf : Finset.univ.fold max ⊥ x ≠ ⊤ := by
    classical
    have : ∀ s : Finset ι, s.fold max ⊥ x ≠ ⊤ := by
      intro s
      induction s using Finset.induction_on with
      | empty => simp
      | insert a s ha ih =>
        rw [Finset.fold_insert ha]
        rcases max_choice (x a) (s.fold max ⊥ x) with h | h <;> rw [h]
        · exact (hx a).ne_top
        · exact ih
    exact this _
  have hb : ⊥ < Finset.univ.fold max ⊥ x := by
    rw [Finset.lt_fold_max]
    exact .inr ⟨k₀, Finset.mem_univ _, bot_lt_iff_ne_bot.mpr h₀⟩
  have hm1 : max m (Finset.univ.fold max ⊥ x) ≠ ⊤ := by
    rcases max_choice m (Finset.univ.fold max ⊥ x) with h | h <;> rw [h]
    · exact hm
    · exact hf
  have hm2 : max m (Finset.univ.fold max ⊥ x) ≠ ⊥ := (hb.trans_le (le_max_right _ _)).ne'
  exact ⟨_, (EReal.coe_toReal hm1 hm2).symm⟩

/-- The running state `(m, l, acc)` of a softmax row stands for the real sums `s` of the weights and `a` of the weighted
    values met so far: nothing met and all of it zero, or both sums scaled by `exp (-m)`. -/
def Stands {D : ℕ} (m l : EReal) (acc : Fin D → EReal) (s : ℝ) (a : Fin D → ℝ) : Prop :=
  (m = ⊥ ∧ l = 0 ∧ (∀ d, acc d = 0) ∧ s = 0 ∧ ∀ d, a d = 0)
    ∨ ∃ M : ℝ, m = (M : EReal) ∧ l = ((Real.exp (-M) * s : ℝ) : EReal) ∧ ∀ d, acc d = ((Real.exp (-M) * a d : ℝ) : EReal)

/-- Before any chunk. -/
theorem Stands.init {D : ℕ} : Stands ⊥ 0 (fun _ : Fin D => 0) 0 (fun _ => 0) :=
  .inl ⟨rfl, rfl, fun _ => rfl, rfl, fun _ => rfl⟩

theorem Stands.ne_top {D : ℕ} {m l : EReal} {acc : Fin D → EReal} {s : ℝ} {a : Fin D → ℝ} (h : Stands m l acc s a) : m ≠ ⊤ := by
  rcases h with ⟨rfl, _⟩ | ⟨M, rfl, _⟩
  · exact bot_ne_top
  · exact EReal.coe_ne_top M

/-- One chunk: the maximum taken over the chunk's scores too, the old sums scaled to it and the chunk's added, the state
    stands for the sums with the chunk's weights and weighted values added. -/
theorem Stands.step {D N : ℕ} {m l : EReal} {acc : Fin D → EReal} {s : ℝ} {a : Fin D → ℝ} (h : Stands m l acc s a)
    {x : Fin N → EReal} {w : Fin N → ℝ} (hx : ∀ k, IsScore (x k) (w k)) {k₀ : Fin N} (h₀ : x k₀ ≠ ⊥)
    {v : Fin N → Fin D → EReal} {vr : Fin N → Fin D → ℝ} (hv : ∀ k d, v k d = (vr k d : EReal))
    {m' : EReal} (hm' : m' = max m (Finset.univ.fold max ⊥ x)) :
    Stands m' (Ideal.exp (m - m') * l + ∑ k, Ideal.exp (x k - m'))
      (fun d => Ideal.exp (m - m') * acc d + ∑ k, Ideal.exp (x k - m') * v k d)
      (s + ∑ k, w k) (fun d => a d + ∑ k, w k * vr k d) := by
  obtain ⟨M', hM'⟩ := max_fold_real h.ne_top hx h₀
  rw [← hm'] at hM'
  subst hM'
  have e1 : ∑ k, Ideal.exp (x k - (M' : EReal)) = ((Real.exp (-M') * ∑ k, w k : ℝ) : EReal) := by
    rw [Finset.mul_sum, coe_sum]
    exact Finset.sum_congr rfl fun k _ => (hx k).exp_sub M'
  have e2 : ∀ d, ∑ k, Ideal.exp (x k - (M' : EReal)) * v k d = ((Real.exp (-M') * ∑ k, w k * vr k d : ℝ) : EReal) := by
    intro d
    rw [Finset.mul_sum, coe_sum]
    refine Finset.sum_congr rfl fun k _ => ?_
    rw [(hx k).exp_sub M', hv, ← EReal.coe_mul, mul_assoc]
  refine .inr ⟨M', rfl, ?_, fun d => ?_⟩
  · rw [e1]
    rcases h with ⟨rfl, rfl, _, rfl, _⟩ | ⟨M, rfl, rfl, _⟩
    · rw [mul_zero, zero_add, zero_add]
    · rw [← EReal.coe_sub, Ideal.exp_coe, ← EReal.coe_mul, ← EReal.coe_add, ← mul_assoc, ← Real.exp_add,
        show M - M' + -M = -M' by ring, mul_add]
  · dsimp only
    rw [e2]
    rcases h with ⟨rfl, rfl, ha, rfl, ha'⟩ | ⟨M, rfl, rfl, ha⟩
    · rw [ha, ha', mul_zero, zero_add, zero_add]
    · rw [ha, ← EReal.coe_sub, Ideal.exp_coe, ← EReal.coe_mul, ← EReal.coe_add, ← mul_assoc, ← Real.exp_add,
        show M - M' + -M = -M' by ring, mul_add]

/-- The state at the end: its quotient is the weighted mean, and the maximum with the sum's logarithm is the logarithm of the
    sum of the weights. -/
theorem Stands.finish {D : ℕ} {m l : EReal} {acc : Fin D → EReal} {s : ℝ} {a : Fin D → ℝ} (h : Stands m l acc s a) (hs : 0 < s) :
    (∀ d, Ideal.div (acc d) l = ((a d / s : ℝ) : EReal)) ∧ m + Ideal.log l = ((Real.log s : ℝ) : EReal) := by
  rcases h with ⟨_, _, _, rfl, _⟩ | ⟨M, rfl, rfl, ha⟩
  · exact absurd hs (lt_irrefl _)
  have hpos : 0 < Real.exp (-M) * s := mul_pos (Real.exp_pos _) hs
  refine ⟨fun d => ?_, ?_⟩
  · rw [ha, Ideal.div_coe hpos.ne', ← EReal.coe_mul]
    congr 1
    have := (Real.exp_pos (-M)).ne'
    field_simp
  · rw [Ideal.log_coe, if_neg (not_le.mpr hpos), ← EReal.coe_add, Real.log_mul (Real.exp_pos _).ne' hs.ne', Real.log_exp]
    congr 1
    ring

end Cert.Fox

end
-- ==== Proof.FwdPay.lean ====
/- The values the forward body computes, read at an index: the scores of a chunk, the running state after a chunk, and the
   quotient and log-sum at the end. -/
module

public import proofs.«01_k».proof.Proof.Softmax
public import proofs.«01_k».proof.Proof.Consts

@[expose] public section

set_option maxRecDepth 16384

noncomputable section

namespace Cert.Fox

open Idealize.ShloMosaic Cert.KernelIdeal Cert.KernelIdeal.Gen

variable (q : Vec Ideal S1024x64 .f32) (cq : Vec Ideal S1x1024x1 .f32) (k : Vec Ideal S1024x64 .f32)
  (ck : Vec Ideal S1x1x1x1024 .f32) (v : Vec Ideal S1024x64 .f32)

/-- The score of a chunk before the diagonal. -/
theorem read_score (a b : Fin 1024) :
    k0_pay7 q cq k ck (ix2 a b)
      = (∑ x, q (ix2 a x) * ((1 / 8 : ℝ) : EReal) * k (ix2 b x)) + cq (ix3 0 a 0) - ck (ix4 0 0 0 b) := by
  unfold_payloads
  pointwise
  rw [eighth]

/-- The score of the diagonal chunk. -/
theorem read_diag (a b : Fin 1024) :
    k0_pay19 q cq k ck (ix2 a b)
      = if b ≤ a then (∑ x, q (ix2 a x) * ((1 / 8 : ℝ) : EReal) * k (ix2 b x)) + cq (ix3 0 a 0) - ck (ix4 0 0 0 b) else ⊥ := by
  unfold_payloads
  pointwise
  rw [eighth, mask_bot, select_ge]

/-- The maximum after a chunk. -/
theorem read_max (m : FVec Ideal S1024x1 .f32) (a : Fin 1024) :
    k0_pay8 q cq m k ck (ix2 a 0) = max (m (ix2 a 0)) (Finset.univ.fold max ⊥ (fun b => k0_pay7 q cq k ck (ix2 a b))) := by
  unfold k0_pay8
  pointwise
  rw [neg_inf]

/-- The running sum after a chunk. -/
theorem read_sum (m l : FVec Ideal S1024x1 .f32) (a : Fin 1024) :
    k0_pay12 q cq m l k ck (ix2 a 0)
      = Ideal.exp (m (ix2 a 0) - k0_pay8 q cq m k ck (ix2 a 0)) * l (ix2 a 0)
        + ∑ b, Ideal.exp (k0_pay7 q cq k ck (ix2 a b) - k0_pay8 q cq m k ck (ix2 a 0)) := by
  unfold k0_pay12 k0_pay9 k0_pay10
  pointwise

/-- The running weighted sum after a chunk. -/
theorem read_acc (m : FVec Ideal S1024x1 .f32) (acc : FVec Ideal S1024x64 .f32) (a : Fin 1024) (d : Fin 64) :
    k0_pay11 q cq m acc k ck v (ix2 a d)
      = Ideal.exp (m (ix2 a 0) - k0_pay8 q cq m k ck (ix2 a 0)) * acc (ix2 a d)
        + ∑ b, Ideal.exp (k0_pay7 q cq k ck (ix2 a b) - k0_pay8 q cq m k ck (ix2 a 0)) * v (ix2 b d) := by
  unfold k0_pay11 k0_pay9 k0_pay10
  pointwise

/-- The maximum with the diagonal chunk. -/
theorem read_max' (m : FVec Ideal S1024x1 .f32) (a : Fin 1024) :
    k0_pay20 q cq m k ck (ix2 a 0) = max (m (ix2 a 0)) (Finset.univ.fold max ⊥ (fun b => k0_pay19 q cq k ck (ix2 a b))) := by
  unfold k0_pay20
  pointwise
  rw [neg_inf]

/-- The output: the weighted sum, the diagonal chunk's values added, over the sum. -/
theorem read_out (m l : FVec Ideal S1024x1 .f32) (acc : FVec Ideal S1024x64 .f32) (s : FVec Ideal S1024x1024 .f32)
    (m' : FVec Ideal S1024x1 .f32) (a : Fin 1024) (d : Fin 64) :
    k0_pay24 m l acc s m' v (ix2 a d)
      = Ideal.div (Ideal.exp (m (ix2 a 0) - m' (ix2 a 0)) * acc (ix2 a d) + ∑ b, Ideal.exp (s (ix2 a b) - m' (ix2 a 0)) * v (ix2 b d))
        (Ideal.exp (m (ix2 a 0) - m' (ix2 a 0)) * l (ix2 a 0) + ∑ b, Ideal.exp (s (ix2 a b) - m' (ix2 a 0))) := by
  unfold_payloads
  pointwise

/-- The log-sum: the maximum and the sum's logarithm. -/
theorem read_lse (m l : FVec Ideal S1024x1 .f32) (s : FVec Ideal S1024x1024 .f32) (m' : FVec Ideal S1024x1 .f32) (a : Fin 1024) :
    k0_pay25 m l s m' (ix3 0 a 0)
      = m' (ix2 a 0) + Ideal.log (Ideal.exp (m (ix2 a 0) - m' (ix2 a 0)) * l (ix2 a 0) + ∑ b, Ideal.exp (s (ix2 a b) - m' (ix2 a 0))) := by
  unfold_payloads
  pointwise

theorem read_init_max (a : Fin 1024) : k0_pay4 (F := Ideal) (ix2 a 0) = ⊥ := by
  unfold k0_pay4
  pointwise
  exact mask_bot

theorem read_init_sum (a : Fin 1024) : k0_pay5 (F := Ideal) (ix2 a 0) = 0 := by
  unfold k0_pay5
  pointwise

theorem read_init_acc (a : Fin 1024) (d : Fin 64) : k0_pay6 (F := Ideal) (ix2 a d) = 0 := by
  unfold k0_pay6
  pointwise

end Cert.Fox

end
-- ==== Proof.FwdOpen.lean ====
/- The forward body's two output blocks, opened: what the first block loop carries, and the payloads stored, as functions of
   the five input blocks. -/
module

public import proofs.«01_k».proof.Proof.Blocks
public import proofs.«01_k».proof.Proof.Gen.KernelIdeal.Frame

@[expose] public section

set_option maxRecDepth 16384

noncomputable section

namespace Cert.Fox

open Idealize.ShloMosaic Idealize.ShloMosaic.TcCoe Idealize.SL.Sem Cert.KernelIdeal Cert.KernelIdeal.Gen

/-- What a loop of the forward body carries: running maximum, running sum, running weighted sum. -/
abbrev Carry := FVec Ideal S1024x1 .f32 × FVec Ideal S1024x1 .f32 × FVec Ideal S1024x64 .f32

/-- One trip of a block loop. -/
def chunk (q : Vec Ideal S1024x64 .f32) (cq : Vec Ideal S1x1024x1 .f32) (k : Vec Ideal S1024x64 .f32)
    (ck : Vec Ideal S1x1x1x1024 .f32) (v : Vec Ideal S1024x64 .f32) (s : Carry) : Carry :=
  (k0_pay8 q cq s.1 k ck, k0_pay12 q cq s.1 s.2.1 k ck, k0_pay11 q cq s.1 s.2.2 k ck v)

/-- What the diagonal block starts from: for query tile 0 the initial state, for query tile 1 that after key tile 0. -/
def before (x0 : Vec Ideal S1024x128 .f32) (x1 x2 : Vec Ideal S2048x128 .f32) (x3 : Vec Ideal S2x1024x1 .f32)
    (x4 : Vec Ideal S2x2x1x1024 .f32) (i h : Fin 2) : Carry :=
  if i = 0 then (k0_pay4, k0_pay5, k0_pay6)
  else chunk (lanes x0 h) (qgate x3 h) (rows x1 0 h) (kgate x4 h 0) (rows x2 0 h) (k0_pay4, k0_pay5, k0_pay6)

/-- Head `h`'s output rows of query tile `i`. -/
def fwdO (x0 : Vec Ideal S1024x128 .f32) (x1 x2 : Vec Ideal S2048x128 .f32) (x3 : Vec Ideal S2x1024x1 .f32) (x4 : Vec Ideal S2x2x1x1024 .f32) (i h : Fin 2) : FVec Ideal S1024x64 .f32 :=
  let S := before x0 x1 x2 x3 x4 i h
  k0_pay24 S.1 S.2.1 S.2.2 (k0_pay19 (lanes x0 h) (qgate x3 h) (rows x1 i h) (kgate x4 h i))
    (k0_pay20 (lanes x0 h) (qgate x3 h) S.1 (rows x1 i h) (kgate x4 h i)) (rows x2 i h)

/-- Head `h`'s log-sum rows of query tile `i`. -/
def fwdL (x0 : Vec Ideal S1024x128 .f32) (x1 x2 : Vec Ideal S2048x128 .f32) (x3 : Vec Ideal S2x1024x1 .f32) (x4 : Vec Ideal S2x2x1x1024 .f32) (i h : Fin 2) : FVec Ideal S1x1024x1 .f32 :=
  let S := before x0 x1 x2 x3 x4 i h
  k0_pay25 S.1 S.2.1 (k0_pay19 (lanes x0 h) (qgate x3 h) (rows x1 i h) (kgate x4 h i))
    (k0_pay20 (lanes x0 h) (qgate x3 h) S.1 (rows x1 i h) (kgate x4 h i))

/-- Two stores of 64 lanes, read under the earlier one. -/
theorem canon_lanes0 (P1 P0 : FVec Ideal S1024x64 .f32) (a : Fin 1024) (d : Fin 64) :
    View.canon (Val := Elt Ideal) (s := S1024x128) (e := .f32)
      [⟨Rect.unit (s := S1024x128) ![0, 64] S1024x64.size inb_S1024x128_S1024x64_0_64, P1⟩,
        ⟨Rect.unit (s := S1024x128) ![0, 0] S1024x64.size inb_S1024x128_S1024x64_0_0, P0⟩] (ix2 a (lane 0 d)) = P0 (ix2 a d) := by
  rw [View.canon_cons_of_not_mem]
  · have e : (ix2 a (lane 0 d) : S1024x128.Idx)
        = (Rect.unit (s := S1024x128) ![0, 0] S1024x64.size inb_S1024x128_S1024x64_0_0).emb (ix2 a d) := by
      funext x; apply Fin.ext; fin_cases x <;> simp [ix2, lane, Rect.emb, Rect.unit]
    rw [e]; exact View.canon_cons_emb _ _ _ _
  · rw [Rect.mem_set_unit]
    intro hm
    have := (hm 1).1
    simp [ix2, lane] at this
    omega

/-- Two stores of 64 lanes, read under the later one. -/
theorem canon_lanes1 (P1 P0 : FVec Ideal S1024x64 .f32) (a : Fin 1024) (d : Fin 64) :
    View.canon (Val := Elt Ideal) (s := S1024x128) (e := .f32)
      [⟨Rect.unit (s := S1024x128) ![0, 64] S1024x64.size inb_S1024x128_S1024x64_0_64, P1⟩,
        ⟨Rect.unit (s := S1024x128) ![0, 0] S1024x64.size inb_S1024x128_S1024x64_0_0, P0⟩] (ix2 a (lane 1 d)) = P1 (ix2 a d) := by
  have e : (ix2 a (lane 1 d) : S1024x128.Idx)
      = (Rect.unit (s := S1024x128) ![0, 64] S1024x64.size inb_S1024x128_S1024x64_0_64).emb (ix2 a d) := by
    funext x; apply Fin.ext; fin_cases x <;> simp [ix2, lane, Rect.emb, Rect.unit]
  rw [e]; exact View.canon_cons_emb _ _ _ _

/-- Two stores of one head's gate column each, read under the earlier one. -/
theorem canon_gate0 (P1 P0 : FVec Ideal S1x1024x1 .f32) (a : Fin 1024) :
    View.canon (Val := Elt Ideal) (s := S2x1024x1) (e := .f32)
      [⟨Rect.unit (s := S2x1024x1) ![1, 0, 0] S1x1024x1.size inb_S2x1024x1_S1x1024x1_1_0_0, P1⟩,
        ⟨Rect.unit (s := S2x1024x1) ![0, 0, 0] S1x1024x1.size inb_S2x1024x1_S1x1024x1_0_0_0, P0⟩] (ix3 0 a 0) = P0 (ix3 0 a 0) := by
  rw [View.canon_cons_of_not_mem]
  · have e : (ix3 0 a 0 : S2x1024x1.Idx)
        = (Rect.unit (s := S2x1024x1) ![0, 0, 0] S1x1024x1.size inb_S2x1024x1_S1x1024x1_0_0_0).emb (ix3 0 a 0) := by
      funext x; apply Fin.ext; fin_cases x <;> simp [ix3, Rect.emb, Rect.unit]
    rw [e]; exact View.canon_cons_emb _ _ _ _
  · rw [Rect.mem_set_unit]
    intro hm
    have := (hm 0).1
    simp [ix3] at this

/-- Two stores of one head's gate column each, read under the later one. -/
theorem canon_gate1 (P1 P0 : FVec Ideal S1x1024x1 .f32) (a : Fin 1024) :
    View.canon (Val := Elt Ideal) (s := S2x1024x1) (e := .f32)
      [⟨Rect.unit (s := S2x1024x1) ![1, 0, 0] S1x1024x1.size inb_S2x1024x1_S1x1024x1_1_0_0, P1⟩,
        ⟨Rect.unit (s := S2x1024x1) ![0, 0, 0] S1x1024x1.size inb_S2x1024x1_S1x1024x1_0_0_0, P0⟩] (ix3 1 a 0) = P1 (ix3 0 a 0) := by
  have e : (ix3 1 a 0 : S2x1024x1.Idx)
      = (Rect.unit (s := S2x1024x1) ![1, 0, 0] S1x1024x1.size inb_S2x1024x1_S1x1024x1_1_0_0).emb (ix3 0 a 0) := by
    funext x; apply Fin.ext; fin_cases x <;> simp [ix3, Rect.emb, Rect.unit]
  rw [e]; exact View.canon_cons_emb _ _ _ _

theorem trips1 : ∀ i : grid0.Coords, (k0_t1_loop i).trips = (i 1).val := by decide +kernel
theorem trips2 : ∀ i : grid0.Coords, (k0_t2_loop i).trips = 0 := by decide +kernel
theorem trips3 : ∀ i : grid0.Coords, (k0_t3_loop i).trips = (i 1).val := by decide +kernel
theorem trips4 : ∀ i : grid0.Coords, (k0_t4_loop i).trips = 0 := by decide +kernel

/-- The loop after head 0's makes no trip. -/
theorem loop2 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2x1024x1 .f32) (harg5 : arg5.IsWhole) (arg6 : Memref sig .tc .vmem S2x2x1x1024 .f32) (harg6 : arg6.IsWhole) (arg7 : Memref sig .tc .vmem S1024x128 .f32) (harg7 : arg7.IsWhole) (arg8 : Memref sig .tc .vmem S2x1024x1 .f32) (harg8 : arg8.IsWhole) (v0 : Vec Ideal S1024x64 .f32) (v4 : Vec Ideal S1x1024x1 .f32) (x1 x2 : Vec Ideal S2048x128 .f32) (x4 : Vec Ideal S2x2x1x1024 .f32) (init : Carry) :
    st_k0_t2 Variants.none c none i arg2 harg2 arg3 harg3 arg4 harg4 arg5 harg5 arg6 harg6 arg7 harg7 arg8 harg8 v0 v4 (harg3.unread x1) (harg4.unread x2) (harg6.unread x4) init (k0_t2_loop i).trips
      = init := by
  rw [trips2]; rfl

/-- Head 0's loop over the key tiles before the diagonal. -/
theorem loop1 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2x1024x1 .f32) (harg5 : arg5.IsWhole) (arg6 : Memref sig .tc .vmem S2x2x1x1024 .f32) (harg6 : arg6.IsWhole) (arg7 : Memref sig .tc .vmem S1024x128 .f32) (harg7 : arg7.IsWhole) (arg8 : Memref sig .tc .vmem S2x1024x1 .f32) (harg8 : arg8.IsWhole) (v0 : Vec Ideal S1024x64 .f32) (v4 : Vec Ideal S1x1024x1 .f32) (x1 x2 : Vec Ideal S2048x128 .f32) (x4 : Vec Ideal S2x2x1x1024 .f32) (init : Carry) {j : Fin 2} (hj : (i 1).val = j.val) :
    st_k0_t1 Variants.none c none i arg2 harg2 arg3 harg3 arg4 harg4 arg5 harg5 arg6 harg6 arg7 harg7 arg8 harg8 v0 v4 (harg3.unread x1) (harg4.unread x2) (harg6.unread x4) init (k0_t1_loop i).trips
      = if j = 0 then init else chunk v0 v4 (rows x1 0 0) (kgate x4 0 0) (rows x2 0 0) init := by
  by_cases h0 : j = 0
  · subst h0; rw [if_pos rfl, trips1, hj]; rfl
  · obtain rfl : j = 1 := by omega
    have h1 : (i 1).val = 1 := hj
    rw [if_neg h0, trips1, h1]
    have hk : 0 < (k0_t1_loop i).trips := by rw [trips1, h1]; exact one_pos
    refine (st_k0_t1_succ (F := Ideal) Variants.none c none i arg2 harg2 arg3 harg3 arg4 harg4 arg5 harg5 arg6 harg6 arg7 harg7 arg8 harg8 v0 v4 (harg3.unread x1) (harg4.unread x2) (harg6.unread x4) init ⟨0, hk⟩).trans ?_
    unfold tripR_k0_t1 trip_k0_t1
    simp only [View.readAt_eq_ld, Memref.IsWhole.read_unread]
    have e1 := k0_off1_eq i ⟨0, hk⟩
    have e2 := k0_off2_eq i ⟨0, hk⟩
    rw [ld_rows x1 0 0 e1, ld_rows x2 0 0 e1, ld_kgate x4 0 0 e2]
    rfl

/-- The loop after head 1's makes no trip. -/
theorem loop4 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2x1024x1 .f32) (harg5 : arg5.IsWhole) (arg6 : Memref sig .tc .vmem S2x2x1x1024 .f32) (harg6 : arg6.IsWhole) (arg7 : Memref sig .tc .vmem S1024x128 .f32) (harg7 : arg7.IsWhole) (arg8 : Memref sig .tc .vmem S2x1024x1 .f32) (harg8 : arg8.IsWhole) (b : BitVec 32) (v0 : Vec Ideal S1024x64 .f32) (v4 : Vec Ideal S1x1024x1 .f32) (j1 j2 : FVec Ideal S1024x1 .f32) (j3 : FVec Ideal S1024x64 .f32) (b1 b2 : BitVec 32) (x1 x2 : Vec Ideal S2048x128 .f32) (x4 : Vec Ideal S2x2x1x1024 .f32) (init : Carry) :
    st_k0_t4 Variants.none c none i arg2 harg2 arg3 harg3 arg4 harg4 arg5 harg5 arg6 harg6 arg7 harg7 arg8 harg8 b (k0_pay26 v0) (k0_pay27 v4) j1 j2 j3 b1 b2 (harg3.unread x1) (harg4.unread x2) (harg6.unread x4) init (k0_t4_loop i).trips
      = init := by
  rw [trips4]; rfl

/-- Head 1's loop over the key tiles before the diagonal. -/
theorem loop3 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2x1024x1 .f32) (harg5 : arg5.IsWhole) (arg6 : Memref sig .tc .vmem S2x2x1x1024 .f32) (harg6 : arg6.IsWhole) (arg7 : Memref sig .tc .vmem S1024x128 .f32) (harg7 : arg7.IsWhole) (arg8 : Memref sig .tc .vmem S2x1024x1 .f32) (harg8 : arg8.IsWhole) (b : BitVec 32) (v0 : Vec Ideal S1024x64 .f32) (v4 : Vec Ideal S1x1024x1 .f32) (j1 j2 : FVec Ideal S1024x1 .f32) (j3 : FVec Ideal S1024x64 .f32) (b1 b2 : BitVec 32) (x1 x2 : Vec Ideal S2048x128 .f32) (x4 : Vec Ideal S2x2x1x1024 .f32) (init : Carry) {j : Fin 2} (hj : (i 1).val = j.val) :
    st_k0_t3 Variants.none c none i arg2 harg2 arg3 harg3 arg4 harg4 arg5 harg5 arg6 harg6 arg7 harg7 arg8 harg8 b (k0_pay26 v0) (k0_pay27 v4) j1 j2 j3 b1 b2 (harg3.unread x1) (harg4.unread x2) (harg6.unread x4) init (k0_t3_loop i).trips
      = if j = 0 then init else chunk v0 v4 (rows x1 0 1) (kgate x4 1 0) (rows x2 0 1) init := by
  by_cases h0 : j = 0
  · subst h0; rw [if_pos rfl, trips3, hj]; rfl
  · obtain rfl : j = 1 := by omega
    have h1 : (i 1).val = 1 := hj
    rw [if_neg h0, trips3, h1]
    have hk : 0 < (k0_t3_loop i).trips := by rw [trips3, h1]; exact one_pos
    refine (st_k0_t3_succ (F := Ideal) Variants.none c none i arg2 harg2 arg3 harg3 arg4 harg4 arg5 harg5 arg6 harg6 arg7 harg7 arg8 harg8 b (k0_pay26 v0) (k0_pay27 v4) j1 j2 j3 b1 b2 (harg3.unread x1) (harg4.unread x2) (harg6.unread x4) init ⟨0, hk⟩).trans ?_
    unfold tripR_k0_t3 trip_k0_t3
    simp only [View.readAt_eq_ld, Memref.IsWhole.read_unread]
    have e1 := k0_off7_eq i ⟨0, hk⟩
    have e2 := k0_off8_eq i ⟨0, hk⟩
    rw [ld_rows x1 0 1 e1, ld_rows x2 0 1 e1, ld_kgate x4 1 0 e2]
    rfl

/-- The attention's output block, at row `a` and lane `d` of head `h`. -/
theorem open5 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2x1024x1 .f32) (harg5 : arg5.IsWhole) (arg6 : Memref sig .tc .vmem S2x2x1x1024 .f32) (harg6 : arg6.IsWhole) (arg7 : Memref sig .tc .vmem S1024x128 .f32) (harg7 : arg7.IsWhole) (arg8 : Memref sig .tc .vmem S2x1024x1 .f32) (harg8 : arg8.IsWhole) (x0 : Vec Ideal S1024x128 .f32) (x1 x2 : Vec Ideal S2048x128 .f32) (x3 : Vec Ideal S2x1024x1 .f32) (x4 : Vec Ideal S2x2x1x1024 .f32) {j : Fin 2} (hj : (i 1).val = j.val) (h : Fin 2) (a : Fin 1024) (d : Fin 64) :
    out0_A_5 c i arg2 harg2 arg3 harg3 arg4 harg4 arg5 harg5 arg6 harg6 arg7 harg7 arg8 harg8 x0 x1 x2 x3 x4 (ix2 a (lane h d)) = fwdO x0 x1 x2 x3 x4 j h (ix2 a d) := by
  unfold out0_A_5
  rw [View.read_writes_eq_canon _ _ _ (cover0_A_5 c i arg2 harg2 arg3 harg3 arg4 harg4 arg5 harg5 arg6 harg6 arg7 harg7 arg8 harg8 x0 x1 x2 x3 x4)]
  unfold kernelRun0_A
  sl_unfold_run_names
  dsimp only
  have e5 : k0_off5 i = ![1024 * j.val, 64 * (0 : Fin 2).val] := by rw [k0_off5_eq, hj]; rfl
  have e6 : k0_off6 i = ![(0 : Fin 2).val, j.val, 0, 0] := by rw [k0_off6_eq, hj]; rfl
  have e11 : k0_off11 i = ![1024 * j.val, 64 * (1 : Fin 2).val] := by rw [k0_off11_eq, hj]; rfl
  have e12 : k0_off12 i = ![(1 : Fin 2).val, j.val, 0, 0] := by rw [k0_off12_eq, hj]; rfl
  simp only [View.readAt_eq_ld, Memref.IsWhole.read_unread]
  have A0 : View.ld x0 (Rect.unit (s := S1024x128) ![0, 0] S1024x64.size inb_S1024x128_S1024x64_0_0) = lanes x0 0 := ld_lanes x0 0 rfl _
  have A1 : View.ld x0 (Rect.unit (s := S1024x128) ![0, 64] S1024x64.size inb_S1024x128_S1024x64_0_64) = lanes x0 1 := ld_lanes x0 1 rfl _
  have B0 : View.ld x3 (Rect.unit (s := S2x1024x1) ![0, 0, 0] S1x1024x1.size inb_S2x1024x1_S1x1024x1_0_0_0) = qgate x3 0 := ld_qgate x3 0 rfl _
  have B1 : View.ld x3 (Rect.unit (s := S2x1024x1) ![1, 0, 0] S1x1024x1.size inb_S2x1024x1_S1x1024x1_1_0_0) = qgate x3 1 := ld_qgate x3 1 rfl _
  simp only [A0, A1, B0, B1]
  have L1 := loop1 c i arg2 harg2 arg3 harg3 arg4 harg4 arg5 harg5 arg6 harg6 arg7 harg7 arg8 harg8 (lanes x0 0) (qgate x3 0) x1 x2 x4 (k0_pay4, k0_pay5, k0_pay6) hj
  have L2 := fun init : Carry => loop2 c i arg2 harg2 arg3 harg3 arg4 harg4 arg5 harg5 arg6 harg6 arg7 harg7 arg8 harg8 (lanes x0 0) (qgate x3 0) x1 x2 x4 init
  have L3 := loop3 c i arg2 harg2 arg3 harg3 arg4 harg4 arg5 harg5 arg6 harg6 arg7 harg7 arg8 harg8 (BitVec.ofNat 32 (i 1).val) (lanes x0 1) (qgate x3 1) k0_pay28 k0_pay29 k0_pay30 (0#32) (Scalar.addi (0#32) (Scalar.muli (Scalar.divsi (Scalar.subi (BitVec.ofNat 32 (i 1).val) 0#32) 1#32) 1#32)) x1 x2 x4 (k0_pay28, k0_pay29, k0_pay30) hj
  have L4 := fun init : Carry => loop4 c i arg2 harg2 arg3 harg3 arg4 harg4 arg5 harg5 arg6 harg6 arg7 harg7 arg8 harg8 (BitVec.ofNat 32 (i 1).val) (lanes x0 1) (qgate x3 1) k0_pay28 k0_pay29 k0_pay30 (0#32) (Scalar.addi (0#32) (Scalar.muli (Scalar.divsi (Scalar.subi (BitVec.ofNat 32 (i 1).val) 0#32) 1#32) 1#32)) x1 x2 x4 init
  dsimp only [Scf.Loop.trips] at L1 L2 L3 L4
  simp only [L1, L2, L3, L4]
  rw [ld_rows x1 j 0 e5]
  rw [ld_rows x1 j 1 e11]
  rw [ld_kgate x4 0 j e6]
  rw [ld_kgate x4 1 j e12]
  rw [ld_rows x2 j 0 e5, ld_rows x2 j 1 e11]
  have hh : h = 0 ∨ h = 1 := by omega
  rcases hh with rfl | rfl
  · exact (canon_lanes0 _ _ a d).trans rfl
  · exact (canon_lanes1 _ _ a d).trans rfl

/-- The log-sum block, at head `h` and row `a`. -/
theorem open6 (c : Dev nD) (i : grid0.Coords) (arg2 : Memref sig .tc .vmem S1024x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2x1024x1 .f32) (harg5 : arg5.IsWhole) (arg6 : Memref sig .tc .vmem S2x2x1x1024 .f32) (harg6 : arg6.IsWhole) (arg7 : Memref sig .tc .vmem S1024x128 .f32) (harg7 : arg7.IsWhole) (arg8 : Memref sig .tc .vmem S2x1024x1 .f32) (harg8 : arg8.IsWhole) (x0 : Vec Ideal S1024x128 .f32) (x1 x2 : Vec Ideal S2048x128 .f32) (x3 : Vec Ideal S2x1024x1 .f32) (x4 : Vec Ideal S2x2x1x1024 .f32) {j : Fin 2} (hj : (i 1).val = j.val) (h : Fin 2) (a : Fin 1024) :
    out0_A_6 c i arg2 harg2 arg3 harg3 arg4 harg4 arg5 harg5 arg6 harg6 arg7 harg7 arg8 harg8 x0 x1 x2 x3 x4 (ix3 h a 0) = fwdL x0 x1 x2 x3 x4 j h (ix3 0 a 0) := by
  unfold out0_A_6
  rw [View.read_writes_eq_canon _ _ _ (cover0_A_6 c i arg2 harg2 arg3 harg3 arg4 harg4 arg5 harg5 arg6 harg6 arg7 harg7 arg8 harg8 x0 x1 x2 x3 x4)]
  unfold kernelRun0_A
  sl_unfold_run_names
  dsimp only
  have e5 : k0_off5 i = ![1024 * j.val, 64 * (0 : Fin 2).val] := by rw [k0_off5_eq, hj]; rfl
  have e6 : k0_off6 i = ![(0 : Fin 2).val, j.val, 0, 0] := by rw [k0_off6_eq, hj]; rfl
  have e11 : k0_off11 i = ![1024 * j.val, 64 * (1 : Fin 2).val] := by rw [k0_off11_eq, hj]; rfl
  have e12 : k0_off12 i = ![(1 : Fin 2).val, j.val, 0, 0] := by rw [k0_off12_eq, hj]; rfl
  simp only [View.readAt_eq_ld, Memref.IsWhole.read_unread]
  have A0 : View.ld x0 (Rect.unit (s := S1024x128) ![0, 0] S1024x64.size inb_S1024x128_S1024x64_0_0) = lanes x0 0 := ld_lanes x0 0 rfl _
  have A1 : View.ld x0 (Rect.unit (s := S1024x128) ![0, 64] S1024x64.size inb_S1024x128_S1024x64_0_64) = lanes x0 1 := ld_lanes x0 1 rfl _
  have B0 : View.ld x3 (Rect.unit (s := S2x1024x1) ![0, 0, 0] S1x1024x1.size inb_S2x1024x1_S1x1024x1_0_0_0) = qgate x3 0 := ld_qgate x3 0 rfl _
  have B1 : View.ld x3 (Rect.unit (s := S2x1024x1) ![1, 0, 0] S1x1024x1.size inb_S2x1024x1_S1x1024x1_1_0_0) = qgate x3 1 := ld_qgate x3 1 rfl _
  simp only [A0, A1, B0, B1]
  have L1 := loop1 c i arg2 harg2 arg3 harg3 arg4 harg4 arg5 harg5 arg6 harg6 arg7 harg7 arg8 harg8 (lanes x0 0) (qgate x3 0) x1 x2 x4 (k0_pay4, k0_pay5, k0_pay6) hj
  have L2 := fun init : Carry => loop2 c i arg2 harg2 arg3 harg3 arg4 harg4 arg5 harg5 arg6 harg6 arg7 harg7 arg8 harg8 (lanes x0 0) (qgate x3 0) x1 x2 x4 init
  have L3 := loop3 c i arg2 harg2 arg3 harg3 arg4 harg4 arg5 harg5 arg6 harg6 arg7 harg7 arg8 harg8 (BitVec.ofNat 32 (i 1).val) (lanes x0 1) (qgate x3 1) k0_pay28 k0_pay29 k0_pay30 (0#32) (Scalar.addi (0#32) (Scalar.muli (Scalar.divsi (Scalar.subi (BitVec.ofNat 32 (i 1).val) 0#32) 1#32) 1#32)) x1 x2 x4 (k0_pay28, k0_pay29, k0_pay30) hj
  have L4 := fun init : Carry => loop4 c i arg2 harg2 arg3 harg3 arg4 harg4 arg5 harg5 arg6 harg6 arg7 harg7 arg8 harg8 (BitVec.ofNat 32 (i 1).val) (lanes x0 1) (qgate x3 1) k0_pay28 k0_pay29 k0_pay30 (0#32) (Scalar.addi (0#32) (Scalar.muli (Scalar.divsi (Scalar.subi (BitVec.ofNat 32 (i 1).val) 0#32) 1#32) 1#32)) x1 x2 x4 init
  dsimp only [Scf.Loop.trips] at L1 L2 L3 L4
  simp only [L1, L2, L3, L4]
  rw [ld_rows x1 j 0 e5]
  rw [ld_rows x1 j 1 e11]
  rw [ld_kgate x4 0 j e6]
  rw [ld_kgate x4 1 j e12]
  have hh : h = 0 ∨ h = 1 := by omega
  rcases hh with rfl | rfl
  · exact (canon_gate0 _ _ a).trans rfl
  · exact (canon_gate1 _ _ a).trans rfl

end Cert.Fox

end
-- ==== Proof.FwdBlock.lean ====
/- One block of the forward pass holds the attention's output and log-sum: the two output blocks of a query tile, at the
   real numbers the input blocks hold. -/
module

public import proofs.«01_k».proof.Proof.FwdPay
public import proofs.«01_k».proof.Proof.FwdOpen
public import proofs.«01_k».proof.Proof.Spec

@[expose] public section

set_option maxRecDepth 16384

noncomputable section

namespace Cert.Fox

open Idealize.ShloMosaic Cert.KernelIdeal Cert.KernelIdeal.Gen

variable (Q K V : Fin 2048 → Fin 64 → ℝ) (C : Fin 2048 → ℝ)

/-- A score computed from real numbers is the real score. -/
theorem score_coe (r c : Fin 2048) :
    (∑ x, (Q r x : EReal) * ((1 / 8 : ℝ) : EReal) * (K c x : EReal)) + (C r : EReal) - (C c : EReal) = (score Q K C r c : EReal) := by
  have e : ∑ x, (Q r x : EReal) * ((1 / 8 : ℝ) : EReal) * (K c x : EReal) = ((∑ x, Q r x * (1 / 8) * K c x : ℝ) : EReal) := by
    rw [coe_sum]; exact Finset.sum_congr rfl fun x _ => by rw [EReal.coe_mul, EReal.coe_mul]
  rw [e, ← EReal.coe_add, ← EReal.coe_sub, score]

section
variable {x0 : Vec Ideal S1024x128 .f32} {x1 x2 : Vec Ideal S2048x128 .f32} {x3 : Vec Ideal S2x1024x1 .f32}
  {x4 : Vec Ideal S2x2x1x1024 .f32} {i h : Fin 2}

/-- The diagonal chunk's scores carry the weights of the row's own tile. -/
theorem diag_isScore (h0 : ∀ a d, x0 (ix2 a (lane h d)) = (Q (tile i a) d : EReal)) (h1 : ∀ c d, x1 (ix2 c (lane h d)) = (K c d : EReal))
    (h3 : ∀ a, x3 (ix3 h a 0) = (C (tile i a) : EReal)) (h4 : ∀ j b, x4 (ix4 h j 0 b) = (C (tile j b) : EReal)) (a b : Fin 1024) :
    IsScore (k0_pay19 (lanes x0 h) (qgate x3 h) (rows x1 i h) (kgate x4 h i) (ix2 a b)) (wt Q K C (tile i a) (tile i b)) := by
  rw [read_diag]
  have e : (∑ x, lanes x0 h (ix2 a x) * ((1 / 8 : ℝ) : EReal) * rows x1 i h (ix2 b x)) + qgate x3 h (ix3 0 a 0) - kgate x4 h i (ix4 0 0 0 b)
      = (score Q K C (tile i a) (tile i b) : EReal) := by
    rw [← score_coe]
    congr 1
    · congr 1
      · refine Finset.sum_congr rfl fun x _ => ?_
        rw [← h0, ← h1]; rfl
      · exact h3 a
    · exact h4 i b
  rw [e]
  by_cases hb : b ≤ a
  · rw [if_pos hb, wt_of_le Q K C ((tile_le_same i a b).mpr hb)]
    exact IsScore.real _
  · rw [if_neg hb, wt_of_not_le Q K C fun h => hb ((tile_le_same i a b).mp h)]
    exact .inl ⟨rfl, rfl⟩

/-- Its score of a row with itself is not masked. -/
theorem diag_ne_bot (h0 : ∀ a d, x0 (ix2 a (lane h d)) = (Q (tile i a) d : EReal)) (h1 : ∀ c d, x1 (ix2 c (lane h d)) = (K c d : EReal))
    (h3 : ∀ a, x3 (ix3 h a 0) = (C (tile i a) : EReal)) (h4 : ∀ j b, x4 (ix4 h j 0 b) = (C (tile j b) : EReal)) (a : Fin 1024) :
    k0_pay19 (lanes x0 h) (qgate x3 h) (rows x1 i h) (kgate x4 h i) (ix2 a a) ≠ ⊥ := by
  rcases diag_isScore Q K C h0 h1 h3 h4 a a with ⟨_, hw⟩ | ⟨r, hr, _⟩
  · rw [wt_of_le Q K C le_rfl] at hw
    exact absurd hw (Real.exp_pos _).ne'
  · rw [hr]; exact EReal.coe_ne_bot r

/-- The chunk before the diagonal carries the weights of tile 0. -/
theorem chunk_isScore (h0 : ∀ a d, x0 (ix2 a (lane h d)) = (Q (tile 1 a) d : EReal)) (h1 : ∀ c d, x1 (ix2 c (lane h d)) = (K c d : EReal))
    (h3 : ∀ a, x3 (ix3 h a 0) = (C (tile 1 a) : EReal)) (h4 : ∀ j b, x4 (ix4 h j 0 b) = (C (tile j b) : EReal)) (a b : Fin 1024) :
    k0_pay7 (lanes x0 h) (qgate x3 h) (rows x1 0 h) (kgate x4 h 0) (ix2 a b) ≠ ⊥
      ∧ IsScore (k0_pay7 (lanes x0 h) (qgate x3 h) (rows x1 0 h) (kgate x4 h 0) (ix2 a b)) (wt Q K C (tile 1 a) (tile 0 b)) := by
  rw [read_score]
  have e : (∑ x, lanes x0 h (ix2 a x) * ((1 / 8 : ℝ) : EReal) * rows x1 0 h (ix2 b x)) + qgate x3 h (ix3 0 a 0) - kgate x4 h 0 (ix4 0 0 0 b)
      = (score Q K C (tile 1 a) (tile 0 b) : EReal) := by
    rw [← score_coe]
    congr 1
    · congr 1
      · refine Finset.sum_congr rfl fun x _ => ?_
        rw [← h0, ← h1]; rfl
      · exact h3 a
    · exact h4 0 b
  rw [e, wt_of_le Q K C (tile_le_01 a b)]
  exact ⟨EReal.coe_ne_bot _, IsScore.real _⟩

/-- What the diagonal chunk starts from stands for the sums over the tiles before it. -/
theorem before_stands (h0 : ∀ a d, x0 (ix2 a (lane h d)) = (Q (tile i a) d : EReal)) (h1 : ∀ c d, x1 (ix2 c (lane h d)) = (K c d : EReal))
    (h2 : ∀ c d, x2 (ix2 c (lane h d)) = (V c d : EReal))
    (h3 : ∀ a, x3 (ix3 h a 0) = (C (tile i a) : EReal)) (h4 : ∀ j b, x4 (ix4 h j 0 b) = (C (tile j b) : EReal)) (a : Fin 1024) :
    Stands ((before x0 x1 x2 x3 x4 i h).1 (ix2 a 0)) ((before x0 x1 x2 x3 x4 i h).2.1 (ix2 a 0))
      (fun d => (before x0 x1 x2 x3 x4 i h).2.2 (ix2 a d))
      (tot Q K C (tile i a) - ∑ b, wt Q K C (tile i a) (tile i b))
      (fun d => (∑ c, wt Q K C (tile i a) c * V c d) - ∑ b, wt Q K C (tile i a) (tile i b) * V (tile i b) d) := by
  have hinit : Stands (k0_pay4 (F := Ideal) (ix2 a 0)) (k0_pay5 (F := Ideal) (ix2 a 0)) (fun d => k0_pay6 (F := Ideal) (ix2 a d))
      0 (fun _ => 0) := by
    rw [read_init_max, read_init_sum]
    have e : (fun d => k0_pay6 (F := Ideal) (ix2 a d)) = fun _ => 0 := funext fun d => read_init_acc a d
    rw [e]; exact Stands.init
  have hi : i = 0 ∨ i = 1 := by omega
  rcases hi with rfl | rfl
  · have e1 : tot Q K C (tile 0 a) - ∑ b, wt Q K C (tile 0 a) (tile 0 b) = 0 := by
      rw [tot, sum_tile, add_sub_cancel_left]
      exact Finset.sum_eq_zero fun b _ => wt_of_not_le Q K C (not_tile_le_10 a b)
    have e2 : (fun d => (∑ c, wt Q K C (tile 0 a) c * V c d) - ∑ b, wt Q K C (tile 0 a) (tile 0 b) * V (tile 0 b) d) = fun _ => 0 := by
      funext d
      rw [sum_tile, add_sub_cancel_left]
      exact Finset.sum_eq_zero fun b _ => by rw [wt_of_not_le Q K C (not_tile_le_10 a b), zero_mul]
    rw [e1, e2]
    exact hinit
  · have e1 : tot Q K C (tile 1 a) - ∑ b, wt Q K C (tile 1 a) (tile 1 b) = 0 + ∑ b, wt Q K C (tile 1 a) (tile 0 b) := by
      rw [tot, sum_tile, add_sub_cancel_right, zero_add]
    have e2 : (fun d => (∑ c, wt Q K C (tile 1 a) c * V c d) - ∑ b, wt Q K C (tile 1 a) (tile 1 b) * V (tile 1 b) d)
        = fun d => (fun _ => 0) d + ∑ b, wt Q K C (tile 1 a) (tile 0 b) * V (tile 0 b) d := by
      funext d
      rw [sum_tile, add_sub_cancel_right, zero_add]
    rw [e1, e2]
    have hs := hinit.step (x := fun b => k0_pay7 (lanes x0 h) (qgate x3 h) (rows x1 0 h) (kgate x4 h 0) (ix2 a b))
      (fun b => (chunk_isScore Q K C h0 h1 h3 h4 a b).2) (k₀ := 0) (chunk_isScore Q K C h0 h1 h3 h4 a 0).1
      (v := fun b d => rows x2 0 h (ix2 b d)) (vr := fun b d => V (tile 0 b) d) (fun b d => h2 (tile 0 b) d)
      (read_max (lanes x0 h) (qgate x3 h) (rows x1 0 h) (kgate x4 h 0) k0_pay4 a)
    rw [← read_sum] at hs
    have e3 : (fun d => Ideal.exp (k0_pay4 (F := Ideal) (ix2 a 0) - k0_pay8 (lanes x0 h) (qgate x3 h) k0_pay4 (rows x1 0 h) (kgate x4 h 0) (ix2 a 0))
          * k0_pay6 (F := Ideal) (ix2 a d)
        + ∑ b, Ideal.exp (k0_pay7 (lanes x0 h) (qgate x3 h) (rows x1 0 h) (kgate x4 h 0) (ix2 a b)
            - k0_pay8 (lanes x0 h) (qgate x3 h) k0_pay4 (rows x1 0 h) (kgate x4 h 0) (ix2 a 0)) * rows x2 0 h (ix2 b d))
        = fun d => k0_pay11 (lanes x0 h) (qgate x3 h) k0_pay4 k0_pay6 (rows x1 0 h) (kgate x4 h 0) (rows x2 0 h) (ix2 a d) :=
      funext fun d => (read_acc _ _ _ _ _ _ _ a d).symm
    rw [e3] at hs
    exact hs

/-- The whole row's state at the end. -/
theorem after_stands (h0 : ∀ a d, x0 (ix2 a (lane h d)) = (Q (tile i a) d : EReal)) (h1 : ∀ c d, x1 (ix2 c (lane h d)) = (K c d : EReal))
    (h2 : ∀ c d, x2 (ix2 c (lane h d)) = (V c d : EReal))
    (h3 : ∀ a, x3 (ix3 h a 0) = (C (tile i a) : EReal)) (h4 : ∀ j b, x4 (ix4 h j 0 b) = (C (tile j b) : EReal)) (a : Fin 1024) :
    (∀ d, fwdO x0 x1 x2 x3 x4 i h (ix2 a d) = (out Q K V C (tile i a) d : EReal))
      ∧ fwdL x0 x1 x2 x3 x4 i h (ix3 0 a 0) = (lse Q K C (tile i a) : EReal) := by
  have hs := ((before_stands Q K V C h0 h1 h2 h3 h4 a).step
    (x := fun b => k0_pay19 (lanes x0 h) (qgate x3 h) (rows x1 i h) (kgate x4 h i) (ix2 a b))
    (fun b => diag_isScore Q K C h0 h1 h3 h4 a b) (k₀ := a) (diag_ne_bot Q K C h0 h1 h3 h4 a)
    (v := fun b d => rows x2 i h (ix2 b d)) (vr := fun b d => V (tile i b) d) (fun b d => h2 (tile i b) d)
    (read_max' (lanes x0 h) (qgate x3 h) (rows x1 i h) (kgate x4 h i) (before x0 x1 x2 x3 x4 i h).1 a)).finish
    (by rw [sub_add_cancel]; exact tot_pos Q K C _)
  refine ⟨fun d => ?_, ?_⟩
  · refine (read_out _ _ _ _ _ _ a d).trans ((hs.1 d).trans ?_)
    rw [sub_add_cancel, sub_add_cancel, out]
  · refine (read_lse _ _ _ _ a).trans (hs.2.trans ?_)
    rw [sub_add_cancel, lse]

end

end Cert.Fox

end
-- ==== Proof.BwdBlock.lean ====
/- One block of the backward pass holds the attention's gradients: each output block, at the real numbers the input blocks
   hold. -/
module

public import proofs.«01_k».proof.Proof.BwdPay
public import proofs.«01_k».proof.Proof.BwdOpen
public import proofs.«01_k».proof.Proof.FwdBlock

@[expose] public section

set_option maxRecDepth 16384

noncomputable section

namespace Cert.Fox

open Idealize.ShloMosaic Cert.KernelIdeal Cert.KernelIdeal.Gen

variable (Q K V G : Fin 2048 → Fin 64 → ℝ) (C : Fin 2048 → ℝ)

/-- The input blocks of query tile `i` hold, in head `h`'s lanes, the real arrays. -/
structure Holds (x0 : Vec Ideal S1024x128 .f32) (x1 x2 : Vec Ideal S2048x128 .f32) (x3 : Vec Ideal S2x1024x1 .f32)
    (x4 : Vec Ideal S2x2x1x1024 .f32) (x5 : Vec Ideal S1024x128 .f32) (x6 : Vec Ideal S2x1024x1 .f32) (x7 : Vec Ideal S1024x128 .f32)
    (i h : Fin 2) : Prop where
  q : ∀ a d, x0 (ix2 a (lane h d)) = (Q (tile i a) d : EReal)
  k : ∀ c d, x1 (ix2 c (lane h d)) = (K c d : EReal)
  v : ∀ c d, x2 (ix2 c (lane h d)) = (V c d : EReal)
  cq : ∀ a, x3 (ix3 h a 0) = (C (tile i a) : EReal)
  ck : ∀ j b, x4 (ix4 h j 0 b) = (C (tile j b) : EReal)
  o : ∀ a d, x5 (ix2 a (lane h d)) = (out Q K V C (tile i a) d : EReal)
  l : ∀ a, x6 (ix3 h a 0) = (lse Q K C (tile i a) : EReal)
  g : ∀ a d, x7 (ix2 a (lane h d)) = (G (tile i a) d : EReal)

variable {Q K V G C}
variable {x0 : Vec Ideal S1024x128 .f32} {x1 x2 : Vec Ideal S2048x128 .f32} {x3 : Vec Ideal S2x1024x1 .f32}
  {x4 : Vec Ideal S2x2x1x1024 .f32} {x5 : Vec Ideal S1024x128 .f32} {x6 : Vec Ideal S2x1024x1 .f32} {x7 : Vec Ideal S1024x128 .f32} {i h : Fin 2}

namespace Holds
variable (H : Holds Q K V G C x0 x1 x2 x3 x4 x5 x6 x7 i h)
include H

theorem score_eq (j : Fin 2) (a b : Fin 1024) :
    (∑ x, lanes x0 h (ix2 a x) * ((1 / 8 : ℝ) : EReal) * rows x1 j h (ix2 b x)) + qgate x3 h (ix3 0 a 0) - kgate x4 h j (ix4 0 0 0 b)
      = (score Q K C (tile i a) (tile j b) : EReal) := by
  rw [← score_coe]
  congr 1
  · congr 1
    · refine Finset.sum_congr rfl fun x _ => ?_
      rw [← H.q, ← H.k]; rfl
    · exact H.cq a
  · exact H.ck j b

theorem lse_eq (a : Fin 1024) : qgate x6 h (ix3 0 a 0) = (lse Q K C (tile i a) : EReal) := H.l a

/-- The diagonal tile's probabilities. -/
theorem probD_eq (a b : Fin 1024) : probD x0 x1 x3 x4 x6 i h (ix2 a b) = (prob Q K C (tile i a) (tile i b) : EReal) := by
  unfold probD
  rw [read_probD, H.score_eq, H.lse_eq]
  by_cases hb : b ≤ a
  · rw [if_pos hb, ← EReal.coe_sub, Ideal.exp_coe, prob_of_le Q K C ((tile_le_same i a b).mpr hb)]
  · rw [if_neg hb, EReal.bot_sub, Ideal.exp_bot, prob_of_not_le Q K C fun e => hb ((tile_le_same i a b).mp e), EReal.coe_zero]

/-- The probabilities at a key tile before the diagonal. -/
theorem prob_eq {j : Fin 2} (a b : Fin 1024) (hle : tile j b ≤ tile i a) :
    k1_pay4 (k1_pay37 (lanes x0 h)) (k1_pay38 (qgate x3 h)) (k1_pay39 (qgate x6 h)) (rows x1 j h) (kgate x4 h j) (ix2 a b)
      = (prob Q K C (tile i a) (tile j b) : EReal) := by
  rw [read_prob, H.score_eq, H.lse_eq, ← EReal.coe_sub, Ideal.exp_coe, prob_of_le Q K C hle]

theorem delta_eq (a : Fin 1024) : k1_pay41 (lanes x7 h) (lanes x5 h) (ix2 a 0) = (delta Q K V G C (tile i a) : EReal) := by
  rw [read_delta, delta, coe_sum]
  refine Finset.sum_congr rfl fun x _ => ?_
  rw [EReal.coe_mul, ← H.g, ← H.o]; rfl

theorem dprob_eq (j : Fin 2) (a b : Fin 1024) :
    k1_pay58 (k1_pay40 (lanes x7 h)) (rows x2 j h) (ix2 a b) = (dprob V G (tile i a) (tile j b) : EReal) := by
  rw [read_dprob, dprob, coe_sum]
  refine Finset.sum_congr rfl fun x _ => ?_
  rw [EReal.coe_mul, ← H.g, ← H.v]; rfl

/-- The diagonal tile's gradient of the scores. -/
theorem dsD_eq (a b : Fin 1024) :
    k1_pay60 (probD x0 x1 x3 x4 x6 i h) (k1_pay58 (k1_pay40 (lanes x7 h)) (rows x2 i h)) (k1_pay59 (k1_pay41 (lanes x7 h) (lanes x5 h))) (ix2 a b)
      = (ds Q K V G C (tile i a) (tile i b) : EReal) := by
  rw [read_ds, H.probD_eq, H.dprob_eq, read_row, H.delta_eq, ← EReal.coe_sub, ← EReal.coe_mul, ds]

/-- The gradient of the scores at a key tile before the diagonal. -/
theorem ds_eq {j : Fin 2} (a b : Fin 1024) (hle : tile j b ≤ tile i a) :
    k1_pay5 (k1_pay37 (lanes x0 h)) (k1_pay38 (qgate x3 h)) (k1_pay39 (qgate x6 h)) (k1_pay40 (lanes x7 h)) (k1_pay41 (lanes x7 h) (lanes x5 h))
        (rows x1 j h) (kgate x4 h j) (rows x2 j h) (ix2 a b)
      = (ds Q K V G C (tile i a) (tile j b) : EReal) := by
  rw [read_ds', H.prob_eq a b hle, H.dprob_eq, read_row, H.delta_eq, ← EReal.coe_sub, ← EReal.coe_mul, ds]

theorem q_eq (a : Fin 1024) (d : Fin 64) : k1_pay37 (lanes x0 h) (ix2 a d) = ((Q (tile i a) d * (1 / 8) : ℝ) : EReal) := by
  rw [read_q, EReal.coe_mul, ← H.q]; rfl

theorem k_eq (j : Fin 2) (b : Fin 1024) (d : Fin 64) : rows x1 j h (ix2 b d) = (K (tile j b) d : EReal) := H.k (tile j b) d

theorem g_eq (a : Fin 1024) (d : Fin 64) : k1_pay40 (lanes x7 h) (ix2 a d) = (G (tile i a) d : EReal) := H.g a d

/-- The queries' gradient of a row. -/
theorem bwdQ_eq (a : Fin 1024) (d : Fin 64) :
    bwdQ x0 x1 x2 x3 x4 x5 x6 x7 i h (ix2 a d) * ((1 / 8 : ℝ) : EReal) = (dq Q K V G C (tile i a) d : EReal) := by
  have hs : bwdQ x0 x1 x2 x3 x4 x5 x6 x7 i h (ix2 a d) = ((∑ c, ds Q K V G C (tile i a) c * K c d : ℝ) : EReal) := by
    unfold bwdQ
    rw [read_dq]
    have e : ∑ b, k1_pay60 (probD x0 x1 x3 x4 x6 i h) (k1_pay58 (k1_pay40 (lanes x7 h)) (rows x2 i h))
          (k1_pay59 (k1_pay41 (lanes x7 h) (lanes x5 h))) (ix2 a b) * rows x1 i h (ix2 b d)
        = ((∑ b, ds Q K V G C (tile i a) (tile i b) * K (tile i b) d : ℝ) : EReal) := by
      rw [coe_sum]
      exact Finset.sum_congr rfl fun b _ => by rw [H.dsD_eq, H.k_eq, EReal.coe_mul]
    rw [e, sum_tile]
    have hi : i = 0 ∨ i = 1 := by omega
    rcases hi with rfl | rfl
    · rw [if_pos rfl, read_zero_q, zero_add]
      congr 1
      symm
      refine add_eq_left.mpr (Finset.sum_eq_zero fun b _ => ?_)
      rw [ds_of_not_le Q K V G C (not_tile_le_10 a b), zero_mul]
    · rw [if_neg n10, read_dq', read_zero_q, zero_add, EReal.coe_add]
      congr 1
      rw [coe_sum]
      exact Finset.sum_congr rfl fun b _ => by rw [H.ds_eq a b (tile_le_01 a b), H.k_eq, EReal.coe_mul]
  rw [hs, ← EReal.coe_mul, dq]

/-- The query gates' gradient of a row. -/
theorem bwdC_eq (a : Fin 1024) : bwdC x0 x1 x2 x3 x4 x5 x6 x7 i h (ix2 a 0) = (dcq Q K V G C (tile i a) : EReal) := by
  unfold bwdC
  rw [read_dcq]
  have e : ∑ b, k1_pay60 (probD x0 x1 x3 x4 x6 i h) (k1_pay58 (k1_pay40 (lanes x7 h)) (rows x2 i h))
        (k1_pay59 (k1_pay41 (lanes x7 h) (lanes x5 h))) (ix2 a b)
      = ((∑ b, ds Q K V G C (tile i a) (tile i b) : ℝ) : EReal) := by
    rw [coe_sum]
    exact Finset.sum_congr rfl fun b _ => H.dsD_eq a b
  rw [e, dcq, sum_tile]
  have hi : i = 0 ∨ i = 1 := by omega
  rcases hi with rfl | rfl
  · rw [if_pos rfl, read_zero_c, zero_add]
    congr 1
    symm
    exact add_eq_left.mpr (Finset.sum_eq_zero fun b _ => ds_of_not_le Q K V G C (not_tile_le_10 a b))
  · rw [if_neg n10, read_dcq', read_zero_c, zero_add, EReal.coe_add]
    congr 1
    rw [coe_sum]
    exact Finset.sum_congr rfl fun b _ => H.ds_eq a b (tile_le_01 a b)

/-- The diagonal tile's share of the keys' gradient. -/
theorem bwdKD_eq (old : Vec Ideal S1024x128 .f32) (b : Fin 1024) (d : Fin 64) :
    bwdKD x0 x1 x2 x3 x4 x5 x6 x7 i old (ix2 b (lane h d))
      = old (ix2 b (lane h d)) + ((∑ a, ds Q K V G C (tile i a) (tile i b) * (Q (tile i a) d * (1 / 8)) : ℝ) : EReal) := by
  unfold bwdKD
  rw [read_add]
  congr 1
  have e : (if h = 0 then
        k1_pay63 (k1_pay37 (lanes x0 0)) (probD x0 x1 x3 x4 x6 i 0) (k1_pay58 (k1_pay40 (lanes x7 0)) (rows x2 i 0)) (k1_pay59 (k1_pay41 (lanes x7 0) (lanes x5 0)))
      else k1_pay63 (k1_pay37 (lanes x0 1)) (probD x0 x1 x3 x4 x6 i 1) (k1_pay58 (k1_pay40 (lanes x7 1)) (rows x2 i 1)) (k1_pay59 (k1_pay41 (lanes x7 1) (lanes x5 1))))
      = k1_pay63 (k1_pay37 (lanes x0 h)) (probD x0 x1 x3 x4 x6 i h) (k1_pay58 (k1_pay40 (lanes x7 h)) (rows x2 i h)) (k1_pay59 (k1_pay41 (lanes x7 h) (lanes x5 h))) := by
    have hh : h = 0 ∨ h = 1 := by omega
    rcases hh with rfl | rfl
    · exact if_pos rfl
    · exact if_neg n10
  rw [e, read_dk, coe_sum]
  exact Finset.sum_congr rfl fun a _ => by rw [H.dsD_eq, H.q_eq, ← EReal.coe_mul]

/-- The diagonal tile's share of the values' gradient. -/
theorem bwdVD_eq (old : Vec Ideal S1024x128 .f32) (b : Fin 1024) (d : Fin 64) :
    bwdVD x0 x1 x3 x4 x6 x7 i old (ix2 b (lane h d))
      = old (ix2 b (lane h d)) + ((∑ a, prob Q K C (tile i a) (tile i b) * G (tile i a) d : ℝ) : EReal) := by
  unfold bwdVD
  rw [read_add']
  congr 1
  have e : (if h = 0 then k1_pay62 (k1_pay40 (lanes x7 0)) (probD x0 x1 x3 x4 x6 i 0) else k1_pay62 (k1_pay40 (lanes x7 1)) (probD x0 x1 x3 x4 x6 i 1))
      = k1_pay62 (k1_pay40 (lanes x7 h)) (probD x0 x1 x3 x4 x6 i h) := by
    have hh : h = 0 ∨ h = 1 := by omega
    rcases hh with rfl | rfl
    · exact if_pos rfl
    · exact if_neg n10
  rw [e, read_dv, coe_sum]
  exact Finset.sum_congr rfl fun a _ => by rw [H.probD_eq, H.g_eq, EReal.coe_mul]

/-- The diagonal tile's share of the key gates' gradient. -/
theorem bwdGD_eq (old : Vec Ideal S1x1x1x1024 .f32) (b : Fin 1024) :
    bwdGD x0 x1 x2 x3 x4 x5 x6 x7 i h old (ix4 0 0 0 b)
      = old (ix4 0 0 0 b) - ((∑ a, ds Q K V G C (tile i a) (tile i b) : ℝ) : EReal) := by
  unfold bwdGD
  rw [read_dck, coe_sum]
  congr 1
  exact Finset.sum_congr rfl fun a _ => H.dsD_eq a b

end Holds

namespace Holds
variable (H : Holds Q K V G C x0 x1 x2 x3 x4 x5 x6 x7 1 h)
include H

/-- Query tile 1's share of the keys' gradient at key tile 0. -/
theorem bwdKL_eq (old : Vec Ideal S1024x128 .f32) (b : Fin 1024) (d : Fin 64) :
    bwdKL x0 x1 x2 x3 x4 x5 x6 x7 old (ix2 b (lane h d))
      = old (ix2 b (lane h d)) + ((∑ a, ds Q K V G C (tile 1 a) (tile 0 b) * (Q (tile 1 a) d * (1 / 8)) : ℝ) : EReal) := by
  unfold bwdKL
  rw [read_add]
  congr 1
  have hh : h = 0 ∨ h = 1 := by omega
  rcases hh with rfl | rfl
  · rw [if_pos rfl, read_dk', coe_sum]
    exact Finset.sum_congr rfl fun a _ => by rw [H.ds_eq a b (tile_le_01 a b), H.q_eq, ← EReal.coe_mul]
  · rw [if_neg n10, read_dk', coe_sum]
    exact Finset.sum_congr rfl fun a _ => by rw [H.ds_eq a b (tile_le_01 a b), H.q_eq, ← EReal.coe_mul]

/-- Query tile 1's share of the values' gradient at key tile 0. -/
theorem bwdVL_eq (old : Vec Ideal S1024x128 .f32) (b : Fin 1024) (d : Fin 64) :
    bwdVL x0 x1 x3 x4 x6 x7 old (ix2 b (lane h d))
      = old (ix2 b (lane h d)) + ((∑ a, prob Q K C (tile 1 a) (tile 0 b) * G (tile 1 a) d : ℝ) : EReal) := by
  unfold bwdVL
  rw [read_add']
  congr 1
  have hh : h = 0 ∨ h = 1 := by omega
  rcases hh with rfl | rfl
  · rw [if_pos rfl, read_dv', coe_sum]
    exact Finset.sum_congr rfl fun a _ => by rw [H.prob_eq a b (tile_le_01 a b), H.g_eq, EReal.coe_mul]
  · rw [if_neg n10, read_dv', coe_sum]
    exact Finset.sum_congr rfl fun a _ => by rw [H.prob_eq a b (tile_le_01 a b), H.g_eq, EReal.coe_mul]

/-- Query tile 1's share of the key gates' gradient at key tile 0. -/
theorem bwdGL_eq (old : Vec Ideal S1x1x1x1024 .f32) (b : Fin 1024) :
    bwdGL x0 x1 x2 x3 x4 x5 x6 x7 h old (ix4 0 0 0 b)
      = old (ix4 0 0 0 b) - ((∑ a, ds Q K V G C (tile 1 a) (tile 0 b) : ℝ) : EReal) := by
  unfold bwdGL
  rw [read_dck', coe_sum]
  congr 1
  exact Finset.sum_congr rfl fun a _ => H.ds_eq a b (tile_le_01 a b)

end Holds

end Cert.Fox

end
-- ==== Proof.Calls.lean ====
/- What the two calls leave in their output arrays, when the arrays they read hold real numbers: the attention's output and
   log-sums, then its gradients. -/
module

public import proofs.«01_k».proof.Proof.Arrays
public import proofs.«01_k».proof.Proof.BwdBlock

@[expose] public section

set_option maxRecDepth 16384

noncomputable section

namespace Cert.Fox

open Idealize.ShloMosaic Idealize.ShloMosaic.TcCoe Idealize.SL.Sem Cert.KernelIdeal Cert.KernelIdeal.Gen

variable (V : (c : Dev nD) → (b : Ref sig .tc) → Buf (Elt Ideal) ((c : Thread nD τ).loc b)) (c : Dev nD)

/-- The buffers the first call reads hold, head by head, the reals `Q`, `K`, `W` (the values) and `C` (the gates). -/
structure Reads (Q K W : Fin 16 → Fin 2048 → Fin 64 → ℝ) (C : Fin 16 → Fin 2048 → ℝ) : Prop where
  q : ∀ n r d, V c main_arg0 (ix2 r (col n d)) = (Q n r d : EReal)
  k : ∀ n r d, V c main_arg1 (ix2 r (col n d)) = (K n r d : EReal)
  v : ∀ n r d, V c main_arg2 (ix2 r (col n d)) = (W n r d : EReal)
  cq : ∀ n r, V c main_v0 (ix3 n r 0) = (C n r : EReal)
  ck : ∀ n j b, V c main_v1 (ix4 n j 0 b) = (C n (tile j b) : EReal)

/-- And those the second call reads besides: the output, the log-sums, the output's gradient `G`. -/
structure Reads' (Q K W G : Fin 16 → Fin 2048 → Fin 64 → ℝ) (C : Fin 16 → Fin 2048 → ℝ) : Prop extends Reads V c Q K W C where
  o : ∀ n r d, V c main_v2_0 (ix2 r (col n d)) = (out (Q n) (K n) (W n) (C n) r d : EReal)
  l : ∀ n r, V c main_v2_1 (ix3 n r 0) = (lse (Q n) (K n) (C n) r : EReal)
  g : ∀ n r d, V c main_arg4 (ix2 r (col n d)) = (G n r d : EReal)

theorem coord0 : ∀ t : Fin cfg0.N, (grid0.coords t 1).val = t.val % 2 := (by decide +kernel : ∀ t : Fin grid0.N, _)
theorem coord1 : ∀ t : Fin cfg1.N, (grid1.coords t 1).val = t.val % 2 := (by decide +kernel : ∀ t : Fin grid1.N, _)

variable {V c} {Q K W G : Fin 16 → Fin 2048 → Fin 64 → ℝ} {C : Fin 16 → Fin 2048 → ℝ}

/-! ## The first call -/

namespace Reads
variable (H : Reads V c Q K W C)
include H

theorem stands (t : Fin cfg0.N) (h : Fin 2) (a : Fin 1024) :
    (∀ d, fwdO (iblk0 V c 0 t) (iblk0 V c 1 t) (iblk0 V c 2 t) (iblk0 V c 3 t) (iblk0 V c 4 t) (qt t) h (ix2 a d)
        = (out (Q (head t h)) (K (head t h)) (W (head t h)) (C (head t h)) (tile (qt t) a) d : EReal))
      ∧ fwdL (iblk0 V c 0 t) (iblk0 V c 1 t) (iblk0 V c 2 t) (iblk0 V c 3 t) (iblk0 V c 4 t) (qt t) h (ix3 0 a 0)
        = (lse (Q (head t h)) (K (head t h)) (C (head t h)) (tile (qt t) a) : EReal) :=
  after_stands (i := qt t) (h := h) (Q (head t h)) (K (head t h)) (W (head t h)) (C (head t h))
    (fun a d => (in0_0 V c t a h d).trans (H.q _ _ _)) (fun b d => (in0_1 V c t b h d).trans (H.k _ _ _))
    (fun b d => (in0_2 V c t b h d).trans (H.v _ _ _)) (fun a => (in0_3 V c t h a).trans (H.cq _ _))
    (fun j b => (in0_4 V c t h j b).trans (H.ck _ _ _)) a

/-- The output array: the attention's output. -/
theorem o_eq : (dat0 V c).arrAt 5 cfg0.N
    = fun i : S2048x1024.Idx => (out (Q (headOf (i 1))) (K (headOf (i 1))) (W (headOf (i 1))) (C (headOf (i 1))) (i 0) (laneOf (i 1)) : EReal) := by
  refine arr0_5 V c (fun n r d => (out (Q n) (K n) (W n) (C n) r d : EReal)) fun t _ a h d => ?_
  rw [after0_5]
  unfold outsAt0
  dsimp only
  exact (open5 (j := qt t) (hj := coord0 t) ..).trans ((H.stands t h a).1 d)

/-- The log-sum array. -/
theorem l_eq : (dat0 V c).arrAt 6 cfg0.N = fun i : S16x2048x1.Idx => (lse (Q (i 0)) (K (i 0)) (C (i 0)) (i 1) : EReal) := by
  refine arr0_6 V c (fun n r => (lse (Q n) (K n) (C n) r : EReal)) fun t _ h a => ?_
  rw [after0_6]
  unfold outsAt0
  dsimp only
  exact (open6 (j := qt t) (hj := coord0 t) ..).trans (H.stands t h a).2

end Reads

/-! ## The second call -/

namespace Reads'
variable (H : Reads' V c Q K W G C)
include H

theorem holds (t : Fin cfg1.N) (h : Fin 2) : Holds (Q (head t h)) (K (head t h)) (W (head t h)) (G (head t h)) (C (head t h))
    (iblk1 V c 0 t) (iblk1 V c 1 t) (iblk1 V c 2 t) (iblk1 V c 3 t) (iblk1 V c 4 t) (iblk1 V c 5 t) (iblk1 V c 6 t) (iblk1 V c 7 t) (qt t) h where
  q a d := (in1_0 V c t a h d).trans (H.q _ _ _)
  k b d := (in1_1 V c t b h d).trans (H.k _ _ _)
  v b d := (in1_2 V c t b h d).trans (H.v _ _ _)
  cq a := (in1_3 V c t h a).trans (H.cq _ _)
  ck j b := (in1_4 V c t h j b).trans (H.ck _ _ _)
  o a d := (in1_5 V c t a h d).trans (H.o _ _ _)
  l a := (in1_6 V c t h a).trans (H.l _ _)
  g a d := (in1_7 V c t a h d).trans (H.g _ _ _)

omit H in
theorem qt_even {t : Fin cfg1.N} (h0 : t.val % 2 = 0) : qt t = 0 := Fin.ext h0
omit H in
theorem qt_odd {t : Fin cfg1.N} (h0 : ¬ t.val % 2 = 0) : qt t = 1 := Fin.ext (by show t.val % 2 = 1; omega)

theorem holds0 {t : Fin cfg1.N} (h0 : t.val % 2 = 0) (h : Fin 2) : Holds (Q (head t h)) (K (head t h)) (W (head t h)) (G (head t h)) (C (head t h))
    (iblk1 V c 0 t) (iblk1 V c 1 t) (iblk1 V c 2 t) (iblk1 V c 3 t) (iblk1 V c 4 t) (iblk1 V c 5 t) (iblk1 V c 6 t) (iblk1 V c 7 t) 0 h := by
  have e := H.holds t h
  rwa [qt_even h0] at e
theorem holds1 {t : Fin cfg1.N} (h0 : ¬ t.val % 2 = 0) (h : Fin 2) : Holds (Q (head t h)) (K (head t h)) (W (head t h)) (G (head t h)) (C (head t h))
    (iblk1 V c 0 t) (iblk1 V c 1 t) (iblk1 V c 2 t) (iblk1 V c 3 t) (iblk1 V c 4 t) (iblk1 V c 5 t) (iblk1 V c 6 t) (iblk1 V c 7 t) 1 h := by
  have e := H.holds t h
  rwa [qt_odd h0] at e

omit H in
theorem odd_coord {t : Fin cfg1.N} (h0 : ¬ t.val % 2 = 0) : (grid1.coords t 1).val = 1 := (coord1 t).trans (by omega)

omit H in
/-- The pair of heads' rows, one head's rows taken. -/
theorem pick {α : Sort*} (f : Fin 2 → α) (h : Fin 2) : (if h = 0 then f 0 else f 1) = f h := by
  have hh : h = 0 ∨ h = 1 := by omega
  rcases hh with rfl | rfl
  · exact if_pos rfl
  · exact if_neg n10

/-- The queries' gradient. -/
theorem dq_eq : (dat1 V c).arrAt 8 cfg1.N = fun i : S2048x1024.Idx =>
    (dq (Q (headOf (i 1))) (K (headOf (i 1))) (W (headOf (i 1))) (G (headOf (i 1))) (C (headOf (i 1))) (i 0) (laneOf (i 1)) : EReal) := by
  refine arr1_8 V c (fun n r d => (dq (Q n) (K n) (W n) (G n) (C n) r d : EReal)) fun t _ a h d => ?_
  rw [after1_8]
  by_cases h0 : t.val % 2 = 0
  · rw [outsAt1_A V c t h0]
    dsimp only
    rw [open8A (hz := (coord1 t).trans h0), read_scale, pick (fun h => bwdQ (iblk1 V c 0 t) (iblk1 V c 1 t) (iblk1 V c 2 t) (iblk1 V c 3 t) (iblk1 V c 4 t) (iblk1 V c 5 t) (iblk1 V c 6 t) (iblk1 V c 7 t) 0 h) h,
      (H.holds0 h0 h).bwdQ_eq, qt_even h0]
  · rw [outsAt1_B V c t h0]
    dsimp only
    rw [open8B (ho := odd_coord h0), read_scale, pick (fun h => bwdQ (iblk1 V c 0 t) (iblk1 V c 1 t) (iblk1 V c 2 t) (iblk1 V c 3 t) (iblk1 V c 4 t) (iblk1 V c 5 t) (iblk1 V c 6 t) (iblk1 V c 7 t) 1 h) h,
      (H.holds1 h0 h).bwdQ_eq, qt_odd h0]

/-- The query gates' gradient. -/
theorem dcq_eq : (dat1 V c).arrAt 11 cfg1.N = fun i : S16x2048x1.Idx => (dcq (Q (i 0)) (K (i 0)) (W (i 0)) (G (i 0)) (C (i 0)) (i 1) : EReal) := by
  refine arr1_11 V c (fun n r => (dcq (Q n) (K n) (W n) (G n) (C n) r : EReal)) fun t _ h a => ?_
  rw [after1_11]
  by_cases h0 : t.val % 2 = 0
  · rw [outsAt1_A V c t h0]
    dsimp only
    rw [open11A (hz := (coord1 t).trans h0), read_col, (H.holds0 h0 h).bwdC_eq, qt_even h0]
  · rw [outsAt1_B V c t h0]
    dsimp only
    rw [open11B (ho := odd_coord h0), read_col, (H.holds1 h0 h).bwdC_eq, qt_odd h0]

/-! The keys', values' and key gates' gradients: added up over the two query tiles of a pair of heads. -/

omit H in
theorem exists_tile (r : Fin 2048) : ∃ (j : Fin 2) (b : Fin 1024), r = tile j b :=
  ⟨⟨r.val / 1024, by omega⟩, ⟨r.val % 1024, by omega⟩, Fin.ext (by show r.val = 1024 * (r.val / 1024) + r.val % 1024; omega)⟩

/-- After query tile 0: its own key tile's share, and nothing at the other key tile. -/
theorem even_k {t : Fin cfg1.N} (h0 : t.val % 2 = 0) (h : Fin 2) (b : Fin 1024) (d : Fin 64) :
    (outsAt1 V c t.val t.isLt).2.1 (ix2 (tile 0 b) (lane h d))
        = ((∑ a, ds (Q (head t h)) (K (head t h)) (W (head t h)) (G (head t h)) (C (head t h)) (tile 0 a) (tile 0 b) * (Q (head t h) (tile 0 a) d * (1 / 8)) : ℝ) : EReal)
      ∧ (outsAt1 V c t.val t.isLt).2.1 (ix2 (tile 1 b) (lane h d)) = 0 := by
  show wide (outsAt1 V c t.val t.isLt).2.1 0 (ix2 b (lane h d)) = _ ∧ wide (outsAt1 V c t.val t.isLt).2.1 1 (ix2 b (lane h d)) = _
  rw [outsAt1_A V c t h0]
  dsimp only
  constructor
  · rw [(open9A (hz := (coord1 t).trans h0) ..).1, (H.holds0 h0 h).bwdKD_eq]
    show k1_pay34 (F := Ideal) _ + _ = _
    rw [read_zero_k, zero_add]
  · rw [(open9A (hz := (coord1 t).trans h0) ..).2]
    exact read_zero_k _

theorem even_v {t : Fin cfg1.N} (h0 : t.val % 2 = 0) (h : Fin 2) (b : Fin 1024) (d : Fin 64) :
    (outsAt1 V c t.val t.isLt).2.2.1 (ix2 (tile 0 b) (lane h d))
        = ((∑ a, prob (Q (head t h)) (K (head t h)) (C (head t h)) (tile 0 a) (tile 0 b) * G (head t h) (tile 0 a) d : ℝ) : EReal)
      ∧ (outsAt1 V c t.val t.isLt).2.2.1 (ix2 (tile 1 b) (lane h d)) = 0 := by
  show wide (outsAt1 V c t.val t.isLt).2.2.1 0 (ix2 b (lane h d)) = _ ∧ wide (outsAt1 V c t.val t.isLt).2.2.1 1 (ix2 b (lane h d)) = _
  rw [outsAt1_A V c t h0]
  dsimp only
  constructor
  · rw [(open10A (hz := (coord1 t).trans h0) ..).1, (H.holds0 h0 h).bwdVD_eq]
    show k1_pay35 (F := Ideal) _ + _ = _
    rw [read_zero_v, zero_add]
  · rw [(open10A (hz := (coord1 t).trans h0) ..).2]
    exact read_zero_v _

theorem even_g {t : Fin cfg1.N} (h0 : t.val % 2 = 0) (h : Fin 2) (b : Fin 1024) :
    (outsAt1 V c t.val t.isLt).2.2.2.2 (ix4 h 0 0 b)
        = 0 - ((∑ a, ds (Q (head t h)) (K (head t h)) (W (head t h)) (G (head t h)) (C (head t h)) (tile 0 a) (tile 0 b) : ℝ) : EReal)
      ∧ (outsAt1 V c t.val t.isLt).2.2.2.2 (ix4 h 1 0 b) = 0 := by
  show kgate (outsAt1 V c t.val t.isLt).2.2.2.2 h 0 (ix4 0 0 0 b) = _ ∧ kgate (outsAt1 V c t.val t.isLt).2.2.2.2 h 1 (ix4 0 0 0 b) = _
  rw [outsAt1_A V c t h0]
  dsimp only
  constructor
  · rw [(open12A (hz := (coord1 t).trans h0) (h := h) ..).1, (H.holds0 h0 h).bwdGD_eq]
    show k1_pay36 (F := Ideal) _ - _ = _
    rw [read_zero_g]
  · rw [(open12A (hz := (coord1 t).trans h0) (h := h) ..).2]
    exact read_zero_g _

omit H in
/-- The point before an odd one is even and of the same pair of heads. -/
theorem prev {t : Fin cfg1.N} (h0 : ¬ t.val % 2 = 0) :
    ∃ s : Fin cfg1.N, s.val = t.val - 1 ∧ s.val % 2 = 0 ∧ ∀ h, head s h = head t h :=
  ⟨⟨t.val - 1, Nat.lt_of_le_of_lt (Nat.sub_le _ _) t.isLt⟩, rfl, by show (t.val - 1) % 2 = 0; omega,
    fun h => Fin.ext (by show 2 * ((t.val - 1) / 2) + h.val = 2 * (t.val / 2) + h.val; omega)⟩

/-- The keys' gradient. -/
theorem dk_eq : (dat1 V c).arrAt 9 cfg1.N = fun i : S2048x1024.Idx =>
    (dk (Q (headOf (i 1))) (K (headOf (i 1))) (W (headOf (i 1))) (G (headOf (i 1))) (C (headOf (i 1))) (i 0) (laneOf (i 1)) : EReal) := by
  refine arr1_9 V c (fun n r d => (dk (Q n) (K n) (W n) (G n) (C n) r d : EReal)) fun t hf r h d => ?_
  have h0 : ¬ t.val % 2 = 0 := by have := (flush1_9 t).mp hf; omega
  obtain ⟨s, es, hs, hh⟩ := prev h0
  obtain ⟨j, b, rfl⟩ := exists_tile r
  have ev := H.even_k hs h b d
  rw [hh h] at ev
  have hsv : outsAt1 V c s.val s.isLt = outsAt1 V c (t.val - 1) (Nat.lt_of_le_of_lt (Nat.sub_le _ _) t.isLt) := by congr 1
  rw [hsv] at ev
  rw [after1_9]
  have hj : j = 0 ∨ j = 1 := by omega
  rw [dk, sum_tile, EReal.coe_add]
  rcases hj with rfl | rfl
  · show wide (outsAt1 V c t.val t.isLt).2.1 0 (ix2 b (lane h d)) = _
    rw [outsAt1_B V c t h0]
    dsimp only
    rw [(open9B (ho := odd_coord h0) ..).1, (H.holds1 h0 h).bwdKL_eq]
    exact congrArg (· + _) ev.1
  · show wide (outsAt1 V c t.val t.isLt).2.1 1 (ix2 b (lane h d)) = _
    rw [outsAt1_B V c t h0]
    dsimp only
    rw [(open9B (ho := odd_coord h0) ..).2, (H.holds1 h0 h).bwdKD_eq]
    refine congrArg (· + _) (ev.2.trans ?_)
    rw [Finset.sum_eq_zero fun a _ => by rw [ds_of_not_le _ _ _ _ _ (not_tile_le_10 a b), zero_mul], EReal.coe_zero]

/-- The values' gradient. -/
theorem dv_eq : (dat1 V c).arrAt 10 cfg1.N = fun i : S2048x1024.Idx =>
    (dv (Q (headOf (i 1))) (K (headOf (i 1))) (G (headOf (i 1))) (C (headOf (i 1))) (i 0) (laneOf (i 1)) : EReal) := by
  refine arr1_10 V c (fun n r d => (dv (Q n) (K n) (G n) (C n) r d : EReal)) fun t hf r h d => ?_
  have h0 : ¬ t.val % 2 = 0 := by have := (flush1_10 t).mp hf; omega
  obtain ⟨s, es, hs, hh⟩ := prev h0
  obtain ⟨j, b, rfl⟩ := exists_tile r
  have ev := H.even_v hs h b d
  rw [hh h] at ev
  have hsv : outsAt1 V c s.val s.isLt = outsAt1 V c (t.val - 1) (Nat.lt_of_le_of_lt (Nat.sub_le _ _) t.isLt) := by congr 1
  rw [hsv] at ev
  rw [after1_10]
  have hj : j = 0 ∨ j = 1 := by omega
  rw [dv, sum_tile, EReal.coe_add]
  rcases hj with rfl | rfl
  · show wide (outsAt1 V c t.val t.isLt).2.2.1 0 (ix2 b (lane h d)) = _
    rw [outsAt1_B V c t h0]
    dsimp only
    rw [(open10B (ho := odd_coord h0) ..).1, (H.holds1 h0 h).bwdVL_eq]
    exact congrArg (· + _) ev.1
  · show wide (outsAt1 V c t.val t.isLt).2.2.1 1 (ix2 b (lane h d)) = _
    rw [outsAt1_B V c t h0]
    dsimp only
    rw [(open10B (ho := odd_coord h0) ..).2, (H.holds1 h0 h).bwdVD_eq]
    refine congrArg (· + _) (ev.2.trans ?_)
    rw [Finset.sum_eq_zero fun a _ => by rw [prob_of_not_le _ _ _ (not_tile_le_10 a b), zero_mul], EReal.coe_zero]

/-- The key gates' gradient. -/
theorem dck_eq : (dat1 V c).arrAt 12 cfg1.N = fun i : S16x2x1x1024.Idx =>
    (dck (Q (i 0)) (K (i 0)) (W (i 0)) (G (i 0)) (C (i 0)) (tile (i 1) (i 3)) : EReal) := by
  refine arr1_12 V c (fun n j b => (dck (Q n) (K n) (W n) (G n) (C n) (tile j b) : EReal)) fun t hf h j b => ?_
  have h0 : ¬ t.val % 2 = 0 := by have := (flush1_12 t).mp hf; omega
  obtain ⟨s, es, hs, hh⟩ := prev h0
  have ev := H.even_g hs h b
  rw [hh h] at ev
  have hsv : outsAt1 V c s.val s.isLt = outsAt1 V c (t.val - 1) (Nat.lt_of_le_of_lt (Nat.sub_le _ _) t.isLt) := by congr 1
  rw [hsv] at ev
  rw [after1_12]
  have hj : j = 0 ∨ j = 1 := by omega
  rw [dck, sum_tile]
  rcases hj with rfl | rfl
  · show kgate (outsAt1 V c t.val t.isLt).2.2.2.2 h 0 (ix4 0 0 0 b) = _
    rw [outsAt1_B V c t h0]
    dsimp only
    rw [(open12B (ho := odd_coord h0) (h := h) ..).1, (H.holds1 h0 h).bwdGL_eq]
    refine (congrArg (· - _) ev.1).trans ?_
    rw [← EReal.coe_zero, ← EReal.coe_sub, ← EReal.coe_sub]
    congr 1; ring
  · show kgate (outsAt1 V c t.val t.isLt).2.2.2.2 h 1 (ix4 0 0 0 b) = _
    rw [outsAt1_B V c t h0]
    dsimp only
    rw [(open12B (ho := odd_coord h0) (h := h) ..).2, (H.holds1 h0 h).bwdGD_eq]
    refine (congrArg (· - _) ev.2).trans ?_
    rw [← EReal.coe_zero, ← EReal.coe_sub, Finset.sum_eq_zero fun a (_ : a ∈ Finset.univ) => ds_of_not_le (Q (head t h)) (K (head t h)) (W (head t h)) (G (head t h)) (C (head t h)) (not_tile_le_10 a b)]
    congr 1; ring

end Reads'

end Cert.Fox

end
-- ==== Proof.Entry.lean ====
/- What the two calls of the program read, when the arguments hold real numbers: the first call the arguments and the two
   host copies of the gates, the second those and the first call's results. -/
module

public import proofs.«01_k».proof.Proof.Calls
public import Idealize.ShloMosaic.Lib.Claim

@[expose] public section

noncomputable section

namespace Cert.Fox

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

/-- The gates as the queries read them. -/
theorem gates_q (n : Fin 16) (r : Fin 2048) :
    V1 m ρ c main_v0 (ix3 n r 0) = m ((c : Thread nD τ).loc main_arg3) (ix2 n r) := by
  show StableHlo.after hostOps0 (W0 m ρ c) (Proc.devRef .tc main_v0) (ix3 n r 0) = _
  simp only [hostOps0]
  after_results
  pointwise

/-- The gates as the keys read them, tile by tile. -/
theorem gates_k (n : Fin 16) (j : Fin 2) (b : Fin 1024) :
    V1 m ρ c main_v1 (ix4 n j 0 b) = m ((c : Thread nD τ).loc main_arg3) (ix2 n (tile j b)) := by
  show StableHlo.after hostOps0 (W0 m ρ c) (Proc.devRef .tc main_v1) (ix4 n j 0 b) = _
  simp only [hostOps0]
  after_results
  exact shapeCast_apply (m ((c : Thread nD τ).loc main_arg3)) shapeCasts_S16x2048_S16x2x1x1024 (ix4 n j 0 b) (ix2 n (tile j b))
    (by show (S16x2048.rowMajor (ix2 n (tile j b))).val = _; rw [Shape.rowMajor_val_two, Shape.rowMajor_val_four]; show n.val * 2048 + (1024 * j.val + b.val) = ((n.val * 2 + j.val) * 1 + 0) * 1024 + b.val; omega)

variable {m ρ c} {Q K W G : Fin 16 → Fin 2048 → Fin 64 → ℝ} {C : Fin 16 → Fin 2048 → ℝ}
  (hq : ∀ n r d, m ((c : Thread nD τ).loc main_arg0) (ix2 r (col n d)) = (Q n r d : EReal))
  (hk : ∀ n r d, m ((c : Thread nD τ).loc main_arg1) (ix2 r (col n d)) = (K n r d : EReal))
  (hv : ∀ n r d, m ((c : Thread nD τ).loc main_arg2) (ix2 r (col n d)) = (W n r d : EReal))
  (hc : ∀ n r, m ((c : Thread nD τ).loc main_arg3) (ix2 n r) = (C n r : EReal))
  (hg : ∀ n r d, m ((c : Thread nD τ).loc main_arg4) (ix2 r (col n d)) = (G n r d : EReal))
include hq hk hv hc

theorem reads0 : Reads (V1 m ρ) c Q K W C where
  q n r d := (congrFun (W1_args m ρ c main_arg0 (by decide)) _).trans (hq n r d)
  k n r d := (congrFun (W1_args m ρ c main_arg1 (by decide)) _).trans (hk n r d)
  v n r d := (congrFun (W1_args m ρ c main_arg2 (by decide)) _).trans (hv n r d)
  cq n r := (gates_q m ρ c n r).trans (hc n r)
  ck n j b := (gates_k m ρ c n j b).trans (hc n (tile j b))

include hg

theorem reads1 : Reads' (V2 m ρ) c Q K W G C where
  q n r d := (congrFun (W2_args m ρ c main_arg0 (by decide)) _).trans (hq n r d)
  k n r d := (congrFun (W2_args m ρ c main_arg1 (by decide)) _).trans (hk n r d)
  v n r d := (congrFun (W2_args m ρ c main_arg2 (by decide)) _).trans (hv n r d)
  cq n r := (congrFun (W2_of m ρ c main_v0 (by decide +kernel)) _).trans ((gates_q m ρ c n r).trans (hc n r))
  ck n j b := (congrFun (W2_of m ρ c main_v1 (by decide +kernel)) _).trans ((gates_k m ρ c n j b).trans (hc n (tile j b)))
  o n r d := by
    refine (congrFun ((W2_arr m ρ c 5).trans (reads0 hq hk hv hc).o_eq) (ix2 r (col n d))).trans ?_
    show (out (Q (headOf (col n d))) (K (headOf (col n d))) (W (headOf (col n d))) (C (headOf (col n d))) r (laneOf (col n d)) : EReal) = _
    rw [headOf_col, laneOf_col]
  l n r := congrFun ((W2_arr m ρ c 6).trans (reads0 hq hk hv hc).l_eq) (ix3 n r 0)
  g n r d := (congrFun (W2_args m ρ c main_arg4 (by decide)) _).trans (hg n r d)

end Cert.Fox

end
-- ==== Proof.Run.lean ====
/- The run of the program, its results included: what each result array holds when the two calls are done. -/
module

public import proofs.«01_k».proof.Proof.Gen.KernelIdeal.Frame

@[expose] public section

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each array that the host can name as the second call leaves it. -/
theorem run_arrays : θ_run defs (onTc (τ := τ) (main (F := F))) ⟨m, fun _ => 0, ρ⟩
    (fun r => ∀ c : Dev nD, ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

/-- The first result is what the first call leaves, the others what the second call leaves, and the arguments end as
    they began. -/
theorem run_results : θ_run defs (onTc (τ := τ) (main (F := F))) ⟨m, fun _ => 0, ρ⟩ (fun r => ∀ c : Dev nD,
      r.2.mem ((c.tc : Thread nD τ).loc main_v2_0) = (dat0 (V1 m ρ) c).arrAt 5 cfg0.N
      ∧ r.2.mem ((c.tc : Thread nD τ).loc main_v3_0) = (dat1 (V2 m ρ) c).arrAt 8 cfg1.N
      ∧ r.2.mem ((c.tc : Thread nD τ).loc main_v3_1) = (dat1 (V2 m ρ) c).arrAt 9 cfg1.N
      ∧ r.2.mem ((c.tc : Thread nD τ).loc main_v3_2) = (dat1 (V2 m ρ) c).arrAt 10 cfg1.N
      ∧ r.2.mem ((c.tc : Thread nD τ).loc main_v3_3) = (dat1 (V2 m ρ) c).arrAt 11 cfg1.N
      ∧ r.2.mem ((c.tc : Thread nD τ).loc main_v3_4) = (dat1 (V2 m ρ) c).arrAt 12 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v2_0 (by decide))).trans ((W3_of m ρ c main_v2_0 (by decide +kernel)).trans (W2_arr m ρ c 5)),
     (h c _ (mem_uc main_v3_0 (by decide))).trans (W3_arr m ρ c 8),
     (h c _ (mem_uc main_v3_1 (by decide))).trans (W3_arr m ρ c 9),
     (h c _ (mem_uc main_v3_2 (by decide))).trans (W3_arr m ρ c 10),
     (h c _ (mem_uc main_v3_3 (by decide))).trans (W3_arr m ρ c 11),
     (h c _ (mem_uc main_v3_4 (by decide))).trans (W3_arr m ρ c 12),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_arrays m ρ)

end Cert.Fox

end
-- ==== Proof.RefFwd.lean ====
/- The reference's forward pass at real arguments: its scores, its weights, its probabilities and its output are those of
   one head's attention over the real numbers, for every head. -/
module

public import proofs.«01_k».proof.Proof.Gen.ReferenceIdeal.Read
public import proofs.«01_k».proof.Proof.Softmax
public import proofs.«01_k».proof.Proof.Arrays
public import proofs.«01_k».proof.Proof.Consts
public import Idealize.ShloMosaic.Lib.WordCmp

@[expose] public section

noncomputable section

namespace Cert.Fox

open Idealize.ShloMosaic Cert.ReferenceIdeal Cert.ReferenceIdeal.Gen Cert.ReferenceIdeal.Read

/-- A value read at a multi-index given by its coordinates. -/
theorem read2 {n0 n1 : ℕ} {α : Type} {f : (⟨2, ![n0, n1]⟩ : Shape).Idx → α} {v : α} {a : Fin n0} {b : Fin n1} (hf : f (ix2 a b) = v)
    {i : (⟨2, ![n0, n1]⟩ : Shape).Idx} (h0 : (i 0).val = a.val) (h1 : (i 1).val = b.val) : f i = v := by
  rw [← hf]
  exact congrArg f (funext fun x => match x with | ⟨0, _⟩ => Fin.ext h0 | ⟨1, _⟩ => Fin.ext h1)

theorem read3 {n0 n1 n2 : ℕ} {α : Type} {f : (⟨3, ![n0, n1, n2]⟩ : Shape).Idx → α} {v : α} {a : Fin n0} {b : Fin n1} {c : Fin n2} (hf : f (ix3 a b c) = v)
    {i : (⟨3, ![n0, n1, n2]⟩ : Shape).Idx} (h0 : (i 0).val = a.val) (h1 : (i 1).val = b.val) (h2 : (i 2).val = c.val) : f i = v := by
  rw [← hf]
  exact congrArg f (funext fun x => match x with | ⟨0, _⟩ => Fin.ext h0 | ⟨1, _⟩ => Fin.ext h1 | ⟨2, _⟩ => Fin.ext h2)

/-- A row and lane of head `n` in the layout by heads, as a position of the flat array. -/
theorem flat0 (n : Fin 16) (r : Fin 2048) (d : Fin 64) : ((r.val * 16 + n.val) * 64 + d.val) / 1024 = r.val := by omega
theorem flat1 (n : Fin 16) (r : Fin 2048) (d : Fin 64) : ((r.val * 16 + n.val) * 64 + d.val) % 1024 = (col n d).val := by
  show _ = 64 * n.val + d.val; omega
/-- A row and number as a position of the array with a unit axis. -/
theorem unit0 (n : Fin 16) (r : Fin 2048) : ((n.val * 2048 + r.val) * 1 + 0) / 2048 = n.val := by omega
theorem unit1 (n : Fin 16) (r : Fin 2048) : ((n.val * 2048 + r.val) * 1 + 0) % 2048 = r.val := by omega

theorem zero_bits : Ideal.ofBits .f32 0x00000000#32 = (0 : EReal) := by simp [Ideal.ofBits, Ideal.ieee]
theorem one_bits : Ideal.ofBits .f32 0x3F800000#32 = ((1 : ℝ) : EReal) := by
  simp [Ideal.ofBits, Ideal.ieee, -EReal.coe_mul]; norm_num

/-- A choice by `c ≤ r` of two of 2048 row numbers. -/
theorem select_rows {α : Type} (r c : Fin 2048) (x y : α) :
    Scalar.select (IntOp.cmpi .sge (BitVec.ofNat 32 r.val) (BitVec.ofNat 32 c.val)) x y = if c ≤ r then x else y := by
  rw [WordCmp.cmpi_sge_ofNat (by have := r.isLt; omega) (by have := c.isLt; omega)]
  by_cases h : c ≤ r
  · rw [if_pos h, decide_eq_true (show c.val ≤ r.val from h)]; rfl
  · rw [if_neg h, decide_eq_false (show ¬ c.val ≤ r.val from h)]; rfl

/-- The reference's arguments hold real numbers: queries, keys, values, gates and the output's gradient, by head. -/
structure Args (x0 x1 x2 : (⟨S2048x1024, .f32⟩ : BufTy).Contents (Elt Ideal)) (x3 : (⟨S16x2048, .f32⟩ : BufTy).Contents (Elt Ideal))
    (x4 : (⟨S2048x1024, .f32⟩ : BufTy).Contents (Elt Ideal)) (Q K W G : Fin 16 → Fin 2048 → Fin 64 → ℝ) (C : Fin 16 → Fin 2048 → ℝ) : Prop where
  q : ∀ n r d, x0 (ix2 r (col n d)) = (Q n r d : EReal)
  k : ∀ n r d, x1 (ix2 r (col n d)) = (K n r d : EReal)
  v : ∀ n r d, x2 (ix2 r (col n d)) = (W n r d : EReal)
  c : ∀ n r, x3 (ix2 n r) = (C n r : EReal)
  g : ∀ n r d, x4 (ix2 r (col n d)) = (G n r d : EReal)

variable {x0 x1 x2 : (⟨S2048x1024, .f32⟩ : BufTy).Contents (Elt Ideal)} {x3 : (⟨S16x2048, .f32⟩ : BufTy).Contents (Elt Ideal)}
  {x4 : (⟨S2048x1024, .f32⟩ : BufTy).Contents (Elt Ideal)} {Q K W G : Fin 16 → Fin 2048 → Fin 64 → ℝ} {C : Fin 16 → Fin 2048 → ℝ}
  (h : Args x0 x1 x2 x3 x4 Q K W G C)
include h

namespace Args

/-! The arguments by head. -/

theorem v1 (n : Fin 16) (r : Fin 2048) (d : Fin 64) : val_main_v1 (F := Ideal) x0 (ix3 n r d) = (Q n r d : EReal) :=
  (val_main_v1_apply ..).trans ((val_main_v0_apply ..).trans (read2 (h.q n r d) (flat0 n r d) (flat1 n r d)))

theorem v3 (n : Fin 16) (r : Fin 2048) (d : Fin 64) : val_main_v3 (F := Ideal) x1 (ix3 n r d) = (K n r d : EReal) :=
  (val_main_v3_apply ..).trans ((val_main_v2_apply ..).trans (read2 (h.k n r d) (flat0 n r d) (flat1 n r d)))

theorem v5 (n : Fin 16) (r : Fin 2048) (d : Fin 64) : val_main_v5 (F := Ideal) x2 (ix3 n r d) = (W n r d : EReal) :=
  (val_main_v5_apply ..).trans ((val_main_v4_apply ..).trans (read2 (h.v n r d) (flat0 n r d) (flat1 n r d)))

theorem v54 (n : Fin 16) (r : Fin 2048) (d : Fin 64) : val_main_v54 (F := Ideal) x4 (ix3 n r d) = (G n r d : EReal) :=
  (val_main_v54_apply ..).trans ((val_main_v53_apply ..).trans (read2 (h.g n r d) (flat0 n r d) (flat1 n r d)))

/-! The scores. -/

theorem v6 (n : Fin 16) (r c : Fin 2048) : val_main_v6 (F := Ideal) x0 x1 (ix3 n r c) = ((∑ d, Q n r d * K n c d : ℝ) : EReal) := by
  rw [coe_sum]
  refine (val_main_v6_apply ..).trans (Finset.sum_congr rfl fun d _ => ?_)
  rw [EReal.coe_mul]
  exact congrArg₂ (· * ·) (read3 (h.v1 n r d) rfl rfl rfl) (read3 (h.v3 n c d) rfl rfl rfl)

theorem v14 (n : Fin 16) (r c : Fin 2048) : val_main_v14 (F := Ideal) x0 x1 x3 (ix3 n r c) = (score (Q n) (K n) (C n) r c : EReal) := by
  have h7 : val_main_v7 (F := Ideal) (ix3 n r c) = ((1 / 8 : ℝ) : EReal) := (val_main_v7_apply ..).trans eighth
  have h10 : val_main_v10 (F := Ideal) x3 (ix3 n r c) = (C n r : EReal) :=
    (val_main_v10_apply ..).trans ((val_main_v9_apply ..).trans (read2 (h.c n r) rfl rfl))
  have h13 : val_main_v13 (F := Ideal) x3 (ix3 n r c) = (C n c : EReal) :=
    (val_main_v13_apply ..).trans ((val_main_v12_apply ..).trans (read2 (h.c n c) rfl rfl))
  have e : score (Q n) (K n) (C n) r c = (∑ d, Q n r d * K n c d) * (1 / 8) + C n r - C n c := by
    unfold score
    rw [Finset.sum_mul]
    congr 2
    exact Finset.sum_congr rfl fun d _ => by ring
  rw [val_main_v14_apply, val_main_v11_apply, val_main_v8_apply, h.v6, h7, h10, h13, e, EReal.coe_sub, EReal.coe_add, EReal.coe_mul]
  rfl

omit h in
theorem mask (n : Fin 16) (r c : Fin 2048) : val_main_v21_1 (F := Ideal) (ix3 n r c) = IntOp.cmpi .sge (BitVec.ofNat 32 r.val) (BitVec.ofNat 32 c.val) := by
  rw [val_main_v21_1_apply, val_main_v20_apply, val_main_v18_apply, val_main_v16_apply, val_main_v19_apply, val_main_v17_apply]
  rfl

theorem v21 (n : Fin 16) (r c : Fin 2048) :
    val_main_v21_0 (F := Ideal) x0 x1 x3 (ix3 n r c) = if c ≤ r then (score (Q n) (K n) (C n) r c : EReal) else ⊥ := by
  rw [val_main_v21_0_apply, mask, select_rows, h.v14, val_main_call0_v2_apply, val_main_call0_v0_apply, val_main_cst_0_apply]
  exact if_congr Iff.rfl rfl neg_inf

theorem isScore (n : Fin 16) (r c : Fin 2048) : IsScore (val_main_v21_0 (F := Ideal) x0 x1 x3 (ix3 n r c)) (wt (Q n) (K n) (C n) r c) := by
  rw [h.v21]
  by_cases hc : c ≤ r
  · rw [if_pos hc, wt_of_le _ _ _ hc]; exact .real _
  · rw [if_neg hc, wt_of_not_le _ _ _ hc]; exact .inl ⟨rfl, rfl⟩

/-- A row's maximum is a real number. -/
theorem v29 (n : Fin 16) (r : Fin 2048) : ∃ M : ℝ, val_main_v29 (F := Ideal) x0 x1 x3 (ix2 n r) = (M : EReal) := by
  have hd : val_main_v21_0 (F := Ideal) x0 x1 x3 (ix3 n r r) ≠ ⊥ := by
    rw [h.v21, if_pos le_rfl]; exact EReal.coe_ne_bot _
  obtain ⟨M, hM⟩ := max_fold_real (m := ⊥) bot_ne_top (fun c => h.isScore n r c) (k₀ := r) hd
  refine ⟨M, ?_⟩
  rw [← hM, val_main_v29_apply, val_main_v28_apply]
  refine congrArg₂ max neg_inf ?_
  unfold val_main_v22
  generalize val_main_v21_0 (F := Ideal) x0 x1 x3 = y
  rw [Host.reduce_eq_fold_single _ _ _ _ (by decide)]
  show Finset.fold max (Ideal.ofBits .f32 0xFF800000#32) _ _ = _
  rw [neg_inf]
  refine Finset.fold_congr fun c _ => ?_
  exact congrArg y (funext fun a => Fin.ext (by match a with | ⟨0, _⟩ => rfl | ⟨1, _⟩ => rfl | ⟨2, _⟩ => rfl))

/-! With a row's maximum `M`: the exponentials, their sum and the probabilities. -/

variable {n : Fin 16} {r : Fin 2048} {M : ℝ} (hM : val_main_v29 (F := Ideal) x0 x1 x3 (ix2 n r) = (M : EReal))
include hM

theorem v42 (c : Fin 2048) : val_main_v42 (F := Ideal) x0 x1 x3 (ix3 n r c) = ((Real.exp (-M) * wt (Q n) (K n) (C n) r c : ℝ) : EReal) := by
  have h40 : val_main_v40 (F := Ideal) x0 x1 x3 (ix3 n r c) = (M : EReal) :=
    (val_main_v40_apply ..).trans ((val_main_v39_apply ..).trans (read2 hM rfl rfl))
  rw [val_main_v42_apply, val_main_v41_apply, h40]
  exact (h.isScore n r c).exp_sub M

theorem v43 : val_main_v43 (F := Ideal) x0 x1 x3 (ix2 n r) = ((Real.exp (-M) * tot (Q n) (K n) (C n) r : ℝ) : EReal) := by
  rw [val_main_v43_apply, val_main_cst_9_apply, tot, Finset.mul_sum, coe_sum]
  refine (congrArg₂ (· + ·) zero_bits (Finset.sum_congr rfl fun c _ => read3 (h.v42 hM c) rfl rfl rfl)).trans (zero_add _)

theorem v44 : val_main_v44 (F := Ideal) x0 x1 x3 (ix3 n r 0) = ((Real.exp (-M) * tot (Q n) (K n) (C n) r : ℝ) : EReal) :=
  (val_main_v44_apply ..).trans (read2 (h.v43 hM) rfl rfl)

omit h hM in
theorem ne0 : Real.exp (-M) * tot (Q n) (K n) (C n) r ≠ 0 := (mul_pos (Real.exp_pos _) (tot_pos _ _ _ _)).ne'

omit hM in
/-- The probabilities. -/
theorem v46 (n : Fin 16) (r c : Fin 2048) : val_main_v46 (F := Ideal) x0 x1 x3 (ix3 n r c) = (prob (Q n) (K n) (C n) r c : EReal) := by
  obtain ⟨M, hM⟩ := h.v29 n r
  have h45 : val_main_v45 (F := Ideal) x0 x1 x3 (ix3 n r c) = ((Real.exp (-M) * tot (Q n) (K n) (C n) r : ℝ) : EReal) :=
    (val_main_v45_apply ..).trans (read3 (h.v44 hM) rfl rfl rfl)
  rw [val_main_v46_apply, h45, h.v42 hM, Ideal.hostDivf_def, Ideal.div_coe ne0, ← EReal.coe_mul]
  refine congrArg Real.toEReal ?_
  have := (tot_pos (Q n) (K n) (C n) r).ne'
  have := (Real.exp_pos (-M)).ne'
  unfold prob
  field_simp

omit hM in
/-- The output, by head. -/
theorem v50 (n : Fin 16) (r : Fin 2048) (d : Fin 64) : val_main_v50 (F := Ideal) x0 x1 x2 x3 (ix3 n r d) = (out (Q n) (K n) (W n) (C n) r d : EReal) := by
  have e : out (Q n) (K n) (W n) (C n) r d = ∑ c, prob (Q n) (K n) (C n) r c * W n c d := by
    unfold out prob
    rw [Finset.sum_div]
    exact Finset.sum_congr rfl fun c _ => by ring
  rw [e, coe_sum]
  refine (val_main_v50_apply ..).trans (Finset.sum_congr rfl fun c _ => ?_)
  rw [EReal.coe_mul]
  exact congrArg₂ (· * ·) (read3 (h.v46 n r c) rfl rfl rfl) (read3 (h.v5 n c d) rfl rfl rfl)

omit h hM in
/-- A position of a flat array, by head. -/
theorem heads0 (r : Fin 2048) (l : Fin 1024) : (r.val * 1024 + l.val) / 1024 = r.val := by omega
omit h hM in
theorem heads1 (r : Fin 2048) (l : Fin 1024) : (r.val * 1024 + l.val) / 64 % 16 = (headOf l).val := by
  show _ = l.val / 64; omega
omit h hM in
theorem heads2 (r : Fin 2048) (l : Fin 1024) : (r.val * 1024 + l.val) % 64 = (laneOf l).val := by
  show _ = l.val % 64; omega

omit hM in
/-- The reference's output. -/
theorem o_eq : val_main_v52 (F := Ideal) x0 x1 x2 x3
    = fun i : S2048x1024.Idx => (out (Q (headOf (i 1))) (K (headOf (i 1))) (W (headOf (i 1))) (C (headOf (i 1))) (i 0) (laneOf (i 1)) : EReal) :=
  funext fun i => (val_main_v52_apply ..).trans ((val_main_v51_apply ..).trans
    (read3 (h.v50 (headOf (i 1)) (i 0) (laneOf (i 1))) (heads1 (i 0) (i 1)) (heads0 (i 0) (i 1)) (heads2 (i 0) (i 1))))

end Args

end Cert.Fox

end
-- ==== Proof.RefBwd.lean ====
/- The reference's backward pass at real arguments: the gradients it computes are those of one head's attention over the
   real numbers, for every head. -/
module

public import proofs.«01_k».proof.Proof.RefFwd

@[expose] public section

noncomputable section

namespace Cert.Fox

open Idealize.ShloMosaic Cert.ReferenceIdeal Cert.ReferenceIdeal.Gen Cert.ReferenceIdeal.Read

/-- The row sum that the softmax's gradient subtracts, over the keys. -/
theorem delta_eq (Q K V G : Fin 2048 → Fin 64 → ℝ) (C : Fin 2048 → ℝ) (r : Fin 2048) :
    delta Q K V G C r = ∑ c, dprob V G r c * prob Q K C r c := by
  unfold delta dprob out prob
  simp_rw [Finset.sum_div, Finset.mul_sum, Finset.sum_mul]
  rw [Finset.sum_comm]
  exact Finset.sum_congr rfl fun c _ => Finset.sum_congr rfl fun d _ => by ring

/-- The gradient of a score, from the exponentials `E * w` of the row and their sum `E * t`. -/
theorem ds_eq (Q K V G : Fin 2048 → Fin 64 → ℝ) (C : Fin 2048 → ℝ) (r c : Fin 2048) {E : ℝ} (hE : E ≠ 0) :
    (dprob V G r c * (1 / (E * tot Q K C r))
        + -∑ k, dprob V G r k * (1 * (1 / (E * tot Q K C r * (E * tot Q K C r)))) * (E * wt Q K C r k)) * (E * wt Q K C r c)
      = ds Q K V G C r c := by
  have ht := (tot_pos Q K C r).ne'
  have e : ∑ k, dprob V G r k * (1 * (1 / (E * tot Q K C r * (E * tot Q K C r)))) * (E * wt Q K C r k)
      = delta Q K V G C r * (1 / (E * tot Q K C r)) := by
    rw [delta_eq, Finset.sum_mul]
    refine Finset.sum_congr rfl fun k _ => ?_
    unfold prob
    field_simp
  rw [e, ds, prob]
  field_simp
  ring

variable {x0 x1 x2 : (⟨S2048x1024, .f32⟩ : BufTy).Contents (Elt Ideal)} {x3 : (⟨S16x2048, .f32⟩ : BufTy).Contents (Elt Ideal)}
  {x4 : (⟨S2048x1024, .f32⟩ : BufTy).Contents (Elt Ideal)} {Q K W G : Fin 16 → Fin 2048 → Fin 64 → ℝ} {C : Fin 16 → Fin 2048 → ℝ}
  (h : Args x0 x1 x2 x3 x4 Q K W G C)
include h

namespace Args

/-- The gradient of the probabilities. -/
theorem v57 (n : Fin 16) (r c : Fin 2048) : val_main_v57 (F := Ideal) x2 x4 (ix3 n r c) = (dprob (W n) (G n) r c : EReal) := by
  rw [dprob, coe_sum]
  refine (val_main_v57_apply ..).trans (Finset.sum_congr rfl fun d _ => ?_)
  rw [EReal.coe_mul]
  exact congrArg₂ (· * ·) (read3 (h.v54 n r d) rfl rfl rfl) (read3 (h.v5 n c d) rfl rfl rfl)

section
variable {n : Fin 16} {r : Fin 2048} {M : ℝ} (hM : val_main_v29 (F := Ideal) x0 x1 x3 (ix2 n r) = (M : EReal))
include hM

theorem v49 : val_main_v49 (F := Ideal) x0 x1 x3 (ix3 n r 0)
    = ((1 * (1 / (Real.exp (-M) * tot (Q n) (K n) (C n) r * (Real.exp (-M) * tot (Q n) (K n) (C n) r))) : ℝ) : EReal) := by
  rw [val_main_v49_apply, val_main_v47_apply, h.v44 hM, Ideal.hostDivf_def, Ideal.mulf_def, ← EReal.coe_mul,
    Ideal.div_coe (mul_ne_zero ne0 ne0), val_main_v48_apply, val_main_cst_10_apply, Ideal.ofBits_def, one_bits, ← EReal.coe_mul]

theorem v60 (c : Fin 2048) : val_main_v60 (F := Ideal) x0 x1 x2 x3 x4 (ix3 n r c)
    = ((dprob (W n) (G n) r c * (1 * (1 / (Real.exp (-M) * tot (Q n) (K n) (C n) r * (Real.exp (-M) * tot (Q n) (K n) (C n) r))))
        * (Real.exp (-M) * wt (Q n) (K n) (C n) r c) : ℝ) : EReal) := by
  rw [val_main_v60_apply, val_main_v59_apply, h.v42 hM, h.v57, (val_main_v58_apply ..).trans (read3 (h.v49 hM) rfl rfl rfl),
    Ideal.mulf_def, Ideal.mulf_def, ← EReal.coe_mul, ← EReal.coe_mul]

theorem v67 (c : Fin 2048) : val_main_v67 (F := Ideal) x0 x1 x2 x3 x4 (ix3 n r c)
    = ((-∑ k, dprob (W n) (G n) r k * (1 * (1 / (Real.exp (-M) * tot (Q n) (K n) (C n) r * (Real.exp (-M) * tot (Q n) (K n) (C n) r))))
        * (Real.exp (-M) * wt (Q n) (K n) (C n) r k) : ℝ) : EReal) := by
  have h61 : val_main_v61 (F := Ideal) x0 x1 x2 x3 x4 (ix2 n r)
      = ((∑ k, dprob (W n) (G n) r k * (1 * (1 / (Real.exp (-M) * tot (Q n) (K n) (C n) r * (Real.exp (-M) * tot (Q n) (K n) (C n) r))))
        * (Real.exp (-M) * wt (Q n) (K n) (C n) r k) : ℝ) : EReal) := by
    rw [coe_sum]
    exact (val_main_v61_apply ..).trans ((congrArg₂ (· + ·) zero_bits (Finset.sum_congr rfl fun k _ => read3 (h.v60 hM k) rfl rfl rfl)).trans (zero_add _))
  have h62 : val_main_v62 (F := Ideal) x0 x1 x2 x3 x4 (ix3 n r 0) = _ :=
    (val_main_v62_apply ..).trans (read2 h61 (unit0 n r) (unit1 n r))
  have h66 : val_main_v66 (F := Ideal) x0 x1 x2 x3 x4 (ix2 n r) = val_main_v63 (F := Ideal) x0 x1 x2 x3 x4 (ix3 n r 0) :=
    (val_main_v66_apply ..).trans ((congrArg₂ (· + ·) zero_bits
      ((Fin.sum_univ_one _).trans (read3 (f := val_main_v63 (F := Ideal) x0 x1 x2 x3 x4) (a := n) (b := r) (c := 0) rfl rfl rfl rfl))).trans (zero_add _))
  rw [EReal.coe_neg, ← h62]
  exact (val_main_v67_apply ..).trans (read2 h66 rfl rfl)

theorem v69 (c : Fin 2048) : val_main_v69 (F := Ideal) x0 x1 x2 x3 x4 (ix3 n r c) = (ds (Q n) (K n) (W n) (G n) (C n) r c : EReal) := by
  rw [val_main_v69_apply, val_main_v68_apply, val_main_v65_apply, h.v67 hM, h.v42 hM, h.v57,
    (val_main_v64_apply ..).trans (read3 (h.v44 hM) rfl rfl rfl), Ideal.hostDivf_def, Ideal.div_coe ne0, Ideal.addf_def, Ideal.mulf_def,
    ← EReal.coe_mul, ← EReal.coe_add, ← EReal.coe_mul, ds_eq _ _ _ _ _ _ _ (Real.exp_pos _).ne']

end

/-- The gradient of the scores. -/
theorem v70 (n : Fin 16) (r c : Fin 2048) :
    val_main_v70 (F := Ideal) x0 x1 x2 x3 x4 (ix3 n r c) = (ds (Q n) (K n) (W n) (G n) (C n) r c : EReal) := by
  obtain ⟨M, hM⟩ := h.v29 n r
  rw [val_main_v70_apply, mask, select_rows, h.v69 hM, val_main_call1_v0_apply, val_main_call1_cst_apply]
  by_cases hc : c ≤ r
  · rw [if_pos hc]
  · rw [if_neg hc, ds_of_not_le _ _ _ _ _ hc]; exact zero_bits

theorem v79 (n : Fin 16) (r c : Fin 2048) :
    val_main_v79 (F := Ideal) x0 x1 x2 x3 x4 (ix3 n r c) = ((ds (Q n) (K n) (W n) (G n) (C n) r c * (1 / 8) : ℝ) : EReal) := by
  rw [val_main_v79_apply, h.v70, val_main_v78_apply, val_main_cst_17_apply, Ideal.ofBits_def, eighth, Ideal.mulf_def, ← EReal.coe_mul]

theorem v81 (n : Fin 16) (r : Fin 2048) (d : Fin 64) :
    val_main_v81 (F := Ideal) x0 x1 x2 x3 x4 (ix3 n r d) = (dq (Q n) (K n) (W n) (G n) (C n) r d : EReal) := by
  have e : dq (Q n) (K n) (W n) (G n) (C n) r d = ∑ c, ds (Q n) (K n) (W n) (G n) (C n) r c * (1 / 8) * K n c d := by
    unfold dq
    rw [Finset.sum_mul]
    exact Finset.sum_congr rfl fun c _ => by ring
  rw [e, coe_sum]
  refine (val_main_v81_apply ..).trans (Finset.sum_congr rfl fun c _ => ?_)
  rw [EReal.coe_mul]
  exact congrArg₂ (· * ·) (read3 (h.v79 n r c) rfl rfl rfl) (read3 (h.v3 n c d) rfl rfl rfl)

theorem v80 (n : Fin 16) (c : Fin 2048) (d : Fin 64) :
    val_main_v80 (F := Ideal) x0 x1 x2 x3 x4 (ix3 n c d) = (dk (Q n) (K n) (W n) (G n) (C n) c d : EReal) := by
  have e : dk (Q n) (K n) (W n) (G n) (C n) c d = ∑ r, ds (Q n) (K n) (W n) (G n) (C n) r c * (1 / 8) * Q n r d := by
    unfold dk
    exact Finset.sum_congr rfl fun c _ => by ring
  rw [e, coe_sum]
  refine (val_main_v80_apply ..).trans (Finset.sum_congr rfl fun r _ => ?_)
  rw [EReal.coe_mul]
  exact congrArg₂ (· * ·) (read3 (h.v79 n r c) rfl rfl rfl) (read3 (h.v1 n r d) rfl rfl rfl)

theorem v56 (n : Fin 16) (c : Fin 2048) (d : Fin 64) :
    val_main_v56 (F := Ideal) x0 x1 x3 x4 (ix3 n c d) = (dv (Q n) (K n) (G n) (C n) c d : EReal) := by
  have h55 : val_main_v55 (F := Ideal) x0 x1 x3 x4 (ix3 n d c) = (dv (Q n) (K n) (G n) (C n) c d : EReal) := by
    rw [dv, coe_sum]
    refine (val_main_v55_apply ..).trans (Finset.sum_congr rfl fun r _ => ?_)
    rw [mul_comm (prob _ _ _ _ _), EReal.coe_mul]
    exact congrArg₂ (· * ·) (read3 (h.v54 n r d) rfl rfl rfl) (read3 (h.v46 n r c) rfl rfl rfl)
  exact (val_main_v56_apply ..).trans (read3 h55 rfl rfl rfl)

/-! The results. -/

theorem dq_eq : val_main_v87 (F := Ideal) x0 x1 x2 x3 x4
    = fun i : S2048x1024.Idx => (dq (Q (headOf (i 1))) (K (headOf (i 1))) (W (headOf (i 1))) (G (headOf (i 1))) (C (headOf (i 1))) (i 0) (laneOf (i 1)) : EReal) :=
  funext fun i => (val_main_v87_apply ..).trans ((val_main_v86_apply ..).trans
    (read3 (h.v81 (headOf (i 1)) (i 0) (laneOf (i 1))) (heads1 (i 0) (i 1)) (heads0 (i 0) (i 1)) (heads2 (i 0) (i 1))))

theorem dk_eq : val_main_v85 (F := Ideal) x0 x1 x2 x3 x4
    = fun i : S2048x1024.Idx => (dk (Q (headOf (i 1))) (K (headOf (i 1))) (W (headOf (i 1))) (G (headOf (i 1))) (C (headOf (i 1))) (i 0) (laneOf (i 1)) : EReal) :=
  funext fun i => (val_main_v85_apply ..).trans ((val_main_v84_apply ..).trans
    (read3 (h.v80 (headOf (i 1)) (i 0) (laneOf (i 1))) (heads1 (i 0) (i 1)) (heads0 (i 0) (i 1)) (heads2 (i 0) (i 1))))

theorem dv_eq : val_main_v83 (F := Ideal) x0 x1 x3 x4
    = fun i : S2048x1024.Idx => (dv (Q (headOf (i 1))) (K (headOf (i 1))) (G (headOf (i 1))) (C (headOf (i 1))) (i 0) (laneOf (i 1)) : EReal) :=
  funext fun i => (val_main_v83_apply ..).trans ((val_main_v82_apply ..).trans
    (read3 (h.v56 (headOf (i 1)) (i 0) (laneOf (i 1))) (heads1 (i 0) (i 1)) (heads0 (i 0) (i 1)) (heads2 (i 0) (i 1))))

theorem v77 (n : Fin 16) (r : Fin 2048) : val_main_v77 (F := Ideal) x0 x1 x2 x3 x4 (ix2 n r) = (dcq (Q n) (K n) (W n) (G n) (C n) r : EReal) := by
  have h75 : val_main_v75 (F := Ideal) x0 x1 x2 x3 x4 (ix2 n r) = (dcq (Q n) (K n) (W n) (G n) (C n) r : EReal) := by
    rw [dcq, coe_sum]
    exact (val_main_v75_apply ..).trans ((congrArg₂ (· + ·) zero_bits (Finset.sum_congr rfl fun k _ => read3 (h.v70 n r k) rfl rfl rfl)).trans (zero_add _))
  have h76 : val_main_v76 (F := Ideal) x0 x1 x2 x3 x4 (ix3 n r 0) = (dcq (Q n) (K n) (W n) (G n) (C n) r : EReal) :=
    (val_main_v76_apply ..).trans (read2 h75 (unit0 n r) (unit1 n r))
  exact (val_main_v77_apply ..).trans ((congrArg₂ (· + ·) zero_bits ((Fin.sum_univ_one _).trans (read3 h76 rfl rfl rfl))).trans (zero_add _))

theorem v74 (n : Fin 16) (c : Fin 2048) : val_main_v74 (F := Ideal) x0 x1 x2 x3 x4 (ix2 n c) = (dck (Q n) (K n) (W n) (G n) (C n) c : EReal) := by
  have h72 : val_main_v72 (F := Ideal) x0 x1 x2 x3 x4 (ix2 n c) = (dck (Q n) (K n) (W n) (G n) (C n) c : EReal) := by
    have h71 : ∀ r, val_main_v71 (F := Ideal) x0 x1 x2 x3 x4 (ix3 n r c) = ((-ds (Q n) (K n) (W n) (G n) (C n) r c : ℝ) : EReal) := fun r => by
      rw [val_main_v71_apply, h.v70, EReal.coe_neg]; rfl
    rw [dck, ← Finset.sum_neg_distrib, coe_sum]
    exact (val_main_v72_apply ..).trans ((congrArg₂ (· + ·) zero_bits (Finset.sum_congr rfl fun k _ => read3 (h71 k) rfl rfl rfl)).trans (zero_add _))
  have h73 : val_main_v73 (F := Ideal) x0 x1 x2 x3 x4 (ix3 n 0 c) = (dck (Q n) (K n) (W n) (G n) (C n) c : EReal) :=
    (val_main_v73_apply ..).trans (read2 h72 (by show ((n.val * 1 + 0) * 2048 + c.val) / 2048 = n.val; omega)
      (by show ((n.val * 1 + 0) * 2048 + c.val) % 2048 = c.val; omega))
  exact (val_main_v74_apply ..).trans ((congrArg₂ (· + ·) zero_bits ((Fin.sum_univ_one _).trans (read3 h73 rfl rfl rfl))).trans (zero_add _))

theorem dcq_eq : val_main_v88 (F := Ideal) x0 x1 x2 x3 x4
    = fun i : S16x2048x1.Idx => (dcq (Q (i 0)) (K (i 0)) (W (i 0)) (G (i 0)) (C (i 0)) (i 1) : EReal) :=
  funext fun i => (val_main_v88_apply ..).trans (read2 (h.v77 (i 0) (i 1))
    (by have h0 : (i 0).val < 16 := (i 0).isLt; have h1 : (i 1).val < 2048 := (i 1).isLt; have h2 : (i 2).val < 1 := (i 2).isLt
        show (((i 0).val * 2048 + (i 1).val) * 1 + (i 2).val) / 2048 = (i 0).val; omega)
    (by have h0 : (i 0).val < 16 := (i 0).isLt; have h1 : (i 1).val < 2048 := (i 1).isLt; have h2 : (i 2).val < 1 := (i 2).isLt
        show (((i 0).val * 2048 + (i 1).val) * 1 + (i 2).val) % 2048 = (i 1).val; omega))

theorem dck_eq : val_main_v89 (F := Ideal) x0 x1 x2 x3 x4
    = fun i : S16x2x1x1024.Idx => (dck (Q (i 0)) (K (i 0)) (W (i 0)) (G (i 0)) (C (i 0)) (tile (i 1) (i 3)) : EReal) :=
  funext fun i => (val_main_v89_apply ..).trans (read2 (h.v74 (i 0) (tile (i 1) (i 3)))
    (by have h0 : (i 0).val < 16 := (i 0).isLt; have h1 : (i 1).val < 2 := (i 1).isLt; have h2 : (i 2).val < 1 := (i 2).isLt; have h3 : (i 3).val < 1024 := (i 3).isLt
        show ((((i 0).val * 2 + (i 1).val) * 1 + (i 2).val) * 1024 + (i 3).val) / 2048 = (i 0).val; omega)
    (by have h0 : (i 0).val < 16 := (i 0).isLt; have h1 : (i 1).val < 2 := (i 1).isLt; have h2 : (i 2).val < 1 := (i 2).isLt; have h3 : (i 3).val < 1024 := (i 3).isLt
        show ((((i 0).val * 2 + (i 1).val) * 1 + (i 2).val) * 1024 + (i 3).val) % 2048 = 1024 * (i 1).val + (i 3).val; omega))

end Args

end Cert.Fox

end
-- ==== Proof.Finite.lean ====
/- The precondition of the value claim: when it holds, every element of every argument is a real number. -/
module

public import proofs.«01_k».proof.Proof.Gen.Pre_finite
public import Idealize.ShloMosaic.Lib.ReduceAll
public import Idealize.ShloMosaic.Lib.Affine
public import Idealize.ShloMosaic.Lib.Pointwise

@[expose] public section

noncomputable section

namespace Cert.Fox

open Idealize.ShloMosaic Cert.Pre_finite

/-- A value whose absolute value is below plus infinity is a real number. -/
theorem real_of_abs (x : EReal) (e : Ideal.cmp .olt (max x (-x)) (Ideal.ofBits .f32 0x7F800000#32) = 1#1) : x = (x.toReal : EReal) := by
  have ht : Ideal.ofBits .f32 0x7F800000#32 = (⊤ : EReal) := by simp [Ideal.ofBits, Ideal.ieee]
  rw [ht] at e
  have hlt : max x (-x) < ⊤ := (Ideal.cmp_olt_eq_one _ _).mp e
  rw [max_lt_iff] at hlt
  refine (EReal.coe_toReal hlt.1.ne fun hb => ?_).symm
  rw [hb] at hlt
  exact absurd hlt.2 (by simp)

/-- Where the precondition's function is one, each of the five arrays holds real numbers. -/
theorem finite_args {a0 a1 a2 : FVec Ideal S2048x1024 .f32} {a3 : FVec Ideal S16x2048 .f32} {a4 : FVec Ideal S2048x1024 .f32}
    (e : fn (F := Ideal) a0 a1 a2 a3 a4 = fun _ => 1#1) :
    (∀ i, a0 i = (EReal.toReal (a0 i) : EReal)) ∧ (∀ i, a1 i = (EReal.toReal (a1 i) : EReal)) ∧ (∀ i, a2 i = (EReal.toReal (a2 i) : EReal))
      ∧ (∀ i, a3 i = (EReal.toReal (a3 i) : EReal)) ∧ (∀ i, a4 i = (EReal.toReal (a4 i) : EReal)) := by
  have e' := congrFun e (Shape.Idx.first Gen.h_S_)
  dsimp only [fn, fn_part1] at e'
  haveI : Subsingleton S_.Idx := ⟨fun a b => funext fun x => x.elim0⟩
  obtain ⟨e', h4⟩ := IntOp.andi_eq_one.1 e'
  obtain ⟨e', h3⟩ := IntOp.andi_eq_one.1 e'
  obtain ⟨e', h2⟩ := IntOp.andi_eq_one.1 e'
  obtain ⟨h0, h1⟩ := IntOp.andi_eq_one.1 e'
  exact ⟨fun i => real_of_abs _ (Host.reduce_andi_all _ _ _ _ _ h0 i), fun i => real_of_abs _ (Host.reduce_andi_all _ _ _ _ _ h1 i),
    fun i => real_of_abs _ (Host.reduce_andi_all _ _ _ _ _ h2 i), fun i => real_of_abs _ (Host.reduce_andi_all _ _ _ _ _ h3 i),
    fun i => real_of_abs _ (Host.reduce_andi_all _ _ _ _ _ h4 i)⟩

end Cert.Fox

end
-- ==== Proof.FfnSpec.lean ====
/- The feed-forward half step over the real numbers: its gate and up products, its hidden rows, the gradient of the hidden
   rows, and the gradients of the three weights. -/
module

public import Mathlib.Analysis.SpecialFunctions.Exp
public import Mathlib.Data.EReal.Inv
public import proofs.«01_k».proof.Proof.Softmax

@[expose] public section

noncomputable section

namespace Cert.Ffn

/-- The logistic function, `z` times it, and the derivative of that product. -/
def sigm (z : ℝ) : ℝ := 1 / (1 + Real.exp (-z))
def silu (z : ℝ) : ℝ := z * sigm z
def slope (z : ℝ) : ℝ := sigm z * (1 + z * (1 - sigm z))

/-- Column `f` of strip `j` among the four strips of 1408 columns. -/
def strip (j : Fin 4) (f : Fin 1408) : Fin 5632 := ⟨1408 * j.val + f.val, by omega⟩

variable (x : Fin 2048 → Fin 2048 → ℝ) (wg wu : Fin 2048 → Fin 5632 → ℝ) (wd : Fin 5632 → Fin 2048 → ℝ) (dy : Fin 2048 → Fin 2048 → ℝ)

/-- A product of the rows with a weight. -/
def prod (w : Fin 2048 → Fin 5632 → ℝ) (i : Fin 2048) (f : Fin 5632) : ℝ := ∑ k, x i k * w k f

/-- The hidden rows, and the factors by which their gradient gives those of the gate product and of the up product. -/
def hid (i : Fin 2048) (f : Fin 5632) : ℝ := silu (prod x wg i f) * prod x wu i f
def hdg (i : Fin 2048) (f : Fin 5632) : ℝ := prod x wu i f * slope (prod x wg i f)
def hdu (i : Fin 2048) (f : Fin 5632) : ℝ := silu (prod x wg i f)

/-- The gradient of the hidden rows, half the cotangent times the down weight. -/
def dh (i : Fin 2048) (f : Fin 5632) : ℝ := (∑ n, dy i n * wd f n) * (1 / 2)

/-- The gradients of the gate and up products. -/
def dg (i : Fin 2048) (f : Fin 5632) : ℝ := dh wd dy i f * hdg x wg wu i f
def du (i : Fin 2048) (f : Fin 5632) : ℝ := dh wd dy i f * hdu x wg i f

/-- The gradients of the gate, up and down weights. -/
def dwg (d : Fin 2048) (f : Fin 5632) : ℝ := ∑ s, x s d * dg x wg wu wd dy s f
def dwu (d : Fin 2048) (f : Fin 5632) : ℝ := ∑ s, x s d * du x wg wd dy s f
def dwd (f : Fin 5632) (n : Fin 2048) : ℝ := (∑ s, hid x wg wu s f * dy s n) * (1 / 2)

end Cert.Ffn

end
-- ==== Proof.FfnArrays.lean ====
/- The arrays of the five feed-forward calls and their blocks: where a block's elements lie in the arrays, and the array an
   output ends as, from what its blocks hold. -/
module

public import proofs.«01_k».proof.Proof.Gen.Kernel2Ideal.Frame
public import proofs.«01_k».proof.Proof.FfnSpec
public import Idealize.ShloMosaic.Lib.Pipeline.ValueKit.Geometry

@[expose] public section

set_option maxRecDepth 16384

noncomputable section

namespace Cert.Ffn

open Idealize.ShloMosaic Idealize.ShloMosaic.TcCoe Idealize.SL.Sem Cert.Kernel2Ideal Cert.Kernel2Ideal.Gen

/-- Row `a` of tile `q` among four tiles of 512 rows, and among two tiles of 1024. -/
def quart (q : Fin 4) (a : Fin 512) : Fin 2048 := ⟨512 * q.val + a.val, by omega⟩
def halve (q : Fin 2) (a : Fin 1024) : Fin 2048 := ⟨1024 * q.val + a.val, by omega⟩

/-- The quotient and the remainder by four, and by two, of a grid point's number. -/
def div4 (t : Fin 16) : Fin 4 := ⟨t.val / 4, by omega⟩
def mod4 (t : Fin 16) : Fin 4 := ⟨t.val % 4, by omega⟩
def div4' (t : Fin 8) : Fin 2 := ⟨t.val / 4, by omega⟩
def mod4' (t : Fin 8) : Fin 4 := ⟨t.val % 4, by omega⟩
def div2 (t : Fin 8) : Fin 4 := ⟨t.val / 2, by omega⟩
def mod2 (t : Fin 8) : Fin 2 := ⟨t.val % 2, by omega⟩

theorem exists2 {m n : ℕ} (y : (⟨2, ![m, n]⟩ : Shape).Idx) : ∃ (a : Fin m) (b : Fin n), y = ix2 a b :=
  ⟨y 0, y 1, funext fun x => match x with | ⟨0, _⟩ => rfl | ⟨1, _⟩ => rfl⟩

theorem exists3 {m n : ℕ} (y : (⟨3, ![1, m, n]⟩ : Shape).Idx) : ∃ (a : Fin m) (b : Fin n), y = ix3 0 a b :=
  ⟨y 1, y 2, funext fun x => match x with | ⟨0, _⟩ => Subsingleton.elim (α := Fin 1) _ _ | ⟨1, _⟩ => rfl | ⟨2, _⟩ => rfl⟩

variable (V : (c : Dev nD) → (b : Ref sig .tc) → Buf (Elt Ideal) ((c : Thread nD τ).loc b)) (c : Dev nD)

/-! ## Call 0 -/

theorem idx0_0 : ∀ t : Fin cfg0.N, win0_0.index t (0 : Fin 2) = t.val % 4 ∧ win0_0.index t (1 : Fin 2) = 0 :=
  (by decide +kernel : ∀ t : Fin grid0.N, _)

theorem emb0_0 (t : Fin cfg0.N) (a : Fin 512) (b : Fin 2048) : ((cfg0.win 0).blk t).view.emb (ix2 a b : S512x2048.Idx) = ix2 (quart (mod4 t) a) b := by
  obtain ⟨e0, e1⟩ := idx0_0 t
  funext x; apply Fin.ext
  match x with
  | ⟨0, _⟩ => show win0_0.index t (0 : Fin 2) * 512 + 1 * a.val = 512 * (t.val % 4) + a.val; omega
  | ⟨1, _⟩ => show win0_0.index t (1 : Fin 2) * 2048 + 1 * b.val = b.val; omega

theorem in0_0 (t : Fin cfg0.N) (a : Fin 512) (b : Fin 2048) : iblk0 V c 0 t (ix2 a b) = V c main_v0 (ix2 (quart (mod4 t) a) b) := by
  show V c main_v0 (((cfg0.win 0).blk t).view.emb (ix2 a b : S512x2048.Idx)) = _
  rw [emb0_0]

theorem idx0_1 : ∀ t : Fin cfg0.N, win0_1.index t (0 : Fin 3) = t.val / 4 ∧ win0_1.index t (1 : Fin 3) = 0 ∧ win0_1.index t (2 : Fin 3) = 0 :=
  (by decide +kernel : ∀ t : Fin grid0.N, _)

theorem emb0_1 (t : Fin cfg0.N) (a : Fin 2048) (b : Fin 1408) : ((cfg0.win 1).blk t).view.emb (ix3 0 a b : S1x2048x1408.Idx) = ix3 (div4 t) a b := by
  obtain ⟨e0, e1, e2⟩ := idx0_1 t
  funext x; apply Fin.ext
  match x with
  | ⟨0, _⟩ => show win0_1.index t (0 : Fin 3) * 1 + 1 * 0 = t.val / 4; omega
  | ⟨1, _⟩ => show win0_1.index t (1 : Fin 3) * 2048 + 1 * a.val = a.val; omega
  | ⟨2, _⟩ => show win0_1.index t (2 : Fin 3) * 1408 + 1 * b.val = b.val; omega

theorem in0_1 (t : Fin cfg0.N) (a : Fin 2048) (b : Fin 1408) : iblk0 V c 1 t (ix3 0 a b) = V c main_v4 (ix3 (div4 t) a b) := by
  show V c main_v4 (((cfg0.win 1).blk t).view.emb (ix3 0 a b : S1x2048x1408.Idx)) = _
  rw [emb0_1]

theorem idx0_2 : ∀ t : Fin cfg0.N, win0_2.index t (0 : Fin 3) = t.val / 4 ∧ win0_2.index t (1 : Fin 3) = 0 ∧ win0_2.index t (2 : Fin 3) = 0 :=
  (by decide +kernel : ∀ t : Fin grid0.N, _)

theorem emb0_2 (t : Fin cfg0.N) (a : Fin 2048) (b : Fin 1408) : ((cfg0.win 2).blk t).view.emb (ix3 0 a b : S1x2048x1408.Idx) = ix3 (div4 t) a b := by
  obtain ⟨e0, e1, e2⟩ := idx0_2 t
  funext x; apply Fin.ext
  match x with
  | ⟨0, _⟩ => show win0_2.index t (0 : Fin 3) * 1 + 1 * 0 = t.val / 4; omega
  | ⟨1, _⟩ => show win0_2.index t (1 : Fin 3) * 2048 + 1 * a.val = a.val; omega
  | ⟨2, _⟩ => show win0_2.index t (2 : Fin 3) * 1408 + 1 * b.val = b.val; omega

theorem in0_2 (t : Fin cfg0.N) (a : Fin 2048) (b : Fin 1408) : iblk0 V c 2 t (ix3 0 a b) = V c main_v7 (ix3 (div4 t) a b) := by
  show V c main_v7 (((cfg0.win 2).blk t).view.emb (ix3 0 a b : S1x2048x1408.Idx)) = _
  rw [emb0_2]

theorem idx0_3 : ∀ t : Fin cfg0.N, win0_3.index t (0 : Fin 2) = t.val % 4 ∧ win0_3.index t (1 : Fin 2) = t.val / 4 :=
  (by decide +kernel : ∀ t : Fin grid0.N, _)

theorem emb0_3 (t : Fin cfg0.N) (a : Fin 512) (b : Fin 1408) : ((cfg0.win 3).blk t).view.emb (ix2 a b : S512x1408.Idx) = ix2 (quart (mod4 t) a) (strip (div4 t) b) := by
  obtain ⟨e0, e1⟩ := idx0_3 t
  funext x; apply Fin.ext
  match x with
  | ⟨0, _⟩ => show win0_3.index t (0 : Fin 2) * 512 + 1 * a.val = 512 * (t.val % 4) + a.val; omega
  | ⟨1, _⟩ => show win0_3.index t (1 : Fin 2) * 1408 + 1 * b.val = 1408 * (t.val / 4) + b.val; omega

/-- The array an output ends as, when the block written back at each point holds `X` there. -/
theorem arr0_3 (X : Fin 2048 → Fin 5632 → ℝ)
    (hX : ∀ (t : Fin cfg0.N) (a : Fin 512) (b : Fin 1408), (dat0 V c).after 3 t (ix2 a b : S512x1408.Idx) = (X (quart (mod4 t) a) (strip (div4 t) b) : EReal)) :
    (dat0 V c).arrAt 3 cfg0.N = fun i : S2048x5632.Idx => (X (i 0) (i 1) : EReal) := by
  refine (dat0 V c).arrAt_eq_of_covers 3 _ (by decide +kernel) fun t hf y => ?_
  suffices hs : ∀ y : S512x1408.Idx, (dat0 V c).after 3 t y = (fun i : S2048x5632.Idx => (X (i 0) (i 1) : EReal)) (((cfg0.win 3).blk t).view.emb y) from hs y
  intro y
  obtain ⟨a, b, rfl⟩ := exists2 y
  rw [emb0_3]
  exact hX t a b

theorem idx0_4 : ∀ t : Fin cfg0.N, win0_4.index t (0 : Fin 2) = t.val % 4 ∧ win0_4.index t (1 : Fin 2) = t.val / 4 :=
  (by decide +kernel : ∀ t : Fin grid0.N, _)

theorem emb0_4 (t : Fin cfg0.N) (a : Fin 512) (b : Fin 1408) : ((cfg0.win 4).blk t).view.emb (ix2 a b : S512x1408.Idx) = ix2 (quart (mod4 t) a) (strip (div4 t) b) := by
  obtain ⟨e0, e1⟩ := idx0_4 t
  funext x; apply Fin.ext
  match x with
  | ⟨0, _⟩ => show win0_4.index t (0 : Fin 2) * 512 + 1 * a.val = 512 * (t.val % 4) + a.val; omega
  | ⟨1, _⟩ => show win0_4.index t (1 : Fin 2) * 1408 + 1 * b.val = 1408 * (t.val / 4) + b.val; omega

/-- The array an output ends as, when the block written back at each point holds `X` there. -/
theorem arr0_4 (X : Fin 2048 → Fin 5632 → ℝ)
    (hX : ∀ (t : Fin cfg0.N) (a : Fin 512) (b : Fin 1408), (dat0 V c).after 4 t (ix2 a b : S512x1408.Idx) = (X (quart (mod4 t) a) (strip (div4 t) b) : EReal)) :
    (dat0 V c).arrAt 4 cfg0.N = fun i : S2048x5632.Idx => (X (i 0) (i 1) : EReal) := by
  refine (dat0 V c).arrAt_eq_of_covers 4 _ (by decide +kernel) fun t hf y => ?_
  suffices hs : ∀ y : S512x1408.Idx, (dat0 V c).after 4 t y = (fun i : S2048x5632.Idx => (X (i 0) (i 1) : EReal)) (((cfg0.win 4).blk t).view.emb y) from hs y
  intro y
  obtain ⟨a, b, rfl⟩ := exists2 y
  rw [emb0_4]
  exact hX t a b

theorem idx0_5 : ∀ t : Fin cfg0.N, win0_5.index t (0 : Fin 2) = t.val % 4 ∧ win0_5.index t (1 : Fin 2) = t.val / 4 :=
  (by decide +kernel : ∀ t : Fin grid0.N, _)

theorem emb0_5 (t : Fin cfg0.N) (a : Fin 512) (b : Fin 1408) : ((cfg0.win 5).blk t).view.emb (ix2 a b : S512x1408.Idx) = ix2 (quart (mod4 t) a) (strip (div4 t) b) := by
  obtain ⟨e0, e1⟩ := idx0_5 t
  funext x; apply Fin.ext
  match x with
  | ⟨0, _⟩ => show win0_5.index t (0 : Fin 2) * 512 + 1 * a.val = 512 * (t.val % 4) + a.val; omega
  | ⟨1, _⟩ => show win0_5.index t (1 : Fin 2) * 1408 + 1 * b.val = 1408 * (t.val / 4) + b.val; omega

/-- The array an output ends as, when the block written back at each point holds `X` there. -/
theorem arr0_5 (X : Fin 2048 → Fin 5632 → ℝ)
    (hX : ∀ (t : Fin cfg0.N) (a : Fin 512) (b : Fin 1408), (dat0 V c).after 5 t (ix2 a b : S512x1408.Idx) = (X (quart (mod4 t) a) (strip (div4 t) b) : EReal)) :
    (dat0 V c).arrAt 5 cfg0.N = fun i : S2048x5632.Idx => (X (i 0) (i 1) : EReal) := by
  refine (dat0 V c).arrAt_eq_of_covers 5 _ (by decide +kernel) fun t hf y => ?_
  suffices hs : ∀ y : S512x1408.Idx, (dat0 V c).after 5 t y = (fun i : S2048x5632.Idx => (X (i 0) (i 1) : EReal)) (((cfg0.win 5).blk t).view.emb y) from hs y
  intro y
  obtain ⟨a, b, rfl⟩ := exists2 y
  rw [emb0_5]
  exact hX t a b

/-! ## Call 1 -/

theorem idx1_0 : ∀ t : Fin cfg1.N, win1_0.index t (0 : Fin 2) = 0 ∧ win1_0.index t (1 : Fin 2) = t.val / 2 :=
  (by decide +kernel : ∀ t : Fin grid1.N, _)

theorem emb1_0 (t : Fin cfg1.N) (a : Fin 2048) (b : Fin 1408) : ((cfg1.win 0).blk t).view.emb (ix2 a b : S2048x1408.Idx) = ix2 a (strip (div2 t) b) := by
  obtain ⟨e0, e1⟩ := idx1_0 t
  funext x; apply Fin.ext
  match x with
  | ⟨0, _⟩ => show win1_0.index t (0 : Fin 2) * 2048 + 1 * a.val = a.val; omega
  | ⟨1, _⟩ => show win1_0.index t (1 : Fin 2) * 1408 + 1 * b.val = 1408 * (t.val / 2) + b.val; omega

theorem in1_0 (t : Fin cfg1.N) (a : Fin 2048) (b : Fin 1408) : iblk1 V c 0 t (ix2 a b) = V c main_v9_0 (ix2 a (strip (div2 t) b)) := by
  show V c main_v9_0 (((cfg1.win 0).blk t).view.emb (ix2 a b : S2048x1408.Idx)) = _
  rw [emb1_0]

theorem idx1_1 : ∀ t : Fin cfg1.N, win1_1.index t (0 : Fin 2) = 0 ∧ win1_1.index t (1 : Fin 2) = t.val % 2 :=
  (by decide +kernel : ∀ t : Fin grid1.N, _)

theorem emb1_1 (t : Fin cfg1.N) (a : Fin 2048) (b : Fin 1024) : ((cfg1.win 1).blk t).view.emb (ix2 a b : S2048x1024.Idx) = ix2 a (halve (mod2 t) b) := by
  obtain ⟨e0, e1⟩ := idx1_1 t
  funext x; apply Fin.ext
  match x with
  | ⟨0, _⟩ => show win1_1.index t (0 : Fin 2) * 2048 + 1 * a.val = a.val; omega
  | ⟨1, _⟩ => show win1_1.index t (1 : Fin 2) * 1024 + 1 * b.val = 1024 * (t.val % 2) + b.val; omega

theorem in1_1 (t : Fin cfg1.N) (a : Fin 2048) (b : Fin 1024) : iblk1 V c 1 t (ix2 a b) = V c main_v1 (ix2 a (halve (mod2 t) b)) := by
  show V c main_v1 (((cfg1.win 1).blk t).view.emb (ix2 a b : S2048x1024.Idx)) = _
  rw [emb1_1]

theorem idx1_2 : ∀ t : Fin cfg1.N, win1_2.index t (0 : Fin 2) = t.val / 2 ∧ win1_2.index t (1 : Fin 2) = t.val % 2 :=
  (by decide +kernel : ∀ t : Fin grid1.N, _)

theorem emb1_2 (t : Fin cfg1.N) (a : Fin 1408) (b : Fin 1024) : ((cfg1.win 2).blk t).view.emb (ix2 a b : S1408x1024.Idx) = ix2 (strip (div2 t) a) (halve (mod2 t) b) := by
  obtain ⟨e0, e1⟩ := idx1_2 t
  funext x; apply Fin.ext
  match x with
  | ⟨0, _⟩ => show win1_2.index t (0 : Fin 2) * 1408 + 1 * a.val = 1408 * (t.val / 2) + a.val; omega
  | ⟨1, _⟩ => show win1_2.index t (1 : Fin 2) * 1024 + 1 * b.val = 1024 * (t.val % 2) + b.val; omega

/-- The array an output ends as, when the block written back at each point holds `X` there. -/
theorem arr1_2 (X : Fin 5632 → Fin 2048 → ℝ)
    (hX : ∀ (t : Fin cfg1.N) (a : Fin 1408) (b : Fin 1024), (dat1 V c).after 2 t (ix2 a b : S1408x1024.Idx) = (X (strip (div2 t) a) (halve (mod2 t) b) : EReal)) :
    (dat1 V c).arrAt 2 cfg1.N = fun i : S5632x2048.Idx => (X (i 0) (i 1) : EReal) := by
  refine (dat1 V c).arrAt_eq_of_covers 2 _ (by decide +kernel) fun t hf y => ?_
  suffices hs : ∀ y : S1408x1024.Idx, (dat1 V c).after 2 t y = (fun i : S5632x2048.Idx => (X (i 0) (i 1) : EReal)) (((cfg1.win 2).blk t).view.emb y) from hs y
  intro y
  obtain ⟨a, b, rfl⟩ := exists2 y
  rw [emb1_2]
  exact hX t a b

/-! ## Call 2 -/

theorem idx2_0 : ∀ t : Fin cfg2.N, win2_0.index t (0 : Fin 2) = t.val % 4 ∧ win2_0.index t (1 : Fin 2) = 0 :=
  (by decide +kernel : ∀ t : Fin grid2.N, _)

theorem emb2_0 (t : Fin cfg2.N) (a : Fin 512) (b : Fin 2048) : ((cfg2.win 0).blk t).view.emb (ix2 a b : S512x2048.Idx) = ix2 (quart (mod4 t) a) b := by
  obtain ⟨e0, e1⟩ := idx2_0 t
  funext x; apply Fin.ext
  match x with
  | ⟨0, _⟩ => show win2_0.index t (0 : Fin 2) * 512 + 1 * a.val = 512 * (t.val % 4) + a.val; omega
  | ⟨1, _⟩ => show win2_0.index t (1 : Fin 2) * 2048 + 1 * b.val = b.val; omega

theorem in2_0 (t : Fin cfg2.N) (a : Fin 512) (b : Fin 2048) : iblk2 V c 0 t (ix2 a b) = V c main_v1 (ix2 (quart (mod4 t) a) b) := by
  show V c main_v1 (((cfg2.win 0).blk t).view.emb (ix2 a b : S512x2048.Idx)) = _
  rw [emb2_0]

theorem idx2_1 : ∀ t : Fin cfg2.N, win2_1.index t (0 : Fin 2) = t.val / 4 ∧ win2_1.index t (1 : Fin 2) = 0 :=
  (by decide +kernel : ∀ t : Fin grid2.N, _)

theorem emb2_1 (t : Fin cfg2.N) (a : Fin 1408) (b : Fin 2048) : ((cfg2.win 1).blk t).view.emb (ix2 a b : S1408x2048.Idx) = ix2 (strip (div4 t) a) b := by
  obtain ⟨e0, e1⟩ := idx2_1 t
  funext x; apply Fin.ext
  match x with
  | ⟨0, _⟩ => show win2_1.index t (0 : Fin 2) * 1408 + 1 * a.val = 1408 * (t.val / 4) + a.val; omega
  | ⟨1, _⟩ => show win2_1.index t (1 : Fin 2) * 2048 + 1 * b.val = b.val; omega

theorem in2_1 (t : Fin cfg2.N) (a : Fin 1408) (b : Fin 2048) : iblk2 V c 1 t (ix2 a b) = V c main_v8 (ix2 (strip (div4 t) a) b) := by
  show V c main_v8 (((cfg2.win 1).blk t).view.emb (ix2 a b : S1408x2048.Idx)) = _
  rw [emb2_1]

theorem idx2_2 : ∀ t : Fin cfg2.N, win2_2.index t (0 : Fin 2) = t.val % 4 ∧ win2_2.index t (1 : Fin 2) = t.val / 4 :=
  (by decide +kernel : ∀ t : Fin grid2.N, _)

theorem emb2_2 (t : Fin cfg2.N) (a : Fin 512) (b : Fin 1408) : ((cfg2.win 2).blk t).view.emb (ix2 a b : S512x1408.Idx) = ix2 (quart (mod4 t) a) (strip (div4 t) b) := by
  obtain ⟨e0, e1⟩ := idx2_2 t
  funext x; apply Fin.ext
  match x with
  | ⟨0, _⟩ => show win2_2.index t (0 : Fin 2) * 512 + 1 * a.val = 512 * (t.val % 4) + a.val; omega
  | ⟨1, _⟩ => show win2_2.index t (1 : Fin 2) * 1408 + 1 * b.val = 1408 * (t.val / 4) + b.val; omega

theorem in2_2 (t : Fin cfg2.N) (a : Fin 512) (b : Fin 1408) : iblk2 V c 2 t (ix2 a b) = V c main_v9_1 (ix2 (quart (mod4 t) a) (strip (div4 t) b)) := by
  show V c main_v9_1 (((cfg2.win 2).blk t).view.emb (ix2 a b : S512x1408.Idx)) = _
  rw [emb2_2]

theorem idx2_3 : ∀ t : Fin cfg2.N, win2_3.index t (0 : Fin 2) = t.val % 4 ∧ win2_3.index t (1 : Fin 2) = t.val / 4 :=
  (by decide +kernel : ∀ t : Fin grid2.N, _)

theorem emb2_3 (t : Fin cfg2.N) (a : Fin 512) (b : Fin 1408) : ((cfg2.win 3).blk t).view.emb (ix2 a b : S512x1408.Idx) = ix2 (quart (mod4 t) a) (strip (div4 t) b) := by
  obtain ⟨e0, e1⟩ := idx2_3 t
  funext x; apply Fin.ext
  match x with
  | ⟨0, _⟩ => show win2_3.index t (0 : Fin 2) * 512 + 1 * a.val = 512 * (t.val % 4) + a.val; omega
  | ⟨1, _⟩ => show win2_3.index t (1 : Fin 2) * 1408 + 1 * b.val = 1408 * (t.val / 4) + b.val; omega

theorem in2_3 (t : Fin cfg2.N) (a : Fin 512) (b : Fin 1408) : iblk2 V c 3 t (ix2 a b) = V c main_v9_2 (ix2 (quart (mod4 t) a) (strip (div4 t) b)) := by
  show V c main_v9_2 (((cfg2.win 3).blk t).view.emb (ix2 a b : S512x1408.Idx)) = _
  rw [emb2_3]

theorem idx2_4 : ∀ t : Fin cfg2.N, win2_4.index t (0 : Fin 2) = t.val % 4 ∧ win2_4.index t (1 : Fin 2) = t.val / 4 :=
  (by decide +kernel : ∀ t : Fin grid2.N, _)

theorem emb2_4 (t : Fin cfg2.N) (a : Fin 512) (b : Fin 1408) : ((cfg2.win 4).blk t).view.emb (ix2 a b : S512x1408.Idx) = ix2 (quart (mod4 t) a) (strip (div4 t) b) := by
  obtain ⟨e0, e1⟩ := idx2_4 t
  funext x; apply Fin.ext
  match x with
  | ⟨0, _⟩ => show win2_4.index t (0 : Fin 2) * 512 + 1 * a.val = 512 * (t.val % 4) + a.val; omega
  | ⟨1, _⟩ => show win2_4.index t (1 : Fin 2) * 1408 + 1 * b.val = 1408 * (t.val / 4) + b.val; omega

/-- The array an output ends as, when the block written back at each point holds `X` there. -/
theorem arr2_4 (X : Fin 2048 → Fin 5632 → ℝ)
    (hX : ∀ (t : Fin cfg2.N) (a : Fin 512) (b : Fin 1408), (dat2 V c).after 4 t (ix2 a b : S512x1408.Idx) = (X (quart (mod4 t) a) (strip (div4 t) b) : EReal)) :
    (dat2 V c).arrAt 4 cfg2.N = fun i : S2048x5632.Idx => (X (i 0) (i 1) : EReal) := by
  refine (dat2 V c).arrAt_eq_of_covers 4 _ (by decide +kernel) fun t hf y => ?_
  suffices hs : ∀ y : S512x1408.Idx, (dat2 V c).after 4 t y = (fun i : S2048x5632.Idx => (X (i 0) (i 1) : EReal)) (((cfg2.win 4).blk t).view.emb y) from hs y
  intro y
  obtain ⟨a, b, rfl⟩ := exists2 y
  rw [emb2_4]
  exact hX t a b

theorem idx2_5 : ∀ t : Fin cfg2.N, win2_5.index t (0 : Fin 2) = t.val % 4 ∧ win2_5.index t (1 : Fin 2) = t.val / 4 :=
  (by decide +kernel : ∀ t : Fin grid2.N, _)

theorem emb2_5 (t : Fin cfg2.N) (a : Fin 512) (b : Fin 1408) : ((cfg2.win 5).blk t).view.emb (ix2 a b : S512x1408.Idx) = ix2 (quart (mod4 t) a) (strip (div4 t) b) := by
  obtain ⟨e0, e1⟩ := idx2_5 t
  funext x; apply Fin.ext
  match x with
  | ⟨0, _⟩ => show win2_5.index t (0 : Fin 2) * 512 + 1 * a.val = 512 * (t.val % 4) + a.val; omega
  | ⟨1, _⟩ => show win2_5.index t (1 : Fin 2) * 1408 + 1 * b.val = 1408 * (t.val / 4) + b.val; omega

/-- The array an output ends as, when the block written back at each point holds `X` there. -/
theorem arr2_5 (X : Fin 2048 → Fin 5632 → ℝ)
    (hX : ∀ (t : Fin cfg2.N) (a : Fin 512) (b : Fin 1408), (dat2 V c).after 5 t (ix2 a b : S512x1408.Idx) = (X (quart (mod4 t) a) (strip (div4 t) b) : EReal)) :
    (dat2 V c).arrAt 5 cfg2.N = fun i : S2048x5632.Idx => (X (i 0) (i 1) : EReal) := by
  refine (dat2 V c).arrAt_eq_of_covers 5 _ (by decide +kernel) fun t hf y => ?_
  suffices hs : ∀ y : S512x1408.Idx, (dat2 V c).after 5 t y = (fun i : S2048x5632.Idx => (X (i 0) (i 1) : EReal)) (((cfg2.win 5).blk t).view.emb y) from hs y
  intro y
  obtain ⟨a, b, rfl⟩ := exists2 y
  rw [emb2_5]
  exact hX t a b

/-! ## Call 3 -/

theorem idx3_0 : ∀ t : Fin cfg3.N, win3_0.index t (0 : Fin 2) = 0 ∧ win3_0.index t (1 : Fin 2) = t.val / 4 :=
  (by decide +kernel : ∀ t : Fin grid3.N, _)

theorem emb3_0 (t : Fin cfg3.N) (a : Fin 2048) (b : Fin 1024) : ((cfg3.win 0).blk t).view.emb (ix2 a b : S2048x1024.Idx) = ix2 a (halve (div4' t) b) := by
  obtain ⟨e0, e1⟩ := idx3_0 t
  funext x; apply Fin.ext
  match x with
  | ⟨0, _⟩ => show win3_0.index t (0 : Fin 2) * 2048 + 1 * a.val = a.val; omega
  | ⟨1, _⟩ => show win3_0.index t (1 : Fin 2) * 1024 + 1 * b.val = 1024 * (t.val / 4) + b.val; omega

theorem in3_0 (t : Fin cfg3.N) (a : Fin 2048) (b : Fin 1024) : iblk3 V c 0 t (ix2 a b) = V c main_v0 (ix2 a (halve (div4' t) b)) := by
  show V c main_v0 (((cfg3.win 0).blk t).view.emb (ix2 a b : S2048x1024.Idx)) = _
  rw [emb3_0]

theorem idx3_1 : ∀ t : Fin cfg3.N, win3_1.index t (0 : Fin 2) = 0 ∧ win3_1.index t (1 : Fin 2) = t.val % 4 :=
  (by decide +kernel : ∀ t : Fin grid3.N, _)

theorem emb3_1 (t : Fin cfg3.N) (a : Fin 2048) (b : Fin 1408) : ((cfg3.win 1).blk t).view.emb (ix2 a b : S2048x1408.Idx) = ix2 a (strip (mod4' t) b) := by
  obtain ⟨e0, e1⟩ := idx3_1 t
  funext x; apply Fin.ext
  match x with
  | ⟨0, _⟩ => show win3_1.index t (0 : Fin 2) * 2048 + 1 * a.val = a.val; omega
  | ⟨1, _⟩ => show win3_1.index t (1 : Fin 2) * 1408 + 1 * b.val = 1408 * (t.val % 4) + b.val; omega

theorem in3_1 (t : Fin cfg3.N) (a : Fin 2048) (b : Fin 1408) : iblk3 V c 1 t (ix2 a b) = V c main_v11_0 (ix2 a (strip (mod4' t) b)) := by
  show V c main_v11_0 (((cfg3.win 1).blk t).view.emb (ix2 a b : S2048x1408.Idx)) = _
  rw [emb3_1]

theorem idx3_2 : ∀ t : Fin cfg3.N, win3_2.index t (0 : Fin 3) = t.val % 4 ∧ win3_2.index t (1 : Fin 3) = t.val / 4 ∧ win3_2.index t (2 : Fin 3) = 0 :=
  (by decide +kernel : ∀ t : Fin grid3.N, _)

theorem emb3_2 (t : Fin cfg3.N) (a : Fin 1024) (b : Fin 1408) : ((cfg3.win 2).blk t).view.emb (ix3 0 a b : S1x1024x1408.Idx) = ix3 (mod4' t) (halve (div4' t) a) b := by
  obtain ⟨e0, e1, e2⟩ := idx3_2 t
  funext x; apply Fin.ext
  match x with
  | ⟨0, _⟩ => show win3_2.index t (0 : Fin 3) * 1 + 1 * 0 = t.val % 4; omega
  | ⟨1, _⟩ => show win3_2.index t (1 : Fin 3) * 1024 + 1 * a.val = 1024 * (t.val / 4) + a.val; omega
  | ⟨2, _⟩ => show win3_2.index t (2 : Fin 3) * 1408 + 1 * b.val = b.val; omega

/-- The array an output ends as, when the block written back at each point holds `X` there. -/
theorem arr3_2 (X : Fin 2048 → Fin 5632 → ℝ)
    (hX : ∀ (t : Fin cfg3.N) (a : Fin 1024) (b : Fin 1408), (dat3 V c).after 2 t (ix3 0 a b : S1x1024x1408.Idx) = (X (halve (div4' t) a) (strip (mod4' t) b) : EReal)) :
    (dat3 V c).arrAt 2 cfg3.N = fun i : S4x2048x1408.Idx => (X (i 1) (strip (i 0) (i 2)) : EReal) := by
  refine (dat3 V c).arrAt_eq_of_covers 2 _ (by decide +kernel) fun t hf y => ?_
  suffices hs : ∀ y : S1x1024x1408.Idx, (dat3 V c).after 2 t y = (fun i : S4x2048x1408.Idx => (X (i 1) (strip (i 0) (i 2)) : EReal)) (((cfg3.win 2).blk t).view.emb y) from hs y
  intro y
  obtain ⟨a, b, rfl⟩ := exists3 y
  rw [emb3_2]
  exact hX t a b

/-! ## Call 4 -/

theorem idx4_0 : ∀ t : Fin cfg4.N, win4_0.index t (0 : Fin 2) = 0 ∧ win4_0.index t (1 : Fin 2) = t.val / 4 :=
  (by decide +kernel : ∀ t : Fin grid4.N, _)

theorem emb4_0 (t : Fin cfg4.N) (a : Fin 2048) (b : Fin 1024) : ((cfg4.win 0).blk t).view.emb (ix2 a b : S2048x1024.Idx) = ix2 a (halve (div4' t) b) := by
  obtain ⟨e0, e1⟩ := idx4_0 t
  funext x; apply Fin.ext
  match x with
  | ⟨0, _⟩ => show win4_0.index t (0 : Fin 2) * 2048 + 1 * a.val = a.val; omega
  | ⟨1, _⟩ => show win4_0.index t (1 : Fin 2) * 1024 + 1 * b.val = 1024 * (t.val / 4) + b.val; omega

theorem in4_0 (t : Fin cfg4.N) (a : Fin 2048) (b : Fin 1024) : iblk4 V c 0 t (ix2 a b) = V c main_v0 (ix2 a (halve (div4' t) b)) := by
  show V c main_v0 (((cfg4.win 0).blk t).view.emb (ix2 a b : S2048x1024.Idx)) = _
  rw [emb4_0]

theorem idx4_1 : ∀ t : Fin cfg4.N, win4_1.index t (0 : Fin 2) = 0 ∧ win4_1.index t (1 : Fin 2) = t.val % 4 :=
  (by decide +kernel : ∀ t : Fin grid4.N, _)

theorem emb4_1 (t : Fin cfg4.N) (a : Fin 2048) (b : Fin 1408) : ((cfg4.win 1).blk t).view.emb (ix2 a b : S2048x1408.Idx) = ix2 a (strip (mod4' t) b) := by
  obtain ⟨e0, e1⟩ := idx4_1 t
  funext x; apply Fin.ext
  match x with
  | ⟨0, _⟩ => show win4_1.index t (0 : Fin 2) * 2048 + 1 * a.val = a.val; omega
  | ⟨1, _⟩ => show win4_1.index t (1 : Fin 2) * 1408 + 1 * b.val = 1408 * (t.val % 4) + b.val; omega

theorem in4_1 (t : Fin cfg4.N) (a : Fin 2048) (b : Fin 1408) : iblk4 V c 1 t (ix2 a b) = V c main_v11_1 (ix2 a (strip (mod4' t) b)) := by
  show V c main_v11_1 (((cfg4.win 1).blk t).view.emb (ix2 a b : S2048x1408.Idx)) = _
  rw [emb4_1]

theorem idx4_2 : ∀ t : Fin cfg4.N, win4_2.index t (0 : Fin 3) = t.val % 4 ∧ win4_2.index t (1 : Fin 3) = t.val / 4 ∧ win4_2.index t (2 : Fin 3) = 0 :=
  (by decide +kernel : ∀ t : Fin grid4.N, _)

theorem emb4_2 (t : Fin cfg4.N) (a : Fin 1024) (b : Fin 1408) : ((cfg4.win 2).blk t).view.emb (ix3 0 a b : S1x1024x1408.Idx) = ix3 (mod4' t) (halve (div4' t) a) b := by
  obtain ⟨e0, e1, e2⟩ := idx4_2 t
  funext x; apply Fin.ext
  match x with
  | ⟨0, _⟩ => show win4_2.index t (0 : Fin 3) * 1 + 1 * 0 = t.val % 4; omega
  | ⟨1, _⟩ => show win4_2.index t (1 : Fin 3) * 1024 + 1 * a.val = 1024 * (t.val / 4) + a.val; omega
  | ⟨2, _⟩ => show win4_2.index t (2 : Fin 3) * 1408 + 1 * b.val = b.val; omega

/-- The array an output ends as, when the block written back at each point holds `X` there. -/
theorem arr4_2 (X : Fin 2048 → Fin 5632 → ℝ)
    (hX : ∀ (t : Fin cfg4.N) (a : Fin 1024) (b : Fin 1408), (dat4 V c).after 2 t (ix3 0 a b : S1x1024x1408.Idx) = (X (halve (div4' t) a) (strip (mod4' t) b) : EReal)) :
    (dat4 V c).arrAt 2 cfg4.N = fun i : S4x2048x1408.Idx => (X (i 1) (strip (i 0) (i 2)) : EReal) := by
  refine (dat4 V c).arrAt_eq_of_covers 2 _ (by decide +kernel) fun t hf y => ?_
  suffices hs : ∀ y : S1x1024x1408.Idx, (dat4 V c).after 2 t y = (fun i : S4x2048x1408.Idx => (X (i 1) (strip (i 0) (i 2)) : EReal)) (((cfg4.win 2).blk t).view.emb y) from hs y
  intro y
  obtain ⟨a, b, rfl⟩ := exists3 y
  rw [emb4_2]
  exact hX t a b

end Cert.Ffn

end
-- ==== Proof.FfnPay.lean ====
/- What the bodies of the five feed-forward calls compute, read at an index of the block they store. -/
module

public import proofs.«01_k».proof.Proof.FfnSpec
public import proofs.«01_k».proof.Proof.Gen.Kernel2Ideal.Skeleton
public import Idealize.ShloMosaic.Lib.Pointwise

@[expose] public section

set_option maxRecDepth 16384

noncomputable section

namespace Cert.Ffn

open Idealize.ShloMosaic Cert.Kernel2Ideal Cert.Kernel2Ideal.Gen

theorem half : Ideal.ofBits .f32 0x3F000000#32 = ((1 / 2 : ℝ) : EReal) := by
  simp [Ideal.ofBits, Ideal.ieee, -EReal.coe_mul]; norm_num
theorem one_bits : Ideal.ofBits .f32 0x3F800000#32 = ((1 : ℝ) : EReal) := by
  simp [Ideal.ofBits, Ideal.ieee, -EReal.coe_mul]; norm_num
theorem zero_bits : Ideal.ofBits .f32 0x00000000#32 = ((0 : ℝ) : EReal) := by simp [Ideal.ofBits, Ideal.ieee]

section
variable (v0 : Vec Ideal S512x2048 .bf16) (v2 v5 : Vec Ideal S1x2048x1408 .bf16)

theorem read_gate (i : Fin 512) (f : Fin 1408) :
    k0_pay2 (F := Ideal) v0 v2 (ix2 i f) = ∑ k, v0 (ix2 i k) * v2 (ix3 0 k f) := by
  unfold_payloads
  pointwise

theorem read_up (i : Fin 512) (f : Fin 1408) :
    k0_pay3 (F := Ideal) v0 v5 (ix2 i f) = ∑ k, v0 (ix2 i k) * v5 (ix3 0 k f) := by
  unfold_payloads
  pointwise

end

theorem read_dwd (v0 : Vec Ideal S2048x1408 .bf16) (v2 : Vec Ideal S2048x1024 .bf16) (f : Fin 1408) (n : Fin 1024) :
    k1_pay1 (F := Ideal) v0 v2 (ix2 f n) = (∑ s, v0 (ix2 s f) * v2 (ix2 s n)) * ((1 / 2 : ℝ) : EReal) := by
  unfold_payloads
  pointwise
  rw [half]

theorem read_dh (v0 : Vec Ideal S512x2048 .bf16) (v2 : Vec Ideal S1408x2048 .bf16) (i : Fin 512) (f : Fin 1408) :
    k2_pay1 (F := Ideal) v0 v2 (ix2 i f) = (∑ n, v0 (ix2 i n) * v2 (ix2 f n)) * ((1 / 2 : ℝ) : EReal) := by
  unfold_payloads
  pointwise
  rw [half]

theorem read_dw3 (v0 : Vec Ideal S2048x1024 .bf16) (v2 : Vec Ideal S2048x1408 .bf16) (d : Fin 1024) (f : Fin 1408) :
    k3_pay1 (F := Ideal) v0 v2 (ix3 0 d f) = ∑ s, v0 (ix2 s d) * v2 (ix2 s f) := by
  unfold_payloads
  pointwise

theorem read_dw4 (v0 : Vec Ideal S2048x1024 .bf16) (v2 : Vec Ideal S2048x1408 .bf16) (d : Fin 1024) (f : Fin 1408) :
    k4_pay1 (F := Ideal) v0 v2 (ix3 0 d f) = ∑ s, v0 (ix2 s d) * v2 (ix2 s f) := by
  unfold_payloads
  pointwise

end Cert.Ffn

end
-- ==== Proof.FfnBlock.lean ====
/- What the bodies of the five feed-forward calls store, when the blocks they read hold real numbers. -/
module

public import proofs.«01_k».proof.Proof.FfnPay

@[expose] public section

set_option maxRecDepth 16384

noncomputable section

namespace Cert.Ffn

open Idealize.ShloMosaic Cert.Kernel2Ideal Cert.Kernel2Ideal.Gen Cert.Fox

/-- A sum of products of real numbers. -/
theorem sum_coe {n : ℕ} {u v : Fin n → EReal} {a b : Fin n → ℝ} (hu : ∀ k, u k = (a k : EReal)) (hv : ∀ k, v k = (b k : EReal)) :
    ∑ k, u k * v k = ((∑ k, a k * b k : ℝ) : EReal) := by
  rw [coe_sum]
  exact Finset.sum_congr rfl fun k _ => by rw [hu, hv, EReal.coe_mul]

/-- The logistic quotient at a real number. -/
theorem sig_coe (z : ℝ) : Ideal.div ((1 : ℝ) : EReal) (((1 : ℝ) : EReal) + Ideal.exp (((-z : ℝ)) : EReal)) = (sigm z : EReal) := by
  rw [Ideal.exp_coe, ← EReal.coe_add, Ideal.div_coe (by positivity), EReal.coe_one, one_mul]
  rfl

section
variable {v0 : Vec Ideal S512x2048 .bf16} {v2 v5 : Vec Ideal S1x2048x1408 .bf16}
  {x : Fin 512 → Fin 2048 → ℝ} {g u : Fin 2048 → Fin 1408 → ℝ}
  (h0 : ∀ i k, v0 (ix2 i k) = (x i k : EReal)) (h2 : ∀ k f, v2 (ix3 0 k f) = (g k f : EReal)) (h5 : ∀ k f, v5 (ix3 0 k f) = (u k f : EReal))
  (i : Fin 512) (f : Fin 1408)

section
include h0 h2

theorem gate_coe : k0_pay2 (F := Ideal) v0 v2 (ix2 i f) = ((∑ k, x i k * g k f : ℝ) : EReal) :=
  (read_gate v0 v2 i f).trans (sum_coe (fun k => h0 i k) fun k => h2 k f)

theorem sigmoid_coe : k0_pay4 (F := Ideal) v0 v2 (ix2 i f) = (sigm (∑ k, x i k * g k f) : EReal) := by
  unfold k0_pay4
  pointwise
  rw [gate_coe h0 h2, ← EReal.coe_zero, ← EReal.coe_one, ← EReal.coe_sub, zero_sub, sig_coe]

theorem silu_coe : k0_pay5 (F := Ideal) v0 v2 (ix2 i f) = (silu (∑ k, x i k * g k f) : EReal) := by
  unfold k0_pay5
  pointwise
  rw [gate_coe h0 h2, sigmoid_coe h0 h2, ← EReal.coe_mul]
  rfl

theorem store_hdu : k0_pay8 (F := Ideal) v0 v2 (ix2 i f) = (silu (∑ k, x i k * g k f) : EReal) := by
  unfold k0_pay8
  pointwise
  exact silu_coe h0 h2 i f

end

section
include h0 h5

theorem up_coe : k0_pay3 (F := Ideal) v0 v5 (ix2 i f) = ((∑ k, x i k * u k f : ℝ) : EReal) :=
  (read_up v0 v5 i f).trans (sum_coe (fun k => h0 i k) fun k => h5 k f)

end

include h0 h2 h5

theorem store_hid : k0_pay6 (F := Ideal) v0 v2 v5 (ix2 i f) = (silu (∑ k, x i k * g k f) * (∑ k, x i k * u k f) : ℝ) := by
  unfold k0_pay6
  pointwise
  rw [silu_coe h0 h2, up_coe h0 h5, ← EReal.coe_mul]

theorem store_hdg : k0_pay7 (F := Ideal) v0 v2 v5 (ix2 i f) = ((∑ k, x i k * u k f) * slope (∑ k, x i k * g k f) : ℝ) := by
  unfold k0_pay7
  pointwise
  rw [gate_coe h0 h2, sigmoid_coe h0 h2, up_coe h0 h5, ← EReal.coe_one]
  simp only [← EReal.coe_mul, ← EReal.coe_sub, ← EReal.coe_add]
  rfl

end

theorem store_dwd {v0 : Vec Ideal S2048x1408 .bf16} {v2 : Vec Ideal S2048x1024 .bf16} {h : Fin 2048 → Fin 1408 → ℝ} {y : Fin 2048 → Fin 1024 → ℝ}
    (h0 : ∀ s f, v0 (ix2 s f) = (h s f : EReal)) (h2 : ∀ s n, v2 (ix2 s n) = (y s n : EReal)) (f : Fin 1408) (n : Fin 1024) :
    k1_pay1 (F := Ideal) v0 v2 (ix2 f n) = ((∑ s, h s f * y s n) * (1 / 2) : ℝ) := by
  rw [read_dwd, sum_coe (fun s => h0 s f) fun s => h2 s n, ← EReal.coe_mul]

section
variable {v0 : Vec Ideal S512x2048 .bf16} {v2 : Vec Ideal S1408x2048 .bf16} {y : Fin 512 → Fin 2048 → ℝ} {w : Fin 1408 → Fin 2048 → ℝ}
  (h0 : ∀ i n, v0 (ix2 i n) = (y i n : EReal)) (h2 : ∀ f n, v2 (ix2 f n) = (w f n : EReal)) (i : Fin 512) (f : Fin 1408)
include h0 h2

theorem dh_coe : k2_pay1 (F := Ideal) v0 v2 (ix2 i f) = ((∑ n, y i n * w f n) * (1 / 2) : ℝ) := by
  rw [read_dh, sum_coe (fun n => h0 i n) fun n => h2 f n, ← EReal.coe_mul]

theorem store_dg {a : Vec Ideal S512x1408 .bf16} {r : ℝ} (ha : a (ix2 i f) = (r : EReal)) :
    k2_pay2 (F := Ideal) v0 v2 a (ix2 i f) = ((∑ n, y i n * w f n) * (1 / 2) * r : ℝ) := by
  unfold k2_pay2
  pointwise
  rw [dh_coe h0 h2, ha, ← EReal.coe_mul]

theorem store_du {a : Vec Ideal S512x1408 .bf16} {r : ℝ} (ha : a (ix2 i f) = (r : EReal)) :
    k2_pay3 (F := Ideal) v0 v2 a (ix2 i f) = ((∑ n, y i n * w f n) * (1 / 2) * r : ℝ) := by
  unfold k2_pay3
  pointwise
  rw [dh_coe h0 h2, ha, ← EReal.coe_mul]

end

section
variable {v0 : Vec Ideal S2048x1024 .bf16} {v2 : Vec Ideal S2048x1408 .bf16} {x : Fin 2048 → Fin 1024 → ℝ} {g : Fin 2048 → Fin 1408 → ℝ}
  (h0 : ∀ s d, v0 (ix2 s d) = (x s d : EReal)) (h2 : ∀ s f, v2 (ix2 s f) = (g s f : EReal)) (d : Fin 1024) (f : Fin 1408)
include h0 h2

theorem store_dwg : k3_pay1 (F := Ideal) v0 v2 (ix3 0 d f) = ((∑ s, x s d * g s f : ℝ) : EReal) :=
  (read_dw3 v0 v2 d f).trans (sum_coe (fun s => h0 s d) fun s => h2 s f)

theorem store_dwu : k4_pay1 (F := Ideal) v0 v2 (ix3 0 d f) = ((∑ s, x s d * g s f : ℝ) : EReal) :=
  (read_dw4 v0 v2 d f).trans (sum_coe (fun s => h0 s d) fun s => h2 s f)

end

end Cert.Ffn

end
-- ==== Proof.FfnEntry.lean ====
/- What each of the five feed-forward calls reads and leaves, when the program's arguments hold real numbers. -/
module

public import proofs.«01_k».proof.Proof.FfnArrays
public import proofs.«01_k».proof.Proof.FfnBlock
public import Idealize.ShloMosaic.Lib.Pipeline.Value
public import Idealize.ShloMosaic.Lib.Claim

@[expose] public section

set_option maxRecDepth 16384

noncomputable section

namespace Cert.Ffn

open Idealize.ShloMosaic Idealize.ShloMosaic.TcCoe Idealize.SL.Sem Cert.Kernel2Ideal Cert.Kernel2Ideal.Gen

theorem zeros2 : (![0, 0] : Fin 2 → Nat) = fun _ => 0 := by funext x; fin_cases x <;> rfl
theorem zeros3 : (![0, 0, 0] : Fin 3 → Nat) = fun _ => 0 := by funext x; fin_cases x <;> rfl

/-! ## The blocks stored -/

theorem out_hid (x0 : Vec Ideal S512x2048 .bf16) (x1 x2 : Vec Ideal S1x2048x1408 .bf16) : out0_3 x0 x1 x2 = k0_pay6 x0 x1 x2 := by
  unfold out0_3; rw [View.canon_unit_zero zeros2, View.ld_unit_zero zeros2, View.ld_unit_zero zeros3, View.ld_unit_zero zeros3]
theorem out_hdg (x0 : Vec Ideal S512x2048 .bf16) (x1 x2 : Vec Ideal S1x2048x1408 .bf16) : out0_4 x0 x1 x2 = k0_pay7 x0 x1 x2 := by
  unfold out0_4; rw [View.canon_unit_zero zeros2, View.ld_unit_zero zeros2, View.ld_unit_zero zeros3, View.ld_unit_zero zeros3]
theorem out_hdu (x0 : Vec Ideal S512x2048 .bf16) (x1 x2 : Vec Ideal S1x2048x1408 .bf16) : out0_5 x0 x1 x2 = k0_pay8 x0 x1 := by
  unfold out0_5; rw [View.canon_unit_zero zeros2, View.ld_unit_zero zeros2, View.ld_unit_zero zeros3]
theorem out_dwd (x0 : Vec Ideal S2048x1408 .bf16) (x1 : Vec Ideal S2048x1024 .bf16) : out1_2 x0 x1 = k1_pay1 x0 x1 := by
  unfold out1_2; rw [View.canon_unit_zero zeros2, View.ld_unit_zero zeros2, View.ld_unit_zero zeros2]
theorem out_dg (x0 : Vec Ideal S512x2048 .bf16) (x1 : Vec Ideal S1408x2048 .bf16) (x2 x3 : Vec Ideal S512x1408 .bf16) :
    out2_4 x0 x1 x2 x3 = k2_pay2 x0 x1 x2 := by
  unfold out2_4; rw [View.canon_unit_zero zeros2, View.ld_unit_zero zeros2, View.ld_unit_zero zeros2, View.ld_unit_zero zeros2]
theorem out_du (x0 : Vec Ideal S512x2048 .bf16) (x1 : Vec Ideal S1408x2048 .bf16) (x2 x3 : Vec Ideal S512x1408 .bf16) :
    out2_5 x0 x1 x2 x3 = k2_pay3 x0 x1 x3 := by
  unfold out2_5; rw [View.canon_unit_zero zeros2, View.ld_unit_zero zeros2, View.ld_unit_zero zeros2, View.ld_unit_zero zeros2]
theorem out_dwg (x0 : Vec Ideal S2048x1024 .bf16) (x1 : Vec Ideal S2048x1408 .bf16) : out3_2 x0 x1 = k3_pay1 x0 x1 := by
  unfold out3_2; rw [View.canon_unit_zero zeros3, View.ld_unit_zero zeros2, View.ld_unit_zero zeros2]
theorem out_dwu (x0 : Vec Ideal S2048x1024 .bf16) (x1 : Vec Ideal S2048x1408 .bf16) : out4_2 x0 x1 = k4_pay1 x0 x1 := by
  unfold out4_2; rw [View.canon_unit_zero zeros3, View.ld_unit_zero zeros2, View.ld_unit_zero zeros2]

/-! ## What the host gives the calls -/

section
variable (m : (ℓ : Loc nD τ Cert.Kernel2Ideal.sig) → Buf (Elt Ideal) ℓ) (ρ : Dev nD → PrngReg) (c : Dev nD)

theorem host_x (i k : Fin 2048) : V1 m ρ c main_v0 (ix2 i k) = m ((c : Thread nD τ).loc main_arg0) (ix2 i k) := by
  show StableHlo.after hostOps0 (W0 m ρ c) (Proc.devRef .tc main_v0) (ix2 i k) = _
  simp only [hostOps0]
  after_results
  pointwise

theorem host_dy (i n : Fin 2048) : V1 m ρ c main_v1 (ix2 i n) = m ((c : Thread nD τ).loc main_arg4) (ix2 i n) := by
  show StableHlo.after hostOps0 (W0 m ρ c) (Proc.devRef .tc main_v1) (ix2 i n) = _
  simp only [hostOps0]
  after_results
  pointwise

theorem host_wd (f : Fin 5632) (n : Fin 2048) : V1 m ρ c main_v8 (ix2 f n) = m ((c : Thread nD τ).loc main_arg3) (ix2 f n) := by
  show StableHlo.after hostOps0 (W0 m ρ c) (Proc.devRef .tc main_v8) (ix2 f n) = _
  simp only [hostOps0]
  after_results
  pointwise

/-- The strips of a weight's columns, laid one after another. -/
theorem strips (w : (⟨S2048x5632, .f32⟩ : BufTy).Contents (Elt Ideal)) (j : Fin 4) (k : Fin 2048) (f : Fin 1408) :
    transpose S4x2048x1408 [1, 0, 2] (shapeCast S2048x4x1408 w shapeCasts_S2048x5632_S2048x4x1408) transposes_S2048x4x1408_S4x2048x1408_1_0_2 (ix3 j k f)
      = w (ix2 k (strip j f)) := by
  refine (transpose_apply [1, 0, 2] _ transposes_S2048x4x1408_S4x2048x1408_1_0_2 (ix3 j k f) (ix3 k j f) (fun b => match b with
    | ⟨0, _⟩ => rfl | ⟨1, _⟩ => rfl | ⟨2, _⟩ => rfl)).trans ?_
  exact shapeCast_apply w shapeCasts_S2048x5632_S2048x4x1408 (ix3 k j f) (ix2 k (strip j f))
    (by show (S2048x5632.rowMajor (ix2 k (strip j f))).val = _; rw [Shape.rowMajor_val_two, Shape.rowMajor_val_three]; show k.val * 5632 + (1408 * j.val + f.val) = (k.val * 4 + j.val) * 1408 + f.val; omega)

theorem host_wg (j : Fin 4) (k : Fin 2048) (f : Fin 1408) :
    V1 m ρ c main_v4 (ix3 j k f) = m ((c : Thread nD τ).loc main_arg1) (ix2 k (strip j f)) := by
  show StableHlo.after hostOps0 (W0 m ρ c) (Proc.devRef .tc main_v4) (ix3 j k f) = _
  simp only [hostOps0]
  after_results
  exact strips (m ((c : Thread nD τ).loc main_arg1)) j k f

theorem host_wu (j : Fin 4) (k : Fin 2048) (f : Fin 1408) :
    V1 m ρ c main_v7 (ix3 j k f) = m ((c : Thread nD τ).loc main_arg2) (ix2 k (strip j f)) := by
  show StableHlo.after hostOps0 (W0 m ρ c) (Proc.devRef .tc main_v7) (ix3 j k f) = _
  simp only [hostOps0]
  after_results
  exact strips (m ((c : Thread nD τ).loc main_arg2)) j k f

end

/-! ## The calls, one after another -/

variable {m : (ℓ : Loc nD τ Cert.Kernel2Ideal.sig) → Buf (Elt Ideal) ℓ} {ρ : Dev nD → PrngReg} {c : Dev nD}
  {x dy : Fin 2048 → Fin 2048 → ℝ} {wg wu : Fin 2048 → Fin 5632 → ℝ} {wd : Fin 5632 → Fin 2048 → ℝ}
  (hx : ∀ i k, m ((c : Thread nD τ).loc main_arg0) (ix2 i k) = (x i k : EReal))
  (hg : ∀ k f, m ((c : Thread nD τ).loc main_arg1) (ix2 k f) = (wg k f : EReal))
  (hu : ∀ k f, m ((c : Thread nD τ).loc main_arg2) (ix2 k f) = (wu k f : EReal))
  (hd : ∀ f n, m ((c : Thread nD τ).loc main_arg3) (ix2 f n) = (wd f n : EReal))
  (hy : ∀ i n, m ((c : Thread nD τ).loc main_arg4) (ix2 i n) = (dy i n : EReal))

section
include hx hg hu

theorem arr_hid : (dat0 (V1 m ρ) c).arrAt 3 cfg0.N = fun i : S2048x5632.Idx => (hid x wg wu (i 0) (i 1) : EReal) := by
  refine arr0_3 _ c (hid x wg wu) fun t a f => ?_
  rw [after0_3, out_hid]
  exact store_hid (x := fun a k => x (quart (mod4 t) a) k) (g := fun k f => wg k (strip (div4 t) f)) (u := fun k f => wu k (strip (div4 t) f))
    (fun a k => (in0_0 _ c t a k).trans ((host_x ..).trans (hx _ _))) (fun k f => (in0_1 _ c t k f).trans ((host_wg ..).trans (hg _ _)))
    (fun k f => (in0_2 _ c t k f).trans ((host_wu ..).trans (hu _ _))) a f

theorem arr_hdg : (dat0 (V1 m ρ) c).arrAt 4 cfg0.N = fun i : S2048x5632.Idx => (hdg x wg wu (i 0) (i 1) : EReal) := by
  refine arr0_4 _ c (hdg x wg wu) fun t a f => ?_
  rw [after0_4, out_hdg]
  exact store_hdg (x := fun a k => x (quart (mod4 t) a) k) (g := fun k f => wg k (strip (div4 t) f)) (u := fun k f => wu k (strip (div4 t) f))
    (fun a k => (in0_0 _ c t a k).trans ((host_x ..).trans (hx _ _))) (fun k f => (in0_1 _ c t k f).trans ((host_wg ..).trans (hg _ _)))
    (fun k f => (in0_2 _ c t k f).trans ((host_wu ..).trans (hu _ _))) a f

end

section
include hx hg

theorem arr_hdu : (dat0 (V1 m ρ) c).arrAt 5 cfg0.N = fun i : S2048x5632.Idx => (hdu x wg (i 0) (i 1) : EReal) := by
  refine arr0_5 _ c (hdu x wg) fun t a f => ?_
  rw [after0_5, out_hdu]
  exact store_hdu (x := fun a k => x (quart (mod4 t) a) k) (g := fun k f => wg k (strip (div4 t) f))
    (fun a k => (in0_0 _ c t a k).trans ((host_x ..).trans (hx _ _))) (fun k f => (in0_1 _ c t k f).trans ((host_wg ..).trans (hg _ _))) a f

end

section
include hx hg hu hy

/-- The second call leaves the gradient of the down weight. -/
theorem arr_dwd : (dat1 (V2 m ρ) c).arrAt 2 cfg1.N = fun i : S5632x2048.Idx => (dwd x wg wu dy (i 0) (i 1) : EReal) := by
  refine arr1_2 _ c (dwd x wg wu dy) fun t f n => ?_
  rw [after1_2, out_dwd]
  exact store_dwd (h := fun s f => hid x wg wu s (strip (div2 t) f)) (y := fun s n => dy s (halve (mod2 t) n))
    (fun s f => (in1_0 _ c t s f).trans (congrFun ((W2_arr m ρ c 3).trans (arr_hid hx hg hu)) _))
    (fun s n => (in1_1 _ c t s n).trans ((congrFun (W2_of m ρ c main_v1 (by decide +kernel)) _).trans ((host_dy ..).trans (hy _ _)))) f n

end

theorem V3_of {b : Ref Cert.Kernel2Ideal.sig .tc} (h0 : ∀ w : Fin cfg0.W, Pipeline.arrRef spec0 w = b → (cfg0.win w).isOut = false)
    (h1 : ∀ w : Fin cfg1.W, Pipeline.arrRef spec1 w = b → (cfg1.win w).isOut = false) : V3 m ρ c b = V1 m ρ c b :=
  (W3_of m ρ c b h1).trans (W2_of m ρ c b h0)

section
include hd hy

theorem reads2 (t : Fin cfg2.N) :
    (∀ a n, iblk2 (V3 m ρ) c 0 t (ix2 a n : S512x2048.Idx) = (dy (quart (mod4 t) a) n : EReal))
      ∧ ∀ f n, iblk2 (V3 m ρ) c 1 t (ix2 f n : S1408x2048.Idx) = (wd (strip (div4 t) f) n : EReal) :=
  ⟨fun a n => (in2_0 _ c t a n).trans ((congrFun (V3_of (by decide +kernel) (by decide +kernel)) _).trans ((host_dy ..).trans (hy _ _))),
    fun f n => (in2_1 _ c t f n).trans ((congrFun (V3_of (by decide +kernel) (by decide +kernel)) _).trans ((host_wd ..).trans (hd _ _)))⟩

end

include hx hg hd hy

/-- The third call leaves the gradients of the gate product and of the up product. -/
theorem arr_du : (dat2 (V3 m ρ) c).arrAt 5 cfg2.N = fun i : S2048x5632.Idx => (du x wg wd dy (i 0) (i 1) : EReal) := by
  refine arr2_5 _ c (du x wg wd dy) fun t a f => ?_
  rw [after2_5, out_du]
  obtain ⟨r0, r1⟩ := reads2 (m := m) (ρ := ρ) hd hy t
  exact store_du (y := fun a n => dy (quart (mod4 t) a) n) (w := fun f n => wd (strip (div4 t) f) n) r0 r1 a f
    ((in2_3 _ c t a f).trans ((congrFun (W3_of m ρ c main_v9_2 (by decide +kernel)) _).trans (congrFun ((W2_arr m ρ c 5).trans (arr_hdu hx hg)) _)))

/-- The fifth call leaves the gradient of the up weight. -/
theorem arr_dwu : (dat4 (V5 m ρ) c).arrAt 2 cfg4.N = fun i : S4x2048x1408.Idx => (dwu x wg wd dy (i 1) (strip (i 0) (i 2)) : EReal) := by
  refine arr4_2 _ c (dwu x wg wd dy) fun t d f => ?_
  rw [after4_2, out_dwu]
  exact store_dwu (x := fun s d => x s (halve (div4' t) d)) (g := fun s f => du x wg wd dy s (strip (mod4' t) f))
    (fun s d => (in4_0 _ c t s d).trans ((congrFun ((W5_of m ρ c main_v0 (by decide +kernel)).trans ((W4_of m ρ c main_v0 (by decide +kernel)).trans
      (V3_of (by decide +kernel) (by decide +kernel)))) _).trans ((host_x ..).trans (hx _ _))))
    (fun s f => (in4_1 _ c t s f).trans (congrFun ((W5_of m ρ c main_v11_1 (by decide +kernel)).trans ((W4_arr m ρ c 5).trans (arr_du hx hg hd hy))) _)) d f

include hu

theorem arr_dg : (dat2 (V3 m ρ) c).arrAt 4 cfg2.N = fun i : S2048x5632.Idx => (dg x wg wu wd dy (i 0) (i 1) : EReal) := by
  refine arr2_4 _ c (dg x wg wu wd dy) fun t a f => ?_
  rw [after2_4, out_dg]
  obtain ⟨r0, r1⟩ := reads2 (m := m) (ρ := ρ) hd hy t
  exact store_dg (y := fun a n => dy (quart (mod4 t) a) n) (w := fun f n => wd (strip (div4 t) f) n) r0 r1 a f
    ((in2_2 _ c t a f).trans ((congrFun (W3_of m ρ c main_v9_1 (by decide +kernel)) _).trans (congrFun ((W2_arr m ρ c 4).trans (arr_hdg hx hg hu)) _)))

/-- The fourth call leaves the gradient of the gate weight. -/
theorem arr_dwg : (dat3 (V4 m ρ) c).arrAt 2 cfg3.N = fun i : S4x2048x1408.Idx => (dwg x wg wu wd dy (i 1) (strip (i 0) (i 2)) : EReal) := by
  refine arr3_2 _ c (dwg x wg wu wd dy) fun t d f => ?_
  rw [after3_2, out_dwg]
  exact store_dwg (x := fun s d => x s (halve (div4' t) d)) (g := fun s f => dg x wg wu wd dy s (strip (mod4' t) f))
    (fun s d => (in3_0 _ c t s d).trans ((congrFun ((W4_of m ρ c main_v0 (by decide +kernel)).trans
      (V3_of (by decide +kernel) (by decide +kernel))) _).trans ((host_x ..).trans (hx _ _))))
    (fun s f => (in3_1 _ c t s f).trans (congrFun ((W4_arr m ρ c 4).trans (arr_dg hx hg hu hd hy)) _)) d f

end Cert.Ffn

end
-- ==== Proof.FfnRun.lean ====
/- The run of the program, its results included: what each result array holds when the five feed-forward calls are done. -/
module

public import proofs.«01_k».proof.Proof.Gen.Kernel2Ideal.Frame

@[expose] public section

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each array that the host can name as the last call leaves it. -/
theorem run_arrays : θ_run defs (onTc (τ := τ) (main (F := F))) ⟨m, fun _ => 0, ρ⟩
    (fun r => ∀ c : Dev nD, ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

/-- The three results are what the fourth, the fifth and the second call leave, and the arguments end as they began. -/
theorem run_results : θ_run defs (onTc (τ := τ) (main (F := F))) ⟨m, fun _ => 0, ρ⟩ (fun r => ∀ c : Dev nD,
      r.2.mem ((c.tc : Thread nD τ).loc main_v12) = (dat3 (V4 m ρ) c).arrAt 2 cfg3.N
      ∧ r.2.mem ((c.tc : Thread nD τ).loc main_v13) = (dat4 (V5 m ρ) c).arrAt 2 cfg4.N
      ∧ r.2.mem ((c.tc : Thread nD τ).loc main_v10) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v12 (by decide))).trans ((W6_of m ρ c main_v12 (by decide +kernel)).trans (W5_arr m ρ c 2)),
     (h c _ (mem_uc main_v13 (by decide))).trans (W6_arr m ρ c 2),
     (h c _ (mem_uc main_v10 (by decide))).trans ((W6_of m ρ c main_v10 (by decide +kernel)).trans ((W5_of m ρ c main_v10 (by decide +kernel)).trans
       ((W4_of m ρ c main_v10 (by decide +kernel)).trans (W3_arr m ρ c 2)))),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c)⟩) (run_arrays m ρ)

end Cert.Ffn

end
-- ==== Proof.FfnRef.lean ====
/- The feed-forward reference at real arguments: differentiating the plain half step gives the gradients of the three weights
   written out over the real numbers. -/
module

public import proofs.«01_k».proof.Proof.Gen.Reference2Ideal.Read
public import proofs.«01_k».proof.Proof.RefFwd
public import proofs.«01_k».proof.Proof.FfnBlock

@[expose] public section

noncomputable section

namespace Cert.Ffn

open Idealize.ShloMosaic Cert.Reference2Ideal Cert.Reference2Ideal.Gen Cert.Reference2Ideal.Read
open Cert.Fox (read2)

/-- The reference's arguments hold real numbers: rows, gate, up and down weights, and the cotangent. -/
structure Args (x0 : (⟨S2048x2048, .f32⟩ : BufTy).Contents (Elt Ideal)) (x1 x2 : (⟨S2048x5632, .f32⟩ : BufTy).Contents (Elt Ideal))
    (x3 : (⟨S5632x2048, .f32⟩ : BufTy).Contents (Elt Ideal)) (x4 : (⟨S2048x2048, .f32⟩ : BufTy).Contents (Elt Ideal))
    (x dy : Fin 2048 → Fin 2048 → ℝ) (wg wu : Fin 2048 → Fin 5632 → ℝ) (wd : Fin 5632 → Fin 2048 → ℝ) : Prop where
  x : ∀ i k, x0 (ix2 i k) = (x i k : EReal)
  g : ∀ k f, x1 (ix2 k f) = (wg k f : EReal)
  u : ∀ k f, x2 (ix2 k f) = (wu k f : EReal)
  d : ∀ f n, x3 (ix2 f n) = (wd f n : EReal)
  y : ∀ i n, x4 (ix2 i n) = (dy i n : EReal)

variable {x0 : (⟨S2048x2048, .f32⟩ : BufTy).Contents (Elt Ideal)} {x1 x2 : (⟨S2048x5632, .f32⟩ : BufTy).Contents (Elt Ideal)}
  {x3 : (⟨S5632x2048, .f32⟩ : BufTy).Contents (Elt Ideal)} {x4 : (⟨S2048x2048, .f32⟩ : BufTy).Contents (Elt Ideal)}
  {x dy : Fin 2048 → Fin 2048 → ℝ} {wg wu : Fin 2048 → Fin 5632 → ℝ} {wd : Fin 5632 → Fin 2048 → ℝ}
  (h : Args x0 x1 x2 x3 x4 x dy wg wu wd)
include h

namespace Args

theorem v0 (i : Fin 2048) (f : Fin 5632) : val_main_v0 (F := Ideal) x0 x1 (ix2 i f) = (prod x wg i f : EReal) :=
  (val_main_v0_apply ..).trans (sum_coe (fun k => read2 (h.x i k) rfl rfl) fun k => read2 (h.g k f) rfl rfl)

theorem v2 (i : Fin 2048) (f : Fin 5632) : val_main_v2 (F := Ideal) x0 x2 (ix2 i f) = (prod x wu i f : EReal) :=
  (val_main_v2_apply ..).trans (sum_coe (fun k => read2 (h.x i k) rfl rfl) fun k => read2 (h.u k f) rfl rfl)

/-- The logistic function of the gate product. -/
theorem v1_2 (i : Fin 2048) (f : Fin 5632) : val_main_v1_2 (F := Ideal) x0 x1 (ix2 i f) = (sigm (prod x wg i f) : EReal) := by
  rw [val_main_v1_2_apply, val_main_call0_v3_apply, val_main_call0_v1_apply, val_main_call0_v0_apply, h.v0, val_main_call0_v2_apply,
    val_main_call0_cst_apply, val_main_call0_v4_apply, val_main_call0_cst_0_apply, ← sig_coe]
  show Ideal.div (Ideal.ofBits .f32 0x3F800000#32) (Ideal.ofBits .f32 0x3F800000#32 + Ideal.exp (-(prod x wg i f : EReal))) = _
  rw [one_bits, ← EReal.coe_neg]

/-- The logistic function times one less it. -/
theorem v1_1 (i : Fin 2048) (f : Fin 5632) :
    val_main_v1_1 (F := Ideal) x0 x1 (ix2 i f) = (sigm (prod x wg i f) * (1 - sigm (prod x wg i f)) : ℝ) := by
  rw [val_main_v1_1_apply, val_main_call0_v7_apply, h.v1_2, val_main_call0_v6_apply, val_main_call0_cst_1_apply]
  show _ * (Ideal.ofBits .f32 0x3F800000#32 - _) = _
  rw [one_bits, ← EReal.coe_sub, ← EReal.coe_mul]

theorem v1_0 (i : Fin 2048) (f : Fin 5632) : val_main_v1_0 (F := Ideal) x0 x1 (ix2 i f) = (silu (prod x wg i f) : EReal) := by
  rw [val_main_v1_0_apply, h.v0, h.v1_2]
  exact (EReal.coe_mul _ _).symm

theorem v3 (i : Fin 2048) (f : Fin 5632) : val_main_v3 (F := Ideal) x0 x1 x2 (ix2 i f) = (hid x wg wu i f : EReal) := by
  rw [val_main_v3_apply, h.v1_0, h.v2]
  exact (EReal.coe_mul _ _).symm

/-- Half the cotangent. -/
theorem v8 (i n : Fin 2048) : val_main_v8 (F := Ideal) x4 (ix2 i n) = (1 / 2 * dy i n : ℝ) := by
  rw [val_main_v8_apply, val_main_v7_apply, val_main_cst_0_apply, h.y]
  show Ideal.ofBits .f32 0x3F000000#32 * _ = _
  rw [half, ← EReal.coe_mul]

/-- The gradient of the hidden rows. -/
theorem v11 (i : Fin 2048) (f : Fin 5632) : val_main_v11 (F := Ideal) x3 x4 (ix2 i f) = (dh wd dy i f : EReal) := by
  refine (val_main_v11_apply ..).trans ((sum_coe (fun n => read2 (h.v8 i n) rfl rfl) fun n => read2 (h.d f n) rfl rfl).trans ?_)
  refine congrArg Real.toEReal ?_
  rw [dh, Finset.sum_mul]
  exact Finset.sum_congr rfl fun n _ => by ring

/-- The gradient of the up product. -/
theorem v12 (i : Fin 2048) (f : Fin 5632) : val_main_v12 (F := Ideal) x0 x1 x3 x4 (ix2 i f) = (du x wg wd dy i f : EReal) := by
  rw [val_main_v12_apply, h.v1_0, h.v11]
  refine (EReal.coe_mul _ _).symm.trans (congrArg Real.toEReal ?_)
  rw [du, hdu]; ring

/-- The gradient of the gate product: the product rule at `z` times its logistic function, its two terms taken together. -/
theorem v16 (i : Fin 2048) (f : Fin 5632) : val_main_v16 (F := Ideal) x0 x1 x2 x3 x4 (ix2 i f) = (dg x wg wu wd dy i f : EReal) := by
  have h13 : val_main_v13 (F := Ideal) x0 x2 x3 x4 (ix2 i f) = (dh wd dy i f * prod x wu i f : ℝ) := by
    rw [val_main_v13_apply, h.v11, h.v2]
    exact (EReal.coe_mul _ _).symm
  rw [val_main_v16_apply, val_main_call1_v1_apply, val_main_call1_v2_apply, val_main_call1_v0_apply, h13, h.v1_2, h.v0, h.v1_1]
  show _ * _ + _ * _ * _ = _
  rw [← EReal.coe_mul, ← EReal.coe_mul, ← EReal.coe_mul, ← EReal.coe_add]
  refine congrArg Real.toEReal ?_
  rw [dg, hdg, slope]; ring

/-! The results. -/

theorem v17 (f : Fin 5632) (d : Fin 2048) : val_main_v17 (F := Ideal) x0 x1 x2 x3 x4 (ix2 f d) = (dwg x wg wu wd dy d f : EReal) := by
  refine (val_main_v17_apply ..).trans ((sum_coe (fun s => read2 (h.v16 s f) rfl rfl) fun s => read2 (h.x s d) rfl rfl).trans ?_)
  refine congrArg Real.toEReal ?_
  exact Finset.sum_congr rfl fun s _ => by ring

theorem v14 (f : Fin 5632) (d : Fin 2048) : val_main_v14 (F := Ideal) x0 x1 x3 x4 (ix2 f d) = (dwu x wg wd dy d f : EReal) := by
  refine (val_main_v14_apply ..).trans ((sum_coe (fun s => read2 (h.v12 s f) rfl rfl) fun s => read2 (h.x s d) rfl rfl).trans ?_)
  refine congrArg Real.toEReal ?_
  exact Finset.sum_congr rfl fun s _ => by ring

theorem v9 (n : Fin 2048) (f : Fin 5632) : val_main_v9 (F := Ideal) x0 x1 x2 x4 (ix2 n f) = (dwd x wg wu dy f n : EReal) := by
  refine (val_main_v9_apply ..).trans ((sum_coe (fun s => read2 (h.v8 s n) rfl rfl) fun s => read2 (h.v3 s f) rfl rfl).trans ?_)
  refine congrArg Real.toEReal ?_
  rw [dwd, Finset.sum_mul]
  exact Finset.sum_congr rfl fun s _ => by ring

omit h in
theorem strip0 (j : Fin 4) (k : Fin 2048) (f : Fin 1408) : ((k.val * 4 + j.val) * 1408 + f.val) / 5632 = k.val := by omega
omit h in
theorem strip1 (j : Fin 4) (k : Fin 2048) (f : Fin 1408) : ((k.val * 4 + j.val) * 1408 + f.val) % 5632 = (strip j f).val := by
  show _ = 1408 * j.val + f.val; omega

/-- The gradient of the gate weight, strip by strip. -/
theorem dwg_eq : val_main_v21 (F := Ideal) x0 x1 x2 x3 x4 = fun i : S4x2048x1408.Idx => (dwg x wg wu wd dy (i 1) (strip (i 0) (i 2)) : EReal) := by
  funext i
  rw [val_main_v21_apply]
  show val_main_v20 (F := Ideal) x0 x1 x2 x3 x4 i = _
  refine (val_main_v20_apply ..).trans ((val_main_v19_apply ..).trans ((val_main_v18_apply ..).trans ?_))
  exact read2 (h.v17 (strip (i 0) (i 2)) (i 1)) (strip1 (i 0) (i 1) (i 2)) (strip0 (i 0) (i 1) (i 2))

/-- The gradient of the up weight, strip by strip. -/
theorem dwu_eq : val_main_v24 (F := Ideal) x0 x1 x3 x4 = fun i : S4x2048x1408.Idx => (dwu x wg wd dy (i 1) (strip (i 0) (i 2)) : EReal) := by
  funext i
  rw [val_main_v24_apply]
  show val_main_v23 (F := Ideal) x0 x1 x3 x4 i = _
  refine (val_main_v23_apply ..).trans ((val_main_v22_apply ..).trans ((val_main_v15_apply ..).trans ?_))
  exact read2 (h.v14 (strip (i 0) (i 2)) (i 1)) (strip1 (i 0) (i 1) (i 2)) (strip0 (i 0) (i 1) (i 2))

/-- The gradient of the down weight. -/
theorem dwd_eq : val_main_v25 (F := Ideal) x0 x1 x2 x4 = fun i : S5632x2048.Idx => (dwd x wg wu dy (i 0) (i 1) : EReal) := by
  funext i
  rw [val_main_v25_apply]
  show val_main_v10 (F := Ideal) x0 x1 x2 x4 i = _
  exact (val_main_v10_apply ..).trans (read2 (h.v9 (i 1) (i 0)) rfl rfl)

end Args

end Cert.Ffn

end
-- ==== Proof.FfnFinite.lean ====
/- The precondition of the feed-forward value claim: when it holds, every element of every argument is a real number. -/
module

public import proofs.«01_k».proof.Proof.Gen.Pre_finite2
public import proofs.«01_k».proof.Proof.Finite

@[expose] public section

noncomputable section

namespace Cert.Ffn

open Idealize.ShloMosaic Cert.Pre_finite2

/-- Where the precondition's function is one, each of the five arrays holds real numbers. -/
theorem finite_args {a0 a4 : FVec Ideal S2048x2048 .f32} {a1 a2 : FVec Ideal S2048x5632 .f32} {a3 : FVec Ideal S5632x2048 .f32}
    (e : fn (F := Ideal) a0 a1 a2 a3 a4 = fun _ => 1#1) :
    (∀ i, a0 i = (EReal.toReal (a0 i) : EReal)) ∧ (∀ i, a1 i = (EReal.toReal (a1 i) : EReal)) ∧ (∀ i, a2 i = (EReal.toReal (a2 i) : EReal))
      ∧ (∀ i, a3 i = (EReal.toReal (a3 i) : EReal)) ∧ (∀ i, a4 i = (EReal.toReal (a4 i) : EReal)) := by
  have e' := congrFun e (Shape.Idx.first Gen.h_S_)
  dsimp only [fn, fn_part1] at e'
  haveI : Subsingleton S_.Idx := ⟨fun a b => funext fun x => x.elim0⟩
  obtain ⟨e', h4⟩ := IntOp.andi_eq_one.1 e'
  obtain ⟨e', h3⟩ := IntOp.andi_eq_one.1 e'
  obtain ⟨e', h2⟩ := IntOp.andi_eq_one.1 e'
  obtain ⟨h0, h1⟩ := IntOp.andi_eq_one.1 e'
  exact ⟨fun i => Fox.real_of_abs _ (Host.reduce_andi_all _ _ _ _ _ h0 i), fun i => Fox.real_of_abs _ (Host.reduce_andi_all _ _ _ _ _ h1 i),
    fun i => Fox.real_of_abs _ (Host.reduce_andi_all _ _ _ _ _ h2 i), fun i => Fox.real_of_abs _ (Host.reduce_andi_all _ _ _ _ _ h3 i),
    fun i => Fox.real_of_abs _ (Host.reduce_andi_all _ _ _ _ _ h4 i)⟩

end Cert.Ffn

end
-- ==== Proof.Products.lean ====
/- Sums over an axis taken in strips, and the tiles of a product's arrays: shared by the programs that keep a running sum
   over the strips of the axis they contract. -/
module

public import proofs.«01_k».proof.Proof.FfnSpec
public import Idealize.ShloMosaic.Lib.Pipeline.ValueKit.Geometry
public import Idealize.ShloMosaic.Lib.Pipeline.Value

@[expose] public section

set_option maxRecDepth 16384

noncomputable section

namespace Cert.Products

open Idealize.ShloMosaic Idealize.ShloMosaic.TcCoe Idealize.SL.Sem
open Cert.Ffn (strip)

theorem zeros2 : (![0, 0] : Fin 2 → Nat) = fun _ => 0 := by funext x; fin_cases x <;> rfl
theorem zeros3 : (![0, 0, 0] : Fin 3 → Nat) = fun _ => 0 := by funext x; fin_cases x <;> rfl

theorem exists2 {m n : ℕ} (y : (⟨2, ![m, n]⟩ : Shape).Idx) : ∃ (a : Fin m) (b : Fin n), y = ix2 a b :=
  ⟨y 0, y 1, funext fun x => match x with | ⟨0, _⟩ => rfl | ⟨1, _⟩ => rfl⟩

/-- Row `a` of tile `q` among two tiles of 1024 rows. -/
def half (q : Fin 2) (a : Fin 1024) : Fin 2048 := ⟨1024 * q.val + a.val, by omega⟩

/-! ## The points of a grid of two row tiles, two column tiles and four strips, the strips innermost -/

def rowTile (t : Fin 16) : Fin 2 := ⟨t.val / 4 / 2, by omega⟩
def colTile (t : Fin 16) : Fin 2 := ⟨t.val / 4 % 2, by omega⟩
def stripOf (t : Fin 16) : Fin 4 := ⟨t.val % 4, by omega⟩

theorem rowTile_eq {t t' : Fin 16} (h : t'.val / 4 = t.val / 4) : rowTile t' = rowTile t := Fin.ext (by simp only [rowTile, h])
theorem colTile_eq {t t' : Fin 16} (h : t'.val / 4 = t.val / 4) : colTile t' = colTile t := Fin.ext (by simp only [colTile, h])
theorem stripOf_eq {t : Fin 16} {j : Fin 4} (h : t.val % 4 = j.val) : stripOf t = j := Fin.ext h

/-- The four strips of a weight's columns, laid one after another. -/
theorem strips (h1 : (⟨2, ![2048, 5632]⟩ : Shape).ShapeCasts ⟨3, ![2048, 4, 1408]⟩)
    (h2 : (⟨3, ![2048, 4, 1408]⟩ : Shape).Transposes [1, 0, 2] ⟨3, ![4, 2048, 1408]⟩)
    (w : (⟨2, ![2048, 5632]⟩ : Shape).Idx → EReal) (j : Fin 4) (n : Fin 2048) (d : Fin 1408) :
    transpose ⟨3, ![4, 2048, 1408]⟩ [1, 0, 2] (shapeCast ⟨3, ![2048, 4, 1408]⟩ w h1) h2 (ix3 j n d) = w (ix2 n (strip j d)) := by
  refine (transpose_apply [1, 0, 2] _ h2 (ix3 j n d) (ix3 n j d) (fun b => match b with
    | ⟨0, _⟩ => rfl | ⟨1, _⟩ => rfl | ⟨2, _⟩ => rfl)).trans ?_
  exact shapeCast_apply w h1 (ix3 n j d) (ix2 n (strip j d))
    (by rw [Shape.rowMajor_val_two, Shape.rowMajor_val_three]; show n.val * 5632 + (1408 * j.val + d.val) = (n.val * 4 + j.val) * 1408 + d.val; omega)

/-- A sum over 5632 terms is the sum over its four strips of 1408, one strip added after another. -/
theorem sum_strips {A : Type} [AddCommMonoid A] (f : Fin 5632 → A) :
    ∑ i, f i = ((∑ k, f (strip 0 k) + ∑ k, f (strip 1 k)) + ∑ k, f (strip 2 k)) + ∑ k, f (strip 3 k) := by
  rw [← Equiv.sum_comp (finProdFinEquiv : Fin 4 × Fin 1408 ≃ Fin 5632), Fintype.sum_prod_type, Fin.sum_univ_four]
  have e : ∀ j k, (finProdFinEquiv : Fin 4 × Fin 1408 ≃ Fin 5632) (j, k) = strip j k := fun j k =>
    Fin.ext (by show k.val + 1408 * j.val = 1408 * j.val + k.val; omega)
  simp only [e]

/-! ## Columns widened with zeros, and the points of a grid of two row tiles, two column tiles and five strips -/

/-- The 4624 columns laid out over 5120: 3088 of them, 112 of zeros, the other 1536, and 384 of zeros. -/
def padded {n : ℕ} (w : Fin n → Fin 4624 → EReal) (i : Fin n) (f : Fin 5120) : EReal :=
  if h : f.val < 3088 then w i ⟨f.val, by omega⟩ else
    if f.val < 3200 then 0 else if h' : f.val < 4736 then w i ⟨f.val - 112, by omega⟩ else 0

/-- Where column `k` of the 4624 lies among the 5120. -/
def place (k : Fin 4624) : Fin 5120 := if k.val < 3088 then ⟨k.val, by omega⟩ else ⟨k.val + 112, by omega⟩

theorem padded_place {n : ℕ} (w : Fin n → Fin 4624 → EReal) (i : Fin n) (k : Fin 4624) : padded w i (place k) = w i k := by
  unfold padded place
  by_cases h : k.val < 3088
  · simp [h]
  · rw [if_neg h, dif_neg (by show ¬k.val + 112 < 3088; omega), if_neg (by show ¬k.val + 112 < 3200; omega), dif_pos (by show k.val + 112 < 4736; omega)]
    simp

theorem place_injective : Function.Injective place := fun k k' h => by
  have h := congrArg Fin.val h
  unfold place at h
  apply Fin.ext
  split_ifs at h <;> simp only at h <;> omega

theorem padded_off {n : ℕ} (w : Fin n → Fin 4624 → EReal) (i : Fin n) (f : Fin 5120) (h : f ∉ Set.range place) : padded w i f = 0 := by
  unfold padded
  by_cases h1 : f.val < 3088
  · exact absurd ⟨⟨f.val, by omega⟩, by unfold place; rw [if_pos (by exact h1)]⟩ h
  · rw [dif_neg h1]
    by_cases h2 : f.val < 3200
    · rw [if_pos h2]
    · rw [if_neg h2]
      by_cases h3 : f.val < 4736
      · exact absurd ⟨⟨f.val - 112, by omega⟩, by
          unfold place; rw [if_neg (by show ¬f.val - 112 < 3088; omega)]; exact Fin.ext (by show f.val - 112 + 112 = f.val; omega)⟩ h
      · rw [dif_neg h3]

/-- The columns of zeros add nothing to a product over the widened columns. -/
theorem sum_padded {n n' : ℕ} (x : Fin n → Fin 4624 → EReal) (y : Fin n' → Fin 4624 → EReal) (i : Fin n) (j : Fin n') :
    ∑ f, padded x i f * padded y j f = ∑ k, x i k * y j k :=
  (Fintype.sum_of_injective place place_injective _ _ (fun f h => by rw [padded_off x i f h, zero_mul])
    (fun k => by rw [padded_place, padded_place])).symm

def rowTile5 (t : Fin 20) : Fin 2 := ⟨t.val / 5 / 2, by omega⟩
def colTile5 (t : Fin 20) : Fin 2 := ⟨t.val / 5 % 2, by omega⟩
def stripOf5 (t : Fin 20) : Fin 5 := ⟨t.val % 5, by omega⟩

theorem rowTile5_eq {t t' : Fin 20} (h : t'.val / 5 = t.val / 5) : rowTile5 t' = rowTile5 t := Fin.ext (by simp only [rowTile5, h])
theorem colTile5_eq {t t' : Fin 20} (h : t'.val / 5 = t.val / 5) : colTile5 t' = colTile5 t := Fin.ext (by simp only [colTile5, h])
theorem stripOf5_eq {t : Fin 20} {j : Fin 5} (h : t.val % 5 = j.val) : stripOf5 t = j := Fin.ext h

/-- Column `k` of strip `j` among five strips of 1024 columns. -/
def strip5 (j : Fin 5) (k : Fin 1024) : Fin 5120 := ⟨1024 * j.val + k.val, by omega⟩

/-- A sum over 5120 terms is the sum over its five strips of 1024, one strip added after another. -/
theorem sum_strips5 {A : Type} [AddCommMonoid A] (f : Fin 5120 → A) :
    ∑ i, f i = (((∑ k, f (strip5 0 k) + ∑ k, f (strip5 1 k)) + ∑ k, f (strip5 2 k)) + ∑ k, f (strip5 3 k)) + ∑ k, f (strip5 4 k) := by
  rw [← Equiv.sum_comp (finProdFinEquiv : Fin 5 × Fin 1024 ≃ Fin 5120), Fintype.sum_prod_type, Fin.sum_univ_five]
  have e : ∀ j k, (finProdFinEquiv : Fin 5 × Fin 1024 ≃ Fin 5120) (j, k) = strip5 j k := fun j k =>
    Fin.ext (by show k.val + 1024 * j.val = 1024 * j.val + k.val; omega)
  simp only [e]

end Cert.Products

end
-- ==== Proof.MixArrays.lean ====
/- The arrays of the five calls around the attention, the products with the input and the output projection's weights, and
   their blocks: where a block's elements lie in the arrays, and the array an output ends as, from what its blocks hold. -/
module

public import proofs.«01_k».proof.Proof.Gen.Kernel3Ideal.Frame
public import proofs.«01_k».proof.Proof.Products
public import Idealize.ShloMosaic.Lib.Pipeline.ValueKit.Geometry

@[expose] public section

set_option maxRecDepth 16384

noncomputable section

namespace Cert.Mix

open Idealize.ShloMosaic Idealize.ShloMosaic.TcCoe Idealize.SL.Sem Cert.Kernel3Ideal Cert.Kernel3Ideal.Gen Cert.Products

/-- The row tile and the column tile of a point of a grid of two row tiles and five column tiles, or two column tiles. -/
def row5 (t : Fin 10) : Fin 2 := ⟨t.val / 5, by omega⟩
def col5 (t : Fin 10) : Fin 5 := ⟨t.val % 5, by omega⟩
def row2 (t : Fin 4) : Fin 2 := ⟨t.val / 2, by omega⟩
def col2 (t : Fin 4) : Fin 2 := ⟨t.val % 2, by omega⟩

variable (V : (c : Dev nD) → (b : Ref sig .tc) → Buf (Elt Ideal) ((c : Thread nD τ).loc b)) (c : Dev nD)

/-! ## The input projection -/

theorem idx0_0 : ∀ t : Fin cfg0.N, win0_0.index t (0 : Fin 2) = t.val / 5 ∧ win0_0.index t (1 : Fin 2) = 0 :=
  (by decide +kernel : ∀ t : Fin grid0.N, _)

theorem emb0_0 (t : Fin cfg0.N) (a : Fin 1024) (b : Fin 2048) : ((cfg0.win 0).blk t).view.emb (ix2 a b : S1024x2048.Idx) = ix2 (half (row5 t) a) b := by
  obtain ⟨e0, e1⟩ := idx0_0 t
  funext x; apply Fin.ext
  match x with
  | ⟨0, _⟩ => show win0_0.index t (0 : Fin 2) * 1024 + 1 * a.val = 1024 * (t.val / 5) + a.val; omega
  | ⟨1, _⟩ => show win0_0.index t (1 : Fin 2) * 2048 + 1 * b.val = b.val; omega

theorem in0_0 (t : Fin cfg0.N) (a : Fin 1024) (b : Fin 2048) : iblk0 V c 0 t (ix2 a b) = V c main_v0 (ix2 (half (row5 t) a) b) := by
  show V c main_v0 (((cfg0.win 0).blk t).view.emb (ix2 a b : S1024x2048.Idx)) = _
  rw [emb0_0]

theorem idx0_1 : ∀ t : Fin cfg0.N, win0_1.index t (0 : Fin 2) = 0 ∧ win0_1.index t (1 : Fin 2) = t.val % 5 :=
  (by decide +kernel : ∀ t : Fin grid0.N, _)

theorem emb0_1 (t : Fin cfg0.N) (a : Fin 2048) (b : Fin 1024) : ((cfg0.win 1).blk t).view.emb (ix2 a b : S2048x1024.Idx) = ix2 a (strip5 (col5 t) b) := by
  obtain ⟨e0, e1⟩ := idx0_1 t
  funext x; apply Fin.ext
  match x with
  | ⟨0, _⟩ => show win0_1.index t (0 : Fin 2) * 2048 + 1 * a.val = a.val; omega
  | ⟨1, _⟩ => show win0_1.index t (1 : Fin 2) * 1024 + 1 * b.val = 1024 * (t.val % 5) + b.val; omega

theorem in0_1 (t : Fin cfg0.N) (a : Fin 2048) (b : Fin 1024) : iblk0 V c 1 t (ix2 a b) = V c main_v9 (ix2 a (strip5 (col5 t) b)) := by
  show V c main_v9 (((cfg0.win 1).blk t).view.emb (ix2 a b : S2048x1024.Idx)) = _
  rw [emb0_1]

theorem idx0_2 : ∀ t : Fin cfg0.N, win0_2.index t (0 : Fin 2) = t.val / 5 ∧ win0_2.index t (1 : Fin 2) = t.val % 5 :=
  (by decide +kernel : ∀ t : Fin grid0.N, _)

theorem emb0_2 (t : Fin cfg0.N) (a : Fin 1024) (b : Fin 1024) : ((cfg0.win 2).blk t).view.emb (ix2 a b : S1024x1024.Idx) = ix2 (half (row5 t) a) (strip5 (col5 t) b) := by
  obtain ⟨e0, e1⟩ := idx0_2 t
  funext x; apply Fin.ext
  match x with
  | ⟨0, _⟩ => show win0_2.index t (0 : Fin 2) * 1024 + 1 * a.val = 1024 * (t.val / 5) + a.val; omega
  | ⟨1, _⟩ => show win0_2.index t (1 : Fin 2) * 1024 + 1 * b.val = 1024 * (t.val % 5) + b.val; omega

theorem arr0 (X : Fin 2048 → Fin 5120 → EReal)
    (hX : ∀ (t : Fin cfg0.N) (a b : Fin 1024), (dat0 V c).after 2 t (ix2 a b : S1024x1024.Idx) = X (half (row5 t) a) (strip5 (col5 t) b)) :
    (dat0 V c).arrAt 2 cfg0.N = fun i : S2048x5120.Idx => X (i 0) (i 1) := by
  refine (dat0 V c).arrAt_eq_of_covers 2 _ (by decide +kernel) fun t hf y => ?_
  suffices hs : ∀ y : S1024x1024.Idx, (dat0 V c).after 2 t y = (fun i : S2048x5120.Idx => X (i 0) (i 1)) (((cfg0.win 2).blk t).view.emb y) from hs y
  intro y
  obtain ⟨a, b, rfl⟩ := exists2 y
  rw [emb0_2]
  exact hX t a b

/-! ## The output projection, added to the residual -/

theorem idx1_0 : ∀ t : Fin cfg1.N, win1_0.index t (0 : Fin 2) = t.val / 2 ∧ win1_0.index t (1 : Fin 2) = 0 :=
  (by decide +kernel : ∀ t : Fin grid1.N, _)

theorem emb1_0 (t : Fin cfg1.N) (a : Fin 1024) (b : Fin 2048) : ((cfg1.win 0).blk t).view.emb (ix2 a b : S1024x2048.Idx) = ix2 (half (row2 t) a) b := by
  obtain ⟨e0, e1⟩ := idx1_0 t
  funext x; apply Fin.ext
  match x with
  | ⟨0, _⟩ => show win1_0.index t (0 : Fin 2) * 1024 + 1 * a.val = 1024 * (t.val / 2) + a.val; omega
  | ⟨1, _⟩ => show win1_0.index t (1 : Fin 2) * 2048 + 1 * b.val = b.val; omega

theorem in1_0 (t : Fin cfg1.N) (a : Fin 1024) (b : Fin 2048) : iblk1 V c 0 t (ix2 a b) = V c main_v1 (ix2 (half (row2 t) a) b) := by
  show V c main_v1 (((cfg1.win 0).blk t).view.emb (ix2 a b : S1024x2048.Idx)) = _
  rw [emb1_0]

theorem idx1_1 : ∀ t : Fin cfg1.N, win1_1.index t (0 : Fin 2) = 0 ∧ win1_1.index t (1 : Fin 2) = t.val % 2 :=
  (by decide +kernel : ∀ t : Fin grid1.N, _)

theorem emb1_1 (t : Fin cfg1.N) (a : Fin 2048) (b : Fin 1024) : ((cfg1.win 1).blk t).view.emb (ix2 a b : S2048x1024.Idx) = ix2 a (half (col2 t) b) := by
  obtain ⟨e0, e1⟩ := idx1_1 t
  funext x; apply Fin.ext
  match x with
  | ⟨0, _⟩ => show win1_1.index t (0 : Fin 2) * 2048 + 1 * a.val = a.val; omega
  | ⟨1, _⟩ => show win1_1.index t (1 : Fin 2) * 1024 + 1 * b.val = 1024 * (t.val % 2) + b.val; omega

theorem in1_1 (t : Fin cfg1.N) (a : Fin 2048) (b : Fin 1024) : iblk1 V c 1 t (ix2 a b) = V c main_v2 (ix2 a (half (col2 t) b)) := by
  show V c main_v2 (((cfg1.win 1).blk t).view.emb (ix2 a b : S2048x1024.Idx)) = _
  rw [emb1_1]

theorem idx1_2 : ∀ t : Fin cfg1.N, win1_2.index t (0 : Fin 2) = t.val / 2 ∧ win1_2.index t (1 : Fin 2) = t.val % 2 :=
  (by decide +kernel : ∀ t : Fin grid1.N, _)

theorem emb1_2 (t : Fin cfg1.N) (a : Fin 1024) (b : Fin 1024) : ((cfg1.win 2).blk t).view.emb (ix2 a b : S1024x1024.Idx) = ix2 (half (row2 t) a) (half (col2 t) b) := by
  obtain ⟨e0, e1⟩ := idx1_2 t
  funext x; apply Fin.ext
  match x with
  | ⟨0, _⟩ => show win1_2.index t (0 : Fin 2) * 1024 + 1 * a.val = 1024 * (t.val / 2) + a.val; omega
  | ⟨1, _⟩ => show win1_2.index t (1 : Fin 2) * 1024 + 1 * b.val = 1024 * (t.val % 2) + b.val; omega

theorem in1_2 (t : Fin cfg1.N) (a : Fin 1024) (b : Fin 1024) : iblk1 V c 2 t (ix2 a b) = V c main_arg5 (ix2 (half (row2 t) a) (half (col2 t) b)) := by
  show V c main_arg5 (((cfg1.win 2).blk t).view.emb (ix2 a b : S1024x1024.Idx)) = _
  rw [emb1_2]

theorem idx1_3 : ∀ t : Fin cfg1.N, win1_3.index t (0 : Fin 2) = t.val / 2 ∧ win1_3.index t (1 : Fin 2) = t.val % 2 :=
  (by decide +kernel : ∀ t : Fin grid1.N, _)

theorem emb1_3 (t : Fin cfg1.N) (a : Fin 1024) (b : Fin 1024) : ((cfg1.win 3).blk t).view.emb (ix2 a b : S1024x1024.Idx) = ix2 (half (row2 t) a) (half (col2 t) b) := by
  obtain ⟨e0, e1⟩ := idx1_3 t
  funext x; apply Fin.ext
  match x with
  | ⟨0, _⟩ => show win1_3.index t (0 : Fin 2) * 1024 + 1 * a.val = 1024 * (t.val / 2) + a.val; omega
  | ⟨1, _⟩ => show win1_3.index t (1 : Fin 2) * 1024 + 1 * b.val = 1024 * (t.val % 2) + b.val; omega

theorem arr1 (X : Fin 2048 → Fin 2048 → EReal)
    (hX : ∀ (t : Fin cfg1.N) (a b : Fin 1024), (dat1 V c).after 3 t (ix2 a b : S1024x1024.Idx) = X (half (row2 t) a) (half (col2 t) b)) :
    (dat1 V c).arrAt 3 cfg1.N = fun i : S2048x2048.Idx => X (i 0) (i 1) := by
  refine (dat1 V c).arrAt_eq_of_covers 3 _ (by decide +kernel) fun t hf y => ?_
  suffices hs : ∀ y : S1024x1024.Idx, (dat1 V c).after 3 t y = (fun i : S2048x2048.Idx => X (i 0) (i 1)) (((cfg1.win 3).blk t).view.emb y) from hs y
  intro y
  obtain ⟨a, b, rfl⟩ := exists2 y
  rw [emb1_3]
  exact hX t a b

/-! ## The gradient of the attention's output -/

theorem idx2_0 : ∀ t : Fin cfg2.N, win2_0.index t (0 : Fin 2) = t.val / 2 ∧ win2_0.index t (1 : Fin 2) = 0 :=
  (by decide +kernel : ∀ t : Fin grid2.N, _)

theorem emb2_0 (t : Fin cfg2.N) (a : Fin 1024) (b : Fin 2048) : ((cfg2.win 0).blk t).view.emb (ix2 a b : S1024x2048.Idx) = ix2 (half (row2 t) a) b := by
  obtain ⟨e0, e1⟩ := idx2_0 t
  funext x; apply Fin.ext
  match x with
  | ⟨0, _⟩ => show win2_0.index t (0 : Fin 2) * 1024 + 1 * a.val = 1024 * (t.val / 2) + a.val; omega
  | ⟨1, _⟩ => show win2_0.index t (1 : Fin 2) * 2048 + 1 * b.val = b.val; omega

theorem in2_0 (t : Fin cfg2.N) (a : Fin 1024) (b : Fin 2048) : iblk2 V c 0 t (ix2 a b) = V c main_v3 (ix2 (half (row2 t) a) b) := by
  show V c main_v3 (((cfg2.win 0).blk t).view.emb (ix2 a b : S1024x2048.Idx)) = _
  rw [emb2_0]

theorem idx2_1 : ∀ t : Fin cfg2.N, win2_1.index t (0 : Fin 2) = t.val % 2 ∧ win2_1.index t (1 : Fin 2) = 0 :=
  (by decide +kernel : ∀ t : Fin grid2.N, _)

theorem emb2_1 (t : Fin cfg2.N) (a : Fin 1024) (b : Fin 2048) : ((cfg2.win 1).blk t).view.emb (ix2 a b : S1024x2048.Idx) = ix2 (half (col2 t) a) b := by
  obtain ⟨e0, e1⟩ := idx2_1 t
  funext x; apply Fin.ext
  match x with
  | ⟨0, _⟩ => show win2_1.index t (0 : Fin 2) * 1024 + 1 * a.val = 1024 * (t.val % 2) + a.val; omega
  | ⟨1, _⟩ => show win2_1.index t (1 : Fin 2) * 2048 + 1 * b.val = b.val; omega

theorem in2_1 (t : Fin cfg2.N) (a : Fin 1024) (b : Fin 2048) : iblk2 V c 1 t (ix2 a b) = V c main_v2 (ix2 (half (col2 t) a) b) := by
  show V c main_v2 (((cfg2.win 1).blk t).view.emb (ix2 a b : S1024x2048.Idx)) = _
  rw [emb2_1]

theorem idx2_2 : ∀ t : Fin cfg2.N, win2_2.index t (0 : Fin 2) = t.val / 2 ∧ win2_2.index t (1 : Fin 2) = t.val % 2 :=
  (by decide +kernel : ∀ t : Fin grid2.N, _)

theorem emb2_2 (t : Fin cfg2.N) (a : Fin 1024) (b : Fin 1024) : ((cfg2.win 2).blk t).view.emb (ix2 a b : S1024x1024.Idx) = ix2 (half (row2 t) a) (half (col2 t) b) := by
  obtain ⟨e0, e1⟩ := idx2_2 t
  funext x; apply Fin.ext
  match x with
  | ⟨0, _⟩ => show win2_2.index t (0 : Fin 2) * 1024 + 1 * a.val = 1024 * (t.val / 2) + a.val; omega
  | ⟨1, _⟩ => show win2_2.index t (1 : Fin 2) * 1024 + 1 * b.val = 1024 * (t.val % 2) + b.val; omega

theorem arr2 (X : Fin 2048 → Fin 2048 → EReal)
    (hX : ∀ (t : Fin cfg2.N) (a b : Fin 1024), (dat2 V c).after 2 t (ix2 a b : S1024x1024.Idx) = X (half (row2 t) a) (half (col2 t) b)) :
    (dat2 V c).arrAt 2 cfg2.N = fun i : S2048x2048.Idx => X (i 0) (i 1) := by
  refine (dat2 V c).arrAt_eq_of_covers 2 _ (by decide +kernel) fun t hf y => ?_
  suffices hs : ∀ y : S1024x1024.Idx, (dat2 V c).after 2 t y = (fun i : S2048x2048.Idx => X (i 0) (i 1)) (((cfg2.win 2).blk t).view.emb y) from hs y
  intro y
  obtain ⟨a, b, rfl⟩ := exists2 y
  rw [emb2_2]
  exact hX t a b

/-! ## The gradient of the output projection's weight -/

theorem idx3_0 : ∀ t : Fin cfg3.N, win3_0.index t (0 : Fin 2) = 0 ∧ win3_0.index t (1 : Fin 2) = t.val / 2 :=
  (by decide +kernel : ∀ t : Fin grid3.N, _)

theorem emb3_0 (t : Fin cfg3.N) (a : Fin 2048) (b : Fin 1024) : ((cfg3.win 0).blk t).view.emb (ix2 a b : S2048x1024.Idx) = ix2 a (half (row2 t) b) := by
  obtain ⟨e0, e1⟩ := idx3_0 t
  funext x; apply Fin.ext
  match x with
  | ⟨0, _⟩ => show win3_0.index t (0 : Fin 2) * 2048 + 1 * a.val = a.val; omega
  | ⟨1, _⟩ => show win3_0.index t (1 : Fin 2) * 1024 + 1 * b.val = 1024 * (t.val / 2) + b.val; omega

theorem in3_0 (t : Fin cfg3.N) (a : Fin 2048) (b : Fin 1024) : iblk3 V c 0 t (ix2 a b) = V c main_v1 (ix2 a (half (row2 t) b)) := by
  show V c main_v1 (((cfg3.win 0).blk t).view.emb (ix2 a b : S2048x1024.Idx)) = _
  rw [emb3_0]

theorem idx3_1 : ∀ t : Fin cfg3.N, win3_1.index t (0 : Fin 2) = 0 ∧ win3_1.index t (1 : Fin 2) = t.val % 2 :=
  (by decide +kernel : ∀ t : Fin grid3.N, _)

theorem emb3_1 (t : Fin cfg3.N) (a : Fin 2048) (b : Fin 1024) : ((cfg3.win 1).blk t).view.emb (ix2 a b : S2048x1024.Idx) = ix2 a (half (col2 t) b) := by
  obtain ⟨e0, e1⟩ := idx3_1 t
  funext x; apply Fin.ext
  match x with
  | ⟨0, _⟩ => show win3_1.index t (0 : Fin 2) * 2048 + 1 * a.val = a.val; omega
  | ⟨1, _⟩ => show win3_1.index t (1 : Fin 2) * 1024 + 1 * b.val = 1024 * (t.val % 2) + b.val; omega

theorem in3_1 (t : Fin cfg3.N) (a : Fin 2048) (b : Fin 1024) : iblk3 V c 1 t (ix2 a b) = V c main_v3 (ix2 a (half (col2 t) b)) := by
  show V c main_v3 (((cfg3.win 1).blk t).view.emb (ix2 a b : S2048x1024.Idx)) = _
  rw [emb3_1]

theorem idx3_2 : ∀ t : Fin cfg3.N, win3_2.index t (0 : Fin 2) = t.val / 2 ∧ win3_2.index t (1 : Fin 2) = t.val % 2 :=
  (by decide +kernel : ∀ t : Fin grid3.N, _)

theorem emb3_2 (t : Fin cfg3.N) (a : Fin 1024) (b : Fin 1024) : ((cfg3.win 2).blk t).view.emb (ix2 a b : S1024x1024.Idx) = ix2 (half (row2 t) a) (half (col2 t) b) := by
  obtain ⟨e0, e1⟩ := idx3_2 t
  funext x; apply Fin.ext
  match x with
  | ⟨0, _⟩ => show win3_2.index t (0 : Fin 2) * 1024 + 1 * a.val = 1024 * (t.val / 2) + a.val; omega
  | ⟨1, _⟩ => show win3_2.index t (1 : Fin 2) * 1024 + 1 * b.val = 1024 * (t.val % 2) + b.val; omega

theorem arr3 (X : Fin 2048 → Fin 2048 → EReal)
    (hX : ∀ (t : Fin cfg3.N) (a b : Fin 1024), (dat3 V c).after 2 t (ix2 a b : S1024x1024.Idx) = X (half (row2 t) a) (half (col2 t) b)) :
    (dat3 V c).arrAt 2 cfg3.N = fun i : S2048x2048.Idx => X (i 0) (i 1) := by
  refine (dat3 V c).arrAt_eq_of_covers 2 _ (by decide +kernel) fun t hf y => ?_
  suffices hs : ∀ y : S1024x1024.Idx, (dat3 V c).after 2 t y = (fun i : S2048x2048.Idx => X (i 0) (i 1)) (((cfg3.win 2).blk t).view.emb y) from hs y
  intro y
  obtain ⟨a, b, rfl⟩ := exists2 y
  rw [emb3_2]
  exact hX t a b

/-! ## The gradient of the input projection's weight -/

theorem idx4_0 : ∀ t : Fin cfg4.N, win4_0.index t (0 : Fin 2) = 0 ∧ win4_0.index t (1 : Fin 2) = t.val / 5 :=
  (by decide +kernel : ∀ t : Fin grid4.N, _)

theorem emb4_0 (t : Fin cfg4.N) (a : Fin 2048) (b : Fin 1024) : ((cfg4.win 0).blk t).view.emb (ix2 a b : S2048x1024.Idx) = ix2 a (half (row5 t) b) := by
  obtain ⟨e0, e1⟩ := idx4_0 t
  funext x; apply Fin.ext
  match x with
  | ⟨0, _⟩ => show win4_0.index t (0 : Fin 2) * 2048 + 1 * a.val = a.val; omega
  | ⟨1, _⟩ => show win4_0.index t (1 : Fin 2) * 1024 + 1 * b.val = 1024 * (t.val / 5) + b.val; omega

theorem in4_0 (t : Fin cfg4.N) (a : Fin 2048) (b : Fin 1024) : iblk4 V c 0 t (ix2 a b) = V c main_v0 (ix2 a (half (row5 t) b)) := by
  show V c main_v0 (((cfg4.win 0).blk t).view.emb (ix2 a b : S2048x1024.Idx)) = _
  rw [emb4_0]

theorem idx4_1 : ∀ t : Fin cfg4.N, win4_1.index t (0 : Fin 2) = 0 ∧ win4_1.index t (1 : Fin 2) = t.val % 5 :=
  (by decide +kernel : ∀ t : Fin grid4.N, _)

theorem emb4_1 (t : Fin cfg4.N) (a : Fin 2048) (b : Fin 1024) : ((cfg4.win 1).blk t).view.emb (ix2 a b : S2048x1024.Idx) = ix2 a (strip5 (col5 t) b) := by
  obtain ⟨e0, e1⟩ := idx4_1 t
  funext x; apply Fin.ext
  match x with
  | ⟨0, _⟩ => show win4_1.index t (0 : Fin 2) * 2048 + 1 * a.val = a.val; omega
  | ⟨1, _⟩ => show win4_1.index t (1 : Fin 2) * 1024 + 1 * b.val = 1024 * (t.val % 5) + b.val; omega

theorem in4_1 (t : Fin cfg4.N) (a : Fin 2048) (b : Fin 1024) : iblk4 V c 1 t (ix2 a b) = V c main_v19 (ix2 a (strip5 (col5 t) b)) := by
  show V c main_v19 (((cfg4.win 1).blk t).view.emb (ix2 a b : S2048x1024.Idx)) = _
  rw [emb4_1]

theorem idx4_2 : ∀ t : Fin cfg4.N, win4_2.index t (0 : Fin 2) = t.val / 5 ∧ win4_2.index t (1 : Fin 2) = t.val % 5 :=
  (by decide +kernel : ∀ t : Fin grid4.N, _)

theorem emb4_2 (t : Fin cfg4.N) (a : Fin 1024) (b : Fin 1024) : ((cfg4.win 2).blk t).view.emb (ix2 a b : S1024x1024.Idx) = ix2 (half (row5 t) a) (strip5 (col5 t) b) := by
  obtain ⟨e0, e1⟩ := idx4_2 t
  funext x; apply Fin.ext
  match x with
  | ⟨0, _⟩ => show win4_2.index t (0 : Fin 2) * 1024 + 1 * a.val = 1024 * (t.val / 5) + a.val; omega
  | ⟨1, _⟩ => show win4_2.index t (1 : Fin 2) * 1024 + 1 * b.val = 1024 * (t.val % 5) + b.val; omega

theorem arr4 (X : Fin 2048 → Fin 5120 → EReal)
    (hX : ∀ (t : Fin cfg4.N) (a b : Fin 1024), (dat4 V c).after 2 t (ix2 a b : S1024x1024.Idx) = X (half (row5 t) a) (strip5 (col5 t) b)) :
    (dat4 V c).arrAt 2 cfg4.N = fun i : S2048x5120.Idx => X (i 0) (i 1) := by
  refine (dat4 V c).arrAt_eq_of_covers 2 _ (by decide +kernel) fun t hf y => ?_
  suffices hs : ∀ y : S1024x1024.Idx, (dat4 V c).after 2 t y = (fun i : S2048x5120.Idx => X (i 0) (i 1)) (((cfg4.win 2).blk t).view.emb y) from hs y
  intro y
  obtain ⟨a, b, rfl⟩ := exists2 y
  rw [emb4_2]
  exact hX t a b

end Cert.Mix

end
-- ==== Proof.MixRun.lean ====
/- The run of the program, its results included: what each result array holds when the five calls around the attention are done. -/
module

public import proofs.«01_k».proof.Proof.Gen.Kernel3Ideal.Frame

@[expose] public section

noncomputable section

namespace Cert.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each array that the host can name as the last call leaves it. -/
theorem run_arrays : θ_run defs (onTc (τ := τ) (main (F := F))) ⟨m, fun _ => 0, ρ⟩
    (fun r => ∀ c : Dev nD, ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => h)

/-- Where the two arrays that the host narrows at the end come from. -/
theorem left0 (c : Dev nD) : W7 m ρ c (Proc.devRef .tc main_v10) = (dat0 (V1 m ρ) c).arrAt 2 cfg0.N :=
  (W7_of m ρ c main_v10 (by decide +kernel)).trans ((W6_of m ρ c main_v10 (by decide)).trans ((W5_of m ρ c main_v10 (by decide +kernel)).trans ((W4_of m ρ c main_v10 (by decide +kernel)).trans ((W3_of m ρ c main_v10 (by decide +kernel)).trans (W2_arr m ρ c 2)))))
theorem left4 (c : Dev nD) : W7 m ρ c (Proc.devRef .tc main_v20) = (dat4 (V6 m ρ) c).arrAt 2 cfg4.N := W7_arr m ρ c 2

/-- Three results are what the second, the third and the fourth call leave, the other two what the host makes of the first and
    the fifth call's, and the arguments end as they began. -/
theorem run_results : θ_run defs (onTc (τ := τ) (main (F := F))) ⟨m, fun _ => 0, ρ⟩ (fun r => ∀ c : Dev nD,
      r.2.mem ((c.tc : Thread nD τ).loc main_v23) = W8 m ρ c (Proc.devRef .tc main_v23)
      ∧ r.2.mem ((c.tc : Thread nD τ).loc main_v11) = (dat1 (V2 m ρ) c).arrAt 3 cfg1.N
      ∧ r.2.mem ((c.tc : Thread nD τ).loc main_v12) = (dat2 (V3 m ρ) c).arrAt 2 cfg2.N
      ∧ r.2.mem ((c.tc : Thread nD τ).loc main_v13) = (dat3 (V4 m ρ) c).arrAt 2 cfg3.N
      ∧ r.2.mem ((c.tc : Thread nD τ).loc main_v26) = W8 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨h c _ (mem_uc main_v23 (by decide)),
     (h c _ (mem_uc main_v11 (by decide))).trans ((W8_of m ρ c main_v11 (by decide)).trans ((W7_of m ρ c main_v11 (by decide +kernel)).trans ((W6_of m ρ c main_v11 (by decide)).trans ((W5_of m ρ c main_v11 (by decide +kernel)).trans ((W4_of m ρ c main_v11 (by decide +kernel)).trans (W3_arr m ρ c 3)))))),
     (h c _ (mem_uc main_v12 (by decide))).trans ((W8_of m ρ c main_v12 (by decide)).trans ((W7_of m ρ c main_v12 (by decide +kernel)).trans ((W6_of m ρ c main_v12 (by decide)).trans ((W5_of m ρ c main_v12 (by decide +kernel)).trans (W4_arr m ρ c 2))))),
     (h c _ (mem_uc main_v13 (by decide))).trans ((W8_of m ρ c main_v13 (by decide)).trans ((W7_of m ρ c main_v13 (by decide +kernel)).trans ((W6_of m ρ c main_v13 (by decide)).trans (W5_arr m ρ c 2)))),
     h c _ (mem_uc main_v26 (by decide)),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c)⟩) (run_arrays m ρ)

end Cert.Mix

end
-- ==== Proof.Mix.lean ====
/- What each of the five calls around the attention reads and leaves: the input projection, the output projection added to
   the residual, the gradient of the attention's output and the gradients of the two projections' weights. -/
module

public import proofs.«01_k».proof.Proof.MixArrays
public import proofs.«01_k».proof.Proof.MixRun
public import Idealize.ShloMosaic.Lib.Pipeline.Value
public import Idealize.ShloMosaic.Lib.Claim

@[expose] public section

set_option maxRecDepth 16384

noncomputable section

namespace Cert.Mix

open Idealize.ShloMosaic Idealize.ShloMosaic.TcCoe Idealize.SL.Sem Cert.Kernel3Ideal Cert.Kernel3Ideal.Gen Cert.Products

/-! ## The blocks stored -/

theorem out0_at (x0 : Vec Ideal S1024x2048 .bf16) (x1 : Vec Ideal S2048x1024 .bf16) (a b : Fin 1024) :
    out0_2 x0 x1 (ix2 a b) = ∑ k : Fin 2048, x0 (ix2 a k) * x1 (ix2 k b) := by
  unfold out0_2
  rw [View.canon_unit_zero zeros2, View.ld_unit_zero zeros2, View.ld_unit_zero zeros2]
  unfold_payloads; pointwise
theorem out1_at (x0 : Vec Ideal S1024x2048 .bf16) (x1 : Vec Ideal S2048x1024 .bf16) (x2 : Vec Ideal S1024x1024 .f32) (a b : Fin 1024) :
    out1_3 x0 x1 x2 (ix2 a b) = x2 (ix2 a b) + ∑ k : Fin 2048, x0 (ix2 a k) * x1 (ix2 k b) := by
  unfold out1_3
  rw [View.canon_unit_zero zeros2, View.ld_unit_zero zeros2, View.ld_unit_zero zeros2, View.ld_unit_zero zeros2]
  unfold_payloads; pointwise
theorem out2_at (x0 x1 : Vec Ideal S1024x2048 .bf16) (a b : Fin 1024) :
    out2_2 x0 x1 (ix2 a b) = ∑ k : Fin 2048, x0 (ix2 a k) * x1 (ix2 b k) := by
  unfold out2_2
  rw [View.canon_unit_zero zeros2, View.ld_unit_zero zeros2, View.ld_unit_zero zeros2]
  unfold_payloads; pointwise
theorem out3_at (x0 x1 : Vec Ideal S2048x1024 .bf16) (a b : Fin 1024) :
    out3_2 x0 x1 (ix2 a b) = ∑ k : Fin 2048, x0 (ix2 k a) * x1 (ix2 k b) := by
  unfold out3_2
  rw [View.canon_unit_zero zeros2, View.ld_unit_zero zeros2, View.ld_unit_zero zeros2]
  unfold_payloads; pointwise
theorem out4_at (x0 x1 : Vec Ideal S2048x1024 .bf16) (a b : Fin 1024) :
    out4_2 x0 x1 (ix2 a b) = ∑ k : Fin 2048, x0 (ix2 k a) * x1 (ix2 k b) := by
  unfold out4_2
  rw [View.canon_unit_zero zeros2, View.ld_unit_zero zeros2, View.ld_unit_zero zeros2]
  unfold_payloads; pointwise

/-! ## What the host gives the calls, and what it makes of their arrays -/

variable (m : (ℓ : Loc nD τ Cert.Kernel3Ideal.sig) → Buf (Elt Ideal) ℓ) (ρ : Dev nD → PrngReg) (c : Dev nD)

/-- The program's arguments: the rows entering the input projection, its weight, the gradient of its output, the attention's
    output, the output projection's weight, the residual, and the gradient of the block's output. -/
def rows (i k : Fin 2048) : EReal := m ((c : Thread nD τ).loc main_arg0) (ix2 i k)
def win (k : Fin 2048) (f : Fin 4624) : EReal := m ((c : Thread nD τ).loc main_arg1) (ix2 k f)
def dproj (i : Fin 2048) (f : Fin 4624) : EReal := m ((c : Thread nD τ).loc main_arg2) (ix2 i f)
def att (i k : Fin 2048) : EReal := m ((c : Thread nD τ).loc main_arg3) (ix2 i k)
def wout (k n : Fin 2048) : EReal := m ((c : Thread nD τ).loc main_arg4) (ix2 k n)
def resid (i n : Fin 2048) : EReal := m ((c : Thread nD τ).loc main_arg5) (ix2 i n)
def dout (i n : Fin 2048) : EReal := m ((c : Thread nD τ).loc main_arg6) (ix2 i n)

/-- The host's widening of an array's columns. -/
theorem widened (w : (⟨S2048x4624, .f32⟩ : BufTy).Contents (Elt Ideal)) (i : Fin 2048) (f : Fin 5120) :
    concatenate S2048x5120 1 [⟨S2048x3088, extractStridedSlice S2048x3088 ![0, 0] w slices_S2048x4624_S2048x3088_0_0⟩,
        ⟨S2048x112, broadcastInDim S2048x112 ![] bcast_S_S2048x112 (constant (F := Ideal) S_ .f32 0x00000000#32)⟩,
        ⟨S2048x1536, extractStridedSlice S2048x1536 ![0, 3088] w slices_S2048x4624_S2048x1536_0_3088⟩,
        ⟨S2048x384, broadcastInDim S2048x384 ![] bcast_S_S2048x384 (constant (F := Ideal) S_ .f32 0x00000000#32)⟩]
        concatenates_S2048x3088_S2048x112_S2048x1536_S2048x384_S2048x5120_d1 (ix2 i f)
      = padded (fun i k => w (ix2 i k)) i f := by
  pointwise
  unfold padded
  by_cases h1 : f.val < 3088
  · rw [dif_pos h1, dif_pos h1]
  · rw [dif_neg h1, dif_neg h1]
    by_cases h2 : f.val < 3200
    · rw [dif_pos (by omega), if_pos h2]
    · rw [dif_neg (by omega), if_neg h2]
      by_cases h3 : f.val < 4736
      · rw [dif_pos (by omega), dif_pos h3]
        exact congrArg (fun k => w (ix2 i k)) (Fin.ext (by show 3088 + (f.val - 3088 - 112) = f.val - 112; omega))
      · rw [dif_neg (by omega), dif_neg h3]

/-- The host's narrowing: the columns of zeros are left out again. -/
theorem narrowed {t : EltTy} (w : (⟨S2048x5120, t⟩ : BufTy).Contents (Elt Ideal)) (i : Fin 2048) (k : Fin 4624) :
    concatenate S2048x4624 1 [⟨S2048x3088, extractStridedSlice S2048x3088 ![0, 0] w slices_S2048x5120_S2048x3088_0_0⟩,
        ⟨S2048x1536, extractStridedSlice S2048x1536 ![0, 3200] w slices_S2048x5120_S2048x1536_0_3200⟩]
        concatenates_S2048x3088_S2048x1536_S2048x4624_d1 (ix2 i k)
      = w (ix2 i (place k)) := by
  pointwise
  unfold place
  by_cases h : k.val < 3088
  · rw [dif_pos h, if_pos h]
  · rw [dif_neg h, if_neg h]
    exact congrArg (fun k => w (ix2 i k)) (Fin.ext (by show 3200 + (k.val - 3088) = k.val + 112; omega))

theorem host_rows (i k : Fin 2048) : V1 m ρ c main_v0 (ix2 i k) = rows m c i k := by
  show StableHlo.after hostOps0 (W0 m ρ c) (Proc.devRef .tc main_v0) (ix2 i k) = _
  simp only [hostOps0]
  after_results_simp
  pointwise; rfl
theorem host_att (i k : Fin 2048) : V1 m ρ c main_v1 (ix2 i k) = att m c i k := by
  show StableHlo.after hostOps0 (W0 m ρ c) (Proc.devRef .tc main_v1) (ix2 i k) = _
  simp only [hostOps0]
  after_results_simp
  pointwise; rfl
theorem host_wout (k n : Fin 2048) : V1 m ρ c main_v2 (ix2 k n) = wout m c k n := by
  show StableHlo.after hostOps0 (W0 m ρ c) (Proc.devRef .tc main_v2) (ix2 k n) = _
  simp only [hostOps0]
  after_results_simp
  pointwise; rfl
theorem host_dout (i n : Fin 2048) : V1 m ρ c main_v3 (ix2 i n) = dout m c i n := by
  show StableHlo.after hostOps0 (W0 m ρ c) (Proc.devRef .tc main_v3) (ix2 i n) = _
  simp only [hostOps0]
  after_results_simp
  pointwise; rfl
theorem host_win (k : Fin 2048) (f : Fin 5120) : V1 m ρ c main_v9 (ix2 k f) = padded (win m c) k f := by
  show StableHlo.after hostOps0 (W0 m ρ c) (Proc.devRef .tc main_v9) (ix2 k f) = _
  simp only [hostOps0]
  after_results_simp
  exact widened (m ((c : Thread nD τ).loc main_arg1)) k f

/-- An array that none of the first calls writes is, at a later call, what the host left. -/
theorem kept2 (b : Ref sig .tc) (h : ∀ w : Fin cfg0.W, Pipeline.arrRef spec0 w = b → (cfg0.win w).isOut = false) :
    V2 m ρ c b = V1 m ρ c b := W2_of m ρ c b h
theorem kept3 (b : Ref sig .tc) (h : ∀ w : Fin cfg1.W, Pipeline.arrRef spec1 w = b → (cfg1.win w).isOut = false)
    (h0 : ∀ w : Fin cfg0.W, Pipeline.arrRef spec0 w = b → (cfg0.win w).isOut = false) : V3 m ρ c b = V1 m ρ c b :=
  (W3_of m ρ c b h).trans (kept2 m ρ c b h0)
theorem kept4 (b : Ref sig .tc) (h : ∀ w : Fin cfg2.W, Pipeline.arrRef spec2 w = b → (cfg2.win w).isOut = false)
    (h1 : ∀ w : Fin cfg1.W, Pipeline.arrRef spec1 w = b → (cfg1.win w).isOut = false)
    (h0 : ∀ w : Fin cfg0.W, Pipeline.arrRef spec0 w = b → (cfg0.win w).isOut = false) : V4 m ρ c b = V1 m ρ c b :=
  (W4_of m ρ c b h).trans (kept3 m ρ c b h1 h0)

theorem second_att (i k : Fin 2048) : V2 m ρ c main_v1 (ix2 i k) = att m c i k := by
  rw [kept2 m ρ c main_v1 (by decide +kernel), host_att]
theorem second_wout (k n : Fin 2048) : V2 m ρ c main_v2 (ix2 k n) = wout m c k n := by
  rw [kept2 m ρ c main_v2 (by decide +kernel), host_wout]
theorem second_resid (i n : Fin 2048) : V2 m ρ c main_arg5 (ix2 i n) = resid m c i n := by
  rw [kept2 m ρ c main_arg5 (by decide +kernel)]
  exact congrFun (W1_of m ρ c main_arg5 (by decide)) (ix2 i n)
theorem third_dout (i n : Fin 2048) : V3 m ρ c main_v3 (ix2 i n) = dout m c i n := by
  rw [kept3 m ρ c main_v3 (by decide +kernel) (by decide +kernel), host_dout]
theorem third_wout (k n : Fin 2048) : V3 m ρ c main_v2 (ix2 k n) = wout m c k n := by
  rw [kept3 m ρ c main_v2 (by decide +kernel) (by decide +kernel), host_wout]
theorem fourth_att (i k : Fin 2048) : V4 m ρ c main_v1 (ix2 i k) = att m c i k := by
  rw [kept4 m ρ c main_v1 (by decide +kernel) (by decide +kernel) (by decide +kernel), host_att]
theorem fourth_dout (i n : Fin 2048) : V4 m ρ c main_v3 (ix2 i n) = dout m c i n := by
  rw [kept4 m ρ c main_v3 (by decide +kernel) (by decide +kernel) (by decide +kernel), host_dout]
theorem fifth_rows (i k : Fin 2048) : V6 m ρ c main_v0 (ix2 i k) = rows m c i k := by
  rw [show V6 m ρ c main_v0 = V1 m ρ c main_v0 from (W6_of m ρ c main_v0 (by decide)).trans ((W5_of m ρ c main_v0 (by decide +kernel)).trans
    (kept4 m ρ c main_v0 (by decide +kernel) (by decide +kernel) (by decide +kernel))), host_rows]
theorem kept_dproj : W5 m ρ c (Proc.devRef .tc main_arg2) = m ((c : Thread nD τ).loc main_arg2) :=
  (W5_of m ρ c main_arg2 (by decide +kernel)).trans ((kept4 m ρ c main_arg2 (by decide +kernel) (by decide +kernel) (by decide +kernel)).trans
    (W1_of m ρ c main_arg2 (by decide)))
theorem fifth_dproj (i : Fin 2048) (f : Fin 5120) : V6 m ρ c main_v19 (ix2 i f) = padded (dproj m c) i f := by
  refine Eq.trans (b := padded (fun i k => W5 m ρ c (Proc.devRef .tc main_arg2) (ix2 i k)) i f) ?_
    (congrArg (fun w : (⟨S2048x4624, .f32⟩ : BufTy).Contents (Elt Ideal) => padded (fun i k => w (ix2 i k)) i f) (kept_dproj m ρ c))
  show StableHlo.after hostOps4 (W5 m ρ c) (Proc.devRef .tc main_v19) (ix2 i f) = _
  simp only [hostOps4]
  after_results_simp
  exact widened (W5 m ρ c (Proc.devRef .tc main_arg2)) i f

theorem sum_mul_congr {n : ℕ} {x x' y y' : Fin n → EReal} (hx : ∀ k, x k = x' k) (hy : ∀ k, y k = y' k) : ∑ k, x k * y k = ∑ k, x' k * y' k :=
  Finset.sum_congr rfl fun k _ => by rw [hx, hy]

/-! ## The calls, one after another -/

/-- The input projection over the widened columns. -/
theorem arr_proj : (dat0 (V1 m ρ) c).arrAt 2 cfg0.N
    = fun i : S2048x5120.Idx => ∑ k : Fin 2048, rows m c (i 0) k * padded (win m c) k (i 1) :=
  arr0 _ c (fun i f => ∑ k : Fin 2048, rows m c i k * padded (win m c) k f) fun t a b => by
    rw [after0_2, out0_at]
    exact sum_mul_congr (fun k => (in0_0 _ c t a k).trans (host_rows ..))
      (fun k => (in0_1 _ c t k b).trans (host_win ..))

/-- The output projection, added to the residual. -/
theorem arr_sum : (dat1 (V2 m ρ) c).arrAt 3 cfg1.N
    = fun i : S2048x2048.Idx => resid m c (i 0) (i 1) + ∑ k : Fin 2048, att m c (i 0) k * wout m c k (i 1) :=
  arr1 _ c (fun i n => resid m c i n + ∑ k : Fin 2048, att m c i k * wout m c k n) fun t a b => by
    rw [after1_3, out1_at]
    exact congrArg₂ (fun x y : EReal => x + y) ((in1_2 _ c t a b).trans (second_resid ..))
      (sum_mul_congr (fun k => (in1_0 _ c t a k).trans (second_att ..))
        (fun k => (in1_1 _ c t k b).trans (second_wout ..)))

/-- The gradient of the attention's output. -/
theorem arr_do : (dat2 (V3 m ρ) c).arrAt 2 cfg2.N
    = fun i : S2048x2048.Idx => ∑ n : Fin 2048, dout m c (i 0) n * wout m c (i 1) n :=
  arr2 _ c (fun i k => ∑ n : Fin 2048, dout m c i n * wout m c k n) fun t a b => by
    rw [after2_2, out2_at]
    exact sum_mul_congr (fun k => (in2_0 _ c t a k).trans (third_dout ..))
      (fun k => (in2_1 _ c t b k).trans (third_wout ..))

/-- The gradient of the output projection's weight. -/
theorem arr_dwout : (dat3 (V4 m ρ) c).arrAt 2 cfg3.N
    = fun i : S2048x2048.Idx => ∑ r : Fin 2048, att m c r (i 0) * dout m c r (i 1) :=
  arr3 _ c (fun k n => ∑ r : Fin 2048, att m c r k * dout m c r n) fun t a b => by
    rw [after3_2, out3_at]
    exact sum_mul_congr (fun k => (in3_0 _ c t k a).trans (fourth_att ..))
      (fun k => (in3_1 _ c t k b).trans (fourth_dout ..))

/-- The gradient of the input projection's weight over the widened columns. -/
theorem arr_dwin : (dat4 (V6 m ρ) c).arrAt 2 cfg4.N
    = fun i : S2048x5120.Idx => ∑ r : Fin 2048, rows m c r (i 0) * padded (dproj m c) r (i 1) :=
  arr4 _ c (fun k f => ∑ r : Fin 2048, rows m c r k * padded (dproj m c) r f) fun t a b => by
    rw [after4_2, out4_at]
    exact sum_mul_congr (fun k => (in4_0 _ c t k a).trans (fifth_rows ..))
      (fun k => (in4_1 _ c t k b).trans (fifth_dproj ..))

/-- The first result: the input projection. -/
theorem result_proj (i : Fin 2048) (f : Fin 4624) :
    W8 m ρ c (Proc.devRef .tc main_v23) (ix2 i f) = ∑ k : Fin 2048, rows m c i k * win m c k f := by
  refine Eq.trans (b := W7 m ρ c (Proc.devRef .tc main_v10) (ix2 i (place f))) ?_ ?_
  · show StableHlo.after hostOps5 (W7 m ρ c) (Proc.devRef .tc main_v23) (ix2 i f) = _
    simp only [hostOps5]
    after_results_simp
    exact narrowed (t := .f32) (W7 m ρ c (Proc.devRef .tc main_v10)) i f
  · rw [left0, arr_proj]
    exact sum_mul_congr (fun _ => rfl) (fun k => padded_place (win m c) k f)

/-- The last result: the gradient of the input projection's weight. -/
theorem result_dwin (k : Fin 2048) (f : Fin 4624) :
    W8 m ρ c (Proc.devRef .tc main_v26) (ix2 k f) = ∑ r : Fin 2048, rows m c r k * dproj m c r f := by
  refine Eq.trans (b := W7 m ρ c (Proc.devRef .tc main_v20) (ix2 k (place f))) ?_ ?_
  · show StableHlo.after hostOps5 (W7 m ρ c) (Proc.devRef .tc main_v26) (ix2 k f) = _
    simp only [hostOps5]
    after_results_simp
    exact narrowed (t := .bf16) (W7 m ρ c (Proc.devRef .tc main_v20)) k f
  · rw [left4, arr_dwin]
    exact sum_mul_congr (fun _ => rfl) (fun r => padded_place (dproj m c) r f)

end Cert.Mix

end
-- ==== Proof.MixClaims.lean ====
/- The five calls around the attention compute what their plain reference computes, whatever the arguments hold. -/
module

public import proofs.«01_k».proof.Defs
public import proofs.«01_k».proof.Proof.Gen.Reference3Ideal.Run
public import proofs.«01_k».proof.Proof.Gen.Reference3Ideal.Read
public import proofs.«01_k».proof.Proof.Mix
public import proofs.«01_k».proof.Proof.RefFwd
public import Idealize.ShloMosaic.Adequacy
public import Idealize.ShloMosaic.Init

@[expose] public section

noncomputable section

namespace Cert.Mix

open Idealize.ShloMosaic Idealize.SL.Sem Cert.Products
open Cert.Fox (read2)

/-- The reference runs, keeps its arguments, and has no counters to leave. -/
theorem frame_reference3 : Cert.quiescent_Reference3Ideal := fun m ρ _ =>
  (θ_run Cert.Reference3Ideal.defs _ _).mono (fun r h => ⟨fun c => (h c).2.2.2.2.2, sem_eq_zero_of_no_sems (by decide) r.2⟩)
    (Cert.Reference3Ideal.Value.run (F := Ideal) m ρ)

section
open Cert.Reference3Ideal Cert.Reference3Ideal.Read

/-! ## The reference's results at an index -/

theorem ref_proj (x0 : (⟨S2048x2048, .f32⟩ : BufTy).Contents (Elt Ideal)) (x1 : (⟨S2048x4624, .f32⟩ : BufTy).Contents (Elt Ideal)) (i : Fin 2048) (f : Fin 4624) :
    val_main_v0 (F := Ideal) x0 x1 (ix2 i f) = ∑ k : Fin 2048, x0 (ix2 i k) * x1 (ix2 k f) := by
  rw [val_main_v0_apply]
  exact (Finset.sum_congr rfl fun k _ => congrArg₂ (· * ·) (read2 rfl rfl rfl) (read2 rfl rfl rfl))

theorem ref_sum (x3 x4 x5 : (⟨S2048x2048, .f32⟩ : BufTy).Contents (Elt Ideal)) (i n : Fin 2048) :
    val_main_v2 (F := Ideal) x3 x4 x5 (ix2 i n) = x5 (ix2 i n) + ∑ k : Fin 2048, x3 (ix2 i k) * x4 (ix2 k n) := by
  rw [val_main_v2_apply, val_main_v1_apply]
  exact congrArg (x5 (ix2 i n) + ·) (Finset.sum_congr rfl fun k _ => congrArg₂ (· * ·) (read2 rfl rfl rfl) (read2 rfl rfl rfl))

theorem ref_do (x4 x6 : (⟨S2048x2048, .f32⟩ : BufTy).Contents (Elt Ideal)) (i k : Fin 2048) :
    val_main_v5 (F := Ideal) x4 x6 (ix2 i k) = ∑ n : Fin 2048, x6 (ix2 i n) * x4 (ix2 k n) := by
  rw [val_main_v5_apply]
  exact (Finset.sum_congr rfl fun n _ => congrArg₂ (· * ·) (read2 rfl rfl rfl) (read2 rfl rfl rfl))

theorem ref_dwout (x3 x6 : (⟨S2048x2048, .f32⟩ : BufTy).Contents (Elt Ideal)) (k n : Fin 2048) :
    val_main_v6 (F := Ideal) x3 x6 (ix2 k n) = ∑ r : Fin 2048, x3 (ix2 r k) * x6 (ix2 r n) := by
  refine (val_main_v6_apply ..).trans ?_
  refine (val_main_v4_apply ..).trans ?_
  refine (val_main_v3_apply ..).trans ?_
  refine (Finset.sum_congr rfl fun r _ => congrArg₂ (· * ·) (?_ : _ = x6 (ix2 r n)) (?_ : _ = x3 (ix2 r k))).trans
    (Finset.sum_congr rfl fun r _ => mul_comm (x6 (ix2 r n) : EReal) (x3 (ix2 r k)))
  · exact read2 rfl rfl rfl
  · exact read2 rfl rfl rfl

theorem ref_dwin (x0 : (⟨S2048x2048, .f32⟩ : BufTy).Contents (Elt Ideal)) (x2 : (⟨S2048x4624, .f32⟩ : BufTy).Contents (Elt Ideal)) (k : Fin 2048) (f : Fin 4624) :
    val_main_v9 (F := Ideal) x0 x2 (ix2 k f) = ∑ r : Fin 2048, x0 (ix2 r k) * x2 (ix2 r f) := by
  refine (val_main_v9_apply ..).trans ?_
  refine (val_main_v8_apply ..).trans ?_
  refine (val_main_v7_apply ..).trans ?_
  refine (Finset.sum_congr rfl fun r _ => congrArg₂ (· * ·) (?_ : _ = x2 (ix2 r f)) (?_ : _ = x0 (ix2 r k))).trans
    (Finset.sum_congr rfl fun r _ => mul_comm (x2 (ix2 r f) : EReal) (x0 (ix2 r k)))
  · exact read2 rfl rfl rfl
  · exact read2 rfl rfl rfl

end

/-- Over the reals the five calls compute the input projection, the output projection added to the residual, and the
    gradients of the attention's output and of the two projections' weights that differentiating the plain products gives. -/
theorem equal3 : Cert.algebraic_Kernel3Ideal_Reference3Ideal := by
  intro m g m' g' hp ha
  refine ⟨_, _, _, _, _, run_results m g, ?_⟩
  refine (θ_run Cert.Reference3Ideal.defs _ _).mono (fun r h c => ?_) (Cert.Reference3Ideal.Value.run (F := Ideal) m' g')
  obtain ⟨a0, a1, a2, a3, a4, a5, a6⟩ := ha c
  obtain ⟨r0, r1, r2, r3, r4, rest⟩ := h c
  rw [Cert.Reference3Ideal.Read.val_main_v0_eq, a0, a1] at r0
  rw [Cert.Reference3Ideal.Read.val_main_v2_eq, a3, a4, a5] at r1
  rw [Cert.Reference3Ideal.Read.val_main_v5_eq, a4, a6] at r2
  rw [Cert.Reference3Ideal.Read.val_main_v6_eq, a3, a6] at r3
  rw [Cert.Reference3Ideal.Read.val_main_v9_eq, a0, a2] at r4
  refine ⟨r0.trans ?_, r1.trans (Eq.trans ?_ (arr_sum m g c).symm), r2.trans (Eq.trans ?_ (arr_do m g c).symm),
    r3.trans (Eq.trans ?_ (arr_dwout m g c).symm), r4.trans ?_, rest⟩
  all_goals
    funext y
    obtain ⟨i, n, rfl⟩ := exists2 y
  · exact (ref_proj ..).trans (result_proj m g c i n).symm
  · exact ref_sum ..
  · exact ref_do ..
  · exact ref_dwout ..
  · exact (ref_dwin ..).trans (result_dwin m g c i n).symm

end Cert.Mix

end
-- ==== Proof.Dxn.lean ====
/- The gradient that reaches the normalised rows through the gate weight: the call keeps a running sum over the four strips of
   the hidden axis and at the last strip writes it out. -/
module

public import proofs.«01_k».proof.Proof.Gen.Kernel4Ideal.Value
public import proofs.«01_k».proof.Proof.Products
public import Idealize.ShloMosaic.Lib.Pipeline.Value
public import Idealize.ShloMosaic.Lib.Claim

@[expose] public section

set_option maxRecDepth 16384

noncomputable section

namespace Cert.Dxn

open Idealize.ShloMosaic Idealize.ShloMosaic.TcCoe Idealize.SL.Sem Cert.Kernel4Ideal Cert.Kernel4Ideal.Gen Cert.Products
open Cert.Ffn (strip)

/-! ## What a grid point stores -/

section
variable {c : Dev nD} {i : grid0.Coords} {m0 : Memref Cert.Kernel4Ideal.sig .tc .vmem S1024x1408 .bf16} {h0 : m0.IsWhole} {m1 : Memref Cert.Kernel4Ideal.sig .tc .vmem S1x1024x1408 .bf16} {h1 : m1.IsWhole}
  {m2 : Memref Cert.Kernel4Ideal.sig .tc .vmem S1024x1024 .f32} {h2 : m2.IsWhole} {m3 : Memref Cert.Kernel4Ideal.sig .tc .vmem S1024x1024 .f32} {h3 : m3.IsWhole}

/-- At the first strip the accumulator becomes the strip's product. -/
theorem acc_first {p : cond0_0 i} {q : ¬cond0_1 i} {r : ¬cond0_2 i} (x0 : Vec Ideal S1024x1408 .bf16) (x1 : Vec Ideal S1x1024x1408 .bf16) :
    sout0_A_0 c i m0 h0 m1 h1 m2 h2 m3 h3 p q r x0 x1 = k0_pay2 x0 x1 := by
  unfold sout0_A_0
  rw [View.read_writes_eq_canon _ _ _ (fun y => scover0_A_0 (y := y) ..)]
  unfold kernelRun0_A
  dsimp only
  sl_unfold_words
  simp only [View.readAt_eq_ld, h0.read_unread, h1.read_unread, h3.read_unread]
  rw [View.canon_unit_zero zeros2, View.ld_unit_zero zeros2, View.ld_unit_zero zeros3]

/-- At a middle strip the strip's product is added. -/
theorem acc_next {p : ¬cond0_0 i} {q : cond0_1 i} {r : ¬cond0_2 i} (x0 : Vec Ideal S1024x1408 .bf16) (x1 : Vec Ideal S1x1024x1408 .bf16) (s : Vec Ideal S1024x1024 .f32) :
    sout0_B_0 c i m0 h0 m1 h1 m2 h2 m3 h3 p q r x0 x1 s = k0_pay3 x0 x1 s := by
  unfold sout0_B_0
  rw [View.read_writes_eq_canon _ _ _ (fun y => scover0_B_0 (y := y) ..)]
  unfold kernelRun0_B
  dsimp only
  sl_unfold_words
  simp only [View.readAt_eq_ld, h0.read_unread, h1.read_unread, h3.read_unread]
  rw [View.canon_unit_zero zeros2, View.ld_unit_zero zeros2, View.ld_unit_zero zeros3, View.ld_unit_zero zeros2]

/-- At the last strip the finished sum goes out. -/
theorem out_last {p : ¬cond0_0 i} {q : cond0_1 i} {r : cond0_2 i} (x0 : Vec Ideal S1024x1408 .bf16) (x1 : Vec Ideal S1x1024x1408 .bf16) (s : Vec Ideal S1024x1024 .f32) :
    out0_C_2 c i m0 h0 m1 h1 m2 h2 m3 h3 p q r x0 x1 s = k0_pay3 x0 x1 s := by
  unfold out0_C_2
  rw [View.read_writes_eq_canon _ _ _ (fun y => cover0_C_2 (y := y) ..)]
  unfold kernelRun0_C
  dsimp only
  sl_unfold_words
  simp only [View.readAt_eq_ld, h0.read_unread, h1.read_unread, h3.read_unread]
  rw [View.canon_unit_zero zeros2, View.readCov_unit_zero _ zeros2, View.ld_unit_zero zeros2, View.ld_unit_zero zeros3, View.ld_unit_zero zeros2]
end

theorem pay2_at (x0 : Vec Ideal S1024x1408 .bf16) (x1 : Vec Ideal S1x1024x1408 .bf16) (a b : Fin 1024) :
    k0_pay2 x0 x1 (ix2 a b) = ∑ d : Fin 1408, x0 (ix2 a d) * x1 (ix3 0 b d) := by
  unfold_payloads; pointwise
theorem pay3_at (x0 : Vec Ideal S1024x1408 .bf16) (x1 : Vec Ideal S1x1024x1408 .bf16) (s : Vec Ideal S1024x1024 .f32) (a b : Fin 1024) :
    k0_pay3 x0 x1 s (ix2 a b) = s (ix2 a b) + ∑ d : Fin 1408, x0 (ix2 a d) * x1 (ix3 0 b d) := by
  unfold_payloads; pointwise
/-! ## Where the blocks lie -/

theorem idx_0 : ∀ t : Fin cfg0.N, win0_0.index t (0 : Fin 2) = t.val / 4 / 2 ∧ win0_0.index t (1 : Fin 2) = t.val % 4 :=
  (by decide +kernel : ∀ t : Fin grid0.N, _)
theorem idx_1 : ∀ t : Fin cfg0.N, win0_1.index t (0 : Fin 3) = t.val % 4 ∧ win0_1.index t (1 : Fin 3) = t.val / 4 % 2 ∧ win0_1.index t (2 : Fin 3) = 0 :=
  (by decide +kernel : ∀ t : Fin grid0.N, _)
theorem idx_2 : ∀ t : Fin cfg0.N, win0_2.index t (0 : Fin 2) = t.val / 4 / 2 ∧ win0_2.index t (1 : Fin 2) = t.val / 4 % 2 :=
  (by decide +kernel : ∀ t : Fin grid0.N, _)

theorem emb_0 (t : Fin cfg0.N) (a : Fin 1024) (d : Fin 1408) : ((cfg0.win 0).blk t).view.emb (ix2 a d : S1024x1408.Idx) = ix2 (half (rowTile t) a) (strip (stripOf t) d) := by
  obtain ⟨e0, e1⟩ := idx_0 t
  funext x; apply Fin.ext
  match x with
  | ⟨0, _⟩ => show win0_0.index t (0 : Fin 2) * 1024 + 1 * a.val = 1024 * (t.val / 4 / 2) + a.val; omega
  | ⟨1, _⟩ => show win0_0.index t (1 : Fin 2) * 1408 + 1 * d.val = 1408 * (t.val % 4) + d.val; omega
theorem emb_1 (t : Fin cfg0.N) (b : Fin 1024) (d : Fin 1408) : ((cfg0.win 1).blk t).view.emb (ix3 0 b d : S1x1024x1408.Idx) = ix3 (stripOf t) (half (colTile t) b) d := by
  obtain ⟨e0, e1, e2⟩ := idx_1 t
  funext x; apply Fin.ext
  match x with
  | ⟨0, _⟩ => show win0_1.index t (0 : Fin 3) * 1 + 1 * 0 = t.val % 4; omega
  | ⟨1, _⟩ => show win0_1.index t (1 : Fin 3) * 1024 + 1 * b.val = 1024 * (t.val / 4 % 2) + b.val; omega
  | ⟨2, _⟩ => show win0_1.index t (2 : Fin 3) * 1408 + 1 * d.val = d.val; omega
theorem emb_2 (t : Fin cfg0.N) (a b : Fin 1024) : ((cfg0.win 2).blk t).view.emb (ix2 a b : S1024x1024.Idx) = ix2 (half (rowTile t) a) (half (colTile t) b) := by
  obtain ⟨e0, e1⟩ := idx_2 t
  funext x; apply Fin.ext
  match x with
  | ⟨0, _⟩ => show win0_2.index t (0 : Fin 2) * 1024 + 1 * a.val = 1024 * (t.val / 4 / 2) + a.val; omega
  | ⟨1, _⟩ => show win0_2.index t (1 : Fin 2) * 1024 + 1 * b.val = 1024 * (t.val / 4 % 2) + b.val; omega

variable (m : (ℓ : Loc nD τ Cert.Kernel4Ideal.sig) → Buf (Elt Ideal) ℓ) (ρ : Dev nD → PrngReg) (c : Dev nD)

theorem in_0 (t : Fin cfg0.N) (a : Fin 1024) (d : Fin 1408) : iblk m c 0 t (ix2 a d) = V m c main_v0 (ix2 (half (rowTile t) a) (strip (stripOf t) d)) := by
  show V m c main_v0 (((cfg0.win 0).blk t).view.emb (ix2 a d : S1024x1408.Idx)) = _
  rw [emb_0]
theorem in_1 (t : Fin cfg0.N) (b : Fin 1024) (d : Fin 1408) : iblk m c 1 t (ix3 0 b d) = V m c main_v3 (ix3 (stripOf t) (half (colTile t) b) d) := by
  show V m c main_v3 (((cfg0.win 1).blk t).view.emb (ix3 0 b d : S1x1024x1408.Idx)) = _
  rw [emb_1]

/-! ## What the host gives the call -/

/-- The gradient of the hidden rows and the weight, as the program's arguments hold them. -/
def lhs (i : Fin 2048) (f : Fin 5632) : EReal := m ((c : Thread nD τ).loc main_arg0) (ix2 i f)
def rhs (n : Fin 2048) (f : Fin 5632) : EReal := m ((c : Thread nD τ).loc main_arg1) (ix2 n f)

theorem host_0 (i : Fin 2048) (f : Fin 5632) : V m c main_v0 (ix2 i f) = lhs m c i f := by
  show StableHlo.after hostOps0 _ (Proc.devRef .tc main_v0) (ix2 i f) = _
  simp only [hostOps0]
  after_results
  pointwise
  rfl
theorem host_1 (j : Fin 4) (n : Fin 2048) (d : Fin 1408) : V m c main_v3 (ix3 j n d) = rhs m c n (strip j d) := by
  show StableHlo.after hostOps0 _ (Proc.devRef .tc main_v3) (ix3 j n d) = _
  simp only [hostOps0]
  after_results
  exact strips _ _ (m ((c : Thread nD τ).loc main_arg1)) j n d

/-! ## The running sum -/

/-- The product over one strip, at the tile of point `t`. -/
def part (i n : Fin 2048) (j : Fin 4) : EReal := ∑ d : Fin 1408, lhs m c i (strip j d) * rhs m c n (strip j d)

theorem block (t : Fin cfg0.N) (a b : Fin 1024) :
    k0_pay2 (iblk m c 0 t) (iblk m c 1 t) (ix2 a b) = part m c (half (rowTile t) a) (half (colTile t) b) (stripOf t) :=
  (pay2_at ..).trans (Finset.sum_congr rfl fun d _ => by rw [in_0, in_1, host_0, host_1])

theorem block_add (t : Fin cfg0.N) (s : Vec Ideal S1024x1024 .f32) (a b : Fin 1024) :
    k0_pay3 (iblk m c 0 t) (iblk m c 1 t) s (ix2 a b) = s (ix2 a b) + part m c (half (rowTile t) a) (half (colTile t) b) (stripOf t) :=
  (pay3_at ..).trans (congrArg (s (ix2 a b) + ·) (Finset.sum_congr rfl fun d _ => by rw [in_0, in_1, host_0, host_1]))

theorem first (t : Fin cfg0.N) (h : t.val % 4 = 0) (a b : Fin 1024) :
    (outsAt0 m c t.val t.isLt).2 (ix2 a b) = part m c (half (rowTile t) a) (half (colTile t) b) (stripOf t) := by
  rw [outsAt0_A m c t h (by omega) (by omega)]
  dsimp only
  rw [acc_first, block]

theorem outs_congr {n n' : ℕ} (h : n = n') (p : n < cfg0.N) (p' : n' < cfg0.N) : outsAt0 m c n p = outsAt0 m c n' p' := by subst h; rfl

theorem next (t t' : Fin cfg0.N) (h0 : ¬t.val % 4 = 0) (h3 : ¬t.val % 4 = 3) (e : t.val - 1 = t'.val) (a b : Fin 1024) :
    (outsAt0 m c t.val t.isLt).2 (ix2 a b)
      = (outsAt0 m c t'.val t'.isLt).2 (ix2 a b) + part m c (half (rowTile t) a) (half (colTile t) b) (stripOf t) := by
  rw [outsAt0_B m c t h0 (by omega) h3]
  dsimp only
  rw [acc_next, block_add, outs_congr m c e _ t'.isLt]

theorem last (t t' : Fin cfg0.N) (h3 : t.val % 4 = 3) (e : t.val - 1 = t'.val) (a b : Fin 1024) :
    (outsAt0 m c t.val t.isLt).1 (ix2 a b)
      = (outsAt0 m c t'.val t'.isLt).2 (ix2 a b) + part m c (half (rowTile t) a) (half (colTile t) b) (stripOf t) := by
  rw [outsAt0_C m c t (by omega) (by omega) h3]
  dsimp only
  rw [out_last, block_add, outs_congr m c e _ t'.isLt]

/-- The product over the whole hidden axis. -/
def whole (i n : Fin 2048) : EReal := ∑ f : Fin 5632, lhs m c i f * rhs m c n f

theorem whole_eq (i n : Fin 2048) : whole m c i n = ((part m c i n 0 + part m c i n 1) + part m c i n 2) + part m c i n 3 :=
  sum_strips _

/-- What is written back: the whole product. -/
theorem flushed (t : Fin cfg0.N) (h : t.val % 4 = 3) (a b : Fin 1024) :
    (outsAt0 m c t.val t.isLt).1 (ix2 a b)
      = whole m c (half (rowTile t) a) (half (colTile t) b) := by
  have hl : t.val < 16 := t.isLt
  let t2 : Fin cfg0.N := ⟨t.val - 1, by show _ < 16; omega⟩
  let t1 : Fin cfg0.N := ⟨t.val - 2, by show _ < 16; omega⟩
  let t0 : Fin cfg0.N := ⟨t.val - 3, by show _ < 16; omega⟩
  have q2 : t2.val / 4 = t.val / 4 := by show (t.val - 1) / 4 = _; omega
  have q1 : t1.val / 4 = t.val / 4 := by show (t.val - 2) / 4 = _; omega
  have q0 : t0.val / 4 = t.val / 4 := by show (t.val - 3) / 4 = _; omega
  have s2 : t2.val % 4 = 2 := by show (t.val - 1) % 4 = _; omega
  have s1 : t1.val % 4 = 1 := by show (t.val - 2) % 4 = _; omega
  have s0 : t0.val % 4 = 0 := by show (t.val - 3) % 4 = _; omega
  rw [last m c t t2 h rfl, next m c t2 t1 (by omega) (by omega) (by show t.val - 1 - 1 = t.val - 2; omega),
    next m c t1 t0 (by omega) (by omega) (by show t.val - 2 - 1 = t.val - 3; omega), first m c t0 s0,
    rowTile_eq q2, rowTile_eq q1, rowTile_eq q0, colTile_eq q2, colTile_eq q1, colTile_eq q0,
    stripOf_eq (j := 3) h, stripOf_eq (j := 2) s2, stripOf_eq (j := 1) s1, stripOf_eq (j := 0) s0, whole_eq]

/-- The array the call leaves. -/
theorem result : (dats m 0 c).arrAt 2 cfg0.N
    = fun i : S2048x2048.Idx => (whole m c (i 0) (i 1) : EReal) := by
  refine (dats m 0 c).arrAt_eq_of_covers 2 _ (by decide +kernel) fun t hf y => ?_
  suffices hs : ∀ y : S1024x1024.Idx, (dats m 0 c).after 2 t y
      = (fun i : S2048x2048.Idx => (whole m c (i 0) (i 1) : EReal)) (((cfg0.win 2).blk t).view.emb y) from hs y
  intro y
  obtain ⟨a, b, rfl⟩ := exists2 y
  rw [emb_2, after0_2]
  exact flushed m c t ((flush0_2 t).mp hf) a b

end Cert.Dxn

end
-- ==== Proof.DxnAdd.lean ====
/- The gradient that reaches the normalised rows through the up weight: the call keeps a running sum over the four strips of
   the hidden axis and at the last strip adds it to the gradient that came through the gate weight. -/
module

public import proofs.«01_k».proof.Proof.Gen.Kernel5Ideal.Value
public import proofs.«01_k».proof.Proof.Products
public import Idealize.ShloMosaic.Lib.Pipeline.Value
public import Idealize.ShloMosaic.Lib.Claim

@[expose] public section

set_option maxRecDepth 16384

noncomputable section

namespace Cert.DxnAdd

open Idealize.ShloMosaic Idealize.ShloMosaic.TcCoe Idealize.SL.Sem Cert.Kernel5Ideal Cert.Kernel5Ideal.Gen Cert.Products
open Cert.Ffn (strip)

/-! ## What a grid point stores -/

section
variable {c : Dev nD} {i : grid0.Coords} {m0 : Memref Cert.Kernel5Ideal.sig .tc .vmem S1024x1408 .bf16} {h0 : m0.IsWhole} {m1 : Memref Cert.Kernel5Ideal.sig .tc .vmem S1x1024x1408 .bf16} {h1 : m1.IsWhole}
  {m2 : Memref Cert.Kernel5Ideal.sig .tc .vmem S1024x1024 .f32} {h2 : m2.IsWhole} {m3 : Memref Cert.Kernel5Ideal.sig .tc .vmem S1024x1024 .f32} {h3 : m3.IsWhole} {m4 : Memref Cert.Kernel5Ideal.sig .tc .vmem S1024x1024 .f32} {h4 : m4.IsWhole}

/-- At the first strip the accumulator becomes the strip's product. -/
theorem acc_first {p : cond0_0 i} {q : ¬cond0_1 i} {r : ¬cond0_2 i} (x0 : Vec Ideal S1024x1408 .bf16) (x1 : Vec Ideal S1x1024x1408 .bf16) (x2 : Vec Ideal S1024x1024 .f32) :
    sout0_A_0 c i m0 h0 m1 h1 m2 h2 m3 h3 m4 h4 p q r x0 x1 x2 = k0_pay2 x0 x1 := by
  unfold sout0_A_0
  rw [View.read_writes_eq_canon _ _ _ (fun y => scover0_A_0 (y := y) ..)]
  unfold kernelRun0_A
  dsimp only
  sl_unfold_words
  simp only [View.readAt_eq_ld, h0.read_unread, h1.read_unread, h2.read_unread, h4.read_unread]
  rw [View.canon_unit_zero zeros2, View.ld_unit_zero zeros2, View.ld_unit_zero zeros3]

/-- At a middle strip the strip's product is added. -/
theorem acc_next {p : ¬cond0_0 i} {q : cond0_1 i} {r : ¬cond0_2 i} (x0 : Vec Ideal S1024x1408 .bf16) (x1 : Vec Ideal S1x1024x1408 .bf16) (x2 s : Vec Ideal S1024x1024 .f32) :
    sout0_B_0 c i m0 h0 m1 h1 m2 h2 m3 h3 m4 h4 p q r x0 x1 x2 s = k0_pay3 x0 x1 s := by
  unfold sout0_B_0
  rw [View.read_writes_eq_canon _ _ _ (fun y => scover0_B_0 (y := y) ..)]
  unfold kernelRun0_B
  dsimp only
  sl_unfold_words
  simp only [View.readAt_eq_ld, h0.read_unread, h1.read_unread, h2.read_unread, h4.read_unread]
  rw [View.canon_unit_zero zeros2, View.ld_unit_zero zeros2, View.ld_unit_zero zeros3, View.ld_unit_zero zeros2]

/-- At the last strip the finished sum goes out. -/
theorem out_last {p : ¬cond0_0 i} {q : cond0_1 i} {r : cond0_2 i} (x0 : Vec Ideal S1024x1408 .bf16) (x1 : Vec Ideal S1x1024x1408 .bf16) (x2 s : Vec Ideal S1024x1024 .f32) :
    out0_C_3 c i m0 h0 m1 h1 m2 h2 m3 h3 m4 h4 p q r x0 x1 x2 s = k0_pay4 (k0_pay3 x0 x1 s) x2 := by
  unfold out0_C_3
  rw [View.read_writes_eq_canon _ _ _ (fun y => cover0_C_3 (y := y) ..)]
  unfold kernelRun0_C
  dsimp only
  sl_unfold_words
  simp only [View.readAt_eq_ld, h0.read_unread, h1.read_unread, h2.read_unread, h4.read_unread]
  rw [View.canon_unit_zero zeros2, View.readCov_unit_zero _ zeros2, View.ld_unit_zero zeros2, View.ld_unit_zero zeros3, View.ld_unit_zero zeros2, View.ld_unit_zero zeros2]
end

theorem pay2_at (x0 : Vec Ideal S1024x1408 .bf16) (x1 : Vec Ideal S1x1024x1408 .bf16) (a b : Fin 1024) :
    k0_pay2 x0 x1 (ix2 a b) = ∑ d : Fin 1408, x0 (ix2 a d) * x1 (ix3 0 b d) := by
  unfold_payloads; pointwise
theorem pay3_at (x0 : Vec Ideal S1024x1408 .bf16) (x1 : Vec Ideal S1x1024x1408 .bf16) (s : Vec Ideal S1024x1024 .f32) (a b : Fin 1024) :
    k0_pay3 x0 x1 s (ix2 a b) = s (ix2 a b) + ∑ d : Fin 1408, x0 (ix2 a d) * x1 (ix3 0 b d) := by
  unfold_payloads; pointwise
theorem pay4_at (s x2 : Vec Ideal S1024x1024 .f32) (a b : Fin 1024) :
    k0_pay4 s x2 (ix2 a b) = x2 (ix2 a b) + s (ix2 a b) := by
  unfold_payloads; pointwise

/-! ## Where the blocks lie -/

theorem idx_0 : ∀ t : Fin cfg0.N, win0_0.index t (0 : Fin 2) = t.val / 4 / 2 ∧ win0_0.index t (1 : Fin 2) = t.val % 4 :=
  (by decide +kernel : ∀ t : Fin grid0.N, _)
theorem idx_1 : ∀ t : Fin cfg0.N, win0_1.index t (0 : Fin 3) = t.val % 4 ∧ win0_1.index t (1 : Fin 3) = t.val / 4 % 2 ∧ win0_1.index t (2 : Fin 3) = 0 :=
  (by decide +kernel : ∀ t : Fin grid0.N, _)
theorem idx_2 : ∀ t : Fin cfg0.N, win0_2.index t (0 : Fin 2) = t.val / 4 / 2 ∧ win0_2.index t (1 : Fin 2) = t.val / 4 % 2 :=
  (by decide +kernel : ∀ t : Fin grid0.N, _)
theorem idx_3 : ∀ t : Fin cfg0.N, win0_3.index t (0 : Fin 2) = t.val / 4 / 2 ∧ win0_3.index t (1 : Fin 2) = t.val / 4 % 2 :=
  (by decide +kernel : ∀ t : Fin grid0.N, _)

theorem emb_0 (t : Fin cfg0.N) (a : Fin 1024) (d : Fin 1408) : ((cfg0.win 0).blk t).view.emb (ix2 a d : S1024x1408.Idx) = ix2 (half (rowTile t) a) (strip (stripOf t) d) := by
  obtain ⟨e0, e1⟩ := idx_0 t
  funext x; apply Fin.ext
  match x with
  | ⟨0, _⟩ => show win0_0.index t (0 : Fin 2) * 1024 + 1 * a.val = 1024 * (t.val / 4 / 2) + a.val; omega
  | ⟨1, _⟩ => show win0_0.index t (1 : Fin 2) * 1408 + 1 * d.val = 1408 * (t.val % 4) + d.val; omega
theorem emb_1 (t : Fin cfg0.N) (b : Fin 1024) (d : Fin 1408) : ((cfg0.win 1).blk t).view.emb (ix3 0 b d : S1x1024x1408.Idx) = ix3 (stripOf t) (half (colTile t) b) d := by
  obtain ⟨e0, e1, e2⟩ := idx_1 t
  funext x; apply Fin.ext
  match x with
  | ⟨0, _⟩ => show win0_1.index t (0 : Fin 3) * 1 + 1 * 0 = t.val % 4; omega
  | ⟨1, _⟩ => show win0_1.index t (1 : Fin 3) * 1024 + 1 * b.val = 1024 * (t.val / 4 % 2) + b.val; omega
  | ⟨2, _⟩ => show win0_1.index t (2 : Fin 3) * 1408 + 1 * d.val = d.val; omega
theorem emb_2 (t : Fin cfg0.N) (a b : Fin 1024) : ((cfg0.win 2).blk t).view.emb (ix2 a b : S1024x1024.Idx) = ix2 (half (rowTile t) a) (half (colTile t) b) := by
  obtain ⟨e0, e1⟩ := idx_2 t
  funext x; apply Fin.ext
  match x with
  | ⟨0, _⟩ => show win0_2.index t (0 : Fin 2) * 1024 + 1 * a.val = 1024 * (t.val / 4 / 2) + a.val; omega
  | ⟨1, _⟩ => show win0_2.index t (1 : Fin 2) * 1024 + 1 * b.val = 1024 * (t.val / 4 % 2) + b.val; omega
theorem emb_3 (t : Fin cfg0.N) (a b : Fin 1024) : ((cfg0.win 3).blk t).view.emb (ix2 a b : S1024x1024.Idx) = ix2 (half (rowTile t) a) (half (colTile t) b) := by
  obtain ⟨e0, e1⟩ := idx_3 t
  funext x; apply Fin.ext
  match x with
  | ⟨0, _⟩ => show win0_3.index t (0 : Fin 2) * 1024 + 1 * a.val = 1024 * (t.val / 4 / 2) + a.val; omega
  | ⟨1, _⟩ => show win0_3.index t (1 : Fin 2) * 1024 + 1 * b.val = 1024 * (t.val / 4 % 2) + b.val; omega

variable (m : (ℓ : Loc nD τ Cert.Kernel5Ideal.sig) → Buf (Elt Ideal) ℓ) (ρ : Dev nD → PrngReg) (c : Dev nD)

theorem in_0 (t : Fin cfg0.N) (a : Fin 1024) (d : Fin 1408) : iblk m c 0 t (ix2 a d) = V m c main_v0 (ix2 (half (rowTile t) a) (strip (stripOf t) d)) := by
  show V m c main_v0 (((cfg0.win 0).blk t).view.emb (ix2 a d : S1024x1408.Idx)) = _
  rw [emb_0]
theorem in_1 (t : Fin cfg0.N) (b : Fin 1024) (d : Fin 1408) : iblk m c 1 t (ix3 0 b d) = V m c main_v3 (ix3 (stripOf t) (half (colTile t) b) d) := by
  show V m c main_v3 (((cfg0.win 1).blk t).view.emb (ix3 0 b d : S1x1024x1408.Idx)) = _
  rw [emb_1]
theorem in_2 (t : Fin cfg0.N) (a b : Fin 1024) : iblk m c 2 t (ix2 a b) = V m c main_arg2 (ix2 (half (rowTile t) a) (half (colTile t) b)) := by
  show V m c main_arg2 (((cfg0.win 2).blk t).view.emb (ix2 a b : S1024x1024.Idx)) = _
  rw [emb_2]

/-! ## What the host gives the call -/

/-- The gradient of the hidden rows and the weight, as the program's arguments hold them. -/
def lhs (i : Fin 2048) (f : Fin 5632) : EReal := m ((c : Thread nD τ).loc main_arg0) (ix2 i f)
def rhs (n : Fin 2048) (f : Fin 5632) : EReal := m ((c : Thread nD τ).loc main_arg1) (ix2 n f)
def res (i n : Fin 2048) : EReal := m ((c : Thread nD τ).loc main_arg2) (ix2 i n)

theorem host_0 (i : Fin 2048) (f : Fin 5632) : V m c main_v0 (ix2 i f) = lhs m c i f := by
  show StableHlo.after hostOps0 _ (Proc.devRef .tc main_v0) (ix2 i f) = _
  simp only [hostOps0]
  after_results
  pointwise
  rfl
theorem host_1 (j : Fin 4) (n : Fin 2048) (d : Fin 1408) : V m c main_v3 (ix3 j n d) = rhs m c n (strip j d) := by
  show StableHlo.after hostOps0 _ (Proc.devRef .tc main_v3) (ix3 j n d) = _
  simp only [hostOps0]
  after_results
  exact strips _ _ (m ((c : Thread nD τ).loc main_arg1)) j n d
theorem host_2 (i n : Fin 2048) : V m c main_arg2 (ix2 i n) = res m c i n := congrFun (V_main_arg2 m c) _

/-! ## The running sum -/

/-- The product over one strip, at the tile of point `t`. -/
def part (i n : Fin 2048) (j : Fin 4) : EReal := ∑ d : Fin 1408, lhs m c i (strip j d) * rhs m c n (strip j d)

theorem block (t : Fin cfg0.N) (a b : Fin 1024) :
    k0_pay2 (iblk m c 0 t) (iblk m c 1 t) (ix2 a b) = part m c (half (rowTile t) a) (half (colTile t) b) (stripOf t) :=
  (pay2_at ..).trans (Finset.sum_congr rfl fun d _ => by rw [in_0, in_1, host_0, host_1])

theorem block_add (t : Fin cfg0.N) (s : Vec Ideal S1024x1024 .f32) (a b : Fin 1024) :
    k0_pay3 (iblk m c 0 t) (iblk m c 1 t) s (ix2 a b) = s (ix2 a b) + part m c (half (rowTile t) a) (half (colTile t) b) (stripOf t) :=
  (pay3_at ..).trans (congrArg (s (ix2 a b) + ·) (Finset.sum_congr rfl fun d _ => by rw [in_0, in_1, host_0, host_1]))

theorem first (t : Fin cfg0.N) (h : t.val % 4 = 0) (a b : Fin 1024) :
    (outsAt0 m c t.val t.isLt).2 (ix2 a b) = part m c (half (rowTile t) a) (half (colTile t) b) (stripOf t) := by
  rw [outsAt0_A m c t h (by omega) (by omega)]
  dsimp only
  rw [acc_first, block]

theorem outs_congr {n n' : ℕ} (h : n = n') (p : n < cfg0.N) (p' : n' < cfg0.N) : outsAt0 m c n p = outsAt0 m c n' p' := by subst h; rfl

theorem next (t t' : Fin cfg0.N) (h0 : ¬t.val % 4 = 0) (h3 : ¬t.val % 4 = 3) (e : t.val - 1 = t'.val) (a b : Fin 1024) :
    (outsAt0 m c t.val t.isLt).2 (ix2 a b)
      = (outsAt0 m c t'.val t'.isLt).2 (ix2 a b) + part m c (half (rowTile t) a) (half (colTile t) b) (stripOf t) := by
  rw [outsAt0_B m c t h0 (by omega) h3]
  dsimp only
  rw [acc_next, block_add, outs_congr m c e _ t'.isLt]

theorem last (t t' : Fin cfg0.N) (h3 : t.val % 4 = 3) (e : t.val - 1 = t'.val) (a b : Fin 1024) :
    (outsAt0 m c t.val t.isLt).1 (ix2 a b)
      = res m c (half (rowTile t) a) (half (colTile t) b)
        + ((outsAt0 m c t'.val t'.isLt).2 (ix2 a b) + part m c (half (rowTile t) a) (half (colTile t) b) (stripOf t)) := by
  rw [outsAt0_C m c t (by omega) (by omega) h3]
  dsimp only
  rw [out_last, pay4_at, block_add, in_2, host_2, outs_congr m c e _ t'.isLt]

/-- The product over the whole hidden axis. -/
def whole (i n : Fin 2048) : EReal := ∑ f : Fin 5632, lhs m c i f * rhs m c n f

theorem whole_eq (i n : Fin 2048) : whole m c i n = ((part m c i n 0 + part m c i n 1) + part m c i n 2) + part m c i n 3 :=
  sum_strips _

/-- What is written back: the whole product, added to the residual. -/
theorem flushed (t : Fin cfg0.N) (h : t.val % 4 = 3) (a b : Fin 1024) :
    (outsAt0 m c t.val t.isLt).1 (ix2 a b)
      = res m c (half (rowTile t) a) (half (colTile t) b) + whole m c (half (rowTile t) a) (half (colTile t) b) := by
  have hl : t.val < 16 := t.isLt
  let t2 : Fin cfg0.N := ⟨t.val - 1, by show _ < 16; omega⟩
  let t1 : Fin cfg0.N := ⟨t.val - 2, by show _ < 16; omega⟩
  let t0 : Fin cfg0.N := ⟨t.val - 3, by show _ < 16; omega⟩
  have q2 : t2.val / 4 = t.val / 4 := by show (t.val - 1) / 4 = _; omega
  have q1 : t1.val / 4 = t.val / 4 := by show (t.val - 2) / 4 = _; omega
  have q0 : t0.val / 4 = t.val / 4 := by show (t.val - 3) / 4 = _; omega
  have s2 : t2.val % 4 = 2 := by show (t.val - 1) % 4 = _; omega
  have s1 : t1.val % 4 = 1 := by show (t.val - 2) % 4 = _; omega
  have s0 : t0.val % 4 = 0 := by show (t.val - 3) % 4 = _; omega
  rw [last m c t t2 h rfl, next m c t2 t1 (by omega) (by omega) (by show t.val - 1 - 1 = t.val - 2; omega),
    next m c t1 t0 (by omega) (by omega) (by show t.val - 2 - 1 = t.val - 3; omega), first m c t0 s0,
    rowTile_eq q2, rowTile_eq q1, rowTile_eq q0, colTile_eq q2, colTile_eq q1, colTile_eq q0,
    stripOf_eq (j := 3) h, stripOf_eq (j := 2) s2, stripOf_eq (j := 1) s1, stripOf_eq (j := 0) s0, whole_eq]

/-- The array the call leaves. -/
theorem result : (dats m 0 c).arrAt 3 cfg0.N
    = fun i : S2048x2048.Idx => (res m c (i 0) (i 1) + whole m c (i 0) (i 1) : EReal) := by
  refine (dats m 0 c).arrAt_eq_of_covers 3 _ (by decide +kernel) fun t hf y => ?_
  suffices hs : ∀ y : S1024x1024.Idx, (dats m 0 c).after 3 t y
      = (fun i : S2048x2048.Idx => (res m c (i 0) (i 1) + whole m c (i 0) (i 1) : EReal)) (((cfg0.win 3).blk t).view.emb y) from hs y
  intro y
  obtain ⟨a, b, rfl⟩ := exists2 y
  rw [emb_3, after0_3]
  exact flushed m c t ((flush0_3 t).mp hf) a b

end Cert.DxnAdd

end
-- ==== Proof.Down.lean ====
/- The down projection of the feed-forward layer: the call keeps a running sum over the four strips of the hidden axis and at
   the last strip adds half of it to the residual. -/
module

public import proofs.«01_k».proof.Proof.Gen.Kernel6Ideal.Value
public import proofs.«01_k».proof.Proof.Products
public import Idealize.ShloMosaic.Lib.Pipeline.Value
public import Idealize.ShloMosaic.Lib.Claim

@[expose] public section

set_option maxRecDepth 16384

noncomputable section

namespace Cert.Down

open Idealize.ShloMosaic Idealize.ShloMosaic.TcCoe Idealize.SL.Sem Cert.Kernel6Ideal Cert.Kernel6Ideal.Gen Cert.Products
open Cert.Ffn (strip)

/-! ## What a grid point stores -/

section
variable {c : Dev nD} {i : grid0.Coords} {m0 : Memref Cert.Kernel6Ideal.sig .tc .vmem S1024x1408 .bf16} {h0 : m0.IsWhole} {m1 : Memref Cert.Kernel6Ideal.sig .tc .vmem S1408x1024 .bf16} {h1 : m1.IsWhole}
  {m2 : Memref Cert.Kernel6Ideal.sig .tc .vmem S1024x1024 .f32} {h2 : m2.IsWhole} {m3 : Memref Cert.Kernel6Ideal.sig .tc .vmem S1024x1024 .f32} {h3 : m3.IsWhole} {m4 : Memref Cert.Kernel6Ideal.sig .tc .vmem S1024x1024 .f32} {h4 : m4.IsWhole}

/-- At the first strip the accumulator becomes the strip's product. -/
theorem acc_first {p : cond0_0 i} {q : ¬cond0_1 i} {r : ¬cond0_2 i} (x0 : Vec Ideal S1024x1408 .bf16) (x1 : Vec Ideal S1408x1024 .bf16) (x2 : Vec Ideal S1024x1024 .f32) :
    sout0_A_0 c i m0 h0 m1 h1 m2 h2 m3 h3 m4 h4 p q r x0 x1 x2 = k0_pay2 x0 x1 := by
  unfold sout0_A_0
  rw [View.read_writes_eq_canon _ _ _ (fun y => scover0_A_0 (y := y) ..)]
  unfold kernelRun0_A
  dsimp only
  sl_unfold_words
  simp only [View.readAt_eq_ld, h0.read_unread, h1.read_unread, h2.read_unread, h4.read_unread]
  rw [View.canon_unit_zero zeros2, View.ld_unit_zero zeros2, View.ld_unit_zero zeros2]

/-- At a middle strip the strip's product is added. -/
theorem acc_next {p : ¬cond0_0 i} {q : cond0_1 i} {r : ¬cond0_2 i} (x0 : Vec Ideal S1024x1408 .bf16) (x1 : Vec Ideal S1408x1024 .bf16) (x2 s : Vec Ideal S1024x1024 .f32) :
    sout0_B_0 c i m0 h0 m1 h1 m2 h2 m3 h3 m4 h4 p q r x0 x1 x2 s = k0_pay3 x0 x1 s := by
  unfold sout0_B_0
  rw [View.read_writes_eq_canon _ _ _ (fun y => scover0_B_0 (y := y) ..)]
  unfold kernelRun0_B
  dsimp only
  sl_unfold_words
  simp only [View.readAt_eq_ld, h0.read_unread, h1.read_unread, h2.read_unread, h4.read_unread]
  rw [View.canon_unit_zero zeros2, View.ld_unit_zero zeros2, View.ld_unit_zero zeros2, View.ld_unit_zero zeros2]

/-- At the last strip the finished sum goes out. -/
theorem out_last {p : ¬cond0_0 i} {q : cond0_1 i} {r : cond0_2 i} (x0 : Vec Ideal S1024x1408 .bf16) (x1 : Vec Ideal S1408x1024 .bf16) (x2 s : Vec Ideal S1024x1024 .f32) :
    out0_C_3 c i m0 h0 m1 h1 m2 h2 m3 h3 m4 h4 p q r x0 x1 x2 s = k0_pay4 (k0_pay3 x0 x1 s) x2 := by
  unfold out0_C_3
  rw [View.read_writes_eq_canon _ _ _ (fun y => cover0_C_3 (y := y) ..)]
  unfold kernelRun0_C
  dsimp only
  sl_unfold_words
  simp only [View.readAt_eq_ld, h0.read_unread, h1.read_unread, h2.read_unread, h4.read_unread]
  rw [View.canon_unit_zero zeros2, View.readCov_unit_zero _ zeros2, View.ld_unit_zero zeros2, View.ld_unit_zero zeros2, View.ld_unit_zero zeros2, View.ld_unit_zero zeros2]
end

theorem pay2_at (x0 : Vec Ideal S1024x1408 .bf16) (x1 : Vec Ideal S1408x1024 .bf16) (a b : Fin 1024) :
    k0_pay2 x0 x1 (ix2 a b) = ∑ d : Fin 1408, x0 (ix2 a d) * x1 (ix2 d b) := by
  unfold_payloads; pointwise
theorem pay3_at (x0 : Vec Ideal S1024x1408 .bf16) (x1 : Vec Ideal S1408x1024 .bf16) (s : Vec Ideal S1024x1024 .f32) (a b : Fin 1024) :
    k0_pay3 x0 x1 s (ix2 a b) = s (ix2 a b) + ∑ d : Fin 1408, x0 (ix2 a d) * x1 (ix2 d b) := by
  unfold_payloads; pointwise
theorem pay4_at (s x2 : Vec Ideal S1024x1024 .f32) (a b : Fin 1024) :
    k0_pay4 s x2 (ix2 a b) = x2 (ix2 a b) + s (ix2 a b) * Ideal.ofBits .f32 0x3F000000#32 := by
  unfold_payloads; pointwise

/-! ## Where the blocks lie -/

theorem idx_0 : ∀ t : Fin cfg0.N, win0_0.index t (0 : Fin 2) = t.val / 4 / 2 ∧ win0_0.index t (1 : Fin 2) = t.val % 4 :=
  (by decide +kernel : ∀ t : Fin grid0.N, _)
theorem idx_1 : ∀ t : Fin cfg0.N, win0_1.index t (0 : Fin 2) = t.val % 4 ∧ win0_1.index t (1 : Fin 2) = t.val / 4 % 2 :=
  (by decide +kernel : ∀ t : Fin grid0.N, _)
theorem idx_2 : ∀ t : Fin cfg0.N, win0_2.index t (0 : Fin 2) = t.val / 4 / 2 ∧ win0_2.index t (1 : Fin 2) = t.val / 4 % 2 :=
  (by decide +kernel : ∀ t : Fin grid0.N, _)
theorem idx_3 : ∀ t : Fin cfg0.N, win0_3.index t (0 : Fin 2) = t.val / 4 / 2 ∧ win0_3.index t (1 : Fin 2) = t.val / 4 % 2 :=
  (by decide +kernel : ∀ t : Fin grid0.N, _)

theorem emb_0 (t : Fin cfg0.N) (a : Fin 1024) (d : Fin 1408) : ((cfg0.win 0).blk t).view.emb (ix2 a d : S1024x1408.Idx) = ix2 (half (rowTile t) a) (strip (stripOf t) d) := by
  obtain ⟨e0, e1⟩ := idx_0 t
  funext x; apply Fin.ext
  match x with
  | ⟨0, _⟩ => show win0_0.index t (0 : Fin 2) * 1024 + 1 * a.val = 1024 * (t.val / 4 / 2) + a.val; omega
  | ⟨1, _⟩ => show win0_0.index t (1 : Fin 2) * 1408 + 1 * d.val = 1408 * (t.val % 4) + d.val; omega
theorem emb_1 (t : Fin cfg0.N) (d : Fin 1408) (b : Fin 1024) : ((cfg0.win 1).blk t).view.emb (ix2 d b : S1408x1024.Idx) = ix2 (strip (stripOf t) d) (half (colTile t) b) := by
  obtain ⟨e0, e1⟩ := idx_1 t
  funext x; apply Fin.ext
  match x with
  | ⟨0, _⟩ => show win0_1.index t (0 : Fin 2) * 1408 + 1 * d.val = 1408 * (t.val % 4) + d.val; omega
  | ⟨1, _⟩ => show win0_1.index t (1 : Fin 2) * 1024 + 1 * b.val = 1024 * (t.val / 4 % 2) + b.val; omega
theorem emb_2 (t : Fin cfg0.N) (a b : Fin 1024) : ((cfg0.win 2).blk t).view.emb (ix2 a b : S1024x1024.Idx) = ix2 (half (rowTile t) a) (half (colTile t) b) := by
  obtain ⟨e0, e1⟩ := idx_2 t
  funext x; apply Fin.ext
  match x with
  | ⟨0, _⟩ => show win0_2.index t (0 : Fin 2) * 1024 + 1 * a.val = 1024 * (t.val / 4 / 2) + a.val; omega
  | ⟨1, _⟩ => show win0_2.index t (1 : Fin 2) * 1024 + 1 * b.val = 1024 * (t.val / 4 % 2) + b.val; omega
theorem emb_3 (t : Fin cfg0.N) (a b : Fin 1024) : ((cfg0.win 3).blk t).view.emb (ix2 a b : S1024x1024.Idx) = ix2 (half (rowTile t) a) (half (colTile t) b) := by
  obtain ⟨e0, e1⟩ := idx_3 t
  funext x; apply Fin.ext
  match x with
  | ⟨0, _⟩ => show win0_3.index t (0 : Fin 2) * 1024 + 1 * a.val = 1024 * (t.val / 4 / 2) + a.val; omega
  | ⟨1, _⟩ => show win0_3.index t (1 : Fin 2) * 1024 + 1 * b.val = 1024 * (t.val / 4 % 2) + b.val; omega

variable (m : (ℓ : Loc nD τ Cert.Kernel6Ideal.sig) → Buf (Elt Ideal) ℓ) (ρ : Dev nD → PrngReg) (c : Dev nD)

theorem in_0 (t : Fin cfg0.N) (a : Fin 1024) (d : Fin 1408) : iblk m c 0 t (ix2 a d) = V m c main_v0 (ix2 (half (rowTile t) a) (strip (stripOf t) d)) := by
  show V m c main_v0 (((cfg0.win 0).blk t).view.emb (ix2 a d : S1024x1408.Idx)) = _
  rw [emb_0]
theorem in_1 (t : Fin cfg0.N) (d : Fin 1408) (b : Fin 1024) : iblk m c 1 t (ix2 d b) = V m c main_v1 (ix2 (strip (stripOf t) d) (half (colTile t) b)) := by
  show V m c main_v1 (((cfg0.win 1).blk t).view.emb (ix2 d b : S1408x1024.Idx)) = _
  rw [emb_1]
theorem in_2 (t : Fin cfg0.N) (a b : Fin 1024) : iblk m c 2 t (ix2 a b) = V m c main_arg2 (ix2 (half (rowTile t) a) (half (colTile t) b)) := by
  show V m c main_arg2 (((cfg0.win 2).blk t).view.emb (ix2 a b : S1024x1024.Idx)) = _
  rw [emb_2]

/-! ## What the host gives the call -/

/-- The hidden rows and the weight, as the program's arguments hold them. -/
def lhs (i : Fin 2048) (f : Fin 5632) : EReal := m ((c : Thread nD τ).loc main_arg0) (ix2 i f)
def rhs (f : Fin 5632) (n : Fin 2048) : EReal := m ((c : Thread nD τ).loc main_arg1) (ix2 f n)
def res (i n : Fin 2048) : EReal := m ((c : Thread nD τ).loc main_arg2) (ix2 i n)

theorem host_0 (i : Fin 2048) (f : Fin 5632) : V m c main_v0 (ix2 i f) = lhs m c i f := by
  show StableHlo.after hostOps0 _ (Proc.devRef .tc main_v0) (ix2 i f) = _
  simp only [hostOps0]
  after_results
  pointwise
  rfl
theorem host_1 (f : Fin 5632) (n : Fin 2048) : V m c main_v1 (ix2 f n) = rhs m c f n := by
  show StableHlo.after hostOps0 _ (Proc.devRef .tc main_v1) (ix2 f n) = _
  simp only [hostOps0]
  after_results
  pointwise
  rfl
theorem host_2 (i n : Fin 2048) : V m c main_arg2 (ix2 i n) = res m c i n := congrFun (V_main_arg2 m c) _

/-! ## The running sum -/

/-- The product over one strip, at the tile of point `t`. -/
def part (i n : Fin 2048) (j : Fin 4) : EReal := ∑ d : Fin 1408, lhs m c i (strip j d) * rhs m c (strip j d) n

theorem block (t : Fin cfg0.N) (a b : Fin 1024) :
    k0_pay2 (iblk m c 0 t) (iblk m c 1 t) (ix2 a b) = part m c (half (rowTile t) a) (half (colTile t) b) (stripOf t) :=
  (pay2_at ..).trans (Finset.sum_congr rfl fun d _ => by rw [in_0, in_1, host_0, host_1])

theorem block_add (t : Fin cfg0.N) (s : Vec Ideal S1024x1024 .f32) (a b : Fin 1024) :
    k0_pay3 (iblk m c 0 t) (iblk m c 1 t) s (ix2 a b) = s (ix2 a b) + part m c (half (rowTile t) a) (half (colTile t) b) (stripOf t) :=
  (pay3_at ..).trans (congrArg (s (ix2 a b) + ·) (Finset.sum_congr rfl fun d _ => by rw [in_0, in_1, host_0, host_1]))

theorem first (t : Fin cfg0.N) (h : t.val % 4 = 0) (a b : Fin 1024) :
    (outsAt0 m c t.val t.isLt).2 (ix2 a b) = part m c (half (rowTile t) a) (half (colTile t) b) (stripOf t) := by
  rw [outsAt0_A m c t h (by omega) (by omega)]
  dsimp only
  rw [acc_first, block]

theorem outs_congr {n n' : ℕ} (h : n = n') (p : n < cfg0.N) (p' : n' < cfg0.N) : outsAt0 m c n p = outsAt0 m c n' p' := by subst h; rfl

theorem next (t t' : Fin cfg0.N) (h0 : ¬t.val % 4 = 0) (h3 : ¬t.val % 4 = 3) (e : t.val - 1 = t'.val) (a b : Fin 1024) :
    (outsAt0 m c t.val t.isLt).2 (ix2 a b)
      = (outsAt0 m c t'.val t'.isLt).2 (ix2 a b) + part m c (half (rowTile t) a) (half (colTile t) b) (stripOf t) := by
  rw [outsAt0_B m c t h0 (by omega) h3]
  dsimp only
  rw [acc_next, block_add, outs_congr m c e _ t'.isLt]

theorem last (t t' : Fin cfg0.N) (h3 : t.val % 4 = 3) (e : t.val - 1 = t'.val) (a b : Fin 1024) :
    (outsAt0 m c t.val t.isLt).1 (ix2 a b)
      = res m c (half (rowTile t) a) (half (colTile t) b)
        + ((outsAt0 m c t'.val t'.isLt).2 (ix2 a b) + part m c (half (rowTile t) a) (half (colTile t) b) (stripOf t)) * Ideal.ofBits .f32 0x3F000000#32 := by
  rw [outsAt0_C m c t (by omega) (by omega) h3]
  dsimp only
  rw [out_last, pay4_at, block_add, in_2, host_2, outs_congr m c e _ t'.isLt]

/-- The product over the whole hidden axis. -/
def whole (i n : Fin 2048) : EReal := ∑ f : Fin 5632, lhs m c i f * rhs m c f n

theorem whole_eq (i n : Fin 2048) : whole m c i n = ((part m c i n 0 + part m c i n 1) + part m c i n 2) + part m c i n 3 :=
  sum_strips _

/-- What is written back: half the whole product, added to the residual. -/
theorem flushed (t : Fin cfg0.N) (h : t.val % 4 = 3) (a b : Fin 1024) :
    (outsAt0 m c t.val t.isLt).1 (ix2 a b)
      = res m c (half (rowTile t) a) (half (colTile t) b) + whole m c (half (rowTile t) a) (half (colTile t) b) * Ideal.ofBits .f32 0x3F000000#32 := by
  have hl : t.val < 16 := t.isLt
  let t2 : Fin cfg0.N := ⟨t.val - 1, by show _ < 16; omega⟩
  let t1 : Fin cfg0.N := ⟨t.val - 2, by show _ < 16; omega⟩
  let t0 : Fin cfg0.N := ⟨t.val - 3, by show _ < 16; omega⟩
  have q2 : t2.val / 4 = t.val / 4 := by show (t.val - 1) / 4 = _; omega
  have q1 : t1.val / 4 = t.val / 4 := by show (t.val - 2) / 4 = _; omega
  have q0 : t0.val / 4 = t.val / 4 := by show (t.val - 3) / 4 = _; omega
  have s2 : t2.val % 4 = 2 := by show (t.val - 1) % 4 = _; omega
  have s1 : t1.val % 4 = 1 := by show (t.val - 2) % 4 = _; omega
  have s0 : t0.val % 4 = 0 := by show (t.val - 3) % 4 = _; omega
  rw [last m c t t2 h rfl, next m c t2 t1 (by omega) (by omega) (by show t.val - 1 - 1 = t.val - 2; omega),
    next m c t1 t0 (by omega) (by omega) (by show t.val - 2 - 1 = t.val - 3; omega), first m c t0 s0,
    rowTile_eq q2, rowTile_eq q1, rowTile_eq q0, colTile_eq q2, colTile_eq q1, colTile_eq q0,
    stripOf_eq (j := 3) h, stripOf_eq (j := 2) s2, stripOf_eq (j := 1) s1, stripOf_eq (j := 0) s0, whole_eq]

/-- The array the call leaves. -/
theorem result : (dats m 0 c).arrAt 3 cfg0.N
    = fun i : S2048x2048.Idx => (res m c (i 0) (i 1) + whole m c (i 0) (i 1) * Ideal.ofBits .f32 0x3F000000#32 : EReal) := by
  refine (dats m 0 c).arrAt_eq_of_covers 3 _ (by decide +kernel) fun t hf y => ?_
  suffices hs : ∀ y : S1024x1024.Idx, (dats m 0 c).after 3 t y
      = (fun i : S2048x2048.Idx => (res m c (i 0) (i 1) + whole m c (i 0) (i 1) * Ideal.ofBits .f32 0x3F000000#32 : EReal)) (((cfg0.win 3).blk t).view.emb y) from hs y
  intro y
  obtain ⟨a, b, rfl⟩ := exists2 y
  rw [emb_3, after0_3]
  exact flushed m c t ((flush0_3 t).mp hf) a b

end Cert.Down

end
-- ==== Proof.MixDu.lean ====
/- The gradient that reaches the rows entering the input projection: the call keeps a running sum over the five strips of the
   projection's columns, widened with zeros, and at the last strip writes it out. -/
module

public import proofs.«01_k».proof.Proof.Gen.Kernel7Ideal.Value
public import proofs.«01_k».proof.Proof.Products
public import Idealize.ShloMosaic.Lib.Pipeline.Value
public import Idealize.ShloMosaic.Lib.Claim

@[expose] public section

set_option maxRecDepth 16384

noncomputable section

namespace Cert.MixDu

open Idealize.ShloMosaic Idealize.ShloMosaic.TcCoe Idealize.SL.Sem Cert.Kernel7Ideal Cert.Kernel7Ideal.Gen Cert.Products

/-! ## What a grid point stores -/

section
variable {c : Dev nD} {i : grid0.Coords} {m0 : Memref Cert.Kernel7Ideal.sig .tc .vmem S1024x1024 .bf16} {h0 : m0.IsWhole} {m1 : Memref Cert.Kernel7Ideal.sig .tc .vmem S1024x1024 .bf16} {h1 : m1.IsWhole}
  {m2 : Memref Cert.Kernel7Ideal.sig .tc .vmem S1024x1024 .f32} {h2 : m2.IsWhole} {m3 : Memref Cert.Kernel7Ideal.sig .tc .vmem S1024x1024 .f32} {h3 : m3.IsWhole}

/-- At the first strip the accumulator becomes the strip's product. -/
theorem acc_first {p : cond0_0 i} {q : ¬cond0_1 i} {r : ¬cond0_2 i} (x0 : Vec Ideal S1024x1024 .bf16) (x1 : Vec Ideal S1024x1024 .bf16) :
    sout0_A_0 c i m0 h0 m1 h1 m2 h2 m3 h3 p q r x0 x1 = k0_pay2 x0 x1 := by
  unfold sout0_A_0
  rw [View.read_writes_eq_canon _ _ _ (fun y => scover0_A_0 (y := y) ..)]
  unfold kernelRun0_A
  dsimp only
  sl_unfold_words
  simp only [View.readAt_eq_ld, h0.read_unread, h1.read_unread, h3.read_unread]
  rw [View.canon_unit_zero zeros2, View.ld_unit_zero zeros2, View.ld_unit_zero zeros2]

/-- At a middle strip the strip's product is added. -/
theorem acc_next {p : ¬cond0_0 i} {q : cond0_1 i} {r : ¬cond0_2 i} (x0 : Vec Ideal S1024x1024 .bf16) (x1 : Vec Ideal S1024x1024 .bf16) (s : Vec Ideal S1024x1024 .f32) :
    sout0_B_0 c i m0 h0 m1 h1 m2 h2 m3 h3 p q r x0 x1 s = k0_pay3 x0 x1 s := by
  unfold sout0_B_0
  rw [View.read_writes_eq_canon _ _ _ (fun y => scover0_B_0 (y := y) ..)]
  unfold kernelRun0_B
  dsimp only
  sl_unfold_words
  simp only [View.readAt_eq_ld, h0.read_unread, h1.read_unread, h3.read_unread]
  rw [View.canon_unit_zero zeros2, View.ld_unit_zero zeros2, View.ld_unit_zero zeros2, View.ld_unit_zero zeros2]

/-- At the last strip the finished sum goes out. -/
theorem out_last {p : ¬cond0_0 i} {q : cond0_1 i} {r : cond0_2 i} (x0 : Vec Ideal S1024x1024 .bf16) (x1 : Vec Ideal S1024x1024 .bf16) (s : Vec Ideal S1024x1024 .f32) :
    out0_C_2 c i m0 h0 m1 h1 m2 h2 m3 h3 p q r x0 x1 s = k0_pay3 x0 x1 s := by
  unfold out0_C_2
  rw [View.read_writes_eq_canon _ _ _ (fun y => cover0_C_2 (y := y) ..)]
  unfold kernelRun0_C
  dsimp only
  sl_unfold_words
  simp only [View.readAt_eq_ld, h0.read_unread, h1.read_unread, h3.read_unread]
  rw [View.canon_unit_zero zeros2, View.readCov_unit_zero _ zeros2, View.ld_unit_zero zeros2, View.ld_unit_zero zeros2, View.ld_unit_zero zeros2]
end

theorem pay2_at (x0 : Vec Ideal S1024x1024 .bf16) (x1 : Vec Ideal S1024x1024 .bf16) (a b : Fin 1024) :
    k0_pay2 x0 x1 (ix2 a b) = ∑ d : Fin 1024, x0 (ix2 a d) * x1 (ix2 b d) := by
  unfold_payloads; pointwise
theorem pay3_at (x0 : Vec Ideal S1024x1024 .bf16) (x1 : Vec Ideal S1024x1024 .bf16) (s : Vec Ideal S1024x1024 .f32) (a b : Fin 1024) :
    k0_pay3 x0 x1 s (ix2 a b) = s (ix2 a b) + ∑ d : Fin 1024, x0 (ix2 a d) * x1 (ix2 b d) := by
  unfold_payloads; pointwise
/-! ## Where the blocks lie -/

theorem idx_0 : ∀ t : Fin cfg0.N, win0_0.index t (0 : Fin 2) = t.val / 5 / 2 ∧ win0_0.index t (1 : Fin 2) = t.val % 5 :=
  (by decide +kernel : ∀ t : Fin grid0.N, _)
theorem idx_1 : ∀ t : Fin cfg0.N, win0_1.index t (0 : Fin 2) = t.val / 5 % 2 ∧ win0_1.index t (1 : Fin 2) = t.val % 5 :=
  (by decide +kernel : ∀ t : Fin grid0.N, _)
theorem idx_2 : ∀ t : Fin cfg0.N, win0_2.index t (0 : Fin 2) = t.val / 5 / 2 ∧ win0_2.index t (1 : Fin 2) = t.val / 5 % 2 :=
  (by decide +kernel : ∀ t : Fin grid0.N, _)

theorem emb_0 (t : Fin cfg0.N) (a : Fin 1024) (d : Fin 1024) : ((cfg0.win 0).blk t).view.emb (ix2 a d : S1024x1024.Idx) = ix2 (half (rowTile5 t) a) (strip5 (stripOf5 t) d) := by
  obtain ⟨e0, e1⟩ := idx_0 t
  funext x; apply Fin.ext
  match x with
  | ⟨0, _⟩ => show win0_0.index t (0 : Fin 2) * 1024 + 1 * a.val = 1024 * (t.val / 5 / 2) + a.val; omega
  | ⟨1, _⟩ => show win0_0.index t (1 : Fin 2) * 1024 + 1 * d.val = 1024 * (t.val % 5) + d.val; omega
theorem emb_1 (t : Fin cfg0.N) (b d : Fin 1024) : ((cfg0.win 1).blk t).view.emb (ix2 b d : S1024x1024.Idx) = ix2 (half (colTile5 t) b) (strip5 (stripOf5 t) d) := by
  obtain ⟨e0, e1⟩ := idx_1 t
  funext x; apply Fin.ext
  match x with
  | ⟨0, _⟩ => show win0_1.index t (0 : Fin 2) * 1024 + 1 * b.val = 1024 * (t.val / 5 % 2) + b.val; omega
  | ⟨1, _⟩ => show win0_1.index t (1 : Fin 2) * 1024 + 1 * d.val = 1024 * (t.val % 5) + d.val; omega
theorem emb_2 (t : Fin cfg0.N) (a b : Fin 1024) : ((cfg0.win 2).blk t).view.emb (ix2 a b : S1024x1024.Idx) = ix2 (half (rowTile5 t) a) (half (colTile5 t) b) := by
  obtain ⟨e0, e1⟩ := idx_2 t
  funext x; apply Fin.ext
  match x with
  | ⟨0, _⟩ => show win0_2.index t (0 : Fin 2) * 1024 + 1 * a.val = 1024 * (t.val / 5 / 2) + a.val; omega
  | ⟨1, _⟩ => show win0_2.index t (1 : Fin 2) * 1024 + 1 * b.val = 1024 * (t.val / 5 % 2) + b.val; omega

variable (m : (ℓ : Loc nD τ Cert.Kernel7Ideal.sig) → Buf (Elt Ideal) ℓ) (ρ : Dev nD → PrngReg) (c : Dev nD)

theorem in_0 (t : Fin cfg0.N) (a : Fin 1024) (d : Fin 1024) : iblk m c 0 t (ix2 a d) = V m c main_v5 (ix2 (half (rowTile5 t) a) (strip5 (stripOf5 t) d)) := by
  show V m c main_v5 (((cfg0.win 0).blk t).view.emb (ix2 a d : S1024x1024.Idx)) = _
  rw [emb_0]
theorem in_1 (t : Fin cfg0.N) (b d : Fin 1024) : iblk m c 1 t (ix2 b d) = V m c main_v11 (ix2 (half (colTile5 t) b) (strip5 (stripOf5 t) d)) := by
  show V m c main_v11 (((cfg0.win 1).blk t).view.emb (ix2 b d : S1024x1024.Idx)) = _
  rw [emb_1]

/-! ## What the host gives the call -/

/-- The gradient of the projection and the weight, as the program's arguments hold them. -/
def dproj (i : Fin 2048) (k : Fin 4624) : EReal := m ((c : Thread nD τ).loc main_arg0) (ix2 i k)
def weight (n : Fin 2048) (k : Fin 4624) : EReal := m ((c : Thread nD τ).loc main_arg1) (ix2 n k)

/-- The same, widened with columns of zeros. -/
def lhs (i : Fin 2048) (f : Fin 5120) : EReal := padded (dproj m c) i f
def rhs (n : Fin 2048) (f : Fin 5120) : EReal := padded (weight m c) n f

/-- The host's widening of an array's columns. -/
theorem widened (w : (⟨S2048x4624, .f32⟩ : BufTy).Contents (Elt Ideal)) (i : Fin 2048) (f : Fin 5120) :
    concatenate S2048x5120 1 [⟨S2048x3088, extractStridedSlice S2048x3088 ![0, 0] w slices_S2048x4624_S2048x3088_0_0⟩,
        ⟨S2048x112, broadcastInDim S2048x112 ![] bcast_S_S2048x112 (constant (F := Ideal) S_ .f32 0x00000000#32)⟩,
        ⟨S2048x1536, extractStridedSlice S2048x1536 ![0, 3088] w slices_S2048x4624_S2048x1536_0_3088⟩,
        ⟨S2048x384, broadcastInDim S2048x384 ![] bcast_S_S2048x384 (constant (F := Ideal) S_ .f32 0x00000000#32)⟩]
        concatenates_S2048x3088_S2048x112_S2048x1536_S2048x384_S2048x5120_d1 (ix2 i f)
      = padded (fun i k => w (ix2 i k)) i f := by
  pointwise
  unfold padded
  by_cases h1 : f.val < 3088
  · rw [dif_pos h1, dif_pos h1]
  · rw [dif_neg h1, dif_neg h1]
    by_cases h2 : f.val < 3200
    · rw [dif_pos (by omega), if_pos h2]
    · rw [dif_neg (by omega), if_neg h2]
      by_cases h3 : f.val < 4736
      · rw [dif_pos (by omega), dif_pos h3]
        exact congrArg (fun k => w (ix2 i k)) (Fin.ext (by show 3088 + (f.val - 3088 - 112) = f.val - 112; omega))
      · rw [dif_neg (by omega), dif_neg h3]

theorem host_0 (i : Fin 2048) (f : Fin 5120) : V m c main_v5 (ix2 i f) = lhs m c i f := by
  show StableHlo.after hostOps0 _ (Proc.devRef .tc main_v5) (ix2 i f) = _
  simp only [hostOps0]
  after_results_simp
  exact widened (m ((c : Thread nD τ).loc main_arg0)) i f
theorem host_1 (n : Fin 2048) (f : Fin 5120) : V m c main_v11 (ix2 n f) = rhs m c n f := by
  show StableHlo.after hostOps0 _ (Proc.devRef .tc main_v11) (ix2 n f) = _
  simp only [hostOps0]
  after_results_simp
  exact widened (m ((c : Thread nD τ).loc main_arg1)) n f

/-! ## The running sum -/

/-- The product over one strip, at the tile of point `t`. -/
def part (i n : Fin 2048) (j : Fin 5) : EReal := ∑ d : Fin 1024, lhs m c i (strip5 j d) * rhs m c n (strip5 j d)

theorem block (t : Fin cfg0.N) (a b : Fin 1024) :
    k0_pay2 (iblk m c 0 t) (iblk m c 1 t) (ix2 a b) = part m c (half (rowTile5 t) a) (half (colTile5 t) b) (stripOf5 t) :=
  (pay2_at ..).trans (Finset.sum_congr rfl fun d _ => by rw [in_0, in_1, host_0, host_1])

theorem block_add (t : Fin cfg0.N) (s : Vec Ideal S1024x1024 .f32) (a b : Fin 1024) :
    k0_pay3 (iblk m c 0 t) (iblk m c 1 t) s (ix2 a b) = s (ix2 a b) + part m c (half (rowTile5 t) a) (half (colTile5 t) b) (stripOf5 t) :=
  (pay3_at ..).trans (congrArg (s (ix2 a b) + ·) (Finset.sum_congr rfl fun d _ => by rw [in_0, in_1, host_0, host_1]))

theorem first (t : Fin cfg0.N) (h : t.val % 5 = 0) (a b : Fin 1024) :
    (outsAt0 m c t.val t.isLt).2 (ix2 a b) = part m c (half (rowTile5 t) a) (half (colTile5 t) b) (stripOf5 t) := by
  rw [outsAt0_A m c t h (by omega) (by omega)]
  dsimp only
  rw [acc_first, block]

theorem outs_congr {n n' : ℕ} (h : n = n') (p : n < cfg0.N) (p' : n' < cfg0.N) : outsAt0 m c n p = outsAt0 m c n' p' := by subst h; rfl

theorem next (t t' : Fin cfg0.N) (h0 : ¬t.val % 5 = 0) (h3 : ¬t.val % 5 = 4) (e : t.val - 1 = t'.val) (a b : Fin 1024) :
    (outsAt0 m c t.val t.isLt).2 (ix2 a b)
      = (outsAt0 m c t'.val t'.isLt).2 (ix2 a b) + part m c (half (rowTile5 t) a) (half (colTile5 t) b) (stripOf5 t) := by
  rw [outsAt0_B m c t h0 (by omega) h3]
  dsimp only
  rw [acc_next, block_add, outs_congr m c e _ t'.isLt]

theorem last (t t' : Fin cfg0.N) (h3 : t.val % 5 = 4) (e : t.val - 1 = t'.val) (a b : Fin 1024) :
    (outsAt0 m c t.val t.isLt).1 (ix2 a b)
      = (outsAt0 m c t'.val t'.isLt).2 (ix2 a b) + part m c (half (rowTile5 t) a) (half (colTile5 t) b) (stripOf5 t) := by
  rw [outsAt0_C m c t (by omega) (by omega) h3]
  dsimp only
  rw [out_last, block_add, outs_congr m c e _ t'.isLt]

/-- The product over all the projection's columns. -/
def whole (i n : Fin 2048) : EReal := ∑ k : Fin 4624, dproj m c i k * weight m c n k

theorem whole_eq (i n : Fin 2048) : whole m c i n = (((part m c i n 0 + part m c i n 1) + part m c i n 2) + part m c i n 3) + part m c i n 4 :=
  (sum_padded _ _ i n).symm.trans (sum_strips5 _)

/-- What is written back: the whole product. -/
theorem flushed (t : Fin cfg0.N) (h : t.val % 5 = 4) (a b : Fin 1024) :
    (outsAt0 m c t.val t.isLt).1 (ix2 a b) = whole m c (half (rowTile5 t) a) (half (colTile5 t) b) := by
  have hl : t.val < 20 := t.isLt
  let t3 : Fin cfg0.N := ⟨t.val - 1, by show _ < 20; omega⟩
  let t2 : Fin cfg0.N := ⟨t.val - 2, by show _ < 20; omega⟩
  let t1 : Fin cfg0.N := ⟨t.val - 3, by show _ < 20; omega⟩
  let t0 : Fin cfg0.N := ⟨t.val - 4, by show _ < 20; omega⟩
  have q3 : t3.val / 5 = t.val / 5 := by show (t.val - 1) / 5 = _; omega
  have q2 : t2.val / 5 = t.val / 5 := by show (t.val - 2) / 5 = _; omega
  have q1 : t1.val / 5 = t.val / 5 := by show (t.val - 3) / 5 = _; omega
  have q0 : t0.val / 5 = t.val / 5 := by show (t.val - 4) / 5 = _; omega
  have s3 : t3.val % 5 = 3 := by show (t.val - 1) % 5 = _; omega
  have s2 : t2.val % 5 = 2 := by show (t.val - 2) % 5 = _; omega
  have s1 : t1.val % 5 = 1 := by show (t.val - 3) % 5 = _; omega
  have s0 : t0.val % 5 = 0 := by show (t.val - 4) % 5 = _; omega
  rw [last m c t t3 h rfl, next m c t3 t2 (by omega) (by omega) (by show t.val - 1 - 1 = t.val - 2; omega),
    next m c t2 t1 (by omega) (by omega) (by show t.val - 2 - 1 = t.val - 3; omega),
    next m c t1 t0 (by omega) (by omega) (by show t.val - 3 - 1 = t.val - 4; omega), first m c t0 s0,
    rowTile5_eq q3, rowTile5_eq q2, rowTile5_eq q1, rowTile5_eq q0, colTile5_eq q3, colTile5_eq q2, colTile5_eq q1, colTile5_eq q0,
    stripOf5_eq (j := 4) h, stripOf5_eq (j := 3) s3, stripOf5_eq (j := 2) s2, stripOf5_eq (j := 1) s1, stripOf5_eq (j := 0) s0, whole_eq]

/-- The array the call leaves. -/
theorem result : (dats m 0 c).arrAt 2 cfg0.N
    = fun i : S2048x2048.Idx => (whole m c (i 0) (i 1) : EReal) := by
  refine (dats m 0 c).arrAt_eq_of_covers 2 _ (by decide +kernel) fun t hf y => ?_
  suffices hs : ∀ y : S1024x1024.Idx, (dats m 0 c).after 2 t y
      = (fun i : S2048x2048.Idx => (whole m c (i 0) (i 1) : EReal)) (((cfg0.win 2).blk t).view.emb y) from hs y
  intro y
  obtain ⟨a, b, rfl⟩ := exists2 y
  rw [emb_2, after0_2]
  exact flushed m c t ((flush0_2 t).mp hf) a b

end Cert.MixDu

end
-- ==== Proof.ProductClaims.lean ====
/- The four single-call products: each call computes what its plain reference computes, whatever the arguments hold. -/
module

public import proofs.«01_k».proof.Defs
public import proofs.«01_k».proof.Proof.Gen.Kernel4.Frame
public import proofs.«01_k».proof.Proof.Gen.Reference4Ideal.Run
public import proofs.«01_k».proof.Proof.Gen.Reference4Ideal.Read
public import proofs.«01_k».proof.Proof.Gen.Kernel5.Frame
public import proofs.«01_k».proof.Proof.Gen.Reference5Ideal.Run
public import proofs.«01_k».proof.Proof.Gen.Reference5Ideal.Read
public import proofs.«01_k».proof.Proof.Gen.Kernel6.Frame
public import proofs.«01_k».proof.Proof.Gen.Reference6Ideal.Run
public import proofs.«01_k».proof.Proof.Gen.Reference6Ideal.Read
public import proofs.«01_k».proof.Proof.Gen.Kernel7.Frame
public import proofs.«01_k».proof.Proof.Gen.Reference7Ideal.Run
public import proofs.«01_k».proof.Proof.Gen.Reference7Ideal.Read
public import proofs.«01_k».proof.Proof.Dxn
public import proofs.«01_k».proof.Proof.DxnAdd
public import proofs.«01_k».proof.Proof.Down
public import proofs.«01_k».proof.Proof.MixDu
public import proofs.«01_k».proof.Proof.RefFwd
public import Idealize.ShloMosaic.Adequacy
public import Idealize.ShloMosaic.Init

@[expose] public section

noncomputable section

namespace Cert.Products

open Idealize.ShloMosaic Idealize.SL.Sem
open Cert.Fox (read2)

/-! ## The gradient of the normalised rows through the gate weight -/

theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

open Cert.Reference4Ideal Cert.Reference4Ideal.Read in
/-- The reference at an index. -/
theorem ref4_at (x0 x1 : (⟨S2048x5632, .f32⟩ : BufTy).Contents (Elt Ideal)) (i n : Fin 2048) :
    val_main_v2 (F := Ideal) x0 x1 (ix2 i n) = ∑ f : Fin 5632, x0 (ix2 i f) * x1 (ix2 n f) := by
  rw [val_main_v2_apply]
  exact (Finset.sum_congr rfl fun f _ => congrArg₂ (· * ·) (read2 rfl rfl rfl) (read2 rfl rfl rfl))

/-- Over the reals the call computes the gradient of the normalised rows through the gate weight. -/
theorem equal4 : Cert.algebraic_Kernel4Ideal_Reference4Ideal := by
  intro m g m' g' hp ha
  refine ⟨_, Cert.Kernel4Ideal.Value.run_blocks m g, ?_⟩
  refine (θ_run Cert.Reference4Ideal.defs _ _).mono (fun r h c => ?_) (Cert.Reference4Ideal.Value.run (F := Ideal) m' g')
  obtain ⟨a0, a1⟩ := ha c
  obtain ⟨r0, rest⟩ := h c
  rw [Cert.Reference4Ideal.Read.val_main_v2_eq, a0, a1] at r0
  refine ⟨r0.trans (Eq.trans ?_ (Cert.Dxn.result m c).symm), rest⟩
  funext y
  obtain ⟨i, n, rfl⟩ := exists2 y
  exact ref4_at ..

/-! ## The gradient through the up weight, added to the one through the gate weight -/

theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

open Cert.Reference5Ideal Cert.Reference5Ideal.Read in
/-- The reference at an index. -/
theorem ref5_at (x0 x1 : (⟨S2048x5632, .f32⟩ : BufTy).Contents (Elt Ideal)) (x2 : (⟨S2048x2048, .f32⟩ : BufTy).Contents (Elt Ideal)) (i n : Fin 2048) :
    val_main_v3 (F := Ideal) x0 x1 x2 (ix2 i n) = x2 (ix2 i n) + ∑ f : Fin 5632, x0 (ix2 i f) * x1 (ix2 n f) := by
  rw [val_main_v3_apply, val_main_v2_apply]
  exact congrArg (x2 (ix2 i n) + ·) (Finset.sum_congr rfl fun f _ => congrArg₂ (· * ·) (read2 rfl rfl rfl) (read2 rfl rfl rfl))

/-- Over the reals the call computes the gradient through the up weight, added to the one through the gate weight. -/
theorem equal5 : Cert.algebraic_Kernel5Ideal_Reference5Ideal := by
  intro m g m' g' hp ha
  refine ⟨_, Cert.Kernel5Ideal.Value.run_blocks m g, ?_⟩
  refine (θ_run Cert.Reference5Ideal.defs _ _).mono (fun r h c => ?_) (Cert.Reference5Ideal.Value.run (F := Ideal) m' g')
  obtain ⟨a0, a1, a2⟩ := ha c
  obtain ⟨r0, rest⟩ := h c
  rw [Cert.Reference5Ideal.Read.val_main_v3_eq, a0, a1, a2] at r0
  refine ⟨r0.trans (Eq.trans ?_ (Cert.DxnAdd.result m c).symm), rest⟩
  funext y
  obtain ⟨i, n, rfl⟩ := exists2 y
  exact ref5_at ..

/-! ## The residual and half the down projection -/

theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

open Cert.Reference6Ideal Cert.Reference6Ideal.Read in
/-- The reference at an index. -/
theorem ref6_at (x0 : (⟨S2048x5632, .f32⟩ : BufTy).Contents (Elt Ideal)) (x1 : (⟨S5632x2048, .f32⟩ : BufTy).Contents (Elt Ideal)) (x2 : (⟨S2048x2048, .f32⟩ : BufTy).Contents (Elt Ideal)) (i n : Fin 2048) :
    val_main_v3 (F := Ideal) x0 x1 x2 (ix2 i n) = x2 (ix2 i n) + (∑ f : Fin 5632, x0 (ix2 i f) * x1 (ix2 f n)) * Ideal.ofBits .f32 0x3F000000#32 := by
  refine (val_main_v3_apply ..).trans (congrArg (x2 (ix2 i n) + ·) ?_)
  refine (val_main_v2_apply ..).trans ?_
  rw [val_main_v1_apply, val_main_cst_apply, val_main_v0_apply]
  have e : ∑ k : Fin 5632, x0 (lidx_main_v0 (ix2 i n) k) * x1 (ridx_main_v0 (ix2 i n) k) = ∑ f : Fin 5632, x0 (ix2 i f) * x1 (ix2 f n) :=
    Finset.sum_congr rfl fun f _ => congrArg₂ (· * ·) (read2 rfl rfl rfl) (read2 rfl rfl rfl)
  rw [e]
  exact mul_comm (Ideal.ofBits .f32 0x3F000000#32) _

/-- Over the reals the call computes the residual and half the down projection. -/
theorem equal6 : Cert.algebraic_Kernel6Ideal_Reference6Ideal := by
  intro m g m' g' hp ha
  refine ⟨_, Cert.Kernel6Ideal.Value.run_blocks m g, ?_⟩
  refine (θ_run Cert.Reference6Ideal.defs _ _).mono (fun r h c => ?_) (Cert.Reference6Ideal.Value.run (F := Ideal) m' g')
  obtain ⟨a0, a1, a2⟩ := ha c
  obtain ⟨r0, rest⟩ := h c
  rw [Cert.Reference6Ideal.Read.val_main_v3_eq, a0, a1, a2] at r0
  refine ⟨r0.trans (Eq.trans ?_ (Cert.Down.result m c).symm), rest⟩
  funext y
  obtain ⟨i, n, rfl⟩ := exists2 y
  exact ref6_at ..

/-! ## The gradient of the rows entering the input projection -/

theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

open Cert.Reference7Ideal Cert.Reference7Ideal.Read in
/-- The reference at an index. -/
theorem ref7_at (x0 x1 : (⟨S2048x4624, .f32⟩ : BufTy).Contents (Elt Ideal)) (i n : Fin 2048) :
    val_main_v2 (F := Ideal) x0 x1 (ix2 i n) = ∑ f : Fin 4624, x0 (ix2 i f) * x1 (ix2 n f) := by
  rw [val_main_v2_apply]
  exact (Finset.sum_congr rfl fun f _ => congrArg₂ (· * ·) (read2 rfl rfl rfl) (read2 rfl rfl rfl))

/-- Over the reals the call computes the gradient of the rows entering the input projection. -/
theorem equal7 : Cert.algebraic_Kernel7Ideal_Reference7Ideal := by
  intro m g m' g' hp ha
  refine ⟨_, Cert.Kernel7Ideal.Value.run_blocks m g, ?_⟩
  refine (θ_run Cert.Reference7Ideal.defs _ _).mono (fun r h c => ?_) (Cert.Reference7Ideal.Value.run (F := Ideal) m' g')
  obtain ⟨a0, a1⟩ := ha c
  obtain ⟨r0, rest⟩ := h c
  rw [Cert.Reference7Ideal.Read.val_main_v2_eq, a0, a1] at r0
  refine ⟨r0.trans (Eq.trans ?_ (Cert.MixDu.result m c).symm), rest⟩
  funext y
  obtain ⟨i, n, rfl⟩ := exists2 y
  exact ref7_at ..

end Cert.Products

end
-- ==== Proof.Norm.lean ====
/- The two calls of the normalisation of rows before the feed-forward block, and what they leave: the normalised rows and the
   reciprocal root mean square of each row, then the gradients of the rows and of the gain. -/
module

public import proofs.«01_k».proof.Proof.Gen.Kernel8Ideal.Frame
public import proofs.«01_k».proof.Proof.Products
public import Idealize.ShloMosaic.Lib.Pipeline.Value
public import Idealize.ShloMosaic.Lib.Pipeline.ValueKit.Geometry
public import Idealize.ShloMosaic.Lib.Claim

@[expose] public section

set_option maxRecDepth 16384

noncomputable section

namespace Cert.Norm

open Idealize.ShloMosaic Idealize.ShloMosaic.TcCoe Idealize.SL.Sem Cert.Kernel8Ideal Cert.Kernel8Ideal.Gen Cert.Products

/-! ## What a row's normalisation and its gradients are, as the calls write them -/

/-- The mean of a row's squares, with the small constant added. -/
def meanSq (x : Fin 2048 → EReal) : EReal :=
  Ideal.div (∑ k, x k * x k) (Ideal.ofBits .f32 0x45000000#32) + Ideal.ofBits .f32 0x358637BD#32

/-- A row's reciprocal root mean square. -/
def rstd (x : Fin 2048 → EReal) : EReal := Ideal.rsqrt (meanSq x)

/-- The gradient of one element of a row: `r` the row's reciprocal root mean square, `g` the gain, `d` the gradient of the normalised
    row, `e` what the residual brings. -/
def rowGrad (r : EReal) (x g d : Fin 2048 → EReal) (e : EReal) (k : Fin 2048) : EReal :=
  r * (d k * g k - x k * r * Ideal.div (∑ l, d l * g l * (x l * r)) (Ideal.ofBits .f32 0x45000000#32)) + e

/-- Row `a` of the `j`-th of four tiles of rows. -/
def quarter (j : Fin 4) (a : Fin 512) : Fin 2048 := ⟨512 * j.val + a.val, by omega⟩

/-- A sum over the rows is the sum over the four tiles, one after the other. -/
theorem sum_quarters {A : Type} [AddCommMonoid A] (f : Fin 2048 → A) :
    ∑ i, f i = ∑ a, f (quarter 0 a) + ∑ a, f (quarter 1 a) + ∑ a, f (quarter 2 a) + ∑ a, f (quarter 3 a) := by
  have h : ∑ i, f i = ∑ p : Fin 4 × Fin 512, f (quarter p.1 p.2) :=
    (Fintype.sum_equiv (finProdFinEquiv (m := 4) (n := 512)) _ _ fun p => congrArg f (Fin.ext (Nat.add_comm _ _))).symm
  rw [h, Fintype.sum_prod_type, Fin.sum_univ_four]

/-! ## What a grid point stores -/

theorem out_y (x0 : Vec Ideal S512x2048 .f32) (x1 : Vec Ideal S1x2048 .f32) : out0_2 x0 x1 = k0_pay2 x0 x1 := by
  unfold out0_2; rw [View.canon_unit_zero zeros2, View.ld_unit_zero zeros2, View.ld_unit_zero zeros2]
theorem out_r (x0 : Vec Ideal S512x2048 .f32) (x1 : Vec Ideal S1x2048 .f32) : out0_3 x0 x1 = k0_pay1 x0 := by
  unfold out0_3; rw [View.canon_unit_zero zeros2, View.ld_unit_zero zeros2]

theorem pay_r (x0 : Vec Ideal S512x2048 .f32) (a : Fin 512) : k0_pay1 x0 (ix2 a 0) = rstd fun k => x0 (ix2 a k) := by
  unfold_payloads; pointwise; rfl
theorem pay_y (x0 : Vec Ideal S512x2048 .f32) (x1 : Vec Ideal S1x2048 .f32) (a : Fin 512) (b : Fin 2048) :
    k0_pay2 x0 x1 (ix2 a b) = x0 (ix2 a b) * (rstd fun k => x0 (ix2 a k)) * x1 (ix2 0 b) := by
  unfold_payloads; pointwise; rfl
theorem pay_dx (x0 : Vec Ideal S512x2048 .f32) (x1 : Vec Ideal S512x1 .f32) (x2 : Vec Ideal S512x2048 .f32) (x3 : Vec Ideal S1x2048 .f32)
    (x4 : Vec Ideal S512x2048 .f32) (a : Fin 512) (b : Fin 2048) :
    k1_pay2 x0 x1 x2 x3 x1 x4 (ix2 a b)
      = rowGrad (x1 (ix2 a 0)) (fun k => x0 (ix2 a k)) (fun k => x3 (ix2 0 k)) (fun k => x2 (ix2 a k)) (x4 (ix2 a b)) b := by
  unfold_payloads; pointwise; rfl
theorem pay_zero (b : Fin 2048) : k1_pay3 (F := Ideal) (ix2 0 b) = (0 : EReal) := by
  unfold_payloads; pointwise
theorem pay_dg (x0 : Vec Ideal S512x2048 .f32) (x1 : Vec Ideal S512x1 .f32) (x2 : Vec Ideal S512x2048 .f32) (s : Vec Ideal S1x2048 .f32) (b : Fin 2048) :
    k1_pay4 x0 x1 x2 s (ix2 0 b) = s (ix2 0 b) + ∑ a : Fin 512, x2 (ix2 a b) * (x0 (ix2 a b) * x1 (ix2 a 0)) := by
  unfold_payloads; pointwise

section
variable {c : Dev nD} {i : grid1.Coords} {m0 : Memref Cert.Kernel8Ideal.sig .tc .vmem S512x2048 .f32} {h0 : m0.IsWhole}
  {m1 : Memref Cert.Kernel8Ideal.sig .tc .vmem S1x2048 .f32} {h1 : m1.IsWhole} {m2 : Memref Cert.Kernel8Ideal.sig .tc .vmem S512x1 .f32} {h2 : m2.IsWhole}
  {m3 : Memref Cert.Kernel8Ideal.sig .tc .vmem S512x2048 .f32} {h3 : m3.IsWhole} {m4 : Memref Cert.Kernel8Ideal.sig .tc .vmem S512x2048 .f32} {h4 : m4.IsWhole}
  {m5 : Memref Cert.Kernel8Ideal.sig .tc .vmem S512x2048 .f32} {h5 : m5.IsWhole} {m6 : Memref Cert.Kernel8Ideal.sig .tc .vmem S1x2048 .f32} {h6 : m6.IsWhole}
  (x0 : Vec Ideal S512x2048 .f32) (x1 : Vec Ideal S1x2048 .f32) (x2 : Vec Ideal S512x1 .f32) (x3 : Vec Ideal S512x2048 .f32) (x4 : Vec Ideal S512x2048 .f32)

/-- The rows' gradient at the first tile, and at a later one. -/
theorem dx_first {p : cond1_0 i} : out1_A_5 c i m0 h0 m1 h1 m2 h2 m3 h3 m4 h4 m5 h5 m6 h6 p x0 x1 x2 x3 x4 = k1_pay2 x0 x2 x3 x1 x2 x4 := by
  unfold out1_A_5
  rw [View.read_writes_eq_canon _ _ _ (fun y => cover1_A_5 (y := y) ..)]
  unfold kernelRun1_A
  dsimp only
  sl_unfold_words
  simp only [View.readAt_eq_ld, h0.read_unread, h1.read_unread, h2.read_unread, h3.read_unread, h4.read_unread]
  rw [View.canon_unit_zero zeros2, View.ld_unit_zero zeros2, View.ld_unit_zero zeros2, View.ld_unit_zero zeros2, View.ld_unit_zero zeros2, View.ld_unit_zero zeros2]
theorem dx_next {p : ¬cond1_0 i} (s : Vec Ideal S1x2048 .f32) :
    out1_B_5 c i m0 h0 m1 h1 m2 h2 m3 h3 m4 h4 m5 h5 m6 h6 p x0 x1 x2 x3 x4 s = k1_pay2 x0 x2 x3 x1 x2 x4 := by
  unfold out1_B_5
  rw [View.read_writes_eq_canon _ _ _ (fun y => cover1_B_5 (y := y) ..)]
  unfold kernelRun1_B
  dsimp only
  sl_unfold_words
  simp only [View.readAt_eq_ld, h0.read_unread, h1.read_unread, h2.read_unread, h3.read_unread, h4.read_unread]
  rw [View.canon_unit_zero zeros2, View.ld_unit_zero zeros2, View.ld_unit_zero zeros2, View.ld_unit_zero zeros2, View.ld_unit_zero zeros2, View.ld_unit_zero zeros2]

/-- The gain's gradient starts from zero at the first tile and each later tile adds to what the tile before left. -/
theorem dg_first {p : cond1_0 i} : out1_A_6 c i m0 h0 m1 h1 m2 h2 m3 h3 m4 h4 m5 h5 m6 h6 p x0 x1 x2 x3 x4 = k1_pay4 x0 x2 x3 (k1_pay3 (F := Ideal)) := by
  unfold out1_A_6
  rw [View.read_writes_eq_canon _ _ _ (fun y => cover1_A_6 (y := y) ..)]
  unfold kernelRun1_A
  dsimp only
  sl_unfold_words
  simp only [View.readAt_eq_ld, h0.read_unread, h1.read_unread, h2.read_unread, h3.read_unread, h4.read_unread]
  rw [View.canon_cons_unit_zero zeros2, View.readCov_unit_zero _ zeros2, View.ld_unit_zero zeros2, View.ld_unit_zero zeros2, View.ld_unit_zero zeros2]
theorem dg_next {p : ¬cond1_0 i} (s : Vec Ideal S1x2048 .f32) :
    out1_B_6 c i m0 h0 m1 h1 m2 h2 m3 h3 m4 h4 m5 h5 m6 h6 p x0 x1 x2 x3 x4 s = k1_pay4 x0 x2 x3 s := by
  unfold out1_B_6
  rw [View.read_writes_eq_canon _ _ _ (fun y => cover1_B_6 (y := y) ..)]
  unfold kernelRun1_B
  dsimp only
  sl_unfold_words
  simp only [View.readAt_eq_ld, h0.read_unread, h1.read_unread, h2.read_unread, h3.read_unread, h4.read_unread, h6.read_unread]
  rw [View.canon_unit_zero zeros2, View.ld_unit_zero zeros2, View.ld_unit_zero zeros2, View.ld_unit_zero zeros2, View.ld_unit_zero zeros2]
end

end Cert.Norm

end
-- ==== Proof.NormCalls.lean ====
/- The arrays of the two calls of the normalisation and their blocks of 512 rows, what the host hands them, and what they leave in
   terms of the program's arguments. -/
module

public import proofs.«01_k».proof.Proof.Norm

@[expose] public section

set_option maxRecDepth 16384

noncomputable section

namespace Cert.Norm

open Idealize.ShloMosaic Idealize.ShloMosaic.TcCoe Idealize.SL.Sem Cert.Kernel8Ideal Cert.Kernel8Ideal.Gen Cert.Products

/-! ## Where a block's elements lie -/

section
variable (V : (c : Dev nD) → (b : Ref sig .tc) → Buf (Elt Ideal) ((c : Thread nD τ).loc b)) (c : Dev nD)

theorem idx0_0 : ∀ t : Fin cfg0.N, win0_0.index t (0 : Fin 2) = t.val ∧ win0_0.index t (1 : Fin 2) = 0 :=
  (by decide +kernel : ∀ t : Fin grid0.N, _)
theorem emb0_0 (t : Fin cfg0.N) (a : Fin 512) (b : Fin 2048) : ((cfg0.win 0).blk t).view.emb (ix2 a b : S512x2048.Idx) = ix2 (quarter t a) b := by
  obtain ⟨e0, e1⟩ := idx0_0 t
  funext x; apply Fin.ext
  match x with
  | ⟨0, _⟩ => show win0_0.index t (0 : Fin 2) * 512 + 1 * a.val = 512 * t.val + a.val; omega
  | ⟨1, _⟩ => show win0_0.index t (1 : Fin 2) * 2048 + 1 * b.val = b.val; omega
theorem in0_0 (t : Fin cfg0.N) (a : Fin 512) (b : Fin 2048) : iblk0 V c 0 t (ix2 a b) = V c main_arg0 (ix2 (quarter t a) b) := by
  show V c main_arg0 (((cfg0.win 0).blk t).view.emb (ix2 a b : S512x2048.Idx)) = _
  rw [emb0_0]

theorem idx0_1 : ∀ t : Fin cfg0.N, win0_1.index t (0 : Fin 2) = 0 ∧ win0_1.index t (1 : Fin 2) = 0 :=
  (by decide +kernel : ∀ t : Fin grid0.N, _)
theorem emb0_1 (t : Fin cfg0.N) (a : Fin 1) (b : Fin 2048) : ((cfg0.win 1).blk t).view.emb (ix2 a b : S1x2048.Idx) = ix2 a b := by
  obtain ⟨e0, e1⟩ := idx0_1 t
  funext x; apply Fin.ext
  match x with
  | ⟨0, _⟩ => show win0_1.index t (0 : Fin 2) * 1 + 1 * a.val = a.val; omega
  | ⟨1, _⟩ => show win0_1.index t (1 : Fin 2) * 2048 + 1 * b.val = b.val; omega
theorem in0_1 (t : Fin cfg0.N) (a : Fin 1) (b : Fin 2048) : iblk0 V c 1 t (ix2 a b) = V c main_v0 (ix2 a b) := by
  show V c main_v0 (((cfg0.win 1).blk t).view.emb (ix2 a b : S1x2048.Idx)) = _
  rw [emb0_1]

theorem idx0_2 : ∀ t : Fin cfg0.N, win0_2.index t (0 : Fin 2) = t.val ∧ win0_2.index t (1 : Fin 2) = 0 :=
  (by decide +kernel : ∀ t : Fin grid0.N, _)
theorem emb0_2 (t : Fin cfg0.N) (a : Fin 512) (b : Fin 2048) : ((cfg0.win 2).blk t).view.emb (ix2 a b : S512x2048.Idx) = ix2 (quarter t a) b := by
  obtain ⟨e0, e1⟩ := idx0_2 t
  funext x; apply Fin.ext
  match x with
  | ⟨0, _⟩ => show win0_2.index t (0 : Fin 2) * 512 + 1 * a.val = 512 * t.val + a.val; omega
  | ⟨1, _⟩ => show win0_2.index t (1 : Fin 2) * 2048 + 1 * b.val = b.val; omega

theorem idx0_3 : ∀ t : Fin cfg0.N, win0_3.index t (0 : Fin 2) = t.val ∧ win0_3.index t (1 : Fin 2) = 0 :=
  (by decide +kernel : ∀ t : Fin grid0.N, _)
theorem emb0_3 (t : Fin cfg0.N) (a : Fin 512) (b : Fin 1) : ((cfg0.win 3).blk t).view.emb (ix2 a b : S512x1.Idx) = ix2 (quarter t a) b := by
  obtain ⟨e0, e1⟩ := idx0_3 t
  funext x; apply Fin.ext
  match x with
  | ⟨0, _⟩ => show win0_3.index t (0 : Fin 2) * 512 + 1 * a.val = 512 * t.val + a.val; omega
  | ⟨1, _⟩ => show win0_3.index t (1 : Fin 2) * 1 + 1 * b.val = b.val; omega

theorem idx1_0 : ∀ t : Fin cfg1.N, win1_0.index t (0 : Fin 2) = t.val ∧ win1_0.index t (1 : Fin 2) = 0 :=
  (by decide +kernel : ∀ t : Fin grid1.N, _)
theorem emb1_0 (t : Fin cfg1.N) (a : Fin 512) (b : Fin 2048) : ((cfg1.win 0).blk t).view.emb (ix2 a b : S512x2048.Idx) = ix2 (quarter t a) b := by
  obtain ⟨e0, e1⟩ := idx1_0 t
  funext x; apply Fin.ext
  match x with
  | ⟨0, _⟩ => show win1_0.index t (0 : Fin 2) * 512 + 1 * a.val = 512 * t.val + a.val; omega
  | ⟨1, _⟩ => show win1_0.index t (1 : Fin 2) * 2048 + 1 * b.val = b.val; omega
theorem in1_0 (t : Fin cfg1.N) (a : Fin 512) (b : Fin 2048) : iblk1 V c 0 t (ix2 a b) = V c main_arg0 (ix2 (quarter t a) b) := by
  show V c main_arg0 (((cfg1.win 0).blk t).view.emb (ix2 a b : S512x2048.Idx)) = _
  rw [emb1_0]

theorem idx1_1 : ∀ t : Fin cfg1.N, win1_1.index t (0 : Fin 2) = 0 ∧ win1_1.index t (1 : Fin 2) = 0 :=
  (by decide +kernel : ∀ t : Fin grid1.N, _)
theorem emb1_1 (t : Fin cfg1.N) (a : Fin 1) (b : Fin 2048) : ((cfg1.win 1).blk t).view.emb (ix2 a b : S1x2048.Idx) = ix2 a b := by
  obtain ⟨e0, e1⟩ := idx1_1 t
  funext x; apply Fin.ext
  match x with
  | ⟨0, _⟩ => show win1_1.index t (0 : Fin 2) * 1 + 1 * a.val = a.val; omega
  | ⟨1, _⟩ => show win1_1.index t (1 : Fin 2) * 2048 + 1 * b.val = b.val; omega
theorem in1_1 (t : Fin cfg1.N) (a : Fin 1) (b : Fin 2048) : iblk1 V c 1 t (ix2 a b) = V c main_v2 (ix2 a b) := by
  show V c main_v2 (((cfg1.win 1).blk t).view.emb (ix2 a b : S1x2048.Idx)) = _
  rw [emb1_1]

theorem idx1_2 : ∀ t : Fin cfg1.N, win1_2.index t (0 : Fin 2) = t.val ∧ win1_2.index t (1 : Fin 2) = 0 :=
  (by decide +kernel : ∀ t : Fin grid1.N, _)
theorem emb1_2 (t : Fin cfg1.N) (a : Fin 512) (b : Fin 1) : ((cfg1.win 2).blk t).view.emb (ix2 a b : S512x1.Idx) = ix2 (quarter t a) b := by
  obtain ⟨e0, e1⟩ := idx1_2 t
  funext x; apply Fin.ext
  match x with
  | ⟨0, _⟩ => show win1_2.index t (0 : Fin 2) * 512 + 1 * a.val = 512 * t.val + a.val; omega
  | ⟨1, _⟩ => show win1_2.index t (1 : Fin 2) * 1 + 1 * b.val = b.val; omega
theorem in1_2 (t : Fin cfg1.N) (a : Fin 512) (b : Fin 1) : iblk1 V c 2 t (ix2 a b) = V c main_v1_1 (ix2 (quarter t a) b) := by
  show V c main_v1_1 (((cfg1.win 2).blk t).view.emb (ix2 a b : S512x1.Idx)) = _
  rw [emb1_2]

theorem idx1_3 : ∀ t : Fin cfg1.N, win1_3.index t (0 : Fin 2) = t.val ∧ win1_3.index t (1 : Fin 2) = 0 :=
  (by decide +kernel : ∀ t : Fin grid1.N, _)
theorem emb1_3 (t : Fin cfg1.N) (a : Fin 512) (b : Fin 2048) : ((cfg1.win 3).blk t).view.emb (ix2 a b : S512x2048.Idx) = ix2 (quarter t a) b := by
  obtain ⟨e0, e1⟩ := idx1_3 t
  funext x; apply Fin.ext
  match x with
  | ⟨0, _⟩ => show win1_3.index t (0 : Fin 2) * 512 + 1 * a.val = 512 * t.val + a.val; omega
  | ⟨1, _⟩ => show win1_3.index t (1 : Fin 2) * 2048 + 1 * b.val = b.val; omega
theorem in1_3 (t : Fin cfg1.N) (a : Fin 512) (b : Fin 2048) : iblk1 V c 3 t (ix2 a b) = V c main_arg2 (ix2 (quarter t a) b) := by
  show V c main_arg2 (((cfg1.win 3).blk t).view.emb (ix2 a b : S512x2048.Idx)) = _
  rw [emb1_3]

theorem idx1_4 : ∀ t : Fin cfg1.N, win1_4.index t (0 : Fin 2) = t.val ∧ win1_4.index t (1 : Fin 2) = 0 :=
  (by decide +kernel : ∀ t : Fin grid1.N, _)
theorem emb1_4 (t : Fin cfg1.N) (a : Fin 512) (b : Fin 2048) : ((cfg1.win 4).blk t).view.emb (ix2 a b : S512x2048.Idx) = ix2 (quarter t a) b := by
  obtain ⟨e0, e1⟩ := idx1_4 t
  funext x; apply Fin.ext
  match x with
  | ⟨0, _⟩ => show win1_4.index t (0 : Fin 2) * 512 + 1 * a.val = 512 * t.val + a.val; omega
  | ⟨1, _⟩ => show win1_4.index t (1 : Fin 2) * 2048 + 1 * b.val = b.val; omega
theorem in1_4 (t : Fin cfg1.N) (a : Fin 512) (b : Fin 2048) : iblk1 V c 4 t (ix2 a b) = V c main_arg3 (ix2 (quarter t a) b) := by
  show V c main_arg3 (((cfg1.win 4).blk t).view.emb (ix2 a b : S512x2048.Idx)) = _
  rw [emb1_4]

theorem idx1_5 : ∀ t : Fin cfg1.N, win1_5.index t (0 : Fin 2) = t.val ∧ win1_5.index t (1 : Fin 2) = 0 :=
  (by decide +kernel : ∀ t : Fin grid1.N, _)
theorem emb1_5 (t : Fin cfg1.N) (a : Fin 512) (b : Fin 2048) : ((cfg1.win 5).blk t).view.emb (ix2 a b : S512x2048.Idx) = ix2 (quarter t a) b := by
  obtain ⟨e0, e1⟩ := idx1_5 t
  funext x; apply Fin.ext
  match x with
  | ⟨0, _⟩ => show win1_5.index t (0 : Fin 2) * 512 + 1 * a.val = 512 * t.val + a.val; omega
  | ⟨1, _⟩ => show win1_5.index t (1 : Fin 2) * 2048 + 1 * b.val = b.val; omega

theorem idx1_6 : ∀ t : Fin cfg1.N, win1_6.index t (0 : Fin 2) = 0 ∧ win1_6.index t (1 : Fin 2) = 0 :=
  (by decide +kernel : ∀ t : Fin grid1.N, _)
theorem emb1_6 (t : Fin cfg1.N) (a : Fin 1) (b : Fin 2048) : ((cfg1.win 6).blk t).view.emb (ix2 a b : S1x2048.Idx) = ix2 a b := by
  obtain ⟨e0, e1⟩ := idx1_6 t
  funext x; apply Fin.ext
  match x with
  | ⟨0, _⟩ => show win1_6.index t (0 : Fin 2) * 1 + 1 * a.val = a.val; omega
  | ⟨1, _⟩ => show win1_6.index t (1 : Fin 2) * 2048 + 1 * b.val = b.val; omega

/-- The arrays the calls read, as values: the rows, the gain (for either call), the rows' reciprocal root mean squares, the residual's
    gradient, the gradient of the normalised rows. -/
def readX (i k : Fin 2048) : EReal := V c main_arg0 (ix2 i k)
def readG (k : Fin 2048) : EReal := V c main_v0 (ix2 0 k)
def readR (i : Fin 2048) : EReal := V c main_v1_1 (ix2 i 0)
def readH (k : Fin 2048) : EReal := V c main_v2 (ix2 0 k)
def readE (i k : Fin 2048) : EReal := V c main_arg3 (ix2 i k)
def readD (i k : Fin 2048) : EReal := V c main_arg2 (ix2 i k)

/-! ## The first call -/

/-- The normalised rows. -/
theorem arr_y : (dat0 V c).arrAt 2 cfg0.N = fun i : S2048x2048.Idx =>
    (readX V c (i 0) (i 1) * rstd (readX V c (i 0)) * readG V c (i 1) : EReal) := by
  refine (dat0 V c).arrAt_eq_of_covers 2 _ (by decide +kernel) fun t hf y => ?_
  suffices hs : ∀ y : S512x2048.Idx, (dat0 V c).after 2 t y = (fun i : S2048x2048.Idx =>
      (readX V c (i 0) (i 1) * rstd (readX V c (i 0)) * readG V c (i 1) : EReal)) (((cfg0.win 2).blk t).view.emb y) from hs y
  intro y
  obtain ⟨a, b, rfl⟩ := exists2 y
  rw [emb0_2, after0_2, out_y, pay_y]
  simp only [in0_0, in0_1]
  rfl

/-- Each row's reciprocal root mean square. -/
theorem arr_r : (dat0 V c).arrAt 3 cfg0.N = fun i : S2048x1.Idx => rstd (readX V c (i 0)) := by
  refine (dat0 V c).arrAt_eq_of_covers 3 _ (by decide +kernel) fun t hf y => ?_
  suffices hs : ∀ y : S512x1.Idx, (dat0 V c).after 3 t y = (fun i : S2048x1.Idx => rstd (readX V c (i 0))) (((cfg0.win 3).blk t).view.emb y) from hs y
  intro y
  obtain ⟨a, b, rfl⟩ := exists2 y
  obtain rfl : b = 0 := Subsingleton.elim _ _
  rw [emb0_3, after0_3, out_r, pay_r]
  simp only [in0_0]
  rfl

/-! ## The second call -/

/-- The rows' gradient. -/
theorem arr_dx : (dat1 V c).arrAt 5 cfg1.N = fun i : S2048x2048.Idx =>
    rowGrad (readR V c (i 0)) (readX V c (i 0)) (readH V c) (readD V c (i 0)) (readE V c (i 0) (i 1)) (i 1) := by
  refine (dat1 V c).arrAt_eq_of_covers 5 _ (by decide +kernel) fun t hf y => ?_
  suffices hs : ∀ y : S512x2048.Idx, (dat1 V c).after 5 t y = (fun i : S2048x2048.Idx =>
      rowGrad (readR V c (i 0)) (readX V c (i 0)) (readH V c) (readD V c (i 0)) (readE V c (i 0) (i 1)) (i 1)) (((cfg1.win 5).blk t).view.emb y) from hs y
  intro y
  obtain ⟨a, b, rfl⟩ := exists2 y
  have e : k1_pay2 (iblk1 V c 0 t) (iblk1 V c 2 t) (iblk1 V c 3 t) (iblk1 V c 1 t) (iblk1 V c 2 t) (iblk1 V c 4 t) (ix2 a b)
      = rowGrad (readR V c (quarter t a)) (readX V c (quarter t a)) (readH V c) (readD V c (quarter t a)) (readE V c (quarter t a) b) b := by
    rw [pay_dx]
    simp only [in1_0, in1_1, in1_2, in1_3, in1_4]
    rfl
  rw [emb1_5, after1_5]
  by_cases h0 : t.val % 4 = 0
  · rw [outsAt1_A V c t h0]
    dsimp only
    rw [dx_first]
    exact e
  · rw [outsAt1_B V c t h0]
    dsimp only
    rw [dx_next]
    exact e

/-- One row's part of the gain's gradient, and the sum over the rows. -/
def gainTerm (d x : Fin 2048 → Fin 2048 → EReal) (r : Fin 2048 → EReal) (b i : Fin 2048) : EReal := d i b * (x i b * r i)
def gainSum (d x : Fin 2048 → Fin 2048 → EReal) (r : Fin 2048 → EReal) (b : Fin 2048) : EReal := ∑ i, gainTerm d x r b i

/-- One row's part of the gain's gradient. -/
def gainPart (b i : Fin 2048) : EReal := gainTerm (readD V c) (readX V c) (readR V c) b i

theorem block (t : Fin cfg1.N) (s : Vec Ideal S1x2048 .f32) (b : Fin 2048) :
    k1_pay4 (iblk1 V c 0 t) (iblk1 V c 2 t) (iblk1 V c 3 t) s (ix2 0 b) = s (ix2 0 b) + ∑ a, gainPart V c b (quarter t a) := by
  rw [pay_dg]
  simp only [in1_0, in1_2, in1_3]
  rfl

theorem gain_first (t : Fin cfg1.N) (h : t.val % 4 = 0) (b : Fin 2048) :
    (outsAt1 V c t.val t.isLt).2 (ix2 0 b) = ∑ a, gainPart V c b (quarter t a) := by
  rw [outsAt1_A V c t h]
  dsimp only
  rw [dg_first, block, pay_zero]
  exact zero_add _

theorem outs_congr {n n' : ℕ} (h : n = n') (p : n < cfg1.N) (p' : n' < cfg1.N) : outsAt1 V c n p = outsAt1 V c n' p' := by subst h; rfl

theorem gain_next (t t' : Fin cfg1.N) (h : ¬t.val % 4 = 0) (e : t.val - 1 = t'.val) (b : Fin 2048) :
    (outsAt1 V c t.val t.isLt).2 (ix2 0 b) = (outsAt1 V c t'.val t'.isLt).2 (ix2 0 b) + ∑ a, gainPart V c b (quarter t a) := by
  rw [outsAt1_B V c t h]
  dsimp only
  rw [dg_next, block, outs_congr V c e _ t'.isLt]

/-- What the last tile leaves: the sum over all the rows. -/
theorem gain_last (t : Fin cfg1.N) (h : t.val = 3) (b : Fin 2048) : (outsAt1 V c t.val t.isLt).2 (ix2 0 b) = ∑ i, gainPart V c b i := by
  rw [outs_congr V c h t.isLt (3 : Fin 4).isLt]
  refine Eq.trans (gain_next V c (3 : Fin 4) (2 : Fin 4) (by decide) rfl b) ?_
  rw [gain_next V c (2 : Fin 4) (1 : Fin 4) (by decide) rfl,
    gain_next V c (1 : Fin 4) (0 : Fin 4) (by decide) rfl, gain_first V c (0 : Fin 4) (by decide)]
  exact (sum_quarters _).symm

/-- The gain's gradient. -/
theorem arr_dg : (dat1 V c).arrAt 6 cfg1.N = fun i : S1x2048.Idx => gainSum (readD V c) (readX V c) (readR V c) (i 1) := by
  refine (dat1 V c).arrAt_eq_of_covers 6 _ (by decide +kernel) fun t hf y => ?_
  suffices hs : ∀ y : S1x2048.Idx, (dat1 V c).after 6 t y = (fun i : S1x2048.Idx => gainSum (readD V c) (readX V c) (readR V c) (i 1)) (((cfg1.win 6).blk t).view.emb y) from hs y
  intro y
  obtain ⟨a, b, rfl⟩ := exists2 y
  obtain rfl : a = 0 := Subsingleton.elim _ _
  have h3 : t.val = 3 := by
    have h4 : t.val < 4 := t.isLt
    have := (flush1_6 t).mp hf
    omega
  rw [emb1_6, after1_6]
  exact gain_last V c t h3 b

end

/-! ## In terms of the program's arguments -/

section
variable (m : (ℓ : Loc nD τ Cert.Kernel8Ideal.sig) → Buf (Elt Ideal) ℓ) (ρ : Dev nD → PrngReg) (c : Dev nD)

/-- The rows, the gain, the gradient of the normalised rows and the residual's, as the arguments hold them. -/
def rows (i k : Fin 2048) : EReal := m ((c : Thread nD τ).loc main_arg0) (ix2 i k)
def gain (k : Fin 2048) : EReal := m ((c : Thread nD τ).loc main_arg1) (ix1 k)
def res (i k : Fin 2048) : EReal := m ((c : Thread nD τ).loc main_arg3) (ix2 i k)
def cot (i k : Fin 2048) : EReal := m ((c : Thread nD τ).loc main_arg2) (ix2 i k)

theorem host_g0 (k : Fin 2048) : V1 m ρ c main_v0 (ix2 0 k) = gain m c k := by
  show StableHlo.after hostOps0 (W0 m ρ c) (Proc.devRef .tc main_v0) (ix2 0 k) = _
  simp only [hostOps0]
  after_results_simp
  pointwise
  rfl
theorem host_g1 (k : Fin 2048) : V3 m ρ c main_v2 (ix2 0 k) = gain m c k := by
  show StableHlo.after hostOps1 (W2 m ρ c) (Proc.devRef .tc main_v2) (ix2 0 k) = _
  simp only [hostOps1]
  after_results_simp
  rw [show W2 m ρ c (Proc.devRef .tc main_arg1) = m ((c : Thread nD τ).loc main_arg1) from W2_args m ρ c main_arg1 (by decide)]
  pointwise
  rfl
theorem readX1 : readX (V1 m ρ) c = rows m c :=
  funext fun i => funext fun k => congrFun (show V1 m ρ c main_arg0 = m ((c : Thread nD τ).loc main_arg0) from W1_args m ρ c main_arg0 (by decide)) (ix2 i k)
theorem readX3 : readX (V3 m ρ) c = rows m c :=
  funext fun i => funext fun k => congrFun (show V3 m ρ c main_arg0 = m ((c : Thread nD τ).loc main_arg0) from W3_args m ρ c main_arg0 (by decide)) (ix2 i k)
theorem readD3 : readD (V3 m ρ) c = cot m c :=
  funext fun i => funext fun k => congrFun (show V3 m ρ c main_arg2 = m ((c : Thread nD τ).loc main_arg2) from W3_args m ρ c main_arg2 (by decide)) (ix2 i k)
theorem readG1 : readG (V1 m ρ) c = gain m c := funext fun k => host_g0 m ρ c k
theorem readH3 : readH (V3 m ρ) c = gain m c := funext fun k => host_g1 m ρ c k
theorem readE3 : readE (V3 m ρ) c = res m c :=
  funext fun i => funext fun k => congrFun (show V3 m ρ c main_arg3 = m ((c : Thread nD τ).loc main_arg3) from W3_args m ρ c main_arg3 (by decide)) (ix2 i k)
theorem readR3 : readR (V3 m ρ) c = fun i => rstd (rows m c i) := by
  funext i
  unfold readR
  rw [show V3 m ρ c main_v1_1 = (dat0 (V1 m ρ) c).arrAt 3 cfg0.N from (W3_of m ρ c main_v1_1 (by decide)).trans (W2_arr m ρ c 3), arr_r, readX1]
  rfl

/-- The normalised rows, of the arguments. -/
theorem left_y : (dat0 (V1 m ρ) c).arrAt 2 cfg0.N = fun i : S2048x2048.Idx => rows m c (i 0) (i 1) * rstd (rows m c (i 0)) * gain m c (i 1) := by
  rw [arr_y, readX1, readG1]

/-- The rows' gradient, of the arguments. -/
theorem left_dx : (dat1 (V3 m ρ) c).arrAt 5 cfg1.N = fun i : S2048x2048.Idx =>
    rowGrad (rstd (rows m c (i 0))) (rows m c (i 0)) (gain m c) (cot m c (i 0)) (res m c (i 0) (i 1)) (i 1) := by
  rw [arr_dx, readX3, readH3, readD3, readE3, readR3]

/-- The gain's gradient, of the arguments. -/
theorem left_dg : (dat1 (V3 m ρ) c).arrAt 6 cfg1.N = fun i : S1x2048.Idx => gainSum (cot m c) (rows m c) (fun i => rstd (rows m c i)) (i 1) := by
  rw [arr_dg, readX3, readD3, readR3]

/-- The last result: the gain's gradient as a vector. -/
theorem left_dg' : W5 m ρ c (Proc.devRef .tc main_v4) = fun i : S2048.Idx => gainSum (cot m c) (rows m c) (fun i => rstd (rows m c i)) (i 0) := by
  show StableHlo.after hostOps2 (W4 m ρ c) (Proc.devRef .tc main_v4) = _
  simp only [hostOps2]
  after_results_simp
  rw [show W4 m ρ c (Proc.devRef .tc main_v3_1) = (dat1 (V3 m ρ) c).arrAt 6 cfg1.N from W4_arr m ρ c 6, left_dg]
  funext i
  exact shapeCast_apply (s := S1x2048) (t := S2048) _ _ i (ix2 0 (i 0)) (by
    rw [Shape.rowMajor_val_two, Shape.rowMajor_val_one]; show 0 * 2048 + (i 0).val = (i 0).val; omega)

end

end Cert.Norm

end
-- ==== Proof.NormMath.lean ====
/- The gradient of a row under the normalisation: the plain formula, which goes through the derivative of the reciprocal square root,
   and the calls' shorter one are equal, whatever the numbers, infinities included. -/
module

public import proofs.«01_k».proof.Proof.Norm
public import proofs.«01_k».proof.Proof.Softmax
public import proofs.«01_k».proof.Proof.RefFwd

@[expose] public section

noncomputable section

namespace Cert.Norm

open Idealize.ShloMosaic

/-! ## The constants -/

theorem width_bits : Ideal.ofBits .f32 0x45000000#32 = ((2048 : ℝ) : EReal) := by
  simp [Ideal.ofBits, Ideal.ieee, -EReal.coe_mul]; norm_num
theorem half_bits : Ideal.ofBits .f32 0xBF000000#32 = ((-(1 / 2) : ℝ) : EReal) := by
  simp [Ideal.ofBits, Ideal.ieee, -EReal.coe_mul, -EReal.coe_neg]
  norm_num
theorem small_bits : ∃ e : ℝ, 0 < e ∧ Ideal.ofBits .f32 0x358637BD#32 = (e : EReal) := by
  refine ⟨8796093 / 8796093022208, by norm_num, ?_⟩
  simp [Ideal.ofBits, Ideal.ieee, -EReal.coe_mul]
  norm_num

/-! ## Multiplying by a real number -/

/-- A real factor that is not negative goes into a sum. -/
theorem mul_sum {n : ℕ} {p : ℝ} (hp : 0 ≤ p) (f : Fin n → EReal) : (p : EReal) * ∑ l, f l = ∑ l, (p : EReal) * f l := by
  induction n with
  | zero => simp
  | succ n ih =>
    rw [Fin.sum_univ_succ, Fin.sum_univ_succ, EReal.left_distrib_of_nonneg_of_ne_top (by exact_mod_cast hp) (EReal.coe_ne_top _), ih]

/-- Twice the same multiple. -/
theorem add_same (u : ℝ) (s : EReal) : (u : EReal) * s + (u : EReal) * s = ((2 * u : ℝ) : EReal) * s := by
  have h : ∀ t : EReal, t + t = ((2 : ℝ) : EReal) * t := fun t => by
    induction t using EReal.rec with
    | bot => rw [EReal.coe_mul_bot_of_pos (by norm_num)]; rfl
    | top => rw [EReal.coe_mul_top_of_pos (by norm_num)]; rfl
    | coe r => rw [← EReal.coe_add, ← EReal.coe_mul, two_mul]
  rw [h, EReal.coe_mul, mul_assoc]

theorem mul_self_nonneg (x : EReal) : 0 ≤ x * x := by
  induction x using EReal.rec with
  | bot => simp
  | top => simp
  | coe r => rw [← EReal.coe_mul]; exact_mod_cast _root_.mul_self_nonneg r

/-! ## A row that holds an infinity, and a row of real numbers -/

/-- Of a row that holds an infinity the mean of the squares is infinite. -/
theorem meanSq_top {x : Fin 2048 → EReal} (h : ∃ l, x l = ⊤ ∨ x l = ⊥) : meanSq x = ⊤ := by
  obtain ⟨l, hl⟩ := h
  have e : ∑ k, x k * x k = ⊤ := by
    refine top_le_iff.1 ?_
    have hs := Finset.single_le_sum (f := fun k => x k * x k) (fun k _ => mul_self_nonneg (x k)) (Finset.mem_univ l)
    refine le_trans (le_of_eq ?_) hs
    rcases hl with hl | hl <;> simp [hl]
  obtain ⟨s, _, hs⟩ := small_bits
  rw [meanSq, e, width_bits, hs, Ideal.div_coe (by norm_num), EReal.top_mul_coe_of_pos (by norm_num)]
  rfl

theorem rstd_top {x : Fin 2048 → EReal} (h : ∃ l, x l = ⊤ ∨ x l = ⊥) : rstd x = 0 := by rw [rstd, meanSq_top h]; rfl

/-- Of a row of real numbers the mean of the squares, with the small constant, is a positive real number. -/
theorem meanSq_real (X : Fin 2048 → ℝ) : ∃ v : ℝ, 0 < v ∧ meanSq (fun k => (X k : EReal)) = (v : EReal) := by
  obtain ⟨s, h0, hs⟩ := small_bits
  refine ⟨(∑ k, X k * X k) * (1 / 2048) + s, ?_, ?_⟩
  · have : 0 ≤ ∑ k, X k * X k := Finset.sum_nonneg fun k _ => _root_.mul_self_nonneg (X k)
    positivity
  · rw [meanSq, hs, width_bits, Ideal.div_coe (by norm_num), EReal.coe_add, EReal.coe_mul, Fox.coe_sum]
    simp only [EReal.coe_mul]

theorem rstd_real {x : Fin 2048 → EReal} {v : ℝ} (hv : 0 < v) (h : meanSq x = (v : EReal)) : rstd x = (((Real.sqrt v)⁻¹ : ℝ) : EReal) := by
  rw [rstd, h, Ideal.rsqrt_coe, if_neg (not_lt.2 hv.le), if_neg hv.ne']

/-! ## The two formulas -/

/-- The part of the gradient that comes through the mean of the squares, as the plain formula has it. -/
def through (x g d : Fin 2048 → EReal) : EReal :=
  Ideal.div ((∑ l, x l * (d l * g l)) * (Ideal.ofBits .f32 0xBF000000#32 * Ideal.div (rstd x) (meanSq x))) (Ideal.ofBits .f32 0x45000000#32)

/-- The plain formula for the row's gradient, added to the residual's, is the calls'. -/
theorem rowGrad_eq (x g d : Fin 2048 → EReal) (e : EReal) (k : Fin 2048) :
    e + ((d k * g k * rstd x + x k * through x g d) + through x g d * x k) = rowGrad (rstd x) x g d e k := by
  unfold rowGrad
  rw [add_comm e]
  refine congrArg (· + e) ?_
  by_cases h : ∃ l, x l = ⊤ ∨ x l = ⊥
  · have hq : through x g d = 0 := by
      rw [through, rstd_top h, meanSq_top h, width_bits, Ideal.div_coe (by norm_num)]
      simp [Ideal.div]
    rw [hq, rstd_top h]
    simp
  · have hx : ∃ X : Fin 2048 → ℝ, x = fun l => (X l : EReal) :=
      ⟨fun l => (x l).toReal, funext fun l => (EReal.coe_toReal (fun c => h ⟨l, .inl c⟩) (fun c => h ⟨l, .inr c⟩)).symm⟩
    obtain ⟨X, rfl⟩ := hx
    obtain ⟨v, hv, ev⟩ := meanSq_real X
    have er := rstd_real hv ev
    have hp : 0 ≤ (Real.sqrt v)⁻¹ := inv_nonneg.2 (Real.sqrt_nonneg v)
    have hpp : (Real.sqrt v)⁻¹ * (Real.sqrt v)⁻¹ = 1 / v := by rw [← mul_inv, Real.mul_self_sqrt hv.le, one_div]
    rw [through, er, ev, width_bits, half_bits, Ideal.div_coe hv.ne', Ideal.div_coe (by norm_num), Ideal.div_coe (by norm_num)]
    generalize (Real.sqrt v)⁻¹ = p at hp hpp
    generalize d k * g k = a
    have es : ∑ l, d l * g l * ((X l : EReal) * (p : EReal)) = (p : EReal) * ∑ l, (X l : EReal) * (d l * g l) := by
      rw [mul_sum hp]
      exact Finset.sum_congr rfl fun l _ => by ac_rfl
    rw [es]
    generalize ∑ l, (X l : EReal) * (d l * g l) = S
    have e1 : (X k : EReal) * (S * (((-(1 / 2) : ℝ) : EReal) * ((p : EReal) * ((1 / v : ℝ) : EReal))) * ((1 / 2048 : ℝ) : EReal))
        = ((X k * (-(1 / 2)) * p * (1 / v) * (1 / 2048) : ℝ) : EReal) * S := by
      simp only [EReal.coe_mul]; ac_rfl
    have e2 : (X k : EReal) * (p : EReal) * ((p : EReal) * S * ((1 / 2048 : ℝ) : EReal)) = ((X k * p * p * (1 / 2048) : ℝ) : EReal) * S := by
      simp only [EReal.coe_mul]; ac_rfl
    rw [mul_comm _ (X k : EReal), e1, add_assoc, add_same, e2, sub_eq_add_neg, ← EReal.neg_mul, ← EReal.coe_neg,
      EReal.left_distrib_of_nonneg_of_ne_top (by exact_mod_cast hp) (EReal.coe_ne_top _), mul_comm a, ← mul_assoc (p : EReal), ← EReal.coe_mul, ← hpp]
    refine congrArg (fun r : ℝ => (p : EReal) * a + (r : EReal) * S) ?_
    ring

end Cert.Norm

end
-- ==== Proof.NormRun.lean ====
/- The run of the normalisation's program, its results included: what each result array holds when the two calls are done. -/
module

public import proofs.«01_k».proof.Proof.Gen.Kernel8Ideal.Frame

@[expose] public section

noncomputable section

namespace Cert.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel8Ideal Cert.Kernel8Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each array that the host can name as the last call leaves it. -/
theorem run_arrays : θ_run defs (onTc (τ := τ) (main (F := F))) ⟨m, fun _ => 0, ρ⟩
    (fun r => ∀ c : Dev nD, ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

/-- Two results are what a call leaves, the third what the host makes of the second call's row, and the arguments end as they began. -/
theorem run_results : θ_run defs (onTc (τ := τ) (main (F := F))) ⟨m, fun _ => 0, ρ⟩ (fun r => ∀ c : Dev nD,
      r.2.mem ((c.tc : Thread nD τ).loc main_v1_0) = (dat0 (V1 m ρ) c).arrAt 2 cfg0.N
      ∧ r.2.mem ((c.tc : Thread nD τ).loc main_v3_0) = (dat1 (V3 m ρ) c).arrAt 5 cfg1.N
      ∧ r.2.mem ((c.tc : Thread nD τ).loc main_v4) = W5 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v1_0 (by decide))).trans ((W5_of m ρ c main_v1_0 (by decide)).trans ((W4_of m ρ c main_v1_0 (by decide +kernel)).trans
        ((W3_of m ρ c main_v1_0 (by decide)).trans (W2_arr m ρ c 2)))),
     (h c _ (mem_uc main_v3_0 (by decide))).trans ((W5_of m ρ c main_v3_0 (by decide)).trans (W4_arr m ρ c 5)),
     h c _ (mem_uc main_v4 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_arrays m ρ)

end Cert.Norm

end
-- ==== Proof.NormClaims.lean ====
/- The normalisation's two calls compute what the plain formula and its derivative compute, whatever the arguments hold. -/
module

public import proofs.«01_k».proof.Defs
public import proofs.«01_k».proof.Proof.Gen.Reference8Ideal.Run
public import proofs.«01_k».proof.Proof.Gen.Reference8Ideal.Read
public import proofs.«01_k».proof.Proof.NormCalls
public import proofs.«01_k».proof.Proof.NormMath
public import proofs.«01_k».proof.Proof.NormRun
public import Idealize.ShloMosaic.Adequacy
public import Idealize.ShloMosaic.Init

@[expose] public section

noncomputable section

namespace Cert.Norm

open Idealize.ShloMosaic Idealize.SL.Sem

/-- The reference runs, keeps its arguments, and has no counters to leave. -/
theorem frame_reference8 : Cert.quiescent_Reference8Ideal := fun m ρ _ =>
  (θ_run Cert.Reference8Ideal.defs _ _).mono (fun r h => ⟨fun c => (h c).2.2.2, sem_eq_zero_of_no_sems (by decide) r.2⟩)
    (Cert.Reference8Ideal.Value.run (F := Ideal) m ρ)

/-- A value read at an index given by its coordinate. -/
theorem read1 {n : ℕ} {α : Type} {f : (⟨1, ![n]⟩ : Shape).Idx → α} {v : α} {a : Fin n} (hf : f (ix1 a) = v)
    {i : (⟨1, ![n]⟩ : Shape).Idx} (h0 : (i 0).val = a.val) : f i = v := by
  rw [← hf]
  exact congrArg f (funext fun x => match x with | ⟨0, _⟩ => Fin.ext h0)

/-! ## The reference, read at an element -/

namespace Ref

open Cert.Reference8Ideal Cert.Reference8Ideal.Read Cert.Fox

variable (x0 : (⟨S2048x2048, .f32⟩ : BufTy).Contents (Elt Ideal)) (x1 : (⟨S2048, .f32⟩ : BufTy).Contents (Elt Ideal))
  (x2 x3 : (⟨S2048x2048, .f32⟩ : BufTy).Contents (Elt Ideal))

/-- The arguments as values: the rows, the gain, the gradient of the normalised rows, the residual's. -/
def x (i k : Fin 2048) : EReal := x0 (ix2 i k)
def g (k : Fin 2048) : EReal := x1 (ix1 k)
def d (i k : Fin 2048) : EReal := x2 (ix2 i k)
def e (i k : Fin 2048) : EReal := x3 (ix2 i k)

theorem v1 (i : Fin 2048) : val_main_v1 (F := Ideal) x0 (ix1 i) = (∑ k, x x0 i k * x x0 i k : EReal) := by
  rw [val_main_v1_apply]
  refine Eq.trans (congrArg (· + _) zero_bits) ((zero_add _).trans (Finset.sum_congr rfl fun k _ => ?_))
  exact read2 (a := i) (b := k) (v := (x x0 i k * x x0 i k : EReal)) rfl rfl rfl

theorem v6 (i : Fin 2048) : val_main_v6 (F := Ideal) x0 (ix2 i 0) = meanSq (x x0 i) := by
  rw [val_main_v6_apply, val_main_v4_apply, val_main_v2_apply, val_main_v3_apply, val_main_v5_apply, read1 (v1 x0 i) rfl]
  rfl

theorem v7 (i : Fin 2048) : val_main_v7 (F := Ideal) x0 (ix2 i 0) = rstd (x x0 i) := by
  rw [val_main_v7_apply, v6]; rfl

theorem v10 (i : Fin 2048) : val_main_v10 (F := Ideal) x0 (ix2 i 0)
    = (Ideal.ofBits .f32 0xBF000000#32 * Ideal.div (rstd (x x0 i)) (meanSq (x x0 i)) : EReal) := by
  rw [val_main_v10_apply, val_main_v8_apply, v6, v7, val_main_v9_apply]; rfl

theorem v12 (i k : Fin 2048) : val_main_v12 (F := Ideal) x0 (ix2 i k) = (x x0 i k * rstd (x x0 i) : EReal) := by
  rw [val_main_v12_apply, val_main_v11_apply, read2 (v7 x0 i) rfl rfl]; rfl

theorem v13 (k : Fin 2048) : val_main_v13 (F := Ideal) x1 (ix2 0 k) = g x1 k := by
  rw [val_main_v13_apply]; exact read1 (a := k) (v := g x1 k) rfl rfl

theorem v14 (i k : Fin 2048) : val_main_v14 (F := Ideal) x1 (ix2 i k) = g x1 k := by
  rw [val_main_v14_apply]; exact read2 (v13 x1 k) rfl rfl

theorem v19 (i k : Fin 2048) : val_main_v19 (F := Ideal) x1 (ix2 i k) = g x1 k := by
  rw [val_main_v19_apply]; exact read2 (v13 x1 k) rfl rfl

/-- The normalised rows. -/
theorem y (i k : Fin 2048) : val_main_v36 (F := Ideal) x0 x1 (ix2 i k) = (x x0 i k * rstd (x x0 i) * g x1 k : EReal) := by
  rw [val_main_v36_apply, val_main_v15_apply, v12, v14]; rfl

theorem v17 (k : Fin 2048) : val_main_v17 (F := Ideal) x0 x2 (ix1 k) = (∑ i, x x0 i k * rstd (x x0 i) * d x2 i k : EReal) := by
  rw [val_main_v17_apply]
  refine Eq.trans (congrArg (· + _) zero_bits) ((zero_add _).trans (Finset.sum_congr rfl fun i _ => ?_))
  refine read2 (a := i) (b := k) ?_ rfl rfl
  rw [val_main_v16_apply, v12]; rfl

/-- The gain's gradient. -/
theorem dg (k : Fin 2048) : val_main_v21 (F := Ideal) x0 x2 (ix1 k) = gainSum (d x2) (x x0) (fun i => rstd (x x0 i)) k := by
  rw [val_main_v21_apply]
  refine Eq.trans (congrArg (· + _) zero_bits) ((zero_add _).trans ?_)
  refine (Fintype.sum_unique _).trans ?_
  refine (read2 (a := (0 : Fin 1)) (b := k) ?_ rfl rfl).trans (Finset.sum_congr rfl fun i _ => mul_comm _ _)
  rw [val_main_v18_apply]
  exact read1 (v17 x0 x2 k) (by show 0 * 2048 + k.val = k.val; omega)

theorem v20 (i k : Fin 2048) : val_main_v20 (F := Ideal) x1 x2 (ix2 i k) = (d x2 i k * g x1 k : EReal) := by
  rw [val_main_v20_apply, v19]; rfl

theorem v23 (i : Fin 2048) : val_main_v23 (F := Ideal) x0 x1 x2 (ix1 i) = (∑ k, x x0 i k * (d x2 i k * g x1 k) : EReal) := by
  rw [val_main_v23_apply]
  refine Eq.trans (congrArg (· + _) zero_bits) ((zero_add _).trans (Finset.sum_congr rfl fun k _ => ?_))
  refine read2 (a := i) (b := k) ?_ rfl rfl
  rw [val_main_v22_apply, v20]; rfl

theorem v29 (i : Fin 2048) : val_main_v29 (F := Ideal) x0 x1 x2 (ix2 i 0) = through (x x0 i) (g x1) (d x2 i) := by
  rw [val_main_v29_apply, val_main_v27_apply, val_main_v24_apply, val_main_v28_apply, v10, read1 (v23 x0 x1 x2 i) (by show i.val * 1 + 0 = i.val; omega)]
  rfl

theorem v30 (i : Fin 2048) : val_main_v30 (F := Ideal) x0 x1 x2 (ix1 i) = through (x x0 i) (g x1) (d x2 i) := by
  rw [val_main_v30_apply]
  refine Eq.trans (congrArg (· + _) zero_bits) ((zero_add _).trans ?_)
  refine (Fintype.sum_unique _).trans ?_
  exact read2 (v29 x0 x1 x2 i) rfl rfl

theorem v31 (i k : Fin 2048) : val_main_v31 (F := Ideal) x0 x1 x2 (ix2 i k) = through (x x0 i) (g x1) (d x2 i) := by
  rw [val_main_v31_apply]; exact read1 (v30 x0 x1 x2 i) rfl

/-- The rows' gradient. -/
theorem dx (i k : Fin 2048) : val_main_v37 (F := Ideal) x0 x1 x2 x3 (ix2 i k)
    = rowGrad (rstd (x x0 i)) (x x0 i) (g x1) (d x2 i) (e x3 i k) k := by
  rw [val_main_v37_apply, val_main_v35_apply, val_main_v33_apply, val_main_v34_apply, val_main_v32_apply, val_main_v26_apply, val_main_v25_apply,
    v31, v20, read2 (v7 x0 i) rfl rfl]
  exact rowGrad_eq (x x0 i) (g x1) (d x2 i) (e x3 i k) k

end Ref

/-- Over the reals the two calls compute the normalised rows, the rows' gradient and the gain's gradient that the plain formula and
    its derivative give. -/
theorem equal8 : Cert.algebraic_Kernel8Ideal_Reference8Ideal := by
  intro m ρ m' ρ' _ ha
  refine ⟨_, _, _, run_results m ρ, ?_⟩
  refine (θ_run Cert.Reference8Ideal.defs _ _).mono (fun r h c => ?_) (Cert.Reference8Ideal.Value.run (F := Ideal) m' ρ')
  obtain ⟨a0, a1, a2, a3⟩ := ha c
  obtain ⟨r0, r1, r2, rest⟩ := h c
  rw [Cert.Reference8Ideal.Read.val_main_v36_eq, a0, a1] at r0
  rw [Cert.Reference8Ideal.Read.val_main_v37_eq, a0, a1, a2, a3] at r1
  rw [Cert.Reference8Ideal.Read.val_main_v21_eq, a0, a2] at r2
  refine ⟨r0.trans (Eq.trans (funext fun i => ?_) (left_y m ρ c).symm), r1.trans (Eq.trans (funext fun i => ?_) (left_dx m ρ c).symm),
    r2.trans (Eq.trans (funext fun i => ?_) (left_dg' m ρ c).symm), rest⟩
  · obtain ⟨a, b, rfl⟩ := Cert.Products.exists2 (m := 2048) (n := 2048) i
    exact Ref.y _ _ a b
  · obtain ⟨a, b, rfl⟩ := Cert.Products.exists2 (m := 2048) (n := 2048) i
    exact Ref.dx _ _ _ _ a b
  · exact read1 (Ref.dg _ _ (i 0)) rfl

end Cert.Norm

end
-- ==== Proof.Adam.lean ====
/- The optimiser's step over the extended reals, element by element: the two moments and the update of a weight, and what the
   four calls leave in their output arrays. -/
module

public import proofs.«01_k».proof.Proof.Gen.Kernel9Ideal.Frame
public import Idealize.ShloMosaic.Lib.Pointwise
public import Idealize.ShloMosaic.Lib.Pipeline.ValueKit.Geometry

@[expose] public section

set_option maxRecDepth 16384

noncomputable section

namespace Cert.Adam

open Idealize.ShloMosaic Idealize.ShloMosaic.TcCoe Idealize.SL.Sem Cert.Kernel9Ideal Cert.Kernel9Ideal.Gen

/-- The new first moment: nine tenths of the old one and a tenth of the gradient. -/
def first (g m : EReal) : EReal := Ideal.ofBits .f32 0x3F666666#32 * m + Ideal.ofBits .f32 0x3DCCCCCD#32 * g

/-- The new second moment, from the gradient's square. -/
def second (g v : EReal) : EReal := Ideal.ofBits .f32 0x3F7FBE77#32 * v + Ideal.ofBits .f32 0x3A83126F#32 * (g * g)

/-- The update: the first moment over the root of the second, both freed of their bias by a division, with the weight's decay. -/
def step (w g m v : EReal) : EReal :=
  Ideal.ofBits .f32 0xBA83126F#32 *
    (Ideal.div (Ideal.div (first g m) (Ideal.ofBits .f32 0x3F26BD02#32))
        (Ideal.sqrt (Ideal.div (second g v) (Ideal.ofBits .f32 0x3C231ACC#32)) + Ideal.ofBits .f32 0x322BCC77#32)
      + Ideal.ofBits .f32 0x3C23D70A#32 * w)

/-- What the first moment is divided by. -/
theorem bias1 : Ideal.ofBits .f32 0x3F26BD02#32 = ((5463681 / 8388608 : ℝ) : EReal) := by
  simp [Ideal.ofBits, Ideal.ieee, -EReal.coe_mul]; norm_num

/-- What the second moment is divided by. -/
theorem bias2 : Ideal.ofBits .f32 0x3C231ACC#32 = ((2672307 / 268435456 : ℝ) : EReal) := by
  simp [Ideal.ofBits, Ideal.ieee, -EReal.coe_mul]; norm_num

/-- The factor in place of the first division is its reciprocal. -/
theorem named1 : (Named.named κ "bias1" 0x3FC48605#32 : Ideal .f32) = ((8388608 / 5463681 : ℝ) : EReal) :=
  IdealRules.named_const.ideal_named_scalar _ _ _ _ rfl

/-- The factor in place of the second division is its reciprocal. -/
theorem named2 : (Named.named κ "bias2" 0x42C8E6D3#32 : Ideal .f32) = ((268435456 / 2672307 : ℝ) : EReal) :=
  IdealRules.named_const.ideal_named_scalar _ _ _ _ rfl

/-- The update with the two divisions made products is the update. -/
theorem step_eq (w g m v : EReal) :
    Ideal.ofBits .f32 0xBA83126F#32 *
      (Ideal.div (first g m * (Named.named κ "bias1" 0x3FC48605#32 : Ideal .f32))
          (Ideal.sqrt (second g v * (Named.named κ "bias2" 0x42C8E6D3#32 : Ideal .f32)) + Ideal.ofBits .f32 0x322BCC77#32)
        + Ideal.ofBits .f32 0x3C23D70A#32 * w) = step w g m v := by
  unfold step
  rw [named1, named2, bias1, bias2, Ideal.div_coe (by norm_num), Ideal.div_coe (by norm_num),
    show (1 / (5463681 / 8388608) : ℝ) = 8388608 / 5463681 by norm_num,
    show (1 / (2672307 / 268435456) : ℝ) = 268435456 / 2672307 by norm_num]

theorem zeros2 : (![0, 0] : Fin 2 → Nat) = fun _ => 0 := by
  funext i; match i with | 0 => rfl | 1 => rfl

variable (V : (c : Dev nD) → (b : Ref sig .tc) → Buf (Elt Ideal) ((c : Thread nD τ).loc b)) (c : Dev nD)

/-! ## The optimiser of the gate and of the up weight -/

/-- The array of the update. -/
theorem arr0_5 : (dat0 V c).arrAt 5 cfg0.N = fun i : S2048x1408.Idx => step (V c main_arg0 i) (V c main_arg1 i) (V c main_arg2 i) (V c main_arg3 i) := by
  refine (dat0 V c).arrAt_eq_of_covers 5 _ (by decide +kernel) fun t hf y => ?_
  suffices hs : ∀ y : S512x1408.Idx, (dat0 V c).after 5 t y
      = (fun i : S2048x1408.Idx => step (V c main_arg0 i) (V c main_arg1 i) (V c main_arg2 i) (V c main_arg3 i)) (((cfg0.win 5).blk t).view.emb y) from hs y
  intro y
  rw [after0_5]
  unfold out0_5
  rw [View.canon_unit_zero zeros2, View.ld_unit_zero zeros2, View.ld_unit_zero zeros2, View.ld_unit_zero zeros2, View.ld_unit_zero zeros2]
  unfold_payloads; pointwise
  exact step_eq ..

/-- The array of the new first moment. -/
theorem arr0_6 : (dat0 V c).arrAt 6 cfg0.N = fun i : S2048x1408.Idx => first (V c main_arg1 i) (V c main_arg2 i) := by
  refine (dat0 V c).arrAt_eq_of_covers 6 _ (by decide +kernel) fun t hf y => ?_
  suffices hs : ∀ y : S512x1408.Idx, (dat0 V c).after 6 t y
      = (fun i : S2048x1408.Idx => first (V c main_arg1 i) (V c main_arg2 i)) (((cfg0.win 6).blk t).view.emb y) from hs y
  intro y
  rw [after0_6]
  unfold out0_6
  rw [View.canon_unit_zero zeros2, View.ld_unit_zero zeros2, View.ld_unit_zero zeros2]
  unfold_payloads; pointwise
  rfl

/-- The array of the new second moment. -/
theorem arr0_7 : (dat0 V c).arrAt 7 cfg0.N = fun i : S2048x1408.Idx => second (V c main_arg1 i) (V c main_arg3 i) := by
  refine (dat0 V c).arrAt_eq_of_covers 7 _ (by decide +kernel) fun t hf y => ?_
  suffices hs : ∀ y : S512x1408.Idx, (dat0 V c).after 7 t y
      = (fun i : S2048x1408.Idx => second (V c main_arg1 i) (V c main_arg3 i)) (((cfg0.win 7).blk t).view.emb y) from hs y
  intro y
  rw [after0_7]
  unfold out0_7
  rw [View.canon_unit_zero zeros2, View.ld_unit_zero zeros2, View.ld_unit_zero zeros2]
  unfold_payloads; pointwise
  rfl

/-! ## The optimiser of the down weight -/

/-- The array of the update. -/
theorem arr1_5 : (dat1 V c).arrAt 5 cfg1.N = fun i : S1408x2048.Idx => step (V c main_arg4 i) (V c main_arg5 i) (V c main_arg6 i) (V c main_arg7 i) := by
  refine (dat1 V c).arrAt_eq_of_covers 5 _ (by decide +kernel) fun t hf y => ?_
  suffices hs : ∀ y : S352x2048.Idx, (dat1 V c).after 5 t y
      = (fun i : S1408x2048.Idx => step (V c main_arg4 i) (V c main_arg5 i) (V c main_arg6 i) (V c main_arg7 i)) (((cfg1.win 5).blk t).view.emb y) from hs y
  intro y
  rw [after1_5]
  unfold out1_5
  rw [View.canon_unit_zero zeros2, View.ld_unit_zero zeros2, View.ld_unit_zero zeros2, View.ld_unit_zero zeros2, View.ld_unit_zero zeros2]
  unfold_payloads; pointwise
  exact step_eq ..

/-- The array of the new first moment. -/
theorem arr1_6 : (dat1 V c).arrAt 6 cfg1.N = fun i : S1408x2048.Idx => first (V c main_arg5 i) (V c main_arg6 i) := by
  refine (dat1 V c).arrAt_eq_of_covers 6 _ (by decide +kernel) fun t hf y => ?_
  suffices hs : ∀ y : S352x2048.Idx, (dat1 V c).after 6 t y
      = (fun i : S1408x2048.Idx => first (V c main_arg5 i) (V c main_arg6 i)) (((cfg1.win 6).blk t).view.emb y) from hs y
  intro y
  rw [after1_6]
  unfold out1_6
  rw [View.canon_unit_zero zeros2, View.ld_unit_zero zeros2, View.ld_unit_zero zeros2]
  unfold_payloads; pointwise
  rfl

/-- The array of the new second moment. -/
theorem arr1_7 : (dat1 V c).arrAt 7 cfg1.N = fun i : S1408x2048.Idx => second (V c main_arg5 i) (V c main_arg7 i) := by
  refine (dat1 V c).arrAt_eq_of_covers 7 _ (by decide +kernel) fun t hf y => ?_
  suffices hs : ∀ y : S352x2048.Idx, (dat1 V c).after 7 t y
      = (fun i : S1408x2048.Idx => second (V c main_arg5 i) (V c main_arg7 i)) (((cfg1.win 7).blk t).view.emb y) from hs y
  intro y
  rw [after1_7]
  unfold out1_7
  rw [View.canon_unit_zero zeros2, View.ld_unit_zero zeros2, View.ld_unit_zero zeros2]
  unfold_payloads; pointwise
  rfl

/-! ## The optimiser of the input projection's weight -/

/-- The array of the update. -/
theorem arr2_5 : (dat2 V c).arrAt 5 cfg2.N = fun i : S2048x1156.Idx => step (V c main_arg8 i) (V c main_arg9 i) (V c main_arg10 i) (V c main_arg11 i) := by
  refine (dat2 V c).arrAt_eq_of_covers 5 _ (by decide +kernel) fun t hf y => ?_
  suffices hs : ∀ y : S512x1156.Idx, (dat2 V c).after 5 t y
      = (fun i : S2048x1156.Idx => step (V c main_arg8 i) (V c main_arg9 i) (V c main_arg10 i) (V c main_arg11 i)) (((cfg2.win 5).blk t).view.emb y) from hs y
  intro y
  rw [after2_5]
  unfold out2_5
  rw [View.canon_unit_zero zeros2, View.ld_unit_zero zeros2, View.ld_unit_zero zeros2, View.ld_unit_zero zeros2, View.ld_unit_zero zeros2]
  unfold_payloads; pointwise
  exact step_eq ..

/-- The array of the new first moment. -/
theorem arr2_6 : (dat2 V c).arrAt 6 cfg2.N = fun i : S2048x1156.Idx => first (V c main_arg9 i) (V c main_arg10 i) := by
  refine (dat2 V c).arrAt_eq_of_covers 6 _ (by decide +kernel) fun t hf y => ?_
  suffices hs : ∀ y : S512x1156.Idx, (dat2 V c).after 6 t y
      = (fun i : S2048x1156.Idx => first (V c main_arg9 i) (V c main_arg10 i)) (((cfg2.win 6).blk t).view.emb y) from hs y
  intro y
  rw [after2_6]
  unfold out2_6
  rw [View.canon_unit_zero zeros2, View.ld_unit_zero zeros2, View.ld_unit_zero zeros2]
  unfold_payloads; pointwise
  rfl

/-- The array of the new second moment. -/
theorem arr2_7 : (dat2 V c).arrAt 7 cfg2.N = fun i : S2048x1156.Idx => second (V c main_arg9 i) (V c main_arg11 i) := by
  refine (dat2 V c).arrAt_eq_of_covers 7 _ (by decide +kernel) fun t hf y => ?_
  suffices hs : ∀ y : S512x1156.Idx, (dat2 V c).after 7 t y
      = (fun i : S2048x1156.Idx => second (V c main_arg9 i) (V c main_arg11 i)) (((cfg2.win 7).blk t).view.emb y) from hs y
  intro y
  rw [after2_7]
  unfold out2_7
  rw [View.canon_unit_zero zeros2, View.ld_unit_zero zeros2, View.ld_unit_zero zeros2]
  unfold_payloads; pointwise
  rfl

/-! ## The optimiser of the output projection's weight -/

/-- The array of the update. -/
theorem arr3_5 : (dat3 V c).arrAt 5 cfg3.N = fun i : S512x2048.Idx => step (V c main_arg12 i) (V c main_arg13 i) (V c main_arg14 i) (V c main_arg15 i) := by
  refine (dat3 V c).arrAt_eq_of_covers 5 _ (by decide +kernel) fun t hf y => ?_
  suffices hs : ∀ y : S256x2048.Idx, (dat3 V c).after 5 t y
      = (fun i : S512x2048.Idx => step (V c main_arg12 i) (V c main_arg13 i) (V c main_arg14 i) (V c main_arg15 i)) (((cfg3.win 5).blk t).view.emb y) from hs y
  intro y
  rw [after3_5]
  unfold out3_5
  rw [View.canon_unit_zero zeros2, View.ld_unit_zero zeros2, View.ld_unit_zero zeros2, View.ld_unit_zero zeros2, View.ld_unit_zero zeros2]
  unfold_payloads; pointwise
  exact step_eq ..

/-- The array of the new first moment. -/
theorem arr3_6 : (dat3 V c).arrAt 6 cfg3.N = fun i : S512x2048.Idx => first (V c main_arg13 i) (V c main_arg14 i) := by
  refine (dat3 V c).arrAt_eq_of_covers 6 _ (by decide +kernel) fun t hf y => ?_
  suffices hs : ∀ y : S256x2048.Idx, (dat3 V c).after 6 t y
      = (fun i : S512x2048.Idx => first (V c main_arg13 i) (V c main_arg14 i)) (((cfg3.win 6).blk t).view.emb y) from hs y
  intro y
  rw [after3_6]
  unfold out3_6
  rw [View.canon_unit_zero zeros2, View.ld_unit_zero zeros2, View.ld_unit_zero zeros2]
  unfold_payloads; pointwise
  rfl

/-- The array of the new second moment. -/
theorem arr3_7 : (dat3 V c).arrAt 7 cfg3.N = fun i : S512x2048.Idx => second (V c main_arg13 i) (V c main_arg15 i) := by
  refine (dat3 V c).arrAt_eq_of_covers 7 _ (by decide +kernel) fun t hf y => ?_
  suffices hs : ∀ y : S256x2048.Idx, (dat3 V c).after 7 t y
      = (fun i : S512x2048.Idx => second (V c main_arg13 i) (V c main_arg15 i)) (((cfg3.win 7).blk t).view.emb y) from hs y
  intro y
  rw [after3_7]
  unfold out3_7
  rw [View.canon_unit_zero zeros2, View.ld_unit_zero zeros2, View.ld_unit_zero zeros2]
  unfold_payloads; pointwise
  rfl

end Cert.Adam

end
-- ==== Proof.AdamRun.lean ====
/- The run of the program, its results included: what each result array holds when the four optimiser calls are done. -/
module

public import proofs.«01_k».proof.Proof.Gen.Kernel9Ideal.Frame

@[expose] public section

noncomputable section

namespace Cert.Adam

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel9Ideal Cert.Kernel9Ideal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each array that the host can name as the last call leaves it. -/
theorem run_arrays : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- Each result is what its call leaves in its output array, and the arguments end as they began. -/
theorem run_results : θ_run defs (onTc (τ := τ) (main (F := F))) ⟨m, fun _ => 0, ρ⟩ (fun r => ∀ c : Dev nD,
      r.2.mem ((c.tc : Thread nD τ).loc main_v0_1) = (dat0 (V0 m ρ) c).arrAt 5 cfg0.N
      ∧ r.2.mem ((c.tc : Thread nD τ).loc main_v0_2) = (dat0 (V0 m ρ) c).arrAt 6 cfg0.N
      ∧ r.2.mem ((c.tc : Thread nD τ).loc main_v0_3) = (dat0 (V0 m ρ) c).arrAt 7 cfg0.N
      ∧ r.2.mem ((c.tc : Thread nD τ).loc main_v1_1) = (dat1 (V1 m ρ) c).arrAt 5 cfg1.N
      ∧ r.2.mem ((c.tc : Thread nD τ).loc main_v1_2) = (dat1 (V1 m ρ) c).arrAt 6 cfg1.N
      ∧ r.2.mem ((c.tc : Thread nD τ).loc main_v1_3) = (dat1 (V1 m ρ) c).arrAt 7 cfg1.N
      ∧ r.2.mem ((c.tc : Thread nD τ).loc main_v2_1) = (dat2 (V2 m ρ) c).arrAt 5 cfg2.N
      ∧ r.2.mem ((c.tc : Thread nD τ).loc main_v2_2) = (dat2 (V2 m ρ) c).arrAt 6 cfg2.N
      ∧ r.2.mem ((c.tc : Thread nD τ).loc main_v2_3) = (dat2 (V2 m ρ) c).arrAt 7 cfg2.N
      ∧ r.2.mem ((c.tc : Thread nD τ).loc main_v3_1) = (dat3 (V3 m ρ) c).arrAt 5 cfg3.N
      ∧ r.2.mem ((c.tc : Thread nD τ).loc main_v3_2) = (dat3 (V3 m ρ) c).arrAt 6 cfg3.N
      ∧ r.2.mem ((c.tc : Thread nD τ).loc main_v3_3) = (dat3 (V3 m ρ) c).arrAt 7 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c =>
    ⟨(h c _ (mem_uc main_v0_1 (by decide))).trans ((W4_of m ρ c main_v0_1 (by decide +kernel)).trans ((W3_of m ρ c main_v0_1 (by decide +kernel)).trans ((W2_of m ρ c main_v0_1 (by decide +kernel)).trans (W1_arr m ρ c 5)))),
     (h c _ (mem_uc main_v0_2 (by decide))).trans ((W4_of m ρ c main_v0_2 (by decide +kernel)).trans ((W3_of m ρ c main_v0_2 (by decide +kernel)).trans ((W2_of m ρ c main_v0_2 (by decide +kernel)).trans (W1_arr m ρ c 6)))),
     (h c _ (mem_uc main_v0_3 (by decide))).trans ((W4_of m ρ c main_v0_3 (by decide +kernel)).trans ((W3_of m ρ c main_v0_3 (by decide +kernel)).trans ((W2_of m ρ c main_v0_3 (by decide +kernel)).trans (W1_arr m ρ c 7)))),
     (h c _ (mem_uc main_v1_1 (by decide))).trans ((W4_of m ρ c main_v1_1 (by decide +kernel)).trans ((W3_of m ρ c main_v1_1 (by decide +kernel)).trans (W2_arr m ρ c 5))),
     (h c _ (mem_uc main_v1_2 (by decide))).trans ((W4_of m ρ c main_v1_2 (by decide +kernel)).trans ((W3_of m ρ c main_v1_2 (by decide +kernel)).trans (W2_arr m ρ c 6))),
     (h c _ (mem_uc main_v1_3 (by decide))).trans ((W4_of m ρ c main_v1_3 (by decide +kernel)).trans ((W3_of m ρ c main_v1_3 (by decide +kernel)).trans (W2_arr m ρ c 7))),
     (h c _ (mem_uc main_v2_1 (by decide))).trans ((W4_of m ρ c main_v2_1 (by decide +kernel)).trans (W3_arr m ρ c 5)),
     (h c _ (mem_uc main_v2_2 (by decide))).trans ((W4_of m ρ c main_v2_2 (by decide +kernel)).trans (W3_arr m ρ c 6)),
     (h c _ (mem_uc main_v2_3 (by decide))).trans ((W4_of m ρ c main_v2_3 (by decide +kernel)).trans (W3_arr m ρ c 7)),
     (h c _ (mem_uc main_v3_1 (by decide))).trans (W4_arr m ρ c 5),
     (h c _ (mem_uc main_v3_2 (by decide))).trans (W4_arr m ρ c 6),
     (h c _ (mem_uc main_v3_3 (by decide))).trans (W4_arr m ρ c 7),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c),
     (h c _ (mem_uc main_arg13 (by decide))).trans (W4_main_arg13 m ρ c),
     (h c _ (mem_uc main_arg14 (by decide))).trans (W4_main_arg14 m ρ c),
     (h c _ (mem_uc main_arg15 (by decide))).trans (W4_main_arg15 m ρ c)⟩) (run_arrays m ρ)

end Cert.Adam

end
-- ==== Proof.AdamClaims.lean ====
/- The four optimiser calls compute what their plain reference computes, whatever the arguments hold. -/
module

public import proofs.«01_k».proof.Defs
public import proofs.«01_k».proof.Proof.Gen.Reference9Ideal.Run
public import proofs.«01_k».proof.Proof.Gen.Reference9Ideal.Read
public import proofs.«01_k».proof.Proof.Adam
public import proofs.«01_k».proof.Proof.AdamRun
public import Idealize.ShloMosaic.Adequacy
public import Idealize.ShloMosaic.Init

@[expose] public section

noncomputable section

namespace Cert.Adam

open Idealize.ShloMosaic Idealize.SL.Sem

/-- The reference runs, keeps its arguments, and has no counters to leave. -/
theorem frame_reference9 : Cert.quiescent_Reference9Ideal := fun m ρ _ =>
  (θ_run Cert.Reference9Ideal.defs _ _).mono (fun r h => ⟨fun c => (h c).2.2.2.2.2.2.2.2.2.2.2.2, sem_eq_zero_of_no_sems (by decide) r.2⟩)
    (Cert.Reference9Ideal.Value.run (F := Ideal) m ρ)

section
open Cert.Reference9Ideal Cert.Reference9Ideal.Read

theorem ref0_first (x1 x2 : (⟨S2048x1408, .f32⟩ : BufTy).Contents (Elt Ideal)) (i : S2048x1408.Idx) :
    val_main_v4 (F := Ideal) x1 x2 i = first (x1 i) (x2 i) := by
  simp only [val_main_v4_apply, val_main_v1_apply, val_main_v3_apply, val_main_v0_apply, val_main_v2_apply, val_main_cst_apply, val_main_cst_0_apply]
  rfl

theorem ref0_second (x1 x3 : (⟨S2048x1408, .f32⟩ : BufTy).Contents (Elt Ideal)) (i : S2048x1408.Idx) :
    val_main_v10 (F := Ideal) x1 x3 i = second (x1 i) (x3 i) := by
  simp only [val_main_v10_apply, val_main_v6_apply, val_main_v9_apply, val_main_v5_apply, val_main_v7_apply, val_main_v8_apply, val_main_cst_1_apply, val_main_cst_2_apply]
  rfl

theorem ref0_step (x0 x1 x2 x3 : (⟨S2048x1408, .f32⟩ : BufTy).Contents (Elt Ideal)) (i : S2048x1408.Idx) :
    val_main_v23 (F := Ideal) x0 x1 x2 x3 i = step (x0 i) (x1 i) (x2 i) (x3 i) := by
  simp only [val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_cst_3_apply, val_main_cst_4_apply, val_main_cst_5_apply, val_main_cst_6_apply, val_main_cst_2_apply, ref0_first, ref0_second]
  rfl

theorem ref1_first (x5 x6 : (⟨S1408x2048, .f32⟩ : BufTy).Contents (Elt Ideal)) (i : S1408x2048.Idx) :
    val_main_v28 (F := Ideal) x5 x6 i = first (x5 i) (x6 i) := by
  simp only [val_main_v28_apply, val_main_v25_apply, val_main_v27_apply, val_main_v24_apply, val_main_v26_apply, val_main_cst_7_apply, val_main_cst_8_apply]
  rfl

theorem ref1_second (x5 x7 : (⟨S1408x2048, .f32⟩ : BufTy).Contents (Elt Ideal)) (i : S1408x2048.Idx) :
    val_main_v34 (F := Ideal) x5 x7 i = second (x5 i) (x7 i) := by
  simp only [val_main_v34_apply, val_main_v30_apply, val_main_v33_apply, val_main_v29_apply, val_main_v31_apply, val_main_v32_apply, val_main_cst_9_apply, val_main_cst_10_apply]
  rfl

theorem ref1_step (x4 x5 x6 x7 : (⟨S1408x2048, .f32⟩ : BufTy).Contents (Elt Ideal)) (i : S1408x2048.Idx) :
    val_main_v47 (F := Ideal) x4 x5 x6 x7 i = step (x4 i) (x5 i) (x6 i) (x7 i) := by
  simp only [val_main_v47_apply, val_main_v46_apply, val_main_v45_apply, val_main_v44_apply, val_main_v43_apply, val_main_v42_apply, val_main_v41_apply, val_main_v40_apply, val_main_v39_apply, val_main_v38_apply, val_main_v37_apply, val_main_v36_apply, val_main_v35_apply, val_main_cst_11_apply, val_main_cst_12_apply, val_main_cst_13_apply, val_main_cst_14_apply, val_main_cst_10_apply, ref1_first, ref1_second]
  rfl

theorem ref2_first (x9 x10 : (⟨S2048x1156, .f32⟩ : BufTy).Contents (Elt Ideal)) (i : S2048x1156.Idx) :
    val_main_v52 (F := Ideal) x9 x10 i = first (x9 i) (x10 i) := by
  simp only [val_main_v52_apply, val_main_v49_apply, val_main_v51_apply, val_main_v48_apply, val_main_v50_apply, val_main_cst_15_apply, val_main_cst_16_apply]
  rfl

theorem ref2_second (x9 x11 : (⟨S2048x1156, .f32⟩ : BufTy).Contents (Elt Ideal)) (i : S2048x1156.Idx) :
    val_main_v58 (F := Ideal) x9 x11 i = second (x9 i) (x11 i) := by
  simp only [val_main_v58_apply, val_main_v54_apply, val_main_v57_apply, val_main_v53_apply, val_main_v55_apply, val_main_v56_apply, val_main_cst_17_apply, val_main_cst_18_apply]
  rfl

theorem ref2_step (x8 x9 x10 x11 : (⟨S2048x1156, .f32⟩ : BufTy).Contents (Elt Ideal)) (i : S2048x1156.Idx) :
    val_main_v71 (F := Ideal) x8 x9 x10 x11 i = step (x8 i) (x9 i) (x10 i) (x11 i) := by
  simp only [val_main_v71_apply, val_main_v70_apply, val_main_v69_apply, val_main_v68_apply, val_main_v67_apply, val_main_v66_apply, val_main_v65_apply, val_main_v64_apply, val_main_v63_apply, val_main_v62_apply, val_main_v61_apply, val_main_v60_apply, val_main_v59_apply, val_main_cst_19_apply, val_main_cst_20_apply, val_main_cst_21_apply, val_main_cst_22_apply, val_main_cst_18_apply, ref2_first, ref2_second]
  rfl

theorem ref3_first (x13 x14 : (⟨S512x2048, .f32⟩ : BufTy).Contents (Elt Ideal)) (i : S512x2048.Idx) :
    val_main_v76 (F := Ideal) x13 x14 i = first (x13 i) (x14 i) := by
  simp only [val_main_v76_apply, val_main_v73_apply, val_main_v75_apply, val_main_v72_apply, val_main_v74_apply, val_main_cst_23_apply, val_main_cst_24_apply]
  rfl

theorem ref3_second (x13 x15 : (⟨S512x2048, .f32⟩ : BufTy).Contents (Elt Ideal)) (i : S512x2048.Idx) :
    val_main_v82 (F := Ideal) x13 x15 i = second (x13 i) (x15 i) := by
  simp only [val_main_v82_apply, val_main_v78_apply, val_main_v81_apply, val_main_v77_apply, val_main_v79_apply, val_main_v80_apply, val_main_cst_25_apply, val_main_cst_26_apply]
  rfl

theorem ref3_step (x12 x13 x14 x15 : (⟨S512x2048, .f32⟩ : BufTy).Contents (Elt Ideal)) (i : S512x2048.Idx) :
    val_main_v95 (F := Ideal) x12 x13 x14 x15 i = step (x12 i) (x13 i) (x14 i) (x15 i) := by
  simp only [val_main_v95_apply, val_main_v94_apply, val_main_v93_apply, val_main_v92_apply, val_main_v91_apply, val_main_v90_apply, val_main_v89_apply, val_main_v88_apply, val_main_v87_apply, val_main_v86_apply, val_main_v85_apply, val_main_v84_apply, val_main_v83_apply, val_main_cst_27_apply, val_main_cst_28_apply, val_main_cst_29_apply, val_main_cst_30_apply, val_main_cst_26_apply, ref3_first, ref3_second]
  rfl

end

open Idealize.ShloMosaic.TcCoe Cert.Kernel9Ideal Cert.Kernel9Ideal.Gen

variable (m : (ℓ : Loc Cert.Kernel9Ideal.nD Cert.Kernel9Ideal.τ Cert.Kernel9Ideal.sig) → Buf (Elt Ideal) ℓ) (ρ : Dev Cert.Kernel9Ideal.nD → PrngReg) (c : Dev Cert.Kernel9Ideal.nD)

/-! ## The output arrays, from the program's arguments -/

theorem left0_5 : (dat0 (V0 m ρ) c).arrAt 5 cfg0.N = fun i : Cert.Kernel9Ideal.S2048x1408.Idx => step (m ((c.tc : Thread nD τ).loc main_arg0) i) (m ((c.tc : Thread nD τ).loc main_arg1) i) (m ((c.tc : Thread nD τ).loc main_arg2) i) (m ((c.tc : Thread nD τ).loc main_arg3) i) := by
  rw [arr0_5, show V0 m ρ c main_arg0 = m ((c.tc : Thread nD τ).loc main_arg0) from W0_args m ρ c main_arg0 (by decide), show V0 m ρ c main_arg1 = m ((c.tc : Thread nD τ).loc main_arg1) from W0_args m ρ c main_arg1 (by decide), show V0 m ρ c main_arg2 = m ((c.tc : Thread nD τ).loc main_arg2) from W0_args m ρ c main_arg2 (by decide), show V0 m ρ c main_arg3 = m ((c.tc : Thread nD τ).loc main_arg3) from W0_args m ρ c main_arg3 (by decide)]

theorem left0_6 : (dat0 (V0 m ρ) c).arrAt 6 cfg0.N = fun i : Cert.Kernel9Ideal.S2048x1408.Idx => first (m ((c.tc : Thread nD τ).loc main_arg1) i) (m ((c.tc : Thread nD τ).loc main_arg2) i) := by
  rw [arr0_6, show V0 m ρ c main_arg1 = m ((c.tc : Thread nD τ).loc main_arg1) from W0_args m ρ c main_arg1 (by decide), show V0 m ρ c main_arg2 = m ((c.tc : Thread nD τ).loc main_arg2) from W0_args m ρ c main_arg2 (by decide)]

theorem left0_7 : (dat0 (V0 m ρ) c).arrAt 7 cfg0.N = fun i : Cert.Kernel9Ideal.S2048x1408.Idx => second (m ((c.tc : Thread nD τ).loc main_arg1) i) (m ((c.tc : Thread nD τ).loc main_arg3) i) := by
  rw [arr0_7, show V0 m ρ c main_arg1 = m ((c.tc : Thread nD τ).loc main_arg1) from W0_args m ρ c main_arg1 (by decide), show V0 m ρ c main_arg3 = m ((c.tc : Thread nD τ).loc main_arg3) from W0_args m ρ c main_arg3 (by decide)]

theorem left1_5 : (dat1 (V1 m ρ) c).arrAt 5 cfg1.N = fun i : Cert.Kernel9Ideal.S1408x2048.Idx => step (m ((c.tc : Thread nD τ).loc main_arg4) i) (m ((c.tc : Thread nD τ).loc main_arg5) i) (m ((c.tc : Thread nD τ).loc main_arg6) i) (m ((c.tc : Thread nD τ).loc main_arg7) i) := by
  rw [arr1_5, show V1 m ρ c main_arg4 = m ((c.tc : Thread nD τ).loc main_arg4) from W1_args m ρ c main_arg4 (by decide), show V1 m ρ c main_arg5 = m ((c.tc : Thread nD τ).loc main_arg5) from W1_args m ρ c main_arg5 (by decide), show V1 m ρ c main_arg6 = m ((c.tc : Thread nD τ).loc main_arg6) from W1_args m ρ c main_arg6 (by decide), show V1 m ρ c main_arg7 = m ((c.tc : Thread nD τ).loc main_arg7) from W1_args m ρ c main_arg7 (by decide)]

theorem left1_6 : (dat1 (V1 m ρ) c).arrAt 6 cfg1.N = fun i : Cert.Kernel9Ideal.S1408x2048.Idx => first (m ((c.tc : Thread nD τ).loc main_arg5) i) (m ((c.tc : Thread nD τ).loc main_arg6) i) := by
  rw [arr1_6, show V1 m ρ c main_arg5 = m ((c.tc : Thread nD τ).loc main_arg5) from W1_args m ρ c main_arg5 (by decide), show V1 m ρ c main_arg6 = m ((c.tc : Thread nD τ).loc main_arg6) from W1_args m ρ c main_arg6 (by decide)]

theorem left1_7 : (dat1 (V1 m ρ) c).arrAt 7 cfg1.N = fun i : Cert.Kernel9Ideal.S1408x2048.Idx => second (m ((c.tc : Thread nD τ).loc main_arg5) i) (m ((c.tc : Thread nD τ).loc main_arg7) i) := by
  rw [arr1_7, show V1 m ρ c main_arg5 = m ((c.tc : Thread nD τ).loc main_arg5) from W1_args m ρ c main_arg5 (by decide), show V1 m ρ c main_arg7 = m ((c.tc : Thread nD τ).loc main_arg7) from W1_args m ρ c main_arg7 (by decide)]

theorem left2_5 : (dat2 (V2 m ρ) c).arrAt 5 cfg2.N = fun i : Cert.Kernel9Ideal.S2048x1156.Idx => step (m ((c.tc : Thread nD τ).loc main_arg8) i) (m ((c.tc : Thread nD τ).loc main_arg9) i) (m ((c.tc : Thread nD τ).loc main_arg10) i) (m ((c.tc : Thread nD τ).loc main_arg11) i) := by
  rw [arr2_5, show V2 m ρ c main_arg8 = m ((c.tc : Thread nD τ).loc main_arg8) from W2_args m ρ c main_arg8 (by decide), show V2 m ρ c main_arg9 = m ((c.tc : Thread nD τ).loc main_arg9) from W2_args m ρ c main_arg9 (by decide), show V2 m ρ c main_arg10 = m ((c.tc : Thread nD τ).loc main_arg10) from W2_args m ρ c main_arg10 (by decide), show V2 m ρ c main_arg11 = m ((c.tc : Thread nD τ).loc main_arg11) from W2_args m ρ c main_arg11 (by decide)]

theorem left2_6 : (dat2 (V2 m ρ) c).arrAt 6 cfg2.N = fun i : Cert.Kernel9Ideal.S2048x1156.Idx => first (m ((c.tc : Thread nD τ).loc main_arg9) i) (m ((c.tc : Thread nD τ).loc main_arg10) i) := by
  rw [arr2_6, show V2 m ρ c main_arg9 = m ((c.tc : Thread nD τ).loc main_arg9) from W2_args m ρ c main_arg9 (by decide), show V2 m ρ c main_arg10 = m ((c.tc : Thread nD τ).loc main_arg10) from W2_args m ρ c main_arg10 (by decide)]

theorem left2_7 : (dat2 (V2 m ρ) c).arrAt 7 cfg2.N = fun i : Cert.Kernel9Ideal.S2048x1156.Idx => second (m ((c.tc : Thread nD τ).loc main_arg9) i) (m ((c.tc : Thread nD τ).loc main_arg11) i) := by
  rw [arr2_7, show V2 m ρ c main_arg9 = m ((c.tc : Thread nD τ).loc main_arg9) from W2_args m ρ c main_arg9 (by decide), show V2 m ρ c main_arg11 = m ((c.tc : Thread nD τ).loc main_arg11) from W2_args m ρ c main_arg11 (by decide)]

theorem left3_5 : (dat3 (V3 m ρ) c).arrAt 5 cfg3.N = fun i : Cert.Kernel9Ideal.S512x2048.Idx => step (m ((c.tc : Thread nD τ).loc main_arg12) i) (m ((c.tc : Thread nD τ).loc main_arg13) i) (m ((c.tc : Thread nD τ).loc main_arg14) i) (m ((c.tc : Thread nD τ).loc main_arg15) i) := by
  rw [arr3_5, show V3 m ρ c main_arg12 = m ((c.tc : Thread nD τ).loc main_arg12) from W3_args m ρ c main_arg12 (by decide), show V3 m ρ c main_arg13 = m ((c.tc : Thread nD τ).loc main_arg13) from W3_args m ρ c main_arg13 (by decide), show V3 m ρ c main_arg14 = m ((c.tc : Thread nD τ).loc main_arg14) from W3_args m ρ c main_arg14 (by decide), show V3 m ρ c main_arg15 = m ((c.tc : Thread nD τ).loc main_arg15) from W3_args m ρ c main_arg15 (by decide)]

theorem left3_6 : (dat3 (V3 m ρ) c).arrAt 6 cfg3.N = fun i : Cert.Kernel9Ideal.S512x2048.Idx => first (m ((c.tc : Thread nD τ).loc main_arg13) i) (m ((c.tc : Thread nD τ).loc main_arg14) i) := by
  rw [arr3_6, show V3 m ρ c main_arg13 = m ((c.tc : Thread nD τ).loc main_arg13) from W3_args m ρ c main_arg13 (by decide), show V3 m ρ c main_arg14 = m ((c.tc : Thread nD τ).loc main_arg14) from W3_args m ρ c main_arg14 (by decide)]

theorem left3_7 : (dat3 (V3 m ρ) c).arrAt 7 cfg3.N = fun i : Cert.Kernel9Ideal.S512x2048.Idx => second (m ((c.tc : Thread nD τ).loc main_arg13) i) (m ((c.tc : Thread nD τ).loc main_arg15) i) := by
  rw [arr3_7, show V3 m ρ c main_arg13 = m ((c.tc : Thread nD τ).loc main_arg13) from W3_args m ρ c main_arg13 (by decide), show V3 m ρ c main_arg15 = m ((c.tc : Thread nD τ).loc main_arg15) from W3_args m ρ c main_arg15 (by decide)]

/-- Over the reals the four calls compute the update and the two new moments that the plain optimiser computes of the four
    weights. -/
theorem equal9 : Cert.algebraic_Kernel9Ideal_Reference9Ideal := by
  intro m g m' g' hp ha
  refine ⟨_, _, _, _, _, _, _, _, _, _, _, _, run_results m g, ?_⟩
  refine (θ_run Cert.Reference9Ideal.defs _ _).mono (fun r h c => ?_) (Cert.Reference9Ideal.Value.run (F := Ideal) m' g')
  obtain ⟨a0, a1, a2, a3, a4, a5, a6, a7, a8, a9, a10, a11, a12, a13, a14, a15⟩ := ha c
  obtain ⟨r0, r1, r2, r3, r4, r5, r6, r7, r8, r9, r10, r11, rest⟩ := h c
  rw [Cert.Reference9Ideal.Read.val_main_v23_eq, a0, a1, a2, a3] at r0
  rw [Cert.Reference9Ideal.Read.val_main_v4_eq, a1, a2] at r1
  rw [Cert.Reference9Ideal.Read.val_main_v10_eq, a1, a3] at r2
  rw [Cert.Reference9Ideal.Read.val_main_v47_eq, a4, a5, a6, a7] at r3
  rw [Cert.Reference9Ideal.Read.val_main_v28_eq, a5, a6] at r4
  rw [Cert.Reference9Ideal.Read.val_main_v34_eq, a5, a7] at r5
  rw [Cert.Reference9Ideal.Read.val_main_v71_eq, a8, a9, a10, a11] at r6
  rw [Cert.Reference9Ideal.Read.val_main_v52_eq, a9, a10] at r7
  rw [Cert.Reference9Ideal.Read.val_main_v58_eq, a9, a11] at r8
  rw [Cert.Reference9Ideal.Read.val_main_v95_eq, a12, a13, a14, a15] at r9
  rw [Cert.Reference9Ideal.Read.val_main_v76_eq, a13, a14] at r10
  rw [Cert.Reference9Ideal.Read.val_main_v82_eq, a13, a15] at r11
  exact ⟨r0.trans ((funext fun i => ref0_step ..).trans (left0_5 m g c).symm),
    r1.trans ((funext fun i => ref0_first ..).trans (left0_6 m g c).symm),
    r2.trans ((funext fun i => ref0_second ..).trans (left0_7 m g c).symm),
    r3.trans ((funext fun i => ref1_step ..).trans (left1_5 m g c).symm),
    r4.trans ((funext fun i => ref1_first ..).trans (left1_6 m g c).symm),
    r5.trans ((funext fun i => ref1_second ..).trans (left1_7 m g c).symm),
    r6.trans ((funext fun i => ref2_step ..).trans (left2_5 m g c).symm),
    r7.trans ((funext fun i => ref2_first ..).trans (left2_6 m g c).symm),
    r8.trans ((funext fun i => ref2_second ..).trans (left2_7 m g c).symm),
    r9.trans ((funext fun i => ref3_step ..).trans (left3_5 m g c).symm),
    r10.trans ((funext fun i => ref3_first ..).trans (left3_6 m g c).symm),
    r11.trans ((funext fun i => ref3_second ..).trans (left3_7 m g c).symm), rest⟩

end Cert.Adam

end
-- ==== Proof.Loss.lean ====
/- The loss head's call: the differences of the rows and their targets, scaled into a gradient, and a running sum of their squares
   over the four tiles of rows, scaled into the loss. -/
module

public import proofs.«01_k».proof.Proof.Gen.Kernel10Ideal.Frame
public import proofs.«01_k».proof.Proof.NormMath

@[expose] public section

set_option maxRecDepth 16384

noncomputable section

namespace Cert.Loss

open Idealize.ShloMosaic Idealize.ShloMosaic.TcCoe Idealize.SL.Sem Cert.Kernel10Ideal Cert.Kernel10Ideal.Gen Cert.Products
open Cert.Norm (quarter)

/-! ## What a grid point stores -/

theorem pay_dy (x0 x1 : Vec Ideal S512x2048 .f32) (y : S512x2048.Idx) :
    k0_pay2 x0 x1 y = ((x0 y - x1 y) * Ideal.ofBits .f32 0x3A000000#32 : EReal) := by
  unfold_payloads; pointwise
theorem pay_cast (x0 x1 : Vec Ideal S512x2048 .f32) (y : S512x2048.Idx) :
    k0_pay3 x0 x1 y = ((x0 y - x1 y) * Ideal.ofBits .f32 0x3A000000#32 : EReal) := by
  unfold_payloads; pointwise
theorem pay_zero : k0_pay4 (F := Ideal) (ix2 0 0) = (0 : EReal) := by
  unfold_payloads; pointwise
theorem pay_sum (x0 x1 : Vec Ideal S512x2048 .f32) (s : Vec Ideal S1x1 .f32) :
    k0_pay5 x0 x1 s (ix2 0 0) = (s (ix2 0 0) + (∑ b : Fin 2048, ∑ a : Fin 512,
      (x0 (ix2 a b) - x1 (ix2 a b)) * (x0 (ix2 a b) - x1 (ix2 a b))) * Ideal.ofBits .f32 0x39800000#32 : EReal) := by
  unfold_payloads; pointwise

section
variable {c : Dev nD} {i : grid0.Coords} {m0 : Memref Cert.Kernel10Ideal.sig .tc .vmem S512x2048 .f32} {h0 : m0.IsWhole}
  {m1 : Memref Cert.Kernel10Ideal.sig .tc .vmem S512x2048 .f32} {h1 : m1.IsWhole} {m2 : Memref Cert.Kernel10Ideal.sig .tc .vmem S1x1 .f32} {h2 : m2.IsWhole}
  {m3 : Memref Cert.Kernel10Ideal.sig .tc .vmem S512x2048 .f32} {h3 : m3.IsWhole} {m4 : Memref Cert.Kernel10Ideal.sig .tc .vmem S512x2048 .bf16} {h4 : m4.IsWhole}
  (x0 x1 : Vec Ideal S512x2048 .f32)

/-- The gradient at the first tile, and at a later one. -/
theorem dy_first {p : cond0_0 i} : out0_A_3 c i m0 h0 m1 h1 m2 h2 m3 h3 m4 h4 p x0 x1 = k0_pay2 x0 x1 := by
  unfold out0_A_3
  rw [View.read_writes_eq_canon _ _ _ (fun y => cover0_A_3 (y := y) ..)]
  unfold kernelRun0_A
  dsimp only
  sl_unfold_words
  simp only [View.readAt_eq_ld, h0.read_unread, h1.read_unread]
  rw [View.canon_unit_zero zeros2, View.ld_unit_zero zeros2, View.ld_unit_zero zeros2]
theorem dy_next {p : ¬cond0_0 i} (s : Vec Ideal S1x1 .f32) : out0_B_3 c i m0 h0 m1 h1 m2 h2 m3 h3 m4 h4 p x0 x1 s = k0_pay2 x0 x1 := by
  unfold out0_B_3
  rw [View.read_writes_eq_canon _ _ _ (fun y => cover0_B_3 (y := y) ..)]
  unfold kernelRun0_B
  dsimp only
  sl_unfold_words
  simp only [View.readAt_eq_ld, h0.read_unread, h1.read_unread]
  rw [View.canon_unit_zero zeros2, View.ld_unit_zero zeros2, View.ld_unit_zero zeros2]

/-- The same gradient in the narrower format. -/
theorem cast_first {p : cond0_0 i} : out0_A_4 c i m0 h0 m1 h1 m2 h2 m3 h3 m4 h4 p x0 x1 = k0_pay3 x0 x1 := by
  unfold out0_A_4
  rw [View.read_writes_eq_canon _ _ _ (fun y => cover0_A_4 (y := y) ..)]
  unfold kernelRun0_A
  dsimp only
  sl_unfold_words
  simp only [View.readAt_eq_ld, h0.read_unread, h1.read_unread]
  rw [View.canon_unit_zero zeros2, View.ld_unit_zero zeros2, View.ld_unit_zero zeros2]
theorem cast_next {p : ¬cond0_0 i} (s : Vec Ideal S1x1 .f32) : out0_B_4 c i m0 h0 m1 h1 m2 h2 m3 h3 m4 h4 p x0 x1 s = k0_pay3 x0 x1 := by
  unfold out0_B_4
  rw [View.read_writes_eq_canon _ _ _ (fun y => cover0_B_4 (y := y) ..)]
  unfold kernelRun0_B
  dsimp only
  sl_unfold_words
  simp only [View.readAt_eq_ld, h0.read_unread, h1.read_unread]
  rw [View.canon_unit_zero zeros2, View.ld_unit_zero zeros2, View.ld_unit_zero zeros2]

/-- The sum starts from zero at the first tile and each later tile adds to what the tile before left. -/
theorem sum_first {p : cond0_0 i} : out0_A_2 c i m0 h0 m1 h1 m2 h2 m3 h3 m4 h4 p x0 x1 = k0_pay5 x0 x1 (k0_pay4 (F := Ideal)) := by
  unfold out0_A_2
  rw [View.read_writes_eq_canon _ _ _ (fun y => cover0_A_2 (y := y) ..)]
  unfold kernelRun0_A
  dsimp only
  sl_unfold_words
  simp only [View.readAt_eq_ld, h0.read_unread, h1.read_unread]
  rw [View.canon_cons_unit_zero zeros2, View.readCov_unit_zero _ zeros2, View.ld_unit_zero zeros2, View.ld_unit_zero zeros2]
theorem sum_next {p : ¬cond0_0 i} (s : Vec Ideal S1x1 .f32) : out0_B_2 c i m0 h0 m1 h1 m2 h2 m3 h3 m4 h4 p x0 x1 s = k0_pay5 x0 x1 s := by
  unfold out0_B_2
  rw [View.read_writes_eq_canon _ _ _ (fun y => cover0_B_2 (y := y) ..)]
  unfold kernelRun0_B
  dsimp only
  sl_unfold_words
  simp only [View.readAt_eq_ld, h0.read_unread, h1.read_unread, h2.read_unread]
  rw [View.canon_unit_zero zeros2, View.ld_unit_zero zeros2, View.ld_unit_zero zeros2, View.ld_unit_zero zeros2]
end

/-! ## Where the blocks lie -/

theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem emb_0 (t : Fin cfg0.N) (a : Fin 512) (b : Fin 2048) : ((cfg0.win 0).blk t).view.emb (ix2 a b : S512x2048.Idx) = ix2 (quarter t a) b := by
  obtain ⟨e0, e1, -⟩ := idx_rows t
  funext x; apply Fin.ext
  match x with
  | ⟨0, _⟩ => show win0_0.index t (0 : Fin 2) * 512 + 1 * a.val = 512 * t.val + a.val; omega
  | ⟨1, _⟩ => show win0_0.index t (1 : Fin 2) * 2048 + 1 * b.val = b.val; omega
theorem emb_1 (t : Fin cfg0.N) (a : Fin 512) (b : Fin 2048) : ((cfg0.win 1).blk t).view.emb (ix2 a b : S512x2048.Idx) = ix2 (quarter t a) b := by
  obtain ⟨-, -, e0, e1, -⟩ := idx_rows t
  funext x; apply Fin.ext
  match x with
  | ⟨0, _⟩ => show win0_1.index t (0 : Fin 2) * 512 + 1 * a.val = 512 * t.val + a.val; omega
  | ⟨1, _⟩ => show win0_1.index t (1 : Fin 2) * 2048 + 1 * b.val = b.val; omega
theorem emb_3 (t : Fin cfg0.N) (a : Fin 512) (b : Fin 2048) : ((cfg0.win 3).blk t).view.emb (ix2 a b : S512x2048.Idx) = ix2 (quarter t a) b := by
  obtain ⟨-, -, -, -, e0, e1, -⟩ := idx_rows t
  funext x; apply Fin.ext
  match x with
  | ⟨0, _⟩ => show win0_3.index t (0 : Fin 2) * 512 + 1 * a.val = 512 * t.val + a.val; omega
  | ⟨1, _⟩ => show win0_3.index t (1 : Fin 2) * 2048 + 1 * b.val = b.val; omega
theorem emb_4 (t : Fin cfg0.N) (a : Fin 512) (b : Fin 2048) : ((cfg0.win 4).blk t).view.emb (ix2 a b : S512x2048.Idx) = ix2 (quarter t a) b := by
  obtain ⟨-, -, -, -, -, -, e0, e1⟩ := idx_rows t
  funext x; apply Fin.ext
  match x with
  | ⟨0, _⟩ => show win0_4.index t (0 : Fin 2) * 512 + 1 * a.val = 512 * t.val + a.val; omega
  | ⟨1, _⟩ => show win0_4.index t (1 : Fin 2) * 2048 + 1 * b.val = b.val; omega

variable (m : (ℓ : Loc nD τ Cert.Kernel10Ideal.sig) → Buf (Elt Ideal) ℓ) (ρ : Dev nD → PrngReg) (c : Dev nD)

/-- An entry of the rows, and of their targets. -/
def row (i k : Fin 2048) : EReal := m ((c.tc : Thread nD τ).loc main_arg0) (ix2 i k)
def goal (i k : Fin 2048) : EReal := m ((c.tc : Thread nD τ).loc main_arg1) (ix2 i k)

/-- The difference of a row and its target. -/
def err (i k : Fin 2048) : EReal := row m c i k - goal m c i k

/-- The same entries off a tile of rows. -/
theorem in_row (t : Fin cfg0.N) (a : Fin 512) (b : Fin 2048) : iblk m c 0 t (ix2 a b : S512x2048.Idx) = row m c (quarter t a) b := by
  show V m c main_arg0 (((cfg0.win 0).blk t).view.emb (ix2 a b : S512x2048.Idx)) = _
  rw [emb_0, V_main_arg0]; rfl
theorem in_goal (t : Fin cfg0.N) (a : Fin 512) (b : Fin 2048) : iblk m c 1 t (ix2 a b : S512x2048.Idx) = goal m c (quarter t a) b := by
  show V m c main_arg1 (((cfg0.win 1).blk t).view.emb (ix2 a b : S512x2048.Idx)) = _
  rw [emb_1, V_main_arg1]; rfl

/-! ## The running sum -/

/-- What one tile adds. -/
def part (j : Fin 4) : EReal := (∑ b : Fin 2048, ∑ a : Fin 512, err m c (quarter j a) b * err m c (quarter j a) b) * Ideal.ofBits .f32 0x39800000#32

theorem block (t : Fin cfg0.N) (s : Vec Ideal S1x1 .f32) :
    k0_pay5 (iblk m c 0 t) (iblk m c 1 t) s (ix2 0 0) = (s (ix2 0 0) + part m c t : EReal) := by
  refine (pay_sum ..).trans (congrArg (fun z : EReal => (s (ix2 0 0) : EReal) + z * Ideal.ofBits .f32 0x39800000#32) ?_)
  refine Finset.sum_congr rfl fun b _ => Finset.sum_congr rfl fun a _ => ?_
  rw [in_row, in_goal]; rfl

theorem first (t : Fin cfg0.N) (h : t.val % 4 = 0) : (outsAt0 m c t.val t.isLt).1 (ix2 0 0) = part m c t := by
  rw [outsAt0_A m c t h]
  dsimp only
  rw [sum_first, block, pay_zero, zero_add]

theorem outs_congr {n n' : ℕ} (h : n = n') (p : n < cfg0.N) (p' : n' < cfg0.N) : outsAt0 m c n p = outsAt0 m c n' p' := by subst h; rfl

theorem next (t t' : Fin cfg0.N) (h : ¬t.val % 4 = 0) (e : t.val - 1 = t'.val) :
    (outsAt0 m c t.val t.isLt).1 (ix2 0 0) = ((outsAt0 m c t'.val t'.isLt).1 (ix2 0 0) + part m c t : EReal) := by
  rw [outsAt0_B m c t h]
  dsimp only
  rw [sum_next, block, outs_congr m c e _ t'.isLt]

/-- What is written back: the four tiles' sum. -/
theorem flushed (t : Fin cfg0.N) (h : t.val % 4 = 3) :
    (outsAt0 m c t.val t.isLt).1 (ix2 0 0) = part m c 0 + part m c 1 + part m c 2 + part m c 3 := by
  have hl : t.val < 4 := t.isLt
  obtain rfl : t = (3 : Fin 4) := Fin.ext (by show t.val = 3; omega)
  rw [next m c (3 : Fin 4) (2 : Fin 4) (by decide) (by decide), next m c (2 : Fin 4) (1 : Fin 4) (by decide) (by decide),
    next m c (1 : Fin 4) (0 : Fin 4) (by decide) (by decide), first m c (0 : Fin 4) (by decide)]

/-! ## The arrays the call leaves -/

theorem result_loss : (dats m 0 c).arrAt 2 cfg0.N = fun _ : S1x1.Idx => (part m c 0 + part m c 1 + part m c 2 + part m c 3 : EReal) := by
  refine (dats m 0 c).arrAt_eq_of_covers 2 _ (by decide +kernel) fun t hf y => ?_
  suffices hs : ∀ y : S1x1.Idx, (dats m 0 c).after 2 t y
      = (fun _ : S1x1.Idx => (part m c 0 + part m c 1 + part m c 2 + part m c 3 : EReal)) (((cfg0.win 2).blk t).view.emb y) from hs y
  intro y
  obtain ⟨a, b, rfl⟩ := exists2 (m := 1) (n := 1) y
  obtain rfl : a = 0 := Subsingleton.elim _ _
  obtain rfl : b = 0 := Subsingleton.elim _ _
  rw [after0_2]
  exact flushed m c t (by have := (flush0_2 t).mp hf; omega)

theorem result_dy : (dats m 0 c).arrAt 3 cfg0.N = fun i : S2048x2048.Idx => (err m c (i 0) (i 1) * Ideal.ofBits .f32 0x3A000000#32 : EReal) := by
  refine (dats m 0 c).arrAt_eq_of_covers 3 _ (by decide +kernel) fun t hf y => ?_
  suffices hs : ∀ y : S512x2048.Idx, (dats m 0 c).after 3 t y
      = (fun i : S2048x2048.Idx => (err m c (i 0) (i 1) * Ideal.ofBits .f32 0x3A000000#32 : EReal)) (((cfg0.win 3).blk t).view.emb y) from hs y
  intro y
  obtain ⟨a, b, rfl⟩ := exists2 (m := 512) (n := 2048) y
  rw [emb_3, after0_3]
  have e : (outsAt0 m c t.val t.isLt).2.1 = k0_pay2 (iblk m c 0 t) (iblk m c 1 t) := by
    by_cases h : t.val % 4 = 0
    · rw [outsAt0_A m c t h]; dsimp only; rw [dy_first]
    · rw [outsAt0_B m c t h]; dsimp only; rw [dy_next]
  rw [e]
  refine (pay_dy ..).trans ?_
  rw [in_row, in_goal]; rfl

theorem result_cast : (dats m 0 c).arrAt 4 cfg0.N = fun i : S2048x2048.Idx => (err m c (i 0) (i 1) * Ideal.ofBits .f32 0x3A000000#32 : EReal) := by
  refine (dats m 0 c).arrAt_eq_of_covers 4 _ (by decide +kernel) fun t hf y => ?_
  suffices hs : ∀ y : S512x2048.Idx, (dats m 0 c).after 4 t y
      = (fun i : S2048x2048.Idx => (err m c (i 0) (i 1) * Ideal.ofBits .f32 0x3A000000#32 : EReal)) (((cfg0.win 4).blk t).view.emb y) from hs y
  intro y
  obtain ⟨a, b, rfl⟩ := exists2 (m := 512) (n := 2048) y
  rw [emb_4, after0_4]
  have e : (outsAt0 m c t.val t.isLt).2.2 = k0_pay3 (iblk m c 0 t) (iblk m c 1 t) := by
    by_cases h : t.val % 4 = 0
    · rw [outsAt0_A m c t h]; dsimp only; rw [cast_first]
    · rw [outsAt0_B m c t h]; dsimp only; rw [cast_next]
  rw [e]
  refine (pay_cast ..).trans ?_
  rw [in_row, in_goal]; rfl

/-! ## The run -/

/-- The loss that the host reads out of the one-element array. -/
theorem left_loss : Pipeline.afterTail₀ cfgs (dats m) 0 (V0 m) [hostOps1] c main_v1
    = fun _ : S_.Idx => (part m c 0 + part m c 1 + part m c 2 + part m c 3 : EReal) := by
  show StableHlo.after hostOps1 _ (Proc.devRef .tc main_v1) = _
  simp only [hostOps1]
  after_results
  rw [Pipeline.withArrays_arr spec0 launch0.win.arr_inj c _ _ 2, result_loss]
  rfl

/-- The three results and the arguments when the program is done. -/
theorem run_results : θ_run defs (onTc (τ := τ) (main (F := Ideal))) ⟨m, fun _ => 0, ρ⟩ (fun r => ∀ c : Dev nD,
      r.2.mem ((c.tc : Thread nD τ).loc main_v1) = (fun _ : S_.Idx => (part m c 0 + part m c 1 + part m c 2 + part m c 3 : EReal))
      ∧ r.2.mem ((c.tc : Thread nD τ).loc main_v0_1) = (fun i : S2048x2048.Idx => (err m c (i 0) (i 1) * Ideal.ofBits .f32 0x3A000000#32 : EReal))
      ∧ r.2.mem ((c.tc : Thread nD τ).loc main_v0_2) = (fun i : S2048x2048.Idx => (err m c (i 0) (i 1) * Ideal.ofBits .f32 0x3A000000#32 : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v1 (Pipeline.mem_restRefs_of main_v1 (by decide) (by decide))).trans (left_loss m c),
     ((h c).1 3).trans (result_dy m c), ((h c).1 4).trans (result_cast m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩) (run_main m ρ)

end Cert.Loss

end
-- ==== Proof.LossClaims.lean ====
/- The loss head's call computes the loss and the gradient that the plain formula and its derivative give, whatever the arguments
   hold. -/
module

public import proofs.«01_k».proof.Defs
public import proofs.«01_k».proof.Proof.Gen.Reference10Ideal.Run
public import proofs.«01_k».proof.Proof.Gen.Reference10Ideal.Read
public import proofs.«01_k».proof.Proof.Loss
public import proofs.«01_k».proof.Proof.NormClaims
public import Idealize.ShloMosaic.Adequacy
public import Idealize.ShloMosaic.Init

@[expose] public section

noncomputable section

namespace Cert.Loss

open Idealize.ShloMosaic Idealize.SL.Sem
open Cert.Norm (quarter read1 mul_sum sum_quarters width_bits)
open Cert.Fox (read2 zero_bits)

/-- The reference runs, keeps its arguments, and has no counters to leave. -/
theorem frame_reference10 : Cert.quiescent_Reference10Ideal := fun m ρ _ =>
  (θ_run Cert.Reference10Ideal.defs _ _).mono (fun r h => ⟨fun c => (h c).2.2.2, sem_eq_zero_of_no_sems (by decide) r.2⟩)
    (Cert.Reference10Ideal.Value.run (F := Ideal) m ρ)

/-! ## The constants -/

theorem bits_4096 : Ideal.ofBits .f32 0x39800000#32 = ((1 / 4096 : ℝ) : EReal) := by
  simp [Ideal.ofBits, Ideal.ieee, -EReal.coe_mul]; norm_num
theorem bits_2048 : Ideal.ofBits .f32 0x3A000000#32 = ((1 / 2048 : ℝ) : EReal) := by
  simp [Ideal.ofBits, Ideal.ieee, -EReal.coe_mul]; norm_num
theorem bits_half : Ideal.ofBits .f32 0x3F000000#32 = ((1 / 2 : ℝ) : EReal) := by
  simp [Ideal.ofBits, Ideal.ieee, -EReal.coe_mul]; norm_num
theorem bits_one : Ideal.ofBits .f32 0x3F800000#32 = ((1 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num

/-! ## The two forms of the loss -/

/-- The scaled sums of the four tiles' squares are half the sum over the rows of the rows' mean squares. -/
theorem loss_eq (e : Fin 2048 → Fin 2048 → EReal) :
    Ideal.ofBits .f32 0x3F000000#32 * ∑ i, Ideal.div (∑ k, e i k * e i k) (Ideal.ofBits .f32 0x45000000#32)
      = (∑ b : Fin 2048, ∑ a : Fin 512, e (quarter 0 a) b * e (quarter 0 a) b) * Ideal.ofBits .f32 0x39800000#32
        + (∑ b : Fin 2048, ∑ a : Fin 512, e (quarter 1 a) b * e (quarter 1 a) b) * Ideal.ofBits .f32 0x39800000#32
        + (∑ b : Fin 2048, ∑ a : Fin 512, e (quarter 2 a) b * e (quarter 2 a) b) * Ideal.ofBits .f32 0x39800000#32
        + (∑ b : Fin 2048, ∑ a : Fin 512, e (quarter 3 a) b * e (quarter 3 a) b) * Ideal.ofBits .f32 0x39800000#32 := by
  have tile : ∀ j : Fin 4, (∑ b : Fin 2048, ∑ a : Fin 512, e (quarter j a) b * e (quarter j a) b) * Ideal.ofBits .f32 0x39800000#32
      = ∑ a : Fin 512, ((1 / 4096 : ℝ) : EReal) * ∑ b, e (quarter j a) b * e (quarter j a) b := fun j => by
    rw [bits_4096, mul_comm, Finset.sum_comm, mul_sum (by norm_num)]
  rw [tile, tile, tile, tile, ← sum_quarters fun i => ((1 / 4096 : ℝ) : EReal) * ∑ b, e i b * e i b, bits_half, width_bits, mul_sum (by norm_num)]
  refine Finset.sum_congr rfl fun i _ => ?_
  rw [Ideal.div_coe (by norm_num), mul_comm (∑ k, e i k * e i k), ← mul_assoc, ← EReal.coe_mul]
  norm_num

/-- The two forms of the gradient. -/
theorem grad_eq (e : EReal) :
    Ideal.div (Ideal.ofBits .f32 0x3F000000#32 * Ideal.ofBits .f32 0x3F800000#32) (Ideal.ofBits .f32 0x45000000#32) * (Ideal.ofBits .f32 0x40000000#32 * e)
      = e * Ideal.ofBits .f32 0x3A000000#32 := by
  rw [bits_half, bits_one, width_bits, bits_two, bits_2048, Ideal.div_coe (by norm_num), ← EReal.coe_mul, ← EReal.coe_mul, ← mul_assoc, ← EReal.coe_mul, mul_comm e]
  norm_num

/-! ## The reference, read at an element -/

namespace Ref

open Cert.Reference10Ideal Cert.Reference10Ideal.Read

variable (x0 x1 : (⟨S2048x2048, .f32⟩ : BufTy).Contents (Elt Ideal))

/-- The difference of a row and its target. -/
def e (i k : Fin 2048) : EReal := (x0 (ix2 i k) : EReal) - (x1 (ix2 i k) : EReal)

theorem v1 (i k : Fin 2048) : val_main_v1 (F := Ideal) x0 x1 (ix2 i k) = (e x0 x1 i k * e x0 x1 i k : EReal) := rfl

theorem v4 (i : Fin 2048) : val_main_v4 (F := Ideal) x0 x1 (ix1 i) = (∑ k, e x0 x1 i k * e x0 x1 i k : EReal) := by
  rw [val_main_v4_apply]
  refine Eq.trans (congrArg (· + _) zero_bits) ((zero_add _).trans (Finset.sum_congr rfl fun k _ => ?_))
  exact read2 (v1 x0 x1 i k) rfl rfl

theorem v6 (i : Fin 2048) : val_main_v6 (F := Ideal) x0 x1 (ix1 i) = Ideal.div (∑ k, e x0 x1 i k * e x0 x1 i k) (Ideal.ofBits .f32 0x45000000#32) := by
  rw [val_main_v6_apply, v4, val_main_v5_apply]; rfl

theorem v7 (i : S_.Idx) : val_main_v7 (F := Ideal) x0 x1 i = (∑ i, Ideal.div (∑ k, e x0 x1 i k * e x0 x1 i k) (Ideal.ofBits .f32 0x45000000#32) : EReal) := by
  rw [val_main_v7_apply]
  refine Eq.trans (congrArg (· + _) zero_bits) ((zero_add _).trans ?_)
  refine (Fintype.sum_equiv ⟨fun i : Fin 2048 => (ix1 i : S2048.Idx), fun j => j 0, fun _ => rfl, fun j => funext fun x => match x with | ⟨0, _⟩ => rfl⟩ _ _ fun i => ?_).symm
  exact (v6 x0 x1 i).symm

/-- The gradient. -/
theorem v14 (i k : Fin 2048) : val_main_v14 (F := Ideal) x0 x1 (ix2 i k) = (e x0 x1 i k * Ideal.ofBits .f32 0x3A000000#32 : EReal) := by
  rw [val_main_v14_apply, val_main_v13_apply, val_main_v12_apply, val_main_v10_apply, val_main_v9_apply, val_main_v11_apply, val_main_v3_apply, val_main_v2_apply]
  exact grad_eq (e x0 x1 i k)

end Ref

/-- Over the reals the call computes the loss of the example and its gradient, once in each of the two formats. -/
theorem equal10 : Cert.algebraic_Kernel10Ideal_Reference10Ideal := by
  intro m ρ m' ρ' _ ha
  refine ⟨_, _, _, run_results m ρ, ?_⟩
  refine (θ_run Cert.Reference10Ideal.defs _ _).mono (fun r h c => ?_) (Cert.Reference10Ideal.Value.run (F := Ideal) m' ρ')
  obtain ⟨a0, a1⟩ := ha c
  obtain ⟨r0, r1, r2, rest⟩ := h c
  rw [Cert.Reference10Ideal.Read.val_main_v8_eq, a0, a1] at r0
  rw [Cert.Reference10Ideal.Read.val_main_v14_eq, a0, a1] at r1
  rw [Cert.Reference10Ideal.Read.val_main_v15_eq, a0, a1] at r2
  refine ⟨r0.trans (funext fun i => ?_), r1.trans (funext fun i => ?_), r2.trans (funext fun i => ?_), rest⟩
  · exact (congrArg (Ideal.ofBits .f32 0x3F000000#32 * ·) (Ref.v7 _ _ i)).trans (loss_eq (err m c))
  · obtain ⟨a, b, rfl⟩ := Cert.Products.exists2 (m := 2048) (n := 2048) i
    exact Ref.v14 _ _ a b
  · obtain ⟨a, b, rfl⟩ := Cert.Products.exists2 (m := 2048) (n := 2048) i
    exact Ref.v14 _ _ a b

end Cert.Loss

end
-- ==== Proof.SmallPack.lean ====
/- The packing of the eleven small weights into one array of rows of 128 lanes, and the reading of a weight out of such an array:
   each entry of a weight has its own place, and the reading finds it again. -/
module

public import proofs.«01_k».proof.Proof.Gen.Kernel11Ideal.Launch
public import Idealize.ShloMosaic.Lib.Pointwise
public import Idealize.ShloMosaic.Lib.KernelVsHost
public import Idealize.ShloMosaic.Lib.Pipeline.Value

@[expose] public section

set_option maxRecDepth 16384

noncomputable section

namespace Cert.Small

open Idealize.ShloMosaic Idealize.ShloMosaic.TcCoe Idealize.SL.Sem Cert.Kernel11Ideal Cert.Kernel11Ideal.Gen

/-- An array of the program, over the reals. -/
abbrev Arr (s : Shape) : Type := (⟨s, .f32⟩ : BufTy).Contents (Elt Ideal)

/-- What the rows are filled up with. -/
def fill : Arr S_ := sitofp (F := Ideal) .f32 (constantI S_ 32 0#32)

/-! ## A weight as rows of 128 lanes -/

/-- A weight of 2048 entries as 16 rows, filled up. -/
def rows2048 (a : Arr S1x2048) : Arr S16x128 :=
  shapeCast S16x128 (pad S2048 ![0] ![0] ![0] (shapeCast S2048 a shapeCasts_S1x2048_S2048) fill pads_S2048_S2048_000 h_S_) shapeCasts_S2048_S16x128

theorem rows2048_apply (a : Arr S1x2048) (r : Fin 16) (l : Fin 128) (j : Fin 2048) (h : j.val = 128 * r.val + l.val) :
    rows2048 a (ix2 r l) = a (ix2 0 j) := by
  unfold rows2048
  have hj := j.isLt
  refine (shapeCast_apply (s := S2048) (t := S16x128) _ _ (ix2 r l) (ix1 (⟨j.val, by omega⟩ : Fin 2048))
    (by rw [Shape.rowMajor_val_two, Shape.rowMajor_val_one]; show j.val = r.val * 128 + l.val; omega)).trans ?_
  refine (pad_apply_of_inside (s := S2048) (t := S2048) ![0] ![0] ![0] _ _ _ _ (ix1 (⟨j.val, by omega⟩ : Fin 2048)) (ix1 j)
    (fun b => match b with | ⟨0, _⟩ => by show j.val = 0 + j.val * (0 + 1); omega)).trans ?_
  exact shapeCast_apply (s := S1x2048) (t := S2048) _ _ (ix1 j) (ix2 0 j)
    (by rw [Shape.rowMajor_val_two, Shape.rowMajor_val_one]; show 0 * 2048 + j.val = j.val; omega)

/-- A weight of 1024 entries as 8 rows, filled up. -/
def rows1024 (a : Arr S1x1024) : Arr S8x128 :=
  shapeCast S8x128 (pad S1024 ![0] ![0] ![0] (shapeCast S1024 a shapeCasts_S1x1024_S1024) fill pads_S1024_S1024_000 h_S_) shapeCasts_S1024_S8x128

theorem rows1024_apply (a : Arr S1x1024) (r : Fin 8) (l : Fin 128) (j : Fin 1024) (h : j.val = 128 * r.val + l.val) :
    rows1024 a (ix2 r l) = a (ix2 0 j) := by
  unfold rows1024
  have hj := j.isLt
  refine (shapeCast_apply (s := S1024) (t := S8x128) _ _ (ix2 r l) (ix1 (⟨j.val, by omega⟩ : Fin 1024))
    (by rw [Shape.rowMajor_val_two, Shape.rowMajor_val_one]; show j.val = r.val * 128 + l.val; omega)).trans ?_
  refine (pad_apply_of_inside (s := S1024) (t := S1024) ![0] ![0] ![0] _ _ _ _ (ix1 (⟨j.val, by omega⟩ : Fin 1024)) (ix1 j)
    (fun b => match b with | ⟨0, _⟩ => by show j.val = 0 + j.val * (0 + 1); omega)).trans ?_
  exact shapeCast_apply (s := S1x1024) (t := S1024) _ _ (ix1 j) (ix2 0 j)
    (by rw [Shape.rowMajor_val_two, Shape.rowMajor_val_one]; show 0 * 1024 + j.val = j.val; omega)

/-- A weight of 64 entries as 1 row, filled up. -/
def rows64 (a : Arr S1x64) : Arr S1x128 :=
  shapeCast S1x128 (pad S128 ![0] ![64] ![0] (shapeCast S64 a shapeCasts_S1x64_S64) fill pads_S64_S128_0640 h_S_) shapeCasts_S128_S1x128

theorem rows64_apply (a : Arr S1x64) (r : Fin 1) (l : Fin 128) (j : Fin 64) (h : j.val = 128 * r.val + l.val) :
    rows64 a (ix2 r l) = a (ix2 0 j) := by
  unfold rows64
  have hj := j.isLt
  refine (shapeCast_apply (s := S128) (t := S1x128) _ _ (ix2 r l) (ix1 (⟨j.val, by omega⟩ : Fin 128))
    (by rw [Shape.rowMajor_val_two, Shape.rowMajor_val_one]; show j.val = r.val * 128 + l.val; omega)).trans ?_
  refine (pad_apply_of_inside (s := S64) (t := S128) ![0] ![64] ![0] _ _ _ _ (ix1 (⟨j.val, by omega⟩ : Fin 128)) (ix1 j)
    (fun b => match b with | ⟨0, _⟩ => by show j.val = 0 + j.val * (0 + 1); omega)).trans ?_
  exact shapeCast_apply (s := S1x64) (t := S64) _ _ (ix1 j) (ix2 0 j)
    (by rw [Shape.rowMajor_val_two, Shape.rowMajor_val_one]; show 0 * 64 + j.val = j.val; omega)

/-- A weight of 16 entries as 1 row, filled up. -/
def rows16 (a : Arr S1x16) : Arr S1x128 :=
  shapeCast S1x128 (pad S128 ![0] ![112] ![0] (shapeCast S16 a shapeCasts_S1x16_S16) fill pads_S16_S128_01120 h_S_) shapeCasts_S128_S1x128

theorem rows16_apply (a : Arr S1x16) (r : Fin 1) (l : Fin 128) (j : Fin 16) (h : j.val = 128 * r.val + l.val) :
    rows16 a (ix2 r l) = a (ix2 0 j) := by
  unfold rows16
  have hj := j.isLt
  refine (shapeCast_apply (s := S128) (t := S1x128) _ _ (ix2 r l) (ix1 (⟨j.val, by omega⟩ : Fin 128))
    (by rw [Shape.rowMajor_val_two, Shape.rowMajor_val_one]; show j.val = r.val * 128 + l.val; omega)).trans ?_
  refine (pad_apply_of_inside (s := S16) (t := S128) ![0] ![112] ![0] _ _ _ _ (ix1 (⟨j.val, by omega⟩ : Fin 128)) (ix1 j)
    (fun b => match b with | ⟨0, _⟩ => by show j.val = 0 + j.val * (0 + 1); omega)).trans ?_
  exact shapeCast_apply (s := S1x16) (t := S16) _ _ (ix1 j) (ix2 0 j)
    (by rw [Shape.rowMajor_val_two, Shape.rowMajor_val_one]; show 0 * 16 + j.val = j.val; omega)

/-- The rows of the eleven weights, one below the other. -/
def joined (x0 : Arr S16x128) (x1 : Arr S16x128) (x2 : Arr S1x128) (x3 : Arr S1x128) (x4 : Arr S1x128) (x5 : Arr S1x128) (x6 : Arr S1x128) (x7 : Arr S1x128) (x8 : Arr S8x128) (x9 : Arr S8x128) (x10 : Arr S16x128) : Arr S70x128 :=
  concatenate S70x128 0 [⟨S16x128, x0⟩, ⟨S16x128, x1⟩, ⟨S1x128, x2⟩, ⟨S1x128, x3⟩, ⟨S1x128, x4⟩, ⟨S1x128, x5⟩, ⟨S1x128, x6⟩, ⟨S1x128, x7⟩, ⟨S8x128, x8⟩, ⟨S8x128, x9⟩, ⟨S16x128, x10⟩] concatenates_S16x128_S16x128_S1x128_S1x128_S1x128_S1x128_S1x128_S1x128_S8x128_S8x128_S16x128_S70x128_d0

/-- The same, filled up to seventy-two rows. -/
def stack (x0 : Arr S16x128) (x1 : Arr S16x128) (x2 : Arr S1x128) (x3 : Arr S1x128) (x4 : Arr S1x128) (x5 : Arr S1x128) (x6 : Arr S1x128) (x7 : Arr S1x128) (x8 : Arr S8x128) (x9 : Arr S8x128) (x10 : Arr S16x128) : Arr S72x128 :=
  pad S72x128 ![0, 0] ![2, 0] ![0, 0] (joined x0 x1 x2 x3 x4 x5 x6 x7 x8 x9 x10) fill pads_S70x128_S72x128_020_000 h_S_

variable (x0 : Arr S16x128) (x1 : Arr S16x128) (x2 : Arr S1x128) (x3 : Arr S1x128) (x4 : Arr S1x128) (x5 : Arr S1x128) (x6 : Arr S1x128) (x7 : Arr S1x128) (x8 : Arr S8x128) (x9 : Arr S8x128) (x10 : Arr S16x128)

theorem stack_apply (i : Fin 72) (h : i.val < 70) (l : Fin 128) :
    stack x0 x1 x2 x3 x4 x5 x6 x7 x8 x9 x10 (ix2 i l) = joined x0 x1 x2 x3 x4 x5 x6 x7 x8 x9 x10 (ix2 ⟨i.val, h⟩ l) :=
  pad_apply_of_inside (s := S70x128) (t := S72x128) ![0, 0] ![2, 0] ![0, 0] _ _ _ _ (ix2 i l) (ix2 (⟨i.val, h⟩ : Fin 70) l)
    (fun b => match b with | ⟨0, _⟩ => by show i.val = 0 + i.val * (0 + 1); omega | ⟨1, _⟩ => by show l.val = 0 + l.val * (0 + 1); omega)

theorem stack_0 (r : Fin 16) (l : Fin 128) (i : Fin 72) (h : i.val = 0 + r.val) : stack x0 x1 x2 x3 x4 x5 x6 x7 x8 x9 x10 (ix2 i l) = x0 (ix2 r l) := by
  have hr := r.isLt
  refine (stack_apply _ _ _ _ _ _ _ _ _ _ _ i (by omega) l).trans ?_
  exact concatenate_apply_piece (t := S70x128) 0 _ _ _ 0 (by simp) S16x128 x0 rfl rfl 0 rfl (ix2 r l)
    (fun b hb => match b, hb with | ⟨0, _⟩, hb => absurd rfl hb | ⟨1, _⟩, _ => rfl) (by show 0 + r.val = i.val; omega)

theorem stack_1 (r : Fin 16) (l : Fin 128) (i : Fin 72) (h : i.val = 16 + r.val) : stack x0 x1 x2 x3 x4 x5 x6 x7 x8 x9 x10 (ix2 i l) = x1 (ix2 r l) := by
  have hr := r.isLt
  refine (stack_apply _ _ _ _ _ _ _ _ _ _ _ i (by omega) l).trans ?_
  exact concatenate_apply_piece (t := S70x128) 0 _ _ _ 1 (by simp) S16x128 x1 rfl rfl 16 rfl (ix2 r l)
    (fun b hb => match b, hb with | ⟨0, _⟩, hb => absurd rfl hb | ⟨1, _⟩, _ => rfl) (by show 16 + r.val = i.val; omega)

theorem stack_2 (r : Fin 1) (l : Fin 128) (i : Fin 72) (h : i.val = 32 + r.val) : stack x0 x1 x2 x3 x4 x5 x6 x7 x8 x9 x10 (ix2 i l) = x2 (ix2 r l) := by
  have hr := r.isLt
  refine (stack_apply _ _ _ _ _ _ _ _ _ _ _ i (by omega) l).trans ?_
  exact concatenate_apply_piece (t := S70x128) 0 _ _ _ 2 (by simp) S1x128 x2 rfl rfl 32 rfl (ix2 r l)
    (fun b hb => match b, hb with | ⟨0, _⟩, hb => absurd rfl hb | ⟨1, _⟩, _ => rfl) (by show 32 + r.val = i.val; omega)

theorem stack_3 (r : Fin 1) (l : Fin 128) (i : Fin 72) (h : i.val = 33 + r.val) : stack x0 x1 x2 x3 x4 x5 x6 x7 x8 x9 x10 (ix2 i l) = x3 (ix2 r l) := by
  have hr := r.isLt
  refine (stack_apply _ _ _ _ _ _ _ _ _ _ _ i (by omega) l).trans ?_
  exact concatenate_apply_piece (t := S70x128) 0 _ _ _ 3 (by simp) S1x128 x3 rfl rfl 33 rfl (ix2 r l)
    (fun b hb => match b, hb with | ⟨0, _⟩, hb => absurd rfl hb | ⟨1, _⟩, _ => rfl) (by show 33 + r.val = i.val; omega)

theorem stack_4 (r : Fin 1) (l : Fin 128) (i : Fin 72) (h : i.val = 34 + r.val) : stack x0 x1 x2 x3 x4 x5 x6 x7 x8 x9 x10 (ix2 i l) = x4 (ix2 r l) := by
  have hr := r.isLt
  refine (stack_apply _ _ _ _ _ _ _ _ _ _ _ i (by omega) l).trans ?_
  exact concatenate_apply_piece (t := S70x128) 0 _ _ _ 4 (by simp) S1x128 x4 rfl rfl 34 rfl (ix2 r l)
    (fun b hb => match b, hb with | ⟨0, _⟩, hb => absurd rfl hb | ⟨1, _⟩, _ => rfl) (by show 34 + r.val = i.val; omega)

theorem stack_5 (r : Fin 1) (l : Fin 128) (i : Fin 72) (h : i.val = 35 + r.val) : stack x0 x1 x2 x3 x4 x5 x6 x7 x8 x9 x10 (ix2 i l) = x5 (ix2 r l) := by
  have hr := r.isLt
  refine (stack_apply _ _ _ _ _ _ _ _ _ _ _ i (by omega) l).trans ?_
  exact concatenate_apply_piece (t := S70x128) 0 _ _ _ 5 (by simp) S1x128 x5 rfl rfl 35 rfl (ix2 r l)
    (fun b hb => match b, hb with | ⟨0, _⟩, hb => absurd rfl hb | ⟨1, _⟩, _ => rfl) (by show 35 + r.val = i.val; omega)

theorem stack_6 (r : Fin 1) (l : Fin 128) (i : Fin 72) (h : i.val = 36 + r.val) : stack x0 x1 x2 x3 x4 x5 x6 x7 x8 x9 x10 (ix2 i l) = x6 (ix2 r l) := by
  have hr := r.isLt
  refine (stack_apply _ _ _ _ _ _ _ _ _ _ _ i (by omega) l).trans ?_
  exact concatenate_apply_piece (t := S70x128) 0 _ _ _ 6 (by simp) S1x128 x6 rfl rfl 36 rfl (ix2 r l)
    (fun b hb => match b, hb with | ⟨0, _⟩, hb => absurd rfl hb | ⟨1, _⟩, _ => rfl) (by show 36 + r.val = i.val; omega)

theorem stack_7 (r : Fin 1) (l : Fin 128) (i : Fin 72) (h : i.val = 37 + r.val) : stack x0 x1 x2 x3 x4 x5 x6 x7 x8 x9 x10 (ix2 i l) = x7 (ix2 r l) := by
  have hr := r.isLt
  refine (stack_apply _ _ _ _ _ _ _ _ _ _ _ i (by omega) l).trans ?_
  exact concatenate_apply_piece (t := S70x128) 0 _ _ _ 7 (by simp) S1x128 x7 rfl rfl 37 rfl (ix2 r l)
    (fun b hb => match b, hb with | ⟨0, _⟩, hb => absurd rfl hb | ⟨1, _⟩, _ => rfl) (by show 37 + r.val = i.val; omega)

theorem stack_8 (r : Fin 8) (l : Fin 128) (i : Fin 72) (h : i.val = 38 + r.val) : stack x0 x1 x2 x3 x4 x5 x6 x7 x8 x9 x10 (ix2 i l) = x8 (ix2 r l) := by
  have hr := r.isLt
  refine (stack_apply _ _ _ _ _ _ _ _ _ _ _ i (by omega) l).trans ?_
  exact concatenate_apply_piece (t := S70x128) 0 _ _ _ 8 (by simp) S8x128 x8 rfl rfl 38 rfl (ix2 r l)
    (fun b hb => match b, hb with | ⟨0, _⟩, hb => absurd rfl hb | ⟨1, _⟩, _ => rfl) (by show 38 + r.val = i.val; omega)

theorem stack_9 (r : Fin 8) (l : Fin 128) (i : Fin 72) (h : i.val = 46 + r.val) : stack x0 x1 x2 x3 x4 x5 x6 x7 x8 x9 x10 (ix2 i l) = x9 (ix2 r l) := by
  have hr := r.isLt
  refine (stack_apply _ _ _ _ _ _ _ _ _ _ _ i (by omega) l).trans ?_
  exact concatenate_apply_piece (t := S70x128) 0 _ _ _ 9 (by simp) S8x128 x9 rfl rfl 46 rfl (ix2 r l)
    (fun b hb => match b, hb with | ⟨0, _⟩, hb => absurd rfl hb | ⟨1, _⟩, _ => rfl) (by show 46 + r.val = i.val; omega)

theorem stack_10 (r : Fin 16) (l : Fin 128) (i : Fin 72) (h : i.val = 54 + r.val) : stack x0 x1 x2 x3 x4 x5 x6 x7 x8 x9 x10 (ix2 i l) = x10 (ix2 r l) := by
  have hr := r.isLt
  refine (stack_apply _ _ _ _ _ _ _ _ _ _ _ i (by omega) l).trans ?_
  exact concatenate_apply_piece (t := S70x128) 0 _ _ _ 10 (by simp) S16x128 x10 rfl rfl 54 rfl (ix2 r l)
    (fun b hb => match b, hb with | ⟨0, _⟩, hb => absurd rfl hb | ⟨1, _⟩, _ => rfl) (by show 54 + r.val = i.val; omega)

/-- The packed array of eleven weights. -/
def packed (a0 : Arr S1x2048) (a1 : Arr S1x2048) (a2 : Arr S1x16) (a3 : Arr S1x64) (a4 : Arr S1x64) (a5 : Arr S1x64) (a6 : Arr S1x64) (a7 : Arr S1x16) (a8 : Arr S1x1024) (a9 : Arr S1x1024) (a10 : Arr S1x2048) : Arr S72x128 := stack (rows2048 a0) (rows2048 a1) (rows16 a2) (rows64 a3) (rows64 a4) (rows64 a5) (rows64 a6) (rows16 a7) (rows1024 a8) (rows1024 a9) (rows2048 a10)

/-- The lane of an entry. -/
def lane {n : ℕ} (j : Fin n) : Fin 128 := ⟨j.val % 128, Nat.mod_lt _ (by decide)⟩

/-- The row of an entry of a weight whose rows begin at `off`. -/
def place {n : ℕ} (off : ℕ) (h : off + (n - 1) / 128 < 72) (j : Fin n) : Fin 72 :=
  ⟨off + j.val / 128, lt_of_le_of_lt (Nat.add_le_add_left (Nat.div_le_div_right (Nat.le_sub_one_of_lt j.isLt)) _) h⟩

variable (a0 : Arr S1x2048) (a1 : Arr S1x2048) (a2 : Arr S1x16) (a3 : Arr S1x64) (a4 : Arr S1x64) (a5 : Arr S1x64) (a6 : Arr S1x64) (a7 : Arr S1x16) (a8 : Arr S1x1024) (a9 : Arr S1x1024) (a10 : Arr S1x2048)

/-- Where the entries of weight 0 lie. -/
theorem packed_0 (j : Fin 2048) : packed a0 a1 a2 a3 a4 a5 a6 a7 a8 a9 a10 (ix2 (place 0 (by decide) j) (lane j)) = a0 (ix2 0 j) := by
  have hj := j.isLt
  unfold packed
  exact (stack_0 _ _ _ _ _ _ _ _ _ _ _ (⟨j.val / 128, by omega⟩ : Fin 16) (lane j) (place 0 (by decide) j) rfl).trans
    (rows2048_apply _ _ _ j (by show j.val = 128 * (j.val / 128) + j.val % 128; omega))

/-- Where the entries of weight 1 lie. -/
theorem packed_1 (j : Fin 2048) : packed a0 a1 a2 a3 a4 a5 a6 a7 a8 a9 a10 (ix2 (place 16 (by decide) j) (lane j)) = a1 (ix2 0 j) := by
  have hj := j.isLt
  unfold packed
  exact (stack_1 _ _ _ _ _ _ _ _ _ _ _ (⟨j.val / 128, by omega⟩ : Fin 16) (lane j) (place 16 (by decide) j) rfl).trans
    (rows2048_apply _ _ _ j (by show j.val = 128 * (j.val / 128) + j.val % 128; omega))

/-- Where the entries of weight 2 lie. -/
theorem packed_2 (j : Fin 16) : packed a0 a1 a2 a3 a4 a5 a6 a7 a8 a9 a10 (ix2 (place 32 (by decide) j) (lane j)) = a2 (ix2 0 j) := by
  have hj := j.isLt
  unfold packed
  exact (stack_2 _ _ _ _ _ _ _ _ _ _ _ (⟨j.val / 128, by omega⟩ : Fin 1) (lane j) (place 32 (by decide) j) rfl).trans
    (rows16_apply _ _ _ j (by show j.val = 128 * (j.val / 128) + j.val % 128; omega))

/-- Where the entries of weight 3 lie. -/
theorem packed_3 (j : Fin 64) : packed a0 a1 a2 a3 a4 a5 a6 a7 a8 a9 a10 (ix2 (place 33 (by decide) j) (lane j)) = a3 (ix2 0 j) := by
  have hj := j.isLt
  unfold packed
  exact (stack_3 _ _ _ _ _ _ _ _ _ _ _ (⟨j.val / 128, by omega⟩ : Fin 1) (lane j) (place 33 (by decide) j) rfl).trans
    (rows64_apply _ _ _ j (by show j.val = 128 * (j.val / 128) + j.val % 128; omega))

/-- Where the entries of weight 4 lie. -/
theorem packed_4 (j : Fin 64) : packed a0 a1 a2 a3 a4 a5 a6 a7 a8 a9 a10 (ix2 (place 34 (by decide) j) (lane j)) = a4 (ix2 0 j) := by
  have hj := j.isLt
  unfold packed
  exact (stack_4 _ _ _ _ _ _ _ _ _ _ _ (⟨j.val / 128, by omega⟩ : Fin 1) (lane j) (place 34 (by decide) j) rfl).trans
    (rows64_apply _ _ _ j (by show j.val = 128 * (j.val / 128) + j.val % 128; omega))

/-- Where the entries of weight 5 lie. -/
theorem packed_5 (j : Fin 64) : packed a0 a1 a2 a3 a4 a5 a6 a7 a8 a9 a10 (ix2 (place 35 (by decide) j) (lane j)) = a5 (ix2 0 j) := by
  have hj := j.isLt
  unfold packed
  exact (stack_5 _ _ _ _ _ _ _ _ _ _ _ (⟨j.val / 128, by omega⟩ : Fin 1) (lane j) (place 35 (by decide) j) rfl).trans
    (rows64_apply _ _ _ j (by show j.val = 128 * (j.val / 128) + j.val % 128; omega))

/-- Where the entries of weight 6 lie. -/
theorem packed_6 (j : Fin 64) : packed a0 a1 a2 a3 a4 a5 a6 a7 a8 a9 a10 (ix2 (place 36 (by decide) j) (lane j)) = a6 (ix2 0 j) := by
  have hj := j.isLt
  unfold packed
  exact (stack_6 _ _ _ _ _ _ _ _ _ _ _ (⟨j.val / 128, by omega⟩ : Fin 1) (lane j) (place 36 (by decide) j) rfl).trans
    (rows64_apply _ _ _ j (by show j.val = 128 * (j.val / 128) + j.val % 128; omega))

/-- Where the entries of weight 7 lie. -/
theorem packed_7 (j : Fin 16) : packed a0 a1 a2 a3 a4 a5 a6 a7 a8 a9 a10 (ix2 (place 37 (by decide) j) (lane j)) = a7 (ix2 0 j) := by
  have hj := j.isLt
  unfold packed
  exact (stack_7 _ _ _ _ _ _ _ _ _ _ _ (⟨j.val / 128, by omega⟩ : Fin 1) (lane j) (place 37 (by decide) j) rfl).trans
    (rows16_apply _ _ _ j (by show j.val = 128 * (j.val / 128) + j.val % 128; omega))

/-- Where the entries of weight 8 lie. -/
theorem packed_8 (j : Fin 1024) : packed a0 a1 a2 a3 a4 a5 a6 a7 a8 a9 a10 (ix2 (place 38 (by decide) j) (lane j)) = a8 (ix2 0 j) := by
  have hj := j.isLt
  unfold packed
  exact (stack_8 _ _ _ _ _ _ _ _ _ _ _ (⟨j.val / 128, by omega⟩ : Fin 8) (lane j) (place 38 (by decide) j) rfl).trans
    (rows1024_apply _ _ _ j (by show j.val = 128 * (j.val / 128) + j.val % 128; omega))

/-- Where the entries of weight 9 lie. -/
theorem packed_9 (j : Fin 1024) : packed a0 a1 a2 a3 a4 a5 a6 a7 a8 a9 a10 (ix2 (place 46 (by decide) j) (lane j)) = a9 (ix2 0 j) := by
  have hj := j.isLt
  unfold packed
  exact (stack_9 _ _ _ _ _ _ _ _ _ _ _ (⟨j.val / 128, by omega⟩ : Fin 8) (lane j) (place 46 (by decide) j) rfl).trans
    (rows1024_apply _ _ _ j (by show j.val = 128 * (j.val / 128) + j.val % 128; omega))

/-- Where the entries of weight 10 lie. -/
theorem packed_10 (j : Fin 2048) : packed a0 a1 a2 a3 a4 a5 a6 a7 a8 a9 a10 (ix2 (place 54 (by decide) j) (lane j)) = a10 (ix2 0 j) := by
  have hj := j.isLt
  unfold packed
  exact (stack_10 _ _ _ _ _ _ _ _ _ _ _ (⟨j.val / 128, by omega⟩ : Fin 16) (lane j) (place 54 (by decide) j) rfl).trans
    (rows2048_apply _ _ _ j (by show j.val = 128 * (j.val / 128) + j.val % 128; omega))

/-! ## A weight read out of a packed array -/

/-- The 2048 entries whose rows begin at `off`. -/
def cut2048 (off : ℕ) (h : S72x128.Slices ![off, 0] S16x128) (x : Arr S72x128) : Arr S1x2048 :=
  shapeCast S1x2048 (shapeCast S2048 (extractStridedSlice S16x128 ![off, 0] x h) shapeCasts_S16x128_S2048) shapeCasts_S2048_S1x2048

theorem cut2048_apply (off : ℕ) (h : S72x128.Slices ![off, 0] S16x128) (x : Arr S72x128) (p : off + (2048 - 1) / 128 < 72) (j : Fin 2048) :
    cut2048 off h x (ix2 0 j) = x (ix2 (place off p j) (lane j)) := by
  unfold cut2048
  have hj := j.isLt
  refine (shapeCast_apply (s := S2048) (t := S1x2048) _ _ (ix2 0 j) (ix1 j)
    (by rw [Shape.rowMajor_val_two, Shape.rowMajor_val_one]; show j.val = 0 * 2048 + j.val; omega)).trans ?_

  refine (shapeCast_apply (s := S16x128) (t := S2048) _ _ (ix1 (⟨j.val, by omega⟩ : Fin 2048)) (ix2 (⟨j.val / 128, by omega⟩ : Fin 16) (lane j))
    (by rw [Shape.rowMajor_val_two, Shape.rowMajor_val_one]; show j.val / 128 * 128 + j.val % 128 = j.val; omega)).trans ?_
  exact extractStridedSlice_apply (s := S72x128) (t := S16x128) ![off, 0] _ _ _ (ix2 (place off p j) (lane j))
    (fun b => match b with | ⟨0, _⟩ => rfl | ⟨1, _⟩ => by show j.val % 128 = 0 + j.val % 128; omega)

/-- The 1024 entries whose rows begin at `off`. -/
def cut1024 (off : ℕ) (h : S72x128.Slices ![off, 0] S8x128) (x : Arr S72x128) : Arr S1x1024 :=
  shapeCast S1x1024 (shapeCast S1024 (extractStridedSlice S8x128 ![off, 0] x h) shapeCasts_S8x128_S1024) shapeCasts_S1024_S1x1024

theorem cut1024_apply (off : ℕ) (h : S72x128.Slices ![off, 0] S8x128) (x : Arr S72x128) (p : off + (1024 - 1) / 128 < 72) (j : Fin 1024) :
    cut1024 off h x (ix2 0 j) = x (ix2 (place off p j) (lane j)) := by
  unfold cut1024
  have hj := j.isLt
  refine (shapeCast_apply (s := S1024) (t := S1x1024) _ _ (ix2 0 j) (ix1 j)
    (by rw [Shape.rowMajor_val_two, Shape.rowMajor_val_one]; show j.val = 0 * 1024 + j.val; omega)).trans ?_

  refine (shapeCast_apply (s := S8x128) (t := S1024) _ _ (ix1 (⟨j.val, by omega⟩ : Fin 1024)) (ix2 (⟨j.val / 128, by omega⟩ : Fin 8) (lane j))
    (by rw [Shape.rowMajor_val_two, Shape.rowMajor_val_one]; show j.val / 128 * 128 + j.val % 128 = j.val; omega)).trans ?_
  exact extractStridedSlice_apply (s := S72x128) (t := S8x128) ![off, 0] _ _ _ (ix2 (place off p j) (lane j))
    (fun b => match b with | ⟨0, _⟩ => rfl | ⟨1, _⟩ => by show j.val % 128 = 0 + j.val % 128; omega)

/-- The 64 entries of the row `off`. -/
def cut64 (off : ℕ) (h : S72x128.Slices ![off, 0] S1x128) (x : Arr S72x128) : Arr S1x64 :=
  shapeCast S1x64 (extractStridedSlice S64 ![0] (shapeCast S128 (extractStridedSlice S1x128 ![off, 0] x h) shapeCasts_S1x128_S128) slices_S128_S64_0) shapeCasts_S64_S1x64

theorem cut64_apply (off : ℕ) (h : S72x128.Slices ![off, 0] S1x128) (x : Arr S72x128) (p : off + (64 - 1) / 128 < 72) (j : Fin 64) :
    cut64 off h x (ix2 0 j) = x (ix2 (place off p j) (lane j)) := by
  unfold cut64
  have hj := j.isLt
  refine (shapeCast_apply (s := S64) (t := S1x64) _ _ (ix2 0 j) (ix1 j)
    (by rw [Shape.rowMajor_val_two, Shape.rowMajor_val_one]; show j.val = 0 * 64 + j.val; omega)).trans ?_
  refine (extractStridedSlice_apply (s := S128) (t := S64) ![0] _ _ (ix1 j) (ix1 (⟨j.val, by omega⟩ : Fin 128))
    (fun b => match b with | ⟨0, _⟩ => by show j.val = 0 + j.val; omega)).trans ?_

  refine (shapeCast_apply (s := S1x128) (t := S128) _ _ (ix1 (⟨j.val, by omega⟩ : Fin 128)) (ix2 (⟨j.val / 128, by omega⟩ : Fin 1) (lane j))
    (by rw [Shape.rowMajor_val_two, Shape.rowMajor_val_one]; show j.val / 128 * 128 + j.val % 128 = j.val; omega)).trans ?_
  exact extractStridedSlice_apply (s := S72x128) (t := S1x128) ![off, 0] _ _ _ (ix2 (place off p j) (lane j))
    (fun b => match b with | ⟨0, _⟩ => rfl | ⟨1, _⟩ => by show j.val % 128 = 0 + j.val % 128; omega)

/-- The 16 entries of the row `off`. -/
def cut16 (off : ℕ) (h : S72x128.Slices ![off, 0] S1x128) (x : Arr S72x128) : Arr S1x16 :=
  shapeCast S1x16 (extractStridedSlice S16 ![0] (shapeCast S128 (extractStridedSlice S1x128 ![off, 0] x h) shapeCasts_S1x128_S128) slices_S128_S16_0) shapeCasts_S16_S1x16

theorem cut16_apply (off : ℕ) (h : S72x128.Slices ![off, 0] S1x128) (x : Arr S72x128) (p : off + (16 - 1) / 128 < 72) (j : Fin 16) :
    cut16 off h x (ix2 0 j) = x (ix2 (place off p j) (lane j)) := by
  unfold cut16
  have hj := j.isLt
  refine (shapeCast_apply (s := S16) (t := S1x16) _ _ (ix2 0 j) (ix1 j)
    (by rw [Shape.rowMajor_val_two, Shape.rowMajor_val_one]; show j.val = 0 * 16 + j.val; omega)).trans ?_
  refine (extractStridedSlice_apply (s := S128) (t := S16) ![0] _ _ (ix1 j) (ix1 (⟨j.val, by omega⟩ : Fin 128))
    (fun b => match b with | ⟨0, _⟩ => by show j.val = 0 + j.val; omega)).trans ?_

  refine (shapeCast_apply (s := S1x128) (t := S128) _ _ (ix1 (⟨j.val, by omega⟩ : Fin 128)) (ix2 (⟨j.val / 128, by omega⟩ : Fin 1) (lane j))
    (by rw [Shape.rowMajor_val_two, Shape.rowMajor_val_one]; show j.val / 128 * 128 + j.val % 128 = j.val; omega)).trans ?_
  exact extractStridedSlice_apply (s := S72x128) (t := S1x128) ![off, 0] _ _ _ (ix2 (place off p j) (lane j))
    (fun b => match b with | ⟨0, _⟩ => rfl | ⟨1, _⟩ => by show j.val % 128 = 0 + j.val % 128; omega)

end Cert.Small

end
-- ==== Proof.SmallHost.lean ====
/- What the host lines around the call of the small weights' optimiser hold: the four packed arrays, and the weights read out of
   the arrays that the call leaves. -/
module

public import proofs.«01_k».proof.Proof.SmallPack
public import Idealize.ShloMosaic.Lib.StableHlo.RunRead

@[expose] public section

set_option maxRecDepth 16384

noncomputable section

namespace Cert.Small

open Idealize.ShloMosaic Idealize.ShloMosaic.TcCoe Idealize.SL.Sem Cert.Kernel11Ideal Cert.Kernel11Ideal.Gen

/-- A line of the host's operations. -/
abbrev Line : Type := List (HloOp τ Cert.Kernel11Ideal.sig (Elt Ideal))

variable (u : Valuation τ Cert.Kernel11Ideal.sig (Elt Ideal))

/-! ## The packed weights -/

/-- The line up to the last of the weights' rows, its end, and what comes after. -/
abbrev upto0 : Line := hostOps0 ++ hostOps0_1 ++ hostOps0_2 ++ hostOps0_3 ++ hostOps0_4 ++ hostOps0_5 ++ hostOps0_6 ++ hostOps0_7 ++ hostOps0_8 ++ hostOps0_9 ++ hostOps0_10 ++ hostOps0_11 ++ hostOps0_12 ++ hostOps0_13 ++ hostOps0_14 ++ hostOps0_15 ++ hostOps0_16 ++ hostOps0_17 ++ hostOps0_18 ++ hostOps0_19 ++ hostOps0_20 ++ hostOps0_21
abbrev last0 : Line := hostOps0_22 ++ hostOps0_23
abbrev rest0 : Line := hostOps0_24 ++ hostOps0_25 ++ hostOps0_26 ++ hostOps0_27 ++ hostOps0_28 ++ hostOps0_29 ++ hostOps0_30 ++ hostOps0_31 ++ hostOps0_32 ++ hostOps0_33 ++ hostOps0_34 ++ hostOps0_35 ++ hostOps0_36 ++ hostOps0_37 ++ hostOps0_38 ++ hostOps0_39 ++ hostOps0_40 ++ hostOps0_41 ++ hostOps0_42 ++ hostOps0_43 ++ hostOps0_44 ++ hostOps0_45 ++ hostOps0_46 ++ hostOps0_47 ++ hostOps0_48 ++ hostOps0_49 ++ hostOps0_50 ++ hostOps0_51 ++ hostOps0_52 ++ hostOps0_53 ++ hostOps0_54 ++ hostOps0_55 ++ hostOps0_56 ++ hostOps0_57 ++ hostOps0_58 ++ hostOps0_59 ++ hostOps0_60 ++ hostOps0_61 ++ hostOps0_62 ++ hostOps0_63 ++ hostOps0_64 ++ hostOps0_65 ++ hostOps0_66 ++ hostOps0_67 ++ hostOps0_68 ++ hostOps0_69 ++ hostOps0_70 ++ hostOps0_71 ++ hostOps0_72 ++ hostOps0_73 ++ hostOps0_74 ++ hostOps0_75 ++ hostOps0_76 ++ hostOps0_77 ++ hostOps0_78 ++ hostOps0_79 ++ hostOps0_80 ++ hostOps0_81 ++ hostOps0_82 ++ hostOps0_83 ++ hostOps0_84 ++ hostOps0_85 ++ hostOps0_86 ++ hostOps0_87 ++ hostOps0_88 ++ hostOps0_89 ++ hostOps0_90 ++ hostOps0_91 ++ hostOps0_92 ++ hostOps0_93 ++ hostOps0_94 ++ hostOps0_95

theorem piece0_0 : StableHlo.after upto0 u (Proc.devRef .tc main_v2) = rows2048 (u (Proc.devRef .tc main_arg0)) := by
  after_reads_simp; rfl
theorem piece0_1 : StableHlo.after upto0 u (Proc.devRef .tc main_v5) = rows2048 (u (Proc.devRef .tc main_arg1)) := by
  after_reads_simp; rfl
theorem piece0_2 : StableHlo.after upto0 u (Proc.devRef .tc main_v8) = rows16 (u (Proc.devRef .tc main_arg2)) := by
  after_reads_simp; rfl
theorem piece0_3 : StableHlo.after upto0 u (Proc.devRef .tc main_v11) = rows64 (u (Proc.devRef .tc main_arg3)) := by
  after_reads_simp; rfl
theorem piece0_4 : StableHlo.after upto0 u (Proc.devRef .tc main_v14) = rows64 (u (Proc.devRef .tc main_arg4)) := by
  after_reads_simp; rfl
theorem piece0_5 : StableHlo.after upto0 u (Proc.devRef .tc main_v17) = rows64 (u (Proc.devRef .tc main_arg5)) := by
  after_reads_simp; rfl
theorem piece0_6 : StableHlo.after upto0 u (Proc.devRef .tc main_v20) = rows64 (u (Proc.devRef .tc main_arg6)) := by
  after_reads_simp; rfl
theorem piece0_7 : StableHlo.after upto0 u (Proc.devRef .tc main_v23) = rows16 (u (Proc.devRef .tc main_arg7)) := by
  after_reads_simp; rfl
theorem piece0_8 : StableHlo.after upto0 u (Proc.devRef .tc main_v26) = rows1024 (u (Proc.devRef .tc main_arg8)) := by
  after_reads_simp; rfl
theorem piece0_9 : StableHlo.after upto0 u (Proc.devRef .tc main_v29) = rows1024 (u (Proc.devRef .tc main_arg9)) := by
  after_reads_simp; rfl
theorem piece0_10 : StableHlo.after upto0 u (Proc.devRef .tc main_v31)
    = pad S2048 ![0] ![0] ![0] (shapeCast S2048 (u (Proc.devRef .tc main_arg10)) shapeCasts_S1x2048_S2048) fill pads_S2048_S2048_000 h_S_ := by
  after_reads_simp; rfl
theorem end0 : StableHlo.after last0 u (Proc.devRef .tc main_v34)
    = stack (u (Proc.devRef .tc main_v2)) (u (Proc.devRef .tc main_v5)) (u (Proc.devRef .tc main_v8)) (u (Proc.devRef .tc main_v11)) (u (Proc.devRef .tc main_v14)) (u (Proc.devRef .tc main_v17)) (u (Proc.devRef .tc main_v20)) (u (Proc.devRef .tc main_v23)) (u (Proc.devRef .tc main_v26)) (u (Proc.devRef .tc main_v29)) (shapeCast S16x128 (u (Proc.devRef .tc main_v31)) shapeCasts_S2048_S16x128) := by
  simp only [last0, hostOps0_22, hostOps0_23, List.cons_append, List.nil_append]
  after_results
  rfl
theorem keep0 : StableHlo.after rest0 u (Proc.devRef .tc main_v34) = u (Proc.devRef .tc main_v34) := by
  after_reads_simp
/-! ## The packed gradients -/

/-- The line up to the last of the gradients' rows, its end, and what comes after. -/
abbrev upto1 : Line := hostOps0 ++ hostOps0_1 ++ hostOps0_2 ++ hostOps0_3 ++ hostOps0_4 ++ hostOps0_5 ++ hostOps0_6 ++ hostOps0_7 ++ hostOps0_8 ++ hostOps0_9 ++ hostOps0_10 ++ hostOps0_11 ++ hostOps0_12 ++ hostOps0_13 ++ hostOps0_14 ++ hostOps0_15 ++ hostOps0_16 ++ hostOps0_17 ++ hostOps0_18 ++ hostOps0_19 ++ hostOps0_20 ++ hostOps0_21 ++ hostOps0_22 ++ hostOps0_23 ++ hostOps0_24 ++ hostOps0_25 ++ hostOps0_26 ++ hostOps0_27 ++ hostOps0_28 ++ hostOps0_29 ++ hostOps0_30 ++ hostOps0_31 ++ hostOps0_32 ++ hostOps0_33 ++ hostOps0_34 ++ hostOps0_35 ++ hostOps0_36 ++ hostOps0_37 ++ hostOps0_38 ++ hostOps0_39 ++ hostOps0_40 ++ hostOps0_41 ++ hostOps0_42 ++ hostOps0_43 ++ hostOps0_44 ++ hostOps0_45
abbrev last1 : Line := hostOps0_46 ++ hostOps0_47
abbrev rest1 : Line := hostOps0_48 ++ hostOps0_49 ++ hostOps0_50 ++ hostOps0_51 ++ hostOps0_52 ++ hostOps0_53 ++ hostOps0_54 ++ hostOps0_55 ++ hostOps0_56 ++ hostOps0_57 ++ hostOps0_58 ++ hostOps0_59 ++ hostOps0_60 ++ hostOps0_61 ++ hostOps0_62 ++ hostOps0_63 ++ hostOps0_64 ++ hostOps0_65 ++ hostOps0_66 ++ hostOps0_67 ++ hostOps0_68 ++ hostOps0_69 ++ hostOps0_70 ++ hostOps0_71 ++ hostOps0_72 ++ hostOps0_73 ++ hostOps0_74 ++ hostOps0_75 ++ hostOps0_76 ++ hostOps0_77 ++ hostOps0_78 ++ hostOps0_79 ++ hostOps0_80 ++ hostOps0_81 ++ hostOps0_82 ++ hostOps0_83 ++ hostOps0_84 ++ hostOps0_85 ++ hostOps0_86 ++ hostOps0_87 ++ hostOps0_88 ++ hostOps0_89 ++ hostOps0_90 ++ hostOps0_91 ++ hostOps0_92 ++ hostOps0_93 ++ hostOps0_94 ++ hostOps0_95

theorem piece1_0 : StableHlo.after upto1 u (Proc.devRef .tc main_v37) = rows2048 (u (Proc.devRef .tc main_arg11)) := by
  after_reads_simp; rfl
theorem piece1_1 : StableHlo.after upto1 u (Proc.devRef .tc main_v40) = rows2048 (u (Proc.devRef .tc main_arg12)) := by
  after_reads_simp; rfl
theorem piece1_2 : StableHlo.after upto1 u (Proc.devRef .tc main_v43) = rows16 (u (Proc.devRef .tc main_arg13)) := by
  after_reads_simp; rfl
theorem piece1_3 : StableHlo.after upto1 u (Proc.devRef .tc main_v46) = rows64 (u (Proc.devRef .tc main_arg14)) := by
  after_reads_simp; rfl
theorem piece1_4 : StableHlo.after upto1 u (Proc.devRef .tc main_v49) = rows64 (u (Proc.devRef .tc main_arg15)) := by
  after_reads_simp; rfl
theorem piece1_5 : StableHlo.after upto1 u (Proc.devRef .tc main_v52) = rows64 (u (Proc.devRef .tc main_arg16)) := by
  after_reads_simp; rfl
theorem piece1_6 : StableHlo.after upto1 u (Proc.devRef .tc main_v55) = rows64 (u (Proc.devRef .tc main_arg17)) := by
  after_reads_simp; rfl
theorem piece1_7 : StableHlo.after upto1 u (Proc.devRef .tc main_v58) = rows16 (u (Proc.devRef .tc main_arg18)) := by
  after_reads_simp; rfl
theorem piece1_8 : StableHlo.after upto1 u (Proc.devRef .tc main_v61) = rows1024 (u (Proc.devRef .tc main_arg19)) := by
  after_reads_simp; rfl
theorem piece1_9 : StableHlo.after upto1 u (Proc.devRef .tc main_v64) = rows1024 (u (Proc.devRef .tc main_arg20)) := by
  after_reads_simp; rfl
theorem piece1_10 : StableHlo.after upto1 u (Proc.devRef .tc main_v66)
    = pad S2048 ![0] ![0] ![0] (shapeCast S2048 (u (Proc.devRef .tc main_arg21)) shapeCasts_S1x2048_S2048) fill pads_S2048_S2048_000 h_S_ := by
  after_reads_simp; rfl
theorem end1 : StableHlo.after last1 u (Proc.devRef .tc main_v69)
    = stack (u (Proc.devRef .tc main_v37)) (u (Proc.devRef .tc main_v40)) (u (Proc.devRef .tc main_v43)) (u (Proc.devRef .tc main_v46)) (u (Proc.devRef .tc main_v49)) (u (Proc.devRef .tc main_v52)) (u (Proc.devRef .tc main_v55)) (u (Proc.devRef .tc main_v58)) (u (Proc.devRef .tc main_v61)) (u (Proc.devRef .tc main_v64)) (shapeCast S16x128 (u (Proc.devRef .tc main_v66)) shapeCasts_S2048_S16x128) := by
  simp only [last1, hostOps0_46, hostOps0_47, List.cons_append, List.nil_append]
  after_results
  rfl
theorem keep1 : StableHlo.after rest1 u (Proc.devRef .tc main_v69) = u (Proc.devRef .tc main_v69) := by
  after_reads_simp
/-! ## The packed first moments -/

/-- The line up to the last of the first moments' rows, its end, and what comes after. -/
abbrev upto2 : Line := hostOps0 ++ hostOps0_1 ++ hostOps0_2 ++ hostOps0_3 ++ hostOps0_4 ++ hostOps0_5 ++ hostOps0_6 ++ hostOps0_7 ++ hostOps0_8 ++ hostOps0_9 ++ hostOps0_10 ++ hostOps0_11 ++ hostOps0_12 ++ hostOps0_13 ++ hostOps0_14 ++ hostOps0_15 ++ hostOps0_16 ++ hostOps0_17 ++ hostOps0_18 ++ hostOps0_19 ++ hostOps0_20 ++ hostOps0_21 ++ hostOps0_22 ++ hostOps0_23 ++ hostOps0_24 ++ hostOps0_25 ++ hostOps0_26 ++ hostOps0_27 ++ hostOps0_28 ++ hostOps0_29 ++ hostOps0_30 ++ hostOps0_31 ++ hostOps0_32 ++ hostOps0_33 ++ hostOps0_34 ++ hostOps0_35 ++ hostOps0_36 ++ hostOps0_37 ++ hostOps0_38 ++ hostOps0_39 ++ hostOps0_40 ++ hostOps0_41 ++ hostOps0_42 ++ hostOps0_43 ++ hostOps0_44 ++ hostOps0_45 ++ hostOps0_46 ++ hostOps0_47 ++ hostOps0_48 ++ hostOps0_49 ++ hostOps0_50 ++ hostOps0_51 ++ hostOps0_52 ++ hostOps0_53 ++ hostOps0_54 ++ hostOps0_55 ++ hostOps0_56 ++ hostOps0_57 ++ hostOps0_58 ++ hostOps0_59 ++ hostOps0_60 ++ hostOps0_61 ++ hostOps0_62 ++ hostOps0_63 ++ hostOps0_64 ++ hostOps0_65 ++ hostOps0_66 ++ hostOps0_67 ++ hostOps0_68 ++ hostOps0_69
abbrev last2 : Line := hostOps0_70 ++ hostOps0_71
abbrev rest2 : Line := hostOps0_72 ++ hostOps0_73 ++ hostOps0_74 ++ hostOps0_75 ++ hostOps0_76 ++ hostOps0_77 ++ hostOps0_78 ++ hostOps0_79 ++ hostOps0_80 ++ hostOps0_81 ++ hostOps0_82 ++ hostOps0_83 ++ hostOps0_84 ++ hostOps0_85 ++ hostOps0_86 ++ hostOps0_87 ++ hostOps0_88 ++ hostOps0_89 ++ hostOps0_90 ++ hostOps0_91 ++ hostOps0_92 ++ hostOps0_93 ++ hostOps0_94 ++ hostOps0_95

theorem piece2_0 : StableHlo.after upto2 u (Proc.devRef .tc main_v72) = rows2048 (u (Proc.devRef .tc main_arg22)) := by
  after_reads_simp; rfl
theorem piece2_1 : StableHlo.after upto2 u (Proc.devRef .tc main_v75) = rows2048 (u (Proc.devRef .tc main_arg23)) := by
  after_reads_simp; rfl
theorem piece2_2 : StableHlo.after upto2 u (Proc.devRef .tc main_v78) = rows16 (u (Proc.devRef .tc main_arg24)) := by
  after_reads_simp; rfl
theorem piece2_3 : StableHlo.after upto2 u (Proc.devRef .tc main_v81) = rows64 (u (Proc.devRef .tc main_arg25)) := by
  after_reads_simp; rfl
theorem piece2_4 : StableHlo.after upto2 u (Proc.devRef .tc main_v84) = rows64 (u (Proc.devRef .tc main_arg26)) := by
  after_reads_simp; rfl
theorem piece2_5 : StableHlo.after upto2 u (Proc.devRef .tc main_v87) = rows64 (u (Proc.devRef .tc main_arg27)) := by
  after_reads_simp; rfl
theorem piece2_6 : StableHlo.after upto2 u (Proc.devRef .tc main_v90) = rows64 (u (Proc.devRef .tc main_arg28)) := by
  after_reads_simp; rfl
theorem piece2_7 : StableHlo.after upto2 u (Proc.devRef .tc main_v93) = rows16 (u (Proc.devRef .tc main_arg29)) := by
  after_reads_simp; rfl
theorem piece2_8 : StableHlo.after upto2 u (Proc.devRef .tc main_v96) = rows1024 (u (Proc.devRef .tc main_arg30)) := by
  after_reads_simp; rfl
theorem piece2_9 : StableHlo.after upto2 u (Proc.devRef .tc main_v99) = rows1024 (u (Proc.devRef .tc main_arg31)) := by
  after_reads_simp; rfl
theorem piece2_10 : StableHlo.after upto2 u (Proc.devRef .tc main_v101)
    = pad S2048 ![0] ![0] ![0] (shapeCast S2048 (u (Proc.devRef .tc main_arg32)) shapeCasts_S1x2048_S2048) fill pads_S2048_S2048_000 h_S_ := by
  after_reads_simp; rfl
theorem end2 : StableHlo.after last2 u (Proc.devRef .tc main_v104)
    = stack (u (Proc.devRef .tc main_v72)) (u (Proc.devRef .tc main_v75)) (u (Proc.devRef .tc main_v78)) (u (Proc.devRef .tc main_v81)) (u (Proc.devRef .tc main_v84)) (u (Proc.devRef .tc main_v87)) (u (Proc.devRef .tc main_v90)) (u (Proc.devRef .tc main_v93)) (u (Proc.devRef .tc main_v96)) (u (Proc.devRef .tc main_v99)) (shapeCast S16x128 (u (Proc.devRef .tc main_v101)) shapeCasts_S2048_S16x128) := by
  simp only [last2, hostOps0_70, hostOps0_71, List.cons_append, List.nil_append]
  after_results
  rfl
theorem keep2 : StableHlo.after rest2 u (Proc.devRef .tc main_v104) = u (Proc.devRef .tc main_v104) := by
  after_reads_simp
/-! ## The packed second moments -/

/-- The line up to the last of the second moments' rows, its end, and what comes after. -/
abbrev upto3 : Line := hostOps0 ++ hostOps0_1 ++ hostOps0_2 ++ hostOps0_3 ++ hostOps0_4 ++ hostOps0_5 ++ hostOps0_6 ++ hostOps0_7 ++ hostOps0_8 ++ hostOps0_9 ++ hostOps0_10 ++ hostOps0_11 ++ hostOps0_12 ++ hostOps0_13 ++ hostOps0_14 ++ hostOps0_15 ++ hostOps0_16 ++ hostOps0_17 ++ hostOps0_18 ++ hostOps0_19 ++ hostOps0_20 ++ hostOps0_21 ++ hostOps0_22 ++ hostOps0_23 ++ hostOps0_24 ++ hostOps0_25 ++ hostOps0_26 ++ hostOps0_27 ++ hostOps0_28 ++ hostOps0_29 ++ hostOps0_30 ++ hostOps0_31 ++ hostOps0_32 ++ hostOps0_33 ++ hostOps0_34 ++ hostOps0_35 ++ hostOps0_36 ++ hostOps0_37 ++ hostOps0_38 ++ hostOps0_39 ++ hostOps0_40 ++ hostOps0_41 ++ hostOps0_42 ++ hostOps0_43 ++ hostOps0_44 ++ hostOps0_45 ++ hostOps0_46 ++ hostOps0_47 ++ hostOps0_48 ++ hostOps0_49 ++ hostOps0_50 ++ hostOps0_51 ++ hostOps0_52 ++ hostOps0_53 ++ hostOps0_54 ++ hostOps0_55 ++ hostOps0_56 ++ hostOps0_57 ++ hostOps0_58 ++ hostOps0_59 ++ hostOps0_60 ++ hostOps0_61 ++ hostOps0_62 ++ hostOps0_63 ++ hostOps0_64 ++ hostOps0_65 ++ hostOps0_66 ++ hostOps0_67 ++ hostOps0_68 ++ hostOps0_69 ++ hostOps0_70 ++ hostOps0_71 ++ hostOps0_72 ++ hostOps0_73 ++ hostOps0_74 ++ hostOps0_75 ++ hostOps0_76 ++ hostOps0_77 ++ hostOps0_78 ++ hostOps0_79 ++ hostOps0_80 ++ hostOps0_81 ++ hostOps0_82 ++ hostOps0_83 ++ hostOps0_84 ++ hostOps0_85 ++ hostOps0_86 ++ hostOps0_87 ++ hostOps0_88 ++ hostOps0_89 ++ hostOps0_90 ++ hostOps0_91 ++ hostOps0_92 ++ hostOps0_93
abbrev last3 : Line := hostOps0_94 ++ hostOps0_95
theorem piece3_0 : StableHlo.after upto3 u (Proc.devRef .tc main_v107) = rows2048 (u (Proc.devRef .tc main_arg33)) := by
  after_reads_simp; rfl
theorem piece3_1 : StableHlo.after upto3 u (Proc.devRef .tc main_v110) = rows2048 (u (Proc.devRef .tc main_arg34)) := by
  after_reads_simp; rfl
theorem piece3_2 : StableHlo.after upto3 u (Proc.devRef .tc main_v113) = rows16 (u (Proc.devRef .tc main_arg35)) := by
  after_reads_simp; rfl
theorem piece3_3 : StableHlo.after upto3 u (Proc.devRef .tc main_v116) = rows64 (u (Proc.devRef .tc main_arg36)) := by
  after_reads_simp; rfl
theorem piece3_4 : StableHlo.after upto3 u (Proc.devRef .tc main_v119) = rows64 (u (Proc.devRef .tc main_arg37)) := by
  after_reads_simp; rfl
theorem piece3_5 : StableHlo.after upto3 u (Proc.devRef .tc main_v122) = rows64 (u (Proc.devRef .tc main_arg38)) := by
  after_reads_simp; rfl
theorem piece3_6 : StableHlo.after upto3 u (Proc.devRef .tc main_v125) = rows64 (u (Proc.devRef .tc main_arg39)) := by
  after_reads_simp; rfl
theorem piece3_7 : StableHlo.after upto3 u (Proc.devRef .tc main_v128) = rows16 (u (Proc.devRef .tc main_arg40)) := by
  after_reads_simp; rfl
theorem piece3_8 : StableHlo.after upto3 u (Proc.devRef .tc main_v131) = rows1024 (u (Proc.devRef .tc main_arg41)) := by
  after_reads_simp; rfl
theorem piece3_9 : StableHlo.after upto3 u (Proc.devRef .tc main_v134) = rows1024 (u (Proc.devRef .tc main_arg42)) := by
  after_reads_simp; rfl
theorem piece3_10 : StableHlo.after upto3 u (Proc.devRef .tc main_v136)
    = pad S2048 ![0] ![0] ![0] (shapeCast S2048 (u (Proc.devRef .tc main_arg43)) shapeCasts_S1x2048_S2048) fill pads_S2048_S2048_000 h_S_ := by
  after_reads_simp; rfl
theorem end3 : StableHlo.after last3 u (Proc.devRef .tc main_v139)
    = stack (u (Proc.devRef .tc main_v107)) (u (Proc.devRef .tc main_v110)) (u (Proc.devRef .tc main_v113)) (u (Proc.devRef .tc main_v116)) (u (Proc.devRef .tc main_v119)) (u (Proc.devRef .tc main_v122)) (u (Proc.devRef .tc main_v125)) (u (Proc.devRef .tc main_v128)) (u (Proc.devRef .tc main_v131)) (u (Proc.devRef .tc main_v134)) (shapeCast S16x128 (u (Proc.devRef .tc main_v136)) shapeCasts_S2048_S16x128) := by
  simp only [last3, hostOps0_94, hostOps0_95, List.cons_append, List.nil_append]
  after_results
  rfl
/-! ## The weights read out of the arrays that the call leaves -/

theorem out1_0 : StableHlo.after hostOps1 u (Proc.devRef .tc main_v143) = cut2048 0 slices_S72x128_S16x128_0_0 (u (Proc.devRef .tc main_v140_1)) := by
  after_reads_simp; rfl
theorem out1_1 : StableHlo.after hostOps1 u (Proc.devRef .tc main_v146) = cut2048 16 slices_S72x128_S16x128_16_0 (u (Proc.devRef .tc main_v140_1)) := by
  after_reads_simp; rfl
theorem out1_2 : StableHlo.after hostOps1 u (Proc.devRef .tc main_v150) = cut16 32 slices_S72x128_S1x128_32_0 (u (Proc.devRef .tc main_v140_1)) := by
  after_reads_simp; rfl
theorem out1_3 : StableHlo.after hostOps1 u (Proc.devRef .tc main_v154) = cut64 33 slices_S72x128_S1x128_33_0 (u (Proc.devRef .tc main_v140_1)) := by
  after_reads_simp; rfl
theorem out1_4 : StableHlo.after hostOps1 u (Proc.devRef .tc main_v158) = cut64 34 slices_S72x128_S1x128_34_0 (u (Proc.devRef .tc main_v140_1)) := by
  after_reads_simp; rfl
theorem out1_5 : StableHlo.after hostOps1 u (Proc.devRef .tc main_v162) = cut64 35 slices_S72x128_S1x128_35_0 (u (Proc.devRef .tc main_v140_1)) := by
  after_reads_simp; rfl
theorem out1_6 : StableHlo.after hostOps1 u (Proc.devRef .tc main_v166) = cut64 36 slices_S72x128_S1x128_36_0 (u (Proc.devRef .tc main_v140_1)) := by
  after_reads_simp; rfl
theorem out1_7 : StableHlo.after hostOps1 u (Proc.devRef .tc main_v170) = cut16 37 slices_S72x128_S1x128_37_0 (u (Proc.devRef .tc main_v140_1)) := by
  after_reads_simp; rfl
theorem out1_8 : StableHlo.after hostOps1 u (Proc.devRef .tc main_v173) = cut1024 38 slices_S72x128_S8x128_38_0 (u (Proc.devRef .tc main_v140_1)) := by
  after_reads_simp; rfl
theorem out1_9 : StableHlo.after hostOps1 u (Proc.devRef .tc main_v176) = cut1024 46 slices_S72x128_S8x128_46_0 (u (Proc.devRef .tc main_v140_1)) := by
  after_reads_simp; rfl
theorem out1_10 : StableHlo.after hostOps1 u (Proc.devRef .tc main_v179) = cut2048 54 slices_S72x128_S16x128_54_0 (u (Proc.devRef .tc main_v140_1)) := by
  after_reads_simp; rfl
theorem out2_0 : StableHlo.after hostOps1 u (Proc.devRef .tc main_v182) = cut2048 0 slices_S72x128_S16x128_0_0 (u (Proc.devRef .tc main_v140_2)) := by
  after_reads_simp; rfl
theorem out2_1 : StableHlo.after hostOps1 u (Proc.devRef .tc main_v185) = cut2048 16 slices_S72x128_S16x128_16_0 (u (Proc.devRef .tc main_v140_2)) := by
  after_reads_simp; rfl
theorem out2_2 : StableHlo.after hostOps1 u (Proc.devRef .tc main_v189) = cut16 32 slices_S72x128_S1x128_32_0 (u (Proc.devRef .tc main_v140_2)) := by
  after_reads_simp; rfl
theorem out2_3 : StableHlo.after hostOps1 u (Proc.devRef .tc main_v193) = cut64 33 slices_S72x128_S1x128_33_0 (u (Proc.devRef .tc main_v140_2)) := by
  after_reads_simp; rfl
theorem out2_4 : StableHlo.after hostOps1 u (Proc.devRef .tc main_v197) = cut64 34 slices_S72x128_S1x128_34_0 (u (Proc.devRef .tc main_v140_2)) := by
  after_reads_simp; rfl
theorem out2_5 : StableHlo.after hostOps1 u (Proc.devRef .tc main_v201) = cut64 35 slices_S72x128_S1x128_35_0 (u (Proc.devRef .tc main_v140_2)) := by
  after_reads_simp; rfl
theorem out2_6 : StableHlo.after hostOps1 u (Proc.devRef .tc main_v205) = cut64 36 slices_S72x128_S1x128_36_0 (u (Proc.devRef .tc main_v140_2)) := by
  after_reads_simp; rfl
theorem out2_7 : StableHlo.after hostOps1 u (Proc.devRef .tc main_v209) = cut16 37 slices_S72x128_S1x128_37_0 (u (Proc.devRef .tc main_v140_2)) := by
  after_reads_simp; rfl
theorem out2_8 : StableHlo.after hostOps1 u (Proc.devRef .tc main_v212) = cut1024 38 slices_S72x128_S8x128_38_0 (u (Proc.devRef .tc main_v140_2)) := by
  after_reads_simp; rfl
theorem out2_9 : StableHlo.after hostOps1 u (Proc.devRef .tc main_v215) = cut1024 46 slices_S72x128_S8x128_46_0 (u (Proc.devRef .tc main_v140_2)) := by
  after_reads_simp; rfl
theorem out2_10 : StableHlo.after hostOps1 u (Proc.devRef .tc main_v218) = cut2048 54 slices_S72x128_S16x128_54_0 (u (Proc.devRef .tc main_v140_2)) := by
  after_reads_simp; rfl
theorem out3_0 : StableHlo.after hostOps1 u (Proc.devRef .tc main_v221) = cut2048 0 slices_S72x128_S16x128_0_0 (u (Proc.devRef .tc main_v140_3)) := by
  after_reads_simp; rfl
theorem out3_1 : StableHlo.after hostOps1 u (Proc.devRef .tc main_v224) = cut2048 16 slices_S72x128_S16x128_16_0 (u (Proc.devRef .tc main_v140_3)) := by
  after_reads_simp; rfl
theorem out3_2 : StableHlo.after hostOps1 u (Proc.devRef .tc main_v228) = cut16 32 slices_S72x128_S1x128_32_0 (u (Proc.devRef .tc main_v140_3)) := by
  after_reads_simp; rfl
theorem out3_3 : StableHlo.after hostOps1 u (Proc.devRef .tc main_v232) = cut64 33 slices_S72x128_S1x128_33_0 (u (Proc.devRef .tc main_v140_3)) := by
  after_reads_simp; rfl
theorem out3_4 : StableHlo.after hostOps1 u (Proc.devRef .tc main_v236) = cut64 34 slices_S72x128_S1x128_34_0 (u (Proc.devRef .tc main_v140_3)) := by
  after_reads_simp; rfl
theorem out3_5 : StableHlo.after hostOps1 u (Proc.devRef .tc main_v240) = cut64 35 slices_S72x128_S1x128_35_0 (u (Proc.devRef .tc main_v140_3)) := by
  after_reads_simp; rfl
theorem out3_6 : StableHlo.after hostOps1 u (Proc.devRef .tc main_v244) = cut64 36 slices_S72x128_S1x128_36_0 (u (Proc.devRef .tc main_v140_3)) := by
  after_reads_simp; rfl
theorem out3_7 : StableHlo.after hostOps1 u (Proc.devRef .tc main_v248) = cut16 37 slices_S72x128_S1x128_37_0 (u (Proc.devRef .tc main_v140_3)) := by
  after_reads_simp; rfl
theorem out3_8 : StableHlo.after hostOps1 u (Proc.devRef .tc main_v251) = cut1024 38 slices_S72x128_S8x128_38_0 (u (Proc.devRef .tc main_v140_3)) := by
  after_reads_simp; rfl
theorem out3_9 : StableHlo.after hostOps1 u (Proc.devRef .tc main_v254) = cut1024 46 slices_S72x128_S8x128_46_0 (u (Proc.devRef .tc main_v140_3)) := by
  after_reads_simp; rfl
theorem out3_10 : StableHlo.after hostOps1 u (Proc.devRef .tc main_v257) = cut2048 54 slices_S72x128_S16x128_54_0 (u (Proc.devRef .tc main_v140_3)) := by
  after_reads_simp; rfl

end Cert.Small

end
-- ==== Proof.SmallAdam.lean ====
/- The call of the small weights' optimiser: what it leaves in its arrays, and in the eleven updates and the twenty-two moments
   that the host reads out of them. -/
module

public import proofs.«01_k».proof.Proof.SmallHost
public import proofs.«01_k».proof.Proof.Gen.Kernel11Ideal.Frame
public import proofs.«01_k».proof.Proof.Adam
public import proofs.«01_k».proof.Proof.Products

@[expose] public section

set_option maxRecDepth 16384

noncomputable section

namespace Cert.Small

open Idealize.ShloMosaic Idealize.ShloMosaic.TcCoe Idealize.SL.Sem Cert.Kernel11Ideal Cert.Kernel11Ideal.Gen
open Cert.Adam (first second step bias1 bias2 zeros2)

/-- The factors in place of the two divisions are the divisors' reciprocals. -/
theorem named1 : (Named.named κ "bias1" 0x3FC48605#32 : Ideal .f32) = ((8388608 / 5463681 : ℝ) : EReal) :=
  IdealRules.named_const.ideal_named_scalar _ _ _ _ rfl
theorem named2 : (Named.named κ "bias2" 0x42C8E6D3#32 : Ideal .f32) = ((268435456 / 2672307 : ℝ) : EReal) :=
  IdealRules.named_const.ideal_named_scalar _ _ _ _ rfl

/-- The update with the two divisions made products is the update. -/
theorem step_eq (w g m v : EReal) :
    Ideal.ofBits .f32 0xBA83126F#32 *
      (Ideal.div (first g m * (Named.named κ "bias1" 0x3FC48605#32 : Ideal .f32))
          (Ideal.sqrt (second g v * (Named.named κ "bias2" 0x42C8E6D3#32 : Ideal .f32)) + Ideal.ofBits .f32 0x322BCC77#32)
        + Ideal.ofBits .f32 0x3C23D70A#32 * w) = step w g m v := by
  unfold step
  rw [named1, named2, bias1, bias2, Ideal.div_coe (by norm_num), Ideal.div_coe (by norm_num),
    show (1 / (5463681 / 8388608) : ℝ) = 8388608 / 5463681 by norm_num,
    show (1 / (2672307 / 268435456) : ℝ) = 268435456 / 2672307 by norm_num]

variable (m : (ℓ : Loc nD τ Cert.Kernel11Ideal.sig) → Buf (Elt Ideal) ℓ) (ρ : Dev nD → PrngReg) (c : Dev nD)

/-! ## The four arrays that the call reads -/

/-- The host's line before the call. -/
abbrev whole : Line := List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80, hostOps0_81, hostOps0_82, hostOps0_83, hostOps0_84, hostOps0_85, hostOps0_86, hostOps0_87, hostOps0_88, hostOps0_89, hostOps0_90, hostOps0_91, hostOps0_92, hostOps0_93, hostOps0_94, hostOps0_95]

/-- The packed weights. -/
theorem held0 : V m c main_v34 = packed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  show StableHlo.after whole (fun b => m (c, b)) (Proc.devRef .tc main_v34) = _
  rw [show whole = upto0 ++ (last0 ++ rest0) from by
    simp only [whole, List.flatten_cons, List.flatten_nil, List.append_nil, List.append_assoc]]
  rw [StableHlo.after_append, StableHlo.after_append, keep0, end0, piece0_0, piece0_1, piece0_2, piece0_3, piece0_4, piece0_5, piece0_6, piece0_7, piece0_8, piece0_9, piece0_10]
  rfl

/-- The packed gradients. -/
theorem held1 : V m c main_v69 = packed (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) := by
  show StableHlo.after whole (fun b => m (c, b)) (Proc.devRef .tc main_v69) = _
  rw [show whole = upto1 ++ (last1 ++ rest1) from by
    simp only [whole, List.flatten_cons, List.flatten_nil, List.append_nil, List.append_assoc]]
  rw [StableHlo.after_append, StableHlo.after_append, keep1, end1, piece1_0, piece1_1, piece1_2, piece1_3, piece1_4, piece1_5, piece1_6, piece1_7, piece1_8, piece1_9, piece1_10]
  rfl

/-- The packed first moments. -/
theorem held2 : V m c main_v104 = packed (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) := by
  show StableHlo.after whole (fun b => m (c, b)) (Proc.devRef .tc main_v104) = _
  rw [show whole = upto2 ++ (last2 ++ rest2) from by
    simp only [whole, List.flatten_cons, List.flatten_nil, List.append_nil, List.append_assoc]]
  rw [StableHlo.after_append, StableHlo.after_append, keep2, end2, piece2_0, piece2_1, piece2_2, piece2_3, piece2_4, piece2_5, piece2_6, piece2_7, piece2_8, piece2_9, piece2_10]
  rfl

/-- The packed second moments. -/
theorem held3 : V m c main_v139 = packed (m ((c.tc : Thread nD τ).loc main_arg33)) (m ((c.tc : Thread nD τ).loc main_arg34)) (m ((c.tc : Thread nD τ).loc main_arg35)) (m ((c.tc : Thread nD τ).loc main_arg36)) (m ((c.tc : Thread nD τ).loc main_arg37)) (m ((c.tc : Thread nD τ).loc main_arg38)) (m ((c.tc : Thread nD τ).loc main_arg39)) (m ((c.tc : Thread nD τ).loc main_arg40)) (m ((c.tc : Thread nD τ).loc main_arg41)) (m ((c.tc : Thread nD τ).loc main_arg42)) (m ((c.tc : Thread nD τ).loc main_arg43)) := by
  show StableHlo.after whole (fun b => m (c, b)) (Proc.devRef .tc main_v139) = _
  rw [show whole = upto3 ++ last3 from by
    simp only [whole, List.flatten_cons, List.flatten_nil, List.append_nil, List.append_assoc]]
  rw [StableHlo.after_append, end3, piece3_0, piece3_1, piece3_2, piece3_3, piece3_4, piece3_5, piece3_6, piece3_7, piece3_8, piece3_9, piece3_10]
  rfl

/-! ## The call's arrays -/

/-- The array of the update. -/
theorem arr5 : (dats m 0 c).arrAt 5 cfg0.N = fun i : S72x128.Idx => step (V m c main_v34 i) (V m c main_v69 i) (V m c main_v104 i) (V m c main_v139 i) := by
  refine (dats m 0 c).arrAt_eq_of_covers 5 _ (by decide +kernel) fun t hf y => ?_
  suffices hs : ∀ y : S72x128.Idx, (dats m 0 c).after 5 t y
      = (fun i : S72x128.Idx => step (V m c main_v34 i) (V m c main_v69 i) (V m c main_v104 i) (V m c main_v139 i)) (((cfg0.win 5).blk t).view.emb y) from hs y
  intro y
  rw [after0_5]
  unfold out0_5
  rw [View.canon_unit_zero zeros2, View.ld_unit_zero zeros2, View.ld_unit_zero zeros2, View.ld_unit_zero zeros2, View.ld_unit_zero zeros2]
  unfold_payloads; pointwise
  exact step_eq ..

/-- The array of the new first moment. -/
theorem arr6 : (dats m 0 c).arrAt 6 cfg0.N = fun i : S72x128.Idx => first (V m c main_v69 i) (V m c main_v104 i) := by
  refine (dats m 0 c).arrAt_eq_of_covers 6 _ (by decide +kernel) fun t hf y => ?_
  suffices hs : ∀ y : S72x128.Idx, (dats m 0 c).after 6 t y
      = (fun i : S72x128.Idx => first (V m c main_v69 i) (V m c main_v104 i)) (((cfg0.win 6).blk t).view.emb y) from hs y
  intro y
  rw [after0_6]
  unfold out0_6
  rw [View.canon_unit_zero zeros2, View.ld_unit_zero zeros2, View.ld_unit_zero zeros2]
  unfold_payloads; pointwise
  rfl

/-- The array of the new second moment. -/
theorem arr7 : (dats m 0 c).arrAt 7 cfg0.N = fun i : S72x128.Idx => second (V m c main_v69 i) (V m c main_v139 i) := by
  refine (dats m 0 c).arrAt_eq_of_covers 7 _ (by decide +kernel) fun t hf y => ?_
  suffices hs : ∀ y : S72x128.Idx, (dats m 0 c).after 7 t y
      = (fun i : S72x128.Idx => second (V m c main_v69 i) (V m c main_v139 i)) (((cfg0.win 7).blk t).view.emb y) from hs y
  intro y
  rw [after0_7]
  unfold out0_7
  rw [View.canon_unit_zero zeros2, View.ld_unit_zero zeros2, View.ld_unit_zero zeros2]
  unfold_payloads; pointwise
  rfl

/-! ## The results -/

theorem flat {n : ℕ} (i : (⟨2, ![1, n]⟩ : Shape).Idx) : ∃ j : Fin n, i = ix2 0 j := by
  obtain ⟨a, b, rfl⟩ := Cert.Products.exists2 (m := 1) (n := n) i
  obtain rfl : a = 0 := Subsingleton.elim _ _
  exact ⟨b, rfl⟩

def new1_0 : Arr S1x2048 := fun i => step (m ((c.tc : Thread nD τ).loc main_arg0) i) (m ((c.tc : Thread nD τ).loc main_arg11) i) (m ((c.tc : Thread nD τ).loc main_arg22) i) (m ((c.tc : Thread nD τ).loc main_arg33) i)
theorem left1_0 : Pipeline.afterTail₀ cfgs (dats m) 0 (V0 m) [hostOps1] c main_v143
    = new1_0 m c := by
  show StableHlo.after hostOps1 _ (Proc.devRef .tc main_v143) = _
  rw [out1_0, Pipeline.withArrays_arr spec0 launch0.win.arr_inj c _ _ 5, arr5]
  funext i
  obtain ⟨j, rfl⟩ := flat i
  refine (cut2048_apply 0 _ _ (by decide) j).trans ?_
  dsimp only [new1_0]
  rw [held0, held1, held2, held3, packed_0, packed_0, packed_0, packed_0]

def new1_1 : Arr S1x2048 := fun i => step (m ((c.tc : Thread nD τ).loc main_arg1) i) (m ((c.tc : Thread nD τ).loc main_arg12) i) (m ((c.tc : Thread nD τ).loc main_arg23) i) (m ((c.tc : Thread nD τ).loc main_arg34) i)
theorem left1_1 : Pipeline.afterTail₀ cfgs (dats m) 0 (V0 m) [hostOps1] c main_v146
    = new1_1 m c := by
  show StableHlo.after hostOps1 _ (Proc.devRef .tc main_v146) = _
  rw [out1_1, Pipeline.withArrays_arr spec0 launch0.win.arr_inj c _ _ 5, arr5]
  funext i
  obtain ⟨j, rfl⟩ := flat i
  refine (cut2048_apply 16 _ _ (by decide) j).trans ?_
  dsimp only [new1_1]
  rw [held0, held1, held2, held3, packed_1, packed_1, packed_1, packed_1]

def new1_2 : Arr S1x16 := fun i => step (m ((c.tc : Thread nD τ).loc main_arg2) i) (m ((c.tc : Thread nD τ).loc main_arg13) i) (m ((c.tc : Thread nD τ).loc main_arg24) i) (m ((c.tc : Thread nD τ).loc main_arg35) i)
theorem left1_2 : Pipeline.afterTail₀ cfgs (dats m) 0 (V0 m) [hostOps1] c main_v150
    = new1_2 m c := by
  show StableHlo.after hostOps1 _ (Proc.devRef .tc main_v150) = _
  rw [out1_2, Pipeline.withArrays_arr spec0 launch0.win.arr_inj c _ _ 5, arr5]
  funext i
  obtain ⟨j, rfl⟩ := flat i
  refine (cut16_apply 32 _ _ (by decide) j).trans ?_
  dsimp only [new1_2]
  rw [held0, held1, held2, held3, packed_2, packed_2, packed_2, packed_2]

def new1_3 : Arr S1x64 := fun i => step (m ((c.tc : Thread nD τ).loc main_arg3) i) (m ((c.tc : Thread nD τ).loc main_arg14) i) (m ((c.tc : Thread nD τ).loc main_arg25) i) (m ((c.tc : Thread nD τ).loc main_arg36) i)
theorem left1_3 : Pipeline.afterTail₀ cfgs (dats m) 0 (V0 m) [hostOps1] c main_v154
    = new1_3 m c := by
  show StableHlo.after hostOps1 _ (Proc.devRef .tc main_v154) = _
  rw [out1_3, Pipeline.withArrays_arr spec0 launch0.win.arr_inj c _ _ 5, arr5]
  funext i
  obtain ⟨j, rfl⟩ := flat i
  refine (cut64_apply 33 _ _ (by decide) j).trans ?_
  dsimp only [new1_3]
  rw [held0, held1, held2, held3, packed_3, packed_3, packed_3, packed_3]

def new1_4 : Arr S1x64 := fun i => step (m ((c.tc : Thread nD τ).loc main_arg4) i) (m ((c.tc : Thread nD τ).loc main_arg15) i) (m ((c.tc : Thread nD τ).loc main_arg26) i) (m ((c.tc : Thread nD τ).loc main_arg37) i)
theorem left1_4 : Pipeline.afterTail₀ cfgs (dats m) 0 (V0 m) [hostOps1] c main_v158
    = new1_4 m c := by
  show StableHlo.after hostOps1 _ (Proc.devRef .tc main_v158) = _
  rw [out1_4, Pipeline.withArrays_arr spec0 launch0.win.arr_inj c _ _ 5, arr5]
  funext i
  obtain ⟨j, rfl⟩ := flat i
  refine (cut64_apply 34 _ _ (by decide) j).trans ?_
  dsimp only [new1_4]
  rw [held0, held1, held2, held3, packed_4, packed_4, packed_4, packed_4]

def new1_5 : Arr S1x64 := fun i => step (m ((c.tc : Thread nD τ).loc main_arg5) i) (m ((c.tc : Thread nD τ).loc main_arg16) i) (m ((c.tc : Thread nD τ).loc main_arg27) i) (m ((c.tc : Thread nD τ).loc main_arg38) i)
theorem left1_5 : Pipeline.afterTail₀ cfgs (dats m) 0 (V0 m) [hostOps1] c main_v162
    = new1_5 m c := by
  show StableHlo.after hostOps1 _ (Proc.devRef .tc main_v162) = _
  rw [out1_5, Pipeline.withArrays_arr spec0 launch0.win.arr_inj c _ _ 5, arr5]
  funext i
  obtain ⟨j, rfl⟩ := flat i
  refine (cut64_apply 35 _ _ (by decide) j).trans ?_
  dsimp only [new1_5]
  rw [held0, held1, held2, held3, packed_5, packed_5, packed_5, packed_5]

def new1_6 : Arr S1x64 := fun i => step (m ((c.tc : Thread nD τ).loc main_arg6) i) (m ((c.tc : Thread nD τ).loc main_arg17) i) (m ((c.tc : Thread nD τ).loc main_arg28) i) (m ((c.tc : Thread nD τ).loc main_arg39) i)
theorem left1_6 : Pipeline.afterTail₀ cfgs (dats m) 0 (V0 m) [hostOps1] c main_v166
    = new1_6 m c := by
  show StableHlo.after hostOps1 _ (Proc.devRef .tc main_v166) = _
  rw [out1_6, Pipeline.withArrays_arr spec0 launch0.win.arr_inj c _ _ 5, arr5]
  funext i
  obtain ⟨j, rfl⟩ := flat i
  refine (cut64_apply 36 _ _ (by decide) j).trans ?_
  dsimp only [new1_6]
  rw [held0, held1, held2, held3, packed_6, packed_6, packed_6, packed_6]

def new1_7 : Arr S1x16 := fun i => step (m ((c.tc : Thread nD τ).loc main_arg7) i) (m ((c.tc : Thread nD τ).loc main_arg18) i) (m ((c.tc : Thread nD τ).loc main_arg29) i) (m ((c.tc : Thread nD τ).loc main_arg40) i)
theorem left1_7 : Pipeline.afterTail₀ cfgs (dats m) 0 (V0 m) [hostOps1] c main_v170
    = new1_7 m c := by
  show StableHlo.after hostOps1 _ (Proc.devRef .tc main_v170) = _
  rw [out1_7, Pipeline.withArrays_arr spec0 launch0.win.arr_inj c _ _ 5, arr5]
  funext i
  obtain ⟨j, rfl⟩ := flat i
  refine (cut16_apply 37 _ _ (by decide) j).trans ?_
  dsimp only [new1_7]
  rw [held0, held1, held2, held3, packed_7, packed_7, packed_7, packed_7]

def new1_8 : Arr S1x1024 := fun i => step (m ((c.tc : Thread nD τ).loc main_arg8) i) (m ((c.tc : Thread nD τ).loc main_arg19) i) (m ((c.tc : Thread nD τ).loc main_arg30) i) (m ((c.tc : Thread nD τ).loc main_arg41) i)
theorem left1_8 : Pipeline.afterTail₀ cfgs (dats m) 0 (V0 m) [hostOps1] c main_v173
    = new1_8 m c := by
  show StableHlo.after hostOps1 _ (Proc.devRef .tc main_v173) = _
  rw [out1_8, Pipeline.withArrays_arr spec0 launch0.win.arr_inj c _ _ 5, arr5]
  funext i
  obtain ⟨j, rfl⟩ := flat i
  refine (cut1024_apply 38 _ _ (by decide) j).trans ?_
  dsimp only [new1_8]
  rw [held0, held1, held2, held3, packed_8, packed_8, packed_8, packed_8]

def new1_9 : Arr S1x1024 := fun i => step (m ((c.tc : Thread nD τ).loc main_arg9) i) (m ((c.tc : Thread nD τ).loc main_arg20) i) (m ((c.tc : Thread nD τ).loc main_arg31) i) (m ((c.tc : Thread nD τ).loc main_arg42) i)
theorem left1_9 : Pipeline.afterTail₀ cfgs (dats m) 0 (V0 m) [hostOps1] c main_v176
    = new1_9 m c := by
  show StableHlo.after hostOps1 _ (Proc.devRef .tc main_v176) = _
  rw [out1_9, Pipeline.withArrays_arr spec0 launch0.win.arr_inj c _ _ 5, arr5]
  funext i
  obtain ⟨j, rfl⟩ := flat i
  refine (cut1024_apply 46 _ _ (by decide) j).trans ?_
  dsimp only [new1_9]
  rw [held0, held1, held2, held3, packed_9, packed_9, packed_9, packed_9]

def new1_10 : Arr S1x2048 := fun i => step (m ((c.tc : Thread nD τ).loc main_arg10) i) (m ((c.tc : Thread nD τ).loc main_arg21) i) (m ((c.tc : Thread nD τ).loc main_arg32) i) (m ((c.tc : Thread nD τ).loc main_arg43) i)
theorem left1_10 : Pipeline.afterTail₀ cfgs (dats m) 0 (V0 m) [hostOps1] c main_v179
    = new1_10 m c := by
  show StableHlo.after hostOps1 _ (Proc.devRef .tc main_v179) = _
  rw [out1_10, Pipeline.withArrays_arr spec0 launch0.win.arr_inj c _ _ 5, arr5]
  funext i
  obtain ⟨j, rfl⟩ := flat i
  refine (cut2048_apply 54 _ _ (by decide) j).trans ?_
  dsimp only [new1_10]
  rw [held0, held1, held2, held3, packed_10, packed_10, packed_10, packed_10]

def new2_0 : Arr S1x2048 := fun i => first (m ((c.tc : Thread nD τ).loc main_arg11) i) (m ((c.tc : Thread nD τ).loc main_arg22) i)
theorem left2_0 : Pipeline.afterTail₀ cfgs (dats m) 0 (V0 m) [hostOps1] c main_v182
    = new2_0 m c := by
  show StableHlo.after hostOps1 _ (Proc.devRef .tc main_v182) = _
  rw [out2_0, Pipeline.withArrays_arr spec0 launch0.win.arr_inj c _ _ 6, arr6]
  funext i
  obtain ⟨j, rfl⟩ := flat i
  refine (cut2048_apply 0 _ _ (by decide) j).trans ?_
  dsimp only [new2_0]
  rw [held1, held2, packed_0, packed_0]

def new2_1 : Arr S1x2048 := fun i => first (m ((c.tc : Thread nD τ).loc main_arg12) i) (m ((c.tc : Thread nD τ).loc main_arg23) i)
theorem left2_1 : Pipeline.afterTail₀ cfgs (dats m) 0 (V0 m) [hostOps1] c main_v185
    = new2_1 m c := by
  show StableHlo.after hostOps1 _ (Proc.devRef .tc main_v185) = _
  rw [out2_1, Pipeline.withArrays_arr spec0 launch0.win.arr_inj c _ _ 6, arr6]
  funext i
  obtain ⟨j, rfl⟩ := flat i
  refine (cut2048_apply 16 _ _ (by decide) j).trans ?_
  dsimp only [new2_1]
  rw [held1, held2, packed_1, packed_1]

def new2_2 : Arr S1x16 := fun i => first (m ((c.tc : Thread nD τ).loc main_arg13) i) (m ((c.tc : Thread nD τ).loc main_arg24) i)
theorem left2_2 : Pipeline.afterTail₀ cfgs (dats m) 0 (V0 m) [hostOps1] c main_v189
    = new2_2 m c := by
  show StableHlo.after hostOps1 _ (Proc.devRef .tc main_v189) = _
  rw [out2_2, Pipeline.withArrays_arr spec0 launch0.win.arr_inj c _ _ 6, arr6]
  funext i
  obtain ⟨j, rfl⟩ := flat i
  refine (cut16_apply 32 _ _ (by decide) j).trans ?_
  dsimp only [new2_2]
  rw [held1, held2, packed_2, packed_2]

def new2_3 : Arr S1x64 := fun i => first (m ((c.tc : Thread nD τ).loc main_arg14) i) (m ((c.tc : Thread nD τ).loc main_arg25) i)
theorem left2_3 : Pipeline.afterTail₀ cfgs (dats m) 0 (V0 m) [hostOps1] c main_v193
    = new2_3 m c := by
  show StableHlo.after hostOps1 _ (Proc.devRef .tc main_v193) = _
  rw [out2_3, Pipeline.withArrays_arr spec0 launch0.win.arr_inj c _ _ 6, arr6]
  funext i
  obtain ⟨j, rfl⟩ := flat i
  refine (cut64_apply 33 _ _ (by decide) j).trans ?_
  dsimp only [new2_3]
  rw [held1, held2, packed_3, packed_3]

def new2_4 : Arr S1x64 := fun i => first (m ((c.tc : Thread nD τ).loc main_arg15) i) (m ((c.tc : Thread nD τ).loc main_arg26) i)
theorem left2_4 : Pipeline.afterTail₀ cfgs (dats m) 0 (V0 m) [hostOps1] c main_v197
    = new2_4 m c := by
  show StableHlo.after hostOps1 _ (Proc.devRef .tc main_v197) = _
  rw [out2_4, Pipeline.withArrays_arr spec0 launch0.win.arr_inj c _ _ 6, arr6]
  funext i
  obtain ⟨j, rfl⟩ := flat i
  refine (cut64_apply 34 _ _ (by decide) j).trans ?_
  dsimp only [new2_4]
  rw [held1, held2, packed_4, packed_4]

def new2_5 : Arr S1x64 := fun i => first (m ((c.tc : Thread nD τ).loc main_arg16) i) (m ((c.tc : Thread nD τ).loc main_arg27) i)
theorem left2_5 : Pipeline.afterTail₀ cfgs (dats m) 0 (V0 m) [hostOps1] c main_v201
    = new2_5 m c := by
  show StableHlo.after hostOps1 _ (Proc.devRef .tc main_v201) = _
  rw [out2_5, Pipeline.withArrays_arr spec0 launch0.win.arr_inj c _ _ 6, arr6]
  funext i
  obtain ⟨j, rfl⟩ := flat i
  refine (cut64_apply 35 _ _ (by decide) j).trans ?_
  dsimp only [new2_5]
  rw [held1, held2, packed_5, packed_5]

def new2_6 : Arr S1x64 := fun i => first (m ((c.tc : Thread nD τ).loc main_arg17) i) (m ((c.tc : Thread nD τ).loc main_arg28) i)
theorem left2_6 : Pipeline.afterTail₀ cfgs (dats m) 0 (V0 m) [hostOps1] c main_v205
    = new2_6 m c := by
  show StableHlo.after hostOps1 _ (Proc.devRef .tc main_v205) = _
  rw [out2_6, Pipeline.withArrays_arr spec0 launch0.win.arr_inj c _ _ 6, arr6]
  funext i
  obtain ⟨j, rfl⟩ := flat i
  refine (cut64_apply 36 _ _ (by decide) j).trans ?_
  dsimp only [new2_6]
  rw [held1, held2, packed_6, packed_6]

def new2_7 : Arr S1x16 := fun i => first (m ((c.tc : Thread nD τ).loc main_arg18) i) (m ((c.tc : Thread nD τ).loc main_arg29) i)
theorem left2_7 : Pipeline.afterTail₀ cfgs (dats m) 0 (V0 m) [hostOps1] c main_v209
    = new2_7 m c := by
  show StableHlo.after hostOps1 _ (Proc.devRef .tc main_v209) = _
  rw [out2_7, Pipeline.withArrays_arr spec0 launch0.win.arr_inj c _ _ 6, arr6]
  funext i
  obtain ⟨j, rfl⟩ := flat i
  refine (cut16_apply 37 _ _ (by decide) j).trans ?_
  dsimp only [new2_7]
  rw [held1, held2, packed_7, packed_7]

def new2_8 : Arr S1x1024 := fun i => first (m ((c.tc : Thread nD τ).loc main_arg19) i) (m ((c.tc : Thread nD τ).loc main_arg30) i)
theorem left2_8 : Pipeline.afterTail₀ cfgs (dats m) 0 (V0 m) [hostOps1] c main_v212
    = new2_8 m c := by
  show StableHlo.after hostOps1 _ (Proc.devRef .tc main_v212) = _
  rw [out2_8, Pipeline.withArrays_arr spec0 launch0.win.arr_inj c _ _ 6, arr6]
  funext i
  obtain ⟨j, rfl⟩ := flat i
  refine (cut1024_apply 38 _ _ (by decide) j).trans ?_
  dsimp only [new2_8]
  rw [held1, held2, packed_8, packed_8]

def new2_9 : Arr S1x1024 := fun i => first (m ((c.tc : Thread nD τ).loc main_arg20) i) (m ((c.tc : Thread nD τ).loc main_arg31) i)
theorem left2_9 : Pipeline.afterTail₀ cfgs (dats m) 0 (V0 m) [hostOps1] c main_v215
    = new2_9 m c := by
  show StableHlo.after hostOps1 _ (Proc.devRef .tc main_v215) = _
  rw [out2_9, Pipeline.withArrays_arr spec0 launch0.win.arr_inj c _ _ 6, arr6]
  funext i
  obtain ⟨j, rfl⟩ := flat i
  refine (cut1024_apply 46 _ _ (by decide) j).trans ?_
  dsimp only [new2_9]
  rw [held1, held2, packed_9, packed_9]

def new2_10 : Arr S1x2048 := fun i => first (m ((c.tc : Thread nD τ).loc main_arg21) i) (m ((c.tc : Thread nD τ).loc main_arg32) i)
theorem left2_10 : Pipeline.afterTail₀ cfgs (dats m) 0 (V0 m) [hostOps1] c main_v218
    = new2_10 m c := by
  show StableHlo.after hostOps1 _ (Proc.devRef .tc main_v218) = _
  rw [out2_10, Pipeline.withArrays_arr spec0 launch0.win.arr_inj c _ _ 6, arr6]
  funext i
  obtain ⟨j, rfl⟩ := flat i
  refine (cut2048_apply 54 _ _ (by decide) j).trans ?_
  dsimp only [new2_10]
  rw [held1, held2, packed_10, packed_10]

def new3_0 : Arr S1x2048 := fun i => second (m ((c.tc : Thread nD τ).loc main_arg11) i) (m ((c.tc : Thread nD τ).loc main_arg33) i)
theorem left3_0 : Pipeline.afterTail₀ cfgs (dats m) 0 (V0 m) [hostOps1] c main_v221
    = new3_0 m c := by
  show StableHlo.after hostOps1 _ (Proc.devRef .tc main_v221) = _
  rw [out3_0, Pipeline.withArrays_arr spec0 launch0.win.arr_inj c _ _ 7, arr7]
  funext i
  obtain ⟨j, rfl⟩ := flat i
  refine (cut2048_apply 0 _ _ (by decide) j).trans ?_
  dsimp only [new3_0]
  rw [held1, held3, packed_0, packed_0]

def new3_1 : Arr S1x2048 := fun i => second (m ((c.tc : Thread nD τ).loc main_arg12) i) (m ((c.tc : Thread nD τ).loc main_arg34) i)
theorem left3_1 : Pipeline.afterTail₀ cfgs (dats m) 0 (V0 m) [hostOps1] c main_v224
    = new3_1 m c := by
  show StableHlo.after hostOps1 _ (Proc.devRef .tc main_v224) = _
  rw [out3_1, Pipeline.withArrays_arr spec0 launch0.win.arr_inj c _ _ 7, arr7]
  funext i
  obtain ⟨j, rfl⟩ := flat i
  refine (cut2048_apply 16 _ _ (by decide) j).trans ?_
  dsimp only [new3_1]
  rw [held1, held3, packed_1, packed_1]

def new3_2 : Arr S1x16 := fun i => second (m ((c.tc : Thread nD τ).loc main_arg13) i) (m ((c.tc : Thread nD τ).loc main_arg35) i)
theorem left3_2 : Pipeline.afterTail₀ cfgs (dats m) 0 (V0 m) [hostOps1] c main_v228
    = new3_2 m c := by
  show StableHlo.after hostOps1 _ (Proc.devRef .tc main_v228) = _
  rw [out3_2, Pipeline.withArrays_arr spec0 launch0.win.arr_inj c _ _ 7, arr7]
  funext i
  obtain ⟨j, rfl⟩ := flat i
  refine (cut16_apply 32 _ _ (by decide) j).trans ?_
  dsimp only [new3_2]
  rw [held1, held3, packed_2, packed_2]

def new3_3 : Arr S1x64 := fun i => second (m ((c.tc : Thread nD τ).loc main_arg14) i) (m ((c.tc : Thread nD τ).loc main_arg36) i)
theorem left3_3 : Pipeline.afterTail₀ cfgs (dats m) 0 (V0 m) [hostOps1] c main_v232
    = new3_3 m c := by
  show StableHlo.after hostOps1 _ (Proc.devRef .tc main_v232) = _
  rw [out3_3, Pipeline.withArrays_arr spec0 launch0.win.arr_inj c _ _ 7, arr7]
  funext i
  obtain ⟨j, rfl⟩ := flat i
  refine (cut64_apply 33 _ _ (by decide) j).trans ?_
  dsimp only [new3_3]
  rw [held1, held3, packed_3, packed_3]

def new3_4 : Arr S1x64 := fun i => second (m ((c.tc : Thread nD τ).loc main_arg15) i) (m ((c.tc : Thread nD τ).loc main_arg37) i)
theorem left3_4 : Pipeline.afterTail₀ cfgs (dats m) 0 (V0 m) [hostOps1] c main_v236
    = new3_4 m c := by
  show StableHlo.after hostOps1 _ (Proc.devRef .tc main_v236) = _
  rw [out3_4, Pipeline.withArrays_arr spec0 launch0.win.arr_inj c _ _ 7, arr7]
  funext i
  obtain ⟨j, rfl⟩ := flat i
  refine (cut64_apply 34 _ _ (by decide) j).trans ?_
  dsimp only [new3_4]
  rw [held1, held3, packed_4, packed_4]

def new3_5 : Arr S1x64 := fun i => second (m ((c.tc : Thread nD τ).loc main_arg16) i) (m ((c.tc : Thread nD τ).loc main_arg38) i)
theorem left3_5 : Pipeline.afterTail₀ cfgs (dats m) 0 (V0 m) [hostOps1] c main_v240
    = new3_5 m c := by
  show StableHlo.after hostOps1 _ (Proc.devRef .tc main_v240) = _
  rw [out3_5, Pipeline.withArrays_arr spec0 launch0.win.arr_inj c _ _ 7, arr7]
  funext i
  obtain ⟨j, rfl⟩ := flat i
  refine (cut64_apply 35 _ _ (by decide) j).trans ?_
  dsimp only [new3_5]
  rw [held1, held3, packed_5, packed_5]

def new3_6 : Arr S1x64 := fun i => second (m ((c.tc : Thread nD τ).loc main_arg17) i) (m ((c.tc : Thread nD τ).loc main_arg39) i)
theorem left3_6 : Pipeline.afterTail₀ cfgs (dats m) 0 (V0 m) [hostOps1] c main_v244
    = new3_6 m c := by
  show StableHlo.after hostOps1 _ (Proc.devRef .tc main_v244) = _
  rw [out3_6, Pipeline.withArrays_arr spec0 launch0.win.arr_inj c _ _ 7, arr7]
  funext i
  obtain ⟨j, rfl⟩ := flat i
  refine (cut64_apply 36 _ _ (by decide) j).trans ?_
  dsimp only [new3_6]
  rw [held1, held3, packed_6, packed_6]

def new3_7 : Arr S1x16 := fun i => second (m ((c.tc : Thread nD τ).loc main_arg18) i) (m ((c.tc : Thread nD τ).loc main_arg40) i)
theorem left3_7 : Pipeline.afterTail₀ cfgs (dats m) 0 (V0 m) [hostOps1] c main_v248
    = new3_7 m c := by
  show StableHlo.after hostOps1 _ (Proc.devRef .tc main_v248) = _
  rw [out3_7, Pipeline.withArrays_arr spec0 launch0.win.arr_inj c _ _ 7, arr7]
  funext i
  obtain ⟨j, rfl⟩ := flat i
  refine (cut16_apply 37 _ _ (by decide) j).trans ?_
  dsimp only [new3_7]
  rw [held1, held3, packed_7, packed_7]

def new3_8 : Arr S1x1024 := fun i => second (m ((c.tc : Thread nD τ).loc main_arg19) i) (m ((c.tc : Thread nD τ).loc main_arg41) i)
theorem left3_8 : Pipeline.afterTail₀ cfgs (dats m) 0 (V0 m) [hostOps1] c main_v251
    = new3_8 m c := by
  show StableHlo.after hostOps1 _ (Proc.devRef .tc main_v251) = _
  rw [out3_8, Pipeline.withArrays_arr spec0 launch0.win.arr_inj c _ _ 7, arr7]
  funext i
  obtain ⟨j, rfl⟩ := flat i
  refine (cut1024_apply 38 _ _ (by decide) j).trans ?_
  dsimp only [new3_8]
  rw [held1, held3, packed_8, packed_8]

def new3_9 : Arr S1x1024 := fun i => second (m ((c.tc : Thread nD τ).loc main_arg20) i) (m ((c.tc : Thread nD τ).loc main_arg42) i)
theorem left3_9 : Pipeline.afterTail₀ cfgs (dats m) 0 (V0 m) [hostOps1] c main_v254
    = new3_9 m c := by
  show StableHlo.after hostOps1 _ (Proc.devRef .tc main_v254) = _
  rw [out3_9, Pipeline.withArrays_arr spec0 launch0.win.arr_inj c _ _ 7, arr7]
  funext i
  obtain ⟨j, rfl⟩ := flat i
  refine (cut1024_apply 46 _ _ (by decide) j).trans ?_
  dsimp only [new3_9]
  rw [held1, held3, packed_9, packed_9]

def new3_10 : Arr S1x2048 := fun i => second (m ((c.tc : Thread nD τ).loc main_arg21) i) (m ((c.tc : Thread nD τ).loc main_arg43) i)
theorem left3_10 : Pipeline.afterTail₀ cfgs (dats m) 0 (V0 m) [hostOps1] c main_v257
    = new3_10 m c := by
  show StableHlo.after hostOps1 _ (Proc.devRef .tc main_v257) = _
  rw [out3_10, Pipeline.withArrays_arr spec0 launch0.win.arr_inj c _ _ 7, arr7]
  funext i
  obtain ⟨j, rfl⟩ := flat i
  refine (cut2048_apply 54 _ _ (by decide) j).trans ?_
  dsimp only [new3_10]
  rw [held1, held3, packed_10, packed_10]

set_option maxHeartbeats 1600000 in
/-- The thirty-three results and the arguments when the program is done. -/
theorem run_results : θ_run defs (onTc (τ := τ) (main (F := Ideal))) ⟨m, fun _ => 0, ρ⟩ (fun r => ∀ c : Dev nD,
      r.2.mem ((c.tc : Thread nD τ).loc main_v143) = new1_0 m c
      ∧ r.2.mem ((c.tc : Thread nD τ).loc main_v146) = new1_1 m c
      ∧ r.2.mem ((c.tc : Thread nD τ).loc main_v150) = new1_2 m c
      ∧ r.2.mem ((c.tc : Thread nD τ).loc main_v154) = new1_3 m c
      ∧ r.2.mem ((c.tc : Thread nD τ).loc main_v158) = new1_4 m c
      ∧ r.2.mem ((c.tc : Thread nD τ).loc main_v162) = new1_5 m c
      ∧ r.2.mem ((c.tc : Thread nD τ).loc main_v166) = new1_6 m c
      ∧ r.2.mem ((c.tc : Thread nD τ).loc main_v170) = new1_7 m c
      ∧ r.2.mem ((c.tc : Thread nD τ).loc main_v173) = new1_8 m c
      ∧ r.2.mem ((c.tc : Thread nD τ).loc main_v176) = new1_9 m c
      ∧ r.2.mem ((c.tc : Thread nD τ).loc main_v179) = new1_10 m c
      ∧ r.2.mem ((c.tc : Thread nD τ).loc main_v182) = new2_0 m c
      ∧ r.2.mem ((c.tc : Thread nD τ).loc main_v185) = new2_1 m c
      ∧ r.2.mem ((c.tc : Thread nD τ).loc main_v189) = new2_2 m c
      ∧ r.2.mem ((c.tc : Thread nD τ).loc main_v193) = new2_3 m c
      ∧ r.2.mem ((c.tc : Thread nD τ).loc main_v197) = new2_4 m c
      ∧ r.2.mem ((c.tc : Thread nD τ).loc main_v201) = new2_5 m c
      ∧ r.2.mem ((c.tc : Thread nD τ).loc main_v205) = new2_6 m c
      ∧ r.2.mem ((c.tc : Thread nD τ).loc main_v209) = new2_7 m c
      ∧ r.2.mem ((c.tc : Thread nD τ).loc main_v212) = new2_8 m c
      ∧ r.2.mem ((c.tc : Thread nD τ).loc main_v215) = new2_9 m c
      ∧ r.2.mem ((c.tc : Thread nD τ).loc main_v218) = new2_10 m c
      ∧ r.2.mem ((c.tc : Thread nD τ).loc main_v221) = new3_0 m c
      ∧ r.2.mem ((c.tc : Thread nD τ).loc main_v224) = new3_1 m c
      ∧ r.2.mem ((c.tc : Thread nD τ).loc main_v228) = new3_2 m c
      ∧ r.2.mem ((c.tc : Thread nD τ).loc main_v232) = new3_3 m c
      ∧ r.2.mem ((c.tc : Thread nD τ).loc main_v236) = new3_4 m c
      ∧ r.2.mem ((c.tc : Thread nD τ).loc main_v240) = new3_5 m c
      ∧ r.2.mem ((c.tc : Thread nD τ).loc main_v244) = new3_6 m c
      ∧ r.2.mem ((c.tc : Thread nD τ).loc main_v248) = new3_7 m c
      ∧ r.2.mem ((c.tc : Thread nD τ).loc main_v251) = new3_8 m c
      ∧ r.2.mem ((c.tc : Thread nD τ).loc main_v254) = new3_9 m c
      ∧ r.2.mem ((c.tc : Thread nD τ).loc main_v257) = new3_10 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)
      ∧ r.2.mem ((c.tc : Thread nD τ).loc main_arg43) = m ((c.tc : Thread nD τ).loc main_arg43)) :=
  (θ_run defs _ _).mono (fun _ h c =>
    have k := fun b h₁ h₂ => (h c).2 b (Pipeline.mem_restRefs_of b h₁ h₂)
    ⟨(k main_v143 (by decide) (by decide)).trans (left1_0 m c),
     (k main_v146 (by decide) (by decide)).trans (left1_1 m c),
     (k main_v150 (by decide) (by decide)).trans (left1_2 m c),
     (k main_v154 (by decide) (by decide)).trans (left1_3 m c),
     (k main_v158 (by decide) (by decide)).trans (left1_4 m c),
     (k main_v162 (by decide) (by decide)).trans (left1_5 m c),
     (k main_v166 (by decide) (by decide)).trans (left1_6 m c),
     (k main_v170 (by decide) (by decide)).trans (left1_7 m c),
     (k main_v173 (by decide) (by decide)).trans (left1_8 m c),
     (k main_v176 (by decide) (by decide)).trans (left1_9 m c),
     (k main_v179 (by decide) (by decide)).trans (left1_10 m c),
     (k main_v182 (by decide) (by decide)).trans (left2_0 m c),
     (k main_v185 (by decide) (by decide)).trans (left2_1 m c),
     (k main_v189 (by decide) (by decide)).trans (left2_2 m c),
     (k main_v193 (by decide) (by decide)).trans (left2_3 m c),
     (k main_v197 (by decide) (by decide)).trans (left2_4 m c),
     (k main_v201 (by decide) (by decide)).trans (left2_5 m c),
     (k main_v205 (by decide) (by decide)).trans (left2_6 m c),
     (k main_v209 (by decide) (by decide)).trans (left2_7 m c),
     (k main_v212 (by decide) (by decide)).trans (left2_8 m c),
     (k main_v215 (by decide) (by decide)).trans (left2_9 m c),
     (k main_v218 (by decide) (by decide)).trans (left2_10 m c),
     (k main_v221 (by decide) (by decide)).trans (left3_0 m c),
     (k main_v224 (by decide) (by decide)).trans (left3_1 m c),
     (k main_v228 (by decide) (by decide)).trans (left3_2 m c),
     (k main_v232 (by decide) (by decide)).trans (left3_3 m c),
     (k main_v236 (by decide) (by decide)).trans (left3_4 m c),
     (k main_v240 (by decide) (by decide)).trans (left3_5 m c),
     (k main_v244 (by decide) (by decide)).trans (left3_6 m c),
     (k main_v248 (by decide) (by decide)).trans (left3_7 m c),
     (k main_v251 (by decide) (by decide)).trans (left3_8 m c),
     (k main_v254 (by decide) (by decide)).trans (left3_9 m c),
     (k main_v257 (by decide) (by decide)).trans (left3_10 m c),
     (k main_arg0 (by decide) (by decide)).trans (W_main_arg0 m (dats m) c),
     (k main_arg1 (by decide) (by decide)).trans (W_main_arg1 m (dats m) c),
     (k main_arg2 (by decide) (by decide)).trans (W_main_arg2 m (dats m) c),
     (k main_arg3 (by decide) (by decide)).trans (W_main_arg3 m (dats m) c),
     (k main_arg4 (by decide) (by decide)).trans (W_main_arg4 m (dats m) c),
     (k main_arg5 (by decide) (by decide)).trans (W_main_arg5 m (dats m) c),
     (k main_arg6 (by decide) (by decide)).trans (W_main_arg6 m (dats m) c),
     (k main_arg7 (by decide) (by decide)).trans (W_main_arg7 m (dats m) c),
     (k main_arg8 (by decide) (by decide)).trans (W_main_arg8 m (dats m) c),
     (k main_arg9 (by decide) (by decide)).trans (W_main_arg9 m (dats m) c),
     (k main_arg10 (by decide) (by decide)).trans (W_main_arg10 m (dats m) c),
     (k main_arg11 (by decide) (by decide)).trans (W_main_arg11 m (dats m) c),
     (k main_arg12 (by decide) (by decide)).trans (W_main_arg12 m (dats m) c),
     (k main_arg13 (by decide) (by decide)).trans (W_main_arg13 m (dats m) c),
     (k main_arg14 (by decide) (by decide)).trans (W_main_arg14 m (dats m) c),
     (k main_arg15 (by decide) (by decide)).trans (W_main_arg15 m (dats m) c),
     (k main_arg16 (by decide) (by decide)).trans (W_main_arg16 m (dats m) c),
     (k main_arg17 (by decide) (by decide)).trans (W_main_arg17 m (dats m) c),
     (k main_arg18 (by decide) (by decide)).trans (W_main_arg18 m (dats m) c),
     (k main_arg19 (by decide) (by decide)).trans (W_main_arg19 m (dats m) c),
     (k main_arg20 (by decide) (by decide)).trans (W_main_arg20 m (dats m) c),
     (k main_arg21 (by decide) (by decide)).trans (W_main_arg21 m (dats m) c),
     (k main_arg22 (by decide) (by decide)).trans (W_main_arg22 m (dats m) c),
     (k main_arg23 (by decide) (by decide)).trans (W_main_arg23 m (dats m) c),
     (k main_arg24 (by decide) (by decide)).trans (W_main_arg24 m (dats m) c),
     (k main_arg25 (by decide) (by decide)).trans (W_main_arg25 m (dats m) c),
     (k main_arg26 (by decide) (by decide)).trans (W_main_arg26 m (dats m) c),
     (k main_arg27 (by decide) (by decide)).trans (W_main_arg27 m (dats m) c),
     (k main_arg28 (by decide) (by decide)).trans (W_main_arg28 m (dats m) c),
     (k main_arg29 (by decide) (by decide)).trans (W_main_arg29 m (dats m) c),
     (k main_arg30 (by decide) (by decide)).trans (W_main_arg30 m (dats m) c),
     (k main_arg31 (by decide) (by decide)).trans (W_main_arg31 m (dats m) c),
     (k main_arg32 (by decide) (by decide)).trans (W_main_arg32 m (dats m) c),
     (k main_arg33 (by decide) (by decide)).trans (W_main_arg33 m (dats m) c),
     (k main_arg34 (by decide) (by decide)).trans (W_main_arg34 m (dats m) c),
     (k main_arg35 (by decide) (by decide)).trans (W_main_arg35 m (dats m) c),
     (k main_arg36 (by decide) (by decide)).trans (W_main_arg36 m (dats m) c),
     (k main_arg37 (by decide) (by decide)).trans (W_main_arg37 m (dats m) c),
     (k main_arg38 (by decide) (by decide)).trans (W_main_arg38 m (dats m) c),
     (k main_arg39 (by decide) (by decide)).trans (W_main_arg39 m (dats m) c),
     (k main_arg40 (by decide) (by decide)).trans (W_main_arg40 m (dats m) c),
     (k main_arg41 (by decide) (by decide)).trans (W_main_arg41 m (dats m) c),
     (k main_arg42 (by decide) (by decide)).trans (W_main_arg42 m (dats m) c),
     (k main_arg43 (by decide) (by decide)).trans (W_main_arg43 m (dats m) c)⟩) (run_main m ρ)

end Cert.Small

end
-- ==== Proof.SmallClaims.lean ====
/- The optimiser's call for the small weights computes what its plain reference computes, whatever the arguments hold. -/
module

public import proofs.«01_k».proof.Defs
public import proofs.«01_k».proof.Proof.Gen.Reference11Ideal.Run
public import proofs.«01_k».proof.Proof.SmallAdam
public import Idealize.ShloMosaic.Adequacy
public import Idealize.ShloMosaic.Init

@[expose] public section

noncomputable section

namespace Cert.Small

open Idealize.ShloMosaic Idealize.SL.Sem
open Cert.Adam (first second step)

/-- The reference runs, keeps its arguments, and has no counters to leave. -/
theorem frame_reference11 : Cert.quiescent_Reference11Ideal := fun m ρ _ =>
  (θ_run Cert.Reference11Ideal.defs _ _).mono (fun r h => ⟨fun c => (h c).2.2.2.2.2.2.2.2.2.2.2.2.2.2.2.2.2.2.2.2.2.2.2.2.2.2.2.2.2.2.2.2.2, sem_eq_zero_of_no_sems (by decide) r.2⟩)
    (Cert.Reference11Ideal.Value.run (F := Ideal) m ρ)

/-! ## The plain update, the plain first moment and the plain second moment, entry by entry -/

section
open Cert.Reference11Ideal
variable {S : Shape} (h : S_.BroadcastsInDim S (![] : Fin 0 → Fin S.rank)) {w g m v w' g' m' v' : FVec Ideal S .f32}

theorem first_of (eg : g' = g) (em : m' = m) :
    addf (mulf (broadcastInDim S ![] h (constant S_ .f32 0x3F666666#32)) m') (mulf (broadcastInDim S ![] h (constant S_ .f32 0x3DCCCCCD#32)) g')
      = fun i => first (g i) (m i) := by
  subst eg em; rfl

theorem second_of (eg : g' = g) (ev : v' = v) :
    addf (mulf (broadcastInDim S ![] h (constant S_ .f32 0x3F7FBE77#32)) v')
        (mulf (broadcastInDim S ![] h (constant S_ .f32 0x3A83126F#32)) (mulf g' g'))
      = fun i => second (g i) (v i) := by
  subst eg ev; rfl

theorem step_of (ew : w' = w) (eg : g' = g) (em : m' = m) (ev : v' = v) :
    mulf (broadcastInDim S ![] h (constant S_ .f32 0xBA83126F#32)) (addf (Host.divf (Host.divf (addf (mulf (broadcastInDim S ![] h
        (constant S_ .f32 0x3F666666#32)) m') (mulf (broadcastInDim S ![] h (constant S_ .f32 0x3DCCCCCD#32)) g')) (broadcastInDim S ![] h
        (constant S_ .f32 0x3F26BD02#32))) (addf (Host.sqrt (Host.divf (addf (mulf (broadcastInDim S ![] h (constant S_ .f32 0x3F7FBE77#32)) v')
        (mulf (broadcastInDim S ![] h (constant S_ .f32 0x3A83126F#32)) (mulf g' g'))) (broadcastInDim S ![] h (constant S_ .f32 0x3C231ACC#32))))
        (broadcastInDim S ![] h (constant S_ .f32 0x322BCC77#32)))) (mulf (broadcastInDim S ![] h (constant S_ .f32 0x3C23D70A#32)) w'))
      = fun i => step (w i) (g i) (m i) (v i) := by
  subst ew eg em ev; rfl

end

set_option maxHeartbeats 4000000 in
/-- Over the reals the call and the packing around it compute the updates and the new moments that the plain optimiser computes
    of the eleven small weights. -/
theorem equal11 : Cert.algebraic_Kernel11Ideal_Reference11Ideal := by
  intro m g m' g' hp ha
  refine ⟨_, _, _, _, _, _, _, _, _, _, _, _, _, _, _, _, _, _, _, _, _, _, _, _, _, _, _, _, _, _, _, _, _, run_results m g, ?_⟩
  refine (θ_run Cert.Reference11Ideal.defs _ _).mono (fun r h c => ?_) (Cert.Reference11Ideal.Value.run (F := Ideal) m' g')
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43⟩ := ha c
  obtain ⟨r0, r1, r2, r3, r4, r5, r6, r7, r8, r9, r10, r11, r12, r13, r14, r15, r16, r17, r18, r19, r20, r21, r22, r23, r24, r25, r26, r27, r28, r29, r30, r31, r32, rest⟩ := h c
  exact ⟨r0.trans (step_of _ a0 a11 a22 a33),
    r1.trans (step_of _ a1 a12 a23 a34),
    r2.trans (step_of _ a2 a13 a24 a35),
    r3.trans (step_of _ a3 a14 a25 a36),
    r4.trans (step_of _ a4 a15 a26 a37),
    r5.trans (step_of _ a5 a16 a27 a38),
    r6.trans (step_of _ a6 a17 a28 a39),
    r7.trans (step_of _ a7 a18 a29 a40),
    r8.trans (step_of _ a8 a19 a30 a41),
    r9.trans (step_of _ a9 a20 a31 a42),
    r10.trans (step_of _ a10 a21 a32 a43),
    r11.trans (first_of _ a11 a22),
    r12.trans (first_of _ a12 a23),
    r13.trans (first_of _ a13 a24),
    r14.trans (first_of _ a14 a25),
    r15.trans (first_of _ a15 a26),
    r16.trans (first_of _ a16 a27),
    r17.trans (first_of _ a17 a28),
    r18.trans (first_of _ a18 a29),
    r19.trans (first_of _ a19 a30),
    r20.trans (first_of _ a20 a31),
    r21.trans (first_of _ a21 a32),
    r22.trans (second_of _ a11 a33),
    r23.trans (second_of _ a12 a34),
    r24.trans (second_of _ a13 a35),
    r25.trans (second_of _ a14 a36),
    r26.trans (second_of _ a15 a37),
    r27.trans (second_of _ a16 a38),
    r28.trans (second_of _ a17 a39),
    r29.trans (second_of _ a18 a40),
    r30.trans (second_of _ a19 a41),
    r31.trans (second_of _ a20 a42),
    r32.trans (second_of _ a21 a43), rest⟩

end Cert.Small

end
-- ==== Proof.lean ====
/- The proof of the claim. All programs run with their arguments kept and their counters at zero; over the reals, from
   finite arguments, the two attention calls leave the attention's output and the five gradients that differentiating the
   plain attention gives, and the five feed-forward calls leave the gradients of the three weights that differentiating the
   plain half step gives; and, whatever the arguments hold, the products around them leave what the plain products and their
   gradients are, the normalisation's two calls what the plain normalisation and its derivative are, the optimiser's four calls
   what the plain update of a weight and its two moments is, the optimiser's call for the small weights the same of each of them,
   and the loss head's call what the plain loss and its gradient are. The mathematics is in the modules under Proof/; here the pieces are put together. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Reference2Ideal.Read
public import proofs.«01_k».proof.Proof.Gen.Pre_finite2
public import proofs.«01_k».proof.Proof.Gen.Kernel4Ideal.Value
public import proofs.«01_k».proof.Proof.Gen.Kernel4.Frame
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Kernel5.Frame
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Kernel6.Frame
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Kernel7.Frame
public import proofs.«01_k».proof.Proof.Gen.Reference7Ideal.Run
public import proofs.«01_k».proof.Proof.Gen.Reference7Ideal.Read
public import proofs.«01_k».proof.Proof.Gen.Kernel3Ideal.Frame
public import proofs.«01_k».proof.Proof.Gen.Kernel3.Frame
public import proofs.«01_k».proof.Proof.Gen.Reference3Ideal.Run
public import proofs.«01_k».proof.Proof.Gen.Reference3Ideal.Read
public import proofs.«01_k».proof.Proof.Entry
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel10.Frame
public import proofs.«01_k».proof.Proof.Gen.Kernel9Ideal.Frame
public import proofs.«01_k».proof.Proof.Gen.Kernel10Ideal.Frame
public import proofs.«01_k».proof.Proof.Gen.Reference9Ideal.Run
public import proofs.«01_k».proof.Proof.Gen.Reference10Ideal.Run
public import proofs.«01_k».proof.Proof.Gen.Reference9Ideal.Read
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Reference11Ideal.Read
public import proofs.«01_k».proof.Proof.Run
public import proofs.«01_k».proof.Proof.RefBwd
public import proofs.«01_k».proof.Proof.Finite
public import proofs.«01_k».proof.Proof.FfnEntry
public import proofs.«01_k».proof.Proof.FfnRun
public import proofs.«01_k».proof.Proof.FfnRef
public import proofs.«01_k».proof.Proof.FfnFinite
public import proofs.«01_k».proof.Proof.MixClaims
public import proofs.«01_k».proof.Proof.ProductClaims
public import proofs.«01_k».proof.Proof.NormClaims
public import proofs.«01_k».proof.Proof.AdamClaims
public import proofs.«01_k».proof.Proof.LossClaims
public import proofs.«01_k».proof.Proof.SmallClaims
public import Idealize.ShloMosaic.Adequacy
public import Idealize.ShloMosaic.Init

@[expose] public section

noncomputable section

namespace Cert.Proof

open Idealize.ShloMosaic Idealize.SL.Sem Cert.Fox

/-- The reference runs, keeps its arguments, and has no counters to leave. -/
theorem frame_reference : Cert.quiescent_ReferenceIdeal := fun m ρ _ =>
  (θ_run Cert.ReferenceIdeal.defs _ _).mono (fun r h => ⟨fun c => (h c).2.2.2.2.2.2, sem_eq_zero_of_no_sems (by decide) r.2⟩)
    (Cert.ReferenceIdeal.Value.run (F := Ideal) m ρ)

/-- The real numbers of an array of queries, keys, values or cotangents, head by head. -/
def heads (x : (⟨Cert.KernelIdeal.S2048x1024, .f32⟩ : BufTy).Contents (Elt Ideal)) (n : Fin 16) (r : Fin 2048) (d : Fin 64) : ℝ :=
  EReal.toReal (x (ix2 r (col n d)))

/-- The real numbers of the array of gates. -/
def gates (x : (⟨Cert.KernelIdeal.S16x2048, .f32⟩ : BufTy).Contents (Elt Ideal)) (n : Fin 16) (r : Fin 2048) : ℝ :=
  EReal.toReal (x (ix2 n r))

/-- Over the reals, from finite arguments, the two calls compute what differentiating the plain attention computes:
    its output and the gradients of queries, keys, values and of the gates on both sides. -/
theorem equal : Cert.algebraic_KernelIdeal_ReferenceIdeal_pre_finite := by
  intro m g m' g' hp ha
  refine ⟨_, _, _, _, _, _, run_results m g, ?_⟩
  refine (θ_run Cert.ReferenceIdeal.defs _ _).mono (fun r h c => ?_) (Cert.ReferenceIdeal.Value.run (F := Ideal) m' g')
  obtain ⟨f0, f1, f2, f3, f4⟩ := finite_args (hp c)
  obtain ⟨a0, a1, a2, a3, a4⟩ := ha c
  obtain ⟨r0, r1, r2, r3, r4, r5, rest⟩ := h c
  have H0 := reads0 (m := m) (ρ := g) (c := c) (Q := heads _) (K := heads _) (W := heads _) (C := gates _)
    (fun _ _ _ => f0 _) (fun _ _ _ => f1 _) (fun _ _ _ => f2 _) (fun _ _ => f3 _)
  have H1 := reads1 (m := m) (ρ := g) (c := c) (Q := heads _) (K := heads _) (W := heads _) (G := heads _) (C := gates _)
    (fun _ _ _ => f0 _) (fun _ _ _ => f1 _) (fun _ _ _ => f2 _) (fun _ _ => f3 _) (fun _ _ _ => f4 _)
  rw [Cert.ReferenceIdeal.Read.val_main_v52_eq, a0, a1, a2, a3] at r0
  rw [Cert.ReferenceIdeal.Read.val_main_v87_eq, a0, a1, a2, a3, a4] at r1
  rw [Cert.ReferenceIdeal.Read.val_main_v85_eq, a0, a1, a2, a3, a4] at r2
  rw [Cert.ReferenceIdeal.Read.val_main_v83_eq, a0, a1, a3, a4] at r3
  rw [Cert.ReferenceIdeal.Read.val_main_v88_eq, a0, a1, a2, a3, a4] at r4
  rw [Cert.ReferenceIdeal.Read.val_main_v89_eq, a0, a1, a2, a3, a4] at r5
  have A : Args _ _ _ _ _ (heads _) (heads _) (heads _) (heads _) (gates _) :=
    ⟨fun _ _ _ => f0 _, fun _ _ _ => f1 _, fun _ _ _ => f2 _, fun _ _ => f3 _, fun _ _ _ => f4 _⟩
  exact ⟨r0.trans (A.o_eq.trans H0.o_eq.symm), r1.trans (A.dq_eq.trans H1.dq_eq.symm), r2.trans (A.dk_eq.trans H1.dk_eq.symm),
    r3.trans (A.dv_eq.trans H1.dv_eq.symm), r4.trans (A.dcq_eq.trans H1.dcq_eq.symm), r5.trans (A.dck_eq.trans H1.dck_eq.symm), rest⟩

/-- The feed-forward reference runs, keeps its arguments, and has no counters to leave. -/
theorem frame_reference2 : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

/-- The real numbers of an array of two axes. -/
def reals {m n : ℕ} (x : (⟨2, ![m, n]⟩ : Shape).Idx → EReal) (i : Fin m) (j : Fin n) : ℝ := EReal.toReal (x (ix2 i j))

/-- Over the reals, from finite arguments, the five feed-forward calls compute what differentiating the plain half step
    computes: the gradients of the gate, up and down weights. -/
theorem equal2 : Cert.algebraic_Kernel2Ideal_Reference2Ideal_pre_finite2 := by
  intro m g m' g' hp ha
  refine ⟨_, _, _, Cert.Ffn.run_results m g, ?_⟩
  refine (θ_run Cert.Reference2Ideal.defs _ _).mono (fun r h c => ?_) (Cert.Reference2Ideal.Value.run (F := Ideal) m' g')
  obtain ⟨f0, f1, f2, f3, f4⟩ := Cert.Ffn.finite_args (hp c)
  obtain ⟨a0, a1, a2, a3, a4⟩ := ha c
  obtain ⟨r0, r1, r2, rest⟩ := h c
  have hx := fun i k => f0 (ix2 i k)
  have hg := fun k f => f1 (ix2 k f)
  have hu := fun k f => f2 (ix2 k f)
  have hd := fun f n => f3 (ix2 f n)
  have hy := fun i n => f4 (ix2 i n)
  rw [Cert.Reference2Ideal.Read.val_main_v21_eq, a0, a1, a2, a3, a4] at r0
  rw [Cert.Reference2Ideal.Read.val_main_v24_eq, a0, a1, a3, a4] at r1
  rw [Cert.Reference2Ideal.Read.val_main_v25_eq, a0, a1, a2, a4] at r2
  have A : Cert.Ffn.Args _ _ _ _ _ (reals _) (reals _) (reals _) (reals _) (reals _) := ⟨hx, hg, hu, hd, hy⟩
  exact ⟨r0.trans (A.dwg_eq.trans (Cert.Ffn.arr_dwg (m := m) (ρ := g) (c := c) hx hg hu hd hy).symm),
    r1.trans (A.dwu_eq.trans (Cert.Ffn.arr_dwu (m := m) (ρ := g) (c := c) hx hg hd hy).symm),
    r2.trans (A.dwd_eq.trans (Cert.Ffn.arr_dwd (m := m) (ρ := g) (c := c) hx hg hu hy).symm), rest⟩

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts, Cert.Kernel7.Gen.facts, Cert.Kernel7Ideal.Gen.facts,
    Cert.Reference7Ideal.Gen.facts, Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts, Cert.Pre_finite.Gen.facts, Cert.Pre_finite2.Gen.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    fun m ρ _ => Cert.Kernel2.Gen.frame m ρ,
    fun m ρ _ => Cert.Kernel2Ideal.Gen.frame m ρ,
    fun m ρ _ => Cert.Kernel2Ideal.Gen.frame m ρ,
    frame_reference2,
    fun m ρ _ => frame_reference2 m ρ trivial,
    fun m ρ _ => Cert.Kernel3.Gen.frame m ρ,
    fun m ρ _ => Cert.Kernel3Ideal.Gen.frame m ρ,
    Cert.Mix.frame_reference3,
    fun m ρ _ => Cert.Kernel4.Gen.frame m ρ,
    fun m ρ _ => Cert.Kernel4Ideal.Gen.frame m ρ,
    Cert.Products.frame_reference4,
    fun m ρ _ => Cert.Kernel5.Gen.frame m ρ,
    fun m ρ _ => Cert.Kernel5Ideal.Gen.frame m ρ,
    Cert.Products.frame_reference5,
    fun m ρ _ => Cert.Kernel6.Gen.frame m ρ,
    fun m ρ _ => Cert.Kernel6Ideal.Gen.frame m ρ,
    Cert.Products.frame_reference6,
    fun m ρ _ => Cert.Kernel7.Gen.frame m ρ,
    fun m ρ _ => Cert.Kernel7Ideal.Gen.frame m ρ,
    Cert.Products.frame_reference7,
    fun m ρ _ => Cert.Kernel8.Gen.frame m ρ,
    fun m ρ _ => Cert.Kernel8Ideal.Gen.frame m ρ,
    Cert.Norm.frame_reference8,
    fun m ρ _ => Cert.Kernel9.Gen.frame m ρ,
    fun m ρ _ => Cert.Kernel9Ideal.Gen.frame m ρ,
    Cert.Adam.frame_reference9,
    fun m ρ _ => Cert.Kernel10.Gen.frame m ρ,
    fun m ρ _ => Cert.Kernel10Ideal.Gen.frame m ρ,
    Cert.Loss.frame_reference10,
    fun m ρ _ => Cert.Kernel11.Gen.frame m ρ,
    fun m ρ _ => Cert.Kernel11Ideal.Gen.frame m ρ,
    Cert.Small.frame_reference11,
    IdealRules.named_const.statement Cert.KernelIdeal.κ "mask" .f32 0xF149F2CA#32 ⊥ rfl,
    equal,
    trivial,
    equal2,
    trivial,
    Cert.Mix.equal3,
    trivial,
    Cert.Products.equal4,
    trivial,
    Cert.Products.equal5,
    trivial,
    Cert.Products.equal6,
    trivial,
    Cert.Products.equal7,
    trivial,
    Cert.Norm.equal8,
    ⟨IdealRules.named_const.statement Cert.Kernel9Ideal.κ "bias1" .f32 0x3FC48605#32 ((8388608 / 5463681 : ℝ) : EReal) rfl,
      IdealRules.named_const.statement Cert.Kernel9Ideal.κ "bias2" .f32 0x42C8E6D3#32 ((268435456 / 2672307 : ℝ) : EReal) rfl⟩,
    Cert.Adam.equal9,
    trivial,
    Cert.Loss.equal10,
    ⟨IdealRules.named_const.statement Cert.Kernel11Ideal.κ "bias1" .f32 0x3FC48605#32 ((8388608 / 5463681 : ℝ) : EReal) rfl,
      IdealRules.named_const.statement Cert.Kernel11Ideal.κ "bias2" .f32 0x42C8E6D3#32 ((268435456 / 2672307 : ℝ) : EReal) rfl⟩,
    Cert.Small.equal11⟩

end Cert.Proof

end
